-- ==== Defs.lean ====
def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_bwd_finite [hPre_rms_bwd_finite : Cert.Pre_rms_bwd_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_rms_bwd_finite [hPre_rms_bwd_finite : Cert.Pre_rms_bwd_finite.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_rms_bwd_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mixnorm_bwd_finite [hPre_mixnorm_bwd_finite : Cert.Pre_mixnorm_bwd_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mixnorm_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mixnorm_bwd_finite [hPre_mixnorm_bwd_finite : Cert.Pre_mixnorm_bwd_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mixnorm_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4))) = (fun _ => 1#1)

def Pre_DupBwd (m : (ℓ : Loc Cert.DupBwd.nD Cert.DupBwd.τ Cert.DupBwd.sig) → Buf (Elt Bits) ℓ) : Prop :=
  True

def Pre_DupBwdIdeal (m : (ℓ : Loc Cert.DupBwdIdeal.nD Cert.DupBwdIdeal.τ Cert.DupBwdIdeal.sig) → Buf (Elt Ideal) ℓ) : Prop :=
  True

def Pre_DupBwdRefIdeal (m : (ℓ : Loc Cert.DupBwdRefIdeal.nD Cert.DupBwdRefIdeal.τ Cert.DupBwdRefIdeal.sig) → Buf (Elt Ideal) ℓ) : Prop :=
  True

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_bwd_finite [hPre_sgu_bwd_finite : Cert.Pre_sgu_bwd_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_bwd_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))) = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_sgu_bwd_finite [hPre_sgu_bwd_finite : Cert.Pre_sgu_bwd_finite.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_sgu_bwd_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5))) = (fun _ => 1#1)

def Pre_ConvBwdB (m : (ℓ : Loc Cert.ConvBwdB.nD Cert.ConvBwdB.τ Cert.ConvBwdB.sig) → Buf (Elt Bits) ℓ) : Prop :=
  True

def Pre_ConvBwdBIdeal (m : (ℓ : Loc Cert.ConvBwdBIdeal.nD Cert.ConvBwdBIdeal.τ Cert.ConvBwdBIdeal.sig) → Buf (Elt Ideal) ℓ) : Prop :=
  True

def Pre_ConvBwdBIdeal_conv_bwd2_finite [hPre_conv_bwd2_finite : Cert.Pre_conv_bwd2_finite.Facts] (m : (ℓ : Loc Cert.ConvBwdBIdeal.nD Cert.ConvBwdBIdeal.τ Cert.ConvBwdBIdeal.sig) → Buf (Elt Ideal) ℓ) : Prop :=
  ∀ c : Dev Cert.ConvBwdBIdeal.nD,
    (Cert.Pre_conv_bwd2_finite.fn (F := Ideal) (m ((c.tc : Thread Cert.ConvBwdBIdeal.nD Cert.ConvBwdBIdeal.τ).loc Cert.ConvBwdBIdeal.main_arg0)) (m ((c.tc : Thread Cert.ConvBwdBIdeal.nD Cert.ConvBwdBIdeal.τ).loc Cert.ConvBwdBIdeal.main_arg1)) (m ((c.tc : Thread Cert.ConvBwdBIdeal.nD Cert.ConvBwdBIdeal.τ).loc Cert.ConvBwdBIdeal.main_arg2))) = (fun _ => 1#1)

def Pre_ConvBwdBRefIdeal (m : (ℓ : Loc Cert.ConvBwdBRefIdeal.nD Cert.ConvBwdBRefIdeal.τ Cert.ConvBwdBRefIdeal.sig) → Buf (Elt Ideal) ℓ) : Prop :=
  True

def Pre_ConvBwdBRefIdeal_conv_bwd2_finite [hPre_conv_bwd2_finite : Cert.Pre_conv_bwd2_finite.Facts] (m : (ℓ : Loc Cert.ConvBwdBRefIdeal.nD Cert.ConvBwdBRefIdeal.τ Cert.ConvBwdBRefIdeal.sig) → Buf (Elt Ideal) ℓ) : Prop :=
  ∀ c : Dev Cert.ConvBwdBRefIdeal.nD,
    (Cert.Pre_conv_bwd2_finite.fn (F := Ideal) (m ((c.tc : Thread Cert.ConvBwdBRefIdeal.nD Cert.ConvBwdBRefIdeal.τ).loc Cert.ConvBwdBRefIdeal.main_arg0)) (m ((c.tc : Thread Cert.ConvBwdBRefIdeal.nD Cert.ConvBwdBRefIdeal.τ).loc Cert.ConvBwdBRefIdeal.main_arg1)) (m ((c.tc : Thread Cert.ConvBwdBRefIdeal.nD Cert.ConvBwdBRefIdeal.τ).loc Cert.ConvBwdBRefIdeal.main_arg2))) = (fun _ => 1#1)

def Pre_ConvBwdA (m : (ℓ : Loc Cert.ConvBwdA.nD Cert.ConvBwdA.τ Cert.ConvBwdA.sig) → Buf (Elt Bits) ℓ) : Prop :=
  True

def Pre_ConvBwdAIdeal (m : (ℓ : Loc Cert.ConvBwdAIdeal.nD Cert.ConvBwdAIdeal.τ Cert.ConvBwdAIdeal.sig) → Buf (Elt Ideal) ℓ) : Prop :=
  True

def Pre_ConvBwdAIdeal_conv_bwd1_finite [hPre_conv_bwd1_finite : Cert.Pre_conv_bwd1_finite.Facts] (m : (ℓ : Loc Cert.ConvBwdAIdeal.nD Cert.ConvBwdAIdeal.τ Cert.ConvBwdAIdeal.sig) → Buf (Elt Ideal) ℓ) : Prop :=
  ∀ c : Dev Cert.ConvBwdAIdeal.nD,
    (Cert.Pre_conv_bwd1_finite.fn (F := Ideal) (m ((c.tc : Thread Cert.ConvBwdAIdeal.nD Cert.ConvBwdAIdeal.τ).loc Cert.ConvBwdAIdeal.main_arg0)) (m ((c.tc : Thread Cert.ConvBwdAIdeal.nD Cert.ConvBwdAIdeal.τ).loc Cert.ConvBwdAIdeal.main_arg1)) (m ((c.tc : Thread Cert.ConvBwdAIdeal.nD Cert.ConvBwdAIdeal.τ).loc Cert.ConvBwdAIdeal.main_arg2)) (m ((c.tc : Thread Cert.ConvBwdAIdeal.nD Cert.ConvBwdAIdeal.τ).loc Cert.ConvBwdAIdeal.main_arg3)) (m ((c.tc : Thread Cert.ConvBwdAIdeal.nD Cert.ConvBwdAIdeal.τ).loc Cert.ConvBwdAIdeal.main_arg4)) (m ((c.tc : Thread Cert.ConvBwdAIdeal.nD Cert.ConvBwdAIdeal.τ).loc Cert.ConvBwdAIdeal.main_arg5))) = (fun _ => 1#1)

def Pre_ConvBwdARefIdeal (m : (ℓ : Loc Cert.ConvBwdARefIdeal.nD Cert.ConvBwdARefIdeal.τ Cert.ConvBwdARefIdeal.sig) → Buf (Elt Ideal) ℓ) : Prop :=
  True

def Pre_ConvBwdARefIdeal_conv_bwd1_finite [hPre_conv_bwd1_finite : Cert.Pre_conv_bwd1_finite.Facts] (m : (ℓ : Loc Cert.ConvBwdARefIdeal.nD Cert.ConvBwdARefIdeal.τ Cert.ConvBwdARefIdeal.sig) → Buf (Elt Ideal) ℓ) : Prop :=
  ∀ c : Dev Cert.ConvBwdARefIdeal.nD,
    (Cert.Pre_conv_bwd1_finite.fn (F := Ideal) (m ((c.tc : Thread Cert.ConvBwdARefIdeal.nD Cert.ConvBwdARefIdeal.τ).loc Cert.ConvBwdARefIdeal.main_arg0)) (m ((c.tc : Thread Cert.ConvBwdARefIdeal.nD Cert.ConvBwdARefIdeal.τ).loc Cert.ConvBwdARefIdeal.main_arg1)) (m ((c.tc : Thread Cert.ConvBwdARefIdeal.nD Cert.ConvBwdARefIdeal.τ).loc Cert.ConvBwdARefIdeal.main_arg2)) (m ((c.tc : Thread Cert.ConvBwdARefIdeal.nD Cert.ConvBwdARefIdeal.τ).loc Cert.ConvBwdARefIdeal.main_arg3)) (m ((c.tc : Thread Cert.ConvBwdARefIdeal.nD Cert.ConvBwdARefIdeal.τ).loc Cert.ConvBwdARefIdeal.main_arg4)) (m ((c.tc : Thread Cert.ConvBwdARefIdeal.nD Cert.ConvBwdARefIdeal.τ).loc Cert.ConvBwdARefIdeal.main_arg5))) = (fun _ => 1#1)

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdIdeal_attn_kv_finite [hPre_attn_kv_finite : Cert.Pre_attn_kv_finite.Facts] (m : (ℓ : Loc Cert.KvBwdIdeal.nD Cert.KvBwdIdeal.τ Cert.KvBwdIdeal.sig) → Buf (Elt Ideal) ℓ) : Prop :=
  ∀ c : Dev Cert.KvBwdIdeal.nD,
    (Cert.Pre_attn_kv_finite.fn (F := Ideal) (m ((c.tc : Thread Cert.KvBwdIdeal.nD Cert.KvBwdIdeal.τ).loc Cert.KvBwdIdeal.main_arg0)) (m ((c.tc : Thread Cert.KvBwdIdeal.nD Cert.KvBwdIdeal.τ).loc Cert.KvBwdIdeal.main_arg1)) (m ((c.tc : Thread Cert.KvBwdIdeal.nD Cert.KvBwdIdeal.τ).loc Cert.KvBwdIdeal.main_arg2)) (m ((c.tc : Thread Cert.KvBwdIdeal.nD Cert.KvBwdIdeal.τ).loc Cert.KvBwdIdeal.main_arg3)) (m ((c.tc : Thread Cert.KvBwdIdeal.nD Cert.KvBwdIdeal.τ).loc Cert.KvBwdIdeal.main_arg4)) (m ((c.tc : Thread Cert.KvBwdIdeal.nD Cert.KvBwdIdeal.τ).loc Cert.KvBwdIdeal.main_arg5))) = (fun _ => 1#1)

def Pre_KvBwdRefIdeal (m : (ℓ : Loc Cert.KvBwdRefIdeal.nD Cert.KvBwdRefIdeal.τ Cert.KvBwdRefIdeal.sig) → Buf (Elt Ideal) ℓ) : Prop :=
  True

def Pre_KvBwdRefIdeal_attn_kv_finite [hPre_attn_kv_finite : Cert.Pre_attn_kv_finite.Facts] (m : (ℓ : Loc Cert.KvBwdRefIdeal.nD Cert.KvBwdRefIdeal.τ Cert.KvBwdRefIdeal.sig) → Buf (Elt Ideal) ℓ) : Prop :=
  ∀ c : Dev Cert.KvBwdRefIdeal.nD,
    (Cert.Pre_attn_kv_finite.fn (F := Ideal) (m ((c.tc : Thread Cert.KvBwdRefIdeal.nD Cert.KvBwdRefIdeal.τ).loc Cert.KvBwdRefIdeal.main_arg0)) (m ((c.tc : Thread Cert.KvBwdRefIdeal.nD Cert.KvBwdRefIdeal.τ).loc Cert.KvBwdRefIdeal.main_arg1)) (m ((c.tc : Thread Cert.KvBwdRefIdeal.nD Cert.KvBwdRefIdeal.τ).loc Cert.KvBwdRefIdeal.main_arg2)) (m ((c.tc : Thread Cert.KvBwdRefIdeal.nD Cert.KvBwdRefIdeal.τ).loc Cert.KvBwdRefIdeal.main_arg3)) (m ((c.tc : Thread Cert.KvBwdRefIdeal.nD Cert.KvBwdRefIdeal.τ).loc Cert.KvBwdRefIdeal.main_arg4)) (m ((c.tc : Thread Cert.KvBwdRefIdeal.nD Cert.KvBwdRefIdeal.τ).loc Cert.KvBwdRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5)) (m ((c.tc : Thread Cert.AttnBwdRefIdeal.nD Cert.AttnBwdRefIdeal.τ).loc Cert.AttnBwdRefIdeal.main_arg6))) = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4)) (m ((c.tc : Thread Cert.AttnFwdIdeal.nD Cert.AttnFwdIdeal.τ).loc Cert.AttnFwdIdeal.main_arg5))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4)) (m ((c.tc : Thread Cert.AttnFwdRefIdeal.nD Cert.AttnFwdRefIdeal.τ).loc Cert.AttnFwdRefIdeal.main_arg5))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_SumTwo (m : (ℓ : Loc Cert.SumTwo.nD Cert.SumTwo.τ Cert.SumTwo.sig) → Buf (Elt Bits) ℓ) : Prop :=
  True

def Pre_SumTwoIdeal (m : (ℓ : Loc Cert.SumTwoIdeal.nD Cert.SumTwoIdeal.τ Cert.SumTwoIdeal.sig) → Buf (Elt Ideal) ℓ) : Prop :=
  True

def Pre_SumTwoRefIdeal (m : (ℓ : Loc Cert.SumTwoRefIdeal.nD Cert.SumTwoRefIdeal.τ Cert.SumTwoRefIdeal.sig) → Buf (Elt Ideal) ℓ) : Prop :=
  True

def Pre_DhBwd (m : (ℓ : Loc Cert.DhBwd.nD Cert.DhBwd.τ Cert.DhBwd.sig) → Buf (Elt Bits) ℓ) : Prop :=
  True

def Pre_DhBwdIdeal (m : (ℓ : Loc Cert.DhBwdIdeal.nD Cert.DhBwdIdeal.τ Cert.DhBwdIdeal.sig) → Buf (Elt Ideal) ℓ) : Prop :=
  True

def Pre_DhBwdRefIdeal (m : (ℓ : Loc Cert.DhBwdRefIdeal.nD Cert.DhBwdRefIdeal.τ Cert.DhBwdRefIdeal.sig) → Buf (Elt Ideal) ℓ) : Prop :=
  True

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_bwd_finite [hRmsBwdIdeal : Cert.RmsBwdIdeal.Facts] [hPre_rms_bwd_finite : Cert.Pre_rms_bwd_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_bwd_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_rms_bwd_finite [hRmsBwdRefIdeal : Cert.RmsBwdRefIdeal.Facts] [hPre_rms_bwd_finite : Cert.Pre_rms_bwd_finite.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_rms_bwd_finite m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdIdeal_pre_mixnorm_bwd_finite [hMixBwdIdeal : Cert.MixBwdIdeal.Facts] [hPre_mixnorm_bwd_finite : Cert.Pre_mixnorm_bwd_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mixnorm_bwd_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4))
      ∧ r.2.sem = fun _ => 0)

def quiescent_MixBwdRefIdeal_pre_mixnorm_bwd_finite [hMixBwdRefIdeal : Cert.MixBwdRefIdeal.Facts] [hPre_mixnorm_bwd_finite : Cert.Pre_mixnorm_bwd_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mixnorm_bwd_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4))
      ∧ r.2.sem = fun _ => 0)

def quiescent_DupBwd [hDupBwd : Cert.DupBwd.Facts] : Prop :=
  ∀ (m : (ℓ : Loc Cert.DupBwd.nD Cert.DupBwd.τ Cert.DupBwd.sig) → Buf (Elt Bits) ℓ) (g : Dev Cert.DupBwd.nD → PrngReg), Pre_DupBwd m →
    θ_run (Cert.DupBwd.defs (F := Bits)) (onTc (τ := Cert.DupBwd.τ) (Cert.DupBwd.main (F := Bits))) ⟨m, fun _ => 0, g⟩ (fun r => (∀ c : Dev Cert.DupBwd.nD,
      r.2.mem ((c.tc : Thread Cert.DupBwd.nD Cert.DupBwd.τ).loc Cert.DupBwd.main_arg0) = m ((c.tc : Thread Cert.DupBwd.nD Cert.DupBwd.τ).loc Cert.DupBwd.main_arg0)
      ∧ r.2.mem ((c.tc : Thread Cert.DupBwd.nD Cert.DupBwd.τ).loc Cert.DupBwd.main_arg1) = m ((c.tc : Thread Cert.DupBwd.nD Cert.DupBwd.τ).loc Cert.DupBwd.main_arg1)
      ∧ r.2.mem ((c.tc : Thread Cert.DupBwd.nD Cert.DupBwd.τ).loc Cert.DupBwd.main_arg2) = m ((c.tc : Thread Cert.DupBwd.nD Cert.DupBwd.τ).loc Cert.DupBwd.main_arg2))
      ∧ r.2.sem = fun _ => 0)

def quiescent_DupBwdIdeal [hDupBwdIdeal : Cert.DupBwdIdeal.Facts] : Prop :=
  ∀ (m : (ℓ : Loc Cert.DupBwdIdeal.nD Cert.DupBwdIdeal.τ Cert.DupBwdIdeal.sig) → Buf (Elt Ideal) ℓ) (g : Dev Cert.DupBwdIdeal.nD → PrngReg), Pre_DupBwdIdeal m →
    θ_run (Cert.DupBwdIdeal.defs (F := Ideal)) (onTc (τ := Cert.DupBwdIdeal.τ) (Cert.DupBwdIdeal.main (F := Ideal))) ⟨m, fun _ => 0, g⟩ (fun r => (∀ c : Dev Cert.DupBwdIdeal.nD,
      r.2.mem ((c.tc : Thread Cert.DupBwdIdeal.nD Cert.DupBwdIdeal.τ).loc Cert.DupBwdIdeal.main_arg0) = m ((c.tc : Thread Cert.DupBwdIdeal.nD Cert.DupBwdIdeal.τ).loc Cert.DupBwdIdeal.main_arg0)
      ∧ r.2.mem ((c.tc : Thread Cert.DupBwdIdeal.nD Cert.DupBwdIdeal.τ).loc Cert.DupBwdIdeal.main_arg1) = m ((c.tc : Thread Cert.DupBwdIdeal.nD Cert.DupBwdIdeal.τ).loc Cert.DupBwdIdeal.main_arg1)
      ∧ r.2.mem ((c.tc : Thread Cert.DupBwdIdeal.nD Cert.DupBwdIdeal.τ).loc Cert.DupBwdIdeal.main_arg2) = m ((c.tc : Thread Cert.DupBwdIdeal.nD Cert.DupBwdIdeal.τ).loc Cert.DupBwdIdeal.main_arg2))
      ∧ r.2.sem = fun _ => 0)

def quiescent_DupBwdRefIdeal [hDupBwdRefIdeal : Cert.DupBwdRefIdeal.Facts] : Prop :=
  ∀ (m : (ℓ : Loc Cert.DupBwdRefIdeal.nD Cert.DupBwdRefIdeal.τ Cert.DupBwdRefIdeal.sig) → Buf (Elt Ideal) ℓ) (g : Dev Cert.DupBwdRefIdeal.nD → PrngReg), Pre_DupBwdRefIdeal m →
    θ_run (Cert.DupBwdRefIdeal.defs (F := Ideal)) (onTc (τ := Cert.DupBwdRefIdeal.τ) (Cert.DupBwdRefIdeal.main (F := Ideal))) ⟨m, fun _ => 0, g⟩ (fun r => (∀ c : Dev Cert.DupBwdRefIdeal.nD,
      r.2.mem ((c.tc : Thread Cert.DupBwdRefIdeal.nD Cert.DupBwdRefIdeal.τ).loc Cert.DupBwdRefIdeal.main_arg0) = m ((c.tc : Thread Cert.DupBwdRefIdeal.nD Cert.DupBwdRefIdeal.τ).loc Cert.DupBwdRefIdeal.main_arg0)
      ∧ r.2.mem ((c.tc : Thread Cert.DupBwdRefIdeal.nD Cert.DupBwdRefIdeal.τ).loc Cert.DupBwdRefIdeal.main_arg1) = m ((c.tc : Thread Cert.DupBwdRefIdeal.nD Cert.DupBwdRefIdeal.τ).loc Cert.DupBwdRefIdeal.main_arg1)
      ∧ r.2.mem ((c.tc : Thread Cert.DupBwdRefIdeal.nD Cert.DupBwdRefIdeal.τ).loc Cert.DupBwdRefIdeal.main_arg2) = m ((c.tc : Thread Cert.DupBwdRefIdeal.nD Cert.DupBwdRefIdeal.τ).loc Cert.DupBwdRefIdeal.main_arg2))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_sgu_bwd_finite [hSguBwdIdeal : Cert.SguBwdIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_bwd_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_SguBwdRefIdeal_pre_sgu_bwd_finite [hSguBwdRefIdeal : Cert.SguBwdRefIdeal.Facts] [hPre_sgu_bwd_finite : Cert.Pre_sgu_bwd_finite.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_sgu_bwd_finite m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_ConvBwdB [hConvBwdB : Cert.ConvBwdB.Facts] : Prop :=
  ∀ (m : (ℓ : Loc Cert.ConvBwdB.nD Cert.ConvBwdB.τ Cert.ConvBwdB.sig) → Buf (Elt Bits) ℓ) (g : Dev Cert.ConvBwdB.nD → PrngReg), Pre_ConvBwdB m →
    θ_run (Cert.ConvBwdB.defs (F := Bits)) (onTc (τ := Cert.ConvBwdB.τ) (Cert.ConvBwdB.main (F := Bits))) ⟨m, fun _ => 0, g⟩ (fun r => (∀ c : Dev Cert.ConvBwdB.nD,
      r.2.mem ((c.tc : Thread Cert.ConvBwdB.nD Cert.ConvBwdB.τ).loc Cert.ConvBwdB.main_arg0) = m ((c.tc : Thread Cert.ConvBwdB.nD Cert.ConvBwdB.τ).loc Cert.ConvBwdB.main_arg0)
      ∧ r.2.mem ((c.tc : Thread Cert.ConvBwdB.nD Cert.ConvBwdB.τ).loc Cert.ConvBwdB.main_arg1) = m ((c.tc : Thread Cert.ConvBwdB.nD Cert.ConvBwdB.τ).loc Cert.ConvBwdB.main_arg1)
      ∧ r.2.mem ((c.tc : Thread Cert.ConvBwdB.nD Cert.ConvBwdB.τ).loc Cert.ConvBwdB.main_arg2) = m ((c.tc : Thread Cert.ConvBwdB.nD Cert.ConvBwdB.τ).loc Cert.ConvBwdB.main_arg2))
      ∧ r.2.sem = fun _ => 0)

def quiescent_ConvBwdBIdeal [hConvBwdBIdeal : Cert.ConvBwdBIdeal.Facts] : Prop :=
  ∀ (m : (ℓ : Loc Cert.ConvBwdBIdeal.nD Cert.ConvBwdBIdeal.τ Cert.ConvBwdBIdeal.sig) → Buf (Elt Ideal) ℓ) (g : Dev Cert.ConvBwdBIdeal.nD → PrngReg), Pre_ConvBwdBIdeal m →
    θ_run (Cert.ConvBwdBIdeal.defs (F := Ideal)) (onTc (τ := Cert.ConvBwdBIdeal.τ) (Cert.ConvBwdBIdeal.main (F := Ideal))) ⟨m, fun _ => 0, g⟩ (fun r => (∀ c : Dev Cert.ConvBwdBIdeal.nD,
      r.2.mem ((c.tc : Thread Cert.ConvBwdBIdeal.nD Cert.ConvBwdBIdeal.τ).loc Cert.ConvBwdBIdeal.main_arg0) = m ((c.tc : Thread Cert.ConvBwdBIdeal.nD Cert.ConvBwdBIdeal.τ).loc Cert.ConvBwdBIdeal.main_arg0)
      ∧ r.2.mem ((c.tc : Thread Cert.ConvBwdBIdeal.nD Cert.ConvBwdBIdeal.τ).loc Cert.ConvBwdBIdeal.main_arg1) = m ((c.tc : Thread Cert.ConvBwdBIdeal.nD Cert.ConvBwdBIdeal.τ).loc Cert.ConvBwdBIdeal.main_arg1)
      ∧ r.2.mem ((c.tc : Thread Cert.ConvBwdBIdeal.nD Cert.ConvBwdBIdeal.τ).loc Cert.ConvBwdBIdeal.main_arg2) = m ((c.tc : Thread Cert.ConvBwdBIdeal.nD Cert.ConvBwdBIdeal.τ).loc Cert.ConvBwdBIdeal.main_arg2))
      ∧ r.2.sem = fun _ => 0)

def quiescent_ConvBwdBIdeal_pre_conv_bwd2_finite [hConvBwdBIdeal : Cert.ConvBwdBIdeal.Facts] [hPre_conv_bwd2_finite : Cert.Pre_conv_bwd2_finite.Facts] : Prop :=
  ∀ (m : (ℓ : Loc Cert.ConvBwdBIdeal.nD Cert.ConvBwdBIdeal.τ Cert.ConvBwdBIdeal.sig) → Buf (Elt Ideal) ℓ) (g : Dev Cert.ConvBwdBIdeal.nD → PrngReg), Pre_ConvBwdBIdeal_conv_bwd2_finite m →
    θ_run (Cert.ConvBwdBIdeal.defs (F := Ideal)) (onTc (τ := Cert.ConvBwdBIdeal.τ) (Cert.ConvBwdBIdeal.main (F := Ideal))) ⟨m, fun _ => 0, g⟩ (fun r => (∀ c : Dev Cert.ConvBwdBIdeal.nD,
      r.2.mem ((c.tc : Thread Cert.ConvBwdBIdeal.nD Cert.ConvBwdBIdeal.τ).loc Cert.ConvBwdBIdeal.main_arg0) = m ((c.tc : Thread Cert.ConvBwdBIdeal.nD Cert.ConvBwdBIdeal.τ).loc Cert.ConvBwdBIdeal.main_arg0)
      ∧ r.2.mem ((c.tc : Thread Cert.ConvBwdBIdeal.nD Cert.ConvBwdBIdeal.τ).loc Cert.ConvBwdBIdeal.main_arg1) = m ((c.tc : Thread Cert.ConvBwdBIdeal.nD Cert.ConvBwdBIdeal.τ).loc Cert.ConvBwdBIdeal.main_arg1)
      ∧ r.2.mem ((c.tc : Thread Cert.ConvBwdBIdeal.nD Cert.ConvBwdBIdeal.τ).loc Cert.ConvBwdBIdeal.main_arg2) = m ((c.tc : Thread Cert.ConvBwdBIdeal.nD Cert.ConvBwdBIdeal.τ).loc Cert.ConvBwdBIdeal.main_arg2))
      ∧ r.2.sem = fun _ => 0)

def quiescent_ConvBwdBRefIdeal [hConvBwdBRefIdeal : Cert.ConvBwdBRefIdeal.Facts] : Prop :=
  ∀ (m : (ℓ : Loc Cert.ConvBwdBRefIdeal.nD Cert.ConvBwdBRefIdeal.τ Cert.ConvBwdBRefIdeal.sig) → Buf (Elt Ideal) ℓ) (g : Dev Cert.ConvBwdBRefIdeal.nD → PrngReg), Pre_ConvBwdBRefIdeal m →
    θ_run (Cert.ConvBwdBRefIdeal.defs (F := Ideal)) (onTc (τ := Cert.ConvBwdBRefIdeal.τ) (Cert.ConvBwdBRefIdeal.main (F := Ideal))) ⟨m, fun _ => 0, g⟩ (fun r => (∀ c : Dev Cert.ConvBwdBRefIdeal.nD,
      r.2.mem ((c.tc : Thread Cert.ConvBwdBRefIdeal.nD Cert.ConvBwdBRefIdeal.τ).loc Cert.ConvBwdBRefIdeal.main_arg0) = m ((c.tc : Thread Cert.ConvBwdBRefIdeal.nD Cert.ConvBwdBRefIdeal.τ).loc Cert.ConvBwdBRefIdeal.main_arg0)
      ∧ r.2.mem ((c.tc : Thread Cert.ConvBwdBRefIdeal.nD Cert.ConvBwdBRefIdeal.τ).loc Cert.ConvBwdBRefIdeal.main_arg1) = m ((c.tc : Thread Cert.ConvBwdBRefIdeal.nD Cert.ConvBwdBRefIdeal.τ).loc Cert.ConvBwdBRefIdeal.main_arg1)
      ∧ r.2.mem ((c.tc : Thread Cert.ConvBwdBRefIdeal.nD Cert.ConvBwdBRefIdeal.τ).loc Cert.ConvBwdBRefIdeal.main_arg2) = m ((c.tc : Thread Cert.ConvBwdBRefIdeal.nD Cert.ConvBwdBRefIdeal.τ).loc Cert.ConvBwdBRefIdeal.main_arg2))
      ∧ r.2.sem = fun _ => 0)

def quiescent_ConvBwdBRefIdeal_pre_conv_bwd2_finite [hConvBwdBRefIdeal : Cert.ConvBwdBRefIdeal.Facts] [hPre_conv_bwd2_finite : Cert.Pre_conv_bwd2_finite.Facts] : Prop :=
  ∀ (m : (ℓ : Loc Cert.ConvBwdBRefIdeal.nD Cert.ConvBwdBRefIdeal.τ Cert.ConvBwdBRefIdeal.sig) → Buf (Elt Ideal) ℓ) (g : Dev Cert.ConvBwdBRefIdeal.nD → PrngReg), Pre_ConvBwdBRefIdeal_conv_bwd2_finite m →
    θ_run (Cert.ConvBwdBRefIdeal.defs (F := Ideal)) (onTc (τ := Cert.ConvBwdBRefIdeal.τ) (Cert.ConvBwdBRefIdeal.main (F := Ideal))) ⟨m, fun _ => 0, g⟩ (fun r => (∀ c : Dev Cert.ConvBwdBRefIdeal.nD,
      r.2.mem ((c.tc : Thread Cert.ConvBwdBRefIdeal.nD Cert.ConvBwdBRefIdeal.τ).loc Cert.ConvBwdBRefIdeal.main_arg0) = m ((c.tc : Thread Cert.ConvBwdBRefIdeal.nD Cert.ConvBwdBRefIdeal.τ).loc Cert.ConvBwdBRefIdeal.main_arg0)
      ∧ r.2.mem ((c.tc : Thread Cert.ConvBwdBRefIdeal.nD Cert.ConvBwdBRefIdeal.τ).loc Cert.ConvBwdBRefIdeal.main_arg1) = m ((c.tc : Thread Cert.ConvBwdBRefIdeal.nD Cert.ConvBwdBRefIdeal.τ).loc Cert.ConvBwdBRefIdeal.main_arg1)
      ∧ r.2.mem ((c.tc : Thread Cert.ConvBwdBRefIdeal.nD Cert.ConvBwdBRefIdeal.τ).loc Cert.ConvBwdBRefIdeal.main_arg2) = m ((c.tc : Thread Cert.ConvBwdBRefIdeal.nD Cert.ConvBwdBRefIdeal.τ).loc Cert.ConvBwdBRefIdeal.main_arg2))
      ∧ r.2.sem = fun _ => 0)

def quiescent_ConvBwdA [hConvBwdA : Cert.ConvBwdA.Facts] : Prop :=
  ∀ (m : (ℓ : Loc Cert.ConvBwdA.nD Cert.ConvBwdA.τ Cert.ConvBwdA.sig) → Buf (Elt Bits) ℓ) (g : Dev Cert.ConvBwdA.nD → PrngReg), Pre_ConvBwdA m →
    θ_run (Cert.ConvBwdA.defs (F := Bits)) (onTc (τ := Cert.ConvBwdA.τ) (Cert.ConvBwdA.main (F := Bits))) ⟨m, fun _ => 0, g⟩ (fun r => (∀ c : Dev Cert.ConvBwdA.nD,
      r.2.mem ((c.tc : Thread Cert.ConvBwdA.nD Cert.ConvBwdA.τ).loc Cert.ConvBwdA.main_arg0) = m ((c.tc : Thread Cert.ConvBwdA.nD Cert.ConvBwdA.τ).loc Cert.ConvBwdA.main_arg0)
      ∧ r.2.mem ((c.tc : Thread Cert.ConvBwdA.nD Cert.ConvBwdA.τ).loc Cert.ConvBwdA.main_arg1) = m ((c.tc : Thread Cert.ConvBwdA.nD Cert.ConvBwdA.τ).loc Cert.ConvBwdA.main_arg1)
      ∧ r.2.mem ((c.tc : Thread Cert.ConvBwdA.nD Cert.ConvBwdA.τ).loc Cert.ConvBwdA.main_arg2) = m ((c.tc : Thread Cert.ConvBwdA.nD Cert.ConvBwdA.τ).loc Cert.ConvBwdA.main_arg2)
      ∧ r.2.mem ((c.tc : Thread Cert.ConvBwdA.nD Cert.ConvBwdA.τ).loc Cert.ConvBwdA.main_arg3) = m ((c.tc : Thread Cert.ConvBwdA.nD Cert.ConvBwdA.τ).loc Cert.ConvBwdA.main_arg3)
      ∧ r.2.mem ((c.tc : Thread Cert.ConvBwdA.nD Cert.ConvBwdA.τ).loc Cert.ConvBwdA.main_arg4) = m ((c.tc : Thread Cert.ConvBwdA.nD Cert.ConvBwdA.τ).loc Cert.ConvBwdA.main_arg4)
      ∧ r.2.mem ((c.tc : Thread Cert.ConvBwdA.nD Cert.ConvBwdA.τ).loc Cert.ConvBwdA.main_arg5) = m ((c.tc : Thread Cert.ConvBwdA.nD Cert.ConvBwdA.τ).loc Cert.ConvBwdA.main_arg5))
      ∧ r.2.sem = fun _ => 0)

def quiescent_ConvBwdAIdeal [hConvBwdAIdeal : Cert.ConvBwdAIdeal.Facts] : Prop :=
  ∀ (m : (ℓ : Loc Cert.ConvBwdAIdeal.nD Cert.ConvBwdAIdeal.τ Cert.ConvBwdAIdeal.sig) → Buf (Elt Ideal) ℓ) (g : Dev Cert.ConvBwdAIdeal.nD → PrngReg), Pre_ConvBwdAIdeal m →
    θ_run (Cert.ConvBwdAIdeal.defs (F := Ideal)) (onTc (τ := Cert.ConvBwdAIdeal.τ) (Cert.ConvBwdAIdeal.main (F := Ideal))) ⟨m, fun _ => 0, g⟩ (fun r => (∀ c : Dev Cert.ConvBwdAIdeal.nD,
      r.2.mem ((c.tc : Thread Cert.ConvBwdAIdeal.nD Cert.ConvBwdAIdeal.τ).loc Cert.ConvBwdAIdeal.main_arg0) = m ((c.tc : Thread Cert.ConvBwdAIdeal.nD Cert.ConvBwdAIdeal.τ).loc Cert.ConvBwdAIdeal.main_arg0)
      ∧ r.2.mem ((c.tc : Thread Cert.ConvBwdAIdeal.nD Cert.ConvBwdAIdeal.τ).loc Cert.ConvBwdAIdeal.main_arg1) = m ((c.tc : Thread Cert.ConvBwdAIdeal.nD Cert.ConvBwdAIdeal.τ).loc Cert.ConvBwdAIdeal.main_arg1)
      ∧ r.2.mem ((c.tc : Thread Cert.ConvBwdAIdeal.nD Cert.ConvBwdAIdeal.τ).loc Cert.ConvBwdAIdeal.main_arg2) = m ((c.tc : Thread Cert.ConvBwdAIdeal.nD Cert.ConvBwdAIdeal.τ).loc Cert.ConvBwdAIdeal.main_arg2)
      ∧ r.2.mem ((c.tc : Thread Cert.ConvBwdAIdeal.nD Cert.ConvBwdAIdeal.τ).loc Cert.ConvBwdAIdeal.main_arg3) = m ((c.tc : Thread Cert.ConvBwdAIdeal.nD Cert.ConvBwdAIdeal.τ).loc Cert.ConvBwdAIdeal.main_arg3)
      ∧ r.2.mem ((c.tc : Thread Cert.ConvBwdAIdeal.nD Cert.ConvBwdAIdeal.τ).loc Cert.ConvBwdAIdeal.main_arg4) = m ((c.tc : Thread Cert.ConvBwdAIdeal.nD Cert.ConvBwdAIdeal.τ).loc Cert.ConvBwdAIdeal.main_arg4)
      ∧ r.2.mem ((c.tc : Thread Cert.ConvBwdAIdeal.nD Cert.ConvBwdAIdeal.τ).loc Cert.ConvBwdAIdeal.main_arg5) = m ((c.tc : Thread Cert.ConvBwdAIdeal.nD Cert.ConvBwdAIdeal.τ).loc Cert.ConvBwdAIdeal.main_arg5))
      ∧ r.2.sem = fun _ => 0)

def quiescent_ConvBwdAIdeal_pre_conv_bwd1_finite [hConvBwdAIdeal : Cert.ConvBwdAIdeal.Facts] [hPre_conv_bwd1_finite : Cert.Pre_conv_bwd1_finite.Facts] : Prop :=
  ∀ (m : (ℓ : Loc Cert.ConvBwdAIdeal.nD Cert.ConvBwdAIdeal.τ Cert.ConvBwdAIdeal.sig) → Buf (Elt Ideal) ℓ) (g : Dev Cert.ConvBwdAIdeal.nD → PrngReg), Pre_ConvBwdAIdeal_conv_bwd1_finite m →
    θ_run (Cert.ConvBwdAIdeal.defs (F := Ideal)) (onTc (τ := Cert.ConvBwdAIdeal.τ) (Cert.ConvBwdAIdeal.main (F := Ideal))) ⟨m, fun _ => 0, g⟩ (fun r => (∀ c : Dev Cert.ConvBwdAIdeal.nD,
      r.2.mem ((c.tc : Thread Cert.ConvBwdAIdeal.nD Cert.ConvBwdAIdeal.τ).loc Cert.ConvBwdAIdeal.main_arg0) = m ((c.tc : Thread Cert.ConvBwdAIdeal.nD Cert.ConvBwdAIdeal.τ).loc Cert.ConvBwdAIdeal.main_arg0)
      ∧ r.2.mem ((c.tc : Thread Cert.ConvBwdAIdeal.nD Cert.ConvBwdAIdeal.τ).loc Cert.ConvBwdAIdeal.main_arg1) = m ((c.tc : Thread Cert.ConvBwdAIdeal.nD Cert.ConvBwdAIdeal.τ).loc Cert.ConvBwdAIdeal.main_arg1)
      ∧ r.2.mem ((c.tc : Thread Cert.ConvBwdAIdeal.nD Cert.ConvBwdAIdeal.τ).loc Cert.ConvBwdAIdeal.main_arg2) = m ((c.tc : Thread Cert.ConvBwdAIdeal.nD Cert.ConvBwdAIdeal.τ).loc Cert.ConvBwdAIdeal.main_arg2)
      ∧ r.2.mem ((c.tc : Thread Cert.ConvBwdAIdeal.nD Cert.ConvBwdAIdeal.τ).loc Cert.ConvBwdAIdeal.main_arg3) = m ((c.tc : Thread Cert.ConvBwdAIdeal.nD Cert.ConvBwdAIdeal.τ).loc Cert.ConvBwdAIdeal.main_arg3)
      ∧ r.2.mem ((c.tc : Thread Cert.ConvBwdAIdeal.nD Cert.ConvBwdAIdeal.τ).loc Cert.ConvBwdAIdeal.main_arg4) = m ((c.tc : Thread Cert.ConvBwdAIdeal.nD Cert.ConvBwdAIdeal.τ).loc Cert.ConvBwdAIdeal.main_arg4)
      ∧ r.2.mem ((c.tc : Thread Cert.ConvBwdAIdeal.nD Cert.ConvBwdAIdeal.τ).loc Cert.ConvBwdAIdeal.main_arg5) = m ((c.tc : Thread Cert.ConvBwdAIdeal.nD Cert.ConvBwdAIdeal.τ).loc Cert.ConvBwdAIdeal.main_arg5))
      ∧ r.2.sem = fun _ => 0)

def quiescent_ConvBwdARefIdeal [hConvBwdARefIdeal : Cert.ConvBwdARefIdeal.Facts] : Prop :=
  ∀ (m : (ℓ : Loc Cert.ConvBwdARefIdeal.nD Cert.ConvBwdARefIdeal.τ Cert.ConvBwdARefIdeal.sig) → Buf (Elt Ideal) ℓ) (g : Dev Cert.ConvBwdARefIdeal.nD → PrngReg), Pre_ConvBwdARefIdeal m →
    θ_run (Cert.ConvBwdARefIdeal.defs (F := Ideal)) (onTc (τ := Cert.ConvBwdARefIdeal.τ) (Cert.ConvBwdARefIdeal.main (F := Ideal))) ⟨m, fun _ => 0, g⟩ (fun r => (∀ c : Dev Cert.ConvBwdARefIdeal.nD,
      r.2.mem ((c.tc : Thread Cert.ConvBwdARefIdeal.nD Cert.ConvBwdARefIdeal.τ).loc Cert.ConvBwdARefIdeal.main_arg0) = m ((c.tc : Thread Cert.ConvBwdARefIdeal.nD Cert.ConvBwdARefIdeal.τ).loc Cert.ConvBwdARefIdeal.main_arg0)
      ∧ r.2.mem ((c.tc : Thread Cert.ConvBwdARefIdeal.nD Cert.ConvBwdARefIdeal.τ).loc Cert.ConvBwdARefIdeal.main_arg1) = m ((c.tc : Thread Cert.ConvBwdARefIdeal.nD Cert.ConvBwdARefIdeal.τ).loc Cert.ConvBwdARefIdeal.main_arg1)
      ∧ r.2.mem ((c.tc : Thread Cert.ConvBwdARefIdeal.nD Cert.ConvBwdARefIdeal.τ).loc Cert.ConvBwdARefIdeal.main_arg2) = m ((c.tc : Thread Cert.ConvBwdARefIdeal.nD Cert.ConvBwdARefIdeal.τ).loc Cert.ConvBwdARefIdeal.main_arg2)
      ∧ r.2.mem ((c.tc : Thread Cert.ConvBwdARefIdeal.nD Cert.ConvBwdARefIdeal.τ).loc Cert.ConvBwdARefIdeal.main_arg3) = m ((c.tc : Thread Cert.ConvBwdARefIdeal.nD Cert.ConvBwdARefIdeal.τ).loc Cert.ConvBwdARefIdeal.main_arg3)
      ∧ r.2.mem ((c.tc : Thread Cert.ConvBwdARefIdeal.nD Cert.ConvBwdARefIdeal.τ).loc Cert.ConvBwdARefIdeal.main_arg4) = m ((c.tc : Thread Cert.ConvBwdARefIdeal.nD Cert.ConvBwdARefIdeal.τ).loc Cert.ConvBwdARefIdeal.main_arg4)
      ∧ r.2.mem ((c.tc : Thread Cert.ConvBwdARefIdeal.nD Cert.ConvBwdARefIdeal.τ).loc Cert.ConvBwdARefIdeal.main_arg5) = m ((c.tc : Thread Cert.ConvBwdARefIdeal.nD Cert.ConvBwdARefIdeal.τ).loc Cert.ConvBwdARefIdeal.main_arg5))
      ∧ r.2.sem = fun _ => 0)

def quiescent_ConvBwdARefIdeal_pre_conv_bwd1_finite [hConvBwdARefIdeal : Cert.ConvBwdARefIdeal.Facts] [hPre_conv_bwd1_finite : Cert.Pre_conv_bwd1_finite.Facts] : Prop :=
  ∀ (m : (ℓ : Loc Cert.ConvBwdARefIdeal.nD Cert.ConvBwdARefIdeal.τ Cert.ConvBwdARefIdeal.sig) → Buf (Elt Ideal) ℓ) (g : Dev Cert.ConvBwdARefIdeal.nD → PrngReg), Pre_ConvBwdARefIdeal_conv_bwd1_finite m →
    θ_run (Cert.ConvBwdARefIdeal.defs (F := Ideal)) (onTc (τ := Cert.ConvBwdARefIdeal.τ) (Cert.ConvBwdARefIdeal.main (F := Ideal))) ⟨m, fun _ => 0, g⟩ (fun r => (∀ c : Dev Cert.ConvBwdARefIdeal.nD,
      r.2.mem ((c.tc : Thread Cert.ConvBwdARefIdeal.nD Cert.ConvBwdARefIdeal.τ).loc Cert.ConvBwdARefIdeal.main_arg0) = m ((c.tc : Thread Cert.ConvBwdARefIdeal.nD Cert.ConvBwdARefIdeal.τ).loc Cert.ConvBwdARefIdeal.main_arg0)
      ∧ r.2.mem ((c.tc : Thread Cert.ConvBwdARefIdeal.nD Cert.ConvBwdARefIdeal.τ).loc Cert.ConvBwdARefIdeal.main_arg1) = m ((c.tc : Thread Cert.ConvBwdARefIdeal.nD Cert.ConvBwdARefIdeal.τ).loc Cert.ConvBwdARefIdeal.main_arg1)
      ∧ r.2.mem ((c.tc : Thread Cert.ConvBwdARefIdeal.nD Cert.ConvBwdARefIdeal.τ).loc Cert.ConvBwdARefIdeal.main_arg2) = m ((c.tc : Thread Cert.ConvBwdARefIdeal.nD Cert.ConvBwdARefIdeal.τ).loc Cert.ConvBwdARefIdeal.main_arg2)
      ∧ r.2.mem ((c.tc : Thread Cert.ConvBwdARefIdeal.nD Cert.ConvBwdARefIdeal.τ).loc Cert.ConvBwdARefIdeal.main_arg3) = m ((c.tc : Thread Cert.ConvBwdARefIdeal.nD Cert.ConvBwdARefIdeal.τ).loc Cert.ConvBwdARefIdeal.main_arg3)
      ∧ r.2.mem ((c.tc : Thread Cert.ConvBwdARefIdeal.nD Cert.ConvBwdARefIdeal.τ).loc Cert.ConvBwdARefIdeal.main_arg4) = m ((c.tc : Thread Cert.ConvBwdARefIdeal.nD Cert.ConvBwdARefIdeal.τ).loc Cert.ConvBwdARefIdeal.main_arg4)
      ∧ r.2.mem ((c.tc : Thread Cert.ConvBwdARefIdeal.nD Cert.ConvBwdARefIdeal.τ).loc Cert.ConvBwdARefIdeal.main_arg5) = m ((c.tc : Thread Cert.ConvBwdARefIdeal.nD Cert.ConvBwdARefIdeal.τ).loc Cert.ConvBwdARefIdeal.main_arg5))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4)
      ∧ r.2.mem ((c.tc : Thread Cert.KvBwd.nD Cert.KvBwd.τ).loc Cert.KvBwd.main_arg5) = m ((c.tc : Thread Cert.KvBwd.nD Cert.KvBwd.τ).loc Cert.KvBwd.main_arg5))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ r.2.sem = fun _ => 0)

def quiescent_KvBwdIdeal_pre_attn_kv_finite [hKvBwdIdeal : Cert.KvBwdIdeal.Facts] [hPre_attn_kv_finite : Cert.Pre_attn_kv_finite.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal_attn_kv_finite m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4)
      ∧ r.2.mem ((c.tc : Thread Cert.KvBwdRefIdeal.nD Cert.KvBwdRefIdeal.τ).loc Cert.KvBwdRefIdeal.main_arg5) = m ((c.tc : Thread Cert.KvBwdRefIdeal.nD Cert.KvBwdRefIdeal.τ).loc Cert.KvBwdRefIdeal.main_arg5))
      ∧ r.2.sem = fun _ => 0)

def quiescent_KvBwdRefIdeal_pre_attn_kv_finite [hKvBwdRefIdeal : Cert.KvBwdRefIdeal.Facts] [hPre_attn_kv_finite : Cert.Pre_attn_kv_finite.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal_attn_kv_finite m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4)
      ∧ r.2.mem ((c.tc : Thread Cert.KvBwdRefIdeal.nD Cert.KvBwdRefIdeal.τ).loc Cert.KvBwdRefIdeal.main_arg5) = m ((c.tc : Thread Cert.KvBwdRefIdeal.nD Cert.KvBwdRefIdeal.τ).loc Cert.KvBwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4)
      ∧ r.2.mem ((c.tc : Thread Cert.AttnFwd.nD Cert.AttnFwd.τ).loc Cert.AttnFwd.main_arg5) = m ((c.tc : Thread Cert.AttnFwd.nD Cert.AttnFwd.τ).loc Cert.AttnFwd.main_arg5))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
      ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4)
      ∧ r.2.mem ((c.tc : Thread Cert.AttnFwdRefIdeal.nD Cert.AttnFwdRefIdeal.τ).loc Cert.AttnFwdRefIdeal.main_arg5) = m ((c.tc : Thread Cert.AttnFwdRefIdeal.nD Cert.AttnFwdRefIdeal.τ).loc Cert.AttnFwdRefIdeal.main_arg5))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4)
      ∧ r.2.mem ((c.tc : Thread Cert.AttnFwdRefIdeal.nD Cert.AttnFwdRefIdeal.τ).loc Cert.AttnFwdRefIdeal.main_arg5) = m ((c.tc : Thread Cert.AttnFwdRefIdeal.nD Cert.AttnFwdRefIdeal.τ).loc Cert.AttnFwdRefIdeal.main_arg5))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_SumTwo [hSumTwo : Cert.SumTwo.Facts] : Prop :=
  ∀ (m : (ℓ : Loc Cert.SumTwo.nD Cert.SumTwo.τ Cert.SumTwo.sig) → Buf (Elt Bits) ℓ) (g : Dev Cert.SumTwo.nD → PrngReg), Pre_SumTwo m →
    θ_run (Cert.SumTwo.defs (F := Bits)) (onTc (τ := Cert.SumTwo.τ) (Cert.SumTwo.main (F := Bits))) ⟨m, fun _ => 0, g⟩ (fun r => (∀ c : Dev Cert.SumTwo.nD,
      r.2.mem ((c.tc : Thread Cert.SumTwo.nD Cert.SumTwo.τ).loc Cert.SumTwo.main_arg0) = m ((c.tc : Thread Cert.SumTwo.nD Cert.SumTwo.τ).loc Cert.SumTwo.main_arg0)
      ∧ r.2.mem ((c.tc : Thread Cert.SumTwo.nD Cert.SumTwo.τ).loc Cert.SumTwo.main_arg1) = m ((c.tc : Thread Cert.SumTwo.nD Cert.SumTwo.τ).loc Cert.SumTwo.main_arg1))
      ∧ r.2.sem = fun _ => 0)

def quiescent_SumTwoIdeal [hSumTwoIdeal : Cert.SumTwoIdeal.Facts] : Prop :=
  ∀ (m : (ℓ : Loc Cert.SumTwoIdeal.nD Cert.SumTwoIdeal.τ Cert.SumTwoIdeal.sig) → Buf (Elt Ideal) ℓ) (g : Dev Cert.SumTwoIdeal.nD → PrngReg), Pre_SumTwoIdeal m →
    θ_run (Cert.SumTwoIdeal.defs (F := Ideal)) (onTc (τ := Cert.SumTwoIdeal.τ) (Cert.SumTwoIdeal.main (F := Ideal))) ⟨m, fun _ => 0, g⟩ (fun r => (∀ c : Dev Cert.SumTwoIdeal.nD,
      r.2.mem ((c.tc : Thread Cert.SumTwoIdeal.nD Cert.SumTwoIdeal.τ).loc Cert.SumTwoIdeal.main_arg0) = m ((c.tc : Thread Cert.SumTwoIdeal.nD Cert.SumTwoIdeal.τ).loc Cert.SumTwoIdeal.main_arg0)
      ∧ r.2.mem ((c.tc : Thread Cert.SumTwoIdeal.nD Cert.SumTwoIdeal.τ).loc Cert.SumTwoIdeal.main_arg1) = m ((c.tc : Thread Cert.SumTwoIdeal.nD Cert.SumTwoIdeal.τ).loc Cert.SumTwoIdeal.main_arg1))
      ∧ r.2.sem = fun _ => 0)

def quiescent_SumTwoRefIdeal [hSumTwoRefIdeal : Cert.SumTwoRefIdeal.Facts] : Prop :=
  ∀ (m : (ℓ : Loc Cert.SumTwoRefIdeal.nD Cert.SumTwoRefIdeal.τ Cert.SumTwoRefIdeal.sig) → Buf (Elt Ideal) ℓ) (g : Dev Cert.SumTwoRefIdeal.nD → PrngReg), Pre_SumTwoRefIdeal m →
    θ_run (Cert.SumTwoRefIdeal.defs (F := Ideal)) (onTc (τ := Cert.SumTwoRefIdeal.τ) (Cert.SumTwoRefIdeal.main (F := Ideal))) ⟨m, fun _ => 0, g⟩ (fun r => (∀ c : Dev Cert.SumTwoRefIdeal.nD,
      r.2.mem ((c.tc : Thread Cert.SumTwoRefIdeal.nD Cert.SumTwoRefIdeal.τ).loc Cert.SumTwoRefIdeal.main_arg0) = m ((c.tc : Thread Cert.SumTwoRefIdeal.nD Cert.SumTwoRefIdeal.τ).loc Cert.SumTwoRefIdeal.main_arg0)
      ∧ r.2.mem ((c.tc : Thread Cert.SumTwoRefIdeal.nD Cert.SumTwoRefIdeal.τ).loc Cert.SumTwoRefIdeal.main_arg1) = m ((c.tc : Thread Cert.SumTwoRefIdeal.nD Cert.SumTwoRefIdeal.τ).loc Cert.SumTwoRefIdeal.main_arg1))
      ∧ r.2.sem = fun _ => 0)

def quiescent_DhBwd [hDhBwd : Cert.DhBwd.Facts] : Prop :=
  ∀ (m : (ℓ : Loc Cert.DhBwd.nD Cert.DhBwd.τ Cert.DhBwd.sig) → Buf (Elt Bits) ℓ) (g : Dev Cert.DhBwd.nD → PrngReg), Pre_DhBwd m →
    θ_run (Cert.DhBwd.defs (F := Bits)) (onTc (τ := Cert.DhBwd.τ) (Cert.DhBwd.main (F := Bits))) ⟨m, fun _ => 0, g⟩ (fun r => (∀ c : Dev Cert.DhBwd.nD,
      r.2.mem ((c.tc : Thread Cert.DhBwd.nD Cert.DhBwd.τ).loc Cert.DhBwd.main_arg0) = m ((c.tc : Thread Cert.DhBwd.nD Cert.DhBwd.τ).loc Cert.DhBwd.main_arg0)
      ∧ r.2.mem ((c.tc : Thread Cert.DhBwd.nD Cert.DhBwd.τ).loc Cert.DhBwd.main_arg1) = m ((c.tc : Thread Cert.DhBwd.nD Cert.DhBwd.τ).loc Cert.DhBwd.main_arg1))
      ∧ r.2.sem = fun _ => 0)

def quiescent_DhBwdIdeal [hDhBwdIdeal : Cert.DhBwdIdeal.Facts] : Prop :=
  ∀ (m : (ℓ : Loc Cert.DhBwdIdeal.nD Cert.DhBwdIdeal.τ Cert.DhBwdIdeal.sig) → Buf (Elt Ideal) ℓ) (g : Dev Cert.DhBwdIdeal.nD → PrngReg), Pre_DhBwdIdeal m →
    θ_run (Cert.DhBwdIdeal.defs (F := Ideal)) (onTc (τ := Cert.DhBwdIdeal.τ) (Cert.DhBwdIdeal.main (F := Ideal))) ⟨m, fun _ => 0, g⟩ (fun r => (∀ c : Dev Cert.DhBwdIdeal.nD,
      r.2.mem ((c.tc : Thread Cert.DhBwdIdeal.nD Cert.DhBwdIdeal.τ).loc Cert.DhBwdIdeal.main_arg0) = m ((c.tc : Thread Cert.DhBwdIdeal.nD Cert.DhBwdIdeal.τ).loc Cert.DhBwdIdeal.main_arg0)
      ∧ r.2.mem ((c.tc : Thread Cert.DhBwdIdeal.nD Cert.DhBwdIdeal.τ).loc Cert.DhBwdIdeal.main_arg1) = m ((c.tc : Thread Cert.DhBwdIdeal.nD Cert.DhBwdIdeal.τ).loc Cert.DhBwdIdeal.main_arg1))
      ∧ r.2.sem = fun _ => 0)

def quiescent_DhBwdRefIdeal [hDhBwdRefIdeal : Cert.DhBwdRefIdeal.Facts] : Prop :=
  ∀ (m : (ℓ : Loc Cert.DhBwdRefIdeal.nD Cert.DhBwdRefIdeal.τ Cert.DhBwdRefIdeal.sig) → Buf (Elt Ideal) ℓ) (g : Dev Cert.DhBwdRefIdeal.nD → PrngReg), Pre_DhBwdRefIdeal m →
    θ_run (Cert.DhBwdRefIdeal.defs (F := Ideal)) (onTc (τ := Cert.DhBwdRefIdeal.τ) (Cert.DhBwdRefIdeal.main (F := Ideal))) ⟨m, fun _ => 0, g⟩ (fun r => (∀ c : Dev Cert.DhBwdRefIdeal.nD,
      r.2.mem ((c.tc : Thread Cert.DhBwdRefIdeal.nD Cert.DhBwdRefIdeal.τ).loc Cert.DhBwdRefIdeal.main_arg0) = m ((c.tc : Thread Cert.DhBwdRefIdeal.nD Cert.DhBwdRefIdeal.τ).loc Cert.DhBwdRefIdeal.main_arg0)
      ∧ r.2.mem ((c.tc : Thread Cert.DhBwdRefIdeal.nD Cert.DhBwdRefIdeal.τ).loc Cert.DhBwdRefIdeal.main_arg1) = m ((c.tc : Thread Cert.DhBwdRefIdeal.nD Cert.DhBwdRefIdeal.τ).loc Cert.DhBwdRefIdeal.main_arg1))
      ∧ r.2.sem = fun _ => 0)

def preserves_RmsBwd_RmsBwdIdeal : Prop :=
  True

def algebraic_RmsBwdIdeal_RmsBwdRefIdeal_pre_rms_bwd_finite [hRmsBwdIdeal : Cert.RmsBwdIdeal.Facts] [hRmsBwdRefIdeal : Cert.RmsBwdRefIdeal.Facts] [hPre_rms_bwd_finite : Cert.Pre_rms_bwd_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_rms_bwd_finite m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_MixBwd_MixBwdIdeal : Prop :=
  True

def algebraic_MixBwdIdeal_MixBwdRefIdeal_pre_mixnorm_bwd_finite [hMixBwdIdeal : Cert.MixBwdIdeal.Facts] [hMixBwdRefIdeal : Cert.MixBwdRefIdeal.Facts] [hPre_mixnorm_bwd_finite : Cert.Pre_mixnorm_bwd_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mixnorm_bwd_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v1_0)) (v1 : (c : Dev Cert.MixBwdIdeal.nD) → Buf (Elt Ideal) ((c.tc : Thread Cert.MixBwdIdeal.nD Cert.MixBwdIdeal.τ).loc Cert.MixBwdIdeal.main_v1_1)) (v2 : (c : Dev Cert.MixBwdIdeal.nD) → Buf (Elt Ideal) ((c.tc : Thread Cert.MixBwdIdeal.nD Cert.MixBwdIdeal.τ).loc Cert.MixBwdIdeal.main_v1_2)) (v3 : (c : Dev Cert.MixBwdIdeal.nD) → Buf (Elt Ideal) ((c.tc : Thread Cert.MixBwdIdeal.nD Cert.MixBwdIdeal.τ).loc Cert.MixBwdIdeal.main_v1_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v1_0) = v0 c
          ∧ r.2.mem ((c.tc : Thread Cert.MixBwdIdeal.nD Cert.MixBwdIdeal.τ).loc Cert.MixBwdIdeal.main_v1_1) = v1 c
          ∧ r.2.mem ((c.tc : Thread Cert.MixBwdIdeal.nD Cert.MixBwdIdeal.τ).loc Cert.MixBwdIdeal.main_v1_2) = v2 c
          ∧ r.2.mem ((c.tc : Thread Cert.MixBwdIdeal.nD Cert.MixBwdIdeal.τ).loc Cert.MixBwdIdeal.main_v1_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v117) = v0 c
          ∧ r.2.mem ((c.tc : Thread Cert.MixBwdRefIdeal.nD Cert.MixBwdRefIdeal.τ).loc Cert.MixBwdRefIdeal.main_v95) = v1 c
          ∧ r.2.mem ((c.tc : Thread Cert.MixBwdRefIdeal.nD Cert.MixBwdRefIdeal.τ).loc Cert.MixBwdRefIdeal.main_v74) = v2 c
          ∧ r.2.mem ((c.tc : Thread Cert.MixBwdRefIdeal.nD Cert.MixBwdRefIdeal.τ).loc Cert.MixBwdRefIdeal.main_v120) = v3 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4))

def preserves_DupBwd_DupBwdIdeal : Prop :=
  True

def algebraic_DupBwdIdeal_DupBwdRefIdeal [hDupBwdIdeal : Cert.DupBwdIdeal.Facts] [hDupBwdRefIdeal : Cert.DupBwdRefIdeal.Facts] : Prop :=
  ∀ (m : (ℓ : Loc Cert.DupBwdIdeal.nD Cert.DupBwdIdeal.τ Cert.DupBwdIdeal.sig) → Buf (Elt Ideal) ℓ) (g : Dev Cert.DupBwdIdeal.nD → PrngReg)
    (m' : (ℓ : Loc Cert.DupBwdRefIdeal.nD Cert.DupBwdRefIdeal.τ Cert.DupBwdRefIdeal.sig) → Buf (Elt Ideal) ℓ) (g' : Dev Cert.DupBwdRefIdeal.nD → PrngReg), Pre_DupBwdIdeal m →
    (∀ c : Dev Cert.DupBwdIdeal.nD,
      m' ((c.tc : Thread Cert.DupBwdRefIdeal.nD Cert.DupBwdRefIdeal.τ).loc Cert.DupBwdRefIdeal.main_arg0) = m ((c.tc : Thread Cert.DupBwdIdeal.nD Cert.DupBwdIdeal.τ).loc Cert.DupBwdIdeal.main_arg0)
      ∧ m' ((c.tc : Thread Cert.DupBwdRefIdeal.nD Cert.DupBwdRefIdeal.τ).loc Cert.DupBwdRefIdeal.main_arg1) = m ((c.tc : Thread Cert.DupBwdIdeal.nD Cert.DupBwdIdeal.τ).loc Cert.DupBwdIdeal.main_arg1)
      ∧ m' ((c.tc : Thread Cert.DupBwdRefIdeal.nD Cert.DupBwdRefIdeal.τ).loc Cert.DupBwdRefIdeal.main_arg2) = m ((c.tc : Thread Cert.DupBwdIdeal.nD Cert.DupBwdIdeal.τ).loc Cert.DupBwdIdeal.main_arg2)) →
    ∃ (v0 : (c : Dev Cert.DupBwdIdeal.nD) → Buf (Elt Ideal) ((c.tc : Thread Cert.DupBwdIdeal.nD Cert.DupBwdIdeal.τ).loc Cert.DupBwdIdeal.main_v4_0)),
      θ_run (Cert.DupBwdIdeal.defs (F := Ideal)) (onTc (τ := Cert.DupBwdIdeal.τ) (Cert.DupBwdIdeal.main (F := Ideal))) ⟨m, fun _ => 0, g⟩ (fun r => ∀ c : Dev Cert.DupBwdIdeal.nD,
          r.2.mem ((c.tc : Thread Cert.DupBwdIdeal.nD Cert.DupBwdIdeal.τ).loc Cert.DupBwdIdeal.main_v4_0) = v0 c
          ∧ r.2.mem ((c.tc : Thread Cert.DupBwdIdeal.nD Cert.DupBwdIdeal.τ).loc Cert.DupBwdIdeal.main_arg0) = m ((c.tc : Thread Cert.DupBwdIdeal.nD Cert.DupBwdIdeal.τ).loc Cert.DupBwdIdeal.main_arg0)
          ∧ r.2.mem ((c.tc : Thread Cert.DupBwdIdeal.nD Cert.DupBwdIdeal.τ).loc Cert.DupBwdIdeal.main_arg1) = m ((c.tc : Thread Cert.DupBwdIdeal.nD Cert.DupBwdIdeal.τ).loc Cert.DupBwdIdeal.main_arg1)
          ∧ r.2.mem ((c.tc : Thread Cert.DupBwdIdeal.nD Cert.DupBwdIdeal.τ).loc Cert.DupBwdIdeal.main_arg2) = m ((c.tc : Thread Cert.DupBwdIdeal.nD Cert.DupBwdIdeal.τ).loc Cert.DupBwdIdeal.main_arg2))
      ∧ θ_run (Cert.DupBwdRefIdeal.defs (F := Ideal)) (onTc (τ := Cert.DupBwdRefIdeal.τ) (Cert.DupBwdRefIdeal.main (F := Ideal))) ⟨m', fun _ => 0, g'⟩ (fun r => ∀ c : Dev Cert.DupBwdRefIdeal.nD,
          r.2.mem ((c.tc : Thread Cert.DupBwdRefIdeal.nD Cert.DupBwdRefIdeal.τ).loc Cert.DupBwdRefIdeal.main_v12) = v0 c
          ∧ r.2.mem ((c.tc : Thread Cert.DupBwdRefIdeal.nD Cert.DupBwdRefIdeal.τ).loc Cert.DupBwdRefIdeal.main_arg0) = m' ((c.tc : Thread Cert.DupBwdRefIdeal.nD Cert.DupBwdRefIdeal.τ).loc Cert.DupBwdRefIdeal.main_arg0)
          ∧ r.2.mem ((c.tc : Thread Cert.DupBwdRefIdeal.nD Cert.DupBwdRefIdeal.τ).loc Cert.DupBwdRefIdeal.main_arg1) = m' ((c.tc : Thread Cert.DupBwdRefIdeal.nD Cert.DupBwdRefIdeal.τ).loc Cert.DupBwdRefIdeal.main_arg1)
          ∧ r.2.mem ((c.tc : Thread Cert.DupBwdRefIdeal.nD Cert.DupBwdRefIdeal.τ).loc Cert.DupBwdRefIdeal.main_arg2) = m' ((c.tc : Thread Cert.DupBwdRefIdeal.nD Cert.DupBwdRefIdeal.τ).loc Cert.DupBwdRefIdeal.main_arg2))

def preserves_SguBwd_SguBwdIdeal : Prop :=
  True

def algebraic_SguBwdIdeal_SguBwdRefIdeal_pre_sgu_bwd_finite [hSguBwdIdeal : Cert.SguBwdIdeal.Facts] [hSguBwdRefIdeal : Cert.SguBwdRefIdeal.Facts] [hPre_sgu_bwd_finite : Cert.Pre_sgu_bwd_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_sgu_bwd_finite m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v5_0)) (v1 : (c : Dev Cert.SguBwdIdeal.nD) → Buf (Elt Ideal) ((c.tc : Thread Cert.SguBwdIdeal.nD Cert.SguBwdIdeal.τ).loc Cert.SguBwdIdeal.main_v5_1)) (v2 : (c : Dev Cert.SguBwdIdeal.nD) → Buf (Elt Ideal) ((c.tc : Thread Cert.SguBwdIdeal.nD Cert.SguBwdIdeal.τ).loc Cert.SguBwdIdeal.main_v5_2)) (v3 : (c : Dev Cert.SguBwdIdeal.nD) → Buf (Elt Ideal) ((c.tc : Thread Cert.SguBwdIdeal.nD Cert.SguBwdIdeal.τ).loc Cert.SguBwdIdeal.main_v5_3)) (v4 : (c : Dev Cert.SguBwdIdeal.nD) → Buf (Elt Ideal) ((c.tc : Thread Cert.SguBwdIdeal.nD Cert.SguBwdIdeal.τ).loc Cert.SguBwdIdeal.main_v5_4)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v5_0) = v0 c
          ∧ r.2.mem ((c.tc : Thread Cert.SguBwdIdeal.nD Cert.SguBwdIdeal.τ).loc Cert.SguBwdIdeal.main_v5_1) = v1 c
          ∧ r.2.mem ((c.tc : Thread Cert.SguBwdIdeal.nD Cert.SguBwdIdeal.τ).loc Cert.SguBwdIdeal.main_v5_2) = v2 c
          ∧ r.2.mem ((c.tc : Thread Cert.SguBwdIdeal.nD Cert.SguBwdIdeal.τ).loc Cert.SguBwdIdeal.main_v5_3) = v3 c
          ∧ r.2.mem ((c.tc : Thread Cert.SguBwdIdeal.nD Cert.SguBwdIdeal.τ).loc Cert.SguBwdIdeal.main_v5_4) = v4 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v87) = v0 c
          ∧ r.2.mem ((c.tc : Thread Cert.SguBwdRefIdeal.nD Cert.SguBwdRefIdeal.τ).loc Cert.SguBwdRefIdeal.main_v53) = v1 c
          ∧ r.2.mem ((c.tc : Thread Cert.SguBwdRefIdeal.nD Cert.SguBwdRefIdeal.τ).loc Cert.SguBwdRefIdeal.main_v48) = v2 c
          ∧ r.2.mem ((c.tc : Thread Cert.SguBwdRefIdeal.nD Cert.SguBwdRefIdeal.τ).loc Cert.SguBwdRefIdeal.main_v88) = v3 c
          ∧ r.2.mem ((c.tc : Thread Cert.SguBwdRefIdeal.nD Cert.SguBwdRefIdeal.τ).loc Cert.SguBwdRefIdeal.main_v89) = v4 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5))

def preserves_ConvBwdB_ConvBwdBIdeal : Prop :=
  True

def algebraic_ConvBwdBIdeal_ConvBwdBRefIdeal_pre_conv_bwd2_finite [hConvBwdBIdeal : Cert.ConvBwdBIdeal.Facts] [hConvBwdBRefIdeal : Cert.ConvBwdBRefIdeal.Facts] [hPre_conv_bwd2_finite : Cert.Pre_conv_bwd2_finite.Facts] : Prop :=
  ∀ (m : (ℓ : Loc Cert.ConvBwdBIdeal.nD Cert.ConvBwdBIdeal.τ Cert.ConvBwdBIdeal.sig) → Buf (Elt Ideal) ℓ) (g : Dev Cert.ConvBwdBIdeal.nD → PrngReg)
    (m' : (ℓ : Loc Cert.ConvBwdBRefIdeal.nD Cert.ConvBwdBRefIdeal.τ Cert.ConvBwdBRefIdeal.sig) → Buf (Elt Ideal) ℓ) (g' : Dev Cert.ConvBwdBRefIdeal.nD → PrngReg), Pre_ConvBwdBIdeal_conv_bwd2_finite m →
    (∀ c : Dev Cert.ConvBwdBIdeal.nD,
      m' ((c.tc : Thread Cert.ConvBwdBRefIdeal.nD Cert.ConvBwdBRefIdeal.τ).loc Cert.ConvBwdBRefIdeal.main_arg0) = m ((c.tc : Thread Cert.ConvBwdBIdeal.nD Cert.ConvBwdBIdeal.τ).loc Cert.ConvBwdBIdeal.main_arg0)
      ∧ m' ((c.tc : Thread Cert.ConvBwdBRefIdeal.nD Cert.ConvBwdBRefIdeal.τ).loc Cert.ConvBwdBRefIdeal.main_arg1) = m ((c.tc : Thread Cert.ConvBwdBIdeal.nD Cert.ConvBwdBIdeal.τ).loc Cert.ConvBwdBIdeal.main_arg1)
      ∧ m' ((c.tc : Thread Cert.ConvBwdBRefIdeal.nD Cert.ConvBwdBRefIdeal.τ).loc Cert.ConvBwdBRefIdeal.main_arg2) = m ((c.tc : Thread Cert.ConvBwdBIdeal.nD Cert.ConvBwdBIdeal.τ).loc Cert.ConvBwdBIdeal.main_arg2)) →
    ∃ (v0 : (c : Dev Cert.ConvBwdBIdeal.nD) → Buf (Elt Ideal) ((c.tc : Thread Cert.ConvBwdBIdeal.nD Cert.ConvBwdBIdeal.τ).loc Cert.ConvBwdBIdeal.main_v1_0)),
      θ_run (Cert.ConvBwdBIdeal.defs (F := Ideal)) (onTc (τ := Cert.ConvBwdBIdeal.τ) (Cert.ConvBwdBIdeal.main (F := Ideal))) ⟨m, fun _ => 0, g⟩ (fun r => ∀ c : Dev Cert.ConvBwdBIdeal.nD,
          r.2.mem ((c.tc : Thread Cert.ConvBwdBIdeal.nD Cert.ConvBwdBIdeal.τ).loc Cert.ConvBwdBIdeal.main_v1_0) = v0 c
          ∧ r.2.mem ((c.tc : Thread Cert.ConvBwdBIdeal.nD Cert.ConvBwdBIdeal.τ).loc Cert.ConvBwdBIdeal.main_arg0) = m ((c.tc : Thread Cert.ConvBwdBIdeal.nD Cert.ConvBwdBIdeal.τ).loc Cert.ConvBwdBIdeal.main_arg0)
          ∧ r.2.mem ((c.tc : Thread Cert.ConvBwdBIdeal.nD Cert.ConvBwdBIdeal.τ).loc Cert.ConvBwdBIdeal.main_arg1) = m ((c.tc : Thread Cert.ConvBwdBIdeal.nD Cert.ConvBwdBIdeal.τ).loc Cert.ConvBwdBIdeal.main_arg1)
          ∧ r.2.mem ((c.tc : Thread Cert.ConvBwdBIdeal.nD Cert.ConvBwdBIdeal.τ).loc Cert.ConvBwdBIdeal.main_arg2) = m ((c.tc : Thread Cert.ConvBwdBIdeal.nD Cert.ConvBwdBIdeal.τ).loc Cert.ConvBwdBIdeal.main_arg2))
      ∧ θ_run (Cert.ConvBwdBRefIdeal.defs (F := Ideal)) (onTc (τ := Cert.ConvBwdBRefIdeal.τ) (Cert.ConvBwdBRefIdeal.main (F := Ideal))) ⟨m', fun _ => 0, g'⟩ (fun r => ∀ c : Dev Cert.ConvBwdBRefIdeal.nD,
          r.2.mem ((c.tc : Thread Cert.ConvBwdBRefIdeal.nD Cert.ConvBwdBRefIdeal.τ).loc Cert.ConvBwdBRefIdeal.main_v363) = v0 c
          ∧ r.2.mem ((c.tc : Thread Cert.ConvBwdBRefIdeal.nD Cert.ConvBwdBRefIdeal.τ).loc Cert.ConvBwdBRefIdeal.main_arg0) = m' ((c.tc : Thread Cert.ConvBwdBRefIdeal.nD Cert.ConvBwdBRefIdeal.τ).loc Cert.ConvBwdBRefIdeal.main_arg0)
          ∧ r.2.mem ((c.tc : Thread Cert.ConvBwdBRefIdeal.nD Cert.ConvBwdBRefIdeal.τ).loc Cert.ConvBwdBRefIdeal.main_arg1) = m' ((c.tc : Thread Cert.ConvBwdBRefIdeal.nD Cert.ConvBwdBRefIdeal.τ).loc Cert.ConvBwdBRefIdeal.main_arg1)
          ∧ r.2.mem ((c.tc : Thread Cert.ConvBwdBRefIdeal.nD Cert.ConvBwdBRefIdeal.τ).loc Cert.ConvBwdBRefIdeal.main_arg2) = m' ((c.tc : Thread Cert.ConvBwdBRefIdeal.nD Cert.ConvBwdBRefIdeal.τ).loc Cert.ConvBwdBRefIdeal.main_arg2))

def preserves_ConvBwdA_ConvBwdAIdeal : Prop :=
  True

def algebraic_ConvBwdAIdeal_ConvBwdARefIdeal_pre_conv_bwd1_finite [hConvBwdAIdeal : Cert.ConvBwdAIdeal.Facts] [hConvBwdARefIdeal : Cert.ConvBwdARefIdeal.Facts] [hPre_conv_bwd1_finite : Cert.Pre_conv_bwd1_finite.Facts] : Prop :=
  ∀ (m : (ℓ : Loc Cert.ConvBwdAIdeal.nD Cert.ConvBwdAIdeal.τ Cert.ConvBwdAIdeal.sig) → Buf (Elt Ideal) ℓ) (g : Dev Cert.ConvBwdAIdeal.nD → PrngReg)
    (m' : (ℓ : Loc Cert.ConvBwdARefIdeal.nD Cert.ConvBwdARefIdeal.τ Cert.ConvBwdARefIdeal.sig) → Buf (Elt Ideal) ℓ) (g' : Dev Cert.ConvBwdARefIdeal.nD → PrngReg), Pre_ConvBwdAIdeal_conv_bwd1_finite m →
    (∀ c : Dev Cert.ConvBwdAIdeal.nD,
      m' ((c.tc : Thread Cert.ConvBwdARefIdeal.nD Cert.ConvBwdARefIdeal.τ).loc Cert.ConvBwdARefIdeal.main_arg0) = m ((c.tc : Thread Cert.ConvBwdAIdeal.nD Cert.ConvBwdAIdeal.τ).loc Cert.ConvBwdAIdeal.main_arg0)
      ∧ m' ((c.tc : Thread Cert.ConvBwdARefIdeal.nD Cert.ConvBwdARefIdeal.τ).loc Cert.ConvBwdARefIdeal.main_arg1) = m ((c.tc : Thread Cert.ConvBwdAIdeal.nD Cert.ConvBwdAIdeal.τ).loc Cert.ConvBwdAIdeal.main_arg1)
      ∧ m' ((c.tc : Thread Cert.ConvBwdARefIdeal.nD Cert.ConvBwdARefIdeal.τ).loc Cert.ConvBwdARefIdeal.main_arg2) = m ((c.tc : Thread Cert.ConvBwdAIdeal.nD Cert.ConvBwdAIdeal.τ).loc Cert.ConvBwdAIdeal.main_arg2)
      ∧ m' ((c.tc : Thread Cert.ConvBwdARefIdeal.nD Cert.ConvBwdARefIdeal.τ).loc Cert.ConvBwdARefIdeal.main_arg3) = m ((c.tc : Thread Cert.ConvBwdAIdeal.nD Cert.ConvBwdAIdeal.τ).loc Cert.ConvBwdAIdeal.main_arg3)
      ∧ m' ((c.tc : Thread Cert.ConvBwdARefIdeal.nD Cert.ConvBwdARefIdeal.τ).loc Cert.ConvBwdARefIdeal.main_arg4) = m ((c.tc : Thread Cert.ConvBwdAIdeal.nD Cert.ConvBwdAIdeal.τ).loc Cert.ConvBwdAIdeal.main_arg4)
      ∧ m' ((c.tc : Thread Cert.ConvBwdARefIdeal.nD Cert.ConvBwdARefIdeal.τ).loc Cert.ConvBwdARefIdeal.main_arg5) = m ((c.tc : Thread Cert.ConvBwdAIdeal.nD Cert.ConvBwdAIdeal.τ).loc Cert.ConvBwdAIdeal.main_arg5)) →
    ∃ (v0 : (c : Dev Cert.ConvBwdAIdeal.nD) → Buf (Elt Ideal) ((c.tc : Thread Cert.ConvBwdAIdeal.nD Cert.ConvBwdAIdeal.τ).loc Cert.ConvBwdAIdeal.main_v4_0)) (v1 : (c : Dev Cert.ConvBwdAIdeal.nD) → Buf (Elt Ideal) ((c.tc : Thread Cert.ConvBwdAIdeal.nD Cert.ConvBwdAIdeal.τ).loc Cert.ConvBwdAIdeal.main_v4_1)) (v2 : (c : Dev Cert.ConvBwdAIdeal.nD) → Buf (Elt Ideal) ((c.tc : Thread Cert.ConvBwdAIdeal.nD Cert.ConvBwdAIdeal.τ).loc Cert.ConvBwdAIdeal.main_v4_2)) (v3 : (c : Dev Cert.ConvBwdAIdeal.nD) → Buf (Elt Ideal) ((c.tc : Thread Cert.ConvBwdAIdeal.nD Cert.ConvBwdAIdeal.τ).loc Cert.ConvBwdAIdeal.main_v4_3)) (v4 : (c : Dev Cert.ConvBwdAIdeal.nD) → Buf (Elt Ideal) ((c.tc : Thread Cert.ConvBwdAIdeal.nD Cert.ConvBwdAIdeal.τ).loc Cert.ConvBwdAIdeal.main_v4_4)),
      θ_run (Cert.ConvBwdAIdeal.defs (F := Ideal)) (onTc (τ := Cert.ConvBwdAIdeal.τ) (Cert.ConvBwdAIdeal.main (F := Ideal))) ⟨m, fun _ => 0, g⟩ (fun r => ∀ c : Dev Cert.ConvBwdAIdeal.nD,
          r.2.mem ((c.tc : Thread Cert.ConvBwdAIdeal.nD Cert.ConvBwdAIdeal.τ).loc Cert.ConvBwdAIdeal.main_v4_0) = v0 c
          ∧ r.2.mem ((c.tc : Thread Cert.ConvBwdAIdeal.nD Cert.ConvBwdAIdeal.τ).loc Cert.ConvBwdAIdeal.main_v4_1) = v1 c
          ∧ r.2.mem ((c.tc : Thread Cert.ConvBwdAIdeal.nD Cert.ConvBwdAIdeal.τ).loc Cert.ConvBwdAIdeal.main_v4_2) = v2 c
          ∧ r.2.mem ((c.tc : Thread Cert.ConvBwdAIdeal.nD Cert.ConvBwdAIdeal.τ).loc Cert.ConvBwdAIdeal.main_v4_3) = v3 c
          ∧ r.2.mem ((c.tc : Thread Cert.ConvBwdAIdeal.nD Cert.ConvBwdAIdeal.τ).loc Cert.ConvBwdAIdeal.main_v4_4) = v4 c
          ∧ r.2.mem ((c.tc : Thread Cert.ConvBwdAIdeal.nD Cert.ConvBwdAIdeal.τ).loc Cert.ConvBwdAIdeal.main_arg0) = m ((c.tc : Thread Cert.ConvBwdAIdeal.nD Cert.ConvBwdAIdeal.τ).loc Cert.ConvBwdAIdeal.main_arg0)
          ∧ r.2.mem ((c.tc : Thread Cert.ConvBwdAIdeal.nD Cert.ConvBwdAIdeal.τ).loc Cert.ConvBwdAIdeal.main_arg1) = m ((c.tc : Thread Cert.ConvBwdAIdeal.nD Cert.ConvBwdAIdeal.τ).loc Cert.ConvBwdAIdeal.main_arg1)
          ∧ r.2.mem ((c.tc : Thread Cert.ConvBwdAIdeal.nD Cert.ConvBwdAIdeal.τ).loc Cert.ConvBwdAIdeal.main_arg2) = m ((c.tc : Thread Cert.ConvBwdAIdeal.nD Cert.ConvBwdAIdeal.τ).loc Cert.ConvBwdAIdeal.main_arg2)
          ∧ r.2.mem ((c.tc : Thread Cert.ConvBwdAIdeal.nD Cert.ConvBwdAIdeal.τ).loc Cert.ConvBwdAIdeal.main_arg3) = m ((c.tc : Thread Cert.ConvBwdAIdeal.nD Cert.ConvBwdAIdeal.τ).loc Cert.ConvBwdAIdeal.main_arg3)
          ∧ r.2.mem ((c.tc : Thread Cert.ConvBwdAIdeal.nD Cert.ConvBwdAIdeal.τ).loc Cert.ConvBwdAIdeal.main_arg4) = m ((c.tc : Thread Cert.ConvBwdAIdeal.nD Cert.ConvBwdAIdeal.τ).loc Cert.ConvBwdAIdeal.main_arg4)
          ∧ r.2.mem ((c.tc : Thread Cert.ConvBwdAIdeal.nD Cert.ConvBwdAIdeal.τ).loc Cert.ConvBwdAIdeal.main_arg5) = m ((c.tc : Thread Cert.ConvBwdAIdeal.nD Cert.ConvBwdAIdeal.τ).loc Cert.ConvBwdAIdeal.main_arg5))
      ∧ θ_run (Cert.ConvBwdARefIdeal.defs (F := Ideal)) (onTc (τ := Cert.ConvBwdARefIdeal.τ) (Cert.ConvBwdARefIdeal.main (F := Ideal))) ⟨m', fun _ => 0, g'⟩ (fun r => ∀ c : Dev Cert.ConvBwdARefIdeal.nD,
          r.2.mem ((c.tc : Thread Cert.ConvBwdARefIdeal.nD Cert.ConvBwdARefIdeal.τ).loc Cert.ConvBwdARefIdeal.main_v288) = v0 c
          ∧ r.2.mem ((c.tc : Thread Cert.ConvBwdARefIdeal.nD Cert.ConvBwdARefIdeal.τ).loc Cert.ConvBwdARefIdeal.main_v508) = v1 c
          ∧ r.2.mem ((c.tc : Thread Cert.ConvBwdARefIdeal.nD Cert.ConvBwdARefIdeal.τ).loc Cert.ConvBwdARefIdeal.main_v509) = v2 c
          ∧ r.2.mem ((c.tc : Thread Cert.ConvBwdARefIdeal.nD Cert.ConvBwdARefIdeal.τ).loc Cert.ConvBwdARefIdeal.main_v510) = v3 c
          ∧ r.2.mem ((c.tc : Thread Cert.ConvBwdARefIdeal.nD Cert.ConvBwdARefIdeal.τ).loc Cert.ConvBwdARefIdeal.main_v511) = v4 c
          ∧ r.2.mem ((c.tc : Thread Cert.ConvBwdARefIdeal.nD Cert.ConvBwdARefIdeal.τ).loc Cert.ConvBwdARefIdeal.main_arg0) = m' ((c.tc : Thread Cert.ConvBwdARefIdeal.nD Cert.ConvBwdARefIdeal.τ).loc Cert.ConvBwdARefIdeal.main_arg0)
          ∧ r.2.mem ((c.tc : Thread Cert.ConvBwdARefIdeal.nD Cert.ConvBwdARefIdeal.τ).loc Cert.ConvBwdARefIdeal.main_arg1) = m' ((c.tc : Thread Cert.ConvBwdARefIdeal.nD Cert.ConvBwdARefIdeal.τ).loc Cert.ConvBwdARefIdeal.main_arg1)
          ∧ r.2.mem ((c.tc : Thread Cert.ConvBwdARefIdeal.nD Cert.ConvBwdARefIdeal.τ).loc Cert.ConvBwdARefIdeal.main_arg2) = m' ((c.tc : Thread Cert.ConvBwdARefIdeal.nD Cert.ConvBwdARefIdeal.τ).loc Cert.ConvBwdARefIdeal.main_arg2)
          ∧ r.2.mem ((c.tc : Thread Cert.ConvBwdARefIdeal.nD Cert.ConvBwdARefIdeal.τ).loc Cert.ConvBwdARefIdeal.main_arg3) = m' ((c.tc : Thread Cert.ConvBwdARefIdeal.nD Cert.ConvBwdARefIdeal.τ).loc Cert.ConvBwdARefIdeal.main_arg3)
          ∧ r.2.mem ((c.tc : Thread Cert.ConvBwdARefIdeal.nD Cert.ConvBwdARefIdeal.τ).loc Cert.ConvBwdARefIdeal.main_arg4) = m' ((c.tc : Thread Cert.ConvBwdARefIdeal.nD Cert.ConvBwdARefIdeal.τ).loc Cert.ConvBwdARefIdeal.main_arg4)
          ∧ r.2.mem ((c.tc : Thread Cert.ConvBwdARefIdeal.nD Cert.ConvBwdARefIdeal.τ).loc Cert.ConvBwdARefIdeal.main_arg5) = m' ((c.tc : Thread Cert.ConvBwdARefIdeal.nD Cert.ConvBwdARefIdeal.τ).loc Cert.ConvBwdARefIdeal.main_arg5))

def preserves_KvBwd_KvBwdIdeal : Prop :=
  True

def algebraic_KvBwdIdeal_KvBwdRefIdeal_pre_attn_kv_finite [hKvBwdIdeal : Cert.KvBwdIdeal.Facts] [hKvBwdRefIdeal : Cert.KvBwdRefIdeal.Facts] [hPre_attn_kv_finite : Cert.Pre_attn_kv_finite.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal_attn_kv_finite m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)
      ∧ m' ((c.tc : Thread Cert.KvBwdRefIdeal.nD Cert.KvBwdRefIdeal.τ).loc Cert.KvBwdRefIdeal.main_arg4) = m ((c.tc : Thread Cert.KvBwdIdeal.nD Cert.KvBwdIdeal.τ).loc Cert.KvBwdIdeal.main_arg4)
      ∧ m' ((c.tc : Thread Cert.KvBwdRefIdeal.nD Cert.KvBwdRefIdeal.τ).loc Cert.KvBwdRefIdeal.main_arg5) = m ((c.tc : Thread Cert.KvBwdIdeal.nD Cert.KvBwdIdeal.τ).loc Cert.KvBwdIdeal.main_arg5)) →
    ∃ (v0 : (c : Dev Cert.KvBwdIdeal.nD) → Buf (Elt Ideal) ((c.tc : Thread Cert.KvBwdIdeal.nD Cert.KvBwdIdeal.τ).loc Cert.KvBwdIdeal.main_v3_0)) (v1 : (c : Dev Cert.KvBwdIdeal.nD) → Buf (Elt Ideal) ((c.tc : Thread Cert.KvBwdIdeal.nD Cert.KvBwdIdeal.τ).loc Cert.KvBwdIdeal.main_v3_1)) (v2 : (c : Dev Cert.KvBwdIdeal.nD) → Buf (Elt Ideal) ((c.tc : Thread Cert.KvBwdIdeal.nD Cert.KvBwdIdeal.τ).loc Cert.KvBwdIdeal.main_v3_2)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v3_0) = v0 c
          ∧ r.2.mem ((c.tc : Thread Cert.KvBwdIdeal.nD Cert.KvBwdIdeal.τ).loc Cert.KvBwdIdeal.main_v3_1) = v1 c
          ∧ r.2.mem ((c.tc : Thread Cert.KvBwdIdeal.nD Cert.KvBwdIdeal.τ).loc Cert.KvBwdIdeal.main_v3_2) = v2 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
          ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v79) = v0 c
          ∧ r.2.mem ((c.tc : Thread Cert.KvBwdRefIdeal.nD Cert.KvBwdRefIdeal.τ).loc Cert.KvBwdRefIdeal.main_v82) = v1 c
          ∧ r.2.mem ((c.tc : Thread Cert.KvBwdRefIdeal.nD Cert.KvBwdRefIdeal.τ).loc Cert.KvBwdRefIdeal.main_v83) = v2 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3)
          ∧ r.2.mem ((c.tc : Thread Cert.KvBwdRefIdeal.nD Cert.KvBwdRefIdeal.τ).loc Cert.KvBwdRefIdeal.main_arg4) = m' ((c.tc : Thread Cert.KvBwdRefIdeal.nD Cert.KvBwdRefIdeal.τ).loc Cert.KvBwdRefIdeal.main_arg4)
          ∧ r.2.mem ((c.tc : Thread Cert.KvBwdRefIdeal.nD Cert.KvBwdRefIdeal.τ).loc Cert.KvBwdRefIdeal.main_arg5) = m' ((c.tc : Thread Cert.KvBwdRefIdeal.nD Cert.KvBwdRefIdeal.τ).loc Cert.KvBwdRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v6)) (v1 : (c : Dev Cert.LossIdeal.nD) → Buf (Elt Ideal) ((c.tc : Thread Cert.LossIdeal.nD Cert.LossIdeal.τ).loc Cert.LossIdeal.main_v3_0)) (v2 : (c : Dev Cert.LossIdeal.nD) → Buf (Elt Ideal) ((c.tc : Thread Cert.LossIdeal.nD Cert.LossIdeal.τ).loc Cert.LossIdeal.main_v3_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6) = v0 c
          ∧ r.2.mem ((c.tc : Thread Cert.LossIdeal.nD Cert.LossIdeal.τ).loc Cert.LossIdeal.main_v3_0) = v1 c
          ∧ r.2.mem ((c.tc : Thread Cert.LossIdeal.nD Cert.LossIdeal.τ).loc Cert.LossIdeal.main_v3_1) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v10) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_v17) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_AttnBwd_AttnBwdIdeal : Prop :=
  IdealRules.named_const.Statement Cert.AttnBwdIdeal.κ "mask" .f32 0xF149F2CA#32 ⊥

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)
      ∧ m' ((c.tc : Thread Cert.AttnBwdRefIdeal.nD Cert.AttnBwdRefIdeal.τ).loc Cert.AttnBwdRefIdeal.main_arg6) = m ((c.tc : Thread Cert.AttnBwdIdeal.nD Cert.AttnBwdIdeal.τ).loc Cert.AttnBwdIdeal.main_arg6)) →
    ∃ (v0 : (c : Dev Cert.AttnBwdIdeal.nD) → Buf (Elt Ideal) ((c.tc : Thread Cert.AttnBwdIdeal.nD Cert.AttnBwdIdeal.τ).loc Cert.AttnBwdIdeal.main_v12_0)) (v1 : (c : Dev Cert.AttnBwdIdeal.nD) → Buf (Elt Ideal) ((c.tc : Thread Cert.AttnBwdIdeal.nD Cert.AttnBwdIdeal.τ).loc Cert.AttnBwdIdeal.main_v12_1)) (v2 : (c : Dev Cert.AttnBwdIdeal.nD) → Buf (Elt Ideal) ((c.tc : Thread Cert.AttnBwdIdeal.nD Cert.AttnBwdIdeal.τ).loc Cert.AttnBwdIdeal.main_v12_2)) (v3 : (c : Dev Cert.AttnBwdIdeal.nD) → Buf (Elt Ideal) ((c.tc : Thread Cert.AttnBwdIdeal.nD Cert.AttnBwdIdeal.τ).loc Cert.AttnBwdIdeal.main_v12_3)) (v4 : (c : Dev Cert.AttnBwdIdeal.nD) → Buf (Elt Ideal) ((c.tc : Thread Cert.AttnBwdIdeal.nD Cert.AttnBwdIdeal.τ).loc Cert.AttnBwdIdeal.main_v12_4)) (v5 : (c : Dev Cert.AttnBwdIdeal.nD) → Buf (Elt Ideal) ((c.tc : Thread Cert.AttnBwdIdeal.nD Cert.AttnBwdIdeal.τ).loc Cert.AttnBwdIdeal.main_v12_5)) (v6 : (c : Dev Cert.AttnBwdIdeal.nD) → Buf (Elt Ideal) ((c.tc : Thread Cert.AttnBwdIdeal.nD Cert.AttnBwdIdeal.τ).loc Cert.AttnBwdIdeal.main_v12_6)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v12_0) = v0 c
          ∧ r.2.mem ((c.tc : Thread Cert.AttnBwdIdeal.nD Cert.AttnBwdIdeal.τ).loc Cert.AttnBwdIdeal.main_v12_1) = v1 c
          ∧ r.2.mem ((c.tc : Thread Cert.AttnBwdIdeal.nD Cert.AttnBwdIdeal.τ).loc Cert.AttnBwdIdeal.main_v12_2) = v2 c
          ∧ r.2.mem ((c.tc : Thread Cert.AttnBwdIdeal.nD Cert.AttnBwdIdeal.τ).loc Cert.AttnBwdIdeal.main_v12_3) = v3 c
          ∧ r.2.mem ((c.tc : Thread Cert.AttnBwdIdeal.nD Cert.AttnBwdIdeal.τ).loc Cert.AttnBwdIdeal.main_v12_4) = v4 c
          ∧ r.2.mem ((c.tc : Thread Cert.AttnBwdIdeal.nD Cert.AttnBwdIdeal.τ).loc Cert.AttnBwdIdeal.main_v12_5) = v5 c
          ∧ r.2.mem ((c.tc : Thread Cert.AttnBwdIdeal.nD Cert.AttnBwdIdeal.τ).loc Cert.AttnBwdIdeal.main_v12_6) = v6 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
          ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v192) = v0 c
          ∧ r.2.mem ((c.tc : Thread Cert.AttnBwdRefIdeal.nD Cert.AttnBwdRefIdeal.τ).loc Cert.AttnBwdRefIdeal.main_v195) = v1 c
          ∧ r.2.mem ((c.tc : Thread Cert.AttnBwdRefIdeal.nD Cert.AttnBwdRefIdeal.τ).loc Cert.AttnBwdRefIdeal.main_v198) = v2 c
          ∧ r.2.mem ((c.tc : Thread Cert.AttnBwdRefIdeal.nD Cert.AttnBwdRefIdeal.τ).loc Cert.AttnBwdRefIdeal.main_v201) = v3 c
          ∧ r.2.mem ((c.tc : Thread Cert.AttnBwdRefIdeal.nD Cert.AttnBwdRefIdeal.τ).loc Cert.AttnBwdRefIdeal.main_v204) = v4 c
          ∧ r.2.mem ((c.tc : Thread Cert.AttnBwdRefIdeal.nD Cert.AttnBwdRefIdeal.τ).loc Cert.AttnBwdRefIdeal.main_v205) = v5 c
          ∧ r.2.mem ((c.tc : Thread Cert.AttnBwdRefIdeal.nD Cert.AttnBwdRefIdeal.τ).loc Cert.AttnBwdRefIdeal.main_v207) = v6 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5)
          ∧ r.2.mem ((c.tc : Thread Cert.AttnBwdRefIdeal.nD Cert.AttnBwdRefIdeal.τ).loc Cert.AttnBwdRefIdeal.main_arg6) = m' ((c.tc : Thread Cert.AttnBwdRefIdeal.nD Cert.AttnBwdRefIdeal.τ).loc Cert.AttnBwdRefIdeal.main_arg6))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)) →
    ∃ (v0 : (c : Dev Cert.MixFwdIdeal.nD) → Buf (Elt Ideal) ((c.tc : Thread Cert.MixFwdIdeal.nD Cert.MixFwdIdeal.τ).loc Cert.MixFwdIdeal.main_v1_0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v1_0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v43) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v4_0)) (v1 : (c : Dev Cert.UpFwdIdeal.nD) → Buf (Elt Ideal) ((c.tc : Thread Cert.UpFwdIdeal.nD Cert.UpFwdIdeal.τ).loc Cert.UpFwdIdeal.main_v4_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4_0) = v0 c
          ∧ r.2.mem ((c.tc : Thread Cert.UpFwdIdeal.nD Cert.UpFwdIdeal.τ).loc Cert.UpFwdIdeal.main_v4_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v1) = v0 c
          ∧ r.2.mem ((c.tc : Thread Cert.UpFwdRefIdeal.nD Cert.UpFwdRefIdeal.τ).loc Cert.UpFwdRefIdeal.main_v4) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v4_0)) (v1 : (c : Dev Cert.OutFwdIdeal.nD) → Buf (Elt Ideal) ((c.tc : Thread Cert.OutFwdIdeal.nD Cert.OutFwdIdeal.τ).loc Cert.OutFwdIdeal.main_v4_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v4_0) = v0 c
          ∧ r.2.mem ((c.tc : Thread Cert.OutFwdIdeal.nD Cert.OutFwdIdeal.τ).loc Cert.OutFwdIdeal.main_v4_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_v15) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)
      ∧ m' ((c.tc : Thread Cert.AttnFwdRefIdeal.nD Cert.AttnFwdRefIdeal.τ).loc Cert.AttnFwdRefIdeal.main_arg5) = m ((c.tc : Thread Cert.AttnFwdIdeal.nD Cert.AttnFwdIdeal.τ).loc Cert.AttnFwdIdeal.main_arg5)) →
    ∃ (v0 : (c : Dev Cert.AttnFwdIdeal.nD) → Buf (Elt Ideal) ((c.tc : Thread Cert.AttnFwdIdeal.nD Cert.AttnFwdIdeal.τ).loc Cert.AttnFwdIdeal.main_v12)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v12) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4)
          ∧ r.2.mem ((c.tc : Thread Cert.AttnFwdIdeal.nD Cert.AttnFwdIdeal.τ).loc Cert.AttnFwdIdeal.main_arg5) = m ((c.tc : Thread Cert.AttnFwdIdeal.nD Cert.AttnFwdIdeal.τ).loc Cert.AttnFwdIdeal.main_arg5))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v93) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4)
          ∧ r.2.mem ((c.tc : Thread Cert.AttnFwdRefIdeal.nD Cert.AttnFwdRefIdeal.τ).loc Cert.AttnFwdRefIdeal.main_arg5) = m' ((c.tc : Thread Cert.AttnFwdRefIdeal.nD Cert.AttnFwdRefIdeal.τ).loc Cert.AttnFwdRefIdeal.main_arg5))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v5_0)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v5_0) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v38) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v4_0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v4_0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v253) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v2_0)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v2_0) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v5) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_SumTwo_SumTwoIdeal : Prop :=
  True

def algebraic_SumTwoIdeal_SumTwoRefIdeal [hSumTwoIdeal : Cert.SumTwoIdeal.Facts] [hSumTwoRefIdeal : Cert.SumTwoRefIdeal.Facts] : Prop :=
  ∀ (m : (ℓ : Loc Cert.SumTwoIdeal.nD Cert.SumTwoIdeal.τ Cert.SumTwoIdeal.sig) → Buf (Elt Ideal) ℓ) (g : Dev Cert.SumTwoIdeal.nD → PrngReg)
    (m' : (ℓ : Loc Cert.SumTwoRefIdeal.nD Cert.SumTwoRefIdeal.τ Cert.SumTwoRefIdeal.sig) → Buf (Elt Ideal) ℓ) (g' : Dev Cert.SumTwoRefIdeal.nD → PrngReg), Pre_SumTwoIdeal m →
    (∀ c : Dev Cert.SumTwoIdeal.nD,
      m' ((c.tc : Thread Cert.SumTwoRefIdeal.nD Cert.SumTwoRefIdeal.τ).loc Cert.SumTwoRefIdeal.main_arg0) = m ((c.tc : Thread Cert.SumTwoIdeal.nD Cert.SumTwoIdeal.τ).loc Cert.SumTwoIdeal.main_arg0)
      ∧ m' ((c.tc : Thread Cert.SumTwoRefIdeal.nD Cert.SumTwoRefIdeal.τ).loc Cert.SumTwoRefIdeal.main_arg1) = m ((c.tc : Thread Cert.SumTwoIdeal.nD Cert.SumTwoIdeal.τ).loc Cert.SumTwoIdeal.main_arg1)) →
    ∃ (v0 : (c : Dev Cert.SumTwoIdeal.nD) → Buf (Elt Ideal) ((c.tc : Thread Cert.SumTwoIdeal.nD Cert.SumTwoIdeal.τ).loc Cert.SumTwoIdeal.main_v1_0)),
      θ_run (Cert.SumTwoIdeal.defs (F := Ideal)) (onTc (τ := Cert.SumTwoIdeal.τ) (Cert.SumTwoIdeal.main (F := Ideal))) ⟨m, fun _ => 0, g⟩ (fun r => ∀ c : Dev Cert.SumTwoIdeal.nD,
          r.2.mem ((c.tc : Thread Cert.SumTwoIdeal.nD Cert.SumTwoIdeal.τ).loc Cert.SumTwoIdeal.main_v1_0) = v0 c
          ∧ r.2.mem ((c.tc : Thread Cert.SumTwoIdeal.nD Cert.SumTwoIdeal.τ).loc Cert.SumTwoIdeal.main_arg0) = m ((c.tc : Thread Cert.SumTwoIdeal.nD Cert.SumTwoIdeal.τ).loc Cert.SumTwoIdeal.main_arg0)
          ∧ r.2.mem ((c.tc : Thread Cert.SumTwoIdeal.nD Cert.SumTwoIdeal.τ).loc Cert.SumTwoIdeal.main_arg1) = m ((c.tc : Thread Cert.SumTwoIdeal.nD Cert.SumTwoIdeal.τ).loc Cert.SumTwoIdeal.main_arg1))
      ∧ θ_run (Cert.SumTwoRefIdeal.defs (F := Ideal)) (onTc (τ := Cert.SumTwoRefIdeal.τ) (Cert.SumTwoRefIdeal.main (F := Ideal))) ⟨m', fun _ => 0, g'⟩ (fun r => ∀ c : Dev Cert.SumTwoRefIdeal.nD,
          r.2.mem ((c.tc : Thread Cert.SumTwoRefIdeal.nD Cert.SumTwoRefIdeal.τ).loc Cert.SumTwoRefIdeal.main_v0) = v0 c
          ∧ r.2.mem ((c.tc : Thread Cert.SumTwoRefIdeal.nD Cert.SumTwoRefIdeal.τ).loc Cert.SumTwoRefIdeal.main_arg0) = m' ((c.tc : Thread Cert.SumTwoRefIdeal.nD Cert.SumTwoRefIdeal.τ).loc Cert.SumTwoRefIdeal.main_arg0)
          ∧ r.2.mem ((c.tc : Thread Cert.SumTwoRefIdeal.nD Cert.SumTwoRefIdeal.τ).loc Cert.SumTwoRefIdeal.main_arg1) = m' ((c.tc : Thread Cert.SumTwoRefIdeal.nD Cert.SumTwoRefIdeal.τ).loc Cert.SumTwoRefIdeal.main_arg1))

def preserves_DhBwd_DhBwdIdeal : Prop :=
  True

def algebraic_DhBwdIdeal_DhBwdRefIdeal [hDhBwdIdeal : Cert.DhBwdIdeal.Facts] [hDhBwdRefIdeal : Cert.DhBwdRefIdeal.Facts] : Prop :=
  ∀ (m : (ℓ : Loc Cert.DhBwdIdeal.nD Cert.DhBwdIdeal.τ Cert.DhBwdIdeal.sig) → Buf (Elt Ideal) ℓ) (g : Dev Cert.DhBwdIdeal.nD → PrngReg)
    (m' : (ℓ : Loc Cert.DhBwdRefIdeal.nD Cert.DhBwdRefIdeal.τ Cert.DhBwdRefIdeal.sig) → Buf (Elt Ideal) ℓ) (g' : Dev Cert.DhBwdRefIdeal.nD → PrngReg), Pre_DhBwdIdeal m →
    (∀ c : Dev Cert.DhBwdIdeal.nD,
      m' ((c.tc : Thread Cert.DhBwdRefIdeal.nD Cert.DhBwdRefIdeal.τ).loc Cert.DhBwdRefIdeal.main_arg0) = m ((c.tc : Thread Cert.DhBwdIdeal.nD Cert.DhBwdIdeal.τ).loc Cert.DhBwdIdeal.main_arg0)
      ∧ m' ((c.tc : Thread Cert.DhBwdRefIdeal.nD Cert.DhBwdRefIdeal.τ).loc Cert.DhBwdRefIdeal.main_arg1) = m ((c.tc : Thread Cert.DhBwdIdeal.nD Cert.DhBwdIdeal.τ).loc Cert.DhBwdIdeal.main_arg1)) →
    ∃ (v0 : (c : Dev Cert.DhBwdIdeal.nD) → Buf (Elt Ideal) ((c.tc : Thread Cert.DhBwdIdeal.nD Cert.DhBwdIdeal.τ).loc Cert.DhBwdIdeal.main_v4_0)),
      θ_run (Cert.DhBwdIdeal.defs (F := Ideal)) (onTc (τ := Cert.DhBwdIdeal.τ) (Cert.DhBwdIdeal.main (F := Ideal))) ⟨m, fun _ => 0, g⟩ (fun r => ∀ c : Dev Cert.DhBwdIdeal.nD,
          r.2.mem ((c.tc : Thread Cert.DhBwdIdeal.nD Cert.DhBwdIdeal.τ).loc Cert.DhBwdIdeal.main_v4_0) = v0 c
          ∧ r.2.mem ((c.tc : Thread Cert.DhBwdIdeal.nD Cert.DhBwdIdeal.τ).loc Cert.DhBwdIdeal.main_arg0) = m ((c.tc : Thread Cert.DhBwdIdeal.nD Cert.DhBwdIdeal.τ).loc Cert.DhBwdIdeal.main_arg0)
          ∧ r.2.mem ((c.tc : Thread Cert.DhBwdIdeal.nD Cert.DhBwdIdeal.τ).loc Cert.DhBwdIdeal.main_arg1) = m ((c.tc : Thread Cert.DhBwdIdeal.nD Cert.DhBwdIdeal.τ).loc Cert.DhBwdIdeal.main_arg1))
      ∧ θ_run (Cert.DhBwdRefIdeal.defs (F := Ideal)) (onTc (τ := Cert.DhBwdRefIdeal.τ) (Cert.DhBwdRefIdeal.main (F := Ideal))) ⟨m', fun _ => 0, g'⟩ (fun r => ∀ c : Dev Cert.DhBwdRefIdeal.nD,
          r.2.mem ((c.tc : Thread Cert.DhBwdRefIdeal.nD Cert.DhBwdRefIdeal.τ).loc Cert.DhBwdRefIdeal.main_v2) = v0 c
          ∧ r.2.mem ((c.tc : Thread Cert.DhBwdRefIdeal.nD Cert.DhBwdRefIdeal.τ).loc Cert.DhBwdRefIdeal.main_arg0) = m' ((c.tc : Thread Cert.DhBwdRefIdeal.nD Cert.DhBwdRefIdeal.τ).loc Cert.DhBwdRefIdeal.main_arg0)
          ∧ r.2.mem ((c.tc : Thread Cert.DhBwdRefIdeal.nD Cert.DhBwdRefIdeal.τ).loc Cert.DhBwdRefIdeal.main_arg1) = m' ((c.tc : Thread Cert.DhBwdRefIdeal.nD Cert.DhBwdRefIdeal.τ).loc Cert.DhBwdRefIdeal.main_arg1))

def Claim : Prop :=
  ∃ (hRmsBwd : Cert.RmsBwd.Facts) (hRmsBwdIdeal : Cert.RmsBwdIdeal.Facts) (hRmsBwdRefIdeal : Cert.RmsBwdRefIdeal.Facts) (hMixBwd : Cert.MixBwd.Facts) (hMixBwdIdeal : Cert.MixBwdIdeal.Facts) (hMixBwdRefIdeal : Cert.MixBwdRefIdeal.Facts) (hDupBwd : Cert.DupBwd.Facts) (hDupBwdIdeal : Cert.DupBwdIdeal.Facts) (hDupBwdRefIdeal : Cert.DupBwdRefIdeal.Facts) (hSguBwd : Cert.SguBwd.Facts) (hSguBwdIdeal : Cert.SguBwdIdeal.Facts) (hSguBwdRefIdeal : Cert.SguBwdRefIdeal.Facts) (hConvBwdB : Cert.ConvBwdB.Facts) (hConvBwdBIdeal : Cert.ConvBwdBIdeal.Facts) (hConvBwdBRefIdeal : Cert.ConvBwdBRefIdeal.Facts) (hConvBwdA : Cert.ConvBwdA.Facts) (hConvBwdAIdeal : Cert.ConvBwdAIdeal.Facts) (hConvBwdARefIdeal : Cert.ConvBwdARefIdeal.Facts) (hKvBwd : Cert.KvBwd.Facts) (hKvBwdIdeal : Cert.KvBwdIdeal.Facts) (hKvBwdRefIdeal : Cert.KvBwdRefIdeal.Facts) (hLoss : Cert.Loss.Facts) (hLossIdeal : Cert.LossIdeal.Facts) (hLossRefIdeal : Cert.LossRefIdeal.Facts) (hAttnBwd : Cert.AttnBwd.Facts) (hAttnBwdIdeal : Cert.AttnBwdIdeal.Facts) (hAttnBwdRefIdeal : Cert.AttnBwdRefIdeal.Facts) (hRmsFwd : Cert.RmsFwd.Facts) (hRmsFwdIdeal : Cert.RmsFwdIdeal.Facts) (hRmsFwdRefIdeal : Cert.RmsFwdRefIdeal.Facts) (hMixFwd : Cert.MixFwd.Facts) (hMixFwdIdeal : Cert.MixFwdIdeal.Facts) (hMixFwdRefIdeal : Cert.MixFwdRefIdeal.Facts) (hUpFwd : Cert.UpFwd.Facts) (hUpFwdIdeal : Cert.UpFwdIdeal.Facts) (hUpFwdRefIdeal : Cert.UpFwdRefIdeal.Facts) (hOutFwd : Cert.OutFwd.Facts) (hOutFwdIdeal : Cert.OutFwdIdeal.Facts) (hOutFwdRefIdeal : Cert.OutFwdRefIdeal.Facts) (hAttnFwd : Cert.AttnFwd.Facts) (hAttnFwdIdeal : Cert.AttnFwdIdeal.Facts) (hAttnFwdRefIdeal : Cert.AttnFwdRefIdeal.Facts) (hSguFwd : Cert.SguFwd.Facts) (hSguFwdIdeal : Cert.SguFwdIdeal.Facts) (hSguFwdRefIdeal : Cert.SguFwdRefIdeal.Facts) (hConvFwd : Cert.ConvFwd.Facts) (hConvFwdIdeal : Cert.ConvFwdIdeal.Facts) (hConvFwdRefIdeal : Cert.ConvFwdRefIdeal.Facts) (hWGrad : Cert.WGrad.Facts) (hWGradIdeal : Cert.WGradIdeal.Facts) (hWGradRefIdeal : Cert.WGradRefIdeal.Facts) (hAdam : Cert.Adam.Facts) (hAdamIdeal : Cert.AdamIdeal.Facts) (hAdamRefIdeal : Cert.AdamRefIdeal.Facts) (hSumTwo : Cert.SumTwo.Facts) (hSumTwoIdeal : Cert.SumTwoIdeal.Facts) (hSumTwoRefIdeal : Cert.SumTwoRefIdeal.Facts) (hDhBwd : Cert.DhBwd.Facts) (hDhBwdIdeal : Cert.DhBwdIdeal.Facts) (hDhBwdRefIdeal : Cert.DhBwdRefIdeal.Facts) (hPre_rms_bwd_finite : Cert.Pre_rms_bwd_finite.Facts) (hPre_mixnorm_bwd_finite : Cert.Pre_mixnorm_bwd_finite.Facts) (hPre_sgu_bwd_finite : Cert.Pre_sgu_bwd_finite.Facts) (hPre_conv_bwd2_finite : Cert.Pre_conv_bwd2_finite.Facts) (hPre_conv_bwd1_finite : Cert.Pre_conv_bwd1_finite.Facts) (hPre_attn_kv_finite : Cert.Pre_attn_kv_finite.Facts) (hPre_attn_bwd_finite : Cert.Pre_attn_bwd_finite.Facts) (hPre_attn_fwd_finite : Cert.Pre_attn_fwd_finite.Facts),
    quiescent_RmsBwd (hRmsBwd := hRmsBwd)
    ∧ quiescent_RmsBwdIdeal (hRmsBwdIdeal := hRmsBwdIdeal)
    ∧ quiescent_RmsBwdIdeal_pre_rms_bwd_finite (hRmsBwdIdeal := hRmsBwdIdeal) (hPre_rms_bwd_finite := hPre_rms_bwd_finite)
    ∧ quiescent_RmsBwdRefIdeal (hRmsBwdRefIdeal := hRmsBwdRefIdeal)
    ∧ quiescent_RmsBwdRefIdeal_pre_rms_bwd_finite (hRmsBwdRefIdeal := hRmsBwdRefIdeal) (hPre_rms_bwd_finite := hPre_rms_bwd_finite)
    ∧ quiescent_MixBwd (hMixBwd := hMixBwd)
    ∧ quiescent_MixBwdIdeal (hMixBwdIdeal := hMixBwdIdeal)
    ∧ quiescent_MixBwdIdeal_pre_mixnorm_bwd_finite (hMixBwdIdeal := hMixBwdIdeal) (hPre_mixnorm_bwd_finite := hPre_mixnorm_bwd_finite)
    ∧ quiescent_MixBwdRefIdeal (hMixBwdRefIdeal := hMixBwdRefIdeal)
    ∧ quiescent_MixBwdRefIdeal_pre_mixnorm_bwd_finite (hMixBwdRefIdeal := hMixBwdRefIdeal) (hPre_mixnorm_bwd_finite := hPre_mixnorm_bwd_finite)
    ∧ quiescent_DupBwd (hDupBwd := hDupBwd)
    ∧ quiescent_DupBwdIdeal (hDupBwdIdeal := hDupBwdIdeal)
    ∧ quiescent_DupBwdRefIdeal (hDupBwdRefIdeal := hDupBwdRefIdeal)
    ∧ quiescent_SguBwd (hSguBwd := hSguBwd)
    ∧ quiescent_SguBwdIdeal (hSguBwdIdeal := hSguBwdIdeal)
    ∧ quiescent_SguBwdIdeal_pre_sgu_bwd_finite (hSguBwdIdeal := hSguBwdIdeal) (hPre_sgu_bwd_finite := hPre_sgu_bwd_finite)
    ∧ quiescent_SguBwdRefIdeal (hSguBwdRefIdeal := hSguBwdRefIdeal)
    ∧ quiescent_SguBwdRefIdeal_pre_sgu_bwd_finite (hSguBwdRefIdeal := hSguBwdRefIdeal) (hPre_sgu_bwd_finite := hPre_sgu_bwd_finite)
    ∧ quiescent_ConvBwdB (hConvBwdB := hConvBwdB)
    ∧ quiescent_ConvBwdBIdeal (hConvBwdBIdeal := hConvBwdBIdeal)
    ∧ quiescent_ConvBwdBIdeal_pre_conv_bwd2_finite (hConvBwdBIdeal := hConvBwdBIdeal) (hPre_conv_bwd2_finite := hPre_conv_bwd2_finite)
    ∧ quiescent_ConvBwdBRefIdeal (hConvBwdBRefIdeal := hConvBwdBRefIdeal)
    ∧ quiescent_ConvBwdBRefIdeal_pre_conv_bwd2_finite (hConvBwdBRefIdeal := hConvBwdBRefIdeal) (hPre_conv_bwd2_finite := hPre_conv_bwd2_finite)
    ∧ quiescent_ConvBwdA (hConvBwdA := hConvBwdA)
    ∧ quiescent_ConvBwdAIdeal (hConvBwdAIdeal := hConvBwdAIdeal)
    ∧ quiescent_ConvBwdAIdeal_pre_conv_bwd1_finite (hConvBwdAIdeal := hConvBwdAIdeal) (hPre_conv_bwd1_finite := hPre_conv_bwd1_finite)
    ∧ quiescent_ConvBwdARefIdeal (hConvBwdARefIdeal := hConvBwdARefIdeal)
    ∧ quiescent_ConvBwdARefIdeal_pre_conv_bwd1_finite (hConvBwdARefIdeal := hConvBwdARefIdeal) (hPre_conv_bwd1_finite := hPre_conv_bwd1_finite)
    ∧ quiescent_KvBwd (hKvBwd := hKvBwd)
    ∧ quiescent_KvBwdIdeal (hKvBwdIdeal := hKvBwdIdeal)
    ∧ quiescent_KvBwdIdeal_pre_attn_kv_finite (hKvBwdIdeal := hKvBwdIdeal) (hPre_attn_kv_finite := hPre_attn_kv_finite)
    ∧ quiescent_KvBwdRefIdeal (hKvBwdRefIdeal := hKvBwdRefIdeal)
    ∧ quiescent_KvBwdRefIdeal_pre_attn_kv_finite (hKvBwdRefIdeal := hKvBwdRefIdeal) (hPre_attn_kv_finite := hPre_attn_kv_finite)
    ∧ quiescent_Loss (hLoss := hLoss)
    ∧ quiescent_LossIdeal (hLossIdeal := hLossIdeal)
    ∧ quiescent_LossRefIdeal (hLossRefIdeal := hLossRefIdeal)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_Adam (hAdam := hAdam)
    ∧ quiescent_AdamIdeal (hAdamIdeal := hAdamIdeal)
    ∧ quiescent_AdamRefIdeal (hAdamRefIdeal := hAdamRefIdeal)
    ∧ quiescent_SumTwo (hSumTwo := hSumTwo)
    ∧ quiescent_SumTwoIdeal (hSumTwoIdeal := hSumTwoIdeal)
    ∧ quiescent_SumTwoRefIdeal (hSumTwoRefIdeal := hSumTwoRefIdeal)
    ∧ quiescent_DhBwd (hDhBwd := hDhBwd)
    ∧ quiescent_DhBwdIdeal (hDhBwdIdeal := hDhBwdIdeal)
    ∧ quiescent_DhBwdRefIdeal (hDhBwdRefIdeal := hDhBwdRefIdeal)
    ∧ preserves_RmsBwd_RmsBwdIdeal
    ∧ algebraic_RmsBwdIdeal_RmsBwdRefIdeal_pre_rms_bwd_finite (hRmsBwdIdeal := hRmsBwdIdeal) (hRmsBwdRefIdeal := hRmsBwdRefIdeal) (hPre_rms_bwd_finite := hPre_rms_bwd_finite)
    ∧ preserves_MixBwd_MixBwdIdeal
    ∧ algebraic_MixBwdIdeal_MixBwdRefIdeal_pre_mixnorm_bwd_finite (hMixBwdIdeal := hMixBwdIdeal) (hMixBwdRefIdeal := hMixBwdRefIdeal) (hPre_mixnorm_bwd_finite := hPre_mixnorm_bwd_finite)
    ∧ preserves_DupBwd_DupBwdIdeal
    ∧ algebraic_DupBwdIdeal_DupBwdRefIdeal (hDupBwdIdeal := hDupBwdIdeal) (hDupBwdRefIdeal := hDupBwdRefIdeal)
    ∧ preserves_SguBwd_SguBwdIdeal
    ∧ algebraic_SguBwdIdeal_SguBwdRefIdeal_pre_sgu_bwd_finite (hSguBwdIdeal := hSguBwdIdeal) (hSguBwdRefIdeal := hSguBwdRefIdeal) (hPre_sgu_bwd_finite := hPre_sgu_bwd_finite)
    ∧ preserves_ConvBwdB_ConvBwdBIdeal
    ∧ algebraic_ConvBwdBIdeal_ConvBwdBRefIdeal_pre_conv_bwd2_finite (hConvBwdBIdeal := hConvBwdBIdeal) (hConvBwdBRefIdeal := hConvBwdBRefIdeal) (hPre_conv_bwd2_finite := hPre_conv_bwd2_finite)
    ∧ preserves_ConvBwdA_ConvBwdAIdeal
    ∧ algebraic_ConvBwdAIdeal_ConvBwdARefIdeal_pre_conv_bwd1_finite (hConvBwdAIdeal := hConvBwdAIdeal) (hConvBwdARefIdeal := hConvBwdARefIdeal) (hPre_conv_bwd1_finite := hPre_conv_bwd1_finite)
    ∧ preserves_KvBwd_KvBwdIdeal
    ∧ algebraic_KvBwdIdeal_KvBwdRefIdeal_pre_attn_kv_finite (hKvBwdIdeal := hKvBwdIdeal) (hKvBwdRefIdeal := hKvBwdRefIdeal) (hPre_attn_kv_finite := hPre_attn_kv_finite)
    ∧ preserves_Loss_LossIdeal
    ∧ algebraic_LossIdeal_LossRefIdeal (hLossIdeal := hLossIdeal) (hLossRefIdeal := hLossRefIdeal)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_SguFwd_SguFwdIdeal
    ∧ algebraic_SguFwdIdeal_SguFwdRefIdeal (hSguFwdIdeal := hSguFwdIdeal) (hSguFwdRefIdeal := hSguFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_WGrad_WGradIdeal
    ∧ algebraic_WGradIdeal_WGradRefIdeal (hWGradIdeal := hWGradIdeal) (hWGradRefIdeal := hWGradRefIdeal)
    ∧ preserves_Adam_AdamIdeal
    ∧ algebraic_AdamIdeal_AdamRefIdeal (hAdamIdeal := hAdamIdeal) (hAdamRefIdeal := hAdamRefIdeal)
    ∧ preserves_SumTwo_SumTwoIdeal
    ∧ algebraic_SumTwoIdeal_SumTwoRefIdeal (hSumTwoIdeal := hSumTwoIdeal) (hSumTwoRefIdeal := hSumTwoRefIdeal)
    ∧ preserves_DhBwd_DhBwdIdeal
    ∧ algebraic_DhBwdIdeal_DhBwdRefIdeal (hDhBwdIdeal := hDhBwdIdeal) (hDhBwdRefIdeal := hDhBwdRefIdeal)
-- ==== Pre_attn_bwd_finite.lean ====
abbrev S2048x1024 : Shape := ⟨2, ![2048, 1024]⟩
abbrev S2048x256 : Shape := ⟨2, ![2048, 256]⟩
abbrev S64 : Shape := ⟨1, ![64]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64 .f32) (main_arg5 : FVec F S16 .f32) (main_arg6 : FVec F S2048x1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x1024 .f32) (main_arg1 : FVec F S2048x256 .f32) (main_arg2 : FVec F S2048x256 .f32) (main_arg3 : FVec F S64 .f32) (main_arg4 : FVec F S64 .f32) (main_arg5 : FVec F S16 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Pre_attn_fwd_finite.lean ====
abbrev S2048x1024 : Shape := ⟨2, ![2048, 1024]⟩
abbrev S2048x256 : Shape := ⟨2, ![2048, 256]⟩
abbrev S64 : Shape := ⟨1, ![64]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S2048x1024 .f32) (main_arg1 : FVec F S2048x256 .f32) (main_arg2 : FVec F S2048x256 .f32) (main_arg3 : FVec F S64 .f32) (main_arg4 : FVec F S64 .f32) (main_arg5 : FVec F S16 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Pre_attn_kv_finite.lean ====
abbrev S2048x256 : Shape := ⟨2, ![2048, 256]⟩
abbrev S64 : Shape := ⟨1, ![64]⟩
abbrev S4x2048x64 : Shape := ⟨3, ![4, 2048, 64]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S64 : S_.BroadcastsInDim S64 (![] : Fin 0 → Fin S64.rank)
  reducesTo_S64_S_d0 : S64.ReducesTo [0] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v13 : IVec S_ 1) (main_v16 : IVec S4x2048x64 1) : IVec S_ 1 :=
  let main_c_5 : IVec S_ 1 := constantI S_ 1 1#1
  let main_v17 : IVec S_ 1 := (fun x v => Host.reduce IntOp.andi x v reducesTo_S4x2048x64_S_d0_1_2 h_S_) main_v16 main_c_5
  let main_v18 : IVec S_ 1 := andi main_v13 main_v17
  main_v18

def fn {F : FTy → Type} [FloatOps F] (main_arg0 : FVec F S2048x256 .f32) (main_arg1 : FVec F S64 .f32) (main_arg2 : FVec F S4x2048x64 .f32) (main_arg3 : FVec F S4x2048x64 .f32) (main_arg4 : FVec F S4x2048x64 .f32) (main_arg5 : FVec F S4x2048x64 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S4x2048x64 .f32 := Host.absf main_arg2
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  let main_c_3 : IVec S_ 1 := constantI S_ 1 1#1
  let main_v12 : IVec S_ 1 := (fun x v => Host.reduce IntOp.andi x v reducesTo_S4x2048x64_S_d0_1_2 h_S_) main_v11 main_c_3
  let main_v13 : IVec S_ 1 := andi main_v8 main_v12
  let main_v14 : FVec F S4x2048x64 .f32 := Host.absf main_arg3
  let main_cst_4 : FVec F S_ .f32 := constant S_ .f32 0x7F800000#32
  let main_v15 : FVec F S4x2048x64 .f32 := broadcastInDim S4x2048x64 ![] bcast_S_S4x2048x64 main_cst_4
  let main_v16 : IVec S4x2048x64 1 := cmpf .olt main_v14 main_v15
  fn_part1 (F := F) main_v13 main_v16
-- ==== Pre_conv_bwd1_finite.lean ====
abbrev S2048x3584 : Shape := ⟨2, ![2048, 3584]⟩
abbrev S31x512 : Shape := ⟨2, ![31, 512]⟩
abbrev S512 : Shape := ⟨1, ![512]⟩
abbrev S2048x512 : Shape := ⟨2, ![2048, 512]⟩
abbrev S_ : Shape := ⟨0, ![]⟩

class Facts : Prop where
  bcast_S_S2048x3584 : S_.BroadcastsInDim S2048x3584 (![] : Fin 0 → Fin S2048x3584.rank)
  reducesTo_S2048x3584_S_d0_1 : S2048x3584.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S512 .f32) (main_arg5 : FVec F S2048x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  main_v28

def fn {F : FTy → Type} [FloatOps F] (main_arg0 : FVec F S2048x3584 .f32) (main_arg1 : FVec F S31x512 .f32) (main_arg2 : FVec F S512 .f32) (main_arg3 : FVec F S512 .f32) (main_arg4 : FVec F S512 .f32) (main_arg5 : FVec F S2048x512 .f32) : IVec S_ 1 :=
  let main_v0 : FVec F S2048x3584 .f32 := Host.absf main_arg0
  let main_cst : FVec F S_ .f32 := constant S_ .f32 0x7F800000#32
  let main_v1 : FVec F S2048x3584 .f32 := broadcastInDim S2048x3584 ![] bcast_S_S2048x3584 main_cst
  let main_v2 : IVec S2048x3584 1 := cmpf .olt main_v0 main_v1
  let main_c : IVec S_ 1 := constantI S_ 1 1#1
  let main_v3 : IVec S_ 1 := (fun x v => Host.reduce IntOp.andi x v reducesTo_S2048x3584_S_d0_1 h_S_) main_v2 main_c
  let main_v4 : FVec F S31x512 .f32 := Host.absf main_arg1
  let main_cst_0 : FVec F S_ .f32 := constant S_ .f32 0x7F800000#32
  let main_v5 : FVec F S31x512 .f32 := broadcastInDim S31x512 ![] bcast_S_S31x512 main_cst_0
  let main_v6 : IVec S31x512 1 := cmpf .olt main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Pre_conv_bwd2_finite.lean ====
abbrev S2048x3584 : Shape := ⟨2, ![2048, 3584]⟩
abbrev S31x512 : Shape := ⟨2, ![31, 512]⟩
abbrev S2048x512 : Shape := ⟨2, ![2048, 512]⟩
abbrev S_ : Shape := ⟨0, ![]⟩

class Facts : Prop where
  bcast_S_S2048x3584 : S_.BroadcastsInDim S2048x3584 (![] : Fin 0 → Fin S2048x3584.rank)
  reducesTo_S2048x3584_S_d0_1 : S2048x3584.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x3584 .f32) (main_arg1 : FVec F S31x512 .f32) (main_arg2 : FVec F S2048x512 .f32) : IVec S_ 1 :=
  let main_v0 : FVec F S2048x3584 .f32 := Host.absf main_arg0
  let main_cst : FVec F S_ .f32 := constant S_ .f32 0x7F800000#32
  let main_v1 : FVec F S2048x3584 .f32 := broadcastInDim S2048x3584 ![] bcast_S_S2048x3584 main_cst
  let main_v2 : IVec S2048x3584 1 := cmpf .olt main_v0 main_v1
  let main_c : IVec S_ 1 := constantI S_ 1 1#1
  let main_v3 : IVec S_ 1 := (fun x v => Host.reduce IntOp.andi x v reducesTo_S2048x3584_S_d0_1 h_S_) main_v2 main_c
  let main_v4 : FVec F S31x512 .f32 := Host.absf main_arg1
  let main_cst_0 : FVec F S_ .f32 := constant S_ .f32 0x7F800000#32
  let main_v5 : FVec F S31x512 .f32 := broadcastInDim S31x512 ![] bcast_S_S31x512 main_cst_0
  let main_v6 : IVec S31x512 1 := cmpf .olt main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Pre_mixnorm_bwd_finite.lean ====
abbrev S2048x2048 : Shape := ⟨2, ![2048, 2048]⟩
abbrev S2048x1024 : Shape := ⟨2, ![2048, 1024]⟩
abbrev S2048x512 : Shape := ⟨2, ![2048, 512]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2048x2048 .f32) (main_arg1 : FVec F S2048x1024 .f32) (main_arg2 : FVec F S2048x512 .f32) (main_arg3 : FVec F S2048x512 .f32) (main_arg4 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Pre_rms_bwd_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048x2048 .f32) (main_arg2 : FVec F S2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_sgu_bwd_finite.lean ====
abbrev S2048x3584 : Shape := ⟨2, ![2048, 3584]⟩
abbrev S512 : Shape := ⟨1, ![512]⟩
abbrev S8x128x128 : Shape := ⟨3, ![8, 128, 128]⟩
abbrev S8x128 : Shape := ⟨2, ![8, 128]⟩
abbrev S2048x512 : Shape := ⟨2, ![2048, 512]⟩
abbrev S_ : Shape := ⟨0, ![]⟩

class Facts : Prop where
  bcast_S_S2048x3584 : S_.BroadcastsInDim S2048x3584 (![] : Fin 0 → Fin S2048x3584.rank)
  reducesTo_S2048x3584_S_d0_1 : S2048x3584.ReducesTo [0, 1] S_
  h_S_ : 0 < S_.numel
  bcast_S_S512 : S_.BroadcastsInDim S512 (![] : Fin 0 → Fin S512.rank)
  reducesTo_S512_S_d0 : S512.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg5 : FVec F S2048x512 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  main_v23

def fn {F : FTy → Type} [FloatOps F] (main_arg0 : FVec F S2048x3584 .f32) (main_arg1 : FVec F S512 .f32) (main_arg2 : FVec F S512 .f32) (main_arg3 : FVec F S8x128x128 .f32) (main_arg4 : FVec F S8x128 .f32) (main_arg5 : FVec F S2048x512 .f32) : IVec S_ 1 :=
  let main_v0 : FVec F S2048x3584 .f32 := Host.absf main_arg0
  let main_cst : FVec F S_ .f32 := constant S_ .f32 0x7F800000#32
  let main_v1 : FVec F S2048x3584 .f32 := broadcastInDim S2048x3584 ![] bcast_S_S2048x3584 main_cst
  let main_v2 : IVec S2048x3584 1 := cmpf .olt main_v0 main_v1
  let main_c : IVec S_ 1 := constantI S_ 1 1#1
  let main_v3 : IVec S_ 1 := (fun x v => Host.reduce IntOp.andi x v reducesTo_S2048x3584_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg5 main_v13 main_v16
-- ==== RmsBwd.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixBwd.lean ====
abbrev S2048x2048 : Shape := ⟨2, ![2048, 2048]⟩
abbrev S2048x1024 : Shape := ⟨2, ![2048, 1024]⟩
abbrev S2048x512 : Shape := ⟨2, ![2048, 512]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1024 : Shape := ⟨2, ![1, 1024]⟩
abbrev S1024 : Shape := ⟨1, ![1024]⟩
abbrev S1x512 : Shape := ⟨2, ![1, 512]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S2048, .f32⟩
  | .hbm, ⟨5, _⟩ => ⟨S1x2048, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S1x2048, .f32⟩
  | .hbm, ⟨10, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x2048, .f32⟩
  | .local _ .vmem, ⟨9, _⟩ => ⟨S256x1024, .f32⟩
  | .local _ .vmem, ⟨10, _⟩ => ⟨S256x1024, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S1x2048, .f32⟩
  | .local _ .vmem, ⟨16, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixBwdRefIdeal.lean ====
abbrev S2048x2048 : Shape := ⟨2, ![2048, 2048]⟩
abbrev S2048x1024 : Shape := ⟨2, ![2048, 1024]⟩
abbrev S2048x512 : Shape := ⟨2, ![2048, 512]⟩
abbrev S2048 : Shape := ⟨1, ![2048]⟩
abbrev S1024 : Shape := ⟨1, ![1024]⟩
abbrev S_ : Shape := ⟨0, ![]⟩
abbrev S2048x1 : Shape := ⟨2, ![2048, 1]⟩
abbrev S1x1024 : Shape := ⟨2, ![1, 1024]⟩
abbrev S512 : Shape := ⟨1, ![512]⟩
abbrev S1x512 : Shape := ⟨2, ![1, 512]⟩
abbrev S1x2048 : Shape := ⟨2, ![1, 2048]⟩

abbrev nBuf : Space → Nat
  | .hbm => 156
  | .vmem => 0
  | .smem => 0
  | _ => 0

abbrev hbmTy0_0 (i : Nat) : BufTy := match i % 128 with
  | 0 => ⟨S2048x2048, .f32⟩
  | 1 => ⟨S2048x1024, .f32⟩
  | 2 => ⟨S2048x512, .f32⟩
  | 3 => ⟨S2048x512, .f32⟩
  | 4 => ⟨S2048, .f32⟩
  | 5 => ⟨S1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S1x1024, .f32⟩
  | 24 => ⟨S2048x1024, .f32⟩
  | 25 => ⟨S2048x1024, .f32⟩
  | 26 => ⟨S512, .f32⟩
  | 27 => ⟨S2048x512, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S2048x512, .f32⟩
  | 43 => ⟨S2048x512, .f32⟩
  | 44 => ⟨S1x512, .f32⟩
  | 45 => ⟨S2048x512, .f32⟩
  | 46 => ⟨S2048x512, .f32⟩
  | 47 => ⟨S512, .f32⟩
  | 48 => ⟨S2048x512, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x512, .f32⟩
  | 64 => ⟨S2048x512, .f32⟩
  | 65 => ⟨S1x512, .f32⟩
  | 66 => ⟨S2048x512, .f32⟩
  | 67 => ⟨S2048x512, .f32⟩
  | 68 => ⟨S2048x2048, .f32⟩
  | 69 => ⟨S2048x1024, .f32⟩
  | 70 => ⟨S2048x512, .f32⟩
  | 71 => ⟨S2048x512, .f32⟩
  | 72 => ⟨S2048x512, .f32⟩
  | 73 => ⟨S_, .f32⟩
  | 74 => ⟨S512, .f32⟩
  | 75 => ⟨S1x512, .f32⟩
  | 76 => ⟨S2048x512, .f32⟩
  | 77 => ⟨S2048x512, .f32⟩
  | 78 => ⟨S_, .f32⟩
  | 79 => ⟨S512, .f32⟩
  | 80 => ⟨S2048x512, .f32⟩
  | 81 => ⟨S_, .f32⟩
  | 82 => ⟨S2048, .f32⟩
  | 83 => ⟨S2048x1, .f32⟩
  | 84 => ⟨S2048x512, .f32⟩
  | 85 => ⟨S2048x512, .f32⟩
  | 86 => ⟨S2048x1, .f32⟩
  | 87 => ⟨S_, .f32⟩
  | 88 => ⟨S2048x1, .f32⟩
  | 89 => ⟨S2048x1, .f32⟩
  | 90 => ⟨S_, .f32⟩
  | 91 => ⟨S2048, .f32⟩
  | 92 => ⟨S2048x512, .f32⟩
  | 93 => ⟨S2048x512, .f32⟩
  | 94 => ⟨S2048x512, .f32⟩
  | 95 => ⟨S2048x512, .f32⟩
  | 96 => ⟨S2048x512, .f32⟩
  | 97 => ⟨S_, .f32⟩
  | 98 => ⟨S2048, .f32⟩
  | 99 => ⟨S2048x512, .f32⟩
  | 100 => ⟨S_, .f32⟩
  | 101 => ⟨S512, .f32⟩
  | 102 => ⟨S1x512, .f32⟩
  | 103 => ⟨S2048x512, .f32⟩
  | 104 => ⟨S2048x512, .f32⟩
  | 105 => ⟨S_, .f32⟩
  | 106 => ⟨S512, .f32⟩
  | 107 => ⟨S2048x512, .f32⟩
  | 108 => ⟨S_, .f32⟩
  | 109 => ⟨S2048, .f32⟩
  | 110 => ⟨S2048x1, .f32⟩
  | 111 => ⟨S2048x512, .f32⟩
  | 112 => ⟨S2048x512, .f32⟩
  | 113 => ⟨S2048x1, .f32⟩
  | 114 => ⟨S_, .f32⟩
  | 115 => ⟨S2048x1, .f32⟩
  | 116 => ⟨S2048x1, .f32⟩
  | 117 => ⟨S_, .f32⟩
  | 118 => ⟨S2048, .f32⟩
  | 119 => ⟨S2048x512, .f32⟩
  | 120 => ⟨S2048x512, .f32⟩
  | 121 => ⟨S2048x512, .f32⟩
  | 122 => ⟨S2048x512, .f32⟩
  | 123 => ⟨S2048x512, .f32⟩
  | 124 => ⟨S_, .f32⟩
  | 125 => ⟨S2048, .f32⟩
  | 126 => ⟨S2048, .f32⟩
  | 127 => ⟨S2048x1024, .f32⟩
  | _ => ⟨S2048x2048, .f32⟩

abbrev hbmTy0_1 (i : Nat) : BufTy := match i % 128 with
  | 0 => ⟨S_, .f32⟩
  | 1 => ⟨S1024, .f32⟩
  | 2 => ⟨S1x1024, .f32⟩
  | 3 => ⟨S2048x1024, .f32⟩
  | 4 => ⟨S2048x1024, .f32⟩
  | 5 => ⟨S_, .f32⟩
  | 6 => ⟨S1024, .f32⟩
  | 7 => ⟨S2048x1024, .f32⟩
  | 8 => ⟨S_, .f32⟩
  | 9 => ⟨S2048, .f32⟩
  | 10 => ⟨S2048x1, .f32⟩
  | 11 => ⟨S2048x1024, .f32⟩
  | 12 => ⟨S2048x1024, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S_, .f32⟩
  | 25 => ⟨S2048, .f32⟩
  | 26 => ⟨S2048, .f32⟩
  | 27 => ⟨S1x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_cst_19 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩
abbrev main_cst_21 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_22 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_23 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_24 : Ref sig .tc := ⟨.hbm, 133, rfl⟩
abbrev main_v103 : Ref sig .tc := ⟨.hbm, 134, rfl⟩
abbrev main_v104 : Ref sig .tc := ⟨.hbm, 135, rfl⟩
abbrev main_cst_25 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_26 : Ref sig .tc := ⟨.hbm, 142, rfl⟩
abbrev main_v110 : Ref sig .tc := ⟨.hbm, 143, rfl⟩
abbrev main_v111 : Ref sig .tc := ⟨.hbm, 144, rfl⟩
abbrev main_cst_27 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_28 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩

abbrev nD : Nat := 1
abbrev τ : Topo := Topo.v7x

variable {F : FTy → Type} [FloatOps F]
-- ==== DupBwd.lean ====
abbrev S2048x2048 : Shape := ⟨2, ![2048, 2048]⟩
abbrev S8192x2048 : Shape := ⟨2, ![8192, 2048]⟩
abbrev S2048x8192 : Shape := ⟨2, ![2048, 8192]⟩
abbrev S4x2048x2048 : Shape := ⟨3, ![4, 2048, 2048]⟩
abbrev S8x128 : Shape := ⟨2, ![8, 128]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x8192, .f32⟩
  | .hbm, ⟨3, _⟩ => ⟨S2048x2048, .bf16⟩
  | .hbm, ⟨4, _⟩ => ⟨S4x2048x2048, .f32⟩
  | .hbm, ⟨5, _⟩ => ⟨S4x2048x2048, .bf16⟩
  | .hbm, ⟨6, _⟩ => ⟨S2048x8192, .bf16⟩
  | .hbm, ⟨7, _⟩ => ⟨S2048x8192, .bf16⟩
  | .hbm, ⟨8, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== DupBwdRefIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== SguBwd.lean ====
abbrev S2048x3584 : Shape := ⟨2, ![2048, 3584]⟩
abbrev S512 : Shape := ⟨1, ![512]⟩
abbrev S8x128x128 : Shape := ⟨3, ![8, 128, 128]⟩
abbrev S8x128 : Shape := ⟨2, ![8, 128]⟩
abbrev S2048x512 : Shape := ⟨2, ![2048, 512]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S8x512 : Shape := ⟨2, ![8, 512]⟩

abbrev nBuf : Space → Nat
  | .hbm => 17
  | .vmem => 17
  | .smem => 0
  | _ => 0

abbrev bufTy : (tb : Table) → Fin (tcTables nBuf tb) → BufTy
  | .hbm, ⟨0, _⟩ => ⟨S2048x3584, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S2048x512, .f32⟩
  | .hbm, ⟨6, _⟩ => ⟨S1x512, .f32⟩
  | .hbm, ⟨7, _⟩ => ⟨S1x512, .f32⟩
  | .hbm, ⟨8, _⟩ => ⟨S128x8, .f32⟩
  | .hbm, ⟨9, _⟩ => ⟨S128x8x64, .f32⟩
  | .hbm, ⟨10, _⟩ => ⟨S128x512, .f32⟩
  | .hbm, ⟨11, _⟩ => ⟨S2048x1024, .bf16⟩
  | .hbm, ⟨12, _⟩ => ⟨S8x128x128, .f32⟩
  | .hbm, ⟨13, _⟩ => ⟨S8x128, .f32⟩
  | .hbm, ⟨14, _⟩ => ⟨S1x512, .f32⟩
  | .hbm, ⟨15, _⟩ => ⟨S1x512, .f32⟩
  | .hbm, ⟨16, _⟩ => ⟨S8x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x1024, .bf16⟩
  | .local _ .vmem, ⟨11, _⟩ => ⟨S128x1024, .bf16⟩
  | .local _ .vmem, ⟨12, _⟩ => ⟨S8x128x128, .f32⟩
  | .local _ .vmem, ⟨13, _⟩ => ⟨S8x128, .f32⟩
  | .local _ .vmem, ⟨14, _⟩ => ⟨S1x512, .f32⟩
  | .local _ .vmem, ⟨15, _⟩ => ⟨S1x512, .f32⟩
  | .local _ .vmem, ⟨16, _⟩ => ⟨S8x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguBwdRefIdeal.lean ====
abbrev S2048x3584 : Shape := ⟨2, ![2048, 3584]⟩
abbrev S512 : Shape := ⟨1, ![512]⟩
abbrev S8x128x128 : Shape := ⟨3, ![8, 128, 128]⟩
abbrev S8x128 : Shape := ⟨2, ![8, 128]⟩
abbrev S2048x512 : Shape := ⟨2, ![2048, 512]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S16x128x8x64 : Shape := ⟨4, ![16, 128, 8, 64]⟩
abbrev S128x128 : Shape := ⟨2, ![128, 128]⟩
abbrev S1x128x128 : Shape := ⟨3, ![1, 128, 128]⟩
abbrev S8x16x64x128 : Shape := ⟨4, ![8, 16, 64, 128]⟩
abbrev S128x8 : Shape := ⟨2, ![128, 8]⟩
abbrev S1x128x8x1 : Shape := ⟨4, ![1, 128, 8, 1]⟩

abbrev nBuf : Space → Nat
  | .hbm => 129
  | .vmem => 0
  | .smem => 0
  | _ => 0

abbrev hbmTy0_0 (i : Nat) : BufTy := match i % 128 with
  | 0 => ⟨S2048x3584, .f32⟩
  | 1 => ⟨S512, .f32⟩
  | 2 => ⟨S512, .f32⟩
  | 3 => ⟨S8x128x128, .f32⟩
  | 4 => ⟨S8x128, .f32⟩
  | 5 => ⟨S2048x512, .f32⟩
  | 6 => ⟨S2048x1024, .f32⟩
  | 7 => ⟨S2048x512, .f32⟩
  | 8 => ⟨S2048x512, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S2048x512, .f32⟩
  | 16 => ⟨S2048x512, .f32⟩
  | 17 => ⟨S2048x512, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x1, .f32⟩
  | 28 => ⟨S2048x1, .f32⟩
  | 29 => ⟨S_, .f32⟩
  | 30 => ⟨S2048x1, .f32⟩
  | 31 => ⟨S2048x1, .f32⟩
  | 32 => ⟨S2048x512, .f32⟩
  | 33 => ⟨S2048x512, .f32⟩
  | 34 => ⟨S1x512, .f32⟩
  | 35 => ⟨S2048x512, .f32⟩
  | 36 => ⟨S2048x512, .f32⟩
  | 37 => ⟨S1x512, .f32⟩
  | 38 => ⟨S2048x512, .f32⟩
  | 39 => ⟨S2048x512, .f32⟩
  | 40 => ⟨S16x128x8x64, .f32⟩
  | 41 => ⟨S_, .i1⟩
  | 42 => ⟨S128x128, .i1⟩
  | 43 => ⟨S128x128, .i32⟩
  | 44 => ⟨S_, .i32⟩
  | 45 => ⟨S128x128, .i32⟩
  | 46 => ⟨S128x128, .i32⟩
  | 47 => ⟨S128x128, .i32⟩
  | 48 => ⟨S128x128, .i1⟩
  | 49 => ⟨S_, .i1⟩
  | 50 => ⟨S128x128, .i1⟩
  | 51 => ⟨S128x128, .i1⟩
  | 52 => ⟨S1x128x128, .i1⟩
  | 53 => ⟨S_, .f32⟩
  | 54 => ⟨S8x128x128, .f32⟩
  | 55 => ⟨S8x128x128, .i1⟩
  | 56 => ⟨S8x128x128, .f32⟩
  | 57 => ⟨S_, .f32⟩
  | 58 => ⟨S8x128x128, .f32⟩
  | 59 => ⟨S8x16x64x128, .f32⟩
  | 60 => ⟨S16x128x8x64, .f32⟩
  | 61 => ⟨S128x8, .f32⟩
  | 62 => ⟨S1x128x8x1, .f32⟩
  | 63 => ⟨S16x128x8x64, .f32⟩
  | 64 => ⟨S16x128x8x64, .f32⟩
  | 65 => ⟨S2048x512, .f32⟩
  | 66 => ⟨S2048x512, .f32⟩
  | 67 => ⟨S2048x512, .f32⟩
  | 68 => ⟨S2048x512, .f32⟩
  | 69 => ⟨S16x128x8x64, .f32⟩
  | 70 => ⟨S_, .f32⟩
  | 71 => ⟨S128x8, .f32⟩
  | 72 => ⟨S1x128x8x1, .f32⟩
  | 73 => ⟨S_, .f32⟩
  | 74 => ⟨S128x8, .f32⟩
  | 75 => ⟨S8x128, .f32⟩
  | 76 => ⟨S8x16x64x128, .f32⟩
  | 77 => ⟨S8x128x128, .f32⟩
  | 78 => ⟨S8x16x64x128, .f32⟩
  | 79 => ⟨S16x128x8x64, .f32⟩
  | 80 => ⟨S_, .f32⟩
  | 81 => ⟨S8x128x128, .f32⟩
  | 82 => ⟨S8x128x128, .f32⟩
  | 83 => ⟨S2048x512, .f32⟩
  | 84 => ⟨S_, .f32⟩
  | 85 => ⟨S512, .f32⟩
  | 86 => ⟨S1x512, .f32⟩
  | 87 => ⟨S_, .f32⟩
  | 88 => ⟨S512, .f32⟩
  | 89 => ⟨S2048x512, .f32⟩
  | 90 => ⟨S_, .f32⟩
  | 91 => ⟨S512, .f32⟩
  | 92 => ⟨S1x512, .f32⟩
  | 93 => ⟨S2048x512, .f32⟩
  | 94 => ⟨S2048x512, .f32⟩
  | 95 => ⟨S_, .f32⟩
  | 96 => ⟨S512, .f32⟩
  | 97 => ⟨S2048x512, .f32⟩
  | 98 => ⟨S_, .f32⟩
  | 99 => ⟨S2048, .f32⟩
  | 100 => ⟨S2048x1, .f32⟩
  | 101 => ⟨S2048x512, .f32⟩
  | 102 => ⟨S2048x512, .f32⟩
  | 103 => ⟨S2048x1, .f32⟩
  | 104 => ⟨S_, .f32⟩
  | 105 => ⟨S2048x1, .f32⟩
  | 106 => ⟨S2048x1, .f32⟩
  | 107 => ⟨S_, .f32⟩
  | 108 => ⟨S2048, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S_, .f32⟩
  | 116 => ⟨S2048, .f32⟩
  | 117 => ⟨S2048x1, .f32⟩
  | 118 => ⟨S_, .f32⟩
  | 119 => ⟨S2048x1, .f32⟩
  | 120 => ⟨S2048x1, .f32⟩
  | 121 => ⟨S_, .f32⟩
  | 122 => ⟨S2048, .f32⟩
  | 123 => ⟨S2048x512, .f32⟩
  | 124 => ⟨S2048x512, .f32⟩
  | 125 => ⟨S2048x1024, .f32⟩
  | 126 => ⟨S2048x1024, .bf16⟩
  | 127 => ⟨S1x512, .f32⟩
  | _ => ⟨S2048x3584, .f32⟩

abbrev hbmTy0_1 (i : Nat) : BufTy := match i % 128 with
  | 0 => ⟨S1x512, .f32⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33_1 : Ref sig .tc := ⟨.hbm, 55, rfl⟩
abbrev main_v33_0 : Ref sig .tc := ⟨.hbm, 56, rfl⟩
abbrev main_call1_cst : Ref sig .tc := ⟨.hbm, 57, rfl⟩
abbrev main_v33_2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_v82 : Ref sig .tc := ⟨.hbm, 120, rfl⟩
abbrev main_cst_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]
-- ==== ConvBwdB.lean ====
abbrev S2048x3584 : Shape := ⟨2, ![2048, 3584]⟩
abbrev S31x512 : Shape := ⟨2, ![31, 512]⟩
abbrev S2048x512 : Shape := ⟨2, ![2048, 512]⟩
abbrev S_ : Shape := ⟨0, ![]⟩
abbrev S32x512 : Shape := ⟨2, ![32, 512]⟩
abbrev S2048x1024 : Shape := ⟨2, ![2048, 1024]⟩
abbrev S8x128 : Shape := ⟨2, ![8, 128]⟩
abbrev S256x512 : Shape := ⟨2, ![256, 512]⟩
abbrev S256x1024 : Shape := ⟨2, ![256, 1024]⟩
abbrev S288x512 : Shape := ⟨2, ![288, 512]⟩
abbrev S7x288x512 : Shape := ⟨3, ![7, 288, 512]⟩
abbrev S280x512 : Shape := ⟨2, ![280, 512]⟩
abbrev S1x280x512 : Shape := ⟨3, ![1, 280, 512]⟩
abbrev S1x512 : Shape := ⟨2, ![1, 512]⟩
abbrev S1x256x512 : Shape := ⟨3, ![1, 256, 512]⟩

abbrev nBuf : Space → Nat
  | .hbm => 8
  | .vmem => 14
  | .smem => 0
  | _ => 0

abbrev bufTy : (tb : Table) → Fin (tcTables nBuf tb) → BufTy
  | .hbm, ⟨0, _⟩ => ⟨S2048x3584, .f32⟩
  | .hbm, ⟨1, _⟩ => ⟨S31x512, .f32⟩
  | .hbm, ⟨2, _⟩ => ⟨S2048x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S2048x1024, .bf16⟩
  | .hbm, ⟨7, _⟩ => ⟨S8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x1024, .bf16⟩
  | .local _ .vmem, ⟨10, _⟩ => ⟨S256x1024, .bf16⟩
  | .local _ .vmem, ⟨11, _⟩ => ⟨S8x128, .f32⟩
  | .local _ .vmem, ⟨12, _⟩ => ⟨S288x512, .f32⟩
  | .local _ .vmem, ⟨13, _⟩ => ⟨S7x288x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvBwdBRefIdeal.lean ====
abbrev S2048x3584 : Shape := ⟨2, ![2048, 3584]⟩
abbrev S31x512 : Shape := ⟨2, ![31, 512]⟩
abbrev S2048x512 : Shape := ⟨2, ![2048, 512]⟩
abbrev S2048x1024 : Shape := ⟨2, ![2048, 1024]⟩
abbrev S_ : Shape := ⟨0, ![]⟩
abbrev S30x512 : Shape := ⟨2, ![30, 512]⟩
abbrev S2078x512 : Shape := ⟨2, ![2078, 512]⟩
abbrev S1x512 : Shape := ⟨2, ![1, 512]⟩
abbrev S512 : Shape := ⟨1, ![512]⟩

abbrev nBuf : Space → Nat
  | .hbm => 403
  | .vmem => 0
  | .smem => 0
  | _ => 0

abbrev hbmTy0_0 (i : Nat) : BufTy := match i % 128 with
  | 0 => ⟨S2048x3584, .f32⟩
  | 1 => ⟨S31x512, .f32⟩
  | 2 => ⟨S2048x512, .f32⟩
  | 3 => ⟨S2048x1024, .f32⟩
  | 4 => ⟨S2048x512, .f32⟩
  | 5 => ⟨S2048x512, .f32⟩
  | 6 => ⟨S2048x512, .f32⟩
  | 7 => ⟨S2048x512, .f32⟩
  | 8 => ⟨S_, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S2048x512, .f32⟩
  | 18 => ⟨S2048x512, .f32⟩
  | 19 => ⟨S_, .f32⟩
  | 20 => ⟨S30x512, .f32⟩
  | 21 => ⟨S2078x512, .f32⟩
  | 22 => ⟨S_, .f32⟩
  | 23 => ⟨S30x512, .f32⟩
  | 24 => ⟨S2048x512, .f32⟩
  | 25 => ⟨S1x512, .f32⟩
  | 26 => ⟨S512, .f32⟩
  | 27 => ⟨S1x512, .f32⟩
  | 28 => ⟨S2048x512, .f32⟩
  | 29 => ⟨S2048x512, .f32⟩
  | 30 => ⟨S2048x512, .f32⟩
  | 31 => ⟨S1x512, .f32⟩
  | 32 => ⟨S512, .f32⟩
  | 33 => ⟨S1x512, .f32⟩
  | 34 => ⟨S2048x512, .f32⟩
  | 35 => ⟨S2048x512, .f32⟩
  | 36 => ⟨S2048x512, .f32⟩
  | 37 => ⟨S2048x512, .f32⟩
  | 38 => ⟨S1x512, .f32⟩
  | 39 => ⟨S512, .f32⟩
  | 40 => ⟨S1x512, .f32⟩
  | 41 => ⟨S2048x512, .f32⟩
  | 42 => ⟨S2048x512, .f32⟩
  | 43 => ⟨S2048x512, .f32⟩
  | 44 => ⟨S2048x512, .f32⟩
  | 45 => ⟨S1x512, .f32⟩
  | 46 => ⟨S512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S1x512, .f32⟩
  | 53 => ⟨S512, .f32⟩
  | 54 => ⟨S1x512, .f32⟩
  | 55 => ⟨S2048x512, .f32⟩
  | 56 => ⟨S2048x512, .f32⟩
  | 57 => ⟨S2048x512, .f32⟩
  | 58 => ⟨S2048x512, .f32⟩
  | 59 => ⟨S1x512, .f32⟩
  | 60 => ⟨S512, .f32⟩
  | 61 => ⟨S1x512, .f32⟩
  | 62 => ⟨S2048x512, .f32⟩
  | 63 => ⟨S2048x512, .f32⟩
  | 64 => ⟨S2048x512, .f32⟩
  | 65 => ⟨S2048x512, .f32⟩
  | 66 => ⟨S1x512, .f32⟩
  | 67 => ⟨S512, .f32⟩
  | 68 => ⟨S1x512, .f32⟩
  | 69 => ⟨S2048x512, .f32⟩
  | 70 => ⟨S2048x512, .f32⟩
  | 71 => ⟨S2048x512, .f32⟩
  | 72 => ⟨S2048x512, .f32⟩
  | 73 => ⟨S1x512, .f32⟩
  | 74 => ⟨S512, .f32⟩
  | 75 => ⟨S1x512, .f32⟩
  | 76 => ⟨S2048x512, .f32⟩
  | 77 => ⟨S2048x512, .f32⟩
  | 78 => ⟨S2048x512, .f32⟩
  | 79 => ⟨S2048x512, .f32⟩
  | 80 => ⟨S1x512, .f32⟩
  | 81 => ⟨S512, .f32⟩
  | 82 => ⟨S1x512, .f32⟩
  | 83 => ⟨S2048x512, .f32⟩
  | 84 => ⟨S2048x512, .f32⟩
  | 85 => ⟨S2048x512, .f32⟩
  | 86 => ⟨S2048x512, .f32⟩
  | 87 => ⟨S1x512, .f32⟩
  | 88 => ⟨S512, .f32⟩
  | 89 => ⟨S1x512, .f32⟩
  | 90 => ⟨S2048x512, .f32⟩
  | 91 => ⟨S2048x512, .f32⟩
  | 92 => ⟨S2048x512, .f32⟩
  | 93 => ⟨S2048x512, .f32⟩
  | 94 => ⟨S1x512, .f32⟩
  | 95 => ⟨S512, .f32⟩
  | 96 => ⟨S1x512, .f32⟩
  | 97 => ⟨S2048x512, .f32⟩
  | 98 => ⟨S2048x512, .f32⟩
  | 99 => ⟨S2048x512, .f32⟩
  | 100 => ⟨S2048x512, .f32⟩
  | 101 => ⟨S1x512, .f32⟩
  | 102 => ⟨S512, .f32⟩
  | 103 => ⟨S1x512, .f32⟩
  | 104 => ⟨S2048x512, .f32⟩
  | 105 => ⟨S2048x512, .f32⟩
  | 106 => ⟨S2048x512, .f32⟩
  | 107 => ⟨S2048x512, .f32⟩
  | 108 => ⟨S1x512, .f32⟩
  | 109 => ⟨S512, .f32⟩
  | 110 => ⟨S1x512, .f32⟩
  | 111 => ⟨S2048x512, .f32⟩
  | 112 => ⟨S2048x512, .f32⟩
  | 113 => ⟨S2048x512, .f32⟩
  | 114 => ⟨S2048x512, .f32⟩
  | 115 => ⟨S1x512, .f32⟩
  | 116 => ⟨S512, .f32⟩
  | 117 => ⟨S1x512, .f32⟩
  | 118 => ⟨S2048x512, .f32⟩
  | 119 => ⟨S2048x512, .f32⟩
  | 120 => ⟨S2048x512, .f32⟩
  | 121 => ⟨S2048x512, .f32⟩
  | 122 => ⟨S1x512, .f32⟩
  | 123 => ⟨S512, .f32⟩
  | 124 => ⟨S1x512, .f32⟩
  | 125 => ⟨S2048x512, .f32⟩
  | 126 => ⟨S2048x512, .f32⟩
  | 127 => ⟨S2048x512, .f32⟩
  | _ => ⟨S2048x3584, .f32⟩

abbrev hbmTy0_1 (i : Nat) : BufTy := match i % 128 with
  | 0 => ⟨S2048x512, .f32⟩
  | 1 => ⟨S1x512, .f32⟩
  | 2 => ⟨S512, .f32⟩
  | 3 => ⟨S1x512, .f32⟩
  | 4 => ⟨S2048x512, .f32⟩
  | 5 => ⟨S2048x512, .f32⟩
  | 6 => ⟨S2048x512, .f32⟩
  | 7 => ⟨S2048x512, .f32⟩
  | 8 => ⟨S1x512, .f32⟩
  | 9 => ⟨S512, .f32⟩
  | 10 => ⟨S1x512, .f32⟩
  | 11 => ⟨S2048x512, .f32⟩
  | 12 => ⟨S2048x512, .f32⟩
  | 13 => ⟨S2048x512, .f32⟩
  | 14 => ⟨S2048x512, .f32⟩
  | 15 => ⟨S1x512, .f32⟩
  | 16 => ⟨S512, .f32⟩
  | 17 => ⟨S1x512, .f32⟩
  | 18 => ⟨S2048x512, .f32⟩
  | 19 => ⟨S2048x512, .f32⟩
  | 20 => ⟨S2048x512, .f32⟩
  | 21 => ⟨S2048x512, .f32⟩
  | 22 => ⟨S1x512, .f32⟩
  | 23 => ⟨S512, .f32⟩
  | 24 => ⟨S1x512, .f32⟩
  | 25 => ⟨S2048x512, .f32⟩
  | 26 => ⟨S2048x512, .f32⟩
  | 27 => ⟨S2048x512, .f32⟩
  | 28 => ⟨S2048x512, .f32⟩
  | 29 => ⟨S1x512, .f32⟩
  | 30 => ⟨S512, .f32⟩
  | 31 => ⟨S1x512, .f32⟩
  | 32 => ⟨S2048x512, .f32⟩
  | 33 => ⟨S2048x512, .f32⟩
  | 34 => ⟨S2048x512, .f32⟩
  | 35 => ⟨S2048x512, .f32⟩
  | 36 => ⟨S1x512, .f32⟩
  | 37 => ⟨S512, .f32⟩
  | 38 => ⟨S1x512, .f32⟩
  | 39 => ⟨S2048x512, .f32⟩
  | 40 => ⟨S2048x512, .f32⟩
  | 41 => ⟨S2048x512, .f32⟩
  | 42 => ⟨S2048x512, .f32⟩
  | 43 => ⟨S1x512, .f32⟩
  | 44 => ⟨S512, .f32⟩
  | 45 => ⟨S1x512, .f32⟩
  | 46 => ⟨S2048x512, .f32⟩
  | 47 => ⟨S2048x512, .f32⟩
  | 48 => ⟨S2048x512, .f32⟩
  | 49 => ⟨S2048x512, .f32⟩
  | 50 => ⟨S1x512, .f32⟩
  | 51 => ⟨S512, .f32⟩
  | 52 => ⟨S1x512, .f32⟩
  | 53 => ⟨S2048x512, .f32⟩
  | 54 => ⟨S2048x512, .f32⟩
  | 55 => ⟨S2048x512, .f32⟩
  | 56 => ⟨S2048x512, .f32⟩
  | 57 => ⟨S1x512, .f32⟩
  | 58 => ⟨S512, .f32⟩
  | 59 => ⟨S1x512, .f32⟩
  | 60 => ⟨S2048x512, .f32⟩
  | 61 => ⟨S2048x512, .f32⟩
  | 62 => ⟨S2048x512, .f32⟩
  | 63 => ⟨S2048x512, .f32⟩
  | 64 => ⟨S1x512, .f32⟩
  | 65 => ⟨S512, .f32⟩
  | 66 => ⟨S1x512, .f32⟩
  | 67 => ⟨S2048x512, .f32⟩
  | 68 => ⟨S2048x512, .f32⟩
  | 69 => ⟨S2048x512, .f32⟩
  | 70 => ⟨S2048x512, .f32⟩
  | 71 => ⟨S1x512, .f32⟩
  | 72 => ⟨S512, .f32⟩
  | 73 => ⟨S1x512, .f32⟩
  | 74 => ⟨S2048x512, .f32⟩
  | 75 => ⟨S2048x512, .f32⟩
  | 76 => ⟨S2048x512, .f32⟩
  | 77 => ⟨S2048x512, .f32⟩
  | 78 => ⟨S1x512, .f32⟩
  | 79 => ⟨S512, .f32⟩
  | 80 => ⟨S1x512, .f32⟩
  | 81 => ⟨S2048x512, .f32⟩
  | 82 => ⟨S2048x512, .f32⟩
  | 83 => ⟨S2048x512, .f32⟩
  | 84 => ⟨S2048x512, .f32⟩
  | 85 => ⟨S1x512, .f32⟩
  | 86 => ⟨S512, .f32⟩
  | 87 => ⟨S1x512, .f32⟩
  | 88 => ⟨S2048x512, .f32⟩
  | 89 => ⟨S2048x512, .f32⟩
  | 90 => ⟨S2048x512, .f32⟩
  | 91 => ⟨S2048x512, .f32⟩
  | 92 => ⟨S1x512, .f32⟩
  | 93 => ⟨S512, .f32⟩
  | 94 => ⟨S1x512, .f32⟩
  | 95 => ⟨S2048x512, .f32⟩
  | 96 => ⟨S2048x512, .f32⟩
  | 97 => ⟨S2048x512, .f32⟩
  | 98 => ⟨S2048x512, .f32⟩
  | 99 => ⟨S1x512, .f32⟩
  | 100 => ⟨S512, .f32⟩
  | 101 => ⟨S1x512, .f32⟩
  | 102 => ⟨S2048x512, .f32⟩
  | 103 => ⟨S2048x512, .f32⟩
  | 104 => ⟨S2048x512, .f32⟩
  | 105 => ⟨S2048x512, .f32⟩
  | 106 => ⟨S1x512, .f32⟩
  | 107 => ⟨S512, .f32⟩
  | 108 => ⟨S1x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S_, .f32⟩
  | 117 => ⟨S2078x512, .f32⟩
  | 118 => ⟨S2048x512, .f32⟩
  | 119 => ⟨S2048x512, .f32⟩
  | 120 => ⟨S_, .f32⟩
  | 121 => ⟨S2078x512, .f32⟩
  | 122 => ⟨S2078x512, .f32⟩
  | 123 => ⟨S2048x512, .f32⟩
  | 124 => ⟨S2048x512, .f32⟩
  | 125 => ⟨S_, .f32⟩
  | 126 => ⟨S2078x512, .f32⟩
  | 127 => ⟨S2078x512, .f32⟩
  | _ => ⟨S2048x3584, .f32⟩

abbrev hbmTy0_2 (i : Nat) : BufTy := match i % 128 with
  | 0 => ⟨S2048x512, .f32⟩
  | 1 => ⟨S2048x512, .f32⟩
  | 2 => ⟨S_, .f32⟩
  | 3 => ⟨S2078x512, .f32⟩
  | 4 => ⟨S2078x512, .f32⟩
  | 5 => ⟨S2048x512, .f32⟩
  | 6 => ⟨S2048x512, .f32⟩
  | 7 => ⟨S_, .f32⟩
  | 8 => ⟨S2078x512, .f32⟩
  | 9 => ⟨S2078x512, .f32⟩
  | 10 => ⟨S2048x512, .f32⟩
  | 11 => ⟨S2048x512, .f32⟩
  | 12 => ⟨S_, .f32⟩
  | 13 => ⟨S2078x512, .f32⟩
  | 14 => ⟨S2078x512, .f32⟩
  | 15 => ⟨S2048x512, .f32⟩
  | 16 => ⟨S2048x512, .f32⟩
  | 17 => ⟨S_, .f32⟩
  | 18 => ⟨S2078x512, .f32⟩
  | 19 => ⟨S2078x512, .f32⟩
  | 20 => ⟨S2048x512, .f32⟩
  | 21 => ⟨S2048x512, .f32⟩
  | 22 => ⟨S_, .f32⟩
  | 23 => ⟨S2078x512, .f32⟩
  | 24 => ⟨S2078x512, .f32⟩
  | 25 => ⟨S2048x512, .f32⟩
  | 26 => ⟨S2048x512, .f32⟩
  | 27 => ⟨S_, .f32⟩
  | 28 => ⟨S2078x512, .f32⟩
  | 29 => ⟨S2078x512, .f32⟩
  | 30 => ⟨S2048x512, .f32⟩
  | 31 => ⟨S2048x512, .f32⟩
  | 32 => ⟨S_, .f32⟩
  | 33 => ⟨S2078x512, .f32⟩
  | 34 => ⟨S2078x512, .f32⟩
  | 35 => ⟨S2048x512, .f32⟩
  | 36 => ⟨S2048x512, .f32⟩
  | 37 => ⟨S_, .f32⟩
  | 38 => ⟨S2078x512, .f32⟩
  | 39 => ⟨S2078x512, .f32⟩
  | 40 => ⟨S2048x512, .f32⟩
  | 41 => ⟨S2048x512, .f32⟩
  | 42 => ⟨S_, .f32⟩
  | 43 => ⟨S2078x512, .f32⟩
  | 44 => ⟨S2078x512, .f32⟩
  | 45 => ⟨S2048x512, .f32⟩
  | 46 => ⟨S2048x512, .f32⟩
  | 47 => ⟨S_, .f32⟩
  | 48 => ⟨S2078x512, .f32⟩
  | 49 => ⟨S2078x512, .f32⟩
  | 50 => ⟨S2048x512, .f32⟩
  | 51 => ⟨S2048x512, .f32⟩
  | 52 => ⟨S_, .f32⟩
  | 53 => ⟨S2078x512, .f32⟩
  | 54 => ⟨S2078x512, .f32⟩
  | 55 => ⟨S2048x512, .f32⟩
  | 56 => ⟨S2048x512, .f32⟩
  | 57 => ⟨S_, .f32⟩
  | 58 => ⟨S2078x512, .f32⟩
  | 59 => ⟨S2078x512, .f32⟩
  | 60 => ⟨S2048x512, .f32⟩
  | 61 => ⟨S2048x512, .f32⟩
  | 62 => ⟨S_, .f32⟩
  | 63 => ⟨S2078x512, .f32⟩
  | 64 => ⟨S2078x512, .f32⟩
  | 65 => ⟨S2048x512, .f32⟩
  | 66 => ⟨S2048x512, .f32⟩
  | 67 => ⟨S_, .f32⟩
  | 68 => ⟨S2078x512, .f32⟩
  | 69 => ⟨S2078x512, .f32⟩
  | 70 => ⟨S2048x512, .f32⟩
  | 71 => ⟨S2048x512, .f32⟩
  | 72 => ⟨S_, .f32⟩
  | 73 => ⟨S2078x512, .f32⟩
  | 74 => ⟨S2078x512, .f32⟩
  | 75 => ⟨S2048x512, .f32⟩
  | 76 => ⟨S2048x512, .f32⟩
  | 77 => ⟨S_, .f32⟩
  | 78 => ⟨S2078x512, .f32⟩
  | 79 => ⟨S2078x512, .f32⟩
  | 80 => ⟨S2048x512, .f32⟩
  | 81 => ⟨S2048x512, .f32⟩
  | 82 => ⟨S_, .f32⟩
  | 83 => ⟨S2078x512, .f32⟩
  | 84 => ⟨S2078x512, .f32⟩
  | 85 => ⟨S2048x512, .f32⟩
  | 86 => ⟨S2048x512, .f32⟩
  | 87 => ⟨S_, .f32⟩
  | 88 => ⟨S2078x512, .f32⟩
  | 89 => ⟨S2078x512, .f32⟩
  | 90 => ⟨S2048x512, .f32⟩
  | 91 => ⟨S2048x512, .f32⟩
  | 92 => ⟨S_, .f32⟩
  | 93 => ⟨S2078x512, .f32⟩
  | 94 => ⟨S2078x512, .f32⟩
  | 95 => ⟨S2048x512, .f32⟩
  | 96 => ⟨S2048x512, .f32⟩
  | 97 => ⟨S_, .f32⟩
  | 98 => ⟨S2078x512, .f32⟩
  | 99 => ⟨S2078x512, .f32⟩
  | 100 => ⟨S2048x512, .f32⟩
  | 101 => ⟨S2048x512, .f32⟩
  | 102 => ⟨S_, .f32⟩
  | 103 => ⟨S2078x512, .f32⟩
  | 104 => ⟨S2078x512, .f32⟩
  | 105 => ⟨S2048x512, .f32⟩
  | 106 => ⟨S2048x512, .f32⟩
  | 107 => ⟨S_, .f32⟩
  | 108 => ⟨S2078x512, .f32⟩
  | 109 => ⟨S2078x512, .f32⟩
  | 110 => ⟨S2048x512, .f32⟩
  | 111 => ⟨S2048x512, .f32⟩
  | 112 => ⟨S_, .f32⟩
  | 113 => ⟨S2078x512, .f32⟩
  | 114 => ⟨S2078x512, .f32⟩
  | 115 => ⟨S2048x512, .f32⟩
  | 116 => ⟨S2048x512, .f32⟩
  | 117 => ⟨S_, .f32⟩
  | 118 => ⟨S2078x512, .f32⟩
  | 119 => ⟨S2078x512, .f32⟩
  | 120 => ⟨S2048x512, .f32⟩
  | 121 => ⟨S2048x512, .f32⟩
  | 122 => ⟨S_, .f32⟩
  | 123 => ⟨S2078x512, .f32⟩
  | 124 => ⟨S2078x512, .f32⟩
  | 125 => ⟨S2048x512, .f32⟩
  | 126 => ⟨S2048x512, .f32⟩
  | 127 => ⟨S_, .f32⟩
  | _ => ⟨S2048x3584, .f32⟩

abbrev hbmTy0_3 (i : Nat) : BufTy := match i % 128 with
  | 0 => ⟨S2078x512, .f32⟩
  | 1 => ⟨S2078x512, .f32⟩
  | 2 => ⟨S2048x512, .f32⟩
  | 3 => ⟨S2048x512, .f32⟩
  | 4 => ⟨S_, .f32⟩
  | 5 => ⟨S2078x512, .f32⟩
  | 6 => ⟨S2078x512, .f32⟩
  | 7 => ⟨S2048x512, .f32⟩
  | 8 => ⟨S2048x512, .f32⟩
  | 9 => ⟨S_, .f32⟩
  | 10 => ⟨S2078x512, .f32⟩
  | 11 => ⟨S2078x512, .f32⟩
  | 12 => ⟨S30x512, .f32⟩
  | 13 => ⟨S2048x512, .f32⟩
  | 14 => ⟨S2048x512, .f32⟩
  | 15 => ⟨S2048x512, .f32⟩
  | 16 => ⟨S2048x512, .f32⟩
  | 17 => ⟨S2048x1024, .f32⟩
  | 18 => ⟨S2048x1024, .bf16⟩
  | _ => ⟨S2048x3584, .f32⟩

abbrev hbmTy (i : Nat) : BufTy := match i / 128 with
  | 0 => hbmTy0_0 i
  | 1 => hbmTy0_1 i
  | 2 => hbmTy0_2 i
  | 3 => hbmTy0_3 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_cst_4 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_cst_5 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_cst_6 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_cst_7 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_cst_8 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_cst_9 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_cst_10 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_cst_11 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_cst_12 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_cst_13 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_cst_14 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_v278 : Ref sig .tc := ⟨.hbm, 297, rfl⟩
abbrev main_cst_15 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_cst_16 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_cst_17 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_cst_18 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_cst_19 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_cst_20 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_cst_21 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_cst_22 : Ref sig .tc := ⟨.hbm, 333, rfl⟩
abbrev main_v307 : Ref sig .tc := ⟨.hbm, 334, rfl⟩
abbrev main_v308 : Ref sig .tc := ⟨.hbm, 335, rfl⟩
abbrev main_v309 : Ref sig .tc := ⟨.hbm, 336, rfl⟩
abbrev main_v310 : Ref sig .tc := ⟨.hbm, 337, rfl⟩
abbrev main_cst_23 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_cst_24 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_cst_25 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_cst_26 : Ref sig .tc := ⟨.hbm, 353, rfl⟩
abbrev main_v323 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_cst_27 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_cst_28 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_cst_29 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_cst_30 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_cst_31 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_cst_32 : Ref sig .tc := ⟨.hbm, 383, rfl⟩
abbrev main_v347 : Ref sig .tc := ⟨.hbm, 384, rfl⟩
abbrev main_v348 : Ref sig .tc := ⟨.hbm, 385, rfl⟩
abbrev main_v349 : Ref sig .tc := ⟨.hbm, 386, rfl⟩
abbrev main_v350 : Ref sig .tc := ⟨.hbm, 387, rfl⟩
abbrev main_cst_33 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_cst_34 : Ref sig .tc := ⟨.hbm, 393, rfl⟩
abbrev main_v355 : Ref sig .tc := ⟨.hbm, 394, rfl⟩
abbrev main_v356 : Ref sig .tc := ⟨.hbm, 395, rfl⟩
abbrev main_v357 : Ref sig .tc := ⟨.hbm, 396, rfl⟩
abbrev main_v358 : Ref sig .tc := ⟨.hbm, 397, rfl⟩
abbrev main_v359 : Ref sig .tc := ⟨.hbm, 398, rfl⟩
abbrev main_v360 : Ref sig .tc := ⟨.hbm, 399, rfl⟩
abbrev main_v361 : Ref sig .tc := ⟨.hbm, 400, rfl⟩
abbrev main_v362 : Ref sig .tc := ⟨.hbm, 401, rfl⟩
abbrev main_v363 : Ref sig .tc := ⟨.hbm, 402, rfl⟩

abbrev nD : Nat := 1
abbrev τ : Topo := Topo.v7x

variable {F : FTy → Type} [FloatOps F]
-- ==== ConvBwdA.lean ====
abbrev S2048x3584 : Shape := ⟨2, ![2048, 3584]⟩
abbrev S31x512 : Shape := ⟨2, ![31, 512]⟩
abbrev S512 : Shape := ⟨1, ![512]⟩
abbrev S2048x512 : Shape := ⟨2, ![2048, 512]⟩
abbrev S_ : Shape := ⟨0, ![]⟩
abbrev S32x512 : Shape := ⟨2, ![32, 512]⟩
abbrev S1x512 : Shape := ⟨2, ![1, 512]⟩
abbrev S8x128 : Shape := ⟨2, ![8, 128]⟩
abbrev S256x512 : Shape := ⟨2, ![256, 512]⟩
abbrev S288x512 : Shape := ⟨2, ![288, 512]⟩
abbrev S7x288x512 : Shape := ⟨3, ![7, 288, 512]⟩
abbrev S280x512 : Shape := ⟨2, ![280, 512]⟩
abbrev S1x280x512 : Shape := ⟨3, ![1, 280, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 18
  | .vmem => 23
  | .smem => 0
  | _ => 0

abbrev bufTy : (tb : Table) → Fin (tcTables nBuf tb) → BufTy
  | .hbm, ⟨0, _⟩ => ⟨S2048x3584, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S2048x512, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S2048x512, .f32⟩
  | .hbm, ⟨13, _⟩ => ⟨S32x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S32x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S8x128, .f32⟩
  | .local _ .vmem, ⟨21, _⟩ => ⟨S288x512, .f32⟩
  | .local _ .vmem, ⟨22, _⟩ => ⟨S7x288x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvBwdARefIdeal.lean ====
abbrev S2048x3584 : Shape := ⟨2, ![2048, 3584]⟩
abbrev S31x512 : Shape := ⟨2, ![31, 512]⟩
abbrev S512 : Shape := ⟨1, ![512]⟩
abbrev S2048x512 : Shape := ⟨2, ![2048, 512]⟩
abbrev S2048x1024 : Shape := ⟨2, ![2048, 1024]⟩
abbrev S_ : Shape := ⟨0, ![]⟩
abbrev S30x512 : Shape := ⟨2, ![30, 512]⟩
abbrev S2078x512 : Shape := ⟨2, ![2078, 512]⟩
abbrev S1x512 : Shape := ⟨2, ![1, 512]⟩
abbrev S2048 : Shape := ⟨1, ![2048]⟩
abbrev S2048x1 : Shape := ⟨2, ![2048, 1]⟩
abbrev S32x512 : Shape := ⟨2, ![32, 512]⟩

abbrev nBuf : Space → Nat
  | .hbm => 649
  | .vmem => 0
  | .smem => 0
  | _ => 0

abbrev hbmTy0_0 (i : Nat) : BufTy := match i % 128 with
  | 0 => ⟨S2048x3584, .f32⟩
  | 1 => ⟨S31x512, .f32⟩
  | 2 => ⟨S512, .f32⟩
  | 3 => ⟨S512, .f32⟩
  | 4 => ⟨S512, .f32⟩
  | 5 => ⟨S2048x512, .f32⟩
  | 6 => ⟨S2048x1024, .f32⟩
  | 7 => ⟨S2048x512, .f32⟩
  | 8 => ⟨S2048x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S2048x512, .f32⟩
  | 18 => ⟨S_, .f32⟩
  | 19 => ⟨S30x512, .f32⟩
  | 20 => ⟨S2078x512, .f32⟩
  | 21 => ⟨S2048x512, .f32⟩
  | 22 => ⟨S1x512, .f32⟩
  | 23 => ⟨S512, .f32⟩
  | 24 => ⟨S1x512, .f32⟩
  | 25 => ⟨S2048x512, .f32⟩
  | 26 => ⟨S2048x512, .f32⟩
  | 27 => ⟨S2048x512, .f32⟩
  | 28 => ⟨S1x512, .f32⟩
  | 29 => ⟨S512, .f32⟩
  | 30 => ⟨S1x512, .f32⟩
  | 31 => ⟨S2048x512, .f32⟩
  | 32 => ⟨S2048x512, .f32⟩
  | 33 => ⟨S2048x512, .f32⟩
  | 34 => ⟨S2048x512, .f32⟩
  | 35 => ⟨S1x512, .f32⟩
  | 36 => ⟨S512, .f32⟩
  | 37 => ⟨S1x512, .f32⟩
  | 38 => ⟨S2048x512, .f32⟩
  | 39 => ⟨S2048x512, .f32⟩
  | 40 => ⟨S2048x512, .f32⟩
  | 41 => ⟨S2048x512, .f32⟩
  | 42 => ⟨S1x512, .f32⟩
  | 43 => ⟨S512, .f32⟩
  | 44 => ⟨S1x512, .f32⟩
  | 45 => ⟨S2048x512, .f32⟩
  | 46 => ⟨S2048x512, .f32⟩
  | 47 => ⟨S2048x512, .f32⟩
  | 48 => ⟨S2048x512, .f32⟩
  | 49 => ⟨S1x512, .f32⟩
  | 50 => ⟨S512, .f32⟩
  | 51 => ⟨S1x512, .f32⟩
  | 52 => ⟨S2048x512, .f32⟩
  | 53 => ⟨S2048x512, .f32⟩
  | 54 => ⟨S2048x512, .f32⟩
  | 55 => ⟨S2048x512, .f32⟩
  | 56 => ⟨S1x512, .f32⟩
  | 57 => ⟨S512, .f32⟩
  | 58 => ⟨S1x512, .f32⟩
  | 59 => ⟨S2048x512, .f32⟩
  | 60 => ⟨S2048x512, .f32⟩
  | 61 => ⟨S2048x512, .f32⟩
  | 62 => ⟨S2048x512, .f32⟩
  | 63 => ⟨S1x512, .f32⟩
  | 64 => ⟨S512, .f32⟩
  | 65 => ⟨S1x512, .f32⟩
  | 66 => ⟨S2048x512, .f32⟩
  | 67 => ⟨S2048x512, .f32⟩
  | 68 => ⟨S2048x512, .f32⟩
  | 69 => ⟨S2048x512, .f32⟩
  | 70 => ⟨S1x512, .f32⟩
  | 71 => ⟨S512, .f32⟩
  | 72 => ⟨S1x512, .f32⟩
  | 73 => ⟨S2048x512, .f32⟩
  | 74 => ⟨S2048x512, .f32⟩
  | 75 => ⟨S2048x512, .f32⟩
  | 76 => ⟨S2048x512, .f32⟩
  | 77 => ⟨S1x512, .f32⟩
  | 78 => ⟨S512, .f32⟩
  | 79 => ⟨S1x512, .f32⟩
  | 80 => ⟨S2048x512, .f32⟩
  | 81 => ⟨S2048x512, .f32⟩
  | 82 => ⟨S2048x512, .f32⟩
  | 83 => ⟨S2048x512, .f32⟩
  | 84 => ⟨S1x512, .f32⟩
  | 85 => ⟨S512, .f32⟩
  | 86 => ⟨S1x512, .f32⟩
  | 87 => ⟨S2048x512, .f32⟩
  | 88 => ⟨S2048x512, .f32⟩
  | 89 => ⟨S2048x512, .f32⟩
  | 90 => ⟨S2048x512, .f32⟩
  | 91 => ⟨S1x512, .f32⟩
  | 92 => ⟨S512, .f32⟩
  | 93 => ⟨S1x512, .f32⟩
  | 94 => ⟨S2048x512, .f32⟩
  | 95 => ⟨S2048x512, .f32⟩
  | 96 => ⟨S2048x512, .f32⟩
  | 97 => ⟨S2048x512, .f32⟩
  | 98 => ⟨S1x512, .f32⟩
  | 99 => ⟨S512, .f32⟩
  | 100 => ⟨S1x512, .f32⟩
  | 101 => ⟨S2048x512, .f32⟩
  | 102 => ⟨S2048x512, .f32⟩
  | 103 => ⟨S2048x512, .f32⟩
  | 104 => ⟨S2048x512, .f32⟩
  | 105 => ⟨S1x512, .f32⟩
  | 106 => ⟨S512, .f32⟩
  | 107 => ⟨S1x512, .f32⟩
  | 108 => ⟨S2048x512, .f32⟩
  | 109 => ⟨S2048x512, .f32⟩
  | 110 => ⟨S2048x512, .f32⟩
  | 111 => ⟨S2048x512, .f32⟩
  | 112 => ⟨S1x512, .f32⟩
  | 113 => ⟨S512, .f32⟩
  | 114 => ⟨S1x512, .f32⟩
  | 115 => ⟨S2048x512, .f32⟩
  | 116 => ⟨S2048x512, .f32⟩
  | 117 => ⟨S2048x512, .f32⟩
  | 118 => ⟨S2048x512, .f32⟩
  | 119 => ⟨S1x512, .f32⟩
  | 120 => ⟨S512, .f32⟩
  | 121 => ⟨S1x512, .f32⟩
  | 122 => ⟨S2048x512, .f32⟩
  | 123 => ⟨S2048x512, .f32⟩
  | 124 => ⟨S2048x512, .f32⟩
  | 125 => ⟨S2048x512, .f32⟩
  | 126 => ⟨S1x512, .f32⟩
  | 127 => ⟨S512, .f32⟩
  | _ => ⟨S2048x3584, .f32⟩

abbrev hbmTy0_1 (i : Nat) : BufTy := match i % 128 with
  | 0 => ⟨S1x512, .f32⟩
  | 1 => ⟨S2048x512, .f32⟩
  | 2 => ⟨S2048x512, .f32⟩
  | 3 => ⟨S2048x512, .f32⟩
  | 4 => ⟨S2048x512, .f32⟩
  | 5 => ⟨S1x512, .f32⟩
  | 6 => ⟨S512, .f32⟩
  | 7 => ⟨S1x512, .f32⟩
  | 8 => ⟨S2048x512, .f32⟩
  | 9 => ⟨S2048x512, .f32⟩
  | 10 => ⟨S2048x512, .f32⟩
  | 11 => ⟨S2048x512, .f32⟩
  | 12 => ⟨S1x512, .f32⟩
  | 13 => ⟨S512, .f32⟩
  | 14 => ⟨S1x512, .f32⟩
  | 15 => ⟨S2048x512, .f32⟩
  | 16 => ⟨S2048x512, .f32⟩
  | 17 => ⟨S2048x512, .f32⟩
  | 18 => ⟨S2048x512, .f32⟩
  | 19 => ⟨S1x512, .f32⟩
  | 20 => ⟨S512, .f32⟩
  | 21 => ⟨S1x512, .f32⟩
  | 22 => ⟨S2048x512, .f32⟩
  | 23 => ⟨S2048x512, .f32⟩
  | 24 => ⟨S2048x512, .f32⟩
  | 25 => ⟨S2048x512, .f32⟩
  | 26 => ⟨S1x512, .f32⟩
  | 27 => ⟨S512, .f32⟩
  | 28 => ⟨S1x512, .f32⟩
  | 29 => ⟨S2048x512, .f32⟩
  | 30 => ⟨S2048x512, .f32⟩
  | 31 => ⟨S2048x512, .f32⟩
  | 32 => ⟨S2048x512, .f32⟩
  | 33 => ⟨S1x512, .f32⟩
  | 34 => ⟨S512, .f32⟩
  | 35 => ⟨S1x512, .f32⟩
  | 36 => ⟨S2048x512, .f32⟩
  | 37 => ⟨S2048x512, .f32⟩
  | 38 => ⟨S2048x512, .f32⟩
  | 39 => ⟨S2048x512, .f32⟩
  | 40 => ⟨S1x512, .f32⟩
  | 41 => ⟨S512, .f32⟩
  | 42 => ⟨S1x512, .f32⟩
  | 43 => ⟨S2048x512, .f32⟩
  | 44 => ⟨S2048x512, .f32⟩
  | 45 => ⟨S2048x512, .f32⟩
  | 46 => ⟨S2048x512, .f32⟩
  | 47 => ⟨S1x512, .f32⟩
  | 48 => ⟨S512, .f32⟩
  | 49 => ⟨S1x512, .f32⟩
  | 50 => ⟨S2048x512, .f32⟩
  | 51 => ⟨S2048x512, .f32⟩
  | 52 => ⟨S2048x512, .f32⟩
  | 53 => ⟨S2048x512, .f32⟩
  | 54 => ⟨S1x512, .f32⟩
  | 55 => ⟨S512, .f32⟩
  | 56 => ⟨S1x512, .f32⟩
  | 57 => ⟨S2048x512, .f32⟩
  | 58 => ⟨S2048x512, .f32⟩
  | 59 => ⟨S2048x512, .f32⟩
  | 60 => ⟨S2048x512, .f32⟩
  | 61 => ⟨S1x512, .f32⟩
  | 62 => ⟨S512, .f32⟩
  | 63 => ⟨S1x512, .f32⟩
  | 64 => ⟨S2048x512, .f32⟩
  | 65 => ⟨S2048x512, .f32⟩
  | 66 => ⟨S2048x512, .f32⟩
  | 67 => ⟨S2048x512, .f32⟩
  | 68 => ⟨S1x512, .f32⟩
  | 69 => ⟨S512, .f32⟩
  | 70 => ⟨S1x512, .f32⟩
  | 71 => ⟨S2048x512, .f32⟩
  | 72 => ⟨S2048x512, .f32⟩
  | 73 => ⟨S2048x512, .f32⟩
  | 74 => ⟨S2048x512, .f32⟩
  | 75 => ⟨S1x512, .f32⟩
  | 76 => ⟨S512, .f32⟩
  | 77 => ⟨S1x512, .f32⟩
  | 78 => ⟨S2048x512, .f32⟩
  | 79 => ⟨S2048x512, .f32⟩
  | 80 => ⟨S2048x512, .f32⟩
  | 81 => ⟨S2048x512, .f32⟩
  | 82 => ⟨S1x512, .f32⟩
  | 83 => ⟨S512, .f32⟩
  | 84 => ⟨S1x512, .f32⟩
  | 85 => ⟨S2048x512, .f32⟩
  | 86 => ⟨S2048x512, .f32⟩
  | 87 => ⟨S2048x512, .f32⟩
  | 88 => ⟨S2048x512, .f32⟩
  | 89 => ⟨S1x512, .f32⟩
  | 90 => ⟨S512, .f32⟩
  | 91 => ⟨S1x512, .f32⟩
  | 92 => ⟨S2048x512, .f32⟩
  | 93 => ⟨S2048x512, .f32⟩
  | 94 => ⟨S2048x512, .f32⟩
  | 95 => ⟨S2048x512, .f32⟩
  | 96 => ⟨S1x512, .f32⟩
  | 97 => ⟨S512, .f32⟩
  | 98 => ⟨S1x512, .f32⟩
  | 99 => ⟨S2048x512, .f32⟩
  | 100 => ⟨S2048x512, .f32⟩
  | 101 => ⟨S2048x512, .f32⟩
  | 102 => ⟨S2048x512, .f32⟩
  | 103 => ⟨S1x512, .f32⟩
  | 104 => ⟨S512, .f32⟩
  | 105 => ⟨S1x512, .f32⟩
  | 106 => ⟨S2048x512, .f32⟩
  | 107 => ⟨S2048x512, .f32⟩
  | 108 => ⟨S2048x512, .f32⟩
  | 109 => ⟨S1x512, .f32⟩
  | 110 => ⟨S2048x512, .f32⟩
  | 111 => ⟨S2048x512, .f32⟩
  | 112 => ⟨S_, .f32⟩
  | 113 => ⟨S2048, .f32⟩
  | 114 => ⟨S2048x1, .f32⟩
  | 115 => ⟨S_, .f32⟩
  | 116 => ⟨S2048x1, .f32⟩
  | 117 => ⟨S2048x1, .f32⟩
  | 118 => ⟨S2048x512, .f32⟩
  | 119 => ⟨S2048x512, .f32⟩
  | 120 => ⟨S2048x512, .f32⟩
  | 121 => ⟨S_, .f32⟩
  | 122 => ⟨S2048, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S2048x3584, .f32⟩

abbrev hbmTy0_2 (i : Nat) : BufTy := match i % 128 with
  | 0 => ⟨S2048x1, .f32⟩
  | 1 => ⟨S2048x1, .f32⟩
  | 2 => ⟨S2048x1, .f32⟩
  | 3 => ⟨S2048x1, .f32⟩
  | 4 => ⟨S_, .f32⟩
  | 5 => ⟨S2048x1, .f32⟩
  | 6 => ⟨S2048x1, .f32⟩
  | 7 => ⟨S2048x512, .f32⟩
  | 8 => ⟨S2048x512, .f32⟩
  | 9 => ⟨S1x512, .f32⟩
  | 10 => ⟨S2048x512, .f32⟩
  | 11 => ⟨S2048x512, .f32⟩
  | 12 => ⟨S1x512, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S_, .f32⟩
  | 21 => ⟨S2048x512, .f32⟩
  | 22 => ⟨S2048x512, .f32⟩
  | 23 => ⟨S_, .f32⟩
  | 24 => ⟨S2048x512, .f32⟩
  | 25 => ⟨S2048x512, .f32⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S_, .f32⟩
  | 33 => ⟨S512, .f32⟩
  | 34 => ⟨S1x512, .f32⟩
  | 35 => ⟨S_, .f32⟩
  | 36 => ⟨S512, .f32⟩
  | 37 => ⟨S2048x512, .f32⟩
  | 38 => ⟨S_, .f32⟩
  | 39 => ⟨S512, .f32⟩
  | 40 => ⟨S1x512, .f32⟩
  | 41 => ⟨S2048x512, .f32⟩
  | 42 => ⟨S2048x512, .f32⟩
  | 43 => ⟨S_, .f32⟩
  | 44 => ⟨S512, .f32⟩
  | 45 => ⟨S2048x512, .f32⟩
  | 46 => ⟨S_, .f32⟩
  | 47 => ⟨S2048, .f32⟩
  | 48 => ⟨S2048x1, .f32⟩
  | 49 => ⟨S2048x512, .f32⟩
  | 50 => ⟨S2048x512, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048, .f32⟩
  | 57 => ⟨S2048x512, .f32⟩
  | 58 => ⟨S2048x512, .f32⟩
  | 59 => ⟨S2048x512, .f32⟩
  | 60 => ⟨S2048x512, .f32⟩
  | 61 => ⟨S2048x512, .f32⟩
  | 62 => ⟨S2048x512, .f32⟩
  | 63 => ⟨S_, .f32⟩
  | 64 => ⟨S2048, .f32⟩
  | 65 => ⟨S2048x1, .f32⟩
  | 66 => ⟨S_, .f32⟩
  | 67 => ⟨S2048x1, .f32⟩
  | 68 => ⟨S2048x1, .f32⟩
  | 69 => ⟨S_, .f32⟩
  | 70 => ⟨S2048, .f32⟩
  | 71 => ⟨S2048x512, .f32⟩
  | 72 => ⟨S2048x512, .f32⟩
  | 73 => ⟨S_, .f32⟩
  | 74 => ⟨S512, .f32⟩
  | 75 => ⟨S1x512, .f32⟩
  | 76 => ⟨S_, .f32⟩
  | 77 => ⟨S512, .f32⟩
  | 78 => ⟨S2048x512, .f32⟩
  | 79 => ⟨S_, .f32⟩
  | 80 => ⟨S512, .f32⟩
  | 81 => ⟨S1x512, .f32⟩
  | 82 => ⟨S_, .f32⟩
  | 83 => ⟨S512, .f32⟩
  | 84 => ⟨S1x512, .f32⟩
  | 85 => ⟨S_, .f32⟩
  | 86 => ⟨S31x512, .f32⟩
  | 87 => ⟨S2048x512, .f32⟩
  | 88 => ⟨S_, .f32⟩
  | 89 => ⟨S512, .f32⟩
  | 90 => ⟨S1x512, .f32⟩
  | 91 => ⟨S_, .f32⟩
  | 92 => ⟨S512, .f32⟩
  | 93 => ⟨S1x512, .f32⟩
  | 94 => ⟨S_, .f32⟩
  | 95 => ⟨S31x512, .f32⟩
  | 96 => ⟨S31x512, .f32⟩
  | 97 => ⟨S2048x512, .f32⟩
  | 98 => ⟨S_, .f32⟩
  | 99 => ⟨S512, .f32⟩
  | 100 => ⟨S1x512, .f32⟩
  | 101 => ⟨S_, .f32⟩
  | 102 => ⟨S512, .f32⟩
  | 103 => ⟨S1x512, .f32⟩
  | 104 => ⟨S_, .f32⟩
  | 105 => ⟨S31x512, .f32⟩
  | 106 => ⟨S31x512, .f32⟩
  | 107 => ⟨S2048x512, .f32⟩
  | 108 => ⟨S_, .f32⟩
  | 109 => ⟨S512, .f32⟩
  | 110 => ⟨S1x512, .f32⟩
  | 111 => ⟨S_, .f32⟩
  | 112 => ⟨S512, .f32⟩
  | 113 => ⟨S1x512, .f32⟩
  | 114 => ⟨S_, .f32⟩
  | 115 => ⟨S31x512, .f32⟩
  | 116 => ⟨S31x512, .f32⟩
  | 117 => ⟨S2048x512, .f32⟩
  | 118 => ⟨S_, .f32⟩
  | 119 => ⟨S512, .f32⟩
  | 120 => ⟨S1x512, .f32⟩
  | 121 => ⟨S_, .f32⟩
  | 122 => ⟨S512, .f32⟩
  | 123 => ⟨S1x512, .f32⟩
  | 124 => ⟨S_, .f32⟩
  | 125 => ⟨S31x512, .f32⟩
  | 126 => ⟨S31x512, .f32⟩
  | 127 => ⟨S2048x512, .f32⟩
  | _ => ⟨S2048x3584, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S512, .f32⟩
  | 5 => ⟨S1x512, .f32⟩
  | 6 => ⟨S_, .f32⟩
  | 7 => ⟨S31x512, .f32⟩
  | 8 => ⟨S31x512, .f32⟩
  | 9 => ⟨S2048x512, .f32⟩
  | 10 => ⟨S_, .f32⟩
  | 11 => ⟨S512, .f32⟩
  | 12 => ⟨S1x512, .f32⟩
  | 13 => ⟨S_, .f32⟩
  | 14 => ⟨S512, .f32⟩
  | 15 => ⟨S1x512, .f32⟩
  | 16 => ⟨S_, .f32⟩
  | 17 => ⟨S31x512, .f32⟩
  | 18 => ⟨S31x512, .f32⟩
  | 19 => ⟨S2048x512, .f32⟩
  | 20 => ⟨S_, .f32⟩
  | 21 => ⟨S512, .f32⟩
  | 22 => ⟨S1x512, .f32⟩
  | 23 => ⟨S_, .f32⟩
  | 24 => ⟨S512, .f32⟩
  | 25 => ⟨S1x512, .f32⟩
  | 26 => ⟨S_, .f32⟩
  | 27 => ⟨S31x512, .f32⟩
  | 28 => ⟨S31x512, .f32⟩
  | 29 => ⟨S2048x512, .f32⟩
  | 30 => ⟨S_, .f32⟩
  | 31 => ⟨S512, .f32⟩
  | 32 => ⟨S1x512, .f32⟩
  | 33 => ⟨S_, .f32⟩
  | 34 => ⟨S512, .f32⟩
  | 35 => ⟨S1x512, .f32⟩
  | 36 => ⟨S_, .f32⟩
  | 37 => ⟨S31x512, .f32⟩
  | 38 => ⟨S31x512, .f32⟩
  | 39 => ⟨S2048x512, .f32⟩
  | 40 => ⟨S_, .f32⟩
  | 41 => ⟨S512, .f32⟩
  | 42 => ⟨S1x512, .f32⟩
  | 43 => ⟨S_, .f32⟩
  | 44 => ⟨S512, .f32⟩
  | 45 => ⟨S1x512, .f32⟩
  | 46 => ⟨S_, .f32⟩
  | 47 => ⟨S31x512, .f32⟩
  | 48 => ⟨S31x512, .f32⟩
  | 49 => ⟨S2048x512, .f32⟩
  | 50 => ⟨S_, .f32⟩
  | 51 => ⟨S512, .f32⟩
  | 52 => ⟨S1x512, .f32⟩
  | 53 => ⟨S_, .f32⟩
  | 54 => ⟨S512, .f32⟩
  | 55 => ⟨S1x512, .f32⟩
  | 56 => ⟨S_, .f32⟩
  | 57 => ⟨S31x512, .f32⟩
  | 58 => ⟨S31x512, .f32⟩
  | 59 => ⟨S2048x512, .f32⟩
  | 60 => ⟨S_, .f32⟩
  | 61 => ⟨S512, .f32⟩
  | 62 => ⟨S1x512, .f32⟩
  | 63 => ⟨S_, .f32⟩
  | 64 => ⟨S512, .f32⟩
  | 65 => ⟨S1x512, .f32⟩
  | 66 => ⟨S_, .f32⟩
  | 67 => ⟨S31x512, .f32⟩
  | 68 => ⟨S31x512, .f32⟩
  | 69 => ⟨S2048x512, .f32⟩
  | 70 => ⟨S_, .f32⟩
  | 71 => ⟨S512, .f32⟩
  | 72 => ⟨S1x512, .f32⟩
  | 73 => ⟨S_, .f32⟩
  | 74 => ⟨S512, .f32⟩
  | 75 => ⟨S1x512, .f32⟩
  | 76 => ⟨S_, .f32⟩
  | 77 => ⟨S31x512, .f32⟩
  | 78 => ⟨S31x512, .f32⟩
  | 79 => ⟨S2048x512, .f32⟩
  | 80 => ⟨S_, .f32⟩
  | 81 => ⟨S512, .f32⟩
  | 82 => ⟨S1x512, .f32⟩
  | 83 => ⟨S_, .f32⟩
  | 84 => ⟨S512, .f32⟩
  | 85 => ⟨S1x512, .f32⟩
  | 86 => ⟨S_, .f32⟩
  | 87 => ⟨S31x512, .f32⟩
  | 88 => ⟨S31x512, .f32⟩
  | 89 => ⟨S2048x512, .f32⟩
  | 90 => ⟨S_, .f32⟩
  | 91 => ⟨S512, .f32⟩
  | 92 => ⟨S1x512, .f32⟩
  | 93 => ⟨S_, .f32⟩
  | 94 => ⟨S512, .f32⟩
  | 95 => ⟨S1x512, .f32⟩
  | 96 => ⟨S_, .f32⟩
  | 97 => ⟨S31x512, .f32⟩
  | 98 => ⟨S31x512, .f32⟩
  | 99 => ⟨S2048x512, .f32⟩
  | 100 => ⟨S_, .f32⟩
  | 101 => ⟨S512, .f32⟩
  | 102 => ⟨S1x512, .f32⟩
  | 103 => ⟨S_, .f32⟩
  | 104 => ⟨S512, .f32⟩
  | 105 => ⟨S1x512, .f32⟩
  | 106 => ⟨S_, .f32⟩
  | 107 => ⟨S31x512, .f32⟩
  | 108 => ⟨S31x512, .f32⟩
  | 109 => ⟨S2048x512, .f32⟩
  | 110 => ⟨S_, .f32⟩
  | 111 => ⟨S512, .f32⟩
  | 112 => ⟨S1x512, .f32⟩
  | 113 => ⟨S_, .f32⟩
  | 114 => ⟨S512, .f32⟩
  | 115 => ⟨S1x512, .f32⟩
  | 116 => ⟨S_, .f32⟩
  | 117 => ⟨S31x512, .f32⟩
  | 118 => ⟨S31x512, .f32⟩
  | 119 => ⟨S2048x512, .f32⟩
  | 120 => ⟨S_, .f32⟩
  | 121 => ⟨S512, .f32⟩
  | 122 => ⟨S1x512, .f32⟩
  | 123 => ⟨S_, .f32⟩
  | 124 => ⟨S512, .f32⟩
  | 125 => ⟨S1x512, .f32⟩
  | 126 => ⟨S_, .f32⟩
  | 127 => ⟨S31x512, .f32⟩
  | _ => ⟨S2048x3584, .f32⟩

abbrev hbmTy0_4 (i : Nat) : BufTy := match i % 128 with
  | 0 => ⟨S31x512, .f32⟩
  | 1 => ⟨S2048x512, .f32⟩
  | 2 => ⟨S_, .f32⟩
  | 3 => ⟨S512, .f32⟩
  | 4 => ⟨S1x512, .f32⟩
  | 5 => ⟨S_, .f32⟩
  | 6 => ⟨S512, .f32⟩
  | 7 => ⟨S1x512, .f32⟩
  | 8 => ⟨S_, .f32⟩
  | 9 => ⟨S31x512, .f32⟩
  | 10 => ⟨S31x512, .f32⟩
  | 11 => ⟨S2048x512, .f32⟩
  | 12 => ⟨S_, .f32⟩
  | 13 => ⟨S512, .f32⟩
  | 14 => ⟨S1x512, .f32⟩
  | 15 => ⟨S_, .f32⟩
  | 16 => ⟨S512, .f32⟩
  | 17 => ⟨S1x512, .f32⟩
  | 18 => ⟨S_, .f32⟩
  | 19 => ⟨S31x512, .f32⟩
  | 20 => ⟨S31x512, .f32⟩
  | 21 => ⟨S2048x512, .f32⟩
  | 22 => ⟨S_, .f32⟩
  | 23 => ⟨S512, .f32⟩
  | 24 => ⟨S1x512, .f32⟩
  | 25 => ⟨S_, .f32⟩
  | 26 => ⟨S512, .f32⟩
  | 27 => ⟨S1x512, .f32⟩
  | 28 => ⟨S_, .f32⟩
  | 29 => ⟨S31x512, .f32⟩
  | 30 => ⟨S31x512, .f32⟩
  | 31 => ⟨S2048x512, .f32⟩
  | 32 => ⟨S_, .f32⟩
  | 33 => ⟨S512, .f32⟩
  | 34 => ⟨S1x512, .f32⟩
  | 35 => ⟨S_, .f32⟩
  | 36 => ⟨S512, .f32⟩
  | 37 => ⟨S1x512, .f32⟩
  | 38 => ⟨S_, .f32⟩
  | 39 => ⟨S31x512, .f32⟩
  | 40 => ⟨S31x512, .f32⟩
  | 41 => ⟨S2048x512, .f32⟩
  | 42 => ⟨S_, .f32⟩
  | 43 => ⟨S512, .f32⟩
  | 44 => ⟨S1x512, .f32⟩
  | 45 => ⟨S_, .f32⟩
  | 46 => ⟨S512, .f32⟩
  | 47 => ⟨S1x512, .f32⟩
  | 48 => ⟨S_, .f32⟩
  | 49 => ⟨S31x512, .f32⟩
  | 50 => ⟨S31x512, .f32⟩
  | 51 => ⟨S2048x512, .f32⟩
  | 52 => ⟨S_, .f32⟩
  | 53 => ⟨S512, .f32⟩
  | 54 => ⟨S1x512, .f32⟩
  | 55 => ⟨S_, .f32⟩
  | 56 => ⟨S512, .f32⟩
  | 57 => ⟨S1x512, .f32⟩
  | 58 => ⟨S_, .f32⟩
  | 59 => ⟨S31x512, .f32⟩
  | 60 => ⟨S31x512, .f32⟩
  | 61 => ⟨S2048x512, .f32⟩
  | 62 => ⟨S_, .f32⟩
  | 63 => ⟨S512, .f32⟩
  | 64 => ⟨S1x512, .f32⟩
  | 65 => ⟨S_, .f32⟩
  | 66 => ⟨S512, .f32⟩
  | 67 => ⟨S1x512, .f32⟩
  | 68 => ⟨S_, .f32⟩
  | 69 => ⟨S31x512, .f32⟩
  | 70 => ⟨S31x512, .f32⟩
  | 71 => ⟨S2048x512, .f32⟩
  | 72 => ⟨S_, .f32⟩
  | 73 => ⟨S512, .f32⟩
  | 74 => ⟨S1x512, .f32⟩
  | 75 => ⟨S_, .f32⟩
  | 76 => ⟨S512, .f32⟩
  | 77 => ⟨S1x512, .f32⟩
  | 78 => ⟨S_, .f32⟩
  | 79 => ⟨S31x512, .f32⟩
  | 80 => ⟨S31x512, .f32⟩
  | 81 => ⟨S2048x512, .f32⟩
  | 82 => ⟨S_, .f32⟩
  | 83 => ⟨S512, .f32⟩
  | 84 => ⟨S1x512, .f32⟩
  | 85 => ⟨S_, .f32⟩
  | 86 => ⟨S512, .f32⟩
  | 87 => ⟨S1x512, .f32⟩
  | 88 => ⟨S_, .f32⟩
  | 89 => ⟨S31x512, .f32⟩
  | 90 => ⟨S31x512, .f32⟩
  | 91 => ⟨S2048x512, .f32⟩
  | 92 => ⟨S_, .f32⟩
  | 93 => ⟨S512, .f32⟩
  | 94 => ⟨S1x512, .f32⟩
  | 95 => ⟨S_, .f32⟩
  | 96 => ⟨S512, .f32⟩
  | 97 => ⟨S1x512, .f32⟩
  | 98 => ⟨S_, .f32⟩
  | 99 => ⟨S31x512, .f32⟩
  | 100 => ⟨S31x512, .f32⟩
  | 101 => ⟨S2048x512, .f32⟩
  | 102 => ⟨S_, .f32⟩
  | 103 => ⟨S512, .f32⟩
  | 104 => ⟨S1x512, .f32⟩
  | 105 => ⟨S_, .f32⟩
  | 106 => ⟨S512, .f32⟩
  | 107 => ⟨S1x512, .f32⟩
  | 108 => ⟨S_, .f32⟩
  | 109 => ⟨S31x512, .f32⟩
  | 110 => ⟨S31x512, .f32⟩
  | 111 => ⟨S2048x512, .f32⟩
  | 112 => ⟨S_, .f32⟩
  | 113 => ⟨S512, .f32⟩
  | 114 => ⟨S1x512, .f32⟩
  | 115 => ⟨S_, .f32⟩
  | 116 => ⟨S512, .f32⟩
  | 117 => ⟨S1x512, .f32⟩
  | 118 => ⟨S_, .f32⟩
  | 119 => ⟨S31x512, .f32⟩
  | 120 => ⟨S31x512, .f32⟩
  | 121 => ⟨S2048x512, .f32⟩
  | 122 => ⟨S_, .f32⟩
  | 123 => ⟨S512, .f32⟩
  | 124 => ⟨S1x512, .f32⟩
  | 125 => ⟨S_, .f32⟩
  | 126 => ⟨S512, .f32⟩
  | 127 => ⟨S1x512, .f32⟩
  | _ => ⟨S2048x3584, .f32⟩

abbrev hbmTy0_5 (i : Nat) : BufTy := match i % 128 with
  | 0 => ⟨S_, .f32⟩
  | 1 => ⟨S31x512, .f32⟩
  | 2 => ⟨S31x512, .f32⟩
  | 3 => ⟨S_, .i32⟩
  | 4 => ⟨S_, .f32⟩
  | 5 => ⟨S32x512, .f32⟩
  | 6 => ⟨S1x512, .f32⟩
  | 7 => ⟨S1x512, .f32⟩
  | 8 => ⟨S1x512, .f32⟩
  | _ => ⟨S2048x3584, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_cst_6 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_7 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_call0_v0 : Ref sig .tc := ⟨.hbm, 271, rfl⟩
abbrev main_call0_v1 : Ref sig .tc := ⟨.hbm, 272, rfl⟩
abbrev main_call0_cst : Ref sig .tc := ⟨.hbm, 273, rfl⟩
abbrev main_call0_v2 : Ref sig .tc := ⟨.hbm, 274, rfl⟩
abbrev main_call0_v3 : Ref sig .tc := ⟨.hbm, 275, rfl⟩
abbrev main_call0_cst_0 : Ref sig .tc := ⟨.hbm, 276, rfl⟩
abbrev main_call0_v4 : Ref sig .tc := ⟨.hbm, 277, rfl⟩
abbrev main_v256_2 : Ref sig .tc := ⟨.hbm, 278, rfl⟩
abbrev main_call0_cst_1 : Ref sig .tc := ⟨.hbm, 279, rfl⟩
abbrev main_call0_v6 : Ref sig .tc := ⟨.hbm, 280, rfl⟩
abbrev main_call0_v7 : Ref sig .tc := ⟨.hbm, 281, rfl⟩
abbrev main_v256_1 : Ref sig .tc := ⟨.hbm, 282, rfl⟩
abbrev main_v256_0 : Ref sig .tc := ⟨.hbm, 283, rfl⟩
abbrev main_call1_v0 : Ref sig .tc := ⟨.hbm, 284, rfl⟩
abbrev main_call1_v1 : Ref sig .tc := ⟨.hbm, 285, rfl⟩
abbrev main_call1_v2 : Ref sig .tc := ⟨.hbm, 286, rfl⟩
abbrev main_v257 : Ref sig .tc := ⟨.hbm, 287, rfl⟩
abbrev main_cst_8 : Ref sig .tc := ⟨.hbm, 288, rfl⟩
abbrev main_v258 : Ref sig .tc := ⟨.hbm, 289, rfl⟩
abbrev main_v259 : Ref sig .tc := ⟨.hbm, 290, rfl⟩
abbrev main_cst_9 : Ref sig .tc := ⟨.hbm, 291, rfl⟩
abbrev main_v260 : Ref sig .tc := ⟨.hbm, 292, rfl⟩
abbrev main_v261 : Ref sig .tc := ⟨.hbm, 293, rfl⟩
abbrev main_cst_10 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_cst_11 : Ref sig .tc := ⟨.hbm, 299, rfl⟩
abbrev main_v266 : Ref sig .tc := ⟨.hbm, 300, rfl⟩
abbrev main_v267 : Ref sig .tc := ⟨.hbm, 301, rfl⟩
abbrev main_cst_12 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_cst_13 : Ref sig .tc := ⟨.hbm, 308, rfl⟩
abbrev main_v273 : Ref sig .tc := ⟨.hbm, 309, rfl⟩
abbrev main_v274 : Ref sig .tc := ⟨.hbm, 310, rfl⟩
abbrev main_cst_14 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_cst_15 : Ref sig .tc := ⟨.hbm, 319, rfl⟩
abbrev main_v282 : Ref sig .tc := ⟨.hbm, 320, rfl⟩
abbrev main_v283 : Ref sig .tc := ⟨.hbm, 321, rfl⟩
abbrev main_cst_16 : Ref sig .tc := ⟨.hbm, 322, rfl⟩
abbrev main_v284 : Ref sig .tc := ⟨.hbm, 323, rfl⟩
abbrev main_v285 : Ref sig .tc := ⟨.hbm, 324, rfl⟩
abbrev main_cst_17 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_cst_18 : Ref sig .tc := ⟨.hbm, 329, rfl⟩
abbrev main_v289 : Ref sig .tc := ⟨.hbm, 330, rfl⟩
abbrev main_v290 : Ref sig .tc := ⟨.hbm, 331, rfl⟩
abbrev main_cst_19 : Ref sig .tc := ⟨.hbm, 332, rfl⟩
abbrev main_v291 : Ref sig .tc := ⟨.hbm, 333, rfl⟩
abbrev main_v292 : Ref sig .tc := ⟨.hbm, 334, rfl⟩
abbrev main_cst_20 : Ref sig .tc := ⟨.hbm, 335, rfl⟩
abbrev main_v293 : Ref sig .tc := ⟨.hbm, 336, rfl⟩
abbrev main_v294 : Ref sig .tc := ⟨.hbm, 337, rfl⟩
abbrev main_cst_21 : Ref sig .tc := ⟨.hbm, 338, rfl⟩
abbrev main_v295 : Ref sig .tc := ⟨.hbm, 339, rfl⟩
abbrev main_v296 : Ref sig .tc := ⟨.hbm, 340, rfl⟩
abbrev main_cst_22 : Ref sig .tc := ⟨.hbm, 341, rfl⟩
abbrev main_v297 : Ref sig .tc := ⟨.hbm, 342, rfl⟩
abbrev main_v298 : Ref sig .tc := ⟨.hbm, 343, rfl⟩
abbrev main_cst_23 : Ref sig .tc := ⟨.hbm, 344, rfl⟩
abbrev main_v299 : Ref sig .tc := ⟨.hbm, 345, rfl⟩
abbrev main_v300 : Ref sig .tc := ⟨.hbm, 346, rfl⟩
abbrev main_cst_24 : Ref sig .tc := ⟨.hbm, 347, rfl⟩
abbrev main_v301 : Ref sig .tc := ⟨.hbm, 348, rfl⟩
abbrev main_v302 : Ref sig .tc := ⟨.hbm, 349, rfl⟩
abbrev main_cst_25 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_cst_26 : Ref sig .tc := ⟨.hbm, 354, rfl⟩
abbrev main_v306 : Ref sig .tc := ⟨.hbm, 355, rfl⟩
abbrev main_v307 : Ref sig .tc := ⟨.hbm, 356, rfl⟩
abbrev main_cst_27 : Ref sig .tc := ⟨.hbm, 357, rfl⟩
abbrev main_v308 : Ref sig .tc := ⟨.hbm, 358, rfl⟩
abbrev main_v309 : Ref sig .tc := ⟨.hbm, 359, rfl⟩
abbrev main_cst_28 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_cst_29 : Ref sig .tc := ⟨.hbm, 364, rfl⟩
abbrev main_v313 : Ref sig .tc := ⟨.hbm, 365, rfl⟩
abbrev main_v314 : Ref sig .tc := ⟨.hbm, 366, rfl⟩
abbrev main_cst_30 : Ref sig .tc := ⟨.hbm, 367, rfl⟩
abbrev main_v315 : Ref sig .tc := ⟨.hbm, 368, rfl⟩
abbrev main_v316 : Ref sig .tc := ⟨.hbm, 369, rfl⟩
abbrev main_cst_31 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_cst_32 : Ref sig .tc := ⟨.hbm, 374, rfl⟩
abbrev main_v320 : Ref sig .tc := ⟨.hbm, 375, rfl⟩
abbrev main_v321 : Ref sig .tc := ⟨.hbm, 376, rfl⟩
abbrev main_cst_33 : Ref sig .tc := ⟨.hbm, 377, rfl⟩
abbrev main_v322 : Ref sig .tc := ⟨.hbm, 378, rfl⟩
abbrev main_v323 : Ref sig .tc := ⟨.hbm, 379, rfl⟩
abbrev main_cst_34 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_cst_35 : Ref sig .tc := ⟨.hbm, 384, rfl⟩
abbrev main_v327 : Ref sig .tc := ⟨.hbm, 385, rfl⟩
abbrev main_v328 : Ref sig .tc := ⟨.hbm, 386, rfl⟩
abbrev main_cst_36 : Ref sig .tc := ⟨.hbm, 387, rfl⟩
abbrev main_v329 : Ref sig .tc := ⟨.hbm, 388, rfl⟩
abbrev main_v330 : Ref sig .tc := ⟨.hbm, 389, rfl⟩
abbrev main_cst_37 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_cst_38 : Ref sig .tc := ⟨.hbm, 394, rfl⟩
abbrev main_v334 : Ref sig .tc := ⟨.hbm, 395, rfl⟩
abbrev main_v335 : Ref sig .tc := ⟨.hbm, 396, rfl⟩
abbrev main_cst_39 : Ref sig .tc := ⟨.hbm, 397, rfl⟩
abbrev main_v336 : Ref sig .tc := ⟨.hbm, 398, rfl⟩
abbrev main_v337 : Ref sig .tc := ⟨.hbm, 399, rfl⟩
abbrev main_cst_40 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_cst_41 : Ref sig .tc := ⟨.hbm, 404, rfl⟩
abbrev main_v341 : Ref sig .tc := ⟨.hbm, 405, rfl⟩
abbrev main_v342 : Ref sig .tc := ⟨.hbm, 406, rfl⟩
abbrev main_cst_42 : Ref sig .tc := ⟨.hbm, 407, rfl⟩
abbrev main_v343 : Ref sig .tc := ⟨.hbm, 408, rfl⟩
abbrev main_v344 : Ref sig .tc := ⟨.hbm, 409, rfl⟩
abbrev main_cst_43 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_cst_44 : Ref sig .tc := ⟨.hbm, 414, rfl⟩
abbrev main_v348 : Ref sig .tc := ⟨.hbm, 415, rfl⟩
abbrev main_v349 : Ref sig .tc := ⟨.hbm, 416, rfl⟩
abbrev main_cst_45 : Ref sig .tc := ⟨.hbm, 417, rfl⟩
abbrev main_v350 : Ref sig .tc := ⟨.hbm, 418, rfl⟩
abbrev main_v351 : Ref sig .tc := ⟨.hbm, 419, rfl⟩
abbrev main_cst_46 : Ref sig .tc := ⟨.hbm, 420, rfl⟩
abbrev main_v352 : Ref sig .tc := ⟨.hbm, 421, rfl⟩
abbrev main_v353 : Ref sig .tc := ⟨.hbm, 422, rfl⟩
abbrev main_v354 : Ref sig .tc := ⟨.hbm, 423, rfl⟩
abbrev main_cst_47 : Ref sig .tc := ⟨.hbm, 424, rfl⟩
abbrev main_v355 : Ref sig .tc := ⟨.hbm, 425, rfl⟩
abbrev main_v356 : Ref sig .tc := ⟨.hbm, 426, rfl⟩
abbrev main_cst_48 : Ref sig .tc := ⟨.hbm, 427, rfl⟩
abbrev main_v357 : Ref sig .tc := ⟨.hbm, 428, rfl⟩
abbrev main_v358 : Ref sig .tc := ⟨.hbm, 429, rfl⟩
abbrev main_cst_49 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_cst_50 : Ref sig .tc := ⟨.hbm, 434, rfl⟩
abbrev main_v362 : Ref sig .tc := ⟨.hbm, 435, rfl⟩
abbrev main_v363 : Ref sig .tc := ⟨.hbm, 436, rfl⟩
abbrev main_cst_51 : Ref sig .tc := ⟨.hbm, 437, rfl⟩
abbrev main_v364 : Ref sig .tc := ⟨.hbm, 438, rfl⟩
abbrev main_v365 : Ref sig .tc := ⟨.hbm, 439, rfl⟩
abbrev main_cst_52 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_cst_53 : Ref sig .tc := ⟨.hbm, 444, rfl⟩
abbrev main_v369 : Ref sig .tc := ⟨.hbm, 445, rfl⟩
abbrev main_v370 : Ref sig .tc := ⟨.hbm, 446, rfl⟩
abbrev main_cst_54 : Ref sig .tc := ⟨.hbm, 447, rfl⟩
abbrev main_v371 : Ref sig .tc := ⟨.hbm, 448, rfl⟩
abbrev main_v372 : Ref sig .tc := ⟨.hbm, 449, rfl⟩
abbrev main_cst_55 : Ref sig .tc := ⟨.hbm, 450, rfl⟩
abbrev main_v373 : Ref sig .tc := ⟨.hbm, 451, rfl⟩
abbrev main_v374 : Ref sig .tc := ⟨.hbm, 452, rfl⟩
abbrev main_v375 : Ref sig .tc := ⟨.hbm, 453, rfl⟩
abbrev main_cst_56 : Ref sig .tc := ⟨.hbm, 454, rfl⟩
abbrev main_v376 : Ref sig .tc := ⟨.hbm, 455, rfl⟩
abbrev main_v377 : Ref sig .tc := ⟨.hbm, 456, rfl⟩
abbrev main_cst_57 : Ref sig .tc := ⟨.hbm, 457, rfl⟩
abbrev main_v378 : Ref sig .tc := ⟨.hbm, 458, rfl⟩
abbrev main_v379 : Ref sig .tc := ⟨.hbm, 459, rfl⟩
abbrev main_cst_58 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_cst_59 : Ref sig .tc := ⟨.hbm, 464, rfl⟩
abbrev main_v383 : Ref sig .tc := ⟨.hbm, 465, rfl⟩
abbrev main_v384 : Ref sig .tc := ⟨.hbm, 466, rfl⟩
abbrev main_cst_60 : Ref sig .tc := ⟨.hbm, 467, rfl⟩
abbrev main_v385 : Ref sig .tc := ⟨.hbm, 468, rfl⟩
abbrev main_v386 : Ref sig .tc := ⟨.hbm, 469, rfl⟩
abbrev main_cst_61 : Ref sig .tc := ⟨.hbm, 470, rfl⟩
abbrev main_v387 : Ref sig .tc := ⟨.hbm, 471, rfl⟩
abbrev main_v388 : Ref sig .tc := ⟨.hbm, 472, rfl⟩
abbrev main_v389 : Ref sig .tc := ⟨.hbm, 473, rfl⟩
abbrev main_cst_62 : Ref sig .tc := ⟨.hbm, 474, rfl⟩
abbrev main_v390 : Ref sig .tc := ⟨.hbm, 475, rfl⟩
abbrev main_v391 : Ref sig .tc := ⟨.hbm, 476, rfl⟩
abbrev main_cst_63 : Ref sig .tc := ⟨.hbm, 477, rfl⟩
abbrev main_v392 : Ref sig .tc := ⟨.hbm, 478, rfl⟩
abbrev main_v393 : Ref sig .tc := ⟨.hbm, 479, rfl⟩
abbrev main_cst_64 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_cst_65 : Ref sig .tc := ⟨.hbm, 484, rfl⟩
abbrev main_v397 : Ref sig .tc := ⟨.hbm, 485, rfl⟩
abbrev main_v398 : Ref sig .tc := ⟨.hbm, 486, rfl⟩
abbrev main_cst_66 : Ref sig .tc := ⟨.hbm, 487, rfl⟩
abbrev main_v399 : Ref sig .tc := ⟨.hbm, 488, rfl⟩
abbrev main_v400 : Ref sig .tc := ⟨.hbm, 489, rfl⟩
abbrev main_cst_67 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_cst_68 : Ref sig .tc := ⟨.hbm, 494, rfl⟩
abbrev main_v404 : Ref sig .tc := ⟨.hbm, 495, rfl⟩
abbrev main_v405 : Ref sig .tc := ⟨.hbm, 496, rfl⟩
abbrev main_cst_69 : Ref sig .tc := ⟨.hbm, 497, rfl⟩
abbrev main_v406 : Ref sig .tc := ⟨.hbm, 498, rfl⟩
abbrev main_v407 : Ref sig .tc := ⟨.hbm, 499, rfl⟩
abbrev main_cst_70 : Ref sig .tc := ⟨.hbm, 500, rfl⟩
abbrev main_v408 : Ref sig .tc := ⟨.hbm, 501, rfl⟩
abbrev main_v409 : Ref sig .tc := ⟨.hbm, 502, rfl⟩
abbrev main_v410 : Ref sig .tc := ⟨.hbm, 503, rfl⟩
abbrev main_cst_71 : Ref sig .tc := ⟨.hbm, 504, rfl⟩
abbrev main_v411 : Ref sig .tc := ⟨.hbm, 505, rfl⟩
abbrev main_v412 : Ref sig .tc := ⟨.hbm, 506, rfl⟩
abbrev main_cst_72 : Ref sig .tc := ⟨.hbm, 507, rfl⟩
abbrev main_v413 : Ref sig .tc := ⟨.hbm, 508, rfl⟩
abbrev main_v414 : Ref sig .tc := ⟨.hbm, 509, rfl⟩
abbrev main_cst_73 : Ref sig .tc := ⟨.hbm, 510, rfl⟩
abbrev main_v415 : Ref sig .tc := ⟨.hbm, 511, rfl⟩
abbrev main_v416 : Ref sig .tc := ⟨.hbm, 512, rfl⟩
abbrev main_v417 : Ref sig .tc := ⟨.hbm, 513, rfl⟩
abbrev main_cst_74 : Ref sig .tc := ⟨.hbm, 514, rfl⟩
abbrev main_v418 : Ref sig .tc := ⟨.hbm, 515, rfl⟩
abbrev main_v419 : Ref sig .tc := ⟨.hbm, 516, rfl⟩
abbrev main_cst_75 : Ref sig .tc := ⟨.hbm, 517, rfl⟩
abbrev main_v420 : Ref sig .tc := ⟨.hbm, 518, rfl⟩
abbrev main_v421 : Ref sig .tc := ⟨.hbm, 519, rfl⟩
abbrev main_cst_76 : Ref sig .tc := ⟨.hbm, 520, rfl⟩
abbrev main_v422 : Ref sig .tc := ⟨.hbm, 521, rfl⟩
abbrev main_v423 : Ref sig .tc := ⟨.hbm, 522, rfl⟩
abbrev main_v424 : Ref sig .tc := ⟨.hbm, 523, rfl⟩
abbrev main_cst_77 : Ref sig .tc := ⟨.hbm, 524, rfl⟩
abbrev main_v425 : Ref sig .tc := ⟨.hbm, 525, rfl⟩
abbrev main_v426 : Ref sig .tc := ⟨.hbm, 526, rfl⟩
abbrev main_cst_78 : Ref sig .tc := ⟨.hbm, 527, rfl⟩
abbrev main_v427 : Ref sig .tc := ⟨.hbm, 528, rfl⟩
abbrev main_v428 : Ref sig .tc := ⟨.hbm, 529, rfl⟩
abbrev main_cst_79 : Ref sig .tc := ⟨.hbm, 530, rfl⟩
abbrev main_v429 : Ref sig .tc := ⟨.hbm, 531, rfl⟩
abbrev main_v430 : Ref sig .tc := ⟨.hbm, 532, rfl⟩
abbrev main_v431 : Ref sig .tc := ⟨.hbm, 533, rfl⟩
abbrev main_cst_80 : Ref sig .tc := ⟨.hbm, 534, rfl⟩
abbrev main_v432 : Ref sig .tc := ⟨.hbm, 535, rfl⟩
abbrev main_v433 : Ref sig .tc := ⟨.hbm, 536, rfl⟩
abbrev main_cst_81 : Ref sig .tc := ⟨.hbm, 537, rfl⟩
abbrev main_v434 : Ref sig .tc := ⟨.hbm, 538, rfl⟩
abbrev main_v435 : Ref sig .tc := ⟨.hbm, 539, rfl⟩
abbrev main_cst_82 : Ref sig .tc := ⟨.hbm, 540, rfl⟩
abbrev main_v436 : Ref sig .tc := ⟨.hbm, 541, rfl⟩
abbrev main_v437 : Ref sig .tc := ⟨.hbm, 542, rfl⟩
abbrev main_v438 : Ref sig .tc := ⟨.hbm, 543, rfl⟩
abbrev main_cst_83 : Ref sig .tc := ⟨.hbm, 544, rfl⟩
abbrev main_v439 : Ref sig .tc := ⟨.hbm, 545, rfl⟩
abbrev main_v440 : Ref sig .tc := ⟨.hbm, 546, rfl⟩
abbrev main_cst_84 : Ref sig .tc := ⟨.hbm, 547, rfl⟩
abbrev main_v441 : Ref sig .tc := ⟨.hbm, 548, rfl⟩
abbrev main_v442 : Ref sig .tc := ⟨.hbm, 549, rfl⟩
abbrev main_cst_85 : Ref sig .tc := ⟨.hbm, 550, rfl⟩
abbrev main_v443 : Ref sig .tc := ⟨.hbm, 551, rfl⟩
abbrev main_v444 : Ref sig .tc := ⟨.hbm, 552, rfl⟩
abbrev main_v445 : Ref sig .tc := ⟨.hbm, 553, rfl⟩
abbrev main_cst_86 : Ref sig .tc := ⟨.hbm, 554, rfl⟩
abbrev main_v446 : Ref sig .tc := ⟨.hbm, 555, rfl⟩
abbrev main_v447 : Ref sig .tc := ⟨.hbm, 556, rfl⟩
abbrev main_cst_87 : Ref sig .tc := ⟨.hbm, 557, rfl⟩
abbrev main_v448 : Ref sig .tc := ⟨.hbm, 558, rfl⟩
abbrev main_v449 : Ref sig .tc := ⟨.hbm, 559, rfl⟩
abbrev main_cst_88 : Ref sig .tc := ⟨.hbm, 560, rfl⟩
abbrev main_v450 : Ref sig .tc := ⟨.hbm, 561, rfl⟩
abbrev main_v451 : Ref sig .tc := ⟨.hbm, 562, rfl⟩
abbrev main_v452 : Ref sig .tc := ⟨.hbm, 563, rfl⟩
abbrev main_cst_89 : Ref sig .tc := ⟨.hbm, 564, rfl⟩
abbrev main_v453 : Ref sig .tc := ⟨.hbm, 565, rfl⟩
abbrev main_v454 : Ref sig .tc := ⟨.hbm, 566, rfl⟩
abbrev main_cst_90 : Ref sig .tc := ⟨.hbm, 567, rfl⟩
abbrev main_v455 : Ref sig .tc := ⟨.hbm, 568, rfl⟩
abbrev main_v456 : Ref sig .tc := ⟨.hbm, 569, rfl⟩
abbrev main_cst_91 : Ref sig .tc := ⟨.hbm, 570, rfl⟩
abbrev main_v457 : Ref sig .tc := ⟨.hbm, 571, rfl⟩
abbrev main_v458 : Ref sig .tc := ⟨.hbm, 572, rfl⟩
abbrev main_v459 : Ref sig .tc := ⟨.hbm, 573, rfl⟩
abbrev main_cst_92 : Ref sig .tc := ⟨.hbm, 574, rfl⟩
abbrev main_v460 : Ref sig .tc := ⟨.hbm, 575, rfl⟩
abbrev main_v461 : Ref sig .tc := ⟨.hbm, 576, rfl⟩
abbrev main_cst_93 : Ref sig .tc := ⟨.hbm, 577, rfl⟩
abbrev main_v462 : Ref sig .tc := ⟨.hbm, 578, rfl⟩
abbrev main_v463 : Ref sig .tc := ⟨.hbm, 579, rfl⟩
abbrev main_cst_94 : Ref sig .tc := ⟨.hbm, 580, rfl⟩
abbrev main_v464 : Ref sig .tc := ⟨.hbm, 581, rfl⟩
abbrev main_v465 : Ref sig .tc := ⟨.hbm, 582, rfl⟩
abbrev main_v466 : Ref sig .tc := ⟨.hbm, 583, rfl⟩
abbrev main_cst_95 : Ref sig .tc := ⟨.hbm, 584, rfl⟩
abbrev main_v467 : Ref sig .tc := ⟨.hbm, 585, rfl⟩
abbrev main_v468 : Ref sig .tc := ⟨.hbm, 586, rfl⟩
abbrev main_cst_96 : Ref sig .tc := ⟨.hbm, 587, rfl⟩
abbrev main_v469 : Ref sig .tc := ⟨.hbm, 588, rfl⟩
abbrev main_v470 : Ref sig .tc := ⟨.hbm, 589, rfl⟩
abbrev main_cst_97 : Ref sig .tc := ⟨.hbm, 590, rfl⟩
abbrev main_v471 : Ref sig .tc := ⟨.hbm, 591, rfl⟩
abbrev main_v472 : Ref sig .tc := ⟨.hbm, 592, rfl⟩
abbrev main_v473 : Ref sig .tc := ⟨.hbm, 593, rfl⟩
abbrev main_cst_98 : Ref sig .tc := ⟨.hbm, 594, rfl⟩
abbrev main_v474 : Ref sig .tc := ⟨.hbm, 595, rfl⟩
abbrev main_v475 : Ref sig .tc := ⟨.hbm, 596, rfl⟩
abbrev main_cst_99 : Ref sig .tc := ⟨.hbm, 597, rfl⟩
abbrev main_v476 : Ref sig .tc := ⟨.hbm, 598, rfl⟩
abbrev main_v477 : Ref sig .tc := ⟨.hbm, 599, rfl⟩
abbrev main_cst_100 : Ref sig .tc := ⟨.hbm, 600, rfl⟩
abbrev main_v478 : Ref sig .tc := ⟨.hbm, 601, rfl⟩
abbrev main_v479 : Ref sig .tc := ⟨.hbm, 602, rfl⟩
abbrev main_v480 : Ref sig .tc := ⟨.hbm, 603, rfl⟩
abbrev main_cst_101 : Ref sig .tc := ⟨.hbm, 604, rfl⟩
abbrev main_v481 : Ref sig .tc := ⟨.hbm, 605, rfl⟩
abbrev main_v482 : Ref sig .tc := ⟨.hbm, 606, rfl⟩
abbrev main_cst_102 : Ref sig .tc := ⟨.hbm, 607, rfl⟩
abbrev main_v483 : Ref sig .tc := ⟨.hbm, 608, rfl⟩
abbrev main_v484 : Ref sig .tc := ⟨.hbm, 609, rfl⟩
abbrev main_cst_103 : Ref sig .tc := ⟨.hbm, 610, rfl⟩
abbrev main_v485 : Ref sig .tc := ⟨.hbm, 611, rfl⟩
abbrev main_v486 : Ref sig .tc := ⟨.hbm, 612, rfl⟩
abbrev main_v487 : Ref sig .tc := ⟨.hbm, 613, rfl⟩
abbrev main_cst_104 : Ref sig .tc := ⟨.hbm, 614, rfl⟩
abbrev main_v488 : Ref sig .tc := ⟨.hbm, 615, rfl⟩
abbrev main_v489 : Ref sig .tc := ⟨.hbm, 616, rfl⟩
abbrev main_cst_105 : Ref sig .tc := ⟨.hbm, 617, rfl⟩
abbrev main_v490 : Ref sig .tc := ⟨.hbm, 618, rfl⟩
abbrev main_v491 : Ref sig .tc := ⟨.hbm, 619, rfl⟩
abbrev main_cst_106 : Ref sig .tc := ⟨.hbm, 620, rfl⟩
abbrev main_v492 : Ref sig .tc := ⟨.hbm, 621, rfl⟩
abbrev main_v493 : Ref sig .tc := ⟨.hbm, 622, rfl⟩
abbrev main_v494 : Ref sig .tc := ⟨.hbm, 623, rfl⟩
abbrev main_cst_107 : Ref sig .tc := ⟨.hbm, 624, rfl⟩
abbrev main_v495 : Ref sig .tc := ⟨.hbm, 625, rfl⟩
abbrev main_v496 : Ref sig .tc := ⟨.hbm, 626, rfl⟩
abbrev main_cst_108 : Ref sig .tc := ⟨.hbm, 627, rfl⟩
abbrev main_v497 : Ref sig .tc := ⟨.hbm, 628, rfl⟩
abbrev main_v498 : Ref sig .tc := ⟨.hbm, 629, rfl⟩
abbrev main_cst_109 : Ref sig .tc := ⟨.hbm, 630, rfl⟩
abbrev main_v499 : Ref sig .tc := ⟨.hbm, 631, rfl⟩
abbrev main_v500 : Ref sig .tc := ⟨.hbm, 632, rfl⟩
abbrev main_v501 : Ref sig .tc := ⟨.hbm, 633, rfl⟩
abbrev main_cst_110 : Ref sig .tc := ⟨.hbm, 634, rfl⟩
abbrev main_v502 : Ref sig .tc := ⟨.hbm, 635, rfl⟩
abbrev main_v503 : Ref sig .tc := ⟨.hbm, 636, rfl⟩
abbrev main_cst_111 : Ref sig .tc := ⟨.hbm, 637, rfl⟩
abbrev main_v504 : Ref sig .tc := ⟨.hbm, 638, rfl⟩
abbrev main_v505 : Ref sig .tc := ⟨.hbm, 639, rfl⟩
abbrev main_cst_112 : Ref sig .tc := ⟨.hbm, 640, rfl⟩
abbrev main_v506 : Ref sig .tc := ⟨.hbm, 641, rfl⟩
abbrev main_v507 : Ref sig .tc := ⟨.hbm, 642, rfl⟩
abbrev main_c : Ref sig .tc := ⟨.hbm, 643, rfl⟩
abbrev main_call2_v0 : Ref sig .tc := ⟨.hbm, 644, rfl⟩
abbrev main_v508 : Ref sig .tc := ⟨.hbm, 645, rfl⟩
abbrev main_v509 : Ref sig .tc := ⟨.hbm, 646, rfl⟩
abbrev main_v510 : Ref sig .tc := ⟨.hbm, 647, rfl⟩
abbrev main_v511 : Ref sig .tc := ⟨.hbm, 648, rfl⟩

abbrev nD : Nat := 1
abbrev τ : Topo := Topo.v7x

variable {F : FTy → Type} [FloatOps F]
-- ==== KvBwd.lean ====
abbrev S2048x256 : Shape := ⟨2, ![2048, 256]⟩
abbrev S64 : Shape := ⟨1, ![64]⟩
abbrev S4x2048x64 : Shape := ⟨3, ![4, 2048, 64]⟩
abbrev S2048x4x64 : Shape := ⟨3, ![2048, 4, 64]⟩
abbrev S1x64 : Shape := ⟨2, ![1, 64]⟩
abbrev S8x128 : Shape := ⟨2, ![8, 128]⟩
abbrev S4x128x64 : Shape := ⟨3, ![4, 128, 64]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 13
  | .vmem => 17
  | .smem => 0
  | _ => 0

abbrev bufTy : (tb : Table) → Fin (tcTables nBuf tb) → BufTy
  | .hbm, ⟨0, _⟩ => ⟨S2048x256, .f32⟩
  | .hbm, ⟨1, _⟩ => ⟨S64, .f32⟩
  | .hbm, ⟨2, _⟩ => ⟨S4x2048x64, .f32⟩
  | .hbm, ⟨3, _⟩ => ⟨S4x2048x64, .f32⟩
  | .hbm, ⟨4, _⟩ => ⟨S4x2048x64, .f32⟩
  | .hbm, ⟨5, _⟩ => ⟨S4x2048x64, .f32⟩
  | .hbm, ⟨6, _⟩ => ⟨S2048x4x64, .f32⟩
  | .hbm, ⟨7, _⟩ => ⟨S4x2048x64, .f32⟩
  | .hbm, ⟨8, _⟩ => ⟨S1x64, .f32⟩
  | .hbm, ⟨9, _⟩ => ⟨S4x2048x64, .bf16⟩
  | .hbm, ⟨10, _⟩ => ⟨S4x2048x64, .bf16⟩
  | .hbm, ⟨11, _⟩ => ⟨S1x64, .f32⟩
  | .hbm, ⟨12, _⟩ => ⟨S8x128, .f32⟩
  | .local _ .vmem, ⟨0, _⟩ => ⟨S4x128x64, .f32⟩
  | .local _ .vmem, ⟨1, _⟩ => ⟨S4x128x64, .f32⟩
  | .local _ .vmem, ⟨2, _⟩ => ⟨S1x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S4x128x64, .f32⟩
  | .local _ .vmem, ⟨11, _⟩ => ⟨S4x128x64, .bf16⟩
  | .local _ .vmem, ⟨12, _⟩ => ⟨S4x128x64, .bf16⟩
  | .local _ .vmem, ⟨13, _⟩ => ⟨S4x128x64, .bf16⟩
  | .local _ .vmem, ⟨14, _⟩ => ⟨S4x128x64, .bf16⟩
  | .local _ .vmem, ⟨15, _⟩ => ⟨S1x64, .f32⟩
  | .local _ .vmem, ⟨16, _⟩ => ⟨S8x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KvBwdRefIdeal.lean ====
abbrev S2048x256 : Shape := ⟨2, ![2048, 256]⟩
abbrev S64 : Shape := ⟨1, ![64]⟩
abbrev S4x2048x64 : Shape := ⟨3, ![4, 2048, 64]⟩
abbrev S4x16x128x64 : Shape := ⟨4, ![4, 16, 128, 64]⟩
abbrev S16x128x4x64 : Shape := ⟨4, ![16, 128, 4, 64]⟩
abbrev S16x256x4x64 : Shape := ⟨4, ![16, 256, 4, 64]⟩
abbrev S2048x4x64 : Shape := ⟨3, ![2048, 4, 64]⟩
abbrev S_ : Shape := ⟨0, ![]⟩
abbrev S2048x4 : Shape := ⟨2, ![2048, 4]⟩
abbrev S2048x4x1 : Shape := ⟨3, ![2048, 4, 1]⟩
abbrev S1x1x64 : Shape := ⟨3, ![1, 1, 64]⟩
abbrev S1x128x4x64 : Shape := ⟨4, ![1, 128, 4, 64]⟩
abbrev S15x128x4x64 : Shape := ⟨4, ![15, 128, 4, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S64, .f32⟩
  | .hbm, ⟨2, _⟩ => ⟨S4x2048x64, .f32⟩
  | .hbm, ⟨3, _⟩ => ⟨S4x2048x64, .f32⟩
  | .hbm, ⟨4, _⟩ => ⟨S4x2048x64, .f32⟩
  | .hbm, ⟨5, _⟩ => ⟨S4x2048x64, .f32⟩
  | .hbm, ⟨6, _⟩ => ⟨S4x16x128x64, .f32⟩
  | .hbm, ⟨7, _⟩ => ⟨S16x128x4x64, .f32⟩
  | .hbm, ⟨8, _⟩ => ⟨S4x16x128x64, .f32⟩
  | .hbm, ⟨9, _⟩ => ⟨S16x128x4x64, .f32⟩
  | .hbm, ⟨10, _⟩ => ⟨S16x256x4x64, .f32⟩
  | .hbm, ⟨11, _⟩ => ⟨S4x16x128x64, .f32⟩
  | .hbm, ⟨12, _⟩ => ⟨S16x128x4x64, .f32⟩
  | .hbm, ⟨13, _⟩ => ⟨S4x16x128x64, .f32⟩
  | .hbm, ⟨14, _⟩ => ⟨S16x128x4x64, .f32⟩
  | .hbm, ⟨15, _⟩ => ⟨S16x256x4x64, .f32⟩
  | .hbm, ⟨16, _⟩ => ⟨S2048x4x64, .f32⟩
  | .hbm, ⟨17, _⟩ => ⟨S2048x4x64, .f32⟩
  | .hbm, ⟨18, _⟩ => ⟨S_, .f32⟩
  | .hbm, ⟨19, _⟩ => ⟨S2048x4, .f32⟩
  | .hbm, ⟨20, _⟩ => ⟨S2048x4x1, .f32⟩
  | .hbm, ⟨21, _⟩ => ⟨S_, .f32⟩
  | .hbm, ⟨22, _⟩ => ⟨S2048x4x1, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S2048x4x1, .f32⟩
  | .hbm, ⟨28, _⟩ => ⟨S2048x4x1, .f32⟩
  | .hbm, ⟨29, _⟩ => ⟨S_, .f32⟩
  | .hbm, ⟨30, _⟩ => ⟨S2048x4x1, .f32⟩
  | .hbm, ⟨31, _⟩ => ⟨S2048x4x1, .f32⟩
  | .hbm, ⟨32, _⟩ => ⟨S2048x4x64, .f32⟩
  | .hbm, ⟨33, _⟩ => ⟨S2048x4x64, .f32⟩
  | .hbm, ⟨34, _⟩ => ⟨S1x1x64, .f32⟩
  | .hbm, ⟨35, _⟩ => ⟨S2048x4x64, .f32⟩
  | .hbm, ⟨36, _⟩ => ⟨S2048x4x64, .f32⟩
  | .hbm, ⟨37, _⟩ => ⟨S16x128x4x64, .f32⟩
  | .hbm, ⟨38, _⟩ => ⟨S_, .f32⟩
  | .hbm, ⟨39, _⟩ => ⟨S1x128x4x64, .f32⟩
  | .hbm, ⟨40, _⟩ => ⟨S15x128x4x64, .f32⟩
  | .hbm, ⟨41, _⟩ => ⟨S16x128x4x64, .f32⟩
  | .hbm, ⟨42, _⟩ => ⟨S_, .f32⟩
  | .hbm, ⟨43, _⟩ => ⟨S1x128x4x64, .f32⟩
  | .hbm, ⟨44, _⟩ => ⟨S16x256x4x64, .f32⟩
  | .hbm, ⟨45, _⟩ => ⟨S16x128x4x64, .f32⟩
  | .hbm, ⟨46, _⟩ => ⟨S16x128x4x64, .f32⟩
  | .hbm, ⟨47, _⟩ => ⟨S1x128x4x64, .f32⟩
  | .hbm, ⟨48, _⟩ => ⟨S15x128x4x64, .f32⟩
  | .hbm, ⟨49, _⟩ => ⟨S_, .f32⟩
  | .hbm, ⟨50, _⟩ => ⟨S16x128x4x64, .f32⟩
  | .hbm, ⟨51, _⟩ => ⟨S16x128x4x64, .f32⟩
  | .hbm, ⟨52, _⟩ => ⟨S2048x4x64, .f32⟩
  | .hbm, ⟨53, _⟩ => ⟨S2048x4x64, .f32⟩
  | .hbm, ⟨54, _⟩ => ⟨S_, .f32⟩
  | .hbm, ⟨55, _⟩ => ⟨S64, .f32⟩
  | .hbm, ⟨56, _⟩ => ⟨S1x1x64, .f32⟩
  | .hbm, ⟨57, _⟩ => ⟨S2048x4x64, .f32⟩
  | .hbm, ⟨58, _⟩ => ⟨S2048x4x64, .f32⟩
  | .hbm, ⟨59, _⟩ => ⟨S_, .f32⟩
  | .hbm, ⟨60, _⟩ => ⟨S64, .f32⟩
  | .hbm, ⟨61, _⟩ => ⟨S2048x4x64, .f32⟩
  | .hbm, ⟨62, _⟩ => ⟨S_, .f32⟩
  | .hbm, ⟨63, _⟩ => ⟨S2048x4, .f32⟩
  | .hbm, ⟨64, _⟩ => ⟨S2048x4x1, .f32⟩
  | .hbm, ⟨65, _⟩ => ⟨S2048x4x64, .f32⟩
  | .hbm, ⟨66, _⟩ => ⟨S2048x4x64, .f32⟩
  | .hbm, ⟨67, _⟩ => ⟨S2048x4x1, .f32⟩
  | .hbm, ⟨68, _⟩ => ⟨S_, .f32⟩
  | .hbm, ⟨69, _⟩ => ⟨S2048x4x1, .f32⟩
  | .hbm, ⟨70, _⟩ => ⟨S2048x4x1, .f32⟩
  | .hbm, ⟨71, _⟩ => ⟨S_, .f32⟩
  | .hbm, ⟨72, _⟩ => ⟨S2048x4, .f32⟩
  | .hbm, ⟨73, _⟩ => ⟨S2048x4x64, .f32⟩
  | .hbm, ⟨74, _⟩ => ⟨S2048x4x64, .f32⟩
  | .hbm, ⟨75, _⟩ => ⟨S2048x4x64, .f32⟩
  | .hbm, ⟨76, _⟩ => ⟨S2048x4x64, .f32⟩
  | .hbm, ⟨77, _⟩ => ⟨S2048x4x64, .f32⟩
  | .hbm, ⟨78, _⟩ => ⟨S2048x256, .f32⟩
  | .hbm, ⟨79, _⟩ => ⟨S_, .f32⟩
  | .hbm, ⟨80, _⟩ => ⟨S2048x256, .f32⟩
  | .hbm, ⟨81, _⟩ => ⟨S2048x4x64, .f32⟩
  | .hbm, ⟨82, _⟩ => ⟨S16x128x4x64, .f32⟩
  | .hbm, ⟨83, _⟩ => ⟨S_, .f32⟩
  | .hbm, ⟨84, _⟩ => ⟨S1x128x4x64, .f32⟩
  | .hbm, ⟨85, _⟩ => ⟨S15x128x4x64, .f32⟩
  | .hbm, ⟨86, _⟩ => ⟨S16x128x4x64, .f32⟩
  | .hbm, ⟨87, _⟩ => ⟨S_, .f32⟩
  | .hbm, ⟨88, _⟩ => ⟨S1x128x4x64, .f32⟩
  | .hbm, ⟨89, _⟩ => ⟨S16x256x4x64, .f32⟩
  | .hbm, ⟨90, _⟩ => ⟨S16x128x4x64, .f32⟩
  | .hbm, ⟨91, _⟩ => ⟨S16x128x4x64, .f32⟩
  | .hbm, ⟨92, _⟩ => ⟨S1x128x4x64, .f32⟩
  | .hbm, ⟨93, _⟩ => ⟨S15x128x4x64, .f32⟩
  | .hbm, ⟨94, _⟩ => ⟨S_, .f32⟩
  | .hbm, ⟨95, _⟩ => ⟨S16x128x4x64, .f32⟩
  | .hbm, ⟨96, _⟩ => ⟨S16x128x4x64, .f32⟩
  | .hbm, ⟨97, _⟩ => ⟨S2048x4x64, .f32⟩
  | .hbm, ⟨98, _⟩ => ⟨S2048x256, .f32⟩
  | .hbm, ⟨99, _⟩ => ⟨S2048x4x64, .f32⟩
  | .hbm, ⟨100, _⟩ => ⟨S4x2048x64, .f32⟩
  | .hbm, ⟨101, _⟩ => ⟨S4x2048x64, .bf16⟩
  | .hbm, ⟨102, _⟩ => ⟨S2048x4x64, .f32⟩
  | .hbm, ⟨103, _⟩ => ⟨S4x2048x64, .f32⟩
  | .hbm, ⟨104, _⟩ => ⟨S4x2048x64, .bf16⟩
  | .hbm, ⟨105, _⟩ => ⟨S1x64, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Loss.lean ====
abbrev S2048x8192 : Shape := ⟨2, ![2048, 8192]⟩
abbrev S8192x2048 : Shape := ⟨2, ![8192, 2048]⟩
abbrev S2048x2048 : Shape := ⟨2, ![2048, 2048]⟩
abbrev S4x2048x2048 : Shape := ⟨3, ![4, 2048, 2048]⟩
abbrev S16x256 : Shape := ⟨2, ![16, 256]⟩
abbrev S8x128 : Shape := ⟨2, ![8, 128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S2x2 : Shape := ⟨2, ![2, 2]⟩
abbrev S_ : Shape := ⟨0, ![]⟩

abbrev nBuf : Space → Nat
  | .hbm => 16
  | .vmem => 16
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x8192, .bf16⟩
  | .hbm, ⟨5, _⟩ => ⟨S4x2048x2048, .f32⟩
  | .hbm, ⟨6, _⟩ => ⟨S4x2048x2048, .bf16⟩
  | .hbm, ⟨7, _⟩ => ⟨S2048x2048, .f32⟩
  | .hbm, ⟨8, _⟩ => ⟨S2048x2048, .bf16⟩
  | .hbm, ⟨9, _⟩ => ⟨S16x256, .f32⟩
  | .hbm, ⟨10, _⟩ => ⟨S8x128, .f32⟩
  | .hbm, ⟨11, _⟩ => ⟨S2x2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== LossRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048 : Shape := ⟨1, ![2048]⟩

abbrev nBuf : Space → Nat
  | .hbm => 30
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x2048, .f32⟩
  | .hbm, ⟨28, _⟩ => ⟨S2048x2048, .f32⟩
  | .hbm, ⟨29, _⟩ => ⟨S2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== AttnBwd.lean ====
abbrev S2048x1024 : Shape := ⟨2, ![2048, 1024]⟩
abbrev S2048x256 : Shape := ⟨2, ![2048, 256]⟩
abbrev S64 : Shape := ⟨1, ![64]⟩
abbrev S16 : Shape := ⟨1, ![16]⟩
abbrev S16x1x1 : Shape := ⟨3, ![16, 1, 1]⟩
abbrev S16x1x128 : Shape := ⟨3, ![16, 1, 128]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S1x64 : Shape := ⟨2, ![1, 64]⟩
abbrev S8x128 : Shape := ⟨2, ![8, 128]⟩
abbrev S16x128x64 : Shape := ⟨3, ![16, 128, 64]⟩
abbrev S4x128x64 : Shape := ⟨3, ![4, 128, 64]⟩
abbrev S512x256 : Shape := ⟨2, ![512, 256]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S256x64 : Shape := ⟨2, ![256, 64]⟩
abbrev S512x64 : Shape := ⟨2, ![512, 64]⟩
abbrev S512 : Shape := ⟨1, ![512]⟩
abbrev S512x1 : Shape := ⟨2, ![512, 1]⟩
abbrev S1x1x128 : Shape := ⟨3, ![1, 1, 128]⟩
abbrev S1x128 : Shape := ⟨2, ![1, 128]⟩
abbrev S1x1 : Shape := ⟨2, ![1, 1]⟩
abbrev S1 : Shape := ⟨1, ![1]⟩
abbrev S64x512 : Shape := ⟨2, ![64, 512]⟩
abbrev S64x256 : Shape := ⟨2, ![64, 256]⟩

abbrev nBuf : Space → Nat
  | .hbm => 27
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S2048x1024, .f32⟩
  | .hbm, ⟨7, _⟩ => ⟨S16x1x1, .f32⟩
  | .hbm, ⟨8, _⟩ => ⟨S16x1x128, .f32⟩
  | .hbm, ⟨9, _⟩ => ⟨S2048x16x64, .f32⟩
  | .hbm, ⟨10, _⟩ => ⟨S16x2048x64, .f32⟩
  | .hbm, ⟨11, _⟩ => ⟨S2048x4x64, .f32⟩
  | .hbm, ⟨12, _⟩ => ⟨S4x2048x64, .f32⟩
  | .hbm, ⟨13, _⟩ => ⟨S2048x4x64, .f32⟩
  | .hbm, ⟨14, _⟩ => ⟨S4x2048x64, .f32⟩
  | .hbm, ⟨15, _⟩ => ⟨S2048x16x64, .f32⟩
  | .hbm, ⟨16, _⟩ => ⟨S16x2048x64, .f32⟩
  | .hbm, ⟨17, _⟩ => ⟨S1x64, .f32⟩
  | .hbm, ⟨18, _⟩ => ⟨S1x64, .f32⟩
  | .hbm, ⟨19, _⟩ => ⟨S16x2048x64, .bf16⟩
  | .hbm, ⟨20, _⟩ => ⟨S4x2048x64, .f32⟩
  | .hbm, ⟨21, _⟩ => ⟨S4x2048x64, .f32⟩
  | .hbm, ⟨22, _⟩ => ⟨S4x2048x64, .f32⟩
  | .hbm, ⟨23, _⟩ => ⟨S4x2048x64, .f32⟩
  | .hbm, ⟨24, _⟩ => ⟨S1x64, .f32⟩
  | .hbm, ⟨25, _⟩ => ⟨S16x1x128, .f32⟩
  | .hbm, ⟨26, _⟩ => ⟨S8x128, .f32⟩
  | .local _ .vmem, ⟨0, _⟩ => ⟨S16x128x64, .f32⟩
  | .local _ .vmem, ⟨1, _⟩ => ⟨S16x128x64, .f32⟩
  | .local _ .vmem, ⟨2, _⟩ => ⟨S4x128x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S1x64, .f32⟩
  | .local _ .vmem, ⟨11, _⟩ => ⟨S1x64, .f32⟩
  | .local _ .vmem, ⟨12, _⟩ => ⟨S16x1x128, .f32⟩
  | .local _ .vmem, ⟨13, _⟩ => ⟨S16x128x64, .f32⟩
  | .local _ .vmem, ⟨14, _⟩ => ⟨S16x128x64, .f32⟩
  | .local _ .vmem, ⟨15, _⟩ => ⟨S16x128x64, .bf16⟩
  | .local _ .vmem, ⟨16, _⟩ => ⟨S16x128x64, .bf16⟩
  | .local _ .vmem, ⟨17, _⟩ => ⟨S4x128x64, .f32⟩
  | .local _ .vmem, ⟨18, _⟩ => ⟨S4x128x64, .f32⟩
  | .local _ .vmem, ⟨19, _⟩ => ⟨S4x128x64, .f32⟩
  | .local _ .vmem, ⟨20, _⟩ => ⟨S4x128x64, .f32⟩
  | .local _ .vmem, ⟨21, _⟩ => ⟨S4x128x64, .f32⟩
  | .local _ .vmem, ⟨22, _⟩ => ⟨S4x128x64, .f32⟩
  | .local _ .vmem, ⟨23, _⟩ => ⟨S4x128x64, .f32⟩
  | .local _ .vmem, ⟨24, _⟩ => ⟨S4x128x64, .f32⟩
  | .local _ .vmem, ⟨25, _⟩ => ⟨S1x64, .f32⟩
  | .local _ .vmem, ⟨26, _⟩ => ⟨S16x1x128, .f32⟩
  | .local _ .vmem, ⟨27, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S2048x1024 : Shape := ⟨2, ![2048, 1024]⟩
abbrev S2048x256 : Shape := ⟨2, ![2048, 256]⟩
abbrev S64 : Shape := ⟨1, ![64]⟩
abbrev S16 : Shape := ⟨1, ![16]⟩
abbrev S2048x4x64 : Shape := ⟨3, ![2048, 4, 64]⟩
abbrev S_ : Shape := ⟨0, ![]⟩
abbrev S2048x4 : Shape := ⟨2, ![2048, 4]⟩
abbrev S2048x4x1 : Shape := ⟨3, ![2048, 4, 1]⟩
abbrev S1x1x64 : Shape := ⟨3, ![1, 1, 64]⟩
abbrev S16x128x4x64 : Shape := ⟨4, ![16, 128, 4, 64]⟩
abbrev S1x128x4x64 : Shape := ⟨4, ![1, 128, 4, 64]⟩
abbrev S15x128x4x64 : Shape := ⟨4, ![15, 128, 4, 64]⟩
abbrev S16x256x4x64 : Shape := ⟨4, ![16, 256, 4, 64]⟩
abbrev S2048x16x64 : Shape := ⟨3, ![2048, 16, 64]⟩
abbrev S2048x16 : Shape := ⟨2, ![2048, 16]⟩
abbrev S2048x16x1 : Shape := ⟨3, ![2048, 16, 1]⟩
abbrev S16x128x4x4x64 : Shape := ⟨5, ![16, 128, 4, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S16x1x1 : Shape := ⟨3, ![16, 1, 1]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S4x4 : Shape := ⟨2, ![4, 4]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩
abbrev S16x4x64x256 : Shape := ⟨4, ![16, 4, 64, 256]⟩
abbrev S4x4x1 : Shape := ⟨3, ![4, 4, 1]⟩
abbrev S16x4x128x4x64 : Shape := ⟨5, ![16, 4, 128, 4, 64]⟩
abbrev S16x4x256x64 : Shape := ⟨4, ![16, 4, 256, 64]⟩
abbrev S16x2048x64 : Shape := ⟨3, ![16, 2048, 64]⟩
abbrev S4x16x128x64 : Shape := ⟨4, ![4, 16, 128, 64]⟩
abbrev S4x2048x64 : Shape := ⟨3, ![4, 2048, 64]⟩
abbrev S1x64 : Shape := ⟨2, ![1, 64]⟩
abbrev S16x1x128 : Shape := ⟨3, ![16, 1, 128]⟩

abbrev nBuf : Space → Nat
  | .hbm => 262
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S64, .f32⟩
  | 4 => ⟨S64, .f32⟩
  | 5 => ⟨S16, .f32⟩
  | 6 => ⟨S2048x1024, .f32⟩
  | 7 => ⟨S2048x4x64, .f32⟩
  | 8 => ⟨S2048x4x64, .f32⟩
  | 9 => ⟨S_, .f32⟩
  | 10 => ⟨S2048x4, .f32⟩
  | 11 => ⟨S2048x4x1, .f32⟩
  | 12 => ⟨S_, .f32⟩
  | 13 => ⟨S2048x4x1, .f32⟩
  | 14 => ⟨S2048x4x1, .f32⟩
  | 15 => ⟨S_, .f32⟩
  | 16 => ⟨S2048x4x1, .f32⟩
  | 17 => ⟨S2048x4x1, .f32⟩
  | 18 => ⟨S2048x4x1, .f32⟩
  | 19 => ⟨S2048x4x64, .f32⟩
  | 20 => ⟨S2048x4x64, .f32⟩
  | 21 => ⟨S1x1x64, .f32⟩
  | 22 => ⟨S2048x4x64, .f32⟩
  | 23 => ⟨S2048x4x64, .f32⟩
  | 24 => ⟨S16x128x4x64, .f32⟩
  | 25 => ⟨S_, .f32⟩
  | 26 => ⟨S1x128x4x64, .f32⟩
  | 27 => ⟨S15x128x4x64, .f32⟩
  | 28 => ⟨S16x128x4x64, .f32⟩
  | 29 => ⟨S16x256x4x64, .f32⟩
  | 30 => ⟨S2048x4x64, .f32⟩
  | 31 => ⟨S16x128x4x64, .f32⟩
  | 32 => ⟨S_, .f32⟩
  | 33 => ⟨S1x128x4x64, .f32⟩
  | 34 => ⟨S15x128x4x64, .f32⟩
  | 35 => ⟨S16x128x4x64, .f32⟩
  | 36 => ⟨S16x256x4x64, .f32⟩
  | 37 => ⟨S2048x16x64, .f32⟩
  | 38 => ⟨S2048x16x64, .f32⟩
  | 39 => ⟨S_, .f32⟩
  | 40 => ⟨S2048x16, .f32⟩
  | 41 => ⟨S2048x16x1, .f32⟩
  | 42 => ⟨S_, .f32⟩
  | 43 => ⟨S2048x16x1, .f32⟩
  | 44 => ⟨S2048x16x1, .f32⟩
  | 45 => ⟨S_, .f32⟩
  | 46 => ⟨S2048x16x1, .f32⟩
  | 47 => ⟨S2048x16x1, .f32⟩
  | 48 => ⟨S2048x16x1, .f32⟩
  | 49 => ⟨S2048x16x1, .f32⟩
  | 50 => ⟨S_, .f32⟩
  | 51 => ⟨S2048x16x1, .f32⟩
  | 52 => ⟨S2048x16x1, .f32⟩
  | 53 => ⟨S2048x16x64, .f32⟩
  | 54 => ⟨S2048x16x64, .f32⟩
  | 55 => ⟨S1x1x64, .f32⟩
  | 56 => ⟨S2048x16x64, .f32⟩
  | 57 => ⟨S2048x16x64, .f32⟩
  | 58 => ⟨S16x128x4x4x64, .f32⟩
  | 59 => ⟨S16x4x256x128x4, .f32⟩
  | 60 => ⟨S16x4x4x128x256, .f32⟩
  | 61 => ⟨S_, .f32⟩
  | 62 => ⟨S16x4x4x128x256, .f32⟩
  | 63 => ⟨S16x4x4x128x256, .f32⟩
  | 64 => ⟨S128, .i32⟩
  | 65 => ⟨S1x128x1, .i32⟩
  | 66 => ⟨S256, .i32⟩
  | 67 => ⟨S1x1x256, .i32⟩
  | 68 => ⟨S16, .i32⟩
  | 69 => ⟨S16x1x1, .i32⟩
  | 70 => ⟨S_, .i32⟩
  | 71 => ⟨S1x128x1, .i32⟩
  | 72 => ⟨S1x128x1, .i32⟩
  | 73 => ⟨S1x128x256, .i32⟩
  | 74 => ⟨S1x128x256, .i32⟩
  | 75 => ⟨S1x128x256, .i32⟩
  | 76 => ⟨S_, .i32⟩
  | 77 => ⟨S16x1x1, .i32⟩
  | 78 => ⟨S16x1x1, .i32⟩
  | 79 => ⟨S_, .i32⟩
  | 80 => ⟨S16x1x1, .i32⟩
  | 81 => ⟨S16x1x1, .i32⟩
  | 82 => ⟨S16x1x256, .i32⟩
  | 83 => ⟨S16x1x256, .i32⟩
  | 84 => ⟨S16x1x256, .i32⟩
  | 85 => ⟨S_, .i32⟩
  | 86 => ⟨S1x128x256, .i32⟩
  | 87 => ⟨S1x128x256, .i1⟩
  | 88 => ⟨S_, .i32⟩
  | 89 => ⟨S1x128x256, .i32⟩
  | 90 => ⟨S1x128x256, .i1⟩
  | 91 => ⟨S1x128x256, .i1⟩
  | 92 => ⟨S_, .i32⟩
  | 93 => ⟨S16x1x256, .i32⟩
  | 94 => ⟨S16x1x256, .i1⟩
  | 95 => ⟨S16x128x256, .i1⟩
  | 96 => ⟨S16x128x256, .i1⟩
  | 97 => ⟨S16x128x256, .i1⟩
  | 98 => ⟨S16x1x1x128x256, .i1⟩
  | 99 => ⟨S_, .f32⟩
  | 100 => ⟨S_, .f32⟩
  | 101 => ⟨S16x4x4x128x256, .i1⟩
  | 102 => ⟨S16x4x4x128x256, .f32⟩
  | 103 => ⟨S16x4x4x128x256, .f32⟩
  | 104 => ⟨S_, .f32⟩
  | 105 => ⟨S16x4x4x128x256, .f32⟩
  | 106 => ⟨S4x4, .f32⟩
  | 107 => ⟨S1x4x4x1x1, .f32⟩
  | 108 => ⟨S_, .f32⟩
  | 109 => ⟨S16x4x4x128, .f32⟩
  | 110 => ⟨S16x4x4x128x1, .f32⟩
  | 111 => ⟨S16x4x4x128x256, .f32⟩
  | 112 => ⟨S16x4x4x128x256, .i1⟩
  | 113 => ⟨S16x4x4x128x256, .f32⟩
  | 114 => ⟨S_, .f32⟩
  | 115 => ⟨S16x4x4x128, .f32⟩
  | 116 => ⟨S16x4x4x128x1, .f32⟩
  | 117 => ⟨S16x4x4x128x1, .f32⟩
  | 118 => ⟨S16x4x4x128x1, .f32⟩
  | 119 => ⟨S16x4x4x128x1, .f32⟩
  | 120 => ⟨S16x4x4x128x1, .i1⟩
  | 121 => ⟨S16x4x4x128x1, .f32⟩
  | 122 => ⟨S16x4x4x128x1, .i1⟩
  | 123 => ⟨S_, .f32⟩
  | 124 => ⟨S16x4x4x128x1, .f32⟩
  | 125 => ⟨S_, .f32⟩
  | 126 => ⟨S16x4x4x128x1, .f32⟩
  | 127 => ⟨S_, .f32⟩
  | _ => ⟨S2048x1024, .f32⟩

abbrev hbmTy0_1 (i : Nat) : BufTy := match i % 128 with
  | 0 => ⟨S16x4x4x128x1, .f32⟩
  | 1 => ⟨S16x4x4x128x1, .f32⟩
  | 2 => ⟨S16x4x4x128x1, .f32⟩
  | 3 => ⟨S16x4x4x128x1, .f32⟩
  | 4 => ⟨S16x4x4x128x1, .i1⟩
  | 5 => ⟨S16x4x4x128x1, .f32⟩
  | 6 => ⟨S16x4x4x128x1, .i1⟩
  | 7 => ⟨S_, .f32⟩
  | 8 => ⟨S16x4x4x128x1, .f32⟩
  | 9 => ⟨S_, .f32⟩
  | 10 => ⟨S16x4x4x128x1, .f32⟩
  | 11 => ⟨S_, .f32⟩
  | 12 => ⟨S16x4x4x128x1, .f32⟩
  | 13 => ⟨S16x4x4x128x1, .f32⟩
  | 14 => ⟨S16x4x4x128x1, .f32⟩
  | 15 => ⟨S16x4x4x128x256, .f32⟩
  | 16 => ⟨S16x4x4x128x256, .f32⟩
  | 17 => ⟨S16x4x4x128x256, .f32⟩
  | 18 => ⟨S_, .f32⟩
  | 19 => ⟨S16x4x4x128, .f32⟩
  | 20 => ⟨S16x4x4x128x1, .f32⟩
  | 21 => ⟨S16x4x4x128x1, .f32⟩
  | 22 => ⟨S16x4x4x128x1, .f32⟩
  | 23 => ⟨S16x4x4x128x1, .f32⟩
  | 24 => ⟨S16x4x4x128x1, .f32⟩
  | 25 => ⟨S16x4x4x128x256, .f32⟩
  | 26 => ⟨S16x4x4x128x256, .f32⟩
  | 27 => ⟨S16x4x4x128x1, .f32⟩
  | 28 => ⟨S_, .f32⟩
  | 29 => ⟨S16x4x4x128x1, .f32⟩
  | 30 => ⟨S16x4x4x128x1, .f32⟩
  | 31 => ⟨S16x4x64x4x128, .f32⟩
  | 32 => ⟨S16x128x4x4x64, .f32⟩
  | 33 => ⟨S2048x1024, .f32⟩
  | 34 => ⟨S16x128x4x4x64, .f32⟩
  | 35 => ⟨S16x4x64x4x128, .f32⟩
  | 36 => ⟨S16x4x4x128x256, .f32⟩
  | 37 => ⟨S16x4x64x256, .f32⟩
  | 38 => ⟨S16x256x4x64, .f32⟩
  | 39 => ⟨S16x4x4x128x256, .f32⟩
  | 40 => ⟨S16x4x4x128x256, .f32⟩
  | 41 => ⟨S16x4x4x128x256, .f32⟩
  | 42 => ⟨S_, .f32⟩
  | 43 => ⟨S16x4x4x128, .f32⟩
  | 44 => ⟨S16x4x4x128x1, .f32⟩
  | 45 => ⟨S16x4x4x128x1, .f32⟩
  | 46 => ⟨S16x4x4x128x256, .f32⟩
  | 47 => ⟨S16x4x4x128x256, .f32⟩
  | 48 => ⟨S16x4x4x128x1, .f32⟩
  | 49 => ⟨S_, .f32⟩
  | 50 => ⟨S4x4x1, .f32⟩
  | 51 => ⟨S1x4x4x1x1, .f32⟩
  | 52 => ⟨S16x4x4x128x1, .f32⟩
  | 53 => ⟨S_, .f32⟩
  | 54 => ⟨S16x4x4x128, .f32⟩
  | 55 => ⟨S16x4x4x128x256, .f32⟩
  | 56 => ⟨S16x4x4x128x256, .f32⟩
  | 57 => ⟨S16x4x4x128x256, .f32⟩
  | 58 => ⟨S16x4x4x128x256, .f32⟩
  | 59 => ⟨S_, .f32⟩
  | 60 => ⟨S16x4x4x128, .f32⟩
  | 61 => ⟨S16x4x4x128x1, .f32⟩
  | 62 => ⟨S16x4x4x128x1, .f32⟩
  | 63 => ⟨S16x4x4x128x1, .f32⟩
  | 64 => ⟨S_, .f32⟩
  | 65 => ⟨S4x4x1, .f32⟩
  | 66 => ⟨S1x4x4x1x1, .f32⟩
  | 67 => ⟨S1x4x4x1x1, .f32⟩
  | 68 => ⟨S16x4x4x128x1, .f32⟩
  | 69 => ⟨S_, .f32⟩
  | 70 => ⟨S16x4x4x128, .f32⟩
  | 71 => ⟨S16x4x4x128, .f32⟩
  | 72 => ⟨S16x4x4x128x256, .f32⟩
  | 73 => ⟨S16x4x4x128x256, .f32⟩
  | 74 => ⟨S16x4x4x128x256, .f32⟩
  | 75 => ⟨S_, .f32⟩
  | 76 => ⟨S4x4, .f32⟩
  | 77 => ⟨S16, .f32⟩
  | 78 => ⟨S_, .f32⟩
  | 79 => ⟨S16x4x4x128x256, .f32⟩
  | 80 => ⟨S16x4x4x128x256, .f32⟩
  | 81 => ⟨S_, .f32⟩
  | 82 => ⟨S16x4x4x128x256, .f32⟩
  | 83 => ⟨S16x4x4x128x256, .f32⟩
  | 84 => ⟨S16x4x256x128x4, .f32⟩
  | 85 => ⟨S16x4x128x4x64, .f32⟩
  | 86 => ⟨S16x128x4x4x64, .f32⟩
  | 87 => ⟨S16x4x256x64, .f32⟩
  | 88 => ⟨S16x256x4x64, .f32⟩
  | 89 => ⟨S2048x16x64, .f32⟩
  | 90 => ⟨S2048x16x64, .f32⟩
  | 91 => ⟨S_, .f32⟩
  | 92 => ⟨S64, .f32⟩
  | 93 => ⟨S1x1x64, .f32⟩
  | 94 => ⟨S2048x16x64, .f32⟩
  | 95 => ⟨S2048x16x64, .f32⟩
  | 96 => ⟨S_, .f32⟩
  | 97 => ⟨S64, .f32⟩
  | 98 => ⟨S2048x16x64, .f32⟩
  | 99 => ⟨S_, .f32⟩
  | 100 => ⟨S2048x16, .f32⟩
  | 101 => ⟨S2048x16x1, .f32⟩
  | 102 => ⟨S2048x16x64, .f32⟩
  | 103 => ⟨S2048x16x64, .f32⟩
  | 104 => ⟨S2048x16x1, .f32⟩
  | 105 => ⟨S_, .f32⟩
  | 106 => ⟨S2048x16x1, .f32⟩
  | 107 => ⟨S2048x16x1, .f32⟩
  | 108 => ⟨S_, .f32⟩
  | 109 => ⟨S2048x16, .f32⟩
  | 110 => ⟨S2048x16x64, .f32⟩
  | 111 => ⟨S2048x16x64, .f32⟩
  | 112 => ⟨S2048x16x64, .f32⟩
  | 113 => ⟨S2048x16x64, .f32⟩
  | 114 => ⟨S2048x16x64, .f32⟩
  | 115 => ⟨S2048x1024, .f32⟩
  | 116 => ⟨S2048x16x64, .f32⟩
  | 117 => ⟨S16x2048x64, .f32⟩
  | 118 => ⟨S16x2048x64, .bf16⟩
  | 119 => ⟨S16x128x4x64, .f32⟩
  | 120 => ⟨S4x16x128x64, .f32⟩
  | 121 => ⟨S4x2048x64, .f32⟩
  | 122 => ⟨S16x128x4x64, .f32⟩
  | 123 => ⟨S4x16x128x64, .f32⟩
  | 124 => ⟨S4x2048x64, .f32⟩
  | 125 => ⟨S16x128x4x64, .f32⟩
  | 126 => ⟨S4x16x128x64, .f32⟩
  | 127 => ⟨S4x2048x64, .f32⟩
  | _ => ⟨S2048x1024, .f32⟩

abbrev hbmTy0_2 (i : Nat) : BufTy := match i % 128 with
  | 0 => ⟨S16x128x4x64, .f32⟩
  | 1 => ⟨S4x16x128x64, .f32⟩
  | 2 => ⟨S4x2048x64, .f32⟩
  | 3 => ⟨S1x64, .f32⟩
  | 4 => ⟨S16x1x1, .f32⟩
  | 5 => ⟨S16x1x128, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_9 : Ref sig .tc := ⟨.hbm, 76, rfl⟩
abbrev main_v58 : Ref sig .tc := ⟨.hbm, 77, rfl⟩
abbrev main_v59 : Ref sig .tc := ⟨.hbm, 78, rfl⟩
abbrev main_c_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_11 : Ref sig .tc := ⟨.hbm, 85, rfl⟩
abbrev main_v65 : Ref sig .tc := ⟨.hbm, 86, rfl⟩
abbrev main_v66 : Ref sig .tc := ⟨.hbm, 87, rfl⟩
abbrev main_c_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_call0_v0 : Ref sig .tc := ⟨.hbm, 100, rfl⟩
abbrev main_v76_1 : Ref sig .tc := ⟨.hbm, 101, rfl⟩
abbrev main_call0_v2 : Ref sig .tc := ⟨.hbm, 102, rfl⟩
abbrev main_v76_0 : Ref sig .tc := ⟨.hbm, 103, rfl⟩
abbrev main_call0_cst : Ref sig .tc := ⟨.hbm, 104, rfl⟩
abbrev main_v76_2 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_17 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_20 : Ref sig .tc := ⟨.hbm, 135, rfl⟩
abbrev main_v101 : Ref sig .tc := ⟨.hbm, 136, rfl⟩
abbrev main_cst_21 : Ref sig .tc := ⟨.hbm, 137, rfl⟩
abbrev main_v102 : Ref sig .tc := ⟨.hbm, 138, rfl⟩
abbrev main_cst_22 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_24 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_25 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_26 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_27 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_28 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_29 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_30 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_31 : Ref sig .tc := ⟨.hbm, 203, rfl⟩
abbrev main_v158 : Ref sig .tc := ⟨.hbm, 204, rfl⟩
abbrev main_v159 : Ref sig .tc := ⟨.hbm, 205, rfl⟩
abbrev main_call1_cst : Ref sig .tc := ⟨.hbm, 206, rfl⟩
abbrev main_call1_v0 : Ref sig .tc := ⟨.hbm, 207, rfl⟩
abbrev main_v160 : Ref sig .tc := ⟨.hbm, 208, rfl⟩
abbrev main_cst_32 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_33 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_34 : Ref sig .tc := ⟨.hbm, 224, rfl⟩
abbrev main_v174 : Ref sig .tc := ⟨.hbm, 225, rfl⟩
abbrev main_v175 : Ref sig .tc := ⟨.hbm, 226, rfl⟩
abbrev main_cst_35 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_cst_36 : Ref sig .tc := ⟨.hbm, 233, rfl⟩
abbrev main_v181 : Ref sig .tc := ⟨.hbm, 234, rfl⟩
abbrev main_v182 : Ref sig .tc := ⟨.hbm, 235, rfl⟩
abbrev main_cst_37 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .hbm, ⟨4, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixFwd.lean ====
abbrev S2048x1024 : Shape := ⟨2, ![2048, 1024]⟩
abbrev S2048x512 : Shape := ⟨2, ![2048, 512]⟩
abbrev S2048 : Shape := ⟨1, ![2048]⟩
abbrev S1x2048 : Shape := ⟨2, ![1, 2048]⟩
abbrev S2048x2048 : Shape := ⟨2, ![2048, 2048]⟩
abbrev S8x128 : Shape := ⟨2, ![8, 128]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S1x2048, .f32⟩
  | .hbm, ⟨5, _⟩ => ⟨S2048x2048, .bf16⟩
  | .hbm, ⟨6, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixFwdRefIdeal.lean ====
abbrev S2048x1024 : Shape := ⟨2, ![2048, 1024]⟩
abbrev S2048x512 : Shape := ⟨2, ![2048, 512]⟩
abbrev S2048 : Shape := ⟨1, ![2048]⟩
abbrev S1024 : Shape := ⟨1, ![1024]⟩
abbrev S_ : Shape := ⟨0, ![]⟩
abbrev S2048x1 : Shape := ⟨2, ![2048, 1]⟩
abbrev S1x1024 : Shape := ⟨2, ![1, 1024]⟩
abbrev S512 : Shape := ⟨1, ![512]⟩
abbrev S1x512 : Shape := ⟨2, ![1, 512]⟩
abbrev S2048x2048 : Shape := ⟨2, ![2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S512, .f32⟩
  | .hbm, ⟨22, _⟩ => ⟨S2048x512, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S512, .f32⟩
  | .hbm, ⟨39, _⟩ => ⟨S2048x512, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x512, .f32⟩
  | .hbm, ⟨51, _⟩ => ⟨S2048x512, .f32⟩
  | .hbm, ⟨52, _⟩ => ⟨S1x512, .f32⟩
  | .hbm, ⟨53, _⟩ => ⟨S2048x512, .f32⟩
  | .hbm, ⟨54, _⟩ => ⟨S2048x512, .f32⟩
  | .hbm, ⟨55, _⟩ => ⟨S2048x2048, .f32⟩
  | .hbm, ⟨56, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== UpFwd.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8x128 : Shape := ⟨2, ![8, 128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x4x2048, .f32⟩
  | .hbm, ⟨4, _⟩ => ⟨S4x2048x2048, .f32⟩
  | .hbm, ⟨5, _⟩ => ⟨S4x2048x2048, .bf16⟩
  | .hbm, ⟨6, _⟩ => ⟨S2048x8192, .bf16⟩
  | .hbm, ⟨7, _⟩ => ⟨S2048x8192, .bf16⟩
  | .hbm, ⟨8, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== UpFwdRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutFwd.lean ====
abbrev S2048x2048 : Shape := ⟨2, ![2048, 2048]⟩
abbrev S2048 : Shape := ⟨1, ![2048]⟩
abbrev S4x512x2048 : Shape := ⟨3, ![4, 512, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S4x512x2048, .f32⟩
  | .hbm, ⟨6, _⟩ => ⟨S4x512x2048, .bf16⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== OutFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AttnFwd.lean ====
abbrev S2048x1024 : Shape := ⟨2, ![2048, 1024]⟩
abbrev S2048x256 : Shape := ⟨2, ![2048, 256]⟩
abbrev S64 : Shape := ⟨1, ![64]⟩
abbrev S16 : Shape := ⟨1, ![16]⟩
abbrev S16x1x1 : Shape := ⟨3, ![16, 1, 1]⟩
abbrev S16x1x128 : Shape := ⟨3, ![16, 1, 128]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S1x64 : Shape := ⟨2, ![1, 64]⟩
abbrev S8x128 : Shape := ⟨2, ![8, 128]⟩
abbrev S16x128x64 : Shape := ⟨3, ![16, 128, 64]⟩
abbrev S4x128x64 : Shape := ⟨3, ![4, 128, 64]⟩
abbrev S512x256 : Shape := ⟨2, ![512, 256]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S256x64 : Shape := ⟨2, ![256, 64]⟩
abbrev S512x64 : Shape := ⟨2, ![512, 64]⟩
abbrev S512 : Shape := ⟨1, ![512]⟩
abbrev S512x1 : Shape := ⟨2, ![512, 1]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 20
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S16x1x1, .f32⟩
  | .hbm, ⟨7, _⟩ => ⟨S16x1x128, .f32⟩
  | .hbm, ⟨8, _⟩ => ⟨S2048x16x64, .f32⟩
  | .hbm, ⟨9, _⟩ => ⟨S16x2048x64, .f32⟩
  | .hbm, ⟨10, _⟩ => ⟨S2048x4x64, .f32⟩
  | .hbm, ⟨11, _⟩ => ⟨S4x2048x64, .f32⟩
  | .hbm, ⟨12, _⟩ => ⟨S2048x4x64, .f32⟩
  | .hbm, ⟨13, _⟩ => ⟨S4x2048x64, .f32⟩
  | .hbm, ⟨14, _⟩ => ⟨S1x64, .f32⟩
  | .hbm, ⟨15, _⟩ => ⟨S1x64, .f32⟩
  | .hbm, ⟨16, _⟩ => ⟨S16x2048x64, .f32⟩
  | .hbm, ⟨17, _⟩ => ⟨S8x128, .f32⟩
  | .hbm, ⟨18, _⟩ => ⟨S2048x16x64, .f32⟩
  | .hbm, ⟨19, _⟩ => ⟨S2048x1024, .f32⟩
  | .local _ .vmem, ⟨0, _⟩ => ⟨S16x128x64, .f32⟩
  | .local _ .vmem, ⟨1, _⟩ => ⟨S16x128x64, .f32⟩
  | .local _ .vmem, ⟨2, _⟩ => ⟨S4x128x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S1x64, .f32⟩
  | .local _ .vmem, ⟨11, _⟩ => ⟨S1x64, .f32⟩
  | .local _ .vmem, ⟨12, _⟩ => ⟨S16x1x128, .f32⟩
  | .local _ .vmem, ⟨13, _⟩ => ⟨S16x128x64, .f32⟩
  | .local _ .vmem, ⟨14, _⟩ => ⟨S16x128x64, .f32⟩
  | .local _ .vmem, ⟨15, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnFwdIdeal.lean ====
variable {F : FTy → Type} [FloatOps F] [Named F]
def κ : String → Option EReal := fun
  | "mask" => some ⊥
  | _ => none
-- ==== AttnFwdRefIdeal.lean ====
abbrev S2048x1024 : Shape := ⟨2, ![2048, 1024]⟩
abbrev S2048x256 : Shape := ⟨2, ![2048, 256]⟩
abbrev S64 : Shape := ⟨1, ![64]⟩
abbrev S16 : Shape := ⟨1, ![16]⟩
abbrev S2048x4x64 : Shape := ⟨3, ![2048, 4, 64]⟩
abbrev S_ : Shape := ⟨0, ![]⟩
abbrev S2048x4 : Shape := ⟨2, ![2048, 4]⟩
abbrev S2048x4x1 : Shape := ⟨3, ![2048, 4, 1]⟩
abbrev S1x1x64 : Shape := ⟨3, ![1, 1, 64]⟩
abbrev S16x128x4x64 : Shape := ⟨4, ![16, 128, 4, 64]⟩
abbrev S1x128x4x64 : Shape := ⟨4, ![1, 128, 4, 64]⟩
abbrev S15x128x4x64 : Shape := ⟨4, ![15, 128, 4, 64]⟩
abbrev S16x256x4x64 : Shape := ⟨4, ![16, 256, 4, 64]⟩
abbrev S2048x16x64 : Shape := ⟨3, ![2048, 16, 64]⟩
abbrev S2048x16 : Shape := ⟨2, ![2048, 16]⟩
abbrev S2048x16x1 : Shape := ⟨3, ![2048, 16, 1]⟩
abbrev S16x128x4x4x64 : Shape := ⟨5, ![16, 128, 4, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S16x1x1 : Shape := ⟨3, ![16, 1, 1]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S4x4 : Shape := ⟨2, ![4, 4]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S2048x4x64, .f32⟩
  | .hbm, ⟨7, _⟩ => ⟨S2048x4x64, .f32⟩
  | .hbm, ⟨8, _⟩ => ⟨S_, .f32⟩
  | .hbm, ⟨9, _⟩ => ⟨S2048x4, .f32⟩
  | .hbm, ⟨10, _⟩ => ⟨S2048x4x1, .f32⟩
  | .hbm, ⟨11, _⟩ => ⟨S_, .f32⟩
  | .hbm, ⟨12, _⟩ => ⟨S2048x4x1, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S2048x4x1, .f32⟩
  | .hbm, ⟨18, _⟩ => ⟨S2048x4x64, .f32⟩
  | .hbm, ⟨19, _⟩ => ⟨S2048x4x64, .f32⟩
  | .hbm, ⟨20, _⟩ => ⟨S1x1x64, .f32⟩
  | .hbm, ⟨21, _⟩ => ⟨S2048x4x64, .f32⟩
  | .hbm, ⟨22, _⟩ => ⟨S2048x4x64, .f32⟩
  | .hbm, ⟨23, _⟩ => ⟨S16x128x4x64, .f32⟩
  | .hbm, ⟨24, _⟩ => ⟨S_, .f32⟩
  | .hbm, ⟨25, _⟩ => ⟨S1x128x4x64, .f32⟩
  | .hbm, ⟨26, _⟩ => ⟨S15x128x4x64, .f32⟩
  | .hbm, ⟨27, _⟩ => ⟨S16x128x4x64, .f32⟩
  | .hbm, ⟨28, _⟩ => ⟨S16x256x4x64, .f32⟩
  | .hbm, ⟨29, _⟩ => ⟨S2048x4x64, .f32⟩
  | .hbm, ⟨30, _⟩ => ⟨S16x128x4x64, .f32⟩
  | .hbm, ⟨31, _⟩ => ⟨S_, .f32⟩
  | .hbm, ⟨32, _⟩ => ⟨S1x128x4x64, .f32⟩
  | .hbm, ⟨33, _⟩ => ⟨S15x128x4x64, .f32⟩
  | .hbm, ⟨34, _⟩ => ⟨S16x128x4x64, .f32⟩
  | .hbm, ⟨35, _⟩ => ⟨S16x256x4x64, .f32⟩
  | .hbm, ⟨36, _⟩ => ⟨S2048x16x64, .f32⟩
  | .hbm, ⟨37, _⟩ => ⟨S2048x16x64, .f32⟩
  | .hbm, ⟨38, _⟩ => ⟨S_, .f32⟩
  | .hbm, ⟨39, _⟩ => ⟨S2048x16, .f32⟩
  | .hbm, ⟨40, _⟩ => ⟨S2048x16x1, .f32⟩
  | .hbm, ⟨41, _⟩ => ⟨S_, .f32⟩
  | .hbm, ⟨42, _⟩ => ⟨S2048x16x1, .f32⟩
  | .hbm, ⟨43, _⟩ => ⟨S2048x16x1, .f32⟩
  | .hbm, ⟨44, _⟩ => ⟨S_, .f32⟩
  | .hbm, ⟨45, _⟩ => ⟨S2048x16x1, .f32⟩
  | .hbm, ⟨46, _⟩ => ⟨S2048x16x1, .f32⟩
  | .hbm, ⟨47, _⟩ => ⟨S2048x16x1, .f32⟩
  | .hbm, ⟨48, _⟩ => ⟨S2048x16x64, .f32⟩
  | .hbm, ⟨49, _⟩ => ⟨S2048x16x64, .f32⟩
  | .hbm, ⟨50, _⟩ => ⟨S1x1x64, .f32⟩
  | .hbm, ⟨51, _⟩ => ⟨S2048x16x64, .f32⟩
  | .hbm, ⟨52, _⟩ => ⟨S2048x16x64, .f32⟩
  | .hbm, ⟨53, _⟩ => ⟨S16x128x4x4x64, .f32⟩
  | .hbm, ⟨54, _⟩ => ⟨S16x4x256x128x4, .f32⟩
  | .hbm, ⟨55, _⟩ => ⟨S16x4x4x128x256, .f32⟩
  | .hbm, ⟨56, _⟩ => ⟨S_, .f32⟩
  | .hbm, ⟨57, _⟩ => ⟨S16x4x4x128x256, .f32⟩
  | .hbm, ⟨58, _⟩ => ⟨S16x4x4x128x256, .f32⟩
  | .hbm, ⟨59, _⟩ => ⟨S128, .i32⟩
  | .hbm, ⟨60, _⟩ => ⟨S1x128x1, .i32⟩
  | .hbm, ⟨61, _⟩ => ⟨S256, .i32⟩
  | .hbm, ⟨62, _⟩ => ⟨S1x1x256, .i32⟩
  | .hbm, ⟨63, _⟩ => ⟨S16, .i32⟩
  | .hbm, ⟨64, _⟩ => ⟨S16x1x1, .i32⟩
  | .hbm, ⟨65, _⟩ => ⟨S_, .i32⟩
  | .hbm, ⟨66, _⟩ => ⟨S1x128x1, .i32⟩
  | .hbm, ⟨67, _⟩ => ⟨S1x128x1, .i32⟩
  | .hbm, ⟨68, _⟩ => ⟨S1x128x256, .i32⟩
  | .hbm, ⟨69, _⟩ => ⟨S1x128x256, .i32⟩
  | .hbm, ⟨70, _⟩ => ⟨S1x128x256, .i32⟩
  | .hbm, ⟨71, _⟩ => ⟨S_, .i32⟩
  | .hbm, ⟨72, _⟩ => ⟨S16x1x1, .i32⟩
  | .hbm, ⟨73, _⟩ => ⟨S16x1x1, .i32⟩
  | .hbm, ⟨74, _⟩ => ⟨S_, .i32⟩
  | .hbm, ⟨75, _⟩ => ⟨S16x1x1, .i32⟩
  | .hbm, ⟨76, _⟩ => ⟨S16x1x1, .i32⟩
  | .hbm, ⟨77, _⟩ => ⟨S16x1x256, .i32⟩
  | .hbm, ⟨78, _⟩ => ⟨S16x1x256, .i32⟩
  | .hbm, ⟨79, _⟩ => ⟨S16x1x256, .i32⟩
  | .hbm, ⟨80, _⟩ => ⟨S_, .i32⟩
  | .hbm, ⟨81, _⟩ => ⟨S1x128x256, .i32⟩
  | .hbm, ⟨82, _⟩ => ⟨S1x128x256, .i1⟩
  | .hbm, ⟨83, _⟩ => ⟨S_, .i32⟩
  | .hbm, ⟨84, _⟩ => ⟨S1x128x256, .i32⟩
  | .hbm, ⟨85, _⟩ => ⟨S1x128x256, .i1⟩
  | .hbm, ⟨86, _⟩ => ⟨S1x128x256, .i1⟩
  | .hbm, ⟨87, _⟩ => ⟨S_, .i32⟩
  | .hbm, ⟨88, _⟩ => ⟨S16x1x256, .i32⟩
  | .hbm, ⟨89, _⟩ => ⟨S16x1x256, .i1⟩
  | .hbm, ⟨90, _⟩ => ⟨S16x128x256, .i1⟩
  | .hbm, ⟨91, _⟩ => ⟨S16x128x256, .i1⟩
  | .hbm, ⟨92, _⟩ => ⟨S16x128x256, .i1⟩
  | .hbm, ⟨93, _⟩ => ⟨S16x1x1x128x256, .i1⟩
  | .hbm, ⟨94, _⟩ => ⟨S_, .f32⟩
  | .hbm, ⟨95, _⟩ => ⟨S_, .f32⟩
  | .hbm, ⟨96, _⟩ => ⟨S16x4x4x128x256, .i1⟩
  | .hbm, ⟨97, _⟩ => ⟨S16x4x4x128x256, .f32⟩
  | .hbm, ⟨98, _⟩ => ⟨S16x4x4x128x256, .f32⟩
  | .hbm, ⟨99, _⟩ => ⟨S4x4, .f32⟩
  | .hbm, ⟨100, _⟩ => ⟨S1x4x4x1x1, .f32⟩
  | .hbm, ⟨101, _⟩ => ⟨S_, .f32⟩
  | .hbm, ⟨102, _⟩ => ⟨S16x4x4x128, .f32⟩
  | .hbm, ⟨103, _⟩ => ⟨S16x4x4x128x1, .f32⟩
  | .hbm, ⟨104, _⟩ => ⟨S16x4x4x128x1, .f32⟩
  | .hbm, ⟨105, _⟩ => ⟨S16x4x4x128x1, .f32⟩
  | .hbm, ⟨106, _⟩ => ⟨S16x4x4x128x256, .f32⟩
  | .hbm, ⟨107, _⟩ => ⟨S16x4x4x128x256, .f32⟩
  | .hbm, ⟨108, _⟩ => ⟨S16x4x4x128x256, .f32⟩
  | .hbm, ⟨109, _⟩ => ⟨S_, .f32⟩
  | .hbm, ⟨110, _⟩ => ⟨S16x4x4x128, .f32⟩
  | .hbm, ⟨111, _⟩ => ⟨S16x4x4x128x1, .f32⟩
  | .hbm, ⟨112, _⟩ => ⟨S16x4x4x128x1, .f32⟩
  | .hbm, ⟨113, _⟩ => ⟨S16x4x4x128x1, .f32⟩
  | .hbm, ⟨114, _⟩ => ⟨S16x4x4x128x1, .f32⟩
  | .hbm, ⟨115, _⟩ => ⟨S16x4x4x128x1, .f32⟩
  | .hbm, ⟨116, _⟩ => ⟨S16x4x4x128x256, .f32⟩
  | .hbm, ⟨117, _⟩ => ⟨S16x4x4x128x256, .f32⟩
  | .hbm, ⟨118, _⟩ => ⟨S16x4x64x4x128, .f32⟩
  | .hbm, ⟨119, _⟩ => ⟨S16x128x4x4x64, .f32⟩
  | .hbm, ⟨120, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_8 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_10 : Ref sig .tc := ⟨.hbm, 80, rfl⟩
abbrev main_v62 : Ref sig .tc := ⟨.hbm, 81, rfl⟩
abbrev main_v63 : Ref sig .tc := ⟨.hbm, 82, rfl⟩
abbrev main_c_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_13 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== SguFwd.lean ====
abbrev S2048x3584 : Shape := ⟨2, ![2048, 3584]⟩
abbrev S512 : Shape := ⟨1, ![512]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S2048x512 : Shape := ⟨2, ![2048, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 12
  | .vmem => 11
  | .smem => 0
  | _ => 0

abbrev bufTy : (tb : Table) → Fin (tcTables nBuf tb) → BufTy
  | .hbm, ⟨0, _⟩ => ⟨S2048x3584, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S128x8, .f32⟩
  | .hbm, ⟨8, _⟩ => ⟨S128x8x64, .f32⟩
  | .hbm, ⟨9, _⟩ => ⟨S128x512, .f32⟩
  | .hbm, ⟨10, _⟩ => ⟨S2048x512, .f32⟩
  | .hbm, ⟨11, _⟩ => ⟨S8x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S8x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SguFwdRefIdeal.lean ====
abbrev S2048x3584 : Shape := ⟨2, ![2048, 3584]⟩
abbrev S512 : Shape := ⟨1, ![512]⟩
abbrev S8x128x128 : Shape := ⟨3, ![8, 128, 128]⟩
abbrev S8x128 : Shape := ⟨2, ![8, 128]⟩
abbrev S2048x1024 : Shape := ⟨2, ![2048, 1024]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S16x128x8x64 : Shape := ⟨4, ![16, 128, 8, 64]⟩
abbrev S128x128 : Shape := ⟨2, ![128, 128]⟩
abbrev S1x128x128 : Shape := ⟨3, ![1, 128, 128]⟩
abbrev S8x16x64x128 : Shape := ⟨4, ![8, 16, 64, 128]⟩
abbrev S128x8 : Shape := ⟨2, ![128, 8]⟩
abbrev S1x128x8x1 : Shape := ⟨4, ![1, 128, 8, 1]⟩

abbrev nBuf : Space → Nat
  | .hbm => 60
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S16x128x8x64, .f32⟩
  | .hbm, ⟨36, _⟩ => ⟨S_, .i1⟩
  | .hbm, ⟨37, _⟩ => ⟨S128x128, .i1⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .i1⟩
  | .hbm, ⟨45, _⟩ => ⟨S128x128, .i1⟩
  | .hbm, ⟨46, _⟩ => ⟨S128x128, .i1⟩
  | .hbm, ⟨47, _⟩ => ⟨S1x128x128, .i1⟩
  | .hbm, ⟨48, _⟩ => ⟨S_, .f32⟩
  | .hbm, ⟨49, _⟩ => ⟨S8x128x128, .f32⟩
  | .hbm, ⟨50, _⟩ => ⟨S8x128x128, .i1⟩
  | .hbm, ⟨51, _⟩ => ⟨S8x128x128, .f32⟩
  | .hbm, ⟨52, _⟩ => ⟨S8x16x64x128, .f32⟩
  | .hbm, ⟨53, _⟩ => ⟨S16x128x8x64, .f32⟩
  | .hbm, ⟨54, _⟩ => ⟨S128x8, .f32⟩
  | .hbm, ⟨55, _⟩ => ⟨S1x128x8x1, .f32⟩
  | .hbm, ⟨56, _⟩ => ⟨S16x128x8x64, .f32⟩
  | .hbm, ⟨57, _⟩ => ⟨S16x128x8x64, .f32⟩
  | .hbm, ⟨58, _⟩ => ⟨S2048x512, .f32⟩
  | .hbm, ⟨59, _⟩ => ⟨S2048x512, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== ConvFwd.lean ====
abbrev S2048x3584 : Shape := ⟨2, ![2048, 3584]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S2048x512 : Shape := ⟨2, ![2048, 512]⟩
abbrev S8x128 : Shape := ⟨2, ![8, 128]⟩
abbrev S256x512 : Shape := ⟨2, ![256, 512]⟩
abbrev S288x512 : Shape := ⟨2, ![288, 512]⟩
abbrev S7x288x512 : Shape := ⟨3, ![7, 288, 512]⟩
abbrev S280x512 : Shape := ⟨2, ![280, 512]⟩
abbrev S1x280x512 : Shape := ⟨3, ![1, 280, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S2048x3584, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S32x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S2048x512, .f32⟩
  | .hbm, ⟨12, _⟩ => ⟨S8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S8x128, .f32⟩
  | .local _ .vmem, ⟨15, _⟩ => ⟨S288x512, .f32⟩
  | .local _ .vmem, ⟨16, _⟩ => ⟨S7x288x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvFwdRefIdeal.lean ====
abbrev S2048x3584 : Shape := ⟨2, ![2048, 3584]⟩
abbrev S31x512 : Shape := ⟨2, ![31, 512]⟩
abbrev S512 : Shape := ⟨1, ![512]⟩
abbrev S2048x1024 : Shape := ⟨2, ![2048, 1024]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S1x512 : Shape := ⟨2, ![1, 512]⟩
abbrev S2048 : Shape := ⟨1, ![2048]⟩
abbrev S2048x1 : Shape := ⟨2, ![2048, 1]⟩

abbrev nBuf : Space → Nat
  | .hbm => 275
  | .vmem => 0
  | .smem => 0
  | _ => 0

abbrev hbmTy0_0 (i : Nat) : BufTy := match i % 128 with
  | 0 => ⟨S2048x3584, .f32⟩
  | 1 => ⟨S31x512, .f32⟩
  | 2 => ⟨S512, .f32⟩
  | 3 => ⟨S512, .f32⟩
  | 4 => ⟨S512, .f32⟩
  | 5 => ⟨S2048x1024, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S2048x512, .f32⟩
  | 17 => ⟨S_, .f32⟩
  | 18 => ⟨S30x512, .f32⟩
  | 19 => ⟨S2078x512, .f32⟩
  | 20 => ⟨S2048x512, .f32⟩
  | 21 => ⟨S1x512, .f32⟩
  | 22 => ⟨S512, .f32⟩
  | 23 => ⟨S1x512, .f32⟩
  | 24 => ⟨S2048x512, .f32⟩
  | 25 => ⟨S2048x512, .f32⟩
  | 26 => ⟨S2048x512, .f32⟩
  | 27 => ⟨S1x512, .f32⟩
  | 28 => ⟨S512, .f32⟩
  | 29 => ⟨S1x512, .f32⟩
  | 30 => ⟨S2048x512, .f32⟩
  | 31 => ⟨S2048x512, .f32⟩
  | 32 => ⟨S2048x512, .f32⟩
  | 33 => ⟨S2048x512, .f32⟩
  | 34 => ⟨S1x512, .f32⟩
  | 35 => ⟨S512, .f32⟩
  | 36 => ⟨S1x512, .f32⟩
  | 37 => ⟨S2048x512, .f32⟩
  | 38 => ⟨S2048x512, .f32⟩
  | 39 => ⟨S2048x512, .f32⟩
  | 40 => ⟨S2048x512, .f32⟩
  | 41 => ⟨S1x512, .f32⟩
  | 42 => ⟨S512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S1x512, .f32⟩
  | 49 => ⟨S512, .f32⟩
  | 50 => ⟨S1x512, .f32⟩
  | 51 => ⟨S2048x512, .f32⟩
  | 52 => ⟨S2048x512, .f32⟩
  | 53 => ⟨S2048x512, .f32⟩
  | 54 => ⟨S2048x512, .f32⟩
  | 55 => ⟨S1x512, .f32⟩
  | 56 => ⟨S512, .f32⟩
  | 57 => ⟨S1x512, .f32⟩
  | 58 => ⟨S2048x512, .f32⟩
  | 59 => ⟨S2048x512, .f32⟩
  | 60 => ⟨S2048x512, .f32⟩
  | 61 => ⟨S2048x512, .f32⟩
  | 62 => ⟨S1x512, .f32⟩
  | 63 => ⟨S512, .f32⟩
  | 64 => ⟨S1x512, .f32⟩
  | 65 => ⟨S2048x512, .f32⟩
  | 66 => ⟨S2048x512, .f32⟩
  | 67 => ⟨S2048x512, .f32⟩
  | 68 => ⟨S2048x512, .f32⟩
  | 69 => ⟨S1x512, .f32⟩
  | 70 => ⟨S512, .f32⟩
  | 71 => ⟨S1x512, .f32⟩
  | 72 => ⟨S2048x512, .f32⟩
  | 73 => ⟨S2048x512, .f32⟩
  | 74 => ⟨S2048x512, .f32⟩
  | 75 => ⟨S2048x512, .f32⟩
  | 76 => ⟨S1x512, .f32⟩
  | 77 => ⟨S512, .f32⟩
  | 78 => ⟨S1x512, .f32⟩
  | 79 => ⟨S2048x512, .f32⟩
  | 80 => ⟨S2048x512, .f32⟩
  | 81 => ⟨S2048x512, .f32⟩
  | 82 => ⟨S2048x512, .f32⟩
  | 83 => ⟨S1x512, .f32⟩
  | 84 => ⟨S512, .f32⟩
  | 85 => ⟨S1x512, .f32⟩
  | 86 => ⟨S2048x512, .f32⟩
  | 87 => ⟨S2048x512, .f32⟩
  | 88 => ⟨S2048x512, .f32⟩
  | 89 => ⟨S2048x512, .f32⟩
  | 90 => ⟨S1x512, .f32⟩
  | 91 => ⟨S512, .f32⟩
  | 92 => ⟨S1x512, .f32⟩
  | 93 => ⟨S2048x512, .f32⟩
  | 94 => ⟨S2048x512, .f32⟩
  | 95 => ⟨S2048x512, .f32⟩
  | 96 => ⟨S2048x512, .f32⟩
  | 97 => ⟨S1x512, .f32⟩
  | 98 => ⟨S512, .f32⟩
  | 99 => ⟨S1x512, .f32⟩
  | 100 => ⟨S2048x512, .f32⟩
  | 101 => ⟨S2048x512, .f32⟩
  | 102 => ⟨S2048x512, .f32⟩
  | 103 => ⟨S2048x512, .f32⟩
  | 104 => ⟨S1x512, .f32⟩
  | 105 => ⟨S512, .f32⟩
  | 106 => ⟨S1x512, .f32⟩
  | 107 => ⟨S2048x512, .f32⟩
  | 108 => ⟨S2048x512, .f32⟩
  | 109 => ⟨S2048x512, .f32⟩
  | 110 => ⟨S2048x512, .f32⟩
  | 111 => ⟨S1x512, .f32⟩
  | 112 => ⟨S512, .f32⟩
  | 113 => ⟨S1x512, .f32⟩
  | 114 => ⟨S2048x512, .f32⟩
  | 115 => ⟨S2048x512, .f32⟩
  | 116 => ⟨S2048x512, .f32⟩
  | 117 => ⟨S2048x512, .f32⟩
  | 118 => ⟨S1x512, .f32⟩
  | 119 => ⟨S512, .f32⟩
  | 120 => ⟨S1x512, .f32⟩
  | 121 => ⟨S2048x512, .f32⟩
  | 122 => ⟨S2048x512, .f32⟩
  | 123 => ⟨S2048x512, .f32⟩
  | 124 => ⟨S2048x512, .f32⟩
  | 125 => ⟨S1x512, .f32⟩
  | 126 => ⟨S512, .f32⟩
  | 127 => ⟨S1x512, .f32⟩
  | _ => ⟨S2048x3584, .f32⟩

abbrev hbmTy0_1 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S1x512, .f32⟩
  | 5 => ⟨S512, .f32⟩
  | 6 => ⟨S1x512, .f32⟩
  | 7 => ⟨S2048x512, .f32⟩
  | 8 => ⟨S2048x512, .f32⟩
  | 9 => ⟨S2048x512, .f32⟩
  | 10 => ⟨S2048x512, .f32⟩
  | 11 => ⟨S1x512, .f32⟩
  | 12 => ⟨S512, .f32⟩
  | 13 => ⟨S1x512, .f32⟩
  | 14 => ⟨S2048x512, .f32⟩
  | 15 => ⟨S2048x512, .f32⟩
  | 16 => ⟨S2048x512, .f32⟩
  | 17 => ⟨S2048x512, .f32⟩
  | 18 => ⟨S1x512, .f32⟩
  | 19 => ⟨S512, .f32⟩
  | 20 => ⟨S1x512, .f32⟩
  | 21 => ⟨S2048x512, .f32⟩
  | 22 => ⟨S2048x512, .f32⟩
  | 23 => ⟨S2048x512, .f32⟩
  | 24 => ⟨S2048x512, .f32⟩
  | 25 => ⟨S1x512, .f32⟩
  | 26 => ⟨S512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S1x512, .f32⟩
  | 33 => ⟨S512, .f32⟩
  | 34 => ⟨S1x512, .f32⟩
  | 35 => ⟨S2048x512, .f32⟩
  | 36 => ⟨S2048x512, .f32⟩
  | 37 => ⟨S2048x512, .f32⟩
  | 38 => ⟨S2048x512, .f32⟩
  | 39 => ⟨S1x512, .f32⟩
  | 40 => ⟨S512, .f32⟩
  | 41 => ⟨S1x512, .f32⟩
  | 42 => ⟨S2048x512, .f32⟩
  | 43 => ⟨S2048x512, .f32⟩
  | 44 => ⟨S2048x512, .f32⟩
  | 45 => ⟨S2048x512, .f32⟩
  | 46 => ⟨S1x512, .f32⟩
  | 47 => ⟨S512, .f32⟩
  | 48 => ⟨S1x512, .f32⟩
  | 49 => ⟨S2048x512, .f32⟩
  | 50 => ⟨S2048x512, .f32⟩
  | 51 => ⟨S2048x512, .f32⟩
  | 52 => ⟨S2048x512, .f32⟩
  | 53 => ⟨S1x512, .f32⟩
  | 54 => ⟨S512, .f32⟩
  | 55 => ⟨S1x512, .f32⟩
  | 56 => ⟨S2048x512, .f32⟩
  | 57 => ⟨S2048x512, .f32⟩
  | 58 => ⟨S2048x512, .f32⟩
  | 59 => ⟨S2048x512, .f32⟩
  | 60 => ⟨S1x512, .f32⟩
  | 61 => ⟨S512, .f32⟩
  | 62 => ⟨S1x512, .f32⟩
  | 63 => ⟨S2048x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S1x512, .f32⟩
  | 70 => ⟨S2048x512, .f32⟩
  | 71 => ⟨S2048x512, .f32⟩
  | 72 => ⟨S2048x512, .f32⟩
  | 73 => ⟨S2048x512, .f32⟩
  | 74 => ⟨S1x512, .f32⟩
  | 75 => ⟨S512, .f32⟩
  | 76 => ⟨S1x512, .f32⟩
  | 77 => ⟨S2048x512, .f32⟩
  | 78 => ⟨S2048x512, .f32⟩
  | 79 => ⟨S2048x512, .f32⟩
  | 80 => ⟨S2048x512, .f32⟩
  | 81 => ⟨S1x512, .f32⟩
  | 82 => ⟨S512, .f32⟩
  | 83 => ⟨S1x512, .f32⟩
  | 84 => ⟨S2048x512, .f32⟩
  | 85 => ⟨S2048x512, .f32⟩
  | 86 => ⟨S2048x512, .f32⟩
  | 87 => ⟨S2048x512, .f32⟩
  | 88 => ⟨S1x512, .f32⟩
  | 89 => ⟨S512, .f32⟩
  | 90 => ⟨S1x512, .f32⟩
  | 91 => ⟨S2048x512, .f32⟩
  | 92 => ⟨S2048x512, .f32⟩
  | 93 => ⟨S2048x512, .f32⟩
  | 94 => ⟨S2048x512, .f32⟩
  | 95 => ⟨S1x512, .f32⟩
  | 96 => ⟨S512, .f32⟩
  | 97 => ⟨S1x512, .f32⟩
  | 98 => ⟨S2048x512, .f32⟩
  | 99 => ⟨S2048x512, .f32⟩
  | 100 => ⟨S2048x512, .f32⟩
  | 101 => ⟨S2048x512, .f32⟩
  | 102 => ⟨S1x512, .f32⟩
  | 103 => ⟨S512, .f32⟩
  | 104 => ⟨S1x512, .f32⟩
  | 105 => ⟨S2048x512, .f32⟩
  | 106 => ⟨S2048x512, .f32⟩
  | 107 => ⟨S2048x512, .f32⟩
  | 108 => ⟨S1x512, .f32⟩
  | 109 => ⟨S2048x512, .f32⟩
  | 110 => ⟨S2048x512, .f32⟩
  | 111 => ⟨S_, .f32⟩
  | 112 => ⟨S2048, .f32⟩
  | 113 => ⟨S2048x1, .f32⟩
  | 114 => ⟨S_, .f32⟩
  | 115 => ⟨S2048x1, .f32⟩
  | 116 => ⟨S2048x1, .f32⟩
  | 117 => ⟨S2048x512, .f32⟩
  | 118 => ⟨S2048x512, .f32⟩
  | 119 => ⟨S2048x512, .f32⟩
  | 120 => ⟨S_, .f32⟩
  | 121 => ⟨S2048, .f32⟩
  | 122 => ⟨S2048x1, .f32⟩
  | 123 => ⟨S_, .f32⟩
  | 124 => ⟨S2048x1, .f32⟩
  | 125 => ⟨S2048x1, .f32⟩
  | 126 => ⟨S_, .f32⟩
  | 127 => ⟨S2048x1, .f32⟩
  | _ => ⟨S2048x3584, .f32⟩

abbrev hbmTy0_2 (i : Nat) : BufTy := match i % 128 with
  | 0 => ⟨S2048x1, .f32⟩
  | 1 => ⟨S2048x1, .f32⟩
  | 2 => ⟨S2048x512, .f32⟩
  | 3 => ⟨S2048x512, .f32⟩
  | 4 => ⟨S1x512, .f32⟩
  | 5 => ⟨S2048x512, .f32⟩
  | 6 => ⟨S2048x512, .f32⟩
  | 7 => ⟨S1x512, .f32⟩
  | 8 => ⟨S2048x512, .f32⟩
  | 9 => ⟨S2048x512, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | _ => ⟨S2048x3584, .f32⟩

abbrev hbmTy (i : Nat) : BufTy := match i / 128 with
  | 0 => hbmTy0_0 i
  | 1 => hbmTy0_1 i
  | 2 => hbmTy0_2 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_2 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_call0_v0 : Ref sig .tc := ⟨.hbm, 266, rfl⟩
abbrev main_call0_v1 : Ref sig .tc := ⟨.hbm, 267, rfl⟩
abbrev main_call0_cst : Ref sig .tc := ⟨.hbm, 268, rfl⟩
abbrev main_call0_v2 : Ref sig .tc := ⟨.hbm, 269, rfl⟩
abbrev main_call0_v3 : Ref sig .tc := ⟨.hbm, 270, rfl⟩
abbrev main_call0_cst_0 : Ref sig .tc := ⟨.hbm, 271, rfl⟩
abbrev main_call0_v4 : Ref sig .tc := ⟨.hbm, 272, rfl⟩
abbrev main_call0_v5 : Ref sig .tc := ⟨.hbm, 273, rfl⟩
abbrev main_v253 : Ref sig .tc := ⟨.hbm, 274, rfl⟩

abbrev nD : Nat := 1
abbrev τ : Topo := Topo.v7x

variable {F : FTy → Type} [FloatOps F]
-- ==== WGrad.lean ====
abbrev S2048x8192 : Shape := ⟨2, ![2048, 8192]⟩
abbrev S2048x2048 : Shape := ⟨2, ![2048, 2048]⟩
abbrev S4x2048x2048 : Shape := ⟨3, ![4, 2048, 2048]⟩
abbrev S8x128 : Shape := ⟨2, ![8, 128]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S4x2048x2048, .bf16⟩
  | .hbm, ⟨5, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S8x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== WGradRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S4x2048x2048, .f32⟩
  | .hbm, ⟨8, _⟩ => ⟨S4x2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S2x8x128x128 : Shape := ⟨4, ![2, 8, 128, 128]⟩
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2x8x128x128, .f32⟩
  | .hbm, ⟨5, _⟩ => ⟨S2x8x128x128, .f32⟩
  | .hbm, ⟨6, _⟩ => ⟨S2x8x128x128, .f32⟩
  | .hbm, ⟨7, _⟩ => ⟨S8x128, .f32⟩
  | .local _ .vmem, ⟨0, _⟩ => ⟨S2x8x128x128, .f32⟩
  | .local _ .vmem, ⟨1, _⟩ => ⟨S2x8x128x128, .f32⟩
  | .local _ .vmem, ⟨2, _⟩ => ⟨S2x8x128x128, .f32⟩
  | .local _ .vmem, ⟨3, _⟩ => ⟨S2x8x128x128, .f32⟩
  | .local _ .vmem, ⟨4, _⟩ => ⟨S2x8x128x128, .f32⟩
  | .local _ .vmem, ⟨5, _⟩ => ⟨S2x8x128x128, .f32⟩
  | .local _ .vmem, ⟨6, _⟩ => ⟨S2x8x128x128, .f32⟩
  | .local _ .vmem, ⟨7, _⟩ => ⟨S8x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamRefIdeal.lean ====
abbrev S2x8x128x128 : Shape := ⟨4, ![2, 8, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S_, .f32⟩
  | .hbm, ⟨5, _⟩ => ⟨S2x8x128x128, .f32⟩
  | .hbm, ⟨6, _⟩ => ⟨S2x8x128x128, .f32⟩
  | .hbm, ⟨7, _⟩ => ⟨S_, .f32⟩
  | .hbm, ⟨8, _⟩ => ⟨S2x8x128x128, .f32⟩
  | .hbm, ⟨9, _⟩ => ⟨S2x8x128x128, .f32⟩
  | .hbm, ⟨10, _⟩ => ⟨S2x8x128x128, .f32⟩
  | .hbm, ⟨11, _⟩ => ⟨S_, .f32⟩
  | .hbm, ⟨12, _⟩ => ⟨S2x8x128x128, .f32⟩
  | .hbm, ⟨13, _⟩ => ⟨S2x8x128x128, .f32⟩
  | .hbm, ⟨14, _⟩ => ⟨S2x8x128x128, .f32⟩
  | .hbm, ⟨15, _⟩ => ⟨S_, .f32⟩
  | .hbm, ⟨16, _⟩ => ⟨S2x8x128x128, .f32⟩
  | .hbm, ⟨17, _⟩ => ⟨S2x8x128x128, .f32⟩
  | .hbm, ⟨18, _⟩ => ⟨S2x8x128x128, .f32⟩
  | .hbm, ⟨19, _⟩ => ⟨S_, .f32⟩
  | .hbm, ⟨20, _⟩ => ⟨S2x8x128x128, .f32⟩
  | .hbm, ⟨21, _⟩ => ⟨S2x8x128x128, .f32⟩
  | .hbm, ⟨22, _⟩ => ⟨S_, .f32⟩
  | .hbm, ⟨23, _⟩ => ⟨S2x8x128x128, .f32⟩
  | .hbm, ⟨24, _⟩ => ⟨S2x8x128x128, .f32⟩
  | .hbm, ⟨25, _⟩ => ⟨S2x8x128x128, .f32⟩
  | .hbm, ⟨26, _⟩ => ⟨S_, .f32⟩
  | .hbm, ⟨27, _⟩ => ⟨S2x8x128x128, .f32⟩
  | .hbm, ⟨28, _⟩ => ⟨S2x8x128x128, .f32⟩
  | .hbm, ⟨29, _⟩ => ⟨S2x8x128x128, .f32⟩
  | .hbm, ⟨30, _⟩ => ⟨S_, .f32⟩
  | .hbm, ⟨31, _⟩ => ⟨S2x8x128x128, .f32⟩
  | .hbm, ⟨32, _⟩ => ⟨S2x8x128x128, .f32⟩
  | .hbm, ⟨33, _⟩ => ⟨S2x8x128x128, .f32⟩
  | .hbm, ⟨34, _⟩ => ⟨S_, .f32⟩
  | .hbm, ⟨35, _⟩ => ⟨S2x8x128x128, .f32⟩
  | .hbm, ⟨36, _⟩ => ⟨S2x8x128x128, .f32⟩
  | _, _ => ⟨S2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumTwo.lean ====
abbrev S1024x2048 : Shape := ⟨2, ![1024, 2048]⟩
abbrev S8x128 : Shape := ⟨2, ![8, 128]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .bf16⟩
  | .hbm, ⟨3, _⟩ => ⟨S1024x2048, .f32⟩
  | .hbm, ⟨4, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SumTwoRefIdeal.lean ====
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DhBwd.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S8x128 : Shape := ⟨2, ![8, 128]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .bf16⟩
  | .hbm, ⟨3, _⟩ => ⟨S2048x4x2048, .f32⟩
  | .hbm, ⟨4, _⟩ => ⟨S4x2048x2048, .f32⟩
  | .hbm, ⟨5, _⟩ => ⟨S4x2048x2048, .bf16⟩
  | .hbm, ⟨6, _⟩ => ⟨S2048x2048, .f32⟩
  | .hbm, ⟨7, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== DhBwdRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Frames.lean ====
/-
  The frames: every kernel, every idealized kernel and every reference runs to its end without fault, leaves its
  arguments as they were and every semaphore counter at zero.
-/
module

public import proofs.«01_k».proof.Defs
public import proofs.«01_k».proof.Proof.Gen.RmsBwd.Frame
public import proofs.«01_k».proof.Proof.Gen.RmsBwdIdeal.Frame
public import proofs.«01_k».proof.Proof.Gen.RmsBwdRefIdeal.Run
public import proofs.«01_k».proof.Proof.Gen.MixBwd.Frame
public import proofs.«01_k».proof.Proof.Gen.MixBwdIdeal.Frame
public import proofs.«01_k».proof.Proof.Gen.MixBwdRefIdeal.Run
public import proofs.«01_k».proof.Proof.Gen.DupBwd.Frame
public import proofs.«01_k».proof.Proof.Gen.DupBwdIdeal.Frame
public import proofs.«01_k».proof.Proof.Gen.DupBwdRefIdeal.Run
public import proofs.«01_k».proof.Proof.Gen.SguBwd.Frame
public import proofs.«01_k».proof.Proof.Gen.SguBwdIdeal.Frame
public import proofs.«01_k».proof.Proof.Gen.SguBwdRefIdeal.Run
public import proofs.«01_k».proof.Proof.Gen.ConvBwdB.Frame
public import proofs.«01_k».proof.Proof.Gen.ConvBwdBIdeal.Frame
public import proofs.«01_k».proof.Proof.Gen.ConvBwdBRefIdeal.Run
public import proofs.«01_k».proof.Proof.Gen.ConvBwdA.Frame
public import proofs.«01_k».proof.Proof.Gen.ConvBwdAIdeal.Frame
public import proofs.«01_k».proof.Proof.Gen.ConvBwdARefIdeal.Run
public import proofs.«01_k».proof.Proof.Gen.KvBwd.Frame
public import proofs.«01_k».proof.Proof.Gen.KvBwdIdeal.Frame
public import proofs.«01_k».proof.Proof.Gen.KvBwdRefIdeal.Run
public import proofs.«01_k».proof.Proof.Gen.Loss.Frame
public import proofs.«01_k».proof.Proof.Gen.LossIdeal.Frame
public import proofs.«01_k».proof.Proof.Gen.LossRefIdeal.Run
public import proofs.«01_k».proof.Proof.Gen.AttnBwd.Frame
public import proofs.«01_k».proof.Proof.Gen.AttnBwdIdeal.Frame
public import proofs.«01_k».proof.Proof.Gen.AttnBwdRefIdeal.Run
public import proofs.«01_k».proof.Proof.Gen.RmsFwd.Frame
public import proofs.«01_k».proof.Proof.Gen.RmsFwdIdeal.Frame
public import proofs.«01_k».proof.Proof.Gen.RmsFwdRefIdeal.Run
public import proofs.«01_k».proof.Proof.Gen.MixFwd.Frame
public import proofs.«01_k».proof.Proof.Gen.MixFwdIdeal.Frame
public import proofs.«01_k».proof.Proof.Gen.MixFwdRefIdeal.Run
public import proofs.«01_k».proof.Proof.Gen.UpFwd.Frame
public import proofs.«01_k».proof.Proof.Gen.UpFwdIdeal.Frame
public import proofs.«01_k».proof.Proof.Gen.UpFwdRefIdeal.Run
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.AttnFwd.Frame
public import proofs.«01_k».proof.Proof.Gen.AttnFwdIdeal.Frame
public import proofs.«01_k».proof.Proof.Gen.AttnFwdRefIdeal.Run
public import proofs.«01_k».proof.Proof.Gen.SguFwd.Frame
public import proofs.«01_k».proof.Proof.Gen.SguFwdIdeal.Frame
public import proofs.«01_k».proof.Proof.Gen.SguFwdRefIdeal.Run
public import proofs.«01_k».proof.Proof.Gen.ConvFwd.Frame
public import proofs.«01_k».proof.Proof.Gen.ConvFwdIdeal.Frame
public import proofs.«01_k».proof.Proof.Gen.ConvFwdRefIdeal.Run
public import proofs.«01_k».proof.Proof.Gen.WGrad.Frame
public import proofs.«01_k».proof.Proof.Gen.WGradIdeal.Frame
public import proofs.«01_k».proof.Proof.Gen.WGradRefIdeal.Run
public import proofs.«01_k».proof.Proof.Gen.Adam.Frame
public import proofs.«01_k».proof.Proof.Gen.AdamIdeal.Frame
public import proofs.«01_k».proof.Proof.Gen.AdamRefIdeal.Run
public import proofs.«01_k».proof.Proof.Gen.SumTwo.Frame
public import proofs.«01_k».proof.Proof.Gen.SumTwoIdeal.Frame
public import proofs.«01_k».proof.Proof.Gen.SumTwoRefIdeal.Run
public import proofs.«01_k».proof.Proof.Gen.DhBwd.Frame
public import proofs.«01_k».proof.Proof.Gen.DhBwdIdeal.Frame
public import proofs.«01_k».proof.Proof.Gen.DhBwdRefIdeal.Run
public import Idealize.ShloMosaic.Lib.Quiescent

@[expose] public section

set_option maxRecDepth 16384

noncomputable section

namespace Cert.Frames

open Idealize.ShloMosaic Idealize.ShloMosaic.TcCoe Idealize.SL.Sem

theorem rms_kernel : Cert.quiescent_RmsBwd := fun m ρ _ => Cert.RmsBwd.Gen.frame m ρ
theorem rms_ideal : Cert.quiescent_RmsBwdIdeal := fun m ρ _ => Cert.RmsBwdIdeal.Gen.frame m ρ
theorem rms_ref : Cert.quiescent_RmsBwdRefIdeal := fun m ρ _ =>
  (θ_run Cert.RmsBwdRefIdeal.defs _ _).mono (fun r h => ⟨fun c => (h c).2.2.2, sem_eq_zero_of_no_sems (by decide) r.2⟩)
    (Cert.RmsBwdRefIdeal.Value.run m ρ)

theorem mix_kernel : Cert.quiescent_MixBwd := fun m ρ _ => Cert.MixBwd.Gen.frame m ρ
theorem mix_ideal : Cert.quiescent_MixBwdIdeal := fun m ρ _ => Cert.MixBwdIdeal.Gen.frame m ρ
theorem mix_ref : Cert.quiescent_MixBwdRefIdeal := fun m ρ _ =>
  (θ_run Cert.MixBwdRefIdeal.defs _ _).mono (fun r h => ⟨fun c => (h c).2.2.2.2, sem_eq_zero_of_no_sems (by decide) r.2⟩)
    (Cert.MixBwdRefIdeal.Value.run m ρ)

theorem dup_kernel : Cert.quiescent_DupBwd := fun m ρ _ => Cert.DupBwd.Gen.frame m ρ
theorem dup_ideal : Cert.quiescent_DupBwdIdeal := fun m ρ _ => Cert.DupBwdIdeal.Gen.frame m ρ
theorem dup_ref : Cert.quiescent_DupBwdRefIdeal := fun m ρ _ =>
  (θ_run Cert.DupBwdRefIdeal.defs _ _).mono (fun r h => ⟨fun c => (h c).2, sem_eq_zero_of_no_sems (by decide) r.2⟩)
    (Cert.DupBwdRefIdeal.Value.run m ρ)

theorem sgu_kernel : Cert.quiescent_SguBwd := fun m ρ _ => Cert.SguBwd.Gen.frame m ρ
theorem sgu_ideal : Cert.quiescent_SguBwdIdeal := fun m ρ _ => Cert.SguBwdIdeal.Gen.frame m ρ
theorem sgu_ref : Cert.quiescent_SguBwdRefIdeal := fun m ρ _ =>
  (θ_run Cert.SguBwdRefIdeal.defs _ _).mono (fun r h => ⟨fun c => (h c).2.2.2.2.2, sem_eq_zero_of_no_sems (by decide) r.2⟩)
    (Cert.SguBwdRefIdeal.Value.run m ρ)

theorem convB_kernel : Cert.quiescent_ConvBwdB := fun m ρ _ => Cert.ConvBwdB.Gen.frame m ρ
theorem convB_ideal : Cert.quiescent_ConvBwdBIdeal := fun m ρ _ => Cert.ConvBwdBIdeal.Gen.frame m ρ
theorem convB_ref : Cert.quiescent_ConvBwdBRefIdeal := fun m ρ _ =>
  (θ_run Cert.ConvBwdBRefIdeal.defs _ _).mono (fun r h => ⟨fun c => (h c).2, sem_eq_zero_of_no_sems (by decide) r.2⟩)
    (Cert.ConvBwdBRefIdeal.Value.run m ρ)

theorem convA_kernel : Cert.quiescent_ConvBwdA := fun m ρ _ => Cert.ConvBwdA.Gen.frame m ρ
theorem convA_ideal : Cert.quiescent_ConvBwdAIdeal := fun m ρ _ => Cert.ConvBwdAIdeal.Gen.frame m ρ
theorem convA_ref : Cert.quiescent_ConvBwdARefIdeal := fun m ρ _ =>
  (θ_run Cert.ConvBwdARefIdeal.defs _ _).mono (fun r h => ⟨fun c => (h c).2.2.2.2.2, sem_eq_zero_of_no_sems (by decide) r.2⟩)
    (Cert.ConvBwdARefIdeal.Value.run m ρ)

theorem kv_kernel : Cert.quiescent_KvBwd := fun m ρ _ => Cert.KvBwd.Gen.frame m ρ
theorem kv_ideal : Cert.quiescent_KvBwdIdeal := fun m ρ _ => Cert.KvBwdIdeal.Gen.frame m ρ
theorem kv_ref : Cert.quiescent_KvBwdRefIdeal := fun m ρ _ =>
  (θ_run Cert.KvBwdRefIdeal.defs _ _).mono (fun r h => ⟨fun c => (h c).2.2.2, sem_eq_zero_of_no_sems (by decide) r.2⟩)
    (Cert.KvBwdRefIdeal.Value.run m ρ)

theorem loss_kernel : Cert.quiescent_Loss := fun m ρ _ => Cert.Loss.Gen.frame m ρ
theorem loss_ideal : Cert.quiescent_LossIdeal := fun m ρ _ => Cert.LossIdeal.Gen.frame m ρ
theorem loss_ref : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run m ρ)

theorem attn_kernel : Cert.quiescent_AttnBwd := fun m ρ _ => Cert.AttnBwd.Gen.frame m ρ
theorem attn_ideal : Cert.quiescent_AttnBwdIdeal := fun m ρ _ => Cert.AttnBwdIdeal.Gen.frame m ρ
theorem attn_ref : Cert.quiescent_AttnBwdRefIdeal := fun m ρ _ =>
  (θ_run Cert.AttnBwdRefIdeal.defs _ _).mono (fun r h => ⟨fun c => (h c).2.2.2.2.2.2.2, sem_eq_zero_of_no_sems (by decide) r.2⟩)
    (Cert.AttnBwdRefIdeal.Value.run m ρ)

theorem rmsF_kernel : Cert.quiescent_RmsFwd := fun m ρ _ => Cert.RmsFwd.Gen.frame m ρ
theorem rmsF_ideal : Cert.quiescent_RmsFwdIdeal := fun m ρ _ => Cert.RmsFwdIdeal.Gen.frame m ρ
theorem rmsF_ref : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run m ρ)

theorem mixF_kernel : Cert.quiescent_MixFwd := fun m ρ _ => Cert.MixFwd.Gen.frame m ρ
theorem mixF_ideal : Cert.quiescent_MixFwdIdeal := fun m ρ _ => Cert.MixFwdIdeal.Gen.frame m ρ
theorem mixF_ref : Cert.quiescent_MixFwdRefIdeal := fun m ρ _ =>
  (θ_run Cert.MixFwdRefIdeal.defs _ _).mono (fun r h => ⟨fun c => (h c).2, sem_eq_zero_of_no_sems (by decide) r.2⟩)
    (Cert.MixFwdRefIdeal.Value.run m ρ)

theorem upF_kernel : Cert.quiescent_UpFwd := fun m ρ _ => Cert.UpFwd.Gen.frame m ρ
theorem upF_ideal : Cert.quiescent_UpFwdIdeal := fun m ρ _ => Cert.UpFwdIdeal.Gen.frame m ρ
theorem upF_ref : Cert.quiescent_UpFwdRefIdeal := fun m ρ _ =>
  (θ_run Cert.UpFwdRefIdeal.defs _ _).mono (fun r h => ⟨fun c => (h c).2.2, sem_eq_zero_of_no_sems (by decide) r.2⟩)
    (Cert.UpFwdRefIdeal.Value.run m ρ)

theorem outF_kernel : Cert.quiescent_OutFwd := fun m ρ _ => Cert.OutFwd.Gen.frame m ρ
theorem outF_ideal : Cert.quiescent_OutFwdIdeal := fun m ρ _ => Cert.OutFwdIdeal.Gen.frame m ρ
theorem outF_ref : Cert.quiescent_OutFwdRefIdeal := fun m ρ _ =>
  (θ_run Cert.OutFwdRefIdeal.defs _ _).mono (fun r h => ⟨fun c => (h c).2.2, sem_eq_zero_of_no_sems (by decide) r.2⟩)
    (Cert.OutFwdRefIdeal.Value.run m ρ)

theorem attnF_kernel : Cert.quiescent_AttnFwd := fun m ρ _ => Cert.AttnFwd.Gen.frame m ρ
theorem attnF_ideal : Cert.quiescent_AttnFwdIdeal := fun m ρ _ => Cert.AttnFwdIdeal.Gen.frame m ρ
theorem attnF_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run m ρ)

theorem sguF_kernel : Cert.quiescent_SguFwd := fun m ρ _ => Cert.SguFwd.Gen.frame m ρ
theorem sguF_ideal : Cert.quiescent_SguFwdIdeal := fun m ρ _ => Cert.SguFwdIdeal.Gen.frame m ρ
theorem sguF_ref : Cert.quiescent_SguFwdRefIdeal := fun m ρ _ =>
  (θ_run Cert.SguFwdRefIdeal.defs _ _).mono (fun r h => ⟨fun c => (h c).2, sem_eq_zero_of_no_sems (by decide) r.2⟩)
    (Cert.SguFwdRefIdeal.Value.run m ρ)

theorem convF_kernel : Cert.quiescent_ConvFwd := fun m ρ _ => Cert.ConvFwd.Gen.frame m ρ
theorem convF_ideal : Cert.quiescent_ConvFwdIdeal := fun m ρ _ => Cert.ConvFwdIdeal.Gen.frame m ρ
theorem convF_ref : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run m ρ)

theorem wGrad_kernel : Cert.quiescent_WGrad := fun m ρ _ => Cert.WGrad.Gen.frame m ρ
theorem wGrad_ideal : Cert.quiescent_WGradIdeal := fun m ρ _ => Cert.WGradIdeal.Gen.frame m ρ
theorem wGrad_ref : Cert.quiescent_WGradRefIdeal := fun m ρ _ =>
  (θ_run Cert.WGradRefIdeal.defs _ _).mono (fun r h => ⟨fun c => (h c).2, sem_eq_zero_of_no_sems (by decide) r.2⟩)
    (Cert.WGradRefIdeal.Value.run m ρ)

theorem adam_kernel : Cert.quiescent_Adam := fun m ρ _ => Cert.Adam.Gen.frame m ρ
theorem adam_ideal : Cert.quiescent_AdamIdeal := fun m ρ _ => Cert.AdamIdeal.Gen.frame m ρ
theorem adam_ref : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run m ρ)

theorem sum_kernel : Cert.quiescent_SumTwo := fun m ρ _ => Cert.SumTwo.Gen.frame m ρ
theorem sum_ideal : Cert.quiescent_SumTwoIdeal := fun m ρ _ => Cert.SumTwoIdeal.Gen.frame m ρ
theorem sum_ref : Cert.quiescent_SumTwoRefIdeal := fun m ρ _ =>
  (θ_run Cert.SumTwoRefIdeal.defs _ _).mono (fun r h => ⟨fun c => (h c).2, sem_eq_zero_of_no_sems (by decide) r.2⟩)
    (Cert.SumTwoRefIdeal.Value.run m ρ)

theorem dh_kernel : Cert.quiescent_DhBwd := fun m ρ _ => Cert.DhBwd.Gen.frame m ρ
theorem dh_ideal : Cert.quiescent_DhBwdIdeal := fun m ρ _ => Cert.DhBwdIdeal.Gen.frame m ρ
theorem dh_ref : Cert.quiescent_DhBwdRefIdeal := fun m ρ _ =>
  (θ_run Cert.DhBwdRefIdeal.defs _ _).mono (fun r h => ⟨fun c => (h c).2, sem_eq_zero_of_no_sems (by decide) r.2⟩)
    (Cert.DhBwdRefIdeal.Value.run m ρ)

end Cert.Frames

end
-- ==== Proof.AdamClaim.lean ====
/-
  The value claim about the optimiser's step on one weight: that kernel and reference compute the same arrays.
-/
module

public import proofs.«01_k».proof.Defs
public import proofs.«01_k».proof.Proof.Gen.AdamIdeal.Value
public import proofs.«01_k».proof.Proof.Gen.AdamRefIdeal.Read

@[expose] public section

set_option maxRecDepth 16384
set_option backward.isDefEq.respectTransparency.types false

noncomputable section

open Idealize.ShloMosaic Idealize.ShloMosaic.TcCoe Idealize.SL.Sem

namespace Cert.AdamClaim

open Cert.AdamRefIdeal Cert.AdamRefIdeal.Gen Cert.AdamRefIdeal.Read

/-- The change of the weight: both sides are the same operations on each element. -/
theorem step (w g m v : FVec Ideal S2x8x128x128 .f32) : Cert.AdamIdeal.Value.G4 (F := Ideal) w g m v = val_main_v23 (F := Ideal) w g m v := by
  funext i
  rfl
/-- The first moment. -/
theorem first (w g m v : FVec Ideal S2x8x128x128 .f32) : Cert.AdamIdeal.Value.G5 (F := Ideal) w g m v = val_main_v4 (F := Ideal) g m := by
  funext i
  rfl
/-- The second moment. -/
theorem second (w g m v : FVec Ideal S2x8x128x128 .f32) : Cert.AdamIdeal.Value.G6 (F := Ideal) w g m v = val_main_v10 (F := Ideal) g v := by
  funext i
  rfl

/-- Kernel and reference compute the same arrays, of any arguments. -/
theorem value : Cert.algebraic_AdamIdeal_AdamRefIdeal := by
  intro m ρ m' ρ' hpre hagree
  refine ⟨fun c => val_main_v23 (F := Ideal) (m (c.tc.loc Cert.AdamIdeal.main_arg0)) (m (c.tc.loc Cert.AdamIdeal.main_arg1))
      (m (c.tc.loc Cert.AdamIdeal.main_arg2)) (m (c.tc.loc Cert.AdamIdeal.main_arg3)),
    fun c => val_main_v4 (F := Ideal) (m (c.tc.loc Cert.AdamIdeal.main_arg1)) (m (c.tc.loc Cert.AdamIdeal.main_arg2)),
    fun c => val_main_v10 (F := Ideal) (m (c.tc.loc Cert.AdamIdeal.main_arg1)) (m (c.tc.loc Cert.AdamIdeal.main_arg3)),
    (θ_run Cert.AdamIdeal.defs _ _).mono (fun r h c => ?_) (Cert.AdamIdeal.Value.run m ρ),
    (θ_run Cert.AdamRefIdeal.defs _ _).mono (fun r h c => ?_) (Cert.AdamRefIdeal.Value.run m' ρ')⟩
  · obtain ⟨h0, h1, h2, -, hk⟩ := h c
    exact ⟨h0.trans (step _ _ _ _), h1.trans (first _ _ _ _), h2.trans (second _ _ _ _), hk⟩
  · obtain ⟨h0, h1, h2, hk⟩ := h c
    obtain ⟨e0, e1, e2, e3⟩ := hagree c
    refine ⟨h0.trans ((val_main_v23_eq _ _ _ _).trans ?_), h1.trans ((val_main_v4_eq _ _).trans ?_), h2.trans ((val_main_v10_eq _ _).trans ?_), hk⟩
    · rw [e0, e1, e2, e3]
    · rw [e1, e2]
    · rw [e1, e3]

end Cert.AdamClaim

end
-- ==== Proof.Reals.lean ====
/-
  Arrays of extended reals whose entries are all real, and what the programs' operations make of them.
  `up f` is the array whose entry at `i` is the real `f i`. Every lemma below says that an operation on
  such arrays is `up` of the same operation on reals, so a program's whole text becomes one real formula.
-/
module

public import Idealize.ShloMosaic.Lib.Pipeline.Value
public import Idealize.ShloMosaic.Lib.ReduceAll
public import Idealize.ShloMosaic.Lib.ValueIdx
public import Idealize.ShloMosaic.Lib.ValueLayout
public import Idealize.ShloMosaic.Lib.ValueLayoutCasts
public import Idealize.ShloMosaic.Lib.StableHlo
public import Idealize.ShloMosaic.Lib.KernelVsHost
public import Idealize.ShloMosaic.PureOps.Ideal.Laws

@[expose] public section

set_option maxRecDepth 16384

noncomputable section

namespace Cert.Reals

open Idealize.ShloMosaic Idealize.ShloMosaic.ValueIdx

/-- The array of extended reals with real entries `f`. -/
def up {s : Shape} {φ : FTy} (f : s.Idx → ℝ) : FVec Ideal s φ := fun i => ((f i : ℝ) : EReal)

/-- The index of a vector with coordinate `a`. -/
def mk1 {n : ℕ} (a : Fin n) : (⟨1, ![n]⟩ : Shape).Idx := ix1 a
/-- The index of a matrix with coordinates `a`, `b`. -/
def mk2 {m n : ℕ} (a : Fin m) (b : Fin n) : (⟨2, ![m, n]⟩ : Shape).Idx := ix2 a b
/-- The index of a rank-3 array with coordinates `a`, `b`, `c`. -/
def mk3 {l m n : ℕ} (a : Fin l) (b : Fin m) (c : Fin n) : (⟨3, ![l, m, n]⟩ : Shape).Idx := ix3 a b c

@[simp] theorem mk1_0 {n : ℕ} (a : Fin n) : mk1 a 0 = a := rfl
@[simp] theorem mk2_0 {m n : ℕ} (a : Fin m) (b : Fin n) : mk2 a b 0 = a := rfl
@[simp] theorem mk2_1 {m n : ℕ} (a : Fin m) (b : Fin n) : mk2 a b 1 = b := rfl
@[simp] theorem mk3_0 {l m n : ℕ} (a : Fin l) (b : Fin m) (c : Fin n) : mk3 a b c 0 = a := rfl
@[simp] theorem mk3_1 {l m n : ℕ} (a : Fin l) (b : Fin m) (c : Fin n) : mk3 a b c 1 = b := rfl
@[simp] theorem mk3_2 {l m n : ℕ} (a : Fin l) (b : Fin m) (c : Fin n) : mk3 a b c 2 = c := rfl
theorem eq_mk1 {n : ℕ} (j : (⟨1, ![n]⟩ : Shape).Idx) : j = mk1 (j 0) := eq_ix1 j
theorem eq_mk2 {m n : ℕ} (j : (⟨2, ![m, n]⟩ : Shape).Idx) : j = mk2 (j 0) (j 1) := eq_ix2 j
theorem eq_mk3 {l m n : ℕ} (j : (⟨3, ![l, m, n]⟩ : Shape).Idx) : j = mk3 (j 0) (j 1) (j 2) := eq_ix3 j

/-- Two arrays of reals are equal where they agree at every pair, triple or single coordinate. -/
theorem up_ext1 {n : ℕ} {φ : FTy} {f g : (⟨1, ![n]⟩ : Shape).Idx → ℝ} (h : ∀ a, f (mk1 a) = g (mk1 a)) :
    (up f : FVec Ideal _ φ) = up g := congrArg up (funext fun j => by rw [eq_mk1 j]; exact h _)
theorem up_ext2 {m n : ℕ} {φ : FTy} {f g : (⟨2, ![m, n]⟩ : Shape).Idx → ℝ} (h : ∀ a b, f (mk2 a b) = g (mk2 a b)) :
    (up f : FVec Ideal _ φ) = up g := congrArg up (funext fun j => by rw [eq_mk2 j]; exact h _ _)
theorem up_ext3 {l m n : ℕ} {φ : FTy} {f g : (⟨3, ![l, m, n]⟩ : Shape).Idx → ℝ} (h : ∀ a b c, f (mk3 a b c) = g (mk3 a b c)) :
    (up f : FVec Ideal _ φ) = up g := congrArg up (funext fun j => by rw [eq_mk3 j]; exact h _ _ _)

/-! ## Where a block's entries stand in the whole array -/

/-- Two indices are equal where their coordinates are. -/
theorem ext1 {n : ℕ} {i k : (⟨1, ![n]⟩ : Shape).Idx} (h0 : (i 0).val = (k 0).val) : i = k := funext fun a => Fin.ext (by
  match a with
  | ⟨0, _⟩ => exact h0)
theorem ext2 {m n : ℕ} {i k : (⟨2, ![m, n]⟩ : Shape).Idx} (h0 : (i 0).val = (k 0).val) (h1 : (i 1).val = (k 1).val) : i = k :=
  funext fun a => Fin.ext (by
    match a with
    | ⟨0, _⟩ => exact h0
    | ⟨1, _⟩ => exact h1)
theorem ext3 {l m n : ℕ} {i k : (⟨3, ![l, m, n]⟩ : Shape).Idx} (h0 : (i 0).val = (k 0).val) (h1 : (i 1).val = (k 1).val)
    (h2 : (i 2).val = (k 2).val) : i = k :=
  funext fun a => Fin.ext (by
    match a with
    | ⟨0, _⟩ => exact h0
    | ⟨1, _⟩ => exact h1
    | ⟨2, _⟩ => exact h2)

/-- Coordinate `y` of block number `x = t` of blocks of `b` is coordinate `b * t + y` of the whole. -/
theorem at_blk {x t b y : ℕ} (e : x = t) : x * b + 1 * y = b * t + y := by rw [e, Nat.mul_comm, Nat.one_mul]
theorem at_zero {x b y : ℕ} (e : x = 0) : x * b + 1 * y = y := by rw [e, Nat.zero_mul, Nat.zero_add, Nat.one_mul]
/-- Coordinate `i` stands in block number `x = i / b`, or in the only block. -/
theorem in_blk {x t b i : ℕ} (e : x = t) (h : t = i / b) (hb : 0 < b) : x * b ≤ i ∧ i < x * b + b := by
  subst e h
  exact ⟨Nat.div_mul_le_self i b, Nat.lt_div_mul_add hb⟩
theorem in_zero {x b i : ℕ} (e : x = 0) (h : i < b) : x * b ≤ i ∧ i < x * b + b := by
  subst e
  omega

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## Operations entry by entry -/

section Entry
variable {s t : Shape} {φ ψ : FTy} (f g : s.Idx → ℝ)

theorem up_apply (i : s.Idx) : (up f : FVec Ideal s φ) i = ((f i : ℝ) : EReal) := rfl

@[simp] theorem addf_up : addf (up f : FVec Ideal s φ) (up g) = up fun i => f i + g i :=
  funext fun i => (EReal.coe_add _ _).symm
@[simp] theorem subf_up : subf (up f : FVec Ideal s φ) (up g) = up fun i => f i - g i :=
  funext fun i => (EReal.coe_sub _ _).symm
@[simp] theorem mulf_up : mulf (up f : FVec Ideal s φ) (up g) = up fun i => f i * g i :=
  funext fun i => (EReal.coe_mul _ _).symm
@[simp] theorem negf_up : negf (up f : FVec Ideal s φ) = up fun i => -f i :=
  funext fun i => (EReal.coe_neg _).symm
@[simp] theorem hostNegf_up : Host.negf (up f : FVec Ideal s φ) = up fun i => -f i :=
  funext fun i => (EReal.coe_neg _).symm
@[simp] theorem maximumf_up : maximumf (up f : FVec Ideal s φ) (up g) = up fun i => max (f i) (g i) :=
  funext fun i => (EReal.coe_strictMono.monotone.map_max (a := f i) (b := g i)).symm
@[simp] theorem exp_up : exp (up f : FVec Ideal s φ) = up fun i => Real.exp (f i) := rfl
@[simp] theorem hostExp_up : Host.exp (up f : FVec Ideal s φ) = up fun i => Real.exp (f i) := rfl
@[simp] theorem hostLogistic_up : Host.logistic (up f : FVec Ideal s φ) = up fun i => (1 + Real.exp (-f i))⁻¹ :=
  funext fun i => Ideal.logistic_coe _
@[simp] theorem extf_up (h : φ.bits < ψ.bits) : extf ψ (up f : FVec Ideal s φ) h = up f := rfl
@[simp] theorem truncf_up (h : ψ.bits < φ.bits) : truncf ψ (up f : FVec Ideal s φ) h = up f := rfl

theorem divf_up (hg : ∀ i, g i ≠ 0) : divf (up f : FVec Ideal s φ) (up g) = up fun i => f i / g i :=
  funext fun i => by
    show Ideal.div (f i : EReal) (g i : EReal) = _
    rw [Ideal.div_coe (hg i), ← EReal.coe_mul, mul_one_div]; rfl
theorem hostDivf_up (hg : ∀ i, g i ≠ 0) : Host.divf (up f : FVec Ideal s φ) (up g) = up fun i => f i / g i :=
  divf_up (φ := φ) f g hg
theorem rsqrt_up (hf : ∀ i, 0 < f i) : rsqrt (up f : FVec Ideal s φ) = up fun i => (Real.sqrt (f i))⁻¹ :=
  funext fun i => by
    show Ideal.rsqrt (f i : EReal) = _
    rw [Ideal.rsqrt_coe, if_neg (not_lt.mpr (hf i).le), if_neg (hf i).ne']; rfl
theorem hostRsqrt_up (hf : ∀ i, 0 < f i) : Host.rsqrt (up f : FVec Ideal s φ) = up fun i => (Real.sqrt (f i))⁻¹ :=
  rsqrt_up (φ := φ) f hf

@[simp] theorem select_up (c : IVec s 1) : select c (up f : FVec Ideal s φ) (up g) = up fun i => if c i = 1#1 then f i else g i :=
  funext fun i => by
    show Scalar.select (c i) (f i : EReal) (g i : EReal) = ((if c i = 1#1 then f i else g i : ℝ) : EReal)
    unfold Scalar.select
    by_cases h : c i = 1#1
    · exact (if_pos h).trans (by rw [if_pos h])
    · exact (if_neg h).trans (by rw [if_neg h])

end Entry

/-- Real arrays added to any array one after the other are added at once. -/
theorem addf_addf_up {s : Shape} {φ : FTy} (R : FVec Ideal s φ) (f g : s.Idx → ℝ) :
    addf (addf R (up f)) (up g) = addf R (up fun i => f i + g i) :=
  funext fun i => by
    show R i + (f i : EReal) + (g i : EReal) = R i + ((f i + g i : ℝ) : EReal)
    rw [add_assoc, EReal.coe_add]
/-- Division by one number. -/
theorem divf_const {s : Shape} {φ : FTy} (f : s.Idx → ℝ) (r : ℝ) (hr : r ≠ 0) :
    divf (up f : FVec Ideal s φ) (up fun _ => r) = up fun i => f i / r := divf_up f _ fun _ => hr
theorem hostDivf_const {s : Shape} {φ : FTy} (f : s.Idx → ℝ) (r : ℝ) (hr : r ≠ 0) :
    Host.divf (up f : FVec Ideal s φ) (up fun _ => r) = up fun i => f i / r := divf_up f _ fun _ => hr

/-! ## Constants -/

/-- The norms' added constant: the value of the word that `1e-6` is rounded to. -/
def eps : ℝ := 8796093 / 8796093022208

theorem eps_pos : 0 < eps := by unfold eps; norm_num

theorem lit_zero : Ideal.ofBits .f32 0x00000000#32 = ((0 : ℝ) : EReal) := by simp [Ideal.ofBits, Ideal.ieee]
theorem lit_eps : Ideal.ofBits .f32 0x358637BD#32 = ((eps : ℝ) : EReal) := by
  unfold eps; simp [Ideal.ofBits, Ideal.ieee, -EReal.coe_mul]; norm_num
theorem lit_2048 : Ideal.ofBits .f32 0x45000000#32 = (((2048 : ℕ) : ℝ) : EReal) := by
  simp [Ideal.ofBits, Ideal.ieee, -EReal.coe_mul]; norm_num
theorem lit_1024 : Ideal.ofBits .f32 0x44800000#32 = (((1024 : ℕ) : ℝ) : EReal) := by
  simp [Ideal.ofBits, Ideal.ieee, -EReal.coe_mul]; norm_num
theorem lit_512 : Ideal.ofBits .f32 0x44000000#32 = (((512 : ℕ) : ℝ) : EReal) := by
  simp [Ideal.ofBits, Ideal.ieee, -EReal.coe_mul]; norm_num
theorem lit_64 : Ideal.ofBits .f32 0x42800000#32 = (((64 : ℕ) : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_half : Ideal.ofBits .f32 0x3F000000#32 = (((1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- A splat of a literal whose value is the real `r`. -/
theorem constant_up {s : Shape} {w : BitVec 32} {r : ℝ} (h : Ideal.ofBits .f32 w = (r : EReal)) :
    (constant s .f32 w : FVec Ideal s .f32) = up fun _ => r := funext fun _ => h
theorem splat_up {s : Shape} {w : BitVec 32} {r : ℝ} (h : Ideal.ofBits .f32 w = (r : EReal)) :
    broadcast s (Scalar.ofBits (F := Ideal) .f32 w) = (up fun _ => r : FVec Ideal s .f32) := funext fun _ => h

/-! ## Layout -/

section Layout
variable {s t : Shape} {φ : FTy}

/-- Sums of reals stay real. -/
theorem coe_sum {ι : Type*} (A : Finset ι) (f : ι → ℝ) : ((∑ i ∈ A, f i : ℝ) : EReal) = ∑ i ∈ A, ((f i : ℝ) : EReal) :=
  map_sum (⟨⟨Real.toEReal, EReal.coe_zero⟩, EReal.coe_add⟩ : ℝ →+ EReal) f A

/-- A cast to another shape permutes the entries. -/
theorem shapeCast_up (f : s.Idx → ℝ) (h : s.ShapeCasts t) :
    shapeCast t (up f : FVec Ideal s φ) h = up (shapeCast t f h) := rfl
theorem broadcastInDim_up (f : s.Idx → ℝ) (dims : Fin s.rank → Fin t.rank) (h : s.BroadcastsInDim t dims) :
    broadcastInDim t dims h (up f : FVec Ideal s φ) = up (broadcastInDim t dims h f) := rfl
theorem slice_up (f : s.Idx → ℝ) (off : Fin s.rank → Nat) (h : s.Slices off t) :
    extractStridedSlice t off (up f : FVec Ideal s φ) h = up (extractStridedSlice t off f h) := rfl

end Layout

section Rank2
variable {φ : FTy} {a b : ℕ}

@[simp] theorem cast_self_up {s : Shape} (f : s.Idx → ℝ) (h : s.ShapeCasts s) : shapeCast s (up f : FVec Ideal s φ) h = up f :=
  shapeCast_self _ _
@[simp] theorem cast_col_up (f : (⟨1, ![a]⟩ : Shape).Idx → ℝ) (h : (⟨1, ![a]⟩ : Shape).ShapeCasts ⟨2, ![a, 1]⟩) :
    shapeCast ⟨2, ![a, 1]⟩ (up f : FVec Ideal _ φ) h = up fun j => f (mk1 (j 0)) :=
  funext fun j => by rw [eq_ix2 j]; exact shapeCast_a_a1_apply _ h _ _
@[simp] theorem cast_row_up (f : (⟨1, ![a]⟩ : Shape).Idx → ℝ) (h : (⟨1, ![a]⟩ : Shape).ShapeCasts ⟨2, ![1, a]⟩) :
    shapeCast ⟨2, ![1, a]⟩ (up f : FVec Ideal _ φ) h = up fun j => f (mk1 (j 1)) :=
  funext fun j => by rw [eq_ix2 j]; exact shapeCast_a_1a_apply _ h _ _
@[simp] theorem cast_unrow_up (f : (⟨2, ![1, a]⟩ : Shape).Idx → ℝ) (h : (⟨2, ![1, a]⟩ : Shape).ShapeCasts ⟨1, ![a]⟩) :
    shapeCast ⟨1, ![a]⟩ (up f : FVec Ideal _ φ) h = up fun j => f (mk2 0 (j 0)) :=
  funext fun j => by rw [eq_ix1 j]; exact shapeCast_1a_a_apply _ h _

@[simp] theorem spread_row_up (f : (⟨2, ![1, b]⟩ : Shape).Idx → ℝ) (h : (⟨2, ![1, b]⟩ : Shape).Broadcasts ⟨2, ![a, b]⟩) :
    broadcastTo ⟨2, ![a, b]⟩ (up f : FVec Ideal _ φ) h = up fun j => f (mk2 0 (j 1)) :=
  funext fun j => by rw [eq_ix2 j]; exact broadcastTo_1b_ab_apply _ h _ _
@[simp] theorem spread_col_up (f : (⟨2, ![a, 1]⟩ : Shape).Idx → ℝ) (h : (⟨2, ![a, 1]⟩ : Shape).Broadcasts ⟨2, ![a, b]⟩) :
    broadcastTo ⟨2, ![a, b]⟩ (up f : FVec Ideal _ φ) h = up fun j => f (mk2 (j 0) 0) :=
  funext fun j => broadcastTo_apply _ h j (mk2 (j 0) 0) fun ax => by
    match ax with
    | ⟨0, _⟩ =>
      show (j 0).val = if a = 1 then 0 else (j ⟨0 + (2 - 2), _⟩).val
      split
      · next e => subst e; have := (j 0).isLt; simp at this; omega
      · rfl
    | ⟨1, _⟩ => rfl

/-- A sum along the rows' entries. -/
@[simp] theorem rowSum_up (f : (⟨2, ![a, b]⟩ : Shape).Idx → ℝ)
    (h : (⟨2, ![a, b]⟩ : Shape).Reduces [1] ⟨1, ![a]⟩) (hφ : FKind.Formats .f32) (acc : BitVec 32) (hacc : acc = FKind.add.neutral .f32 hφ) :
    multiReduction .add [1] ⟨1, ![a]⟩ (up f : FVec Ideal _ .f32) acc h hφ hacc = up fun j => ∑ k : Fin b, f (mk2 (j 0) k) :=
  funext fun j => by
    refine (Ideal.multiReduction_add_single (up f : FVec Ideal _ .f32) _ h hφ hacc j).trans ?_
    rw [up_apply, coe_sum]
    refine Finset.sum_congr rfl fun k _ => congrArg (fun i => ((f i : ℝ) : EReal)) (funext fun c => Fin.ext ?_)
    match c with
    | ⟨0, _⟩ => rfl
    | ⟨1, _⟩ => rfl
/-- A sum along the columns' entries. -/
@[simp] theorem colSum_up (f : (⟨2, ![a, b]⟩ : Shape).Idx → ℝ)
    (h : (⟨2, ![a, b]⟩ : Shape).Reduces [0] ⟨1, ![b]⟩) (hφ : FKind.Formats .f32) (acc : BitVec 32) (hacc : acc = FKind.add.neutral .f32 hφ) :
    multiReduction .add [0] ⟨1, ![b]⟩ (up f : FVec Ideal _ .f32) acc h hφ hacc = up fun j => ∑ k : Fin a, f (mk2 k (j 0)) :=
  funext fun j => by
    refine (Ideal.multiReduction_add_single (up f : FVec Ideal _ .f32) _ h hφ hacc j).trans ?_
    rw [up_apply, coe_sum]
    refine Finset.sum_congr rfl fun k _ => congrArg (fun i => ((f i : ℝ) : EReal)) (funext fun c => Fin.ext ?_)
    match c with
    | ⟨0, _⟩ => rfl
    | ⟨1, _⟩ => rfl

/-- The host's sum along one axis, from the zero it starts from. -/
theorem hostSum_up {s t u : Shape} {c : Fin s.rank} (f : s.Idx → ℝ) (z : u.Idx → ℝ) (hz : ∀ i, z i = 0)
    (h : s.ReducesTo [c] t) (h1 : s.Reduces [c] t) (hu : 0 < u.numel) :
    Host.reduceAdd (up f : FVec Ideal s φ) (up z : FVec Ideal u φ) h hu = up fun j => ∑ k : Fin (s.size c), f (h1.lift j k) :=
  funext fun j => by
    simp only [Host.reduceAdd, Ideal.hostReduceAdd_def]
    rw [Ideal.hostReduceAdd_single h h1, up_apply, hz, up_apply, coe_sum]
    exact zero_add _
@[simp] theorem hostRowSum_up {u : Shape} (f : (⟨2, ![a, b]⟩ : Shape).Idx → ℝ)
    (h : (⟨2, ![a, b]⟩ : Shape).ReducesTo [1] ⟨1, ![a]⟩) (hu : 0 < u.numel) :
    Host.reduceAdd (up f : FVec Ideal _ φ) (up fun _ => 0 : FVec Ideal u φ) h hu = up fun j => ∑ k : Fin b, f (mk2 (j 0) k) := by
  rw [hostSum_up f _ (fun _ => rfl) h ⟨h.1, Nat.one_pos, h.2⟩]
  refine congrArg up (funext fun j => Finset.sum_congr rfl fun k _ => congrArg f (funext fun c => Fin.ext ?_))
  match c with
  | ⟨0, _⟩ => rfl
  | ⟨1, _⟩ => rfl
@[simp] theorem hostColSum_up {u : Shape} (f : (⟨2, ![a, b]⟩ : Shape).Idx → ℝ)
    (h : (⟨2, ![a, b]⟩ : Shape).ReducesTo [0] ⟨1, ![b]⟩) (hu : 0 < u.numel) :
    Host.reduceAdd (up f : FVec Ideal _ φ) (up fun _ => 0 : FVec Ideal u φ) h hu = up fun j => ∑ k : Fin a, f (mk2 k (j 0)) := by
  rw [hostSum_up f _ (fun _ => rfl) h ⟨h.1, Nat.one_pos, h.2⟩]
  refine congrArg up (funext fun j => Finset.sum_congr rfl fun k _ => congrArg f (funext fun c => Fin.ext ?_))
  match c with
  | ⟨0, _⟩ => rfl
  | ⟨1, _⟩ => rfl

/-- The host's broadcasts: of a scalar, of a vector to a column, a row or every row, of a column, of a row. -/
@[simp] theorem host_scalar_up {t : Shape} (r : ℝ) (dims : Fin (⟨0, ![]⟩ : Shape).rank → Fin t.rank)
    (h : (⟨0, ![]⟩ : Shape).BroadcastsInDim t dims) :
    broadcastInDim t dims h (up fun _ => r : FVec Ideal ⟨0, ![]⟩ φ) = up fun _ => r := rfl

theorem host_bcast_up {s t : Shape} (f : s.Idx → ℝ) (dims : Fin s.rank → Fin t.rank) (h : s.BroadcastsInDim t dims)
    (k : t.Idx → s.Idx) (hk : ∀ (j : t.Idx) (c : Fin s.rank), (k j c).val = if s.size c = 1 then 0 else (j (dims c)).val) :
    broadcastInDim t dims h (up f : FVec Ideal s φ) = up fun j => f (k j) :=
  funext fun j => broadcastInDim_apply dims h (up f : FVec Ideal s φ) j (k j) (hk j)

theorem val_of_one {n : ℕ} (i : Fin n) : i.val = if n = 1 then 0 else i.val := by
  split
  · next e => have := i.isLt; omega
  · rfl

@[simp] theorem host_vec_col_up (f : (⟨1, ![a]⟩ : Shape).Idx → ℝ) (h : (⟨1, ![a]⟩ : Shape).BroadcastsInDim ⟨2, ![a, b]⟩ ![0]) :
    broadcastInDim ⟨2, ![a, b]⟩ ![0] h (up f : FVec Ideal _ φ) = up fun j => f (mk1 (j 0)) :=
  host_bcast_up f _ h (fun j => mk1 (j 0)) fun j c => by
    match c with
    | ⟨0, _⟩ => exact val_of_one (n := a) (j 0)
@[simp] theorem host_vec_row_up (f : (⟨1, ![b]⟩ : Shape).Idx → ℝ) (h : (⟨1, ![b]⟩ : Shape).BroadcastsInDim ⟨2, ![a, b]⟩ ![1]) :
    broadcastInDim ⟨2, ![a, b]⟩ ![1] h (up f : FVec Ideal _ φ) = up fun j => f (mk1 (j 1)) :=
  host_bcast_up f _ h (fun j => mk1 (j 1)) fun j c => by
    match c with
    | ⟨0, _⟩ => exact val_of_one (n := b) (j 1)
@[simp] theorem host_col_up (f : (⟨2, ![a, 1]⟩ : Shape).Idx → ℝ) (h : (⟨2, ![a, 1]⟩ : Shape).BroadcastsInDim ⟨2, ![a, b]⟩ ![0, 1]) :
    broadcastInDim ⟨2, ![a, b]⟩ ![0, 1] h (up f : FVec Ideal _ φ) = up fun j => f (mk2 (j 0) 0) :=
  host_bcast_up f _ h (fun j => mk2 (j 0) 0) fun j c => by
    match c with
    | ⟨0, _⟩ => exact val_of_one (n := a) (j 0)
    | ⟨1, _⟩ => rfl
@[simp] theorem host_row_up (f : (⟨2, ![1, b]⟩ : Shape).Idx → ℝ) (h : (⟨2, ![1, b]⟩ : Shape).BroadcastsInDim ⟨2, ![a, b]⟩ ![0, 1]) :
    broadcastInDim ⟨2, ![a, b]⟩ ![0, 1] h (up f : FVec Ideal _ φ) = up fun j => f (mk2 0 (j 1)) :=
  host_bcast_up f _ h (fun j => mk2 0 (j 1)) fun j c => by
    match c with
    | ⟨0, _⟩ => rfl
    | ⟨1, _⟩ => exact val_of_one (n := b) (j 1)

end Rank2

/-! ## Parts of a matrix -/

/-- The columns from `o` on, `w` of them. -/
def cols {a b : ℕ} (f : (⟨2, ![a, b]⟩ : Shape).Idx → ℝ) (o w : ℕ) (h : o + w ≤ b) : (⟨2, ![a, w]⟩ : Shape).Idx → ℝ :=
  fun j => f (mk2 (j 0) ⟨o + (j 1).val, lt_of_lt_of_le (Nat.add_lt_add_left (j 1).isLt o) h⟩)

theorem ld_cols {a b o w : ℕ} (f : (⟨2, ![a, b]⟩ : Shape).Idx → ℝ)
    (inb : ∀ x, (![0, o] : Fin 2 → ℕ) x + (![a, w] : Fin 2 → ℕ) x ≤ (⟨2, ![a, b]⟩ : Shape).size x) :
    View.ld (Val := Elt Ideal) (e' := .f32) (S := ⟨2, ![a, b]⟩) (up f : FVec Ideal ⟨2, ![a, b]⟩ .f32) (Rect.unit (s := ⟨2, ![a, b]⟩) ![0, o] ![a, w] inb) = up (φ := .f32) (cols f o w (inb 1)) :=
  funext fun j => congrArg (fun i => ((f i : ℝ) : EReal)) (funext fun x => Fin.ext (by
    match x with
    | ⟨0, _⟩ => show 0 + 1 * (j 0).val = (j 0).val; omega
    | ⟨1, _⟩ => show o + 1 * (j 1).val = o + (j 1).val; omega))

/-- The host's slice of the same columns. -/
theorem slice_cols {φ : FTy} {a b o w : ℕ} (f : (⟨2, ![a, b]⟩ : Shape).Idx → ℝ)
    (h : (⟨2, ![a, b]⟩ : Shape).Slices ![0, o] ⟨2, ![a, w]⟩) :
    extractStridedSlice ⟨2, ![a, w]⟩ ![0, o] (up f : FVec Ideal ⟨2, ![a, b]⟩ φ) h = up (φ := φ) (cols f o w (h.2 1)) :=
  funext fun j => extractStridedSlice_apply _ _ h j (mk2 (j 0) ⟨o + (j 1).val, lt_of_lt_of_le (Nat.add_lt_add_left (j 1).isLt o) (h.2 1)⟩) fun x => by
    match x with
    | ⟨0, _⟩ => exact (Nat.zero_add _).symm
    | ⟨1, _⟩ => rfl

/-- A slice of a vector. -/
theorem slice_vec {φ : FTy} {b o w : ℕ} (f : (⟨1, ![b]⟩ : Shape).Idx → ℝ) (h : (⟨1, ![b]⟩ : Shape).Slices ![o] ⟨1, ![w]⟩) :
    extractStridedSlice ⟨1, ![w]⟩ ![o] (up f : FVec Ideal ⟨1, ![b]⟩ φ) h
      = up (φ := φ) fun j => f (mk1 ⟨o + (j 0).val, lt_of_lt_of_le (Nat.add_lt_add_left (j 0).isLt o) (h.2 0)⟩) :=
  funext fun j => extractStridedSlice_apply _ _ h j (mk1 ⟨o + (j 0).val, lt_of_lt_of_le (Nat.add_lt_add_left (j 0).isLt o) (h.2 0)⟩) fun x => by
    match x with
    | ⟨0, _⟩ => rfl

/-- Entry `k` of a vector moved up by `o` places, zero where nothing was moved. -/
def moved {w : ℕ} (f : (⟨1, ![w]⟩ : Shape).Idx → ℝ) (o k : ℕ) : ℝ := if h : o ≤ k ∧ k - o < w then f (mk1 ⟨k - o, h.2⟩) else 0

theorem moved_in {w : ℕ} (f : (⟨1, ![w]⟩ : Shape).Idx → ℝ) (o k : ℕ) (l : Fin w) (h : k = o + l.val) : moved f o k = f (mk1 l) := by
  subst h
  unfold moved
  rw [dif_pos ⟨Nat.le_add_right _ _, by rw [Nat.add_sub_cancel_left]; exact l.isLt⟩]
  exact congrArg (fun x => f (mk1 x)) (Fin.ext (Nat.add_sub_cancel_left _ _))
theorem moved_out {w : ℕ} (f : (⟨1, ![w]⟩ : Shape).Idx → ℝ) (o k : ℕ) (h : k < o ∨ o + w ≤ k) : moved f o k = 0 := dif_neg (by omega)

/-- A vector padded with zeros on both sides. -/
theorem pad_vec {w b o hi : ℕ} (f : (⟨1, ![w]⟩ : Shape).Idx → ℝ) (h : (⟨1, ![w]⟩ : Shape).Pads ![o] ![hi] ![0] ⟨1, ![b]⟩)
    (hu : 0 < (⟨0, ![]⟩ : Shape).numel) :
    pad ⟨1, ![b]⟩ ![o] ![hi] ![0] (up f : FVec Ideal ⟨1, ![w]⟩ .f32) (constant (F := Ideal) ⟨0, ![]⟩ .f32 0x00000000#32) h hu
      = up (s := ⟨1, ![b]⟩) (φ := .f32) fun j => moved f o (j 0).val := by
  funext j
  by_cases hj : o ≤ (j 0).val ∧ (j 0).val - o < w
  · rw [pad_apply_of_inside _ _ _ _ _ _ _ j (mk1 ⟨(j 0).val - o, hj.2⟩) fun a => by
      match a with
      | ⟨0, _⟩ => show (j 0).val = o + ((j 0).val - o) * (0 + 1); omega]
    exact congrArg (fun x : ℝ => (x : EReal)) (moved_in f o _ ⟨(j 0).val - o, hj.2⟩ (Nat.add_sub_cancel' hj.1).symm).symm
  · rw [pad_apply_of_not_inside _ _ _ _ _ _ _ j 0 fun hin => hj ⟨hin.1, ?_⟩]
    · exact lit_zero.trans (congrArg (fun x : ℝ => (x : EReal)) (moved_out f o _ (by omega)).symm)
    · have := hin.2.2
      rwa [show (![0] : Fin 1 → ℕ) 0 + 1 = 1 from rfl, Nat.div_one] at this

/-! ## Finite arguments -/

/-- An array no entry of which is infinite is the array of its real values. -/
theorem up_of_finite {s : Shape} {φ : FTy} (x : FVec Ideal s φ) (h : ∀ i, max (x i) (-(x i)) < (⊤ : EReal)) :
    x = up fun i => (x i : EReal).toReal :=
  funext fun i => by
    have h1 := h i
    refine (EReal.coe_toReal (fun e => ?_) fun e => ?_).symm
    · rw [e] at h1; simp at h1
    · rw [e] at h1; simp at h1

/-- `jnp.all(jnp.abs(x) < jnp.inf)`, when it holds, says so. -/
theorem finite_of_all {s : Shape} {axes : List (Fin s.rank)} (x : FVec Ideal s .f32) (v : IVec ⟨0, ![]⟩ 1)
    (dims : Fin (⟨0, ![]⟩ : Shape).rank → Fin s.rank) (hb : (⟨0, ![]⟩ : Shape).BroadcastsInDim s dims)
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s dims hb (constant ⟨0, ![]⟩ .f32 0x7F800000#32))) v h hu j = 1#1) :
    ∃ f : s.Idx → ℝ, x = up f := by
  haveI : Subsingleton (⟨0, ![]⟩ : Shape).Idx := ⟨fun p q => funext fun a => a.elim0⟩
  refine ⟨_, up_of_finite x fun i => ?_⟩
  have h1 := Host.reduce_andi_all _ v h hu j e i
  have h2 : Ideal.cmp .olt (max (x i) (-(x i))) (Ideal.ofBits .f32 0x7F800000#32) = 1#1 := h1
  rw [show Ideal.ofBits .f32 0x7F800000#32 = ⊤ by simp [Ideal.ofBits, Ideal.ieee]] at h2
  by_contra hn
  simp [Ideal.cmp, hn] at h2

/-- A conjunction that is all ones has both sides one at every index. -/
theorem and_ones {s : Shape} {a b : IVec s 1} (h : andi a b = fun _ => 1#1) : (a = fun _ => 1#1) ∧ b = fun _ => 1#1 := by
  have e : ∀ x y : BitVec 1, IntOp.andi x y = 1#1 → x = 1#1 ∧ y = 1#1 := by decide
  exact ⟨funext fun i => (e _ _ (congrFun h i)).1, funext fun i => (e _ _ (congrFun h i)).2⟩

/-! ## Sums taken block by block -/

/-- A function on the first `N` naturals, zero beyond. -/
def nat {N : ℕ} (F : Fin N → ℝ) (k : ℕ) : ℝ := if h : k < N then F ⟨k, h⟩ else 0

theorem sum_nat {N : ℕ} (F : Fin N → ℝ) : ∑ k ∈ Finset.range N, nat F k = ∑ k : Fin N, F k := by
  rw [Finset.sum_range]
  exact Finset.sum_congr rfl fun k _ => dif_pos k.isLt

/-- The sum over one more block of `b` is the sum so far plus the block's. -/
theorem sum_nat_step {N : ℕ} (F : Fin N → ℝ) (b n : ℕ) (G : Fin b → ℝ)
    (h : ∀ p : Fin b, ∃ hp : b * n + p.val < N, F ⟨b * n + p.val, hp⟩ = G p) :
    ∑ k ∈ Finset.range (b * (n + 1)), nat F k = ∑ k ∈ Finset.range (b * n), nat F k + ∑ p : Fin b, G p := by
  rw [Nat.mul_succ, Finset.sum_range_add, Finset.sum_range (fun x => nat F (b * n + x))]
  exact congrArg _ (Finset.sum_congr rfl fun p _ => by obtain ⟨hp, e⟩ := h p; exact (dif_pos hp).trans e)

theorem sum_first {N : ℕ} (F : Fin N → ℝ) (h : 0 < N) : ∑ k ∈ Finset.range (0 + 1), nat F k = F ⟨0, h⟩ :=
  (Finset.sum_range_one _).trans (dif_pos h)
theorem sum_next {N : ℕ} (F : Fin N → ℝ) (n : ℕ) (h : n + 1 < N) :
    ∑ k ∈ Finset.range (n + 1 + 1), nat F k = ∑ k ∈ Finset.range (n + 1), nat F k + F ⟨n + 1, h⟩ :=
  (Finset.sum_range_succ _ _).trans (congrArg _ (dif_pos h))

end Cert.Reals

end
-- ==== Proof.Prods.lean ====
/-
  Products of two matrices, read entry by entry: the kernels' (into a zero accumulator) and the host's.
-/
module

public import proofs.«01_k».proof.Proof.Reals
public import Idealize.ShloMosaic.Lib.MatmulPlain

@[expose] public section

set_option maxRecDepth 16384

noncomputable section

namespace Cert.Prods

open Idealize.ShloMosaic Idealize.ShloMosaic.ValueIdx Cert.Reals

variable {M K N : ℕ} {φ₁ φ₂ : FTy}

/-- `x` times `y`. -/
theorem k_dot (x : FVec Ideal ⟨2, ![M, K]⟩ φ₁) (y : FVec Ideal ⟨2, ![K, N]⟩ φ₂) :
    matmul (DotDims.plain M K N) none x y (constant ⟨2, ![M, N]⟩ .f32 0x00000000#32) = fun j => ∑ k : Fin K, x (mk2 (j 0) k) * y (mk2 k (j 1)) := by
  funext j
  refine (congrArg _ (eq_mk2 j)).trans ((Ideal.matmul_plain_apply none x y _ (j 0) (j 1)).trans ?_)
  exact (congrArg (· + _) Ideal.ofBits_zero_f32).trans (zero_add _)

/-- `x` times the transpose of `y`. -/
theorem k_dotT (x : FVec Ideal ⟨2, ![M, K]⟩ φ₁) (y : FVec Ideal ⟨2, ![N, K]⟩ φ₂) :
    matmul (DotDims.transposedRhs M K N) none x y (constant ⟨2, ![M, N]⟩ .f32 0x00000000#32) = fun j => ∑ k : Fin K, x (mk2 (j 0) k) * y (mk2 (j 1) k) := by
  funext j
  refine (congrArg _ (eq_mk2 j)).trans ((Ideal.matmul_transposedRhs_apply none x y _ (j 0) (j 1)).trans ?_)
  exact (congrArg (· + _) Ideal.ofBits_zero_f32).trans (zero_add _)

/-- The host's product is the kernels' product into zero. -/
theorem host_eq {sl sr so : Shape} (d : DotDims sl sr so) (x : FVec Ideal sl φ₁) (y : FVec Ideal sr φ₂) :
    Host.dotGeneral d none x y = matmul d none x y (constant so .f32 0x00000000#32) :=
  funext fun j => (Ideal.dotGeneral_apply d none _ x y j).trans (Ideal.matmul_constant_zero_apply d none x y j).symm

theorem h_dot (x : FVec Ideal ⟨2, ![M, K]⟩ φ₁) (y : FVec Ideal ⟨2, ![K, N]⟩ φ₂) :
    Host.dotGeneral (DotDims.plain M K N) none x y = fun j => ∑ k : Fin K, x (mk2 (j 0) k) * y (mk2 k (j 1)) := (host_eq _ x y).trans (k_dot x y)
theorem h_dotT (x : FVec Ideal ⟨2, ![M, K]⟩ φ₁) (y : FVec Ideal ⟨2, ![N, K]⟩ φ₂) :
    Host.dotGeneral (DotDims.transposedRhs M K N) none x y = fun j => ∑ k : Fin K, x (mk2 (j 0) k) * y (mk2 (j 1) k) := (host_eq _ x y).trans (k_dotT x y)

end Cert.Prods

end
-- ==== Proof.Dots.lean ====
/-
  Products of matrices of reals, by either operand's rows or columns, into zero.
-/
module

public import proofs.«01_k».proof.Proof.Prods
public import Idealize.ShloMosaic.Lib.Pointwise.Contract

@[expose] public section

set_option maxRecDepth 16384

noncomputable section

namespace Cert.Prods

open Idealize.ShloMosaic Idealize.ShloMosaic.ValueIdx Cert.Reals

variable {M K N : ℕ} {φ₁ φ₂ : FTy}

/-- A product along one axis: `L` and `R` say where the operands are read for one entry of the result. -/
theorem dot_up {sl sr so : Shape} (d : DotDims sl sr so) {a : Fin sl.rank} (hc : d.lhsContracting = [a]) {K : ℕ} (hK : sl.size a = K)
    (prec : Option ContractPrecision) (f : sl.Idx → ℝ) (g : sr.Idx → ℝ) (L : so.Idx → Fin K → sl.Idx) (R : so.Idx → Fin K → sr.Idx)
    (hL : ∀ j k, d.lhsIdx j (d.contrIdx₁ hc hK k) = L j k) (hR : ∀ j k, d.rhsIdx j (d.contrIdx₁ hc hK k) = R j k) :
    matmul d prec (up (φ := φ₁) f) (up (φ := φ₂) g) (constant so .f32 0x00000000#32) = up (φ := .f32) fun j => ∑ k : Fin K, f (L j k) * g (R j k) := by
  funext j
  refine (Ideal.matmul_constant_zero_apply d prec _ _ j).trans ?_
  rw [d.sum_contr₁ hc hK]
  simp only [hL, hR]
  refine Eq.trans ?_ (coe_sum _ _).symm
  exact Finset.sum_congr rfl fun k _ => (EReal.coe_mul _ _).symm

theorem dotTN_up (wf) (f : (⟨2, ![K, M]⟩ : Shape).Idx → ℝ) (g : (⟨2, ![K, N]⟩ : Shape).Idx → ℝ) (prec : Option ContractPrecision) :
    matmul (⟨[0], [0], [1], [1], [], [], wf⟩ : DotDims ⟨2, ![K, M]⟩ ⟨2, ![K, N]⟩ ⟨2, ![M, N]⟩) prec (up (φ := φ₁) f) (up (φ := φ₂) g) (constant ⟨2, ![M, N]⟩ .f32 0x00000000#32)
      = up (s := ⟨2, ![M, N]⟩) (φ := .f32) fun j => ∑ k : Fin K, f (mk2 k (j 0)) * g (mk2 k (j 1)) := by
  refine dot_up (⟨[0], [0], [1], [1], [], [], wf⟩ : DotDims ⟨2, ![K, M]⟩ ⟨2, ![K, N]⟩ ⟨2, ![M, N]⟩) rfl (K := K) rfl prec f g
    (fun j k => mk2 (m := K) (n := M) k (j 0)) (fun j k => mk2 (m := K) (n := N) k (j 1)) ?_ ?_
  · exact fun j k => ext2 rfl rfl
  · exact fun j k => ext2 rfl rfl

theorem dotNT_up (wf) (f : (⟨2, ![M, K]⟩ : Shape).Idx → ℝ) (g : (⟨2, ![N, K]⟩ : Shape).Idx → ℝ) (prec : Option ContractPrecision) :
    matmul (⟨[1], [1], [0], [0], [], [], wf⟩ : DotDims ⟨2, ![M, K]⟩ ⟨2, ![N, K]⟩ ⟨2, ![M, N]⟩) prec (up (φ := φ₁) f) (up (φ := φ₂) g) (constant ⟨2, ![M, N]⟩ .f32 0x00000000#32)
      = up (s := ⟨2, ![M, N]⟩) (φ := .f32) fun j => ∑ k : Fin K, f (mk2 (j 0) k) * g (mk2 (j 1) k) := by
  refine dot_up (⟨[1], [1], [0], [0], [], [], wf⟩ : DotDims ⟨2, ![M, K]⟩ ⟨2, ![N, K]⟩ ⟨2, ![M, N]⟩) rfl (K := K) rfl prec f g
    (fun j k => mk2 (m := M) (n := K) (j 0) k) (fun j k => mk2 (m := N) (n := K) (j 1) k) ?_ ?_
  · exact fun j k => ext2 rfl rfl
  · exact fun j k => ext2 rfl rfl

theorem dotNN_up (wf) (f : (⟨2, ![M, K]⟩ : Shape).Idx → ℝ) (g : (⟨2, ![K, N]⟩ : Shape).Idx → ℝ) (prec : Option ContractPrecision) :
    matmul (⟨[1], [0], [0], [1], [], [], wf⟩ : DotDims ⟨2, ![M, K]⟩ ⟨2, ![K, N]⟩ ⟨2, ![M, N]⟩) prec (up (φ := φ₁) f) (up (φ := φ₂) g) (constant ⟨2, ![M, N]⟩ .f32 0x00000000#32)
      = up (s := ⟨2, ![M, N]⟩) (φ := .f32) fun j => ∑ k : Fin K, f (mk2 (j 0) k) * g (mk2 k (j 1)) := by
  refine dot_up (⟨[1], [0], [0], [1], [], [], wf⟩ : DotDims ⟨2, ![M, K]⟩ ⟨2, ![K, N]⟩ ⟨2, ![M, N]⟩) rfl (K := K) rfl prec f g
    (fun j k => mk2 (m := M) (n := K) (j 0) k) (fun j k => mk2 (m := K) (n := N) k (j 1)) ?_ ?_
  · exact fun j k => ext2 rfl rfl
  · exact fun j k => ext2 rfl rfl

end Cert.Prods

end
-- ==== Proof.Arrays.lean ====
/-
  Arrays of reals of rank four: indices, products along one or two axes, sums along several axes, permutations.
-/
module

public import proofs.«01_k».proof.Proof.Dots

@[expose] public section

set_option maxRecDepth 16384

noncomputable section

namespace Cert.Arrays

open Idealize.ShloMosaic Idealize.ShloMosaic.ValueIdx Cert.Reals Cert.Prods

/-- The index of a rank-4 array. -/
def mk4 {k l m n : ℕ} (a : Fin k) (b : Fin l) (c : Fin m) (d : Fin n) : (⟨4, ![k, l, m, n]⟩ : Shape).Idx := ValueIdx.ix4 a b c d
@[simp] theorem mk4_0 {k l m n : ℕ} (a : Fin k) (b : Fin l) (c : Fin m) (d : Fin n) : mk4 a b c d 0 = a := rfl
@[simp] theorem mk4_1 {k l m n : ℕ} (a : Fin k) (b : Fin l) (c : Fin m) (d : Fin n) : mk4 a b c d 1 = b := rfl
@[simp] theorem mk4_2 {k l m n : ℕ} (a : Fin k) (b : Fin l) (c : Fin m) (d : Fin n) : mk4 a b c d 2 = c := rfl
@[simp] theorem mk4_3 {k l m n : ℕ} (a : Fin k) (b : Fin l) (c : Fin m) (d : Fin n) : mk4 a b c d 3 = d := rfl
theorem eq_mk4 {k l m n : ℕ} (j : (⟨4, ![k, l, m, n]⟩ : Shape).Idx) : j = mk4 (j 0) (j 1) (j 2) (j 3) := ValueIdx.eq_ix4 j
theorem ext4 {k l m n : ℕ} {i j : (⟨4, ![k, l, m, n]⟩ : Shape).Idx} (h0 : (i 0).val = (j 0).val) (h1 : (i 1).val = (j 1).val)
    (h2 : (i 2).val = (j 2).val) (h3 : (i 3).val = (j 3).val) : i = j :=
  funext fun a => Fin.ext (by
    match a with
    | ⟨0, _⟩ => exact h0
    | ⟨1, _⟩ => exact h1
    | ⟨2, _⟩ => exact h2
    | ⟨3, _⟩ => exact h3)

variable {φ φ₁ φ₂ : FTy}

/-- The host's product along one axis. -/
theorem hdot_up {sl sr so : Shape} (d : DotDims sl sr so) {a : Fin sl.rank} (hc : d.lhsContracting = [a]) {K : ℕ} (hK : sl.size a = K)
    (f : sl.Idx → ℝ) (g : sr.Idx → ℝ) (L : so.Idx → Fin K → sl.Idx) (R : so.Idx → Fin K → sr.Idx)
    (hL : ∀ j k, d.lhsIdx j (d.contrIdx₁ hc hK k) = L j k) (hR : ∀ j k, d.rhsIdx j (d.contrIdx₁ hc hK k) = R j k) :
    Host.dotGeneral d none (up (φ := φ₁) f) (up (φ := φ₂) g) = up (φ := .f32) fun j => ∑ k : Fin K, f (L j k) * g (R j k) :=
  (host_eq d _ _).trans (dot_up d hc hK none f g L R hL hR)

/-- The host's product along two axes. -/
theorem hdot2_up {sl sr so : Shape} (d : DotDims sl sr so) {a b : Fin sl.rank} (hc : d.lhsContracting = [a, b]) {K₁ K₂ : ℕ} (hK₁ : sl.size a = K₁)
    (hK₂ : sl.size b = K₂) (f : sl.Idx → ℝ) (g : sr.Idx → ℝ) (L : so.Idx → Fin K₁ → Fin K₂ → sl.Idx) (R : so.Idx → Fin K₁ → Fin K₂ → sr.Idx)
    (hL : ∀ j k l, d.lhsIdx j (d.contrIdx₂ hc hK₁ hK₂ k l) = L j k l) (hR : ∀ j k l, d.rhsIdx j (d.contrIdx₂ hc hK₁ hK₂ k l) = R j k l) :
    Host.dotGeneral d none (up (φ := φ₁) f) (up (φ := φ₂) g) = up (φ := .f32) fun j => ∑ k : Fin K₁, ∑ l : Fin K₂, f (L j k l) * g (R j k l) := by
  refine (host_eq d _ _).trans (funext fun j => ?_)
  refine (Ideal.matmul_constant_zero_apply d none _ _ j).trans ?_
  rw [d.sum_contr₂ hc hK₁ hK₂]
  simp only [hL, hR]
  refine Eq.trans ?_ (coe_sum _ _).symm
  exact Finset.sum_congr rfl fun k _ => Eq.trans (Finset.sum_congr rfl fun l _ => (EReal.coe_mul _ _).symm) (coe_sum _ _).symm

/-- The host's sum along any axes: `E` lists the entries that make one entry of the result, `p` is an entry's place among them. -/
theorem hsum_up {s t u : Shape} {axes : List (Fin s.rank)} {κ : Type} [Fintype κ] (f : s.Idx → ℝ) (h : s.ReducesTo axes t) (hu : 0 < u.numel)
    (E : t.Idx → κ → s.Idx) (p : s.Idx → κ) (h1 : ∀ j k, h.drop (E j k) = j) (h2 : ∀ j k, p (E j k) = k) (h3 : ∀ i, E (h.drop i) (p i) = i) :
    Host.reduceAdd (up (φ := φ) f) (up (s := u) (φ := φ) fun _ => 0) h hu = up (φ := φ) fun j => ∑ k : κ, f (E j k) :=
  funext fun j => by
    simp only [Host.reduceAdd, Ideal.hostReduceAdd_def]
    unfold Ideal.hostReduceAdd
    rw [up_apply, up_apply, coe_sum]
    refine (zero_add _).trans (Finset.sum_bij' (fun i _ => p i) (fun k _ => E j k) ?_ ?_ ?_ ?_ ?_)
    · exact fun _ _ => Finset.mem_univ _
    · exact fun k _ => Finset.mem_filter.mpr ⟨Finset.mem_univ _, h1 j k⟩
    · intro i hi
      have e := (Finset.mem_filter.mp hi).2
      rw [← e]
      exact h3 i
    · exact fun k _ => h2 j k
    · intro i hi
      have e := (Finset.mem_filter.mp hi).2
      rw [← e, h3]
      rfl

/-- A permutation of the axes. -/
theorem transpose_up {s t : Shape} (perm : List (Fin s.rank)) (f : s.Idx → ℝ) (h : s.Transposes perm t) (T : t.Idx → s.Idx)
    (hT : ∀ j, ∀ b : Fin t.rank, (T j perm[b.cast h.2.1]).val = (j b).val) :
    transpose t perm (up (φ := φ) f) h = up (φ := φ) fun j => f (T j) :=
  funext fun j => transpose_apply perm _ h j (T j) (hT j)

end Cert.Arrays

end
-- ==== Proof.Norm.lean ====
/-
  Root-mean-square norms of the rows of a matrix and their gradient: the formulas, and that the two texts the
  programs use for them (the kernels' and the derivative's) compute these formulas.
-/
module

public import proofs.«01_k».proof.Proof.Reals

@[expose] public section

set_option maxRecDepth 16384
set_option backward.isDefEq.respectTransparency.types false

noncomputable section

namespace Cert.Norm

open Idealize.ShloMosaic Cert.Reals

/-- A matrix of reals. -/
abbrev Mat (n w : ℕ) := (⟨2, ![n, w]⟩ : Shape).Idx → ℝ

variable {n w : ℕ}

/-- The mean square of row `r`, with the norm's constant added. -/
def ms (X : Mat n w) (r : Fin n) : ℝ := (∑ k : Fin w, X (mk2 r k) * X (mk2 r k)) / (w : ℝ) + eps

theorem ms_pos (X : Mat n w) (r : Fin n) : 0 < ms X r :=
  add_pos_of_nonneg_of_pos (div_nonneg (Finset.sum_nonneg fun k _ => mul_self_nonneg _) (Nat.cast_nonneg _)) eps_pos

/-- The reciprocal root of row `r`'s mean square. -/
def rinv (X : Mat n w) (r : Fin n) : ℝ := (Real.sqrt (ms X r))⁻¹

/-- The reciprocal root over the mean square is the reciprocal root's cube. -/
theorem rinv_div (X : Mat n w) (r : Fin n) : rinv X r / ms X r = rinv X r * (rinv X r * rinv X r) := by
  have h := Real.mul_self_sqrt (ms_pos X r).le
  unfold rinv
  rw [← mul_inv, h, div_eq_mul_inv]

/-- Entry `(r, k)` of the normalised rows. -/
def xhat (X : Mat n w) (r : Fin n) (k : Fin w) : ℝ := X (mk2 r k) * rinv X r

/-- The gradient at `(r, k)` of the norm's argument, for the gradient `V` of the normalised rows. -/
def dxv (V X : Mat n w) (r : Fin n) (k : Fin w) : ℝ :=
  rinv X r * (V (mk2 r k) - xhat X r k * ((∑ l : Fin w, V (mk2 r l) * xhat X r l) / (w : ℝ)))

/-- The same for the gradient `D` of the rows scaled by the gain `g`. -/
def dx (D X : Mat n w) (g : Fin w → ℝ) (r : Fin n) (k : Fin w) : ℝ := dxv (fun j => D j * g (j 1)) X r k

/-- One row's part of the gain's gradient. -/
def dgRow (D X : Mat n w) (r : Fin n) (k : Fin w) : ℝ := D (mk2 r k) * xhat X r k

/-! ## The kernels' text -/

section Kernel
variable {W : BitVec 32} (hW : Ideal.ofBits .f32 W = ((w : ℝ) : EReal)) (hw : (w : ℝ) ≠ 0) (X : Mat n w)
include hW hw

theorem k_rinv (acc : BitVec 32) (h1 : (⟨2, ![n, w]⟩ : Shape).Reduces [1] ⟨1, ![n]⟩) (hφ : FKind.Formats .f32) (hacc : acc = FKind.add.neutral .f32 hφ)
    (h2 : (⟨1, ![n]⟩ : Shape).ShapeCasts ⟨2, ![n, 1]⟩) :
    rsqrt (addf (divf (shapeCast ⟨2, ![n, 1]⟩ (multiReduction .add [1] ⟨1, ![n]⟩ (mulf (up (φ := .f32) X) (up (φ := .f32) X)) acc h1 hφ hacc) h2)
        (broadcast ⟨2, ![n, 1]⟩ (Scalar.ofBits (F := Ideal) .f32 W))) (broadcast ⟨2, ![n, 1]⟩ (Scalar.ofBits (F := Ideal) .f32 0x358637BD#32)))
      = up (s := ⟨2, ![n, 1]⟩) (φ := .f32) fun j => rinv X (j 0) := by
  simp -index only [mulf_up, rowSum_up, cast_col_up, splat_up hW, splat_up lit_eps, divf_const _ _ hw, addf_up, mk1_0]
  exact rsqrt_up _ (fun j => ms_pos X (j 0))

omit hW hw in
theorem k_xhat (h : (⟨2, ![n, 1]⟩ : Shape).Broadcasts ⟨2, ![n, w]⟩) :
    mulf (up (φ := .f32) X) (broadcastTo ⟨2, ![n, w]⟩ (up (s := ⟨2, ![n, 1]⟩) (φ := .f32) fun j => rinv X (j 0)) h)
      = up (s := ⟨2, ![n, w]⟩) (φ := .f32) fun j => xhat X (j 0) (j 1) := by
  simp -index only [spread_col_up, mulf_up, mk2_0]
  exact congrArg up (funext fun j => congrArg (X · * rinv X (j 0)) (eq_mk2 j))

theorem k_dxv (V : Mat n w) (acc : BitVec 32) (h1 : (⟨2, ![n, w]⟩ : Shape).Reduces [1] ⟨1, ![n]⟩) (hφ : FKind.Formats .f32)
    (hacc : acc = FKind.add.neutral .f32 hφ) (h2 : (⟨1, ![n]⟩ : Shape).ShapeCasts ⟨2, ![n, 1]⟩)
    (h3 h4 : (⟨2, ![n, 1]⟩ : Shape).Broadcasts ⟨2, ![n, w]⟩) :
    mulf (broadcastTo ⟨2, ![n, w]⟩ (up (s := ⟨2, ![n, 1]⟩) (φ := .f32) fun j => rinv X (j 0)) h3)
      (subf (up (φ := .f32) V) (mulf (up (s := ⟨2, ![n, w]⟩) (φ := .f32) fun j => xhat X (j 0) (j 1))
        (broadcastTo ⟨2, ![n, w]⟩ (divf (shapeCast ⟨2, ![n, 1]⟩ (multiReduction .add [1] ⟨1, ![n]⟩
            (mulf (up (φ := .f32) V) (up (s := ⟨2, ![n, w]⟩) (φ := .f32) fun j => xhat X (j 0) (j 1))) acc h1 hφ hacc) h2)
          (broadcast ⟨2, ![n, 1]⟩ (Scalar.ofBits (F := Ideal) .f32 W))) h4)))
      = up (s := ⟨2, ![n, w]⟩) (φ := .f32) fun j => dxv V X (j 0) (j 1) := by
  simp -index only [mulf_up, subf_up, rowSum_up, cast_col_up, splat_up hW, divf_const _ _ hw, spread_col_up, mk1_0, mk2_0, mk2_1]
  exact congrArg up (funext fun j => congrArg (fun i => rinv X (j 0) * (V i - _)) (eq_mk2 j))

omit hW hw in
theorem k_dg (D : Mat n w) (A : Mat 1 w) (acc : BitVec 32) (h1 : (⟨2, ![n, w]⟩ : Shape).Reduces [0] ⟨1, ![w]⟩) (hφ : FKind.Formats .f32)
    (hacc : acc = FKind.add.neutral .f32 hφ) (h2 : (⟨1, ![w]⟩ : Shape).ShapeCasts ⟨2, ![1, w]⟩) :
    addf (up (φ := .f32) A) (shapeCast ⟨2, ![1, w]⟩ (multiReduction .add [0] ⟨1, ![w]⟩
        (mulf (up (φ := .f32) D) (up (s := ⟨2, ![n, w]⟩) (φ := .f32) fun j => xhat X (j 0) (j 1))) acc h1 hφ hacc) h2)
      = up (s := ⟨2, ![1, w]⟩) (φ := .f32) fun j => A j + ∑ p : Fin n, dgRow D X p (j 1) := by
  simp -index only [mulf_up, colSum_up, cast_row_up, addf_up, mk1_0, mk2_0, mk2_1]
  rfl

end Kernel

/-! ## The derivative's text -/

section Reference
variable {W : BitVec 32} (hW : Ideal.ofBits .f32 W = ((w : ℝ) : EReal)) (hw : (w : ℝ) ≠ 0) (X : Mat n w)
include hW hw

theorem r_ms (h1 : (⟨2, ![n, w]⟩ : Shape).ReducesTo [1] ⟨1, ![n]⟩) (hu : 0 < (⟨0, ![]⟩ : Shape).numel)
    (h2 : (⟨1, ![n]⟩ : Shape).BroadcastsInDim ⟨2, ![n, 1]⟩ ![0]) (h3 h4 : (⟨0, ![]⟩ : Shape).BroadcastsInDim ⟨2, ![n, 1]⟩ ![]) :
    addf (Host.divf (broadcastInDim ⟨2, ![n, 1]⟩ ![0] h2 (Host.reduceAdd (mulf (up (φ := .f32) X) (up (φ := .f32) X))
        (constant (F := Ideal) ⟨0, ![]⟩ .f32 0x00000000#32) h1 hu)) (broadcastInDim ⟨2, ![n, 1]⟩ ![] h3 (constant (F := Ideal) ⟨0, ![]⟩ .f32 W)))
      (broadcastInDim ⟨2, ![n, 1]⟩ ![] h4 (constant (F := Ideal) ⟨0, ![]⟩ .f32 0x358637BD#32))
      = up (s := ⟨2, ![n, 1]⟩) (φ := .f32) fun j => ms X (j 0) := by
  simp -index only [mulf_up, constant_up lit_zero, constant_up hW, constant_up lit_eps, host_scalar_up, hostRowSum_up,
    host_vec_col_up, hostDivf_const _ _ hw, addf_up, mk1_0]
  rfl

omit hW hw in
theorem r_rinv : Host.rsqrt (up (s := ⟨2, ![n, 1]⟩) (φ := .f32) fun j => ms X (j 0)) = up (s := ⟨2, ![n, 1]⟩) (φ := .f32) fun j => rinv X (j 0) :=
  hostRsqrt_up _ fun j => ms_pos X (j 0)

omit hW hw in
theorem r_half (h : (⟨0, ![]⟩ : Shape).BroadcastsInDim ⟨2, ![n, 1]⟩ ![]) :
    mulf (broadcastInDim ⟨2, ![n, 1]⟩ ![] h (constant (F := Ideal) ⟨0, ![]⟩ .f32 0xBF000000#32))
      (Host.divf (up (s := ⟨2, ![n, 1]⟩) (φ := .f32) fun j => rinv X (j 0)) (up (s := ⟨2, ![n, 1]⟩) (φ := .f32) fun j => ms X (j 0)))
      = up (s := ⟨2, ![n, 1]⟩) (φ := .f32) fun j => -(1 / 2) * (rinv X (j 0) * (rinv X (j 0) * rinv X (j 0))) := by
  refine (congrArg (mulf _) (hostDivf_up (s := ⟨2, ![n, 1]⟩) (φ := .f32) (fun j => rinv X (j 0)) (fun j => ms X (j 0)) fun j => (ms_pos X (j 0)).ne')).trans ?_
  simp -index only [constant_up lit_neg_half, host_scalar_up, mulf_up, rinv_div]

omit hW hw in
theorem r_xhat (h : (⟨2, ![n, 1]⟩ : Shape).BroadcastsInDim ⟨2, ![n, w]⟩ ![0, 1]) :
    mulf (up (φ := .f32) X) (broadcastInDim ⟨2, ![n, w]⟩ ![0, 1] h (up (s := ⟨2, ![n, 1]⟩) (φ := .f32) fun j => rinv X (j 0)))
      = up (s := ⟨2, ![n, w]⟩) (φ := .f32) fun j => xhat X (j 0) (j 1) := by
  simp -index only [host_col_up, mulf_up, mk2_0]
  exact congrArg up (funext fun j => congrArg (X · * rinv X (j 0)) (eq_mk2 j))

omit hW hw in
theorem r_scale (D : Mat n w) (g : (⟨1, ![w]⟩ : Shape).Idx → ℝ) (h1 : (⟨1, ![w]⟩ : Shape).BroadcastsInDim ⟨2, ![1, w]⟩ ![1])
    (h2 : (⟨2, ![1, w]⟩ : Shape).BroadcastsInDim ⟨2, ![n, w]⟩ ![0, 1]) :
    mulf (up (φ := .f32) D) (broadcastInDim ⟨2, ![n, w]⟩ ![0, 1] h2 (broadcastInDim ⟨2, ![1, w]⟩ ![1] h1 (up (φ := .f32) g)))
      = up (s := ⟨2, ![n, w]⟩) (φ := .f32) fun j => D j * g (mk1 (j 1)) := by
  simp -index only [host_vec_row_up, host_row_up, mulf_up, mk2_1]

/-- The part of the gradient that comes through the mean square, one number per row. -/
theorem r_mean (V : Mat n w) (h1 : (⟨2, ![n, w]⟩ : Shape).ReducesTo [1] ⟨1, ![n]⟩) (hu : 0 < (⟨0, ![]⟩ : Shape).numel)
    (h2 : (⟨1, ![n]⟩ : Shape).ShapeCasts ⟨2, ![n, 1]⟩) (h3 : (⟨0, ![]⟩ : Shape).BroadcastsInDim ⟨2, ![n, 1]⟩ ![])
    (h4 : (⟨2, ![n, 1]⟩ : Shape).ReducesTo [1] ⟨1, ![n]⟩) (h5 : (⟨1, ![n]⟩ : Shape).BroadcastsInDim ⟨2, ![n, w]⟩ ![0]) :
    broadcastInDim ⟨2, ![n, w]⟩ ![0] h5 (Host.reduceAdd (Host.divf (mulf (shapeCast ⟨2, ![n, 1]⟩ (Host.reduceAdd (mulf (up (φ := .f32) X) (up (φ := .f32) V))
        (constant (F := Ideal) ⟨0, ![]⟩ .f32 0x00000000#32) h1 hu) h2) (up (s := ⟨2, ![n, 1]⟩) (φ := .f32) fun j => -(1 / 2) * (rinv X (j 0) * (rinv X (j 0) * rinv X (j 0)))))
        (broadcastInDim ⟨2, ![n, 1]⟩ ![] h3 (constant (F := Ideal) ⟨0, ![]⟩ .f32 W))) (constant (F := Ideal) ⟨0, ![]⟩ .f32 0x00000000#32) h4 hu)
      = up (s := ⟨2, ![n, w]⟩) (φ := .f32) fun j => (∑ l : Fin w, X (mk2 (j 0) l) * V (mk2 (j 0) l)) * (-(1 / 2) * (rinv X (j 0) * (rinv X (j 0) * rinv X (j 0)))) / (w : ℝ) := by
  simp -index only [mulf_up, constant_up lit_zero, constant_up hW, host_scalar_up, hostRowSum_up, cast_col_up,
    hostDivf_const _ _ hw, host_vec_col_up, mk1_0, mk2_0, mk2_1, Fin.sum_univ_one]

omit hW hw in
/-- The three parts of the gradient add up to the formula. -/
theorem dxv_parts (V : Mat n w) (r : Fin n) (k : Fin w) :
    V (mk2 r k) * rinv X r + X (mk2 r k) * ((∑ l : Fin w, X (mk2 r l) * V (mk2 r l)) * (-(1 / 2) * (rinv X r * (rinv X r * rinv X r))) / (w : ℝ))
      + (∑ l : Fin w, X (mk2 r l) * V (mk2 r l)) * (-(1 / 2) * (rinv X r * (rinv X r * rinv X r))) / (w : ℝ) * X (mk2 r k) = dxv V X r k := by
  have e : ∀ l, X (mk2 r l) * V (mk2 r l) = V (mk2 r l) * X (mk2 r l) := fun l => mul_comm _ _
  simp only [dxv, xhat, e, ← mul_assoc, ← Finset.sum_mul]
  ring

omit hW hw in
theorem r_dxv (V : Mat n w) (h : (⟨2, ![n, 1]⟩ : Shape).BroadcastsInDim ⟨2, ![n, w]⟩ ![0, 1]) {M : FVec Ideal ⟨2, ![n, w]⟩ .f32}
    (hM : M = up (s := ⟨2, ![n, w]⟩) (φ := .f32) fun j => (∑ l : Fin w, X (mk2 (j 0) l) * V (mk2 (j 0) l)) * (-(1 / 2) * (rinv X (j 0) * (rinv X (j 0) * rinv X (j 0)))) / (w : ℝ)) :
    addf (addf (mulf (up (φ := .f32) V) (broadcastInDim ⟨2, ![n, w]⟩ ![0, 1] h (up (s := ⟨2, ![n, 1]⟩) (φ := .f32) fun j => rinv X (j 0))))
        (mulf (up (φ := .f32) X) M)) (mulf M (up (φ := .f32) X))
      = up (s := ⟨2, ![n, w]⟩) (φ := .f32) fun j => dxv V X (j 0) (j 1) := by
  subst hM
  simp -index only [host_col_up, mulf_up, addf_up, mk2_0]
  exact up_ext2 fun r k => dxv_parts X V r k

omit hW hw in
theorem r_dg (D : Mat n w) (h1 : (⟨2, ![n, w]⟩ : Shape).ReducesTo [0] ⟨1, ![w]⟩) (hu : 0 < (⟨0, ![]⟩ : Shape).numel)
    (h2 : (⟨1, ![w]⟩ : Shape).ShapeCasts ⟨2, ![1, w]⟩) (h3 : (⟨2, ![1, w]⟩ : Shape).ReducesTo [0] ⟨1, ![w]⟩) :
    Host.reduceAdd (shapeCast ⟨2, ![1, w]⟩ (Host.reduceAdd (mulf (up (s := ⟨2, ![n, w]⟩) (φ := .f32) fun j => xhat X (j 0) (j 1)) (up (φ := .f32) D))
        (constant (F := Ideal) ⟨0, ![]⟩ .f32 0x00000000#32) h1 hu) h2) (constant (F := Ideal) ⟨0, ![]⟩ .f32 0x00000000#32) h3 hu
      = up (s := ⟨1, ![w]⟩) (φ := .f32) fun j => ∑ r : Fin n, dgRow D X r (j 0) := by
  simp -index only [mulf_up, constant_up lit_zero, hostColSum_up, cast_row_up, mk1_0, mk2_0, mk2_1, Fin.sum_univ_one]
  exact congrArg up (funext fun j => Finset.sum_congr rfl fun r _ => mul_comm _ _)

end Reference

end Cert.Norm

end
-- ==== Proof.Heads.lean ====
/-
  Arrays kept head by head: reading one head, and storing them four parts one after another.
-/
module

public import proofs.«01_k».proof.Proof.Arrays
public import proofs.«01_k».proof.Proof.Norm
public import Idealize.ShloMosaic.Lib.Pipeline.ReadBack
public import Idealize.ShloMosaic.Lib.VecWindow

@[expose] public section

set_option maxRecDepth 16384
set_option backward.isDefEq.respectTransparency.types false

noncomputable section

open Idealize.ShloMosaic Idealize.ShloMosaic.TcCoe Idealize.SL.Sem

namespace Cert.Heads

open Cert.Reals Cert.Norm Cert.Arrays

/-- An array of reals of rank three. -/
abbrev Cube (a b c : ℕ) := (⟨3, ![a, b, c]⟩ : Shape).Idx → ℝ

/-- Head `g` of an array. -/
def headOf {α : Type} {h n w : ℕ} (X : (⟨3, ![h, n, w]⟩ : Shape).Idx → α) (g : ℕ) (hg : g < h) : (⟨2, ![n, w]⟩ : Shape).Idx → α :=
  fun j => X (mk3 ⟨g, hg⟩ (j 0) (j 1))

theorem headOf_up {h n w : ℕ} {φ : FTy} (X : Cube h n w) (g : ℕ) (hg : g < h) :
    headOf (up X : FVec Ideal ⟨3, ![h, n, w]⟩ φ) g hg = up (φ := φ) (headOf X g hg) := rfl

/-- One head read and flattened. -/
theorem cast_ld {h n w g : ℕ} (x : FVec Ideal ⟨3, ![h, n, w]⟩ .f32)
    (inb : ∀ a, (![g, 0, 0] : Fin 3 → ℕ) a + (![1, n, w] : Fin 3 → ℕ) a ≤ (⟨3, ![h, n, w]⟩ : Shape).size a)
    (hs : (⟨3, ![1, n, w]⟩ : Shape).ShapeCasts ⟨2, ![n, w]⟩) :
    shapeCast ⟨2, ![n, w]⟩ (View.ld (Val := Elt Ideal) (e' := .f32) (S := ⟨3, ![h, n, w]⟩) x (Rect.unit (s := ⟨3, ![h, n, w]⟩) ![g, 0, 0] ![1, n, w] inb)) hs
      = headOf x g (inb 0) := by
  funext j
  refine (congrArg _ (eq_mk2 j)).trans ((ValueIdx.shapeCast_1ab_ab_apply _ hs _ _).trans (congrArg x (ext3 ?_ ?_ ?_)))
  · show g + 1 * 0 = g; omega
  · show 0 + 1 * (j 0).val = (j 0).val; omega
  · show 0 + 1 * (j 1).val = (j 1).val; omega

/-- A matrix as an array of one head. -/
theorem cast_head {α : Type} {n w : ℕ} (f : (⟨2, ![n, w]⟩ : Shape).Idx → α) (hs : (⟨2, ![n, w]⟩ : Shape).ShapeCasts ⟨3, ![1, n, w]⟩) :
    shapeCast ⟨3, ![1, n, w]⟩ f hs = fun j => f (mk2 (j 1) (j 2)) := by
  funext j
  exact (congrArg _ (eq_mk3 j)).trans (ValueIdx.shapeCast_ab_1ab_apply _ hs _ _ _)

/-- The places `o + ·` of `G` along the first axis hold `f`. -/
def Holds {α : Type} {N k n w : ℕ} (G : (⟨3, ![N, n, w]⟩ : Shape).Idx → α) (f : (⟨3, ![k, n, w]⟩ : Shape).Idx → α) (o : ℕ) : Prop :=
  ∀ j i, (i 0).val = o + (j 0).val → (i 1).val = (j 1).val → (i 2).val = (j 2).val → f j = G i

/-- Four parts stored one after another along the first axis. -/
theorem canon_parts {N k n w o1 o2 o3 : ℕ} {e : EltTy} (G : (⟨3, ![N, n, w]⟩ : Shape).Idx → Elt Ideal e) (f0 f1 f2 f3 : (⟨3, ![k, n, w]⟩ : Shape).Idx → Elt Ideal e)
    (h1 : o1 = k) (h2 : o2 = 2 * k) (h3 : o3 = 3 * k) (hN : N = 4 * k)
    (b0 : ∀ a, (![0, 0, 0] : Fin 3 → ℕ) a + (![k, n, w] : Fin 3 → ℕ) a ≤ (⟨3, ![N, n, w]⟩ : Shape).size a)
    (b1 : ∀ a, (![o1, 0, 0] : Fin 3 → ℕ) a + (![k, n, w] : Fin 3 → ℕ) a ≤ (⟨3, ![N, n, w]⟩ : Shape).size a)
    (b2 : ∀ a, (![o2, 0, 0] : Fin 3 → ℕ) a + (![k, n, w] : Fin 3 → ℕ) a ≤ (⟨3, ![N, n, w]⟩ : Shape).size a)
    (b3 : ∀ a, (![o3, 0, 0] : Fin 3 → ℕ) a + (![k, n, w] : Fin 3 → ℕ) a ≤ (⟨3, ![N, n, w]⟩ : Shape).size a)
    (g0 : Holds G f0 0) (g1 : Holds G f1 o1) (g2 : Holds G f2 o2) (g3 : Holds G f3 o3) :
    View.canon (Val := Elt Ideal) (e := e) (s := ⟨3, ![N, n, w]⟩)
        [⟨Rect.unit (s := ⟨3, ![N, n, w]⟩) ![o3, 0, 0] ![k, n, w] b3, f3⟩, ⟨Rect.unit (s := ⟨3, ![N, n, w]⟩) ![o2, 0, 0] ![k, n, w] b2, f2⟩,
          ⟨Rect.unit (s := ⟨3, ![N, n, w]⟩) ![o1, 0, 0] ![k, n, w] b1, f1⟩, ⟨Rect.unit (s := ⟨3, ![N, n, w]⟩) ![0, 0, 0] ![k, n, w] b0, f0⟩] = G := by
  have part : ∀ (o : ℕ) (f : (⟨3, ![k, n, w]⟩ : Shape).Idx → Elt Ideal e)
      (b : ∀ a, (![o, 0, 0] : Fin 3 → ℕ) a + (![k, n, w] : Fin 3 → ℕ) a ≤ (⟨3, ![N, n, w]⟩ : Shape).size a) (g : Holds G f o)
      (x : (⟨3, ![k, n, w]⟩ : Shape).Idx), f x = G ((Rect.unit (s := ⟨3, ![N, n, w]⟩) ![o, 0, 0] ![k, n, w] b).emb x) := fun o f b g x =>
    g x _ (by show o + 1 * (x 0).val = _; omega) (by show 0 + 1 * (x 1).val = _; omega) (by show 0 + 1 * (x 2).val = _; omega)
  funext y
  refine View.canon_append_of_piecesOf (Val := Elt Ideal) (e := e) G [] [_, _, _, _] ⟨part o3 f3 b3 g3, part o2 f2 b2 g2, part o1 f1 b1 g1, part 0 f0 b0 g0, trivial⟩ y ?_
  have y0 : (y 0).val < N := (y 0).isLt
  have mem : ∀ (o : ℕ) (b : ∀ a, (![o, 0, 0] : Fin 3 → ℕ) a + (![k, n, w] : Fin 3 → ℕ) a ≤ (⟨3, ![N, n, w]⟩ : Shape).size a),
      o ≤ (y 0).val → (y 0).val < o + k → y ∈ (Rect.unit (s := ⟨3, ![N, n, w]⟩) ![o, 0, 0] ![k, n, w] b).set := fun o b hl hu =>
    (Rect.mem_set_unit (inb := b)).mpr fun a => by
      match a with
      | ⟨0, _⟩ => exact ⟨hl, hu⟩
      | ⟨1, _⟩ => exact ⟨Nat.zero_le _, by have : (y 1).val < n := (y 1).isLt; show (y 1).val < 0 + n; omega⟩
      | ⟨2, _⟩ => exact ⟨Nat.zero_le _, by have : (y 2).val < w := (y 2).isLt; show (y 2).val < 0 + w; omega⟩
  by_cases c1 : (y 0).val < o1
  · exact ⟨_, List.mem_cons_of_mem _ (List.mem_cons_of_mem _ (List.mem_cons_of_mem _ List.mem_cons_self)), mem 0 b0 (Nat.zero_le _) (by omega)⟩
  by_cases c2 : (y 0).val < o2
  · exact ⟨_, List.mem_cons_of_mem _ (List.mem_cons_of_mem _ List.mem_cons_self), mem o1 b1 (by omega) (by omega)⟩
  by_cases c3 : (y 0).val < o3
  · exact ⟨_, List.mem_cons_of_mem _ List.mem_cons_self, mem o2 b2 (by omega) (by omega)⟩
  · exact ⟨_, List.mem_cons_self, mem o3 b3 (by omega) (by omega)⟩

/-- Four heads stored one after another. -/
theorem canon_heads {n w : ℕ} {e : EltTy} (G : (⟨3, ![4, n, w]⟩ : Shape).Idx → Elt Ideal e) (f0 f1 f2 f3 : (⟨2, ![n, w]⟩ : Shape).Idx → Elt Ideal e)
    (b0 : ∀ a, (![0, 0, 0] : Fin 3 → ℕ) a + (![1, n, w] : Fin 3 → ℕ) a ≤ (⟨3, ![4, n, w]⟩ : Shape).size a)
    (b1 : ∀ a, (![1, 0, 0] : Fin 3 → ℕ) a + (![1, n, w] : Fin 3 → ℕ) a ≤ (⟨3, ![4, n, w]⟩ : Shape).size a)
    (b2 : ∀ a, (![2, 0, 0] : Fin 3 → ℕ) a + (![1, n, w] : Fin 3 → ℕ) a ≤ (⟨3, ![4, n, w]⟩ : Shape).size a)
    (b3 : ∀ a, (![3, 0, 0] : Fin 3 → ℕ) a + (![1, n, w] : Fin 3 → ℕ) a ≤ (⟨3, ![4, n, w]⟩ : Shape).size a)
    (g0 : headOf G 0 (by decide) = f0) (g1 : headOf G 1 (by decide) = f1) (g2 : headOf G 2 (by decide) = f2) (g3 : headOf G 3 (by decide) = f3) :
    View.canon (Val := Elt Ideal) (e := e) (s := ⟨3, ![4, n, w]⟩)
        [⟨Rect.unit (s := ⟨3, ![4, n, w]⟩) ![3, 0, 0] ![1, n, w] b3, fun j => f3 (mk2 (j 1) (j 2))⟩, ⟨Rect.unit (s := ⟨3, ![4, n, w]⟩) ![2, 0, 0] ![1, n, w] b2, fun j => f2 (mk2 (j 1) (j 2))⟩,
          ⟨Rect.unit (s := ⟨3, ![4, n, w]⟩) ![1, 0, 0] ![1, n, w] b1, fun j => f1 (mk2 (j 1) (j 2))⟩, ⟨Rect.unit (s := ⟨3, ![4, n, w]⟩) ![0, 0, 0] ![1, n, w] b0, fun j => f0 (mk2 (j 1) (j 2))⟩] = G := by
  have part : ∀ (o : ℕ) (ho : o < 4), Holds G (k := 1) (fun j => headOf G o ho (mk2 (j 1) (j 2))) o := fun o ho j i h0 h1 h2 =>
    congrArg G (ext3 (by have : (j 0).val < 1 := (j 0).isLt; show o = (i 0).val; omega) h1.symm h2.symm)
  rw [← g0, ← g1, ← g2, ← g3]
  exact canon_parts G _ _ _ _ rfl rfl rfl rfl b0 b1 b2 b3 (part 0 _) (part 1 _) (part 2 _) (part 3 _)

/-! ## Sixteen blocks of 128 rows -/

/-- Row `p` of block `t`. -/
def rowAt (t : Fin 16) (p : Fin 128) : Fin 2048 := ⟨128 * t.val + p.val, by have := t.isLt; have := p.isLt; omega⟩
/-- Block `t` of a matrix and of an array kept by heads. -/
def blkM {α : Type} {w : ℕ} (X : (⟨2, ![2048, w]⟩ : Shape).Idx → α) (t : Fin 16) : (⟨2, ![128, w]⟩ : Shape).Idx → α := fun j => X (mk2 (rowAt t (j 0)) (j 1))
def blkC {α : Type} {h w : ℕ} (X : (⟨3, ![h, 2048, w]⟩ : Shape).Idx → α) (t : Fin 16) : (⟨3, ![h, 128, w]⟩ : Shape).Idx → α :=
  fun j => X (mk3 (j 0) (rowAt t (j 1)) (j 2))
/-- The block before, or the first, and the block after, or the last. -/
def prevT (t : Fin 16) : Fin 16 := ⟨t.val - 1, lt_of_le_of_lt (Nat.sub_le _ _) t.isLt⟩
def nextT (t : Fin 16) : Fin 16 := ⟨min (t.val + 1) 15, by omega⟩

/-- One more block of a sum over all rows. -/
theorem more (t : Fin 16) (F : Fin 2048 → ℝ) :
    ∑ k ∈ Finset.range (128 * (t.val + 1)), nat F k = ∑ k ∈ Finset.range (128 * t.val), nat F k + ∑ p : Fin 128, F (rowAt t p) :=
  sum_nat_step F 128 t.val _ fun p => ⟨(rowAt t p).isLt, rfl⟩

/-- Head `a`, place `b` among the columns of all heads. -/
def fuse {h w n : ℕ} (e : n = h * w) (a : Fin h) (b : Fin w) : Fin n :=
  ⟨w * a.val + b.val, by
    have h1 : w * (a.val + 1) ≤ w * h := Nat.mul_le_mul_left w a.isLt
    have h2 := b.isLt
    rw [Nat.mul_add, Nat.mul_one, Nat.mul_comm w h, ← e] at h1
    omega⟩

/-- The columns of a matrix, sorted into heads. -/
def split {α : Type} {n h w k : ℕ} (e : k = h * w) (X : (⟨2, ![n, k]⟩ : Shape).Idx → α) : (⟨3, ![n, h, w]⟩ : Shape).Idx → α :=
  fun j => X (mk2 (j 0) (fuse e (j 1) (j 2)))
/-- The same with the heads first. -/
def heads {α : Type} {n h w k : ℕ} (e : k = h * w) (X : (⟨2, ![n, k]⟩ : Shape).Idx → α) : (⟨3, ![h, n, w]⟩ : Shape).Idx → α :=
  fun j => X (mk2 (j 1) (fuse e (j 0) (j 2)))

theorem cast_split {α : Type} {n h w k : ℕ} (e : k = h * w) (X : (⟨2, ![n, k]⟩ : Shape).Idx → α) (hs : (⟨2, ![n, k]⟩ : Shape).ShapeCasts ⟨3, ![n, h, w]⟩) :
    shapeCast ⟨3, ![n, h, w]⟩ X hs = split e X := by
  funext j
  refine shapeCast_apply X hs _ _ ?_
  rw [Shape.rowMajor_val_two, Shape.rowMajor_val_three]
  show (j 0).val * k + (w * (j 1).val + (j 2).val) = ((j 0).val * h + (j 1).val) * w + (j 2).val
  rw [e]; ring

theorem swap_heads {α : Type} {n h w : ℕ} (X : (⟨3, ![n, h, w]⟩ : Shape).Idx → α) (ht : (⟨3, ![n, h, w]⟩ : Shape).Transposes [1, 0, 2] ⟨3, ![h, n, w]⟩) :
    transpose ⟨3, ![h, n, w]⟩ [1, 0, 2] X ht = fun j => X (mk3 (j 1) (j 0) (j 2)) :=
  funext fun j => transpose_apply _ X ht j _ fun b => by
    match b with
    | ⟨0, _⟩ => rfl
    | ⟨1, _⟩ => rfl
    | ⟨2, _⟩ => rfl

theorem all3 {p : Fin 3 → Prop} (h0 : p 0) (h1 : p 1) (h2 : p 2) : ∀ a, p a
  | ⟨0, _⟩ => h0
  | ⟨1, _⟩ => h1
  | ⟨2, _⟩ => h2

end Cert.Heads
-- ==== Proof.Rows.lean ====
/-
  The norm of every head of every row, and its derivative, over arrays of rows, heads and columns.
-/
module

public import proofs.«01_k».proof.Proof.Heads

@[expose] public section

set_option maxRecDepth 16384
set_option backward.isDefEq.respectTransparency.types false

noncomputable section

namespace Cert.Rows

open Idealize.ShloMosaic Cert.Reals Cert.Norm Cert.Arrays Cert.Heads

variable {n h w : ℕ} {φ : FTy}

/-- The rows of head `a`. -/
def hd (X : Cube n h w) (a : Fin h) : Mat n w := fun j => X (mk3 (j 0) a (j 1))

/-! ## Sums and broadcasts over three axes -/

theorem sum_last {u : Shape} (f : (⟨3, ![n, h, w]⟩ : Shape).Idx → ℝ) (hr : (⟨3, ![n, h, w]⟩ : Shape).ReducesTo [2] ⟨2, ![n, h]⟩) (hu : 0 < u.numel) :
    Host.reduceAdd (up (φ := φ) f) (up (s := u) (φ := φ) fun _ => 0) hr hu = up (s := ⟨2, ![n, h]⟩) (φ := φ) fun j => ∑ k : Fin w, f (mk3 (j 0) (j 1) k) := by
  refine hsum_up (κ := Fin w) f hr hu (fun j k => mk3 (j 0) (j 1) k) (fun i => i 2) ?_ ?_ ?_
  · exact fun j x => ext2 rfl rfl
  · exact fun j x => rfl
  · exact fun i => ext3 rfl rfl rfl

theorem sum_rows {u : Shape} (f : (⟨3, ![n, h, w]⟩ : Shape).Idx → ℝ) (hr : (⟨3, ![n, h, w]⟩ : Shape).ReducesTo [0, 1] ⟨1, ![w]⟩) (hu : 0 < u.numel) :
    Host.reduceAdd (up (φ := φ) f) (up (s := u) (φ := φ) fun _ => 0) hr hu = up (s := ⟨1, ![w]⟩) (φ := φ) fun j => ∑ r : Fin n, ∑ a : Fin h, f (mk3 r a (j 0)) := by
  refine (hsum_up (κ := Fin n × Fin h) f hr hu (fun j k => mk3 k.1 k.2 (j 0)) (fun i => (i 0, i 1)) ?_ ?_ ?_).trans ?_
  · exact fun j x => ext1 rfl
  · exact fun j x => rfl
  · exact fun i => ext3 rfl rfl rfl
  · exact congrArg up (funext fun j => Fintype.sum_prod_type _)

theorem bcast_col (f : (⟨2, ![n, h]⟩ : Shape).Idx → ℝ) (hb : (⟨2, ![n, h]⟩ : Shape).BroadcastsInDim ⟨3, ![n, h, w]⟩ ![0, 1]) :
    broadcastInDim ⟨3, ![n, h, w]⟩ ![0, 1] hb (up (φ := φ) f) = up (s := ⟨3, ![n, h, w]⟩) (φ := φ) fun j => f (mk2 (j 0) (j 1)) :=
  host_bcast_up f _ hb (fun j => mk2 (j 0) (j 1)) fun j c => by
    match c with
    | ⟨0, _⟩ => exact val_of_one (j 0)
    | ⟨1, _⟩ => exact val_of_one (j 1)

theorem bcast_last (f : (⟨3, ![n, h, 1]⟩ : Shape).Idx → ℝ) (hb : (⟨3, ![n, h, 1]⟩ : Shape).BroadcastsInDim ⟨3, ![n, h, w]⟩ ![0, 1, 2]) :
    broadcastInDim ⟨3, ![n, h, w]⟩ ![0, 1, 2] hb (up (φ := φ) f) = up (s := ⟨3, ![n, h, w]⟩) (φ := φ) fun j => f (mk3 (j 0) (j 1) 0) :=
  host_bcast_up f _ hb (fun j => mk3 (j 0) (j 1) 0) fun j c => by
    match c with
    | ⟨0, _⟩ => exact val_of_one (j 0)
    | ⟨1, _⟩ => exact val_of_one (j 1)
    | ⟨2, _⟩ => rfl

theorem bcast_gain (f : (⟨1, ![w]⟩ : Shape).Idx → ℝ) (hb : (⟨1, ![w]⟩ : Shape).BroadcastsInDim ⟨3, ![1, 1, w]⟩ ![2]) :
    broadcastInDim ⟨3, ![1, 1, w]⟩ ![2] hb (up (φ := φ) f) = up (s := ⟨3, ![1, 1, w]⟩) (φ := φ) fun j => f (mk1 (j 2)) :=
  host_bcast_up f _ hb (fun j => mk1 (j 2)) fun j c => by
    match c with
    | ⟨0, _⟩ => exact val_of_one (j 2)

theorem bcast_rows (f : (⟨3, ![1, 1, w]⟩ : Shape).Idx → ℝ) (hb : (⟨3, ![1, 1, w]⟩ : Shape).BroadcastsInDim ⟨3, ![n, h, w]⟩ ![0, 1, 2]) :
    broadcastInDim ⟨3, ![n, h, w]⟩ ![0, 1, 2] hb (up (φ := φ) f) = up (s := ⟨3, ![n, h, w]⟩) (φ := φ) fun j => f (mk3 0 0 (j 2)) :=
  host_bcast_up f _ hb (fun j => mk3 0 0 (j 2)) fun j c => by
    match c with
    | ⟨0, _⟩ => rfl
    | ⟨1, _⟩ => rfl
    | ⟨2, _⟩ => exact val_of_one (j 2)

theorem cast_last (f : (⟨2, ![n, h]⟩ : Shape).Idx → ℝ) (hs : (⟨2, ![n, h]⟩ : Shape).ShapeCasts ⟨3, ![n, h, 1]⟩) :
    shapeCast ⟨3, ![n, h, 1]⟩ (up (φ := φ) f) hs = up (s := ⟨3, ![n, h, 1]⟩) (φ := φ) fun j => f (mk2 (j 0) (j 1)) := by
  funext j
  refine shapeCast_apply (up (φ := φ) f) hs j (mk2 (j 0) (j 1)) ?_
  rw [Shape.rowMajor_val_two, Shape.rowMajor_val_three]
  have h2 : (j 2).val < 1 := (j 2).isLt
  show (j 0).val * h + (j 1).val = ((j 0).val * h + (j 1).val) * 1 + (j 2).val
  omega

theorem cast_gain (f : (⟨1, ![w]⟩ : Shape).Idx → ℝ) (hs : (⟨1, ![w]⟩ : Shape).ShapeCasts ⟨3, ![1, 1, w]⟩) :
    shapeCast ⟨3, ![1, 1, w]⟩ (up (φ := φ) f) hs = up (s := ⟨3, ![1, 1, w]⟩) (φ := φ) fun j => f (mk1 (j 2)) := by
  funext j
  refine shapeCast_apply (up (φ := φ) f) hs j (mk1 (j 2)) ?_
  rw [Shape.rowMajor_val_one, Shape.rowMajor_val_three]
  have h0 : (j 0).val < 1 := (j 0).isLt
  have h1 : (j 1).val < 1 := (j 1).isLt
  show (j 2).val = ((j 0).val * 1 + (j 1).val) * w + (j 2).val
  rw [show (j 0).val = 0 by omega, show (j 1).val = 0 by omega]; omega

/-! ## The norm -/

section
variable {W : BitVec 32} (hW : Ideal.ofBits .f32 W = ((w : ℝ) : EReal)) (hw : (w : ℝ) ≠ 0) (X : Cube n h w)
include hW hw

theorem ms3 (h1 : (⟨3, ![n, h, w]⟩ : Shape).ReducesTo [2] ⟨2, ![n, h]⟩) (hu : 0 < (⟨0, ![]⟩ : Shape).numel)
    (h2 : (⟨2, ![n, h]⟩ : Shape).BroadcastsInDim ⟨3, ![n, h, 1]⟩ ![0, 1]) (h3 h4 : (⟨0, ![]⟩ : Shape).BroadcastsInDim ⟨3, ![n, h, 1]⟩ ![]) :
    addf (Host.divf (broadcastInDim ⟨3, ![n, h, 1]⟩ ![0, 1] h2 (Host.reduceAdd (mulf (up (φ := .f32) X) (up (φ := .f32) X))
        (constant (F := Ideal) ⟨0, ![]⟩ .f32 0x00000000#32) h1 hu)) (broadcastInDim ⟨3, ![n, h, 1]⟩ ![] h3 (constant (F := Ideal) ⟨0, ![]⟩ .f32 W)))
      (broadcastInDim ⟨3, ![n, h, 1]⟩ ![] h4 (constant (F := Ideal) ⟨0, ![]⟩ .f32 0x358637BD#32))
      = up (s := ⟨3, ![n, h, 1]⟩) (φ := .f32) fun j => ms (hd X (j 1)) (j 0) := by
  simp -index only [mulf_up, constant_up lit_zero, constant_up hW, constant_up lit_eps, host_scalar_up, sum_last,
    bcast_col, hostDivf_const _ _ hw, addf_up]
  rfl

omit hW hw in
theorem rinv3 : Host.rsqrt (up (s := ⟨3, ![n, h, 1]⟩) (φ := .f32) fun j => ms (hd X (j 1)) (j 0)) = up (s := ⟨3, ![n, h, 1]⟩) (φ := .f32) fun j => rinv (hd X (j 1)) (j 0) :=
  hostRsqrt_up _ fun j => ms_pos (hd X (j 1)) (j 0)

omit hW hw in
theorem half3 (hb : (⟨0, ![]⟩ : Shape).BroadcastsInDim ⟨3, ![n, h, 1]⟩ ![]) :
    mulf (broadcastInDim ⟨3, ![n, h, 1]⟩ ![] hb (constant (F := Ideal) ⟨0, ![]⟩ .f32 0xBF000000#32))
      (Host.divf (up (s := ⟨3, ![n, h, 1]⟩) (φ := .f32) fun j => rinv (hd X (j 1)) (j 0)) (up (s := ⟨3, ![n, h, 1]⟩) (φ := .f32) fun j => ms (hd X (j 1)) (j 0)))
      = up (s := ⟨3, ![n, h, 1]⟩) (φ := .f32) fun j => -(1 / 2) * (rinv (hd X (j 1)) (j 0) * (rinv (hd X (j 1)) (j 0) * rinv (hd X (j 1)) (j 0))) := by
  refine (congrArg (mulf _) (hostDivf_up (s := ⟨3, ![n, h, 1]⟩) (φ := .f32) (fun j => rinv (hd X (j 1)) (j 0)) (fun j => ms (hd X (j 1)) (j 0)) fun j => (ms_pos (hd X (j 1)) (j 0)).ne')).trans ?_
  simp -index only [constant_up lit_neg_half, host_scalar_up, mulf_up, rinv_div]

omit hW hw in
theorem xhat3 (hb : (⟨3, ![n, h, 1]⟩ : Shape).BroadcastsInDim ⟨3, ![n, h, w]⟩ ![0, 1, 2]) :
    mulf (up (φ := .f32) X) (broadcastInDim ⟨3, ![n, h, w]⟩ ![0, 1, 2] hb (up (s := ⟨3, ![n, h, 1]⟩) (φ := .f32) fun j => rinv (hd X (j 1)) (j 0)))
      = up (s := ⟨3, ![n, h, w]⟩) (φ := .f32) fun j => xhat (hd X (j 1)) (j 0) (j 2) := by
  simp -index only [bcast_last, mulf_up]
  exact up_ext3 fun r a k => rfl

omit hW hw in
theorem scale3 (D : Cube n h w) (g : (⟨1, ![w]⟩ : Shape).Idx → ℝ) (h1 : (⟨1, ![w]⟩ : Shape).BroadcastsInDim ⟨3, ![1, 1, w]⟩ ![2])
    (h2 : (⟨3, ![1, 1, w]⟩ : Shape).BroadcastsInDim ⟨3, ![n, h, w]⟩ ![0, 1, 2]) :
    mulf (up (φ := .f32) D) (broadcastInDim ⟨3, ![n, h, w]⟩ ![0, 1, 2] h2 (broadcastInDim ⟨3, ![1, 1, w]⟩ ![2] h1 (up (φ := .f32) g)))
      = up (s := ⟨3, ![n, h, w]⟩) (φ := .f32) fun j => D j * g (mk1 (j 2)) := by
  simp -index only [bcast_gain, bcast_rows, mulf_up]
  rfl

/-- The part of the gradient that comes through the mean square, one number per row and head. -/
def through (V X : Cube n h w) : Cube n h w := fun j =>
  (∑ l : Fin w, X (mk3 (j 0) (j 1) l) * V (mk3 (j 0) (j 1) l)) * (-(1 / 2) * (rinv (hd X (j 1)) (j 0) * (rinv (hd X (j 1)) (j 0) * rinv (hd X (j 1)) (j 0)))) / (w : ℝ)

theorem mean3 (V : Cube n h w) (h1 : (⟨3, ![n, h, w]⟩ : Shape).ReducesTo [2] ⟨2, ![n, h]⟩) (hu : 0 < (⟨0, ![]⟩ : Shape).numel)
    (h2 : (⟨2, ![n, h]⟩ : Shape).ShapeCasts ⟨3, ![n, h, 1]⟩) (h3 : (⟨0, ![]⟩ : Shape).BroadcastsInDim ⟨3, ![n, h, 1]⟩ ![])
    (h4 : (⟨3, ![n, h, 1]⟩ : Shape).ReducesTo [2] ⟨2, ![n, h]⟩) (h5 : (⟨2, ![n, h]⟩ : Shape).BroadcastsInDim ⟨3, ![n, h, w]⟩ ![0, 1]) :
    broadcastInDim ⟨3, ![n, h, w]⟩ ![0, 1] h5 (Host.reduceAdd (Host.divf (mulf (shapeCast ⟨3, ![n, h, 1]⟩ (Host.reduceAdd (mulf (up (φ := .f32) X) (up (φ := .f32) V))
        (constant (F := Ideal) ⟨0, ![]⟩ .f32 0x00000000#32) h1 hu) h2) (up (s := ⟨3, ![n, h, 1]⟩) (φ := .f32) fun j => -(1 / 2) * (rinv (hd X (j 1)) (j 0) * (rinv (hd X (j 1)) (j 0) * rinv (hd X (j 1)) (j 0)))))
        (broadcastInDim ⟨3, ![n, h, 1]⟩ ![] h3 (constant (F := Ideal) ⟨0, ![]⟩ .f32 W))) (constant (F := Ideal) ⟨0, ![]⟩ .f32 0x00000000#32) h4 hu)
      = up (s := ⟨3, ![n, h, w]⟩) (φ := .f32) (through V X) := by
  simp -index only [mulf_up, constant_up lit_zero, constant_up hW, host_scalar_up, sum_last, cast_last,
    hostDivf_const _ _ hw, bcast_col, Fin.sum_univ_one]
  rfl

omit hW hw in
theorem dxv3 (V : Cube n h w) (hb : (⟨3, ![n, h, 1]⟩ : Shape).BroadcastsInDim ⟨3, ![n, h, w]⟩ ![0, 1, 2]) {M : FVec Ideal ⟨3, ![n, h, w]⟩ .f32}
    (hM : M = up (s := ⟨3, ![n, h, w]⟩) (φ := .f32) (through V X)) :
    addf (addf (mulf (up (φ := .f32) V) (broadcastInDim ⟨3, ![n, h, w]⟩ ![0, 1, 2] hb (up (s := ⟨3, ![n, h, 1]⟩) (φ := .f32) fun j => rinv (hd X (j 1)) (j 0))))
        (mulf (up (φ := .f32) X) M)) (mulf M (up (φ := .f32) X))
      = up (s := ⟨3, ![n, h, w]⟩) (φ := .f32) fun j => dxv (hd V (j 1)) (hd X (j 1)) (j 0) (j 2) := by
  subst hM
  simp -index only [bcast_last, mulf_up, addf_up]
  exact up_ext3 fun r a k => dxv_parts (hd X a) (hd V a) r k

omit hW hw in
theorem dg3 (D : Cube n h w) (h1 : (⟨3, ![n, h, w]⟩ : Shape).ReducesTo [0, 1] ⟨1, ![w]⟩) (hu : 0 < (⟨0, ![]⟩ : Shape).numel)
    (h2 : (⟨1, ![w]⟩ : Shape).ShapeCasts ⟨3, ![1, 1, w]⟩) (h3 : (⟨3, ![1, 1, w]⟩ : Shape).ReducesTo [0, 1] ⟨1, ![w]⟩) :
    Host.reduceAdd (shapeCast ⟨3, ![1, 1, w]⟩ (Host.reduceAdd (mulf (up (s := ⟨3, ![n, h, w]⟩) (φ := .f32) fun j => xhat (hd X (j 1)) (j 0) (j 2)) (up (φ := .f32) D))
        (constant (F := Ideal) ⟨0, ![]⟩ .f32 0x00000000#32) h1 hu) h2) (constant (F := Ideal) ⟨0, ![]⟩ .f32 0x00000000#32) h3 hu
      = up (s := ⟨1, ![w]⟩) (φ := .f32) fun j => ∑ r : Fin n, ∑ a : Fin h, dgRow (hd D a) (hd X a) r (j 0) := by
  simp -index only [mulf_up, constant_up lit_zero, sum_rows, cast_gain, Fin.sum_univ_one]
  exact congrArg up (funext fun j => Finset.sum_congr rfl fun r _ => Finset.sum_congr rfl fun a _ => mul_comm _ _)

end

/-! ## Two blocks of 128 rows, one after the other -/

def lo (p : Fin 128) : Fin 256 := ⟨p.val, by have := p.isLt; omega⟩
def hi (p : Fin 128) : Fin 256 := ⟨128 + p.val, by have := p.isLt; omega⟩

/-! ## Heads and columns -/

/-- Putting the heads side by side and sorting them again changes nothing. -/
theorem join_split {α : Type} {s t : Shape} (X : s.Idx → α) (h1 : s.ShapeCasts t) (h2 : t.ShapeCasts s) :
    shapeCast s (shapeCast t X h1) h2 = X :=
  funext fun j => by
    refine (shapeCast_apply _ h2 j (t.rowMajor.symm (Fin.cast h1.symm (s.rowMajor j))) ?_).trans (shapeCast_apply X h1 _ j ?_)
    · simp
    · simp

end Cert.Rows

end
-- ==== Proof.Att.lean ====
/-
  Attention of one block of queries over two blocks of keys, in reals: the weights, the probabilities and the
  gradients that go through them, and that the kernel's text computes these formulas. The weights' common factor
  (the row's largest entry, taken out before the exponential) cancels in every one of them.
-/
module

public import proofs.«01_k».proof.Proof.Heads
public import proofs.«01_k».proof.Proof.Rows
public import proofs.«01_k».proof.Proof.Dots

@[expose] public section

set_option maxRecDepth 16384
set_option backward.isDefEq.respectTransparency.types false

noncomputable section

open Idealize.ShloMosaic Idealize.ShloMosaic.TcCoe Idealize.SL.Sem

namespace Cert.Att

open Cert.Reals Cert.Norm Cert.Arrays Cert.Heads Cert.Rows

variable {R C K : ℕ}

/-! ## The formulas -/

/-- Products of the rows of two matrices. -/
def rows (Q : Mat R K) (X : Mat C K) : Mat R C := fun j => ∑ k : Fin K, Q (mk2 (j 0) k) * X (mk2 (j 1) k)
/-- The weight of a query's key: zero where the mask is. -/
def wt (V : IVec ⟨2, ![R, C]⟩ 1) (L : Mat R C) : Mat R C := fun j => if V j = 1#1 then Real.exp (L j) else 0
/-- A query's weights and its sink's. -/
def den (V : IVec ⟨2, ![R, C]⟩ 1) (L : Mat R C) (S : Mat R 1) (r : Fin R) : ℝ := ∑ s : Fin C, wt V L (mk2 r s) + Real.exp (S (mk2 r 0))
/-- The probabilities, and the sink's. -/
def pr (V : IVec ⟨2, ![R, C]⟩ 1) (L : Mat R C) (S : Mat R 1) : Mat R C := fun j => wt V L j / den V L S (j 0)
def ps (V : IVec ⟨2, ![R, C]⟩ 1) (L : Mat R C) (S : Mat R 1) : Mat R 1 := fun j => Real.exp (S j) / den V L S (j 0)
/-- The mean of a row of `D` under its probabilities, and the gradient of the logits. -/
def de (P D : Mat R C) : Mat R 1 := fun j => ∑ s : Fin C, P (mk2 (j 0) s) * D (mk2 (j 0) s)
def dl (P D : Mat R C) : Mat R C := fun j => P j * (D j - de P D (mk2 (j 0) 0))

theorem den_pos (V : IVec ⟨2, ![R, C]⟩ 1) (L : Mat R C) (S : Mat R 1) (r : Fin R) : 0 < den V L S r :=
  add_pos_of_nonneg_of_pos (Finset.sum_nonneg fun s _ => by unfold wt; split <;> positivity) (Real.exp_pos _)

/-! ## The kernel's text -/

theorem lit_eighth : Ideal.ofBits .f32 0x3E000000#32 = (((1 / 8) : ℝ) : EReal) := by
  simp [Ideal.ofBits, Ideal.ieee]; rw [← EReal.coe_mul]; norm_num
theorem lit_bot : Ideal.ofBits .f32 0xFF800000#32 = (⊥ : EReal) := by simp [Ideal.ofBits, Ideal.ieee]

/-- The masked logits: minus infinity where the mask is. -/
def masked (V : IVec ⟨2, ![R, C]⟩ 1) (L : Mat R C) : FVec Ideal ⟨2, ![R, C]⟩ .f32 := fun j => if V j = 1#1 then ((L j : ℝ) : EReal) else (⊥ : EReal)
/-- The largest entry of a row and its sink. -/
def top (V : IVec ⟨2, ![R, C]⟩ 1) (L : Mat R C) (S : Mat R 1) : Mat R 1 := fun j =>
  (max ((Finset.univ : Finset (Fin C)).fold max (⊥ : EReal) fun s => masked V L (mk2 (j 0) s)) ((S j : ℝ) : EReal)).toReal

/-- A maximum of a real and something below plus infinity is real. -/
theorem real_max {x : EReal} (hx : x < ⊤) (r : ℝ) : max x (r : EReal) = (((max x (r : EReal)).toReal : ℝ) : EReal) :=
  (EReal.coe_toReal (max_lt hx (EReal.coe_lt_top r)).ne (lt_of_lt_of_le (EReal.bot_lt_coe r) (le_max_right _ _)).ne').symm

theorem fold_lt {ι : Type} (A : Finset ι) (f : ι → EReal) (h : ∀ i ∈ A, f i < ⊤) : A.fold max (⊥ : EReal) f < ⊤ := by
  classical
  induction A using Finset.induction_on with
  | empty => exact bot_lt_top
  | insert a A ha ih =>
    rw [Finset.fold_insert ha]
    exact max_lt (h a (Finset.mem_insert_self _ _)) (ih fun i hi => h i (Finset.mem_insert_of_mem hi))

theorem masked_lt (V : IVec ⟨2, ![R, C]⟩ 1) (L : Mat R C) (j : (⟨2, ![R, C]⟩ : Shape).Idx) : (masked V L j : EReal) < ⊤ := by
  unfold masked
  by_cases e : V j = 1#1
  · exact (if_pos e).trans_lt (EReal.coe_lt_top _)
  · exact (if_neg e).trans_lt bot_lt_top

/-- The exponential of a masked logit, a real taken off. -/
theorem exp_masked {v : BitVec 1} (l m : ℝ) : Ideal.exp ((if v = 1#1 then (l : EReal) else (⊥ : EReal)) - (m : EReal))
    = (((if v = 1#1 then Real.exp l else 0) * Real.exp (-m) : ℝ) : EReal) := by
  by_cases e : v = 1#1
  · rw [if_pos e, if_pos e, ← EReal.coe_sub, ← Real.exp_add, ← sub_eq_add_neg]; rfl
  · rw [if_neg e, if_neg e, sub_eq_add_neg, EReal.bot_add, zero_mul]; rfl

section
variable (V : IVec ⟨2, ![R, C]⟩ 1) (L : Mat R C) (S : Mat R 1)

theorem select_masked {x : EReal} (hx : x = ⊥) : select V (up (φ := .f32) L) (broadcast ⟨2, ![R, C]⟩ x) = masked V L := by
  subst hx
  funext j
  show Scalar.select (V j) ((L j : ℝ) : EReal) (⊥ : EReal) = _
  rfl

theorem k_top (h : (⟨2, ![R, C]⟩ : Shape).Reduces [1] ⟨1, ![R]⟩) (hφ : FKind.Formats .f32) (hacc : (0xFF800000#32 : BitVec 32) = FKind.maximumf.neutral .f32 hφ)
    (h2 : (⟨1, ![R]⟩ : Shape).ShapeCasts ⟨2, ![R, 1]⟩) :
    maximumf (shapeCast ⟨2, ![R, 1]⟩ (multiReduction .maximumf [1] ⟨1, ![R]⟩ (masked V L) 0xFF800000#32 h hφ hacc) h2) (up (φ := .f32) S)
      = up (s := ⟨2, ![R, 1]⟩) (φ := .f32) (top V L S) := by
  funext j
  have e : shapeCast ⟨2, ![R, 1]⟩ (multiReduction .maximumf [1] ⟨1, ![R]⟩ (masked V L) 0xFF800000#32 h hφ hacc) h2 j
      = (Finset.univ : Finset (Fin C)).fold max (⊥ : EReal) fun s => masked V L (mk2 (j 0) s) := by
    refine (shapeCast_apply _ h2 j (mk1 (j 0)) ?_).trans ((Ideal.multiReduction_maximumf_single _ _ h hφ hacc (mk1 (j 0))).trans ?_)
    · rw [Shape.rowMajor_val_one, Shape.rowMajor_val_two]
      have : (j 1).val < 1 := (j 1).isLt
      show (j 0).val = (j 0).val * 1 + (j 1).val; omega
    · have e1 : (FloatOps.ofBits (F := Ideal) .f32 0xFF800000#32 : EReal) = ⊥ := lit_bot
      rw [e1]
      refine congrArg (fun g => (Finset.univ : Finset (Fin C)).fold max (⊥ : EReal) g) (funext fun k => congrArg (masked V L) (funext fun c => Fin.ext ?_))
      match c with
      | ⟨0, _⟩ => rfl
      | ⟨1, _⟩ => rfl
  refine (congrArg (fun x : EReal => max x ((S j : ℝ) : EReal)) e).trans ?_
  exact real_max (fold_lt _ _ fun s _ => masked_lt V L _) (S j)

/-- The weights and the sink's, the largest entry taken out. -/
def we : Mat R C := fun j => wt V L j * Real.exp (-top V L S (mk2 (j 0) 0))
def se : Mat R 1 := fun j => Real.exp (S j) * Real.exp (-top V L S j)
def inv : Mat R 1 := fun j => Real.exp (top V L S j) / den V L S (j 0)

theorem k_we (h : (⟨2, ![R, 1]⟩ : Shape).Broadcasts ⟨2, ![R, C]⟩) :
    exp (subf (masked V L) (broadcastTo ⟨2, ![R, C]⟩ (up (s := ⟨2, ![R, 1]⟩) (φ := .f32) (top V L S)) h)) = up (φ := .f32) (we V L S) := by
  rw [spread_col_up]
  exact funext fun j => exp_masked (L j) _
theorem k_se : exp (subf (up (φ := .f32) S) (up (s := ⟨2, ![R, 1]⟩) (φ := .f32) (top V L S))) = up (φ := .f32) (se V L S) := by
  rw [subf_up, exp_up]
  exact congrArg up (funext fun j => by rw [sub_eq_add_neg, Real.exp_add]; rfl)

theorem we_sum (r : Fin R) : ∑ s : Fin C, we V L S (mk2 r s) + se V L S (mk2 r 0) = den V L S r * Real.exp (-top V L S (mk2 r 0)) := by
  unfold den
  rw [add_mul, Finset.sum_mul]
  rfl

theorem k_inv (acc : BitVec 32) (h : (⟨2, ![R, C]⟩ : Shape).Reduces [1] ⟨1, ![R]⟩) (hφ : FKind.Formats .f32) (hacc : acc = FKind.add.neutral .f32 hφ)
    (h2 : (⟨1, ![R]⟩ : Shape).ShapeCasts ⟨2, ![R, 1]⟩) :
    divf (broadcast ⟨2, ![R, 1]⟩ (Scalar.ofBits (F := Ideal) .f32 0x3F800000#32))
      (addf (shapeCast ⟨2, ![R, 1]⟩ (multiReduction .add [1] ⟨1, ![R]⟩ (up (φ := .f32) (we V L S)) acc h hφ hacc) h2) (up (φ := .f32) (se V L S)))
      = up (s := ⟨2, ![R, 1]⟩) (φ := .f32) (inv V L S) := by
  rw [rowSum_up, cast_col_up, addf_up, splat_up lit_one]
  have e : ∀ j : (⟨2, ![R, 1]⟩ : Shape).Idx, ∑ k : Fin C, we V L S (mk2 (mk1 (j 0) 0) k) + se V L S j = den V L S (j 0) * Real.exp (-top V L S j) := fun j => by
    have ej : j = mk2 (j 0) 0 := ext2 rfl (by have : (j 1).val < 1 := (j 1).isLt; show (j 1).val = 0; omega)
    rw [ej]
    exact we_sum V L S (j 0)
  have ne : ∀ j : (⟨2, ![R, 1]⟩ : Shape).Idx, ∑ k : Fin C, we V L S (mk2 (mk1 (j 0) 0) k) + se V L S j ≠ 0 := fun j => by
    rw [e]; exact (mul_pos (den_pos V L S _) (Real.exp_pos _)).ne'
  refine (divf_up (fun _ => 1) _ ne).trans (congrArg up (funext fun j => ?_))
  rw [e, Real.exp_neg]
  unfold inv
  have := (den_pos V L S (j 0)).ne'
  have := (Real.exp_pos (top V L S j)).ne'
  field_simp

theorem k_pr (h : (⟨2, ![R, 1]⟩ : Shape).Broadcasts ⟨2, ![R, C]⟩) :
    mulf (up (φ := .f32) (we V L S)) (broadcastTo ⟨2, ![R, C]⟩ (up (s := ⟨2, ![R, 1]⟩) (φ := .f32) (inv V L S)) h) = up (φ := .f32) (pr V L S) := by
  rw [spread_col_up, mulf_up]
  refine congrArg up (funext fun j => ?_)
  show wt V L j * Real.exp (-top V L S (mk2 (j 0) 0)) * (Real.exp (top V L S (mk2 (j 0) 0)) / den V L S (j 0)) = wt V L j / den V L S (j 0)
  rw [Real.exp_neg]
  have := (Real.exp_pos (top V L S (mk2 (j 0) 0))).ne'
  field_simp
theorem k_ps : mulf (up (φ := .f32) (se V L S)) (up (s := ⟨2, ![R, 1]⟩) (φ := .f32) (inv V L S)) = up (φ := .f32) (ps V L S) := by
  rw [mulf_up]
  refine congrArg up (funext fun j => ?_)
  show Real.exp (S j) * Real.exp (-top V L S j) * (Real.exp (top V L S j) / den V L S (j 0)) = Real.exp (S j) / den V L S (j 0)
  rw [Real.exp_neg]
  have := (Real.exp_pos (top V L S j)).ne'
  field_simp
end

theorem k_de (P D : Mat R C) (acc : BitVec 32) (h : (⟨2, ![R, C]⟩ : Shape).Reduces [1] ⟨1, ![R]⟩) (hφ : FKind.Formats .f32) (hacc : acc = FKind.add.neutral .f32 hφ)
    (h2 : (⟨1, ![R]⟩ : Shape).ShapeCasts ⟨2, ![R, 1]⟩) :
    shapeCast ⟨2, ![R, 1]⟩ (multiReduction .add [1] ⟨1, ![R]⟩ (mulf (up (φ := .f32) P) (up (φ := .f32) D)) acc h hφ hacc) h2 = up (s := ⟨2, ![R, 1]⟩) (φ := .f32) (de P D) := by
  rw [mulf_up, rowSum_up, cast_col_up]
  rfl
theorem k_dl (P D : Mat R C) (h : (⟨2, ![R, 1]⟩ : Shape).Broadcasts ⟨2, ![R, C]⟩) :
    mulf (up (φ := .f32) P) (subf (up (φ := .f32) D) (broadcastTo ⟨2, ![R, C]⟩ (up (s := ⟨2, ![R, 1]⟩) (φ := .f32) (de P D)) h)) = up (s := ⟨2, ![R, C]⟩) (φ := .f32) (dl P D) := by
  rw [spread_col_up, subf_up, mulf_up]
  rfl

/-! ## Four heads' rows under one another -/

/-- Row `p` of the `g`-th of four heads. -/
def row4 (g : Fin 4) (p : Fin 128) : Fin 512 := ⟨128 * g.val + p.val, by have := g.isLt; have := p.isLt; omega⟩
def hof (r : Fin 512) : Fin 4 := ⟨r.val / 128, by have := r.isLt; omega⟩
def rof (r : Fin 512) : Fin 128 := ⟨r.val % 128, Nat.mod_lt _ (by decide)⟩
theorem hof_row4 (g : Fin 4) (p : Fin 128) : hof (row4 g p) = g := Fin.ext (by have := p.isLt; show (128 * g.val + p.val) / 128 = g.val; omega)
theorem rof_row4 (g : Fin 4) (p : Fin 128) : rof (row4 g p) = p := Fin.ext (by have := p.isLt; show (128 * g.val + p.val) % 128 = p.val; omega)

/-- Heads `o` to `o + 3` of an array, their rows under one another. -/
def slab {α : Type} {h w : ℕ} (X : (⟨3, ![h, 128, w]⟩ : Shape).Idx → α) (o : ℕ) (ho : o + 4 ≤ h) : (⟨2, ![512, w]⟩ : Shape).Idx → α :=
  fun j => X (mk3 ⟨o + (hof (j 0)).val, by have := (hof (j 0)).isLt; omega⟩ (rof (j 0)) (j 1))
theorem slab_up {h w : ℕ} {φ : FTy} (X : Cube h 128 w) (o : ℕ) (ho : o + 4 ≤ h) :
    (slab (up X : FVec Ideal ⟨3, ![h, 128, w]⟩ φ) o ho : FVec Ideal ⟨2, ![512, w]⟩ φ) = up (φ := φ) (slab X o ho) := rfl

theorem cast_slab {h w o : ℕ} (x : FVec Ideal ⟨3, ![h, 128, w]⟩ .f32)
    (inb : ∀ a, (![o, 0, 0] : Fin 3 → ℕ) a + (![4, 128, w] : Fin 3 → ℕ) a ≤ (⟨3, ![h, 128, w]⟩ : Shape).size a)
    (h1 : (⟨3, ![4, 128, w]⟩ : Shape).ShapeCasts ⟨3, ![4, 128, w]⟩) (h2 : (⟨3, ![4, 128, w]⟩ : Shape).ShapeCasts ⟨2, ![512, w]⟩) :
    shapeCast ⟨2, ![512, w]⟩ (shapeCast ⟨3, ![4, 128, w]⟩ (View.ld (Val := Elt Ideal) (e' := .f32) (S := ⟨3, ![h, 128, w]⟩) x
        (Rect.unit (s := ⟨3, ![h, 128, w]⟩) ![o, 0, 0] ![4, 128, w] inb)) h1) h2 = slab x o (inb 0) := by
  funext j
  refine (shapeCast_apply _ h2 j (mk3 (hof (j 0)) (rof (j 0)) (j 1)) ?_).trans ?_
  · rw [Shape.rowMajor_val_three, Shape.rowMajor_val_two]
    have e : (j 0).val / 128 * 128 + (j 0).val % 128 = (j 0).val := by omega
    show ((j 0).val / 128 * 128 + (j 0).val % 128) * w + (j 1).val = (j 0).val * w + (j 1).val
    rw [e]
  · refine (shapeCast_apply _ h1 _ (mk3 (hof (j 0)) (rof (j 0)) (j 1)) rfl).trans (congrArg x (ext3 ?_ ?_ ?_))
    · show o + 1 * (hof (j 0)).val = o + (hof (j 0)).val; omega
    · show 0 + 1 * (rof (j 0)).val = (rof (j 0)).val; omega
    · show 0 + 1 * (j 1).val = (j 1).val; omega

/-- Rows under one another as four heads again. -/
theorem cast_unslab {α : Type} {w : ℕ} (f : (⟨2, ![512, w]⟩ : Shape).Idx → α) (h : (⟨2, ![512, w]⟩ : Shape).ShapeCasts ⟨3, ![4, 128, w]⟩) :
    shapeCast ⟨3, ![4, 128, w]⟩ f h = fun j => f (mk2 (row4 (j 0) (j 1)) (j 2)) := by
  funext j
  refine shapeCast_apply _ h j _ ?_
  rw [Shape.rowMajor_val_three, Shape.rowMajor_val_two]
  show (128 * (j 0).val + (j 1).val) * w + (j 2).val = ((j 0).val * 128 + (j 1).val) * w + (j 2).val
  rw [Nat.mul_comm 128]

/-- Two blocks of rows under one another. -/
def two {α : Type} {w : ℕ} (A B : (⟨2, ![128, w]⟩ : Shape).Idx → α) : (⟨2, ![256, w]⟩ : Shape).Idx → α := fun j =>
  if h : (j 0).val < 128 then A (mk2 ⟨(j 0).val, h⟩ (j 1)) else B (mk2 ⟨(j 0).val - 128, by have h2 : (j 0).val < 256 := (j 0).isLt; omega⟩ (j 1))

/-- Two and four blocks of rows joined, as functions of the blocks. -/
def join2 {w : ℕ} {φ : FTy} (x y : FVec Ideal ⟨2, ![128, w]⟩ φ) (h : Shape.Concatenates [⟨2, ![128, w]⟩, ⟨2, ![128, w]⟩] ⟨2, ![256, w]⟩ 0) : FVec Ideal ⟨2, ![256, w]⟩ φ :=
  concatenate ⟨2, ![256, w]⟩ 0 [⟨⟨2, ![128, w]⟩, x⟩, ⟨⟨2, ![128, w]⟩, y⟩] h
theorem k_join2 {w : ℕ} {φ : FTy} (x y : FVec Ideal ⟨2, ![128, w]⟩ φ) (h) :
    concatenate ⟨2, ![256, w]⟩ 0 [⟨⟨2, ![128, w]⟩, x⟩, ⟨⟨2, ![128, w]⟩, y⟩] h = join2 x y h := rfl
def join4 {φ : FTy} (x y z u : FVec Ideal ⟨2, ![128, 1]⟩ φ) (h : Shape.Concatenates [⟨2, ![128, 1]⟩, ⟨2, ![128, 1]⟩, ⟨2, ![128, 1]⟩, ⟨2, ![128, 1]⟩] ⟨2, ![512, 1]⟩ 0) : FVec Ideal ⟨2, ![512, 1]⟩ φ :=
  concatenate ⟨2, ![512, 1]⟩ 0 [⟨⟨2, ![128, 1]⟩, x⟩, ⟨⟨2, ![128, 1]⟩, y⟩, ⟨⟨2, ![128, 1]⟩, z⟩, ⟨⟨2, ![128, 1]⟩, u⟩] h
theorem k_join4 {φ : FTy} (x y z u : FVec Ideal ⟨2, ![128, 1]⟩ φ) (h) :
    concatenate ⟨2, ![512, 1]⟩ 0 [⟨⟨2, ![128, 1]⟩, x⟩, ⟨⟨2, ![128, 1]⟩, y⟩, ⟨⟨2, ![128, 1]⟩, z⟩, ⟨⟨2, ![128, 1]⟩, u⟩] h = join4 x y z u h := rfl

theorem join2_two {w : ℕ} {φ : FTy} (A B : FVec Ideal ⟨2, ![128, w]⟩ φ) (h) : join2 A B h = two A B := by
  funext j
  have hj : (j 0).val < 256 := (j 0).isLt
  by_cases e : (j 0).val < 128
  · refine (concatenate_pair_apply_left (s₁ := ⟨2, ![128, w]⟩) (s₂ := ⟨2, ![128, w]⟩) 0 _ _ _ j rfl (mk2 ⟨(j 0).val, e⟩ (j 1)) fun b => by
      match b with
      | ⟨0, _⟩ => rfl
      | ⟨1, _⟩ => rfl).trans (Eq.symm ?_)
    exact dif_pos e
  · refine (concatenate_pair_apply_right (s₁ := ⟨2, ![128, w]⟩) (s₂ := ⟨2, ![128, w]⟩) 0 _ _ _ j rfl rfl (mk2 ⟨(j 0).val - 128, by omega⟩ (j 1)) (fun b hb => by
      match b with
      | ⟨0, _⟩ => exact absurd rfl hb
      | ⟨1, _⟩ => rfl) (by show (j 0).val - 128 + 128 = (j 0).val; omega)).trans (Eq.symm ?_)
    exact dif_neg e
theorem k_two {w : ℕ} {φ : FTy} (A B : Mat 128 w) (h) :
    join2 (up (φ := φ) A) (up B) h = up (s := ⟨2, ![256, w]⟩) (φ := φ) (two A B) :=
  (join2_two _ _ h).trans (funext fun j => by
    by_cases e : (j 0).val < 128
    · exact (dif_pos e).trans (congrArg (fun x : ℝ => (x : EReal)) (show two A B j = _ from dif_pos e).symm)
    · exact (dif_neg e).trans (congrArg (fun x : ℝ => (x : EReal)) (show two A B j = _ from dif_neg e).symm))

/-- Four columns under one another. -/
theorem k_four {φ : FTy} (A B D E : Mat 128 1) (h) :
    join4 (up (φ := φ) A) (up B) (up D) (up E) h = up (s := ⟨2, ![512, 1]⟩) (φ := φ) fun j => ![A, B, D, E] (hof (j 0)) (mk2 (rof (j 0)) (j 1)) := by
  funext j
  have hj : (j 0).val < 512 := (j 0).isLt
  have at_ : ∀ (k : Fin 4) (F : Mat 128 1), k.val = (j 0).val / 128 → ![A, B, D, E] k = F →
      up (s := ⟨2, ![128, 1]⟩) (φ := φ) F (mk2 (rof (j 0)) (j 1)) = up (s := ⟨2, ![512, 1]⟩) (φ := φ) (fun j => ![A, B, D, E] (hof (j 0)) (mk2 (rof (j 0)) (j 1))) j := fun k F hk hF => by
    have : hof (j 0) = k := Fin.ext hk.symm
    show ((F _ : ℝ) : EReal) = ((![A, B, D, E] (hof (j 0)) _ : ℝ) : EReal)
    rw [this, hF]
  have off : ∀ b : Fin 2, (b.cast rfl : Fin 2) ≠ 0 → ((mk2 (rof (j 0)) (j 1) : (⟨2, ![128, 1]⟩ : Shape).Idx) b).val = (j (b.cast rfl)).val := fun b hb => by
    match b with
    | ⟨0, _⟩ => exact absurd rfl hb
    | ⟨1, _⟩ => rfl
  have piece := concatenate_apply_piece (t := ⟨2, ![512, 1]⟩) 0 ([⟨⟨2, ![128, 1]⟩, (up A : FVec Ideal ⟨2, ![128, 1]⟩ φ)⟩, ⟨⟨2, ![128, 1]⟩, up (φ := φ) B⟩, ⟨⟨2, ![128, 1]⟩, up (φ := φ) D⟩, ⟨⟨2, ![128, 1]⟩, up (φ := φ) E⟩] : List ((s : Shape) × (s.Idx → EReal))) h j
  by_cases c0 : (j 0).val < 128
  · exact (piece 0 (by show 0 < 4; omega) _ _ rfl rfl 0 rfl (mk2 (rof (j 0)) (j 1)) off (by show 0 + (j 0).val % 128 = (j 0).val; omega)).trans (at_ 0 A (by show 0 = _; omega) rfl)
  by_cases c1 : (j 0).val < 256
  · exact (piece 1 (by show 1 < 4; omega) _ _ rfl rfl 128 rfl (mk2 (rof (j 0)) (j 1)) off (by show 128 + (j 0).val % 128 = (j 0).val; omega)).trans (at_ 1 B (by show 1 = _; omega) rfl)
  by_cases c2 : (j 0).val < 384
  · exact (piece 2 (by show 2 < 4; omega) _ _ rfl rfl 256 rfl (mk2 (rof (j 0)) (j 1)) off (by show 256 + (j 0).val % 128 = (j 0).val; omega)).trans (at_ 2 D (by show 2 = _; omega) rfl)
  · exact (piece 3 (by show 3 < 4; omega) _ _ rfl rfl 384 rfl (mk2 (rof (j 0)) (j 1)) off (by show 384 + (j 0).val % 128 = (j 0).val; omega)).trans (at_ 3 E (by show 3 = _; omega) rfl)

/-! ## One block -/

/-- The queries' gradient before their norm, and the sum over queries that the keys' and the values' gradients are. -/
def dqn (G : Mat 512 256) (Kn : Mat 256 64) : Mat 512 64 := fun j => (∑ s : Fin 256, G (mk2 (j 0) s) * Kn (mk2 s (j 1))) * (1 / 8)
def back (G : Mat 512 256) (Q : Mat 512 64) : Mat 256 64 := fun j => ∑ r : Fin 512, Q (mk2 r (j 1)) * G (mk2 r (j 0))
/-- Rows `o` and on of a matrix. -/
def cut {n N w : ℕ} (f : Mat N w) (o : ℕ) (ho : o + n ≤ N) : Mat n w := fun j => f (mk2 ⟨o + (j 0).val, lt_of_lt_of_le (Nat.add_lt_add_left (j 0).isLt o) ho⟩ (j 1))

def sc (S : Cube 16 1 128) (o : ℕ) (ho : o + 4 ≤ 16) : Mat 512 1 := fun j => S (mk3 ⟨o + (hof (j 0)).val, by have := (hof (j 0)).isLt; omega⟩ 0 0)

/-- The arguments of one block. -/
structure Blk where
  Q : Cube 16 128 64
  Kc : Cube 4 128 64
  Kp : Cube 4 128 64
  Vc : Cube 4 128 64
  Vp : Cube 4 128 64
  gq : Mat 1 64
  gk : Mat 1 64
  S : Cube 16 1 128
  D : Cube 16 128 64

namespace Blk
variable (B : Blk) (V : IVec ⟨2, ![512, 256]⟩ 1) (k : Fin 4)

theorem le16 : 4 * k.val + 4 ≤ 16 := by have := k.isLt; omega
def X : Mat 512 64 := slab B.Q (4 * k.val) (le16 k)
def Do : Mat 512 64 := slab B.D (4 * k.val) (le16 k)
def sk : Mat 512 1 := sc B.S (4 * k.val) (le16 k)
def qs : Mat 512 64 := fun j => xhat (B.X k) (j 0) (j 1) * B.gq (mk2 0 (j 1)) * (1 / 8)
def kn : Mat 256 64 := two (fun j => xhat (headOf B.Kp k.val k.isLt) (j 0) (j 1) * B.gk (mk2 0 (j 1))) fun j => xhat (headOf B.Kc k.val k.isLt) (j 0) (j 1) * B.gk (mk2 0 (j 1))
def vv : Mat 256 64 := two (headOf B.Vp k.val k.isLt) (headOf B.Vc k.val k.isLt)
def L : Mat 512 256 := rows (B.qs k) (B.kn k)
def P : Mat 512 256 := pr V (B.L k) (B.sk k)
def dp : Mat 512 256 := rows (B.Do k) (B.vv k)
def G : Mat 512 256 := dl (B.P V k) (B.dp k)
def dn : Mat 512 64 := dqn (B.G V k) (B.kn k)
/-- The block's results. -/
def dq : Cube 16 128 64 := fun j =>
  let k : Fin 4 := ⟨(j 0).val / 4, by have := (j 0).isLt; have h : (j 0).val < 16 := this; omega⟩
  dx (B.dn V k) (B.X k) (fun q => B.gq (mk2 0 q)) (row4 ⟨(j 0).val % 4, Nat.mod_lt _ (by decide)⟩ (j 1)) (j 2)
def dk (o : ℕ) (ho : o + 128 ≤ 256) : Cube 4 128 64 := fun j => cut (n := 128) (back (B.G V (j 0)) (B.qs (j 0))) o ho (mk2 (j 1) (j 2))
def dv (o : ℕ) (ho : o + 128 ≤ 256) : Cube 4 128 64 := fun j => cut (n := 128) (back (B.P V (j 0)) (B.Do (j 0))) o ho (mk2 (j 1) (j 2))
def dg (A : Mat 1 64) : Mat 1 64 := fun j => A j + ∑ k : Fin 4, ∑ r : Fin 512, dgRow (B.dn V k) (B.X k) r (j 1)
def ds (A : Cube 16 1 128) : Cube 16 1 128 := fun j =>
  let k : Fin 4 := ⟨(j 0).val / 4, by have := (j 0).isLt; have h : (j 0).val < 16 := this; omega⟩
  A j - ∑ p : Fin 128, ps V (B.L k) (B.sk k) (mk2 (row4 ⟨(j 0).val % 4, Nat.mod_lt _ (by decide)⟩ p) 0)
    * de (B.P V k) (B.dp k) (mk2 (row4 ⟨(j 0).val % 4, Nat.mod_lt _ (by decide)⟩ p) 0)
end Blk

/-! ## All blocks -/

/-- Which keys of its own block and of the one before a query sees: the 128 up to its own, none before the first. -/
def seen (n : Fin 16) : IVec ⟨2, ![512, 256]⟩ 1 := fun j =>
  if (rof (j 0)).val < (j 1).val ∧ (j 1).val ≤ (rof (j 0)).val + 128 ∧ (128 ≤ (j 1).val ∨ 0 < n.val) then 1#1 else 0#1

/-- The programs' words for it: a key's distance from its query, and which keys there are. -/
theorem band : ∀ (r : Fin 128) (s : Fin 256), IntOp.andi (IntOp.cmpi .sge (IntOp.subi (IntOp.addi (BitVec.ofNat 32 r.val) 128#32) (BitVec.ofNat 32 s.val)) 0#32)
    (IntOp.cmpi .slt (IntOp.subi (IntOp.addi (BitVec.ofNat 32 r.val) 128#32) (BitVec.ofNat 32 s.val)) 128#32) = if r.val < s.val ∧ s.val ≤ r.val + 128 then 1#1 else 0#1 := by
  decide +kernel
theorem both_bits (p q : Prop) [Decidable p] [Decidable q] : IntOp.andi (if p then 1#1 else 0#1) (if q then 1#1 else 0#1) = if p ∧ q then 1#1 else 0#1 := by
  by_cases hp : p <;> by_cases hq : q <;> simp only [hp, hq] <;> rfl
theorem seen_of (n : Fin 16) (j : (⟨2, ![512, 256]⟩ : Shape).Idx) {x y : BitVec 1}
    (hx : x = if (rof (j 0)).val < (j 1).val ∧ (j 1).val ≤ (rof (j 0)).val + 128 then 1#1 else 0#1) (hy : y = if 128 ≤ (j 1).val ∨ 0 < n.val then 1#1 else 0#1) :
    IntOp.andi x y = seen n j := by
  rw [hx, hy, both_bits]
  unfold seen
  exact if_congr and_assoc rfl rfl

/-- The arguments. -/
structure Ins where
  Q : Mat 2048 1024
  K : Mat 2048 256
  V : Mat 2048 256
  gq : Fin 64 → ℝ
  gk : Fin 64 → ℝ
  S : Fin 16 → ℝ
  D : Mat 2048 1024

/-- Blocks of an array, put together. -/
def glue {α : Type} {h w : ℕ} (f : Fin 16 → (⟨3, ![h, 128, w]⟩ : Shape).Idx → α) : (⟨3, ![h, 2048, w]⟩ : Shape).Idx → α := fun j =>
  f ⟨(j 1).val / 128, by have h1 : (j 1).val < 2048 := (j 1).isLt; omega⟩ (mk3 (j 0) ⟨(j 1).val % 128, Nat.mod_lt _ (by decide)⟩ (j 2))
theorem blkC_glue {α : Type} {h w : ℕ} (f : Fin 16 → (⟨3, ![h, 128, w]⟩ : Shape).Idx → α) (n : Fin 16) : blkC (glue f) n = f n := by
  funext j
  have hj : (j 1).val < 128 := (j 1).isLt
  have e1 : (⟨(rowAt n (j 1)).val / 128, by have := (rowAt n (j 1)).isLt; omega⟩ : Fin 16) = n := Fin.ext (by show (128 * n.val + (j 1).val) / 128 = n.val; omega)
  have e2 : (⟨(rowAt n (j 1)).val % 128, Nat.mod_lt _ (by decide)⟩ : Fin 128) = j 1 := Fin.ext (by show (128 * n.val + (j 1).val) % 128 = (j 1).val; omega)
  show f ⟨(rowAt n (j 1)).val / 128, _⟩ (mk3 (j 0) ⟨(rowAt n (j 1)).val % 128, _⟩ (j 2)) = f n j
  rw [e1, e2]
  exact congrArg (f n) (eq_mk3 j).symm

/-- The sum of the first `n` of sixteen terms. -/
def acc (F : Fin 16 → ℝ) (n : ℕ) : ℝ := ∑ i : Fin 16, if i.val < n then F i else 0
theorem acc_zero (F : Fin 16 → ℝ) : acc F 0 = 0 := Finset.sum_eq_zero fun i _ => if_neg (Nat.not_lt_zero _)
theorem acc_all (F : Fin 16 → ℝ) : acc F 16 = ∑ i, F i := Finset.sum_congr rfl fun i _ => if_pos i.isLt
theorem acc_succ (F : Fin 16 → ℝ) (t : Fin 16) : acc F (t.val + 1) = acc F t.val + F t := by
  have e : F t = ∑ i : Fin 16, if i = t then F i else 0 := by rw [Finset.sum_ite_eq' Finset.univ t]; exact (if_pos (Finset.mem_univ _)).symm
  rw [e]
  unfold acc
  rw [← Finset.sum_add_distrib]
  refine Finset.sum_congr rfl fun i _ => ?_
  rcases lt_trichotomy i.val t.val with h | h | h
  · rw [if_pos (by omega), if_pos h, if_neg (fun x => by rw [x] at h; omega), add_zero]
  · rw [if_pos (by omega), if_neg (by omega), if_pos (Fin.ext h), zero_add]
  · rw [if_neg (by omega), if_neg (by omega), if_neg (fun x => by rw [x] at h; omega), add_zero]

namespace Ins
variable (I : Ins)

/-- Block `n`'s arguments; the first block's previous keys are its own, none of which a query sees there. -/
def blk (n : Fin 16) : Blk where
  Q := blkC (heads (h := 16) (w := 64) rfl I.Q) n
  Kc := blkC (heads (h := 4) (w := 64) rfl I.K) n
  Kp := blkC (heads (h := 4) (w := 64) rfl I.K) (prevT n)
  Vc := blkC (heads (h := 4) (w := 64) rfl I.V) n
  Vp := blkC (heads (h := 4) (w := 64) rfl I.V) (prevT n)
  gq := fun j => I.gq (j 1)
  gk := fun j => I.gk (j 1)
  S := fun j => I.S (j 0)
  D := blkC (heads (h := 16) (w := 64) rfl I.D) n

def resQ : Cube 16 2048 64 := glue fun n => (I.blk n).dq (seen n)
def resK (o : ℕ) (ho : o + 128 ≤ 256) : Cube 4 2048 64 := glue fun n => (I.blk n).dk (seen n) o ho
def resV (o : ℕ) (ho : o + 128 ≤ 256) : Cube 4 2048 64 := glue fun n => (I.blk n).dv (seen n) o ho
theorem blk_Q (n : Fin 16) : blkC I.resQ n = (I.blk n).dq (seen n) := blkC_glue (fun n => (I.blk n).dq (seen n)) n
theorem blk_K (o : ℕ) (ho : o + 128 ≤ 256) (n : Fin 16) : blkC (I.resK o ho) n = (I.blk n).dk (seen n) o ho := blkC_glue (fun n => (I.blk n).dk (seen n) o ho) n
theorem blk_V (o : ℕ) (ho : o + 128 ≤ 256) (n : Fin 16) : blkC (I.resV o ho) n = (I.blk n).dv (seen n) o ho := blkC_glue (fun n => (I.blk n).dv (seen n) o ho) n
/-- A block's part of the gain's gradient and of the sinks', and the sums over the first `n` blocks. -/
def gPart (q : Fin 64) (n : Fin 16) : ℝ := ∑ k : Fin 4, ∑ r : Fin 512, dgRow ((I.blk n).dn (seen n) k) ((I.blk n).X k) r q
def sPart (h : Fin 16) (n : Fin 16) : ℝ :=
  let k : Fin 4 := ⟨h.val / 4, by have := h.isLt; omega⟩;
  (-(∑ p : Fin 128, ps (seen n) ((I.blk n).L k) ((I.blk n).sk k) (mk2 (row4 ⟨h.val % 4, Nat.mod_lt _ (by decide)⟩ p) 0)
    * de ((I.blk n).P (seen n) k) ((I.blk n).dp k) (mk2 (row4 ⟨h.val % 4, Nat.mod_lt _ (by decide)⟩ p) 0)))
def accG (n : ℕ) : Mat 1 64 := fun j => acc (I.gPart (j 1)) n
def accS (n : ℕ) : Cube 16 1 128 := fun j => acc (I.sPart (j 0)) n

theorem accG_zero : (fun _ => 0 : Mat 1 64) = I.accG 0 := funext fun j => (acc_zero _).symm
theorem accS_zero : (fun _ => 0 : Cube 16 1 128) = I.accS 0 := funext fun j => (acc_zero _).symm
theorem accG_succ (t : Fin 16) : (I.blk t).dg (seen t) (I.accG t.val) = I.accG (t.val + 1) := funext fun j => (acc_succ (I.gPart (j 1)) t).symm
theorem accS_succ (t : Fin 16) : (I.blk t).ds (seen t) (I.accS t.val) = I.accS (t.val + 1) := funext fun j =>
  (sub_eq_add_neg _ _).trans (acc_succ (I.sPart (j 0)) t).symm
end Ins

end Cert.Att

end
-- ==== Proof.AttnBlock.lean ====
/-
  The gradient of the attention of one block of queries, as the kernel computes it for finite arguments.
-/
module

public import proofs.«01_k».proof.Proof.Att
public import proofs.«01_k».proof.Proof.Gen.AttnBwdIdeal.Value

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.AttnBlock

open Cert.Reals Cert.Norm Cert.Arrays Cert.Heads Cert.Rows Cert.Prods Cert.Att Cert.AttnBwdIdeal Cert.AttnBwdIdeal.Gen

/-! ## One block -/

theorem slice_rows {n N w o : ℕ} {φ : FTy} (f : Mat N w) (h : (⟨2, ![N, w]⟩ : Shape).Slices ![o, 0] ⟨2, ![n, w]⟩) :
    extractStridedSlice ⟨2, ![n, w]⟩ ![o, 0] (up f : FVec Ideal ⟨2, ![N, w]⟩ φ) h = up (φ := φ) (cut (n := n) f o (h.2 0)) :=
  funext fun j => extractStridedSlice_apply _ _ h j _ fun x => by
    match x with
    | ⟨0, _⟩ => rfl
    | ⟨1, _⟩ => exact (Nat.zero_add _).symm

theorem k_lg (Q : Mat 512 64) (X : Mat 256 64) :
    matmul dot_S512x64_S256x64_S512x256_1_1_0_0_n_n none (up (φ := .bf16) Q) (up (φ := .bf16) X) (constant S512x256 .f32 0x00000000#32) = up (φ := .f32) (rows Q X) :=
  dotNT_up _ Q X none

theorem k_masked (V : IVec S512x256 1) (L : Mat 512 256) :
    select V (up (φ := .f32) L) (broadcast S512x256 (Named.named (F := Ideal) κ "mask" 0xF149F2CA#32)) = masked V L :=
  select_masked V L (IdealRules.named_const.ideal_named_scalar _ _ _ _ rfl)

theorem k_mean (P D : Mat 512 256) (acc : BitVec 32) (h : S512x256.Reduces [1] S512) (hφ : FKind.Formats .f32) (hacc : acc = FKind.add.neutral .f32 hφ)
    (h2 : S512.ShapeCasts S512x1) :
    shapeCast S512x1 (multiReduction .add [1] S512 (mulf (up (s := S512x256) (φ := .f32) P) (up (φ := .f32) D)) acc h hφ hacc) h2 = up (s := S512x1) (φ := .f32) (de P D) :=
  k_de P D acc h hφ hacc h2

theorem k_eighth {s : Shape} (f : s.Idx → ℝ) :
    mulf (up (φ := .f32) f) (broadcast s (Scalar.ofBits (F := Ideal) .f32 0x3E000000#32)) = up (φ := .f32) fun j => f j * (1 / 8) := by
  rw [splat_up lit_eighth, mulf_up]

theorem k_dqn (G : Mat 512 256) (Kn : Mat 256 64) :
    mulf (matmul dot_S512x256_S256x64_S512x64_1_0_0_1_n_n none (up (φ := .bf16) G) (up (φ := .bf16) Kn) (constant S512x64 .f32 0x00000000#32))
      (broadcast S512x64 (Scalar.ofBits (F := Ideal) .f32 0x3E000000#32)) = up (φ := .f32) (dqn G Kn) := by
  refine (congrArg (fun x => mulf x (broadcast S512x64 (Scalar.ofBits (F := Ideal) .f32 0x3E000000#32))) (dotNN_up _ G Kn none)).trans ?_
  exact k_eighth _

theorem swap_up {n w : ℕ} {φ : FTy} (f : Mat n w) (h : (⟨2, ![n, w]⟩ : Shape).Transposes [1, 0] ⟨2, ![w, n]⟩) :
    transpose ⟨2, ![w, n]⟩ [1, 0] (up f : FVec Ideal ⟨2, ![n, w]⟩ φ) h = up (φ := φ) fun j => f (mk2 (j 1) (j 0)) :=
  funext fun j => transpose_apply _ _ h j _ fun b => by
    match b with
    | ⟨0, _⟩ => rfl
    | ⟨1, _⟩ => rfl

theorem k_back (G : Mat 512 256) (Q : Mat 512 64) (h1 h2) :
    transpose S256x64 [1, 0] (matmul dot_S64x512_S512x256_S64x256_1_0_0_1_n_n none (truncf .bf16 (transpose S64x512 [1, 0] (up (s := S512x64) (φ := .f32) Q) h1) bitsLt_bf16_f32)
      (up (φ := .bf16) G) (constant S64x256 .f32 0x00000000#32)) h2 = up (φ := .f32) (back G Q) := by
  rw [swap_up, truncf_up]
  refine (congrArg (fun x => transpose S256x64 [1, 0] x h2) (dotNN_up _ (fun j => Q (mk2 (j 1) (j 0)) : Mat 64 512) G none)).trans ?_
  exact swap_up _ _

/-- One head's sink, in every row, and the four heads' under one another. -/
theorem k_sink (f : Mat 1 128) (h1) (h2) (h3) :
    broadcastTo S128x1 (shapeCast S1x1 (extractStridedSlice S1x1 ![0, 0] (up (s := S1x128) (φ := .f32) f) h1) h2) h3 = up (s := S128x1) (φ := .f32) fun _ => f (mk2 0 0) := by
  rw [slice_cols f h1, cast_self_up]
  refine (spread_row_up (a := 128) (b := 1) _ h3).trans (congrArg up (funext fun j => congrArg f (ext2 rfl ?_)))
  have : (j 1).val < 1 := (j 1).isLt
  show 0 + (j 1).val = 0; omega

theorem k_sinks (S : Cube 16 1 128) (o o1 o2 o3 : ℕ) (h0 h1 h2 h3) (e1 : o1 = o + 1) (e2 : o2 = o + 2) (e3 : o3 = o + 3) (h) :
    join4 (up (φ := .f32) fun _ => headOf S o h0 (mk2 0 0)) (up fun _ => headOf S o1 h1 (mk2 0 0)) (up fun _ => headOf S o2 h2 (mk2 0 0)) (up fun _ => headOf S o3 h3 (mk2 0 0)) h
      = up (s := S512x1) (φ := .f32) (sc S o (by omega)) := by
  subst e1 e2 e3
  refine (k_four _ _ _ _ h).trans (congrArg up (funext fun j => ?_))
  unfold sc
  have : ∀ k : Fin 4, (![fun _ => headOf S o h0 (mk2 0 0), fun _ => headOf S (o + 1) h1 (mk2 0 0), fun _ => headOf S (o + 2) h2 (mk2 0 0), fun _ => headOf S (o + 3) h3 (mk2 0 0)] :
      Fin 4 → Mat 128 1) k (mk2 (rof (j 0)) (j 1)) = S (mk3 ⟨o + k.val, by have := k.isLt; omega⟩ 0 0) := fun k => by
    fin_cases k <;> rfl
  exact this _

/-- Four heads' part of the sinks' gradient, row by row, and one head's sum added to what stood there. -/
theorem k_sd (V : IVec S512x256 1) (L : Mat 512 256) (S : Mat 512 1) (P D : Mat 512 256) :
    mulf (up (φ := .f32) (ps V L S)) (up (φ := .f32) (de P D)) = up (φ := .f32) fun j => ps V L S j * de P D j := mulf_up _ _

theorem k_ds (W : Mat 128 1) (A : Mat 1 128) (acc : BitVec 32) (h : S128x1.Reduces [0] S1) (hφ : FKind.Formats .f32) (hacc : acc = FKind.add.neutral .f32 hφ) (h2) (h3) (h4) :
    addf (up (φ := .f32) A) (broadcastTo S1x128 (shapeCast S1x1 (subf (up (s := S1x1) (φ := .f32) fun _ => 0)
        (shapeCast S1x1 (multiReduction .add [0] S1 (up (s := S128x1) (φ := .f32) W) acc h hφ hacc) h2)) h3) h4)
      = up (s := S1x128) (φ := .f32) fun j => A j - ∑ p : Fin 128, W (mk2 p 0) := by
  rw [colSum_up, cast_row_up, subf_up, cast_self_up]
  refine (congrArg (addf _) (spread_col_up (a := 1) (b := 128) _ h4)).trans ((addf_up _ _).trans (congrArg up (funext fun j => ?_)))
  show A j + (0 - ∑ p : Fin 128, W (mk2 p 0)) = _
  ring

theorem k_scaled {n : ℕ} (D : Mat n 64) (g : Mat 1 64) (h : S1x64.Broadcasts ⟨2, ![n, 64]⟩) :
    mulf (up (s := ⟨2, ![n, 64]⟩) (φ := .f32) D) (broadcastTo ⟨2, ![n, 64]⟩ (up (s := S1x64) (φ := .f32) g) h) = up (s := ⟨2, ![n, 64]⟩) (φ := .f32) fun j => D j * g (mk2 0 (j 1)) := by
  rw [spread_row_up, mulf_up]

/-! ## How the results are stored -/

theorem dq_part (B : Blk) (V : IVec S512x256 1) (k : Fin 4) (o : ℕ) (ho : o = 4 * k.val) :
    Holds (up (s := S16x128x64) (φ := .bf16) (B.dq V))
      (fun j : S4x128x64.Idx => up (s := S512x64) (φ := .bf16) (fun j => dx (B.dn V k) (B.X k) (fun q => B.gq (mk2 0 q)) (j 0) (j 1)) (mk2 (row4 (j 0) (j 1)) (j 2))) o := by
  subst ho
  intro j i h0 h1 h2
  have hj : (j 0).val < 4 := (j 0).isLt
  have hk := k.isLt
  refine congrArg (fun x : ℝ => (x : EReal)) ?_
  unfold Blk.dq
  have e1 : (⟨(i 0).val / 4, by omega⟩ : Fin 4) = k := Fin.ext (by show (i 0).val / 4 = k.val; omega)
  have e2 : (⟨(i 0).val % 4, Nat.mod_lt _ (by decide)⟩ : Fin 4) = j 0 := Fin.ext (by show (i 0).val % 4 = (j 0).val; omega)
  dsimp only
  rw [e1, e2]
  have e3 : i 1 = j 1 := Fin.ext h1
  have e4 : i 2 = j 2 := Fin.ext h2
  rw [e3, e4]
  rfl

theorem row_inb (n : ℕ) (h : n + 1 ≤ 16) : ∀ a, (![n, 0, 0] : Fin 3 → ℕ) a + (![1, 1, 128] : Fin 3 → ℕ) a ≤ S16x1x128.size a := fun a => by
  match a with
  | ⟨0, _⟩ => exact h
  | ⟨1, _⟩ => exact le_rfl
  | ⟨2, _⟩ => exact le_rfl

/-- The first `n` of sixteen rows, stored one after another. -/
def rowPieces (f : Fin 16 → S1x1x128.Idx → EReal) : (n : ℕ) → n ≤ 16 → List (View.Piece (Elt Ideal) S16x1x128 .f32)
  | 0, _ => []
  | n + 1, h => ⟨Rect.unit (s := S16x1x128) ![n, 0, 0] ![1, 1, 128] (row_inb n h), f ⟨n, h⟩⟩ :: rowPieces f n (Nat.le_of_succ_le h)

theorem canon_rows (G : S16x1x128.Idx → EReal) (f : Fin 16 → S1x1x128.Idx → EReal) (hf : ∀ (i : Fin 16) j, f i j = G (mk3 i (j 1) (j 2)))
    (L : List (View.Piece (Elt Ideal) S16x1x128 .f32)) : View.canon (rowPieces f 16 le_rfl ++ L) = G := by
  have of : ∀ (n : ℕ) (hn : n ≤ 16), View.PiecesOf (Val := Elt Ideal) (s := S16x1x128) (e := .f32) G (rowPieces f n hn) := fun n => by
    induction n with
    | zero => exact fun _ => trivial
    | succ n ih =>
      refine fun hn => ⟨fun x => (hf ⟨n, hn⟩ x).trans (congrArg G (ext3 ?_ ?_ ?_)), ih _⟩
      · have : (x 0).val < 1 := (x 0).isLt
        show n = n + 1 * (x 0).val; omega
      · show (x 1).val = 0 + 1 * (x 1).val; omega
      · show (x 2).val = 0 + 1 * (x 2).val; omega
  have mem : ∀ (n : ℕ) (hn : n ≤ 16) (y : S16x1x128.Idx), (y 0).val < n → ∃ p ∈ rowPieces f n hn, y ∈ p.1.set := fun n => by
    induction n with
    | zero => exact fun _ y hy => absurd hy (Nat.not_lt_zero _)
    | succ n ih =>
      intro hn y hy
      by_cases e : (y 0).val = n
      · refine ⟨_, List.mem_cons_self, (Rect.mem_set_unit (inb := row_inb n hn)).mpr fun a => ?_⟩
        match a with
        | ⟨0, _⟩ => exact ⟨e.ge, by show (y 0).val < n + 1; omega⟩
        | ⟨1, _⟩ => exact ⟨Nat.zero_le _, by have := (y 1).isLt; show (y 1).val < 0 + 1; exact this⟩
        | ⟨2, _⟩ => exact ⟨Nat.zero_le _, by have h2 : (y 2).val < 128 := (y 2).isLt; show (y 2).val < 0 + 128; omega⟩
      · obtain ⟨p, hp, hy'⟩ := ih (Nat.le_of_succ_le hn) y (by omega)
        exact ⟨p, List.mem_cons_of_mem _ hp, hy'⟩
  exact funext fun y => View.canon_append_of_piecesOf (Val := Elt Ideal) (e := .f32) G L _ (of 16 le_rfl) y (mem 16 le_rfl y (y 0).isLt)

def dsRow (B : Blk) (V : IVec S512x256 1) (A : Cube 16 1 128) (i : Fin 16) : S1x1x128.Idx → EReal :=
  let k : Fin 4 := ⟨i.val / 4, by have := i.isLt; omega⟩
  fun j => up (s := S1x128) (φ := .f32) (fun j => headOf A i.val i.isLt j
    - ∑ p : Fin 128, cut (n := 128) (fun j => ps V (B.L k) (B.sk k) j * de (B.P V k) (B.dp k) j) (128 * (i.val % 4)) (by omega) (mk2 p 0)) (mk2 (j 1) (j 2))

theorem dsRow_eq (B : Blk) (V : IVec S512x256 1) (A : Cube 16 1 128) (i : Fin 16) (j : S1x1x128.Idx) : dsRow B V A i j = up (s := S16x1x128) (φ := .f32) (B.ds V A) (mk3 i (j 1) (j 2)) := rfl

set_option maxHeartbeats 4000000 in
theorem outA (c : Dev nD) (t : Fin cfg0.N) (B : Blk) (hc : cond0_0 (grid0.coords t)) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S16x128x64) (φ := .bf16) (B.dq (k0_pay5 (grid0.coords t))) ∧
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S4x128x64) (φ := .f32) (B.dk (k0_pay5 (grid0.coords t)) 128 (by decide)) ∧
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S4x128x64) (φ := .f32) (B.dk (k0_pay5 (grid0.coords t)) 0 (by decide)) ∧
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S4x128x64) (φ := .f32) (B.dv (k0_pay5 (grid0.coords t)) 128 (by decide)) ∧
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S4x128x64) (φ := .f32) (B.dv (k0_pay5 (grid0.coords t)) 0 (by decide)) ∧
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S1x64) (φ := .f32) (B.dg (k0_pay5 (grid0.coords t)) (fun _ => 0)) ∧
    out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D)
      = up (s := S16x1x128) (φ := .f32) (B.ds (k0_pay5 (grid0.coords t)) (fun _ => 0)) := by
  refine ⟨(View.read_writes_eq_canon _ _ _ fun y => cover0_A_9 ..).trans ?_, (View.read_writes_eq_canon _ _ _ fun y => cover0_A_10 ..).trans ?_, (View.read_writes_eq_canon _ _ _ fun y => cover0_A_11 ..).trans ?_, (View.read_writes_eq_canon _ _ _ fun y => cover0_A_12 ..).trans ?_, (View.read_writes_eq_canon _ _ _ fun y => cover0_A_13 ..).trans ?_, ?_, (View.read_writes_eq_canon _ _ _ fun y => cover0_A_15 ..).trans ?_⟩
  on_goal 6 => unfold out0_A_14
  all_goals
    unfold kernelRun0_A
    dsimp only
    sl_unfold_words
    try simp (disch := decide +kernel) only [↓View.readCov_skip (s := S16x1x128), ↓View.readCov_fill (s := S16x1x128)]
    try simp -index only [View.readCov_full (s := S1x64), View.read_writes_full (s := S1x64)]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S1x64) hz2]
    simp -index only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165,
      cast_ld, headOf_up, cast_slab, slab_up, cast_self_up, truncf_up, k_rinv lit_64 (by norm_num), k_xhat, k_scaled, k_eighth, k_join2, k_join4, k_two, k_sink, k_sinks, k_lg, k_masked, k_top, k_we, k_se, k_inv, k_pr, k_ps, k_mean, k_dl, k_dqn, k_back, k_dxv lit_64 (by norm_num), k_dg, k_sd, k_ds, slice_rows, cast_head, cast_unslab, splat_up lit_zero]
  · exact canon_parts (k := 4) _ _ _ _ _ rfl rfl rfl rfl _ _ _ _ (dq_part B _ 0 _ rfl) (dq_part B _ 1 _ rfl) (dq_part B _ 2 _ rfl) (dq_part B _ 3 _ rfl)
  · exact canon_heads _ _ _ _ _ _ _ _ _ rfl rfl rfl rfl
  · exact canon_heads _ _ _ _ _ _ _ _ _ rfl rfl rfl rfl
  · exact canon_heads _ _ _ _ _ _ _ _ _ rfl rfl rfl rfl
  · exact canon_heads _ _ _ _ _ _ _ _ _ rfl rfl rfl rfl
  · rw [addf_up]
    refine congrArg up (funext fun j => ?_)
    unfold Blk.dg
    rw [Fin.sum_univ_four]
    simp only [zero_add, ← add_assoc]
    rfl
  · exact canon_rows _ (dsRow B (k0_pay5 (grid0.coords t)) (fun _ => 0)) (dsRow_eq B _ _) _

set_option maxHeartbeats 4000000 in
theorem outB (c : Dev nD) (t : Fin cfg0.N) (B : Blk) (A : Mat 1 64) (A2 : Cube 16 1 128) (hc : ¬ cond0_0 (grid0.coords t)) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S16x128x64) (φ := .bf16) (B.dq (k0_pay5 (grid0.coords t))) ∧
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S4x128x64) (φ := .f32) (B.dk (k0_pay5 (grid0.coords t)) 128 (by decide)) ∧
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S4x128x64) (φ := .f32) (B.dk (k0_pay5 (grid0.coords t)) 0 (by decide)) ∧
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S4x128x64) (φ := .f32) (B.dv (k0_pay5 (grid0.coords t)) 128 (by decide)) ∧
    out0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S4x128x64) (φ := .f32) (B.dv (k0_pay5 (grid0.coords t)) 0 (by decide)) ∧
    out0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S1x64) (φ := .f32) (B.dg (k0_pay5 (grid0.coords t)) A) ∧
    out0_B_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) hc
        (up (φ := .f32) B.Q) (up (φ := .f32) B.Kc) (up (φ := .f32) B.Kp) (up (φ := .f32) B.Vc) (up (φ := .f32) B.Vp) (up (φ := .f32) B.gq) (up (φ := .f32) B.gk) (up (φ := .f32) B.S) (up (φ := .f32) B.D) (up (φ := .f32) A) (up (φ := .f32) A2)
      = up (s := S16x1x128) (φ := .f32) (B.ds (k0_pay5 (grid0.coords t)) A2) := by
  refine ⟨(View.read_writes_eq_canon _ _ _ fun y => cover0_B_9 ..).trans ?_, (View.read_writes_eq_canon _ _ _ fun y => cover0_B_10 ..).trans ?_, (View.read_writes_eq_canon _ _ _ fun y => cover0_B_11 ..).trans ?_, (View.read_writes_eq_canon _ _ _ fun y => cover0_B_12 ..).trans ?_, (View.read_writes_eq_canon _ _ _ fun y => cover0_B_13 ..).trans ?_, ?_, (View.read_writes_eq_canon _ _ _ fun y => cover0_B_15 ..).trans ?_⟩
  on_goal 6 => unfold out0_B_14
  all_goals
    unfold kernelRun0_B
    dsimp only
    sl_unfold_words
    try simp (disch := decide +kernel) only [↓View.readCov_skip (s := S16x1x128)]
    try simp -index only [View.readCov_full (s := S1x64), View.read_writes_full (s := S1x64)]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_14 t).read_unread, (hs0_15 t).read_unread, View.ld_unit_zero (S := S1x64) hz2]
    simp -index only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165,
      cast_ld, headOf_up, cast_slab, slab_up, cast_self_up, truncf_up, k_rinv lit_64 (by norm_num), k_xhat, k_scaled, k_eighth, k_join2, k_join4, k_two, k_sink, k_sinks, k_lg, k_masked, k_top, k_we, k_se, k_inv, k_pr, k_ps, k_mean, k_dl, k_dqn, k_back, k_dxv lit_64 (by norm_num), k_dg, k_sd, k_ds, slice_rows, cast_head, cast_unslab, splat_up lit_zero]
  · exact canon_parts (k := 4) _ _ _ _ _ rfl rfl rfl rfl _ _ _ _ (dq_part B _ 0 _ rfl) (dq_part B _ 1 _ rfl) (dq_part B _ 2 _ rfl) (dq_part B _ 3 _ rfl)
  · exact canon_heads _ _ _ _ _ _ _ _ _ rfl rfl rfl rfl
  · exact canon_heads _ _ _ _ _ _ _ _ _ rfl rfl rfl rfl
  · exact canon_heads _ _ _ _ _ _ _ _ _ rfl rfl rfl rfl
  · exact canon_heads _ _ _ _ _ _ _ _ _ rfl rfl rfl rfl
  · rw [addf_up]
    refine congrArg up (funext fun j => ?_)
    unfold Blk.dg
    rw [Fin.sum_univ_four]
    simp only [zero_add, ← add_assoc]
    rfl
  · exact canon_rows _ (dsRow B (k0_pay5 (grid0.coords t)) A2) (dsRow_eq B _ _) []

end Cert.AttnBlock

end
-- ==== Proof.AttnKernel.lean ====
/-
  The gradient of the attention, as the kernel computes it for finite arguments: its blocks put together.
-/
module

public import proofs.«01_k».proof.Proof.AttnBlock

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.AttnKernel

open Cert.Reals Cert.Norm Cert.Arrays Cert.Heads Cert.Att Cert.AttnBlock Cert.AttnBwdIdeal Cert.AttnBwdIdeal.Gen

theorem lt16 (t : Fin cfg0.N) : t.val < 16 := lt_of_lt_of_eq t.isLt (show cfg0.N = 16 from N_0)
/-- A point of the grid as a block number. -/
def no (t : Fin cfg0.N) : Fin 16 := ⟨t.val, lt16 t⟩
/-- The point whose block holds row `i`. -/
def pt (i : Fin 2048) : Fin cfg0.N := ⟨i.val / 128, by rw [show cfg0.N = 16 from N_0]; have := i.isLt; omega⟩
def tLast : Fin cfg0.N := ⟨15, by rw [show cfg0.N = 16 from N_0]; decide⟩

/-! ## The mask -/

theorem coord : ∀ t : Fin cfg0.N, (grid0.coords t 0).val = t.val := (by decide +kernel : ∀ t : Fin grid0.N, _)
theorem low : ∀ r : Fin 512, IntOp.andi (BitVec.ofNat 32 r.val) 127#32 = BitVec.ofNat 32 (rof r).val := by decide +kernel
theorem there : ∀ (n : Fin 16) (s : Fin 256), IntOp.ori (IntOp.cmpi .sge (BitVec.ofNat 32 s.val) 128#32) (IntOp.cmpi .sgt (BitVec.ofNat 32 n.val) 0#32)
    = if 128 ≤ s.val ∨ 0 < n.val then 1#1 else 0#1 := by decide +kernel

theorem mask_eq (t : Fin cfg0.N) : k0_pay5 (grid0.coords t) = seen (no t) := by
  funext j
  refine Eq.trans ?_ (seen_of (no t) j (band (rof (j 0)) (j 1)) (there (no t) (j 1)))
  unfold k0_pay5
  dsimp only
  rw [coord t, ← low (j 0)]
  have e0 : iota .tc S512x256 32 [0] iota_S512x256_d0_w32 j = BitVec.ofNat 32 (j 0).val := congrArg (BitVec.ofNat 32) (by show 0 * 512 + (j 0).val = _; omega)
  have e1 : iota .tc S512x256 32 [1] iota_S512x256_d1_w32 j = BitVec.ofNat 32 (j 1).val := congrArg (BitVec.ofNat 32) (by show 0 * 256 + (j 1).val = _; omega)
  rw [← e0, ← e1]
  rfl

/-! ## The arguments' blocks -/

theorem index : ∀ t : Fin cfg0.N, (win0_0.index t 0 = 0 ∧ win0_0.index t 1 = t.val ∧ win0_0.index t 2 = 0)
    ∧ (win0_1.index t 0 = 0 ∧ win0_1.index t 1 = t.val ∧ win0_1.index t 2 = 0) ∧ (win0_2.index t 0 = 0 ∧ win0_2.index t 1 = t.val - 1 ∧ win0_2.index t 2 = 0)
    ∧ (win0_3.index t 0 = 0 ∧ win0_3.index t 1 = t.val ∧ win0_3.index t 2 = 0) ∧ (win0_4.index t 0 = 0 ∧ win0_4.index t 1 = t.val - 1 ∧ win0_4.index t 2 = 0)
    ∧ (win0_5.index t 0 = 0 ∧ win0_5.index t 1 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = t.val ∧ win0_8.index t 2 = 0) :=
  (by decide +kernel : ∀ t : Fin grid0.N, _)
theorem index_out : ∀ t : Fin cfg0.N, (win0_9.index t 0 = 0 ∧ win0_9.index t 1 = t.val ∧ win0_9.index t 2 = 0)
    ∧ (win0_10.index t 0 = 0 ∧ win0_10.index t 1 = t.val ∧ win0_10.index t 2 = 0) ∧ (win0_11.index t 0 = 0 ∧ win0_11.index t 1 = t.val ∧ win0_11.index t 2 = 0)
    ∧ (win0_12.index t 0 = 0 ∧ win0_12.index t 1 = t.val ∧ win0_12.index t 2 = 0) ∧ (win0_13.index t 0 = 0 ∧ win0_13.index t 1 = t.val ∧ win0_13.index t 2 = 0)
    ∧ (win0_14.index t 0 = 0 ∧ win0_14.index t 1 = 0) ∧ (win0_15.index t 0 = 0 ∧ win0_15.index t 1 = 0 ∧ win0_15.index t 2 = 0) :=
  (by decide +kernel : ∀ t : Fin grid0.N, _)

variable (m : (ℓ : Loc nD τ sig) → Buf (Elt Ideal) ℓ) (c : Dev nD)

theorem V1 : V m c main_v1 = broadcastInDim S16x1x128 ![0, 1, 2] bcast_S16x1x1_S16x1x128_0_1_2 (broadcastInDim S16x1x1 ![0] bcast_S16_S16x1x1_0 (m (c.tc.loc main_arg5))) := by
  show StableHlo.after hostOps0 (fun b => m (c, b)) main_v1 = _
  after_results_simp <;> rfl
theorem V3 : V m c main_v3 = transpose S16x2048x64 [1, 0, 2] (shapeCast S2048x16x64 (m (c.tc.loc main_arg0)) shapeCasts_S2048x1024_S2048x16x64) transposes_S2048x16x64_S16x2048x64_1_0_2 := by
  show StableHlo.after hostOps0 (fun b => m (c, b)) main_v3 = _
  after_results_simp <;> rfl
theorem V5 : V m c main_v5 = transpose S4x2048x64 [1, 0, 2] (shapeCast S2048x4x64 (m (c.tc.loc main_arg1)) shapeCasts_S2048x256_S2048x4x64) transposes_S2048x4x64_S4x2048x64_1_0_2 := by
  show StableHlo.after hostOps0 (fun b => m (c, b)) main_v5 = _
  after_results_simp <;> rfl
theorem V7 : V m c main_v7 = transpose S4x2048x64 [1, 0, 2] (shapeCast S2048x4x64 (m (c.tc.loc main_arg2)) shapeCasts_S2048x256_S2048x4x64) transposes_S2048x4x64_S4x2048x64_1_0_2 := by
  show StableHlo.after hostOps0 (fun b => m (c, b)) main_v7 = _
  after_results_simp <;> rfl
theorem V9 : V m c main_v9 = transpose S16x2048x64 [1, 0, 2] (shapeCast S2048x16x64 (m (c.tc.loc main_arg6)) shapeCasts_S2048x1024_S2048x16x64) transposes_S2048x16x64_S16x2048x64_1_0_2 := by
  show StableHlo.after hostOps0 (fun b => m (c, b)) main_v9 = _
  after_results_simp <;> rfl
theorem V10 : V m c main_v10 = shapeCast S1x64 (m (c.tc.loc main_arg3)) shapeCasts_S64_S1x64 := by
  show StableHlo.after hostOps0 (fun b => m (c, b)) main_v10 = _
  after_results_simp <;> rfl
theorem V11 : V m c main_v11 = shapeCast S1x64 (m (c.tc.loc main_arg4)) shapeCasts_S64_S1x64 := by
  show StableHlo.after hostOps0 (fun b => m (c, b)) main_v11 = _
  after_results_simp <;> rfl

theorem heads_up {h k : ℕ} (e : k = h * 64) (X : Mat 2048 k) (hs : (⟨2, ![2048, k]⟩ : Shape).ShapeCasts ⟨3, ![2048, h, 64]⟩) (ht : (⟨3, ![2048, h, 64]⟩ : Shape).Transposes [1, 0, 2] ⟨3, ![h, 2048, 64]⟩) :
    transpose ⟨3, ![h, 2048, 64]⟩ [1, 0, 2] (shapeCast ⟨3, ![2048, h, 64]⟩ (up (s := ⟨2, ![2048, k]⟩) (φ := .f32) X) hs) ht = up (φ := .f32) (heads (h := h) (w := 64) e X) :=
  (congrArg (fun x => transpose ⟨3, ![h, 2048, 64]⟩ [1, 0, 2] x ht) (cast_split (h := h) (w := 64) e (up (s := ⟨2, ![2048, k]⟩) (φ := .f32) X) hs)).trans (swap_heads _ ht)
theorem sinks_up (S : Fin 16 → ℝ) : broadcastInDim S16x1x128 ![0, 1, 2] bcast_S16x1x1_S16x1x128_0_1_2 (broadcastInDim S16x1x1 ![0] bcast_S16_S16x1x1_0 (up (s := S16) (φ := .f32) fun j => S (j 0)))
    = up (φ := .f32) fun j => S (j 0) := by
  rw [host_bcast_up (t := S16x1x1) (fun j : S16.Idx => S (j 0)) ![0] bcast_S16_S16x1x1_0 (fun j => mk1 (j 0)) (fun j a => by
    match a with
    | ⟨0, _⟩ => rfl)]
  exact host_bcast_up (s := S16x1x1) (t := S16x1x128) (fun j => S (j 0)) ![0, 1, 2] bcast_S16x1x1_S16x1x128_0_1_2 (fun j => mk3 (j 0) 0 0) fun j a => by
    match a with
    | ⟨0, _⟩ => rfl
    | ⟨1, _⟩ => rfl
    | ⟨2, _⟩ => rfl

structure Args (I : Ins) : Prop where
  hQ : m (c.tc.loc main_arg0) = up (s := S2048x1024) (φ := .f32) I.Q
  hK : m (c.tc.loc main_arg1) = up (s := S2048x256) (φ := .f32) I.K
  hV : m (c.tc.loc main_arg2) = up (s := S2048x256) (φ := .f32) I.V
  hgq : m (c.tc.loc main_arg3) = up (s := S64) (φ := .f32) fun j => I.gq (j 0)
  hgk : m (c.tc.loc main_arg4) = up (s := S64) (φ := .f32) fun j => I.gk (j 0)
  hS : m (c.tc.loc main_arg5) = up (s := S16) (φ := .f32) fun j => I.S (j 0)
  hD : m (c.tc.loc main_arg6) = up (s := S2048x1024) (φ := .f32) I.D

section
variable {I : Ins} (h : Args m c I)

include h in
theorem b0 (t : Fin cfg0.N) : (iblk m c 0 t : FVec Ideal S16x128x64 .f32) = up (φ := .f32) (I.blk (no t)).Q := by
  funext j
  unfold iblk
  rw [View.read_apply]
  show V m c main_v3 _ = _
  have e : ((cfg0.win 0).blk t).view.emb j = mk3 (j 0) (rowAt (no t) (j 1)) (j 2) := ext3 (at_zero (index t).1.1) (at_blk (index t).1.2.1) (at_zero (index t).1.2.2)
  rw [V3, h.hQ, e]
  exact congrFun (heads_up rfl _ _ _) (mk3 (j 0) (rowAt (no t) (j 1)) (j 2))
include h in
theorem b1 (t : Fin cfg0.N) : (iblk m c 1 t : FVec Ideal S4x128x64 .f32) = up (φ := .f32) (I.blk (no t)).Kc := by
  funext j
  unfold iblk
  rw [View.read_apply]
  show V m c main_v5 _ = _
  have e : ((cfg0.win 1).blk t).view.emb j = mk3 (j 0) (rowAt (no t) (j 1)) (j 2) := ext3 (at_zero (index t).2.1.1) (at_blk (index t).2.1.2.1) (at_zero (index t).2.1.2.2)
  rw [V5, h.hK, e]
  exact congrFun (heads_up rfl _ _ _) (mk3 (j 0) (rowAt (no t) (j 1)) (j 2))
include h in
theorem b2 (t : Fin cfg0.N) : (iblk m c 2 t : FVec Ideal S4x128x64 .f32) = up (φ := .f32) (I.blk (no t)).Kp := by
  funext j
  unfold iblk
  rw [View.read_apply]
  show V m c main_v5 _ = _
  have e : ((cfg0.win 2).blk t).view.emb j = mk3 (j 0) (rowAt (prevT (no t)) (j 1)) (j 2) := ext3 (at_zero (index t).2.2.1.1) (at_blk (index t).2.2.1.2.1) (at_zero (index t).2.2.1.2.2)
  rw [V5, h.hK, e]
  exact congrFun (heads_up rfl _ _ _) (mk3 (j 0) (rowAt (prevT (no t)) (j 1)) (j 2))
include h in
theorem b3 (t : Fin cfg0.N) : (iblk m c 3 t : FVec Ideal S4x128x64 .f32) = up (φ := .f32) (I.blk (no t)).Vc := by
  funext j
  unfold iblk
  rw [View.read_apply]
  show V m c main_v7 _ = _
  have e : ((cfg0.win 3).blk t).view.emb j = mk3 (j 0) (rowAt (no t) (j 1)) (j 2) := ext3 (at_zero (index t).2.2.2.1.1) (at_blk (index t).2.2.2.1.2.1) (at_zero (index t).2.2.2.1.2.2)
  rw [V7, h.hV, e]
  exact congrFun (heads_up rfl _ _ _) (mk3 (j 0) (rowAt (no t) (j 1)) (j 2))
include h in
theorem b4 (t : Fin cfg0.N) : (iblk m c 4 t : FVec Ideal S4x128x64 .f32) = up (φ := .f32) (I.blk (no t)).Vp := by
  funext j
  unfold iblk
  rw [View.read_apply]
  show V m c main_v7 _ = _
  have e : ((cfg0.win 4).blk t).view.emb j = mk3 (j 0) (rowAt (prevT (no t)) (j 1)) (j 2) := ext3 (at_zero (index t).2.2.2.2.1.1) (at_blk (index t).2.2.2.2.1.2.1) (at_zero (index t).2.2.2.2.1.2.2)
  rw [V7, h.hV, e]
  exact congrFun (heads_up rfl _ _ _) (mk3 (j 0) (rowAt (prevT (no t)) (j 1)) (j 2))
include h in
theorem b8 (t : Fin cfg0.N) : (iblk m c 8 t : FVec Ideal S16x128x64 .f32) = up (φ := .f32) (I.blk (no t)).D := by
  funext j
  unfold iblk
  rw [View.read_apply]
  show V m c main_v9 _ = _
  have e : ((cfg0.win 8).blk t).view.emb j = mk3 (j 0) (rowAt (no t) (j 1)) (j 2) := ext3 (at_zero (index t).2.2.2.2.2.2.2.2.1) (at_blk (index t).2.2.2.2.2.2.2.2.2.1) (at_zero (index t).2.2.2.2.2.2.2.2.2.2)
  rw [V9, h.hD, e]
  exact congrFun (heads_up rfl _ _ _) (mk3 (j 0) (rowAt (no t) (j 1)) (j 2))
include h in
theorem b5 (t : Fin cfg0.N) : (iblk m c 5 t : FVec Ideal S1x64 .f32) = up (φ := .f32) (I.blk (no t)).gq := by
  funext j
  unfold iblk
  rw [View.read_apply]
  show V m c main_v10 _ = _
  have e : ((cfg0.win 5).blk t).view.emb j = j := ext2 (at_zero (index t).2.2.2.2.2.1.1) (at_zero (index t).2.2.2.2.2.1.2)
  rw [V10, h.hgq, e]
  exact congrFun (cast_row_up _ _) j
include h in
theorem b6 (t : Fin cfg0.N) : (iblk m c 6 t : FVec Ideal S1x64 .f32) = up (φ := .f32) (I.blk (no t)).gk := by
  funext j
  unfold iblk
  rw [View.read_apply]
  show V m c main_v11 _ = _
  have e : ((cfg0.win 6).blk t).view.emb j = j := ext2 (at_zero (index t).2.2.2.2.2.2.1.1) (at_zero (index t).2.2.2.2.2.2.1.2)
  rw [V11, h.hgk, e]
  exact congrFun (cast_row_up _ _) j
include h in
theorem b7 (t : Fin cfg0.N) : (iblk m c 7 t : FVec Ideal S16x1x128 .f32) = up (φ := .f32) (I.blk (no t)).S := by
  funext j
  unfold iblk
  rw [View.read_apply]
  show V m c main_v1 _ = _
  have e : ((cfg0.win 7).blk t).view.emb j = j := ext3 (at_zero (index t).2.2.2.2.2.2.2.1.1) (at_zero (index t).2.2.2.2.2.2.2.1.2.1) (at_zero (index t).2.2.2.2.2.2.2.1.2.2)
  rw [V1, h.hS, e, sinks_up]
  rfl

/-! ## What each point leaves -/

/-- What the results hold at block `n`. -/
def Left (n : ℕ) (hn : n < cfg0.N) : Prop :=
  (outsAt0 (F := Ideal) m c n hn).1 = up (s := S16x128x64) (φ := .bf16) (blkC I.resQ (no ⟨n, hn⟩)) ∧
  (outsAt0 (F := Ideal) m c n hn).2.1 = up (s := S4x128x64) (φ := .f32) (blkC (I.resK 128 (by decide)) (no ⟨n, hn⟩)) ∧
  (outsAt0 (F := Ideal) m c n hn).2.2.1 = up (s := S4x128x64) (φ := .f32) (blkC (I.resK 0 (by decide)) (no ⟨n, hn⟩)) ∧
  (outsAt0 (F := Ideal) m c n hn).2.2.2.1 = up (s := S4x128x64) (φ := .f32) (blkC (I.resV 128 (by decide)) (no ⟨n, hn⟩)) ∧
  (outsAt0 (F := Ideal) m c n hn).2.2.2.2.1 = up (s := S4x128x64) (φ := .f32) (blkC (I.resV 0 (by decide)) (no ⟨n, hn⟩)) ∧
  (outsAt0 (F := Ideal) m c n hn).2.2.2.2.2.1 = up (s := S1x64) (φ := .f32) (I.accG (n + 1)) ∧
  (outsAt0 (F := Ideal) m c n hn).2.2.2.2.2.2.1 = up (s := S16x1x128) (φ := .f32) (I.accS (n + 1))

include h in
theorem vals : ∀ (n : ℕ) (hn : n < cfg0.N), Left m c (I := I) n hn
  | 0, hn => by
    have e := outsAt0_A m c ⟨0, hn⟩ rfl
    dsimp only at e
    unfold Left
    rw [e, b0 m c h, b1 m c h, b2 m c h, b3 m c h, b4 m c h, b5 m c h, b6 m c h, b7 m c h, b8 m c h]
    dsimp only
    have o := outA c ⟨0, hn⟩ (I.blk (no ⟨0, hn⟩)) ((hcond0_0 ⟨0, hn⟩).mpr rfl)
    rw [mask_eq] at o
    obtain ⟨o1, o2, o3, o4, o5, o6, o7⟩ := o
    refine ⟨o1.trans (congrArg up (I.blk_Q _).symm), o2.trans (congrArg up (I.blk_K _ _ _).symm), o3.trans (congrArg up (I.blk_K _ _ _).symm), o4.trans (congrArg up (I.blk_V _ _ _).symm), o5.trans (congrArg up (I.blk_V _ _ _).symm), o6.trans (congrArg up ?_), o7.trans (congrArg up ?_)⟩
    · rw [I.accG_zero]
      exact I.accG_succ (no ⟨0, hn⟩)
    · rw [I.accS_zero]
      exact I.accS_succ (no ⟨0, hn⟩)
  | n + 1, hn => by
    have h16 : n + 1 < 16 := lt16 ⟨n + 1, hn⟩
    have hB : ¬(⟨n + 1, hn⟩ : Fin cfg0.N).val % 16 = 0 := by dsimp only; omega
    obtain ⟨-, -, -, -, -, i1, i2⟩ := vals n (Nat.lt_of_succ_lt hn)
    have e := outsAt0_B m c ⟨n + 1, hn⟩ hB
    dsimp only at e
    unfold Left
    rw [e, b0 m c h, b1 m c h, b2 m c h, b3 m c h, b4 m c h, b5 m c h, b6 m c h, b7 m c h, b8 m c h]
    dsimp only
    have o := outB c ⟨n + 1, hn⟩ (I.blk (no ⟨n + 1, hn⟩)) (I.accG (n + 1)) (I.accS (n + 1)) (fun z => hB ((hcond0_0 ⟨n + 1, hn⟩).mp z))
    rw [mask_eq, ← i1, ← i2] at o
    obtain ⟨o1, o2, o3, o4, o5, o6, o7⟩ := o
    refine ⟨o1.trans (congrArg up (I.blk_Q _).symm), o2.trans (congrArg up (I.blk_K _ _ _).symm), o3.trans (congrArg up (I.blk_K _ _ _).symm), o4.trans (congrArg up (I.blk_V _ _ _).symm), o5.trans (congrArg up (I.blk_V _ _ _).symm), o6.trans (congrArg up ?_), o7.trans (congrArg up ?_)⟩
    · exact I.accG_succ (no ⟨n + 1, hn⟩)
    · exact I.accS_succ (no ⟨n + 1, hn⟩)

/-! ## The results -/

include h in
theorem final9 : (dats m 0 c).arrAt 9 cfg0.N = up (s := S16x2048x64) (φ := .bf16) I.resQ := by
  refine (dats m 0 c).arrAt_eq_of_cover 9 _ (fun t _ => ?_) fun i => ⟨pt (i 1), flush0_9 _, ?_⟩
  · rw [Value.flushed9, (vals m c h t.val t.isLt).1]
    funext j
    rw [View.read_apply]
    have e : ((cfg0.win 9).blk t).view.emb j = mk3 (j 0) (rowAt (no t) (j 1)) (j 2) := ext3 (at_zero (index_out t).1.1) (at_blk (index_out t).1.2.1) (at_zero (index_out t).1.2.2)
    rw [e]
    rfl
  · show i ∈ ((View.whole main_v12_0).slice (win0_9.rect (pt (i 1)))).set
    rw [View.set_slice_whole, Rect.mem_set_unit]
    exact all3 (in_zero (index_out (pt (i 1))).1.1 (i 0).isLt) (in_blk (index_out (pt (i 1))).1.2.1 rfl (by decide)) (in_zero (index_out (pt (i 1))).1.2.2 (i 2).isLt)

include h in
theorem final10 : (dats m 0 c).arrAt 10 cfg0.N = up (s := S4x2048x64) (φ := .f32) (I.resK 128 (by decide)) := by
  refine (dats m 0 c).arrAt_eq_of_cover 10 _ (fun t _ => ?_) fun i => ⟨pt (i 1), flush0_10 _, ?_⟩
  · rw [Value.flushed10, (vals m c h t.val t.isLt).2.1]
    funext j
    rw [View.read_apply]
    have e : ((cfg0.win 10).blk t).view.emb j = mk3 (j 0) (rowAt (no t) (j 1)) (j 2) := ext3 (at_zero (index_out t).2.1.1) (at_blk (index_out t).2.1.2.1) (at_zero (index_out t).2.1.2.2)
    rw [e]
    rfl
  · show i ∈ ((View.whole main_v12_1).slice (win0_10.rect (pt (i 1)))).set
    rw [View.set_slice_whole, Rect.mem_set_unit]
    exact all3 (in_zero (index_out (pt (i 1))).2.1.1 (i 0).isLt) (in_blk (index_out (pt (i 1))).2.1.2.1 rfl (by decide)) (in_zero (index_out (pt (i 1))).2.1.2.2 (i 2).isLt)

include h in
theorem final11 : (dats m 0 c).arrAt 11 cfg0.N = up (s := S4x2048x64) (φ := .f32) (I.resK 0 (by decide)) := by
  refine (dats m 0 c).arrAt_eq_of_cover 11 _ (fun t _ => ?_) fun i => ⟨pt (i 1), flush0_11 _, ?_⟩
  · rw [Value.flushed11, (vals m c h t.val t.isLt).2.2.1]
    funext j
    rw [View.read_apply]
    have e : ((cfg0.win 11).blk t).view.emb j = mk3 (j 0) (rowAt (no t) (j 1)) (j 2) := ext3 (at_zero (index_out t).2.2.1.1) (at_blk (index_out t).2.2.1.2.1) (at_zero (index_out t).2.2.1.2.2)
    rw [e]
    rfl
  · show i ∈ ((View.whole main_v12_2).slice (win0_11.rect (pt (i 1)))).set
    rw [View.set_slice_whole, Rect.mem_set_unit]
    exact all3 (in_zero (index_out (pt (i 1))).2.2.1.1 (i 0).isLt) (in_blk (index_out (pt (i 1))).2.2.1.2.1 rfl (by decide)) (in_zero (index_out (pt (i 1))).2.2.1.2.2 (i 2).isLt)

include h in
theorem final12 : (dats m 0 c).arrAt 12 cfg0.N = up (s := S4x2048x64) (φ := .f32) (I.resV 128 (by decide)) := by
  refine (dats m 0 c).arrAt_eq_of_cover 12 _ (fun t _ => ?_) fun i => ⟨pt (i 1), flush0_12 _, ?_⟩
  · rw [Value.flushed12, (vals m c h t.val t.isLt).2.2.2.1]
    funext j
    rw [View.read_apply]
    have e : ((cfg0.win 12).blk t).view.emb j = mk3 (j 0) (rowAt (no t) (j 1)) (j 2) := ext3 (at_zero (index_out t).2.2.2.1.1) (at_blk (index_out t).2.2.2.1.2.1) (at_zero (index_out t).2.2.2.1.2.2)
    rw [e]
    rfl
  · show i ∈ ((View.whole main_v12_3).slice (win0_12.rect (pt (i 1)))).set
    rw [View.set_slice_whole, Rect.mem_set_unit]
    exact all3 (in_zero (index_out (pt (i 1))).2.2.2.1.1 (i 0).isLt) (in_blk (index_out (pt (i 1))).2.2.2.1.2.1 rfl (by decide)) (in_zero (index_out (pt (i 1))).2.2.2.1.2.2 (i 2).isLt)

include h in
theorem final13 : (dats m 0 c).arrAt 13 cfg0.N = up (s := S4x2048x64) (φ := .f32) (I.resV 0 (by decide)) := by
  refine (dats m 0 c).arrAt_eq_of_cover 13 _ (fun t _ => ?_) fun i => ⟨pt (i 1), flush0_13 _, ?_⟩
  · rw [Value.flushed13, (vals m c h t.val t.isLt).2.2.2.2.1]
    funext j
    rw [View.read_apply]
    have e : ((cfg0.win 13).blk t).view.emb j = mk3 (j 0) (rowAt (no t) (j 1)) (j 2) := ext3 (at_zero (index_out t).2.2.2.2.1.1) (at_blk (index_out t).2.2.2.2.1.2.1) (at_zero (index_out t).2.2.2.2.1.2.2)
    rw [e]
    rfl
  · show i ∈ ((View.whole main_v12_4).slice (win0_13.rect (pt (i 1)))).set
    rw [View.set_slice_whole, Rect.mem_set_unit]
    exact all3 (in_zero (index_out (pt (i 1))).2.2.2.2.1.1 (i 0).isLt) (in_blk (index_out (pt (i 1))).2.2.2.2.1.2.1 rfl (by decide)) (in_zero (index_out (pt (i 1))).2.2.2.2.1.2.2 (i 2).isLt)

include h in
theorem final14 : (dats m 0 c).arrAt 14 cfg0.N = up (s := S1x64) (φ := .f32) (I.accG 16) := by
  refine (dats m 0 c).arrAt_eq_of_cover 14 _ (fun t hf => ?_) fun i => ⟨tLast, (flush0_14 _).mpr rfl, ?_⟩
  · have h15 : t.val = 15 := by have := lt16 t; have := (flush0_14 t).mp hf; omega
    rw [Value.flushed14, (vals m c h t.val t.isLt).2.2.2.2.2.1]
    funext j
    rw [View.read_apply]
    have e : ((cfg0.win 14).blk t).view.emb j = j := ext2 (at_zero (index_out t).2.2.2.2.2.1.1) (at_zero (index_out t).2.2.2.2.2.1.2)
    rw [e, h15]
    rfl
  · show i ∈ ((View.whole main_v12_5).slice (win0_14.rect tLast)).set
    rw [View.set_slice_whole, Rect.mem_set_unit]
    exact Fin.forall_fin_two.mpr ⟨in_zero (index_out tLast).2.2.2.2.2.1.1 (i 0).isLt, in_zero (index_out tLast).2.2.2.2.2.1.2 (i 1).isLt⟩

include h in
theorem final15 : (dats m 0 c).arrAt 15 cfg0.N = up (s := S16x1x128) (φ := .f32) (I.accS 16) := by
  refine (dats m 0 c).arrAt_eq_of_cover 15 _ (fun t hf => ?_) fun i => ⟨tLast, (flush0_15 _).mpr rfl, ?_⟩
  · have h15 : t.val = 15 := by have := lt16 t; have := (flush0_15 t).mp hf; omega
    rw [Value.flushed15, (vals m c h t.val t.isLt).2.2.2.2.2.2]
    funext j
    rw [View.read_apply]
    have e : ((cfg0.win 15).blk t).view.emb j = j := ext3 (at_zero (index_out t).2.2.2.2.2.2.1) (at_zero (index_out t).2.2.2.2.2.2.2.1) (at_zero (index_out t).2.2.2.2.2.2.2.2)
    rw [e, h15]
    rfl
  · show i ∈ ((View.whole main_v12_6).slice (win0_15.rect tLast)).set
    rw [View.set_slice_whole, Rect.mem_set_unit]
    exact all3 (in_zero (index_out tLast).2.2.2.2.2.2.1 (i 0).isLt) (in_zero (index_out tLast).2.2.2.2.2.2.2.1 (i 1).isLt) (in_zero (index_out tLast).2.2.2.2.2.2.2.2 (i 2).isLt)

end

end Cert.AttnKernel

end
-- ==== Proof.AttnFive.lean ====
/-
  Arrays over blocks, key heads, queries' heads, queries and keys, as a matrix for every block and key head: sums, broadcasts and
  the softmax with a sink over them.
-/
module

public import proofs.«01_k».proof.Proof.Att
public import proofs.«01_k».proof.Proof.Gen.AttnBwdRefIdeal.Read

@[expose] public section

set_option maxRecDepth 16384
set_option backward.isDefEq.respectTransparency.types false

noncomputable section

open Idealize.ShloMosaic Idealize.ShloMosaic.TcCoe Idealize.SL.Sem

namespace Cert.AttnFive

open Cert.Reals Cert.Norm Cert.Arrays Cert.Heads Cert.Rows Cert.Att Cert.AttnBwdRefIdeal

def mk5 {k l m n o : ℕ} (a : Fin k) (b : Fin l) (c : Fin m) (d : Fin n) (e : Fin o) : (⟨5, ![k, l, m, n, o]⟩ : Shape).Idx := ValueIdx.ix5 a b c d e
theorem ext5 {k l m n o : ℕ} {i j : (⟨5, ![k, l, m, n, o]⟩ : Shape).Idx} (h0 : (i 0).val = (j 0).val) (h1 : (i 1).val = (j 1).val)
    (h2 : (i 2).val = (j 2).val) (h3 : (i 3).val = (j 3).val) (h4 : (i 4).val = (j 4).val) : i = j := funext fun a => Fin.ext (by
  match a with
  | ⟨0, _⟩ => exact h0
  | ⟨1, _⟩ => exact h1
  | ⟨2, _⟩ => exact h2
  | ⟨3, _⟩ => exact h3
  | ⟨4, _⟩ => exact h4)

/-- A matrix for every block and key head, one number a row for every block and key head, and the arrays that hold them. -/
abbrev Fam := Fin 16 → Fin 4 → Mat 512 256
abbrev Col := Fin 16 → Fin 4 → Fin 512 → ℝ
def at5 (f : Fam) : S16x4x4x128x256.Idx → ℝ := fun j => f (j 0) (j 1) (mk2 (row4 (j 2) (j 3)) (j 4))
def at1 (f : Col) : S16x4x4x128x1.Idx → ℝ := fun j => f (j 0) (j 1) (row4 (j 2) (j 3))
def at4 (f : Col) : S16x4x4x128.Idx → ℝ := fun j => f (j 0) (j 1) (row4 (j 2) (j 3))

theorem sum5 (f : Fam) (h : S16x4x4x128x256.ReducesTo [4] S16x4x4x128) (hu : 0 < S_.numel) :
    Host.reduceAdd (up (φ := .f32) (at5 f)) (up (s := S_) (φ := .f32) fun _ => 0) h hu = up (φ := .f32) (at4 fun n k r => ∑ s : Fin 256, f n k (mk2 r s)) :=
  hsum_up (κ := Fin 256) (at5 f) h hu (fun j s => mk5 (j 0) (j 1) (j 2) (j 3) s) (fun i => i 4) (fun j x => ext4 rfl rfl rfl rfl) (fun j x => rfl) fun i => ext5 rfl rfl rfl rfl rfl
theorem sum1 (f : Col) (h : S16x4x4x128x1.ReducesTo [4] S16x4x4x128) (hu : 0 < S_.numel) :
    Host.reduceAdd (up (φ := .f32) (at1 f)) (up (s := S_) (φ := .f32) fun _ => 0) h hu = up (φ := .f32) (at4 f) :=
  (hsum_up (κ := Fin 1) (at1 f) h hu (fun j s => mk5 (j 0) (j 1) (j 2) (j 3) s) (fun i => i 4) (fun j x => ext4 rfl rfl rfl rfl) (fun j x => rfl) fun i => ext5 rfl rfl rfl rfl rfl).trans
    (congrArg up (funext fun j => Fin.sum_univ_one _))
theorem cast1 (f : Col) (h : S16x4x4x128.ShapeCasts S16x4x4x128x1) : shapeCast S16x4x4x128x1 (up (φ := .f32) (at4 f)) h = up (φ := .f32) (at1 f) := by
  funext j
  refine shapeCast_apply _ h j (mk4 (j 0) (j 1) (j 2) (j 3)) ?_
  rw [Shape.rowMajor_val_four, Shape.rowMajor_val_five]
  have h4 : (j 4).val < 1 := (j 4).isLt
  show (((j 0).val * 4 + (j 1).val) * 4 + (j 2).val) * 128 + (j 3).val = ((((j 0).val * 4 + (j 1).val) * 4 + (j 2).val) * 128 + (j 3).val) * 1 + (j 4).val
  omega
theorem spread41 (f : Col) (h : S16x4x4x128.BroadcastsInDim S16x4x4x128x1 ![0, 1, 2, 3]) :
    broadcastInDim S16x4x4x128x1 ![0, 1, 2, 3] h (up (φ := .f32) (at4 f)) = up (φ := .f32) (at1 f) :=
  host_bcast_up (at4 f) _ h (fun j => mk4 (j 0) (j 1) (j 2) (j 3)) fun j a => by
    match a with
    | ⟨0, _⟩ => rfl
    | ⟨1, _⟩ => rfl
    | ⟨2, _⟩ => rfl
    | ⟨3, _⟩ => rfl
theorem spread45 (f : Col) (h : S16x4x4x128.BroadcastsInDim S16x4x4x128x256 ![0, 1, 2, 3]) :
    broadcastInDim S16x4x4x128x256 ![0, 1, 2, 3] h (up (φ := .f32) (at4 f)) = up (φ := .f32) (at5 fun n k j => f n k (j 0)) :=
  host_bcast_up (at4 f) _ h (fun j => mk4 (j 0) (j 1) (j 2) (j 3)) fun j a => by
    match a with
    | ⟨0, _⟩ => rfl
    | ⟨1, _⟩ => rfl
    | ⟨2, _⟩ => rfl
    | ⟨3, _⟩ => rfl
theorem spread15 (f : Col) (h : S16x4x4x128x1.BroadcastsInDim S16x4x4x128x256 ![0, 1, 2, 3, 4]) :
    broadcastInDim S16x4x4x128x256 ![0, 1, 2, 3, 4] h (up (φ := .f32) (at1 f)) = up (φ := .f32) (at5 fun n k j => f n k (j 0)) :=
  host_bcast_up (at1 f) _ h (fun j => mk5 (j 0) (j 1) (j 2) (j 3) 0) fun j a => by
    match a with
    | ⟨0, _⟩ => rfl
    | ⟨1, _⟩ => rfl
    | ⟨2, _⟩ => rfl
    | ⟨3, _⟩ => rfl
    | ⟨4, _⟩ => rfl

/-! ## The softmax -/

section
variable (V : Fin 16 → IVec ⟨2, ![512, 256]⟩ 1) (L : Fam) (S : Fin 4 → Mat 512 1) (D : Fam)

/-- The masked logits. -/
def maskedAll : FVec Ideal S16x4x4x128x256 .f32 := fun j => masked (V (j 0)) (L (j 0) (j 1)) (mk2 (row4 (j 2) (j 3)) (j 4))
def most (n : Fin 16) (k : Fin 4) (r : Fin 512) : EReal := (Finset.univ : Finset (Fin 256)).fold max (⊥ : EReal) fun s => masked (V n) (L n k) (mk2 r s)
def tp : Col := fun n k r => top (V n) (L n k) (S k) (mk2 r 0)
/-- All weights of a row, the largest entry taken out. -/
def tot : Col := fun n k r => den (V n) (L n k) (S k) r * Real.exp (-tp V L S n k r)
def weA : Fam := fun n k => we (V n) (L n k) (S k)
def seA : Col := fun n k r => se (V n) (L n k) (S k) (mk2 r 0)
def prA : Fam := fun n k => pr (V n) (L n k) (S k)
def psA : Col := fun n k r => ps (V n) (L n k) (S k) (mk2 r 0)
def deA : Col := fun n k r => de (prA V L S n k) (D n k) (mk2 r 0)
def dlA : Fam := fun n k => dl (prA V L S n k) (D n k)

theorem largest (h : S16x4x4x128x256.ReducesTo [4] S16x4x4x128) (hu : 0 < S_.numel) (j : S16x4x4x128.Idx) :
    Host.reduce FloatOps.maximumf (maskedAll V L) (constant S_ .f32 0xFF800000#32) h hu j = most V L (j 0) (j 1) (row4 (j 2) (j 3)) := by
  rw [hostReduce_maximumf_eq_multiReduction (maskedAll V L) 0xFF800000#32 h hu (by decide) (by decide) rfl]
  refine (Ideal.multiReduction_maximumf_single _ _ _ _ _ j).trans ?_
  have e1 : (FloatOps.ofBits (F := Ideal) .f32 0xFF800000#32 : EReal) = ⊥ := lit_bot
  rw [e1]
  exact congrArg (fun g => (Finset.univ : Finset (Fin 256)).fold max (⊥ : EReal) g) (funext fun s => congrArg (maskedAll V L) (ext5 (j := mk5 (j 0) (j 1) (j 2) (j 3) s) rfl rfl rfl rfl rfl))

theorem tot_pos (n : Fin 16) (k : Fin 4) (r : Fin 512) : 0 < tot V L S n k r := mul_pos (den_pos _ _ _ _) (Real.exp_pos _)
theorem exp_all : Host.exp (subf (maskedAll V L) (up (φ := .f32) (at5 fun n k j => tp V L S n k (j 0)))) = up (φ := .f32) (at5 (weA V L S)) :=
  funext fun j => exp_masked (v := V (j 0) (mk2 (row4 (j 2) (j 3)) (j 4))) (L (j 0) (j 1) (mk2 (row4 (j 2) (j 3)) (j 4))) (tp V L S (j 0) (j 1) (row4 (j 2) (j 3)))
theorem we_tot (n : Fin 16) (k : Fin 4) (j : (⟨2, ![512, 256]⟩ : Shape).Idx) : weA V L S n k j / tot V L S n k (j 0) = prA V L S n k j := by
  show wt _ _ j * Real.exp (-tp V L S n k (j 0)) / (den _ _ _ _ * Real.exp (-tp V L S n k (j 0))) = wt _ _ j / den _ _ _ _
  exact mul_div_mul_right _ _ (Real.exp_pos _).ne'
theorem se_tot (n : Fin 16) (k : Fin 4) (r : Fin 512) : seA V L S n k r / tot V L S n k r = psA V L S n k r := by
  show Real.exp _ * Real.exp (-tp V L S n k r) / (den _ _ _ _ * Real.exp (-tp V L S n k r)) = Real.exp _ / den _ _ _ _
  exact mul_div_mul_right _ _ (Real.exp_pos _).ne'
theorem pr_sum (n : Fin 16) (k : Fin 4) (r : Fin 512) : ∑ s : Fin 256, prA V L S n k (mk2 r s) = 1 - psA V L S n k r := by
  have h := (den_pos (V n) (L n k) (S k) r).ne'
  show ∑ s : Fin 256, wt (V n) (L n k) (mk2 r s) / den (V n) (L n k) (S k) r = 1 - Real.exp (S k (mk2 r 0)) / den (V n) (L n k) (S k) r
  rw [← Finset.sum_div, eq_sub_iff_add_eq, ← add_div]
  exact div_self h

/-- Minus the sum of the gradient's products with the weights, over the squared sum. -/
def neg (n : Fin 16) (k : Fin 4) (r : Fin 512) : ℝ := -∑ s : Fin 256, D n k (mk2 r s) * (1 / (tot V L S n k r * tot V L S n k r)) * weA V L S n k (mk2 r s)
theorem neg_eq (n : Fin 16) (k : Fin 4) (r : Fin 512) : neg V L S D n k r = -(deA V L S D n k r / tot V L S n k r) := by
  have h := (tot_pos V L S n k r).ne'
  refine congrArg Neg.neg ?_
  show _ = (∑ s : Fin 256, prA V L S n k (mk2 r s) * D n k (mk2 r s)) / tot V L S n k r
  rw [Finset.sum_div]
  refine Finset.sum_congr rfl fun s _ => ?_
  rw [← we_tot]
  show _ = weA V L S n k (mk2 r s) / tot V L S n k r * D n k (mk2 r s) / tot V L S n k r
  field_simp
theorem neg_se (n : Fin 16) (k : Fin 4) (r : Fin 512) : neg V L S D n k r * seA V L S n k r = -(psA V L S n k r * deA V L S D n k r) := by
  have h := (tot_pos V L S n k r).ne'
  rw [neg_eq, ← se_tot]
  field_simp
theorem dl_eq (n : Fin 16) (k : Fin 4) (j : (⟨2, ![512, 256]⟩ : Shape).Idx) :
    (D n k j / tot V L S n k (j 0) + neg V L S D n k (j 0)) * weA V L S n k j = dlA V L S D n k j := by
  have h := (tot_pos V L S n k (j 0)).ne'
  rw [neg_eq]
  show _ = prA V L S n k j * (D n k j - deA V L S D n k (j 0))
  rw [← we_tot]
  field_simp
  ring
theorem dl_sum (n : Fin 16) (k : Fin 4) (r : Fin 512) : -(neg V L S D n k r * seA V L S n k r) + ∑ s : Fin 256, -dlA V L S D n k (mk2 r s) = 0 := by
  rw [neg_se, neg_neg, Finset.sum_neg_distrib]
  have e : ∑ s : Fin 256, dlA V L S D n k (mk2 r s) = deA V L S D n k r - (1 - psA V L S n k r) * deA V L S D n k r := by
    rw [← pr_sum, Finset.sum_mul]
    refine Eq.trans (Finset.sum_congr rfl fun s _ => mul_sub _ _ _) ?_
    rw [Finset.sum_sub_distrib]
    rfl
  rw [e]
  ring
/-- Nothing where the mask is. -/
theorem pr_off (n : Fin 16) (k : Fin 4) (j : (⟨2, ![512, 256]⟩ : Shape).Idx) (h : ¬ V n j = 1#1) : prA V L S n k j = 0 := by
  show wt _ _ j / _ = 0
  unfold wt
  rw [if_neg h, zero_div]
theorem dl_off (n : Fin 16) (k : Fin 4) (j : (⟨2, ![512, 256]⟩ : Shape).Idx) (h : ¬ V n j = 1#1) : dlA V L S D n k j = 0 := by
  show prA V L S n k j * _ = 0
  rw [pr_off V L S n k j h, zero_mul]
end

/-- What is divided by the number of a row's largest entries is zero, so nothing goes back through the maximum. -/
theorem through_max (u : FVec Ideal S16x4x4x128x256 .f32) (hu0 : ∀ i, (0 : EReal) ≤ u i) (h : S16x4x4x128x256.ReducesTo [4] S16x4x4x128) (hu : 0 < S_.numel)
    (hb : S16x4x4x128.BroadcastsInDim S16x4x4x128x256 ![0, 1, 2, 3]) :
    mulf (broadcastInDim S16x4x4x128x256 ![0, 1, 2, 3] hb (Host.divf (up (s := S16x4x4x128) (φ := .f32) fun _ => 0)
      (Host.reduceAdd u (up (s := S_) (φ := .f32) fun _ => 0) h hu))) u = up (s := S16x4x4x128x256) (φ := .f32) fun _ => 0 := by
  funext j
  have e : Host.reduceAdd u (up (s := S_) (φ := .f32) fun _ => 0) h hu (mk4 (j 0) (j 1) (j 2) (j 3)) = ∑ i ∈ Finset.univ.filter (fun i => h.drop i = mk4 (j 0) (j 1) (j 2) (j 3)), (u i : EReal) := by
    simp only [Host.reduceAdd, Ideal.hostReduceAdd_def]
    unfold Ideal.hostReduceAdd
    exact zero_add _
  have eb := broadcastInDim_apply ![0, 1, 2, 3] hb (Host.divf (up (s := S16x4x4x128) (φ := .f32) fun _ => 0)
      (Host.reduceAdd u (up (s := S_) (φ := .f32) fun _ => 0) h hu)) j (mk4 (j 0) (j 1) (j 2) (j 3)) fun a => by
    match a with
    | ⟨0, _⟩ => rfl
    | ⟨1, _⟩ => rfl
    | ⟨2, _⟩ => rfl
    | ⟨3, _⟩ => rfl
  have hm : (u j : EReal) ≤ Host.reduceAdd u (up (s := S_) (φ := .f32) fun _ => 0) h hu (mk4 (j 0) (j 1) (j 2) (j 3)) := by
    rw [e]
    exact Finset.single_le_sum (f := fun i => (u i : EReal)) (fun i _ => hu0 i) (Finset.mem_filter.mpr ⟨Finset.mem_univ _, ext4 rfl rfl rfl rfl⟩)
  refine (congrArg (fun x : EReal => x * (u j : EReal)) eb).trans ?_
  show Ideal.div ((0 : ℝ) : EReal) (Host.reduceAdd u (up (s := S_) (φ := .f32) fun _ => 0) h hu (mk4 (j 0) (j 1) (j 2) (j 3))) * (u j : EReal) = ((0 : ℝ) : EReal)
  generalize (Host.reduceAdd u (up (s := S_) (φ := .f32) fun _ => 0) h hu (mk4 (j 0) (j 1) (j 2) (j 3)) : EReal) = c at hm
  by_cases hc : c = 0
  · have : (u j : EReal) = 0 := le_antisymm (hc ▸ hm) (hu0 j)
    rw [this, mul_zero]
    exact EReal.coe_zero.symm
  · rw [EReal.coe_zero, show Ideal.div 0 c = 0 * c⁻¹ from if_neg hc, zero_mul, zero_mul]

end Cert.AttnFive

end
-- ==== Proof.AttnLogits.lean ====
/-
  The reference of the attention's backward call up to the gradient of its logits: the mask, the normed queries and keys, the two
  blocks of keys a block of queries sees, and the softmax with its sink, as formulas of the kernel's blocks.
-/
module

public import proofs.«01_k».proof.Proof.AttnFive

@[expose] public section

set_option maxRecDepth 16384
set_option backward.isDefEq.respectTransparency.types false

noncomputable section

open Idealize.ShloMosaic Idealize.ShloMosaic.TcCoe Idealize.SL.Sem

namespace Cert.AttnLogits

open Cert.Reals Cert.Norm Cert.Arrays Cert.Heads Cert.Rows Cert.Att Cert.AttnFive Cert.AttnBwdRefIdeal Cert.AttnBwdRefIdeal.Gen Cert.AttnBwdRefIdeal.Read

/-! ## The mask -/

theorem there : ∀ (n : Fin 16) (s : Fin 256), IntOp.cmpi .sge (IntOp.addi (IntOp.subi (IntOp.muli (BitVec.ofNat 32 n.val) 128#32) 128#32) (BitVec.ofNat 32 s.val)) 0#32
    = if 128 ≤ s.val ∨ 0 < n.val then 1#1 else 0#1 := by decide +kernel

theorem mask (j : S16x4x4x128x256.Idx) : val_main_v76_1 (F := Ideal) j = seen (j 0) (mk2 (row4 (j 2) (j 3)) (j 4)) := by
  rw [val_main_v76_1_apply, val_main_v75_apply, val_main_v74_apply]
  refine seen_of (j 0) (mk2 (row4 (j 2) (j 3)) (j 4)) ?_ ?_
  · rw [val_main_v72_apply, val_main_v69_apply, val_main_v66_apply, val_main_v68_apply, val_main_v57_apply, val_main_v55_apply, val_main_v56_apply, val_main_v54_apply,
      val_main_v48_apply, val_main_v53_apply, val_main_v50_apply, val_main_v47_apply, val_main_v49_apply, val_main_v65_apply, val_main_v67_apply]
    have e : rof (row4 (j 2) (j 3)) = j 3 := rof_row4 (j 2) (j 3)
    show _ = if (rof (row4 (j 2) (j 3))).val < (j 4).val ∧ (j 4).val ≤ (rof (row4 (j 2) (j 3))).val + 128 then 1#1 else 0#1
    rw [e]
    exact band (j 3) (j 4)
  · rw [val_main_v73_apply, val_main_v71_apply, val_main_v64_apply, val_main_v62_apply, val_main_v63_apply, val_main_v61_apply, val_main_v59_apply, val_main_v60_apply,
      val_main_v52_apply, val_main_v58_apply, val_main_v51_apply, val_main_v50_apply, val_main_v49_apply, val_main_v70_apply]
    exact there (j 0) (j 4)

/-! ## The block before and a block's own -/

/-- Rows of the block before (zeros before the first) over the block's own. -/
def prevOwn {α : Type} [Zero α] (X : (⟨3, ![2048, 4, 64]⟩ : Shape).Idx → α) (n : Fin 16) (k : Fin 4) : (⟨2, ![256, 64]⟩ : Shape).Idx → α :=
  two (fun i => if n.val = 0 then 0 else X (mk3 (rowAt (prevT n) (i 0)) k (i 1))) fun i => X (mk3 (rowAt n (i 0)) k (i 1))

theorem cast_blocks (X : FVec Ideal S2048x4x64 .f32) (h : S2048x4x64.ShapeCasts S16x128x4x64) (n : Fin 16) (p : Fin 128) (k : Fin 4) (d : Fin 64) :
    shapeCast S16x128x4x64 X h (mk4 n p k d) = X (mk3 (rowAt n p) k d) := by
  refine shapeCast_apply _ h (mk4 n p k d) (mk3 (rowAt n p) k d) ?_
  rw [Shape.rowMajor_val_three, Shape.rowMajor_val_four]
  show ((128 * n.val + p.val) * 4 + k.val) * 64 + d.val = ((n.val * 128 + p.val) * 4 + k.val) * 64 + d.val
  omega

section
variable (X : FVec Ideal S2048x4x64 .f32) (h : S2048x4x64.ShapeCasts S16x128x4x64) (hs : S16x128x4x64.Slices ![0, 0, 0, 0] S15x128x4x64)
  (z : FVec Ideal S1x128x4x64 .f32) (hz : ∀ i, (z i : EReal) = 0)
  (h0 : Shape.Concatenates [S1x128x4x64, S15x128x4x64] S16x128x4x64 0) (h1 : Shape.Concatenates [S16x128x4x64, S16x128x4x64] S16x256x4x64 1)
include hz

theorem before (n : Fin 16) (p : Fin 128) (k : Fin 4) (d : Fin 64) :
    concatenate S16x128x4x64 0 [⟨S1x128x4x64, z⟩, ⟨S15x128x4x64, extractStridedSlice S15x128x4x64 ![0, 0, 0, 0] (shapeCast S16x128x4x64 X h) hs⟩] h0 (mk4 n p k d)
      = if n.val = 0 then (0 : EReal) else X (mk3 (rowAt (prevT n) p) k d) := by
  have hn := n.isLt
  by_cases e : n.val = 0
  · refine (concatenate_pair_apply_left (s₁ := S1x128x4x64) (s₂ := S15x128x4x64) 0 _ _ _ (mk4 n p k d) rfl (mk4 (k := 1) ⟨n.val, by omega⟩ p k d) fun b => by
      match b with
      | ⟨0, _⟩ => rfl
      | ⟨1, _⟩ => rfl
      | ⟨2, _⟩ => rfl
      | ⟨3, _⟩ => rfl).trans ?_
    rw [if_pos e, hz]
  · refine (concatenate_pair_apply_right (s₁ := S1x128x4x64) (s₂ := S15x128x4x64) 0 _ _ _ (mk4 n p k d) rfl rfl (mk4 (k := 15) ⟨n.val - 1, by omega⟩ p k d) (fun b hb => by
      match b with
      | ⟨0, _⟩ => exact absurd rfl hb
      | ⟨1, _⟩ => rfl
      | ⟨2, _⟩ => rfl
      | ⟨3, _⟩ => rfl) (by show n.val - 1 + 1 = n.val; omega)).trans ?_
    rw [if_neg e]
    exact (extractStridedSlice_apply _ _ _ _ (mk4 (prevT n) p k d) fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm).trans (cast_blocks X h (prevT n) p k d)

theorem with_prev :
    concatenate S16x256x4x64 1 [⟨S16x128x4x64, concatenate S16x128x4x64 0 [⟨S1x128x4x64, z⟩, ⟨S15x128x4x64, extractStridedSlice S15x128x4x64 ![0, 0, 0, 0] (shapeCast S16x128x4x64 X h) hs⟩] h0⟩,
      ⟨S16x128x4x64, shapeCast S16x128x4x64 X h⟩] h1 = fun j => prevOwn (α := EReal) X (j 0) (j 2) (mk2 (j 1) (j 3)) := by
  funext j
  have hj : (j 1).val < 256 := (j 1).isLt
  by_cases e : (j 1).val < 128
  · refine (concatenate_pair_apply_left (s₁ := S16x128x4x64) (s₂ := S16x128x4x64) 1 _ _ _ j rfl (mk4 (j 0) ⟨(j 1).val, e⟩ (j 2) (j 3)) fun b => by
      match b with
      | ⟨0, _⟩ => rfl
      | ⟨1, _⟩ => rfl
      | ⟨2, _⟩ => rfl
      | ⟨3, _⟩ => rfl).trans ((before X h hs z hz h0 _ _ _ _).trans (Eq.symm ?_))
    exact dif_pos e
  · refine (concatenate_pair_apply_right (s₁ := S16x128x4x64) (s₂ := S16x128x4x64) 1 _ _ _ j rfl rfl (mk4 (j 0) ⟨(j 1).val - 128, by omega⟩ (j 2) (j 3)) (fun b hb => by
      match b with
      | ⟨0, _⟩ => rfl
      | ⟨1, _⟩ => exact absurd rfl hb
      | ⟨2, _⟩ => rfl
      | ⟨3, _⟩ => rfl) (by show (j 1).val - 128 + 128 = (j 1).val; omega)).trans ((cast_blocks X h _ _ _ _).trans (Eq.symm ?_))
    exact dif_neg e
end

theorem prevOwn_up (X : Cube 2048 4 64) (n : Fin 16) (k : Fin 4) (j) :
    prevOwn (α := EReal) (up (s := S2048x4x64) (φ := .f32) X) n k j = ((prevOwn X n k j : ℝ) : EReal) := by
  unfold prevOwn two
  split
  · dsimp only
    split
    · exact EReal.coe_zero.symm
    · rfl
  · rfl
theorem withPrev (X : Cube 2048 4 64) (h hs z) (hz : ∀ i, (z i : EReal) = 0) (h0 h1) :
    concatenate S16x256x4x64 1 [⟨S16x128x4x64, concatenate S16x128x4x64 0 [⟨S1x128x4x64, z⟩, ⟨S15x128x4x64, extractStridedSlice S15x128x4x64 ![0, 0, 0, 0] (shapeCast S16x128x4x64 (up (s := S2048x4x64) (φ := .f32) X) h) hs⟩] h0⟩,
      ⟨S16x128x4x64, shapeCast S16x128x4x64 (up (s := S2048x4x64) (φ := .f32) X) h⟩] h1 = up (s := S16x256x4x64) (φ := .f32) fun j => prevOwn X (j 0) (j 2) (mk2 (j 1) (j 3)) :=
  (with_prev _ h hs z hz h0 h1).trans (funext fun _ => prevOwn_up X _ _ _)

/-! ## The arguments and their blocks -/

variable (I : Ins)

abbrev a0 : FVec Ideal S2048x1024 .f32 := up (s := S2048x1024) (φ := .f32) I.Q
abbrev a1 : FVec Ideal S2048x256 .f32 := up (s := S2048x256) (φ := .f32) I.K
abbrev a2 : FVec Ideal S2048x256 .f32 := up (s := S2048x256) (φ := .f32) I.V
abbrev a3 : FVec Ideal S64 .f32 := up (s := S64) (φ := .f32) fun j => I.gq (j 0)
abbrev a4 : FVec Ideal S64 .f32 := up (s := S64) (φ := .f32) fun j => I.gk (j 0)
abbrev a5 : FVec Ideal S16 .f32 := up (s := S16) (φ := .f32) fun j => I.S (j 0)
abbrev a6 : FVec Ideal S2048x1024 .f32 := up (s := S2048x1024) (φ := .f32) I.D

abbrev qS : Cube 2048 16 64 := split (h := 16) (w := 64) rfl I.Q
abbrev kS : Cube 2048 4 64 := split (h := 4) (w := 64) rfl I.K
abbrev vS : Cube 2048 4 64 := split (h := 4) (w := 64) rfl I.V

/-- Head `g` of the four that key head `k` serves. -/
def four (k g : Fin 4) : Fin 16 := ⟨4 * k.val + g.val, by have := k.isLt; have := g.isLt; omega⟩

def Sk (k : Fin 4) : Mat 512 1 := (I.blk 0).sk k
def LL : Fam := fun n k => (I.blk n).L k
/-- The normed queries with their gain, and the keys and values a block of queries has. -/
def qg (n : Fin 16) (k : Fin 4) : Mat 512 64 := fun j => xhat ((I.blk n).X k) (j 0) (j 1) * I.gq (j 1)
def kN : Cube 2048 4 64 := fun j => xhat (hd (kS I) (j 1)) (j 0) (j 2) * I.gk (j 2)
def KN (n : Fin 16) (k : Fin 4) : Mat 256 64 := prevOwn (kN I) n k
def VN (n : Fin 16) (k : Fin 4) : Mat 256 64 := prevOwn (vS I) n k

theorem X_row (n : Fin 16) (k g : Fin 4) (q : Fin 128) (d : Fin 64) : (I.blk n).X k (mk2 (row4 g q) d) = hd (qS I) (four k g) (mk2 (rowAt n q) d) := by
  show heads (h := 16) (w := 64) rfl I.Q (mk3 ⟨4 * k.val + (hof (row4 g q)).val, _⟩ (rowAt n (rof (row4 g q))) d) = _
  have e := hof_row4 g q
  have e2 := rof_row4 g q
  simp only [e, e2]
  rfl
theorem Do_row (n : Fin 16) (k g : Fin 4) (q : Fin 128) (d : Fin 64) : (I.blk n).Do k (mk2 (row4 g q) d) = I.D (mk2 (rowAt n q) (fuse (h := 16) (w := 64) rfl (four k g) d)) := by
  show heads (h := 16) (w := 64) rfl I.D (mk3 ⟨4 * k.val + (hof (row4 g q)).val, _⟩ (rowAt n (rof (row4 g q))) d) = _
  have e := hof_row4 g q
  have e2 := rof_row4 g q
  simp only [e, e2]
  rfl
theorem sk_row (k g : Fin 4) (q : Fin 128) : Sk I k (mk2 (row4 g q) 0) = I.S (four k g) := by
  show I.S ⟨4 * k.val + (hof (row4 g q)).val, _⟩ = _
  have e := hof_row4 g q
  simp only [e]
  rfl
theorem xhat_row {a b w : ℕ} {X : Mat a w} {Y : Mat b w} {r : Fin a} {s : Fin b} (h : ∀ d, X (mk2 r d) = Y (mk2 s d)) (d : Fin w) : xhat X r d = xhat Y s d := by
  unfold xhat rinv ms
  simp only [h]

/-- What a query sees of the block before is the block before. -/
theorem two_seen {α : Type} {w : ℕ} (n : Fin 16) (A A' B : (⟨2, ![128, w]⟩ : Shape).Idx → α) (h : n.val ≠ 0 → A = A') (j : (⟨2, ![512, 256]⟩ : Shape).Idx) (hj : seen n j = 1#1) (d : Fin w) :
    two A B (mk2 (j 1) d) = two A' B (mk2 (j 1) d) := by
  have hj1 : (j 1).val < 256 := (j 1).isLt
  by_cases e : n.val = 0
  · have h128 : ¬ (j 1).val < 128 := fun hlt => by
      unfold seen at hj
      rw [if_neg (fun hc => by rcases hc.2.2 with x | x <;> omega)] at hj
      exact absurd hj (by decide)
    refine Eq.trans (dif_neg h128) (Eq.symm ?_)
    exact dif_neg h128
  · rw [h e]
theorem KN_seen (n : Fin 16) (k : Fin 4) (j : (⟨2, ![512, 256]⟩ : Shape).Idx) (hj : seen n j = 1#1) (d : Fin 64) : KN I n k (mk2 (j 1) d) = (I.blk n).kn k (mk2 (j 1) d) :=
  two_seen (w := 64) n (fun i => if n.val = 0 then 0 else (kN I) (mk3 (rowAt (prevT n) (i 0)) k (i 1))) (fun i => (kN I) (mk3 (rowAt (prevT n) (i 0)) k (i 1))) (fun i => (kN I) (mk3 (rowAt n (i 0)) k (i 1))) (fun hn => funext fun i => (if_neg hn).trans rfl) j hj d
theorem VN_seen (n : Fin 16) (k : Fin 4) (j : (⟨2, ![512, 256]⟩ : Shape).Idx) (hj : seen n j = 1#1) (d : Fin 64) : VN I n k (mk2 (j 1) d) = (I.blk n).vv k (mk2 (j 1) d) :=
  two_seen (w := 64) n (fun i => if n.val = 0 then 0 else (vS I) (mk3 (rowAt (prevT n) (i 0)) k (i 1))) (fun i => (vS I) (mk3 (rowAt (prevT n) (i 0)) k (i 1))) (fun i => (vS I) (mk3 (rowAt n (i 0)) k (i 1))) (fun hn => funext fun i => (if_neg hn).trans rfl) j hj d

/-! ## The stages up to the masked logits -/

theorem ne64 : ((64 : ℕ) : ℝ) ≠ 0 := by norm_num
theorem zero1 (i : S1x128x4x64.Idx) : (val_main_v15 (F := Ideal) i : EReal) = 0 := by
  rw [val_main_v15_apply]
  exact lit_zero.trans EReal.coe_zero
theorem zero2 (i : S1x128x4x64.Idx) : (val_main_v21 (F := Ideal) i : EReal) = 0 := by
  rw [val_main_v21_apply]
  exact lit_zero.trans EReal.coe_zero

theorem w0 : val_main_v0 (F := Ideal) (a1 I) = up (s := S2048x4x64) (φ := .f32) (kS I) := cast_split (h := 4) (w := 64) rfl (a1 I) _
theorem w13 : val_main_v13 (F := Ideal) (a1 I) (a4 I) = up (s := S2048x4x64) (φ := .f32) (kN I) := by
  unfold val_main_v13 val_main_v12 val_main_v11 val_main_v10 val_main_v9 val_main_v8 val_main_v7 val_main_v6 val_main_v5 val_main_v4 val_main_v3 val_main_v2 val_main_v1
  rw [w0]
  refine (congrArg (fun x => mulf (mulf _ (broadcastInDim S2048x4x64 _ _ (Host.rsqrt x))) _) (ms3 lit_64 ne64 (kS I) ..)).trans ?_
  rw [rinv3]
  refine (congrArg (fun x => mulf x _) (xhat3 (kS I) _)).trans ?_
  exact scale3 (fun j : S2048x4x64.Idx => xhat (hd (kS I) (j 1)) (j 0) (j 2)) (fun j : S64.Idx => I.gk (j 0)) _ _
theorem w18 : val_main_v18 (F := Ideal) (a1 I) (a4 I) = up (s := S16x256x4x64) (φ := .f32) fun j => KN I (j 0) (j 2) (mk2 (j 1) (j 3)) := by
  unfold val_main_v18 val_main_v17 val_main_v16 val_main_v14
  rw [w13]
  exact withPrev (kN I) _ _ _ zero1 _ _
theorem w24 : val_main_v24 (F := Ideal) (a2 I) = up (s := S16x256x4x64) (φ := .f32) fun j => VN I (j 0) (j 2) (mk2 (j 1) (j 3)) := by
  have e : val_main_v19 (F := Ideal) (a2 I) = up (s := S2048x4x64) (φ := .f32) (vS I) := cast_split (h := 4) (w := 64) rfl (a2 I) _
  unfold val_main_v24 val_main_v23 val_main_v22 val_main_v20
  rw [e]
  exact withPrev (vS I) _ _ _ zero2 _ _
theorem w25 : val_main_v25 (F := Ideal) (a0 I) = up (s := S2048x16x64) (φ := .f32) (qS I) := cast_split (h := 16) (w := 64) rfl (a0 I) _
theorem w32 : val_main_v32 (F := Ideal) (a0 I) = up (s := S2048x16x1) (φ := .f32) fun j => ms (hd (qS I) (j 1)) (j 0) := by
  unfold val_main_v32 val_main_v30 val_main_v28 val_main_v27 val_main_v26
  rw [w25]
  exact ms3 lit_64 ne64 (qS I) ..
theorem w33 : val_main_v33 (F := Ideal) (a0 I) = up (s := S2048x16x1) (φ := .f32) fun j => rinv (hd (qS I) (j 1)) (j 0) := by
  unfold val_main_v33
  rw [w32]
  exact rinv3 (qS I)
theorem w38 : val_main_v38 (F := Ideal) (a0 I) = up (s := S2048x16x64) (φ := .f32) fun j => xhat (hd (qS I) (j 1)) (j 0) (j 2) := by
  unfold val_main_v38 val_main_v37
  rw [w25, w33]
  exact xhat3 (qS I) _
theorem w41 : val_main_v41 (F := Ideal) (a0 I) (a3 I) = up (s := S2048x16x64) (φ := .f32) fun j => xhat (hd (qS I) (j 1)) (j 0) (j 2) * I.gq (j 2) := by
  unfold val_main_v41 val_main_v40 val_main_v39
  rw [w38]
  exact scale3 (fun j : S2048x16x64.Idx => xhat (hd (qS I) (j 1)) (j 0) (j 2)) (fun j : S64.Idx => I.gq (j 0)) _ _
theorem w42 : val_main_v42 (F := Ideal) (a0 I) (a3 I) = up (s := S16x128x4x4x64) (φ := .f32) fun j => qg I (j 0) (j 2) (mk2 (row4 (j 3) (j 1)) (j 4)) := by
  unfold val_main_v42
  rw [w41]
  funext j
  refine (shapeCast_apply _ _ j (mk3 (rowAt (j 0) (j 1)) (four (j 2) (j 3)) (j 4)) ?_).trans ?_
  · rw [Shape.rowMajor_val_three, Shape.rowMajor_val_five]
    show ((128 * (j 0).val + (j 1).val) * 16 + (4 * (j 2).val + (j 3).val)) * 64 + (j 4).val = ((((j 0).val * 128 + (j 1).val) * 4 + (j 2).val) * 4 + (j 3).val) * 64 + (j 4).val
    ring
  · refine congrArg (fun x : ℝ => (x : EReal)) ?_
    show xhat (hd (qS I) (four (j 2) (j 3))) (rowAt (j 0) (j 1)) (j 4) * I.gq (j 4) = xhat ((I.blk (j 0)).X (j 2)) (row4 (j 3) (j 1)) (j 4) * I.gq (j 4)
    rw [xhat_row (fun d => X_row I (j 0) (j 2) (j 3) (j 1) d)]

/-- The reference's logits. -/
def LR : Fam := fun n k j => (∑ d : Fin 64, KN I n k (mk2 (j 1) d) * qg I n k (mk2 (j 0) d)) * (1 / 8)
theorem LR_seen (n : Fin 16) (k : Fin 4) (j : (⟨2, ![512, 256]⟩ : Shape).Idx) (hj : seen n j = 1#1) : LR I n k j = LL I n k j := by
  show (∑ d : Fin 64, KN I n k (mk2 (j 1) d) * qg I n k (mk2 (j 0) d)) * (1 / 8) = ∑ d : Fin 64, (xhat ((I.blk n).X k) (j 0) d * I.gq d * (1 / 8)) * (I.blk n).kn k (mk2 (j 1) d)
  rw [Finset.sum_mul]
  refine Finset.sum_congr rfl fun d _ => ?_
  rw [KN_seen I n k j hj]
  show _ * (xhat ((I.blk n).X k) (j 0) d * I.gq d) * (1 / 8) = _
  ring

theorem w43 : val_main_v43 (F := Ideal) (a0 I) (a1 I) (a3 I) (a4 I) = up (s := S16x4x256x128x4) (φ := .f32) fun j =>
    ∑ d : Fin 64, KN I (j 0) (j 1) (mk2 (j 2) d) * qg I (j 0) (j 1) (mk2 (row4 (j 4) (j 3)) d) := by
  unfold val_main_v43
  rw [w18, w42]
  refine hdot_up dot_S16x256x4x64_S16x128x4x4x64_S16x4x256x128x4_3_4_1_13_02_02 rfl (K := 64) rfl _ _
    (fun j d => mk4 (k := 16) (l := 256) (m := 4) (n := 64) (j 0) (j 2) (j 1) d) (fun j d => mk5 (k := 16) (l := 128) (m := 4) (n := 4) (o := 64) (j 0) (j 3) (j 1) (j 4) d) ?_ ?_
  · exact fun j d => ext4 rfl rfl rfl rfl
  · exact fun j d => ext5 rfl rfl rfl rfl rfl
theorem w46 : val_main_v46 (F := Ideal) (a0 I) (a1 I) (a3 I) (a4 I) = up (s := S16x4x4x128x256) (φ := .f32) (at5 (LR I)) := by
  unfold val_main_v46 val_main_v45 val_main_v44
  rw [w43, transpose_up (s := S16x4x256x128x4) (t := S16x4x4x128x256) _ _ _ (fun j => mk5 (k := 16) (l := 4) (m := 256) (n := 128) (o := 4) (j 0) (j 1) (j 4) (j 3) (j 2))]
  · refine (congrArg (fun x => mulf _ x) ((congrArg (broadcastInDim S16x4x4x128x256 ![] _) (constant_up lit_eighth)).trans (host_scalar_up _ _ _))).trans ?_
    exact mulf_up _ _
  · exact fun j b => by
      match b with
      | ⟨0, _⟩ => rfl
      | ⟨1, _⟩ => rfl
      | ⟨2, _⟩ => rfl
      | ⟨3, _⟩ => rfl
      | ⟨4, _⟩ => rfl

/-- The masked logits. -/
theorem w76 : val_main_v76_0 (F := Ideal) (a0 I) (a1 I) (a3 I) (a4 I) = maskedAll seen (LL I) := by
  funext j
  rw [val_main_v76_0_apply, mask, w46]
  have hc : (val_main_call0_v2 (F := Ideal) j : EReal) = ⊥ := by
    rw [val_main_call0_v2_apply]
    exact lit_bot
  rw [hc]
  show Scalar.select (seen (j 0) (mk2 (row4 (j 2) (j 3)) (j 4))) ((LR I (j 0) (j 1) (mk2 (row4 (j 2) (j 3)) (j 4)) : ℝ) : EReal) ⊥
    = if seen (j 0) (mk2 (row4 (j 2) (j 3)) (j 4)) = 1#1 then ((LL I (j 0) (j 1) (mk2 (row4 (j 2) (j 3)) (j 4)) : ℝ) : EReal) else ⊥
  unfold Scalar.select
  by_cases e : seen (j 0) (mk2 (row4 (j 2) (j 3)) (j 4)) = 1#1
  · exact (if_pos e).trans ((congrArg (fun x : ℝ => (x : EReal)) (LR_seen I _ _ _ e)).trans (if_pos e).symm)
  · exact (if_neg e).trans (if_neg e).symm

end Cert.AttnLogits

end
-- ==== Proof.AttnSoft.lean ====
/-
  The reference of the attention's backward call: its softmax with a sink, and the gradients of the logits and of the sinks.
-/
module

public import proofs.«01_k».proof.Proof.AttnLogits

@[expose] public section

set_option maxRecDepth 16384
set_option backward.isDefEq.respectTransparency.types false

noncomputable section

open Idealize.ShloMosaic Idealize.ShloMosaic.TcCoe Idealize.SL.Sem

namespace Cert.AttnSoft

open Cert.Reals Cert.Norm Cert.Arrays Cert.Heads Cert.Rows Cert.Att Cert.AttnFive Cert.AttnLogits Cert.AttnBwdRefIdeal Cert.AttnBwdRefIdeal.Gen Cert.AttnBwdRefIdeal.Read

variable (I : Ins)

/-! ## The softmax -/

theorem zero_const : (constant S_ .f32 0x00000000#32 : FVec Ideal S_ .f32) = up (s := S_) (φ := .f32) fun _ => 0 := constant_up lit_zero

theorem w78 : val_main_v78 (F := Ideal) (a5 I) = up (s := S1x4x4x1x1) (φ := .f32) fun j => I.S (four (j 1) (j 2)) := by
  have e : val_main_v77 (F := Ideal) (a5 I) = up (s := S4x4) (φ := .f32) fun j => I.S (four (j 0) (j 1)) := funext fun j => by
    unfold val_main_v77
    refine shapeCast_apply _ _ j (mk1 (four (j 0) (j 1))) ?_
    rw [Shape.rowMajor_val_one, Shape.rowMajor_val_two]
    show 4 * (j 0).val + (j 1).val = (j 0).val * 4 + (j 1).val
    omega
  unfold val_main_v78
  rw [e]
  exact host_bcast_up (s := S4x4) (t := S1x4x4x1x1) _ _ _ (fun j => mk2 (j 1) (j 2)) fun j a => by
    match a with
    | ⟨0, _⟩ => rfl
    | ⟨1, _⟩ => rfl
theorem spread_sink (h : S1x4x4x1x1.BroadcastsInDim S16x4x4x128x1 ![0, 1, 2, 3, 4]) :
    broadcastInDim S16x4x4x128x1 ![0, 1, 2, 3, 4] h (val_main_v78 (F := Ideal) (a5 I)) = up (s := S16x4x4x128x1) (φ := .f32) (at1 fun n k r => Sk I k (mk2 r 0)) := by
  rw [w78]
  refine (host_bcast_up _ _ h (fun j => mk5 (k := 1) (l := 4) (m := 4) (n := 1) (o := 1) 0 (j 1) (j 2) 0 0) fun j a => by
    match a with
    | ⟨0, _⟩ => rfl
    | ⟨1, _⟩ => rfl
    | ⟨2, _⟩ => rfl
    | ⟨3, _⟩ => rfl
    | ⟨4, _⟩ => rfl).trans ?_
  exact congrArg up (funext fun j => (sk_row I (j 1) (j 2) (j 3)).symm)
theorem w79 (j : S16x4x4x128.Idx) : val_main_v79 (F := Ideal) (a0 I) (a1 I) (a3 I) (a4 I) j = most seen (LL I) (j 0) (j 1) (row4 (j 2) (j 3)) := by
  have e : val_main_v79 (F := Ideal) (a0 I) (a1 I) (a3 I) (a4 I)
      = Host.reduce FloatOps.maximumf (maskedAll seen (LL I)) (constant S_ .f32 0xFF800000#32) reducesTo_S16x4x4x128x256_S16x4x4x128_d4 h_S_ :=
    congrArg (fun x => Host.reduce FloatOps.maximumf x (constant S_ .f32 0xFF800000#32) reducesTo_S16x4x4x128x256_S16x4x4x128_d4 h_S_) (w76 I)
  exact (congrFun e j).trans (largest seen (LL I) reducesTo_S16x4x4x128x256_S16x4x4x128_d4 h_S_ j)
/-- The largest of a row's logits and of its head's sink. -/
theorem top_sink : maximumf (F := Ideal) (s := S16x4x4x128x1) (φ := .f32) (fun j => most seen (LL I) (j 0) (j 1) (row4 (j 2) (j 3))) (up (s := S16x4x4x128x1) (φ := .f32) (at1 fun n k r => Sk I k (mk2 r 0)))
      = up (s := S16x4x4x128x1) (φ := .f32) (at1 (tp seen (LL I) (Sk I))) := by
  funext j
  exact real_max (fold_lt _ _ fun s _ => masked_lt (seen (j 0)) (LL I (j 0) (j 1)) _) _
theorem w85 : val_main_v85 (F := Ideal) (a0 I) (a1 I) (a3 I) (a4 I) = fun j => most seen (LL I) (j 0) (j 1) (row4 (j 2) (j 3)) := by
  funext j
  rw [val_main_v85_apply]
  exact w79 I _
theorem w87 : val_main_v87 (F := Ideal) (a0 I) (a1 I) (a3 I) (a4 I) (a5 I) = up (s := S16x4x4x128x1) (φ := .f32) (at1 (tp seen (LL I) (Sk I))) := by
  unfold val_main_v87 val_main_v86
  rw [spread_sink, w85]
  exact top_sink I
theorem w108 : val_main_v108 (F := Ideal) (a0 I) (a1 I) (a3 I) (a4 I) (a5 I) = up (s := S16x4x4x128x256) (φ := .f32) (at5 (weA seen (LL I) (Sk I))) := by
  unfold val_main_v108 val_main_v107 val_main_v106
  rw [w76, w87, spread15]
  exact exp_all seen (LL I) (Sk I)
theorem w113 : val_main_v113 (F := Ideal) (a0 I) (a1 I) (a3 I) (a4 I) (a5 I) = up (s := S16x4x4x128x1) (φ := .f32) (at1 (seA seen (LL I) (Sk I))) := by
  unfold val_main_v113 val_main_v112 val_main_v111
  rw [w87, spread_sink, subf_up, hostExp_up]
  refine congrArg up (funext fun j => ?_)
  show Real.exp (Sk I (j 1) (mk2 (row4 (j 2) (j 3)) 0) - tp seen (LL I) (Sk I) (j 0) (j 1) (row4 (j 2) (j 3))) = _
  rw [sub_eq_add_neg, Real.exp_add]
  rfl
theorem w114 : val_main_v114 (F := Ideal) (a0 I) (a1 I) (a3 I) (a4 I) (a5 I) = up (s := S16x4x4x128x1) (φ := .f32) (at1 (tot seen (LL I) (Sk I))) := by
  unfold val_main_v114 val_main_v110 val_main_v109 val_main_cst_23
  rw [w108, w113, zero_const, sum5, spread41, addf_up]
  exact congrArg up (funext fun j => we_sum (seen (j 0)) (LL I (j 0) (j 1)) (Sk I (j 1)) (row4 (j 2) (j 3)))
theorem w116 : val_main_v116 (F := Ideal) (a0 I) (a1 I) (a3 I) (a4 I) (a5 I) = up (s := S16x4x4x128x256) (φ := .f32) (at5 (prA seen (LL I) (Sk I))) := by
  unfold val_main_v116 val_main_v115
  rw [w108, w114, spread15]
  refine (hostDivf_up (s := S16x4x4x128x256) (φ := .f32) (at5 (weA seen (LL I) (Sk I))) (at5 fun n k j => tot seen (LL I) (Sk I) n k (j 0))
    fun j => (tot_pos seen (LL I) (Sk I) (j 0) (j 1) (row4 (j 2) (j 3))).ne').trans (congrArg up (funext fun j => ?_))
  exact we_tot seen (LL I) (Sk I) (j 0) (j 1) (mk2 (row4 (j 2) (j 3)) (j 4))
theorem w119 : val_main_v119 (F := Ideal) (a0 I) (a1 I) (a3 I) (a4 I) (a5 I) = up (s := S16x4x4x128x1) (φ := .f32)
    (at1 fun n k r => 1 / (tot seen (LL I) (Sk I) n k r * tot seen (LL I) (Sk I) n k r)) := by
  unfold val_main_v119 val_main_v118 val_main_v117 val_main_cst_24
  rw [w114, mulf_up, constant_up lit_one, host_scalar_up]
  exact hostDivf_up (s := S16x4x4x128x1) (φ := .f32) (fun _ => 1) (at1 fun n k r => tot seen (LL I) (Sk I) n k r * tot seen (LL I) (Sk I) n k r) fun j => (mul_pos (tot_pos seen (LL I) (Sk I) (j 0) (j 1) (row4 (j 2) (j 3))) (tot_pos seen (LL I) (Sk I) (j 0) (j 1) (row4 (j 2) (j 3)))).ne'

/-! ## The products with the gradient -/

/-- The gradient of the probabilities, with the reference's values. -/
def DR : Fam := fun n k j => ∑ d : Fin 64, (I.blk n).Do k (mk2 (j 0) d) * VN I n k (mk2 (j 1) d)
theorem w124 : val_main_v124 (F := Ideal) (a6 I) = up (s := S16x4x64x4x128) (φ := .f32) fun j => (I.blk (j 0)).Do (j 1) (mk2 (row4 (j 3) (j 4)) (j 2)) := by
  have e : val_main_v123 (F := Ideal) (a6 I) = up (s := S16x128x4x4x64) (φ := .f32) fun j => (I.blk (j 0)).Do (j 2) (mk2 (row4 (j 3) (j 1)) (j 4)) := funext fun j => by
    unfold val_main_v123
    refine (shapeCast_apply _ _ j (mk2 (rowAt (j 0) (j 1)) (fuse (h := 16) (w := 64) rfl (four (j 2) (j 3)) (j 4))) ?_).trans ?_
    · rw [Shape.rowMajor_val_two, Shape.rowMajor_val_five]
      show (128 * (j 0).val + (j 1).val) * 1024 + (64 * (4 * (j 2).val + (j 3).val) + (j 4).val) = ((((j 0).val * 128 + (j 1).val) * 4 + (j 2).val) * 4 + (j 3).val) * 64 + (j 4).val
      ring
    · exact congrArg (fun x : ℝ => (x : EReal)) (Do_row I (j 0) (j 2) (j 3) (j 1) (j 4)).symm
  unfold val_main_v124
  rw [e]
  exact transpose_up (s := S16x128x4x4x64) (t := S16x4x64x4x128) _ _ _ (fun j => mk5 (k := 16) (l := 128) (m := 4) (n := 4) (o := 64) (j 0) (j 4) (j 1) (j 3) (j 2)) fun j b => by
    match b with
    | ⟨0, _⟩ => rfl
    | ⟨1, _⟩ => rfl
    | ⟨2, _⟩ => rfl
    | ⟨3, _⟩ => rfl
    | ⟨4, _⟩ => rfl
theorem w125 : val_main_v125 (F := Ideal) (a2 I) (a6 I) = up (s := S16x4x4x128x256) (φ := .f32) (at5 (DR I)) := by
  unfold val_main_v125
  rw [w124, w24]
  refine hdot_up dot_S16x4x64x4x128_S16x256x4x64_S16x4x4x128x256_2_3_34_1_01_02 rfl (K := 64) rfl _ _
    (fun j d => mk5 (k := 16) (l := 4) (m := 64) (n := 4) (o := 128) (j 0) (j 1) d (j 2) (j 3)) (fun j d => mk4 (k := 16) (l := 256) (m := 4) (n := 64) (j 0) (j 4) (j 1) d) ?_ ?_
  · exact fun j d => ext5 rfl rfl rfl rfl rfl
  · exact fun j d => ext4 rfl rfl rfl rfl

theorem sum_row4 (F : Fin 512 → ℝ) : ∑ r : Fin 512, F r = ∑ g : Fin 4, ∑ q : Fin 128, F (row4 g q) := by
  refine Eq.trans ?_ (Fintype.sum_prod_type fun x : Fin 4 × Fin 128 => F (row4 x.1 x.2))
  refine Finset.sum_bij' (fun r _ => (hof r, rof r)) (fun x _ => row4 x.1 x.2) (fun _ _ => Finset.mem_univ _) (fun _ _ => Finset.mem_univ _) ?_ ?_ ?_
  · exact fun r _ => Fin.ext (Nat.div_add_mod r.val 128)
  · exact fun x _ => Prod.ext (hof_row4 x.1 x.2) (rof_row4 x.1 x.2)
  · exact fun r _ => congrArg F (Fin.ext (Nat.div_add_mod r.val 128).symm)

/-- The values' gradient for both blocks of keys. -/
theorem w127 : val_main_v127 (F := Ideal) (a0 I) (a1 I) (a3 I) (a4 I) (a5 I) (a6 I) = up (s := S16x256x4x64) (φ := .f32) fun j =>
    back ((I.blk (j 0)).P (seen (j 0)) (j 2)) ((I.blk (j 0)).Do (j 2)) (mk2 (j 1) (j 3)) := by
  have e : val_main_v126 (F := Ideal) (a0 I) (a1 I) (a3 I) (a4 I) (a5 I) (a6 I) = up (s := S16x4x64x256) (φ := .f32) fun j =>
      back ((I.blk (j 0)).P (seen (j 0)) (j 1)) ((I.blk (j 0)).Do (j 1)) (mk2 (j 3) (j 2)) := by
    unfold val_main_v126
    rw [w124, w116]
    refine (hdot2_up dot_S16x4x64x4x128_S16x4x4x128x256_S16x4x64x256_34_23_2_4_01_01 rfl (K₁ := 4) (K₂ := 128) rfl rfl _ _
      (fun j g q => mk5 (k := 16) (l := 4) (m := 64) (n := 4) (o := 128) (j 0) (j 1) (j 2) g q) (fun j g q => mk5 (k := 16) (l := 4) (m := 4) (n := 128) (o := 256) (j 0) (j 1) g q (j 3)) ?_ ?_).trans ?_
    · exact fun j g q => ext5 rfl rfl rfl rfl rfl
    · exact fun j g q => ext5 rfl rfl rfl rfl rfl
    · exact congrArg up (funext fun j => (sum_row4 fun r => (I.blk (j 0)).Do (j 1) (mk2 r (j 2)) * (I.blk (j 0)).P (seen (j 0)) (j 1) (mk2 r (j 3))).symm)
  unfold val_main_v127
  rw [e]
  exact transpose_up (s := S16x4x64x256) (t := S16x256x4x64) _ _ _ (fun j => mk4 (k := 16) (l := 4) (m := 64) (n := 256) (j 0) (j 2) (j 3) (j 1)) fun j b => by
    match b with
    | ⟨0, _⟩ => rfl
    | ⟨1, _⟩ => rfl
    | ⟨2, _⟩ => rfl
    | ⟨3, _⟩ => rfl

/-! ## The logits' gradient -/

theorem dl_congr {R C : ℕ} (P D D' : Mat R C) (h : ∀ j, P j ≠ 0 → D j = D' j) : de P D = de P D' ∧ dl P D = dl P D' := by
  have e : ∀ j, P j * D j = P j * D' j := fun j => by
    by_cases hp : P j = 0
    · rw [hp, zero_mul, zero_mul]
    · rw [h j hp]
  have e1 : de P D = de P D' := funext fun j => Finset.sum_congr rfl fun s _ => e _
  refine ⟨e1, funext fun j => ?_⟩
  unfold dl
  rw [mul_sub, mul_sub, e, e1]
theorem D_seen (n : Fin 16) (k : Fin 4) (j : (⟨2, ![512, 256]⟩ : Shape).Idx) (h : prA seen (LL I) (Sk I) n k j ≠ 0) : DR I n k j = (I.blk n).dp k j := by
  have hj : seen n j = 1#1 := by
    by_contra hc
    exact h (pr_off seen (LL I) (Sk I) n k j hc)
  exact Finset.sum_congr rfl fun d _ => congrArg _ (VN_seen I n k j hj d)
theorem de_eq (n : Fin 16) (k : Fin 4) (r : Fin 512) : deA seen (LL I) (Sk I) (DR I) n k r = de ((I.blk n).P (seen n) k) ((I.blk n).dp k) (mk2 r 0) :=
  congrFun (dl_congr (prA seen (LL I) (Sk I) n k) (DR I n k) ((I.blk n).dp k) (D_seen I n k)).1 (mk2 r 0)
theorem dl_blk (n : Fin 16) (k : Fin 4) : dlA seen (LL I) (Sk I) (DR I) n k = (I.blk n).G (seen n) k :=
  (dl_congr (prA seen (LL I) (Sk I) n k) (DR I n k) ((I.blk n).dp k) (D_seen I n k)).2

abbrev v_ {α : Type} (f : (FVec Ideal S2048x1024 .f32) → (FVec Ideal S2048x256 .f32) → (FVec Ideal S2048x256 .f32) → (FVec Ideal S64 .f32) → (FVec Ideal S64 .f32) → (FVec Ideal S16 .f32) → (FVec Ideal S2048x1024 .f32) → α) : α :=
  f (a0 I) (a1 I) (a2 I) (a3 I) (a4 I) (a5 I) (a6 I)

theorem w133 : v_ I (val_main_v133 (F := Ideal)) = up (s := S16x4x4x128x1) (φ := .f32) (at1 (neg seen (LL I) (Sk I) (DR I))) := by
  unfold v_ val_main_v133 val_main_v132 val_main_v131 val_main_v130 val_main_v129 val_main_v128 val_main_cst_25
  rw [w125, w119, w108, zero_const, spread15, mulf_up, mulf_up]
  refine (congrArg (fun x => Host.negf (shapeCast S16x4x4x128x1 x _)) (sum5 (fun n k j => DR I n k j * (1 / (tot seen (LL I) (Sk I) n k (j 0) * tot seen (LL I) (Sk I) n k (j 0))) * weA seen (LL I) (Sk I) n k j) _ _)).trans ?_
  rw [cast1, hostNegf_up]
  rfl
theorem w136 : v_ I (val_main_v136 (F := Ideal)) = up (s := S16x4x4x128x1) (φ := .f32) (at1 fun n k r => neg seen (LL I) (Sk I) (DR I) n k r * seA seen (LL I) (Sk I) n k r) := by
  unfold v_ val_main_v136
  rw [show val_main_v133 (F := Ideal) (a0 I) (a1 I) (a2 I) (a3 I) (a4 I) (a5 I) (a6 I) = _ from w133 I, w113, mulf_up]
  rfl
theorem w143 : v_ I (val_main_v143 (F := Ideal)) = up (s := S16x4x4x128x256) (φ := .f32) (at5 (dlA seen (LL I) (Sk I) (DR I))) := by
  unfold v_ val_main_v143 val_main_v142 val_main_v141 val_main_v140 val_main_v135 val_main_v134 val_main_cst_27
  rw [show val_main_v133 (F := Ideal) (a0 I) (a1 I) (a2 I) (a3 I) (a4 I) (a5 I) (a6 I) = _ from w133 I, w125, w114, w108, zero_const, spread15, sum1, spread45]
  refine (congrArg (fun x => mulf (addf x _) _) (hostDivf_up (s := S16x4x4x128x256) (φ := .f32) (at5 (DR I)) (at5 fun n k j => tot seen (LL I) (Sk I) n k (j 0))
    fun j => (tot_pos seen (LL I) (Sk I) (j 0) (j 1) (row4 (j 2) (j 3))).ne')).trans ?_
  rw [addf_up, mulf_up]
  exact congrArg up (funext fun j => dl_eq seen (LL I) (Sk I) (DR I) (j 0) (j 1) (mk2 (row4 (j 2) (j 3)) (j 4)))
theorem w147 : v_ I (val_main_v147 (F := Ideal)) = up (s := S16x4x4x128x1) (φ := .f32) fun _ => 0 := by
  unfold v_ val_main_v147 val_main_v146 val_main_v145 val_main_v144 val_main_v139 val_main_cst_28
  rw [show val_main_v136 (F := Ideal) (a0 I) (a1 I) (a2 I) (a3 I) (a4 I) (a5 I) (a6 I) = _ from w136 I, show val_main_v143 (F := Ideal) (a0 I) (a1 I) (a2 I) (a3 I) (a4 I) (a5 I) (a6 I) = _ from w143 I,
    zero_const, hostNegf_up, hostNegf_up]
  refine (congrArg (fun x => addf _ (shapeCast S16x4x4x128x1 x _)) (sum5 (fun n k j => -dlA seen (LL I) (Sk I) (DR I) n k j) _ _)).trans ?_
  rw [cast1, addf_up]
  exact congrArg up (funext fun j => dl_sum seen (LL I) (Sk I) (DR I) (j 0) (j 1) (row4 (j 2) (j 3)))
theorem zero_mulf {s : Shape} (x : FVec Ideal s .f32) : mulf (up (s := s) (φ := .f32) fun _ => 0) x = up (s := s) (φ := .f32) fun _ => 0 := funext fun j => by
  show ((0 : ℝ) : EReal) * (x j : EReal) = ((0 : ℝ) : EReal)
  rw [EReal.coe_zero, zero_mul]
theorem w156 : v_ I (val_main_v156 (F := Ideal)) = up (s := S16x4x4x128x256) (φ := .f32) fun _ => 0 := by
  unfold v_ val_main_v156 val_main_v155 val_main_v154 val_main_v153 val_main_v152 val_main_v84 val_main_cst_16 val_main_cst_30
  rw [show val_main_v147 (F := Ideal) (a0 I) (a1 I) (a2 I) (a3 I) (a4 I) (a5 I) (a6 I) = _ from w147 I, zero_mulf, zero_const]
  rw [show Host.reduceAdd (up (s := S16x4x4x128x1) (φ := .f32) fun _ => 0) (up (s := S_) (φ := .f32) fun _ => 0) reducesTo_S16x4x4x128x1_S16x4x4x128_d4 h_S_ = up (s := S16x4x4x128) (φ := .f32) fun _ => 0
    from sum1 (fun _ _ _ => 0) _ _]
  refine through_max _ (fun i => ?_) _ _ _
  rw [val_main_v83_apply]
  exact EReal.coe_nonneg.mpr (Nat.cast_nonneg _)
/-- The logits' gradient, an eighth of it. -/
theorem w162 : v_ I (val_main_v162 (F := Ideal)) = up (s := S16x4x4x128x256) (φ := .f32) (at5 fun n k j => (I.blk n).G (seen n) k j * (1 / 8)) := by
  unfold v_ val_main_v162 val_main_v161 val_main_cst_32 val_main_v160 val_main_call1_v0 val_main_call1_cst val_main_v157
  rw [show val_main_v143 (F := Ideal) (a0 I) (a1 I) (a2 I) (a3 I) (a4 I) (a5 I) (a6 I) = _ from w143 I, show val_main_v156 (F := Ideal) (a0 I) (a1 I) (a2 I) (a3 I) (a4 I) (a5 I) (a6 I) = _ from w156 I,
    constant_up lit_eighth, zero_const, host_scalar_up, host_scalar_up, addf_up, select_up, mulf_up]
  refine congrArg up (funext fun j => congrArg (· * (1 / 8 : ℝ)) ?_)
  rw [mask]
  show (if seen (j 0) (mk2 (row4 (j 2) (j 3)) (j 4)) = 1#1 then dlA seen (LL I) (Sk I) (DR I) (j 0) (j 1) (mk2 (row4 (j 2) (j 3)) (j 4)) + 0 else 0) = (I.blk (j 0)).G (seen (j 0)) (j 1) (mk2 (row4 (j 2) (j 3)) (j 4))
  rw [← dl_blk, add_zero]
  by_cases e : seen (j 0) (mk2 (row4 (j 2) (j 3)) (j 4)) = 1#1
  · exact if_pos e
  · exact (if_neg e).trans (dl_off seen (LL I) (Sk I) (DR I) _ _ _ e).symm

end Cert.AttnSoft

end
-- ==== Proof.AttnRef.lean ====
/-
  The reference of the attention's backward call: its results are the kernel's.
-/
module

public import proofs.«01_k».proof.Proof.AttnSoft

@[expose] public section

set_option maxRecDepth 16384
set_option backward.isDefEq.respectTransparency.types false

noncomputable section

open Idealize.ShloMosaic Idealize.ShloMosaic.TcCoe Idealize.SL.Sem

namespace Cert.AttnRef

open Cert.Reals Cert.Norm Cert.Arrays Cert.Heads Cert.Rows Cert.Att Cert.AttnFive Cert.AttnLogits Cert.AttnSoft Cert.AttnBwdRefIdeal Cert.AttnBwdRefIdeal.Gen Cert.AttnBwdRefIdeal.Read

variable (I : Ins)

/-! ## The keys' and the values' gradients -/

/-- One of the two blocks of keys of every block of queries, its heads first and its rows joined. -/
theorem half_blocks (F : S16x256x4x64.Idx → ℝ) (o : ℕ) (ho : o + 128 ≤ 256) (h1 : S16x256x4x64.Slices ![0, o, 0, 0] S16x128x4x64)
    (h2 : S16x128x4x64.Transposes [2, 0, 1, 3] S4x16x128x64) (h3 : S4x16x128x64.ShapeCasts S4x2048x64) :
    shapeCast S4x2048x64 (transpose S4x16x128x64 [2, 0, 1, 3] (extractStridedSlice S16x128x4x64 ![0, o, 0, 0] (up (s := S16x256x4x64) (φ := .f32) F) h1) h2) h3
      = up (s := S4x2048x64) (φ := .f32) (glue fun n i => F (mk4 n ⟨o + (i 1).val, lt_of_lt_of_le (Nat.add_lt_add_left (i 1).isLt o) ho⟩ (i 0) (i 2))) := by
  funext j
  have hj : (j 1).val < 2048 := (j 1).isLt
  refine (shapeCast_apply _ h3 j (mk4 (k := 4) (l := 16) (m := 128) (n := 64) (j 0) ⟨(j 1).val / 128, by omega⟩ ⟨(j 1).val % 128, Nat.mod_lt _ (by decide)⟩ (j 2)) ?_).trans ?_
  · rw [Shape.rowMajor_val_three, Shape.rowMajor_val_four]
    show (((j 0).val * 16 + (j 1).val / 128) * 128 + (j 1).val % 128) * 64 + (j 2).val = ((j 0).val * 2048 + (j 1).val) * 64 + (j 2).val
    omega
  refine (transpose_apply _ _ _ _ (mk4 (k := 16) (l := 128) (m := 4) (n := 64) ⟨(j 1).val / 128, by omega⟩ ⟨(j 1).val % 128, Nat.mod_lt _ (by decide)⟩ (j 0) (j 2)) fun b => by
    match b with
    | ⟨0, _⟩ => rfl
    | ⟨1, _⟩ => rfl
    | ⟨2, _⟩ => rfl
    | ⟨3, _⟩ => rfl).trans ?_
  exact extractStridedSlice_apply _ _ _ _ (mk4 (k := 16) (l := 256) (m := 4) (n := 64) ⟨(j 1).val / 128, by omega⟩ ⟨o + (j 1).val % 128, by omega⟩ (j 0) (j 2)) fun a => by
    match a with
    | ⟨0, _⟩ => exact (Nat.zero_add _).symm
    | ⟨1, _⟩ => rfl
    | ⟨2, _⟩ => exact (Nat.zero_add _).symm
    | ⟨3, _⟩ => exact (Nat.zero_add _).symm

theorem w163 : v_ I (val_main_v163 (F := Ideal)) = up (s := S16x4x256x128x4) (φ := .f32) fun j => (I.blk (j 0)).G (seen (j 0)) (j 1) (mk2 (row4 (j 4) (j 3)) (j 2)) * (1 / 8) := by
  unfold v_ val_main_v163
  rw [show val_main_v162 (F := Ideal) (a0 I) (a1 I) (a2 I) (a3 I) (a4 I) (a5 I) (a6 I) = _ from w162 I]
  exact transpose_up (s := S16x4x4x128x256) (t := S16x4x256x128x4) _ _ _ (fun j => mk5 (k := 16) (l := 4) (m := 4) (n := 128) (o := 256) (j 0) (j 1) (j 4) (j 3) (j 2)) fun j b => by
    match b with
    | ⟨0, _⟩ => rfl
    | ⟨1, _⟩ => rfl
    | ⟨2, _⟩ => rfl
    | ⟨3, _⟩ => rfl
    | ⟨4, _⟩ => rfl
theorem w167 : v_ I (val_main_v167 (F := Ideal)) = up (s := S16x256x4x64) (φ := .f32) fun j => back ((I.blk (j 0)).G (seen (j 0)) (j 2)) ((I.blk (j 0)).qs (j 2)) (mk2 (j 1) (j 3)) := by
  have e : val_main_v166 (F := Ideal) (a0 I) (a1 I) (a2 I) (a3 I) (a4 I) (a5 I) (a6 I) = up (s := S16x4x256x64) (φ := .f32) fun j =>
      back ((I.blk (j 0)).G (seen (j 0)) (j 1)) ((I.blk (j 0)).qs (j 1)) (mk2 (j 2) (j 3)) := by
    unfold val_main_v166
    rw [show val_main_v163 (F := Ideal) (a0 I) (a1 I) (a2 I) (a3 I) (a4 I) (a5 I) (a6 I) = _ from w163 I, w42]
    refine (hdot2_up dot_S16x4x256x128x4_S16x128x4x4x64_S16x4x256x64_34_13_2_4_01_02 rfl (K₁ := 128) (K₂ := 4) rfl rfl _ _
      (fun j q g => mk5 (k := 16) (l := 4) (m := 256) (n := 128) (o := 4) (j 0) (j 1) (j 2) q g) (fun j q g => mk5 (k := 16) (l := 128) (m := 4) (n := 4) (o := 64) (j 0) q (j 1) g (j 3)) ?_ ?_).trans ?_
    · exact fun j q g => ext5 rfl rfl rfl rfl rfl
    · exact fun j q g => ext5 rfl rfl rfl rfl rfl
    · refine congrArg up (funext fun j => Eq.trans ?_ (sum_row4 fun r => (I.blk (j 0)).qs (j 1) (mk2 r (j 3)) * (I.blk (j 0)).G (seen (j 0)) (j 1) (mk2 r (j 2))).symm)
      rw [Finset.sum_comm]
      refine Finset.sum_congr rfl fun g _ => Finset.sum_congr rfl fun q _ => ?_
      show (I.blk (j 0)).G (seen (j 0)) (j 1) (mk2 (row4 g q) (j 2)) * (1 / 8) * qg I (j 0) (j 1) (mk2 (row4 g q) (j 3)) = (qg I (j 0) (j 1) (mk2 (row4 g q) (j 3)) * (1 / 8)) * (I.blk (j 0)).G (seen (j 0)) (j 1) (mk2 (row4 g q) (j 2))
      ring
  unfold v_ val_main_v167
  rw [e]
  exact transpose_up (s := S16x4x256x64) (t := S16x256x4x64) _ _ _ (fun j => mk4 (k := 16) (l := 4) (m := 256) (n := 64) (j 0) (j 2) (j 1) (j 3)) fun j b => by
    match b with
    | ⟨0, _⟩ => rfl
    | ⟨1, _⟩ => rfl
    | ⟨2, _⟩ => rfl
    | ⟨3, _⟩ => rfl

theorem w195 : v_ I (val_main_v195 (F := Ideal)) = up (s := S4x2048x64) (φ := .f32) (I.resK 128 (by decide)) := by
  unfold v_ val_main_v195 val_main_v194 val_main_v193
  rw [show val_main_v167 (F := Ideal) (a0 I) (a1 I) (a2 I) (a3 I) (a4 I) (a5 I) (a6 I) = _ from w167 I]
  exact half_blocks _ 128 (by decide) _ _ _
theorem w198 : v_ I (val_main_v198 (F := Ideal)) = up (s := S4x2048x64) (φ := .f32) (I.resK 0 (by decide)) := by
  unfold v_ val_main_v198 val_main_v197 val_main_v196
  rw [show val_main_v167 (F := Ideal) (a0 I) (a1 I) (a2 I) (a3 I) (a4 I) (a5 I) (a6 I) = _ from w167 I]
  exact half_blocks _ 0 (by decide) _ _ _
theorem w201 : val_main_v201 (F := Ideal) (a0 I) (a1 I) (a3 I) (a4 I) (a5 I) (a6 I) = up (s := S4x2048x64) (φ := .f32) (I.resV 128 (by decide)) := by
  unfold val_main_v201 val_main_v200 val_main_v199
  rw [w127]
  exact half_blocks _ 128 (by decide) _ _ _
theorem w204 : val_main_v204 (F := Ideal) (a0 I) (a1 I) (a3 I) (a4 I) (a5 I) (a6 I) = up (s := S4x2048x64) (φ := .f32) (I.resV 0 (by decide)) := by
  unfold val_main_v204 val_main_v203 val_main_v202
  rw [w127]
  exact half_blocks _ 0 (by decide) _ _ _

/-! ## The queries' gradient -/

def blkOf (r : Fin 2048) : Fin 16 := ⟨r.val / 128, by have := r.isLt; omega⟩
def inBlk (r : Fin 2048) : Fin 128 := ⟨r.val % 128, Nat.mod_lt _ (by decide)⟩
def kOf (h : Fin 16) : Fin 4 := ⟨h.val / 4, by have := h.isLt; omega⟩
def gOf (h : Fin 16) : Fin 4 := ⟨h.val % 4, Nat.mod_lt _ (by decide)⟩
theorem rowAt_of (r : Fin 2048) : rowAt (blkOf r) (inBlk r) = r := Fin.ext (Nat.div_add_mod r.val 128)
theorem four_of (h : Fin 16) : four (kOf h) (gOf h) = h := Fin.ext (Nat.div_add_mod h.val 4)

/-- The gradient of the normed queries with their gain. -/
def DN : Cube 2048 16 64 := fun j => (I.blk (blkOf (j 0))).dn (seen (blkOf (j 0))) (kOf (j 1)) (mk2 (row4 (gOf (j 1)) (inBlk (j 0))) (j 2))

theorem w168 : v_ I (val_main_v168 (F := Ideal)) = up (s := S2048x16x64) (φ := .f32) (DN I) := by
  have e : val_main_v164 (F := Ideal) (a0 I) (a1 I) (a2 I) (a3 I) (a4 I) (a5 I) (a6 I) = up (s := S16x4x128x4x64) (φ := .f32) fun j =>
      (I.blk (j 0)).dn (seen (j 0)) (j 1) (mk2 (row4 (j 3) (j 2)) (j 4)) := by
    unfold val_main_v164
    rw [show val_main_v163 (F := Ideal) (a0 I) (a1 I) (a2 I) (a3 I) (a4 I) (a5 I) (a6 I) = _ from w163 I, w18]
    refine (hdot_up dot_S16x4x256x128x4_S16x256x4x64_S16x4x128x4x64_2_1_34_3_01_02 rfl (K := 256) rfl _ _
      (fun j s => mk5 (k := 16) (l := 4) (m := 256) (n := 128) (o := 4) (j 0) (j 1) s (j 2) (j 3)) (fun j s => mk4 (k := 16) (l := 256) (m := 4) (n := 64) (j 0) s (j 1) (j 4)) ?_ ?_).trans ?_
    · exact fun j s => ext5 rfl rfl rfl rfl rfl
    · exact fun j s => ext4 rfl rfl rfl rfl
    · refine congrArg up (funext fun j => ?_)
      show ∑ s : Fin 256, (I.blk (j 0)).G (seen (j 0)) (j 1) (mk2 (row4 (j 3) (j 2)) s) * (1 / 8) * KN I (j 0) (j 1) (mk2 s (j 4))
        = (∑ s : Fin 256, (I.blk (j 0)).G (seen (j 0)) (j 1) (mk2 (row4 (j 3) (j 2)) s) * (I.blk (j 0)).kn (j 1) (mk2 s (j 4))) * (1 / 8)
      rw [Finset.sum_mul]
      refine Finset.sum_congr rfl fun s _ => ?_
      by_cases hs : seen (j 0) (mk2 (row4 (j 3) (j 2)) s) = 1#1
      · rw [show KN I (j 0) (j 1) (mk2 s (j 4)) = _ from KN_seen I (j 0) (j 1) _ hs (j 4)]
        exact mul_right_comm _ _ _
      · rw [← dl_blk, dl_off seen (LL I) (Sk I) (DR I) _ _ _ hs, zero_mul, zero_mul, zero_mul, zero_mul]
  have e2 : val_main_v165 (F := Ideal) (a0 I) (a1 I) (a2 I) (a3 I) (a4 I) (a5 I) (a6 I) = up (s := S16x128x4x4x64) (φ := .f32) fun j =>
      (I.blk (j 0)).dn (seen (j 0)) (j 2) (mk2 (row4 (j 3) (j 1)) (j 4)) := by
    unfold val_main_v165
    rw [e]
    exact transpose_up (s := S16x4x128x4x64) (t := S16x128x4x4x64) _ _ _ (fun j => mk5 (k := 16) (l := 4) (m := 128) (n := 4) (o := 64) (j 0) (j 2) (j 1) (j 3) (j 4)) fun j b => by
      match b with
      | ⟨0, _⟩ => rfl
      | ⟨1, _⟩ => rfl
      | ⟨2, _⟩ => rfl
      | ⟨3, _⟩ => rfl
      | ⟨4, _⟩ => rfl
  unfold v_ val_main_v168
  rw [e2]
  funext j
  refine (shapeCast_apply _ _ j (mk5 (k := 16) (l := 128) (m := 4) (n := 4) (o := 64) (blkOf (j 0)) (inBlk (j 0)) (kOf (j 1)) (gOf (j 1)) (j 2)) ?_).trans rfl
  rw [Shape.rowMajor_val_three, Shape.rowMajor_val_five]
  have h0 : (j 0).val < 2048 := (j 0).isLt
  have h1 : (j 1).val < 16 := (j 1).isLt
  show (((((j 0).val / 128) * 128 + (j 0).val % 128) * 4 + (j 1).val / 4) * 4 + (j 1).val % 4) * 64 + (j 2).val = ((j 0).val * 16 + (j 1).val) * 64 + (j 2).val
  omega

theorem w36 : val_main_v36 (F := Ideal) (a0 I) = up (s := S2048x16x1) (φ := .f32) fun j => -(1 / 2) * (rinv (hd (qS I) (j 1)) (j 0) * (rinv (hd (qS I) (j 1)) (j 0) * rinv (hd (qS I) (j 1)) (j 0))) := by
  unfold val_main_v36 val_main_v34
  rw [w33, w32]
  exact half3 (qS I) _
/-- The gradient of the normed queries. -/
abbrev vq : Cube 2048 16 64 := fun j => DN I j * I.gq (j 2)
theorem w173 : v_ I (val_main_v173 (F := Ideal)) = up (s := S2048x16x64) (φ := .f32) (vq I) := by
  unfold v_ val_main_v173 val_main_v172 val_main_v39
  rw [show val_main_v168 (F := Ideal) (a0 I) (a1 I) (a2 I) (a3 I) (a4 I) (a5 I) (a6 I) = _ from w168 I]
  exact scale3 (DN I) (fun j : S64.Idx => I.gq (j 0)) _ _
theorem w184 : v_ I (val_main_v184 (F := Ideal)) = up (s := S2048x16x64) (φ := .f32) (through (vq I) (qS I)) := by
  unfold v_ val_main_v184 val_main_v183 val_main_v182 val_main_v180 val_main_v177 val_main_v176 val_main_v175
  rw [w25, show val_main_v173 (F := Ideal) (a0 I) (a1 I) (a2 I) (a3 I) (a4 I) (a5 I) (a6 I) = _ from w173 I, w36]
  exact mean3 lit_64 ne64 (qS I) (vq I) ..
theorem w188 : v_ I (val_main_v188 (F := Ideal)) = up (s := S2048x16x64) (φ := .f32) fun j => dxv (hd (vq I) (j 1)) (hd (qS I) (j 1)) (j 0) (j 2) := by
  unfold v_ val_main_v188 val_main_v187 val_main_v186 val_main_v185 val_main_v179 val_main_v178
  rw [w25, show val_main_v173 (F := Ideal) (a0 I) (a1 I) (a2 I) (a3 I) (a4 I) (a5 I) (a6 I) = _ from w173 I, w33]
  exact dxv3 (qS I) (vq I) _ (w184 I)

theorem dxv_row {a b w : ℕ} {V X : Mat a w} {V' X' : Mat b w} {r : Fin a} {s : Fin b} (hV : ∀ d, V (mk2 r d) = V' (mk2 s d)) (hX : ∀ d, X (mk2 r d) = X' (mk2 s d)) (d : Fin w) :
    dxv V X r d = dxv V' X' s d := by
  simp only [dxv, xhat, rinv, ms, hV, hX]
/-- A row of the queries' heads is a row of their block's. -/
theorem q_row (r : Fin 2048) (h : Fin 16) (d : Fin 64) : hd (qS I) h (mk2 r d) = (I.blk (blkOf r)).X (kOf h) (mk2 (row4 (gOf h) (inBlk r)) d) := by
  rw [X_row, rowAt_of, four_of]

theorem w192 : v_ I (val_main_v192 (F := Ideal)) = up (s := S16x2048x64) (φ := .bf16) I.resQ := by
  have e : val_main_v190 (F := Ideal) (a0 I) (a1 I) (a2 I) (a3 I) (a4 I) (a5 I) (a6 I) = val_main_v188 (F := Ideal) (a0 I) (a1 I) (a2 I) (a3 I) (a4 I) (a5 I) (a6 I) := join_split _ _ _
  unfold v_ val_main_v192 val_main_v191
  rw [e, show val_main_v188 (F := Ideal) (a0 I) (a1 I) (a2 I) (a3 I) (a4 I) (a5 I) (a6 I) = _ from w188 I]
  refine (congrArg (fun x => truncf .bf16 x bitsLt_bf16_f32) (swap_heads _ _)).trans (funext fun j => congrArg (fun x : ℝ => (x : EReal)) ?_)
  exact dxv_row (V' := fun i => (I.blk (blkOf (j 1))).dn (seen (blkOf (j 1))) (kOf (j 0)) i * I.gq (i 1)) (fun d => rfl) (fun d => q_row I (j 1) (j 0) d) (j 2)

/-! ## The gradients of the gain and of the sinks -/

theorem sum_blocks (F : Fin 2048 → ℝ) : ∑ r : Fin 2048, F r = ∑ n : Fin 16, ∑ p : Fin 128, F (rowAt n p) := by
  refine Eq.trans ?_ (Fintype.sum_prod_type fun x : Fin 16 × Fin 128 => F (rowAt x.1 x.2))
  refine Finset.sum_bij' (fun r _ => (blkOf r, inBlk r)) (fun x _ => rowAt x.1 x.2) (fun _ _ => Finset.mem_univ _) (fun _ _ => Finset.mem_univ _) ?_ ?_ ?_
  · exact fun r _ => rowAt_of r
  · intro x _
    have h := x.2.isLt
    refine Prod.ext (Fin.ext ?_) (Fin.ext ?_)
    · show (128 * x.1.val + x.2.val) / 128 = x.1.val; omega
    · show (128 * x.1.val + x.2.val) % 128 = x.2.val; omega
  · exact fun r _ => congrArg F (rowAt_of r).symm
theorem blkOf_rowAt (n : Fin 16) (p : Fin 128) : blkOf (rowAt n p) = n := Fin.ext (by have := p.isLt; show (128 * n.val + p.val) / 128 = n.val; omega)
theorem inBlk_rowAt (n : Fin 16) (p : Fin 128) : inBlk (rowAt n p) = p := Fin.ext (by have := p.isLt; show (128 * n.val + p.val) % 128 = p.val; omega)
theorem kOf_four (k g : Fin 4) : kOf (four k g) = k := Fin.ext (by have := g.isLt; show (4 * k.val + g.val) / 4 = k.val; omega)
theorem gOf_four (k g : Fin 4) : gOf (four k g) = g := Fin.ext (by have := g.isLt; show (4 * k.val + g.val) % 4 = g.val; omega)
theorem sum_fours (F : Fin 16 → ℝ) : ∑ h : Fin 16, F h = ∑ k : Fin 4, ∑ g : Fin 4, F (four k g) := by
  refine Eq.trans ?_ (Fintype.sum_prod_type fun x : Fin 4 × Fin 4 => F (four x.1 x.2))
  exact Finset.sum_bij' (fun h _ => (kOf h, gOf h)) (fun x _ => four x.1 x.2) (fun _ _ => Finset.mem_univ _) (fun _ _ => Finset.mem_univ _) (fun h _ => four_of h)
    (fun x _ => Prod.ext (kOf_four x.1 x.2) (gOf_four x.1 x.2)) fun h _ => congrArg F (four_of h).symm

theorem gain (q : Fin 64) : ∑ r : Fin 2048, ∑ a : Fin 16, dgRow (hd (DN I) a) (hd (qS I) a) r q = ∑ n : Fin 16, I.gPart q n := by
  rw [sum_blocks]
  refine Finset.sum_congr rfl fun n _ => ?_
  refine Eq.trans (Finset.sum_congr rfl fun p _ => sum_fours _) ?_
  rw [Finset.sum_comm]
  refine Finset.sum_congr rfl fun k _ => ?_
  rw [sum_row4, Finset.sum_comm]
  refine Finset.sum_congr rfl fun g _ => Finset.sum_congr rfl fun p _ => ?_
  have e : DN I (mk3 (rowAt n p) (four k g) q) = (I.blk n).dn (seen n) k (mk2 (row4 g p) q) := by
    show (I.blk (blkOf (rowAt n p))).dn (seen (blkOf (rowAt n p))) (kOf (four k g)) (mk2 (row4 (gOf (four k g)) (inBlk (rowAt n p))) q) = _
    rw [blkOf_rowAt, inBlk_rowAt, kOf_four, gOf_four]
  exact congrArg₂ (· * ·) e (xhat_row (fun d => (X_row I n k g p d).symm) q)

theorem w205 : v_ I (val_main_v205 (F := Ideal)) = up (s := S1x64) (φ := .f32) (I.accG 16) := by
  unfold v_ val_main_v205 val_main_v174 val_main_v171 val_main_v170 val_main_v169
  rw [w38, show val_main_v168 (F := Ideal) (a0 I) (a1 I) (a2 I) (a3 I) (a4 I) (a5 I) (a6 I) = _ from w168 I]
  refine (congrArg (fun y => shapeCast S1x64 y _) (dg3 (qS I) (DN I) ..)).trans ((cast_row_up _ _).trans (congrArg up (funext fun j => ?_)))
  exact (gain I (j 1)).trans (acc_all _).symm

theorem sum03 (f : Col) (h : S16x4x4x128x1.ReducesTo [0, 3] S4x4x1) (hu : 0 < S_.numel) :
    Host.reduceAdd (up (φ := .f32) (at1 f)) (up (s := S_) (φ := .f32) fun _ => 0) h hu = up (s := S4x4x1) (φ := .f32) fun j => ∑ n : Fin 16, ∑ q : Fin 128, f n (j 0) (row4 (j 1) q) :=
  (hsum_up (κ := Fin 16 × Fin 128) (at1 f) h hu (fun j x => mk5 x.1 (j 0) (j 1) x.2 (j 2)) (fun i => (i 0, i 3)) (fun j x => ext3 rfl rfl rfl) (fun j x => rfl) fun i => ext5 rfl rfl rfl rfl rfl).trans
    (congrArg up (funext fun j => Fintype.sum_prod_type _))
theorem sum034 (f : S1x4x4x1x1.Idx → ℝ) (h : S1x4x4x1x1.ReducesTo [0, 3, 4] S4x4) (hu : 0 < S_.numel) :
    Host.reduceAdd (up (φ := .f32) f) (up (s := S_) (φ := .f32) fun _ => 0) h hu = up (s := S4x4) (φ := .f32) fun j => f (mk5 0 (j 0) (j 1) 0 0) := by
  refine (hsum_up (κ := Fin 1) f h hu (fun j x => mk5 (k := 1) (l := 4) (m := 4) (n := 1) (o := 1) 0 (j 0) (j 1) 0 0) (fun i => 0) (fun j x => ext2 rfl rfl) (fun j x => (Fin.fin_one_eq_zero x).symm) fun i => ?_).trans
    (congrArg up (funext fun j => Fin.sum_univ_one _))
  have h0 : (i 0).val < 1 := (i 0).isLt
  have h3 : (i 3).val < 1 := (i 3).isLt
  have h4 : (i 4).val < 1 := (i 4).isLt
  exact ext5 (by show 0 = (i 0).val; omega) rfl rfl (by show 0 = (i 3).val; omega) (by show 0 = (i 4).val; omega)
theorem cast_col (f : S4x4x1.Idx → ℝ) (h : S4x4x1.ShapeCasts S1x4x4x1x1) : shapeCast S1x4x4x1x1 (up (φ := .f32) f) h = up (s := S1x4x4x1x1) (φ := .f32) fun j => f (mk3 (j 1) (j 2) 0) := by
  funext j
  have h0 : (j 0).val < 1 := (j 0).isLt
  have h3 : (j 3).val < 1 := (j 3).isLt
  have h4 : (j 4).val < 1 := (j 4).isLt
  refine shapeCast_apply _ h j (mk3 (j 1) (j 2) 0) ?_
  rw [Shape.rowMajor_val_three, Shape.rowMajor_val_five]
  show ((j 1).val * 4 + (j 2).val) * 1 + 0 = ((((j 0).val * 4 + (j 1).val) * 4 + (j 2).val) * 1 + (j 3).val) * 1 + (j 4).val
  omega

theorem sinks (h : Fin 16) : ∑ n : Fin 16, ∑ q : Fin 128, neg seen (LL I) (Sk I) (DR I) n (kOf h) (row4 (gOf h) q) * seA seen (LL I) (Sk I) n (kOf h) (row4 (gOf h) q) = ∑ n : Fin 16, I.sPart h n := by
  refine Finset.sum_congr rfl fun n _ => ?_
  refine (Finset.sum_congr rfl fun q _ => neg_se seen (LL I) (Sk I) (DR I) n (kOf h) (row4 (gOf h) q)).trans ?_
  rw [Finset.sum_neg_distrib]
  refine congrArg Neg.neg (Finset.sum_congr rfl fun q _ => ?_)
  rw [de_eq]
  rfl

theorem w207 : v_ I (val_main_v207 (F := Ideal)) = up (s := S16x1x128) (φ := .f32) (I.accS 16) := by
  have e : val_main_v159 (F := Ideal) (a0 I) (a1 I) (a2 I) (a3 I) (a4 I) (a5 I) (a6 I) = up (s := S16) (φ := .f32) fun j => ∑ n : Fin 16, I.sPart (j 0) n := by
    unfold val_main_v159 val_main_v158 val_main_v151 val_main_v150 val_main_v149 val_main_v148 val_main_v138 val_main_v137 val_main_cst_26 val_main_cst_29 val_main_cst_31
    rw [show val_main_v147 (F := Ideal) (a0 I) (a1 I) (a2 I) (a3 I) (a4 I) (a5 I) (a6 I) = _ from w147 I, show val_main_v136 (F := Ideal) (a0 I) (a1 I) (a2 I) (a3 I) (a4 I) (a5 I) (a6 I) = _ from w136 I, zero_mulf, zero_const, sum03]
    rw [show Host.reduceAdd (up (s := S16x4x4x128x1) (φ := .f32) fun _ => 0) (up (s := S_) (φ := .f32) fun _ => 0) reducesTo_S16x4x4x128x1_S4x4x1_d0_3 h_S_ = up (s := S4x4x1) (φ := .f32) fun _ => ∑ n : Fin 16, ∑ q : Fin 128, (0 : ℝ)
      from sum03 (fun _ _ _ => 0) _ _]
    rw [cast_col, cast_col, addf_up, sum034]
    funext j
    refine (shapeCast_apply _ _ j (mk2 (kOf (j 0)) (gOf (j 0))) ?_).trans (congrArg (fun x : ℝ => (x : EReal)) ?_)
    · rw [Shape.rowMajor_val_one, Shape.rowMajor_val_two]
      have h0 : (j 0).val < 16 := (j 0).isLt
      show (j 0).val / 4 * 4 + (j 0).val % 4 = (j 0).val
      omega
    · refine Eq.trans ?_ (sinks I (j 0))
      show (∑ n : Fin 16, ∑ q : Fin 128, neg seen (LL I) (Sk I) (DR I) n (kOf (j 0)) (row4 (gOf (j 0)) q) * seA seen (LL I) (Sk I) n (kOf (j 0)) (row4 (gOf (j 0)) q)) + (∑ n : Fin 16, ∑ q : Fin 128, (0 : ℝ)) = _
      simp only [Finset.sum_const_zero, add_zero]
  unfold v_ val_main_v207 val_main_v206
  rw [e]
  refine (congrArg (broadcastInDim S16x1x128 ![0, 1, 2] bcast_S16x1x1_S16x1x128_0_1_2) (host_bcast_up (s := S16) (t := S16x1x1) _ ![0] bcast_S16_S16x1x1_0 (fun j => mk1 (j 0)) fun j a => by
    match a with
    | ⟨0, _⟩ => rfl)).trans ((host_bcast_up (s := S16x1x1) (t := S16x1x128) _ ![0, 1, 2] bcast_S16x1x1_S16x1x128_0_1_2 (fun j => mk3 (j 0) 0 0) fun j a => by
    match a with
    | ⟨0, _⟩ => rfl
    | ⟨1, _⟩ => rfl
    | ⟨2, _⟩ => rfl).trans (congrArg up (funext fun j => ?_)))
  exact (acc_all (I.sPart (j 0))).symm

end Cert.AttnRef

end
-- ==== Proof.AttnClaim.lean ====
/-
  The value claim about the attention's backward call: that kernel and reference compute the same.
-/
module

public import proofs.«01_k».proof.Defs
public import proofs.«01_k».proof.Proof.AttnKernel
public import proofs.«01_k».proof.Proof.AttnRef
public import proofs.«01_k».proof.Proof.Gen.Pre_attn_bwd_finite

@[expose] public section

set_option maxRecDepth 16384

noncomputable section

namespace Cert.AttnClaim

open Idealize.ShloMosaic Idealize.ShloMosaic.TcCoe Idealize.SL.Sem Cert.Reals Cert.Norm Cert.AttnKernel

/-- The precondition says that all seven arrays are finite. -/
theorem finite {m : (ℓ : Loc Cert.AttnBwdIdeal.nD Cert.AttnBwdIdeal.τ Cert.AttnBwdIdeal.sig) → Buf (Elt Ideal) ℓ}
    (h : Cert.Pre_AttnBwdIdeal_attn_bwd_finite m) (c : Dev Cert.AttnBwdIdeal.nD) : ∃ I : Att.Ins, AttnKernel.Args m c I := by
  have h1 := h c
  unfold Cert.Pre_attn_bwd_finite.fn Cert.Pre_attn_bwd_finite.fn_part1 at h1
  obtain ⟨h2, hD⟩ := and_ones h1
  obtain ⟨h3, hS⟩ := and_ones h2
  obtain ⟨h4, hgk⟩ := and_ones h3
  obtain ⟨h5, hgq⟩ := and_ones h4
  obtain ⟨h6, hV⟩ := and_ones h5
  obtain ⟨hQ, hK⟩ := and_ones h6
  obtain ⟨Q, hQ⟩ := finite_of_all _ _ _ _ _ _ _ (congrFun hQ fun a => a.elim0)
  obtain ⟨K, hK⟩ := finite_of_all _ _ _ _ _ _ _ (congrFun hK fun a => a.elim0)
  obtain ⟨V, hV⟩ := finite_of_all _ _ _ _ _ _ _ (congrFun hV fun a => a.elim0)
  obtain ⟨gq, hgq⟩ := finite_of_all _ _ _ _ _ _ _ (congrFun hgq fun a => a.elim0)
  obtain ⟨gk, hgk⟩ := finite_of_all _ _ _ _ _ _ _ (congrFun hgk fun a => a.elim0)
  obtain ⟨S, hS⟩ := finite_of_all _ _ _ _ _ _ _ (congrFun hS fun a => a.elim0)
  obtain ⟨D, hD⟩ := finite_of_all _ _ _ _ _ _ _ (congrFun hD fun a => a.elim0)
  exact ⟨⟨Q, K, V, fun k => gq (mk1 k), fun k => gk (mk1 k), fun k => S (mk1 k), D⟩, hQ, hK, hV,
    hgq.trans (congrArg up (funext fun j => congrArg gq (eq_mk1 j))), hgk.trans (congrArg up (funext fun j => congrArg gk (eq_mk1 j))),
    hS.trans (congrArg up (funext fun j => congrArg S (eq_mk1 j))), hD⟩

set_option maxHeartbeats 2000000 in
/-- Kernel and reference compute the same seven arrays. -/
theorem value : Cert.algebraic_AttnBwdIdeal_AttnBwdRefIdeal_pre_attn_bwd_finite := by
  intro m ρ m' ρ' hpre hagree
  refine ⟨fun c => (Cert.AttnBwdIdeal.Gen.dats m 0 c).arrAt 9 Cert.AttnBwdIdeal.cfg0.N,
    fun c => (Cert.AttnBwdIdeal.Gen.dats m 0 c).arrAt 10 Cert.AttnBwdIdeal.cfg0.N,
    fun c => (Cert.AttnBwdIdeal.Gen.dats m 0 c).arrAt 11 Cert.AttnBwdIdeal.cfg0.N,
    fun c => (Cert.AttnBwdIdeal.Gen.dats m 0 c).arrAt 12 Cert.AttnBwdIdeal.cfg0.N,
    fun c => (Cert.AttnBwdIdeal.Gen.dats m 0 c).arrAt 13 Cert.AttnBwdIdeal.cfg0.N,
    fun c => (Cert.AttnBwdIdeal.Gen.dats m 0 c).arrAt 14 Cert.AttnBwdIdeal.cfg0.N,
    fun c => (Cert.AttnBwdIdeal.Gen.dats m 0 c).arrAt 15 Cert.AttnBwdIdeal.cfg0.N,
    (θ_run Cert.AttnBwdIdeal.defs _ _).mono (fun r h c => ?_) (Cert.AttnBwdIdeal.Value.run_blocks m ρ),
    (θ_run Cert.AttnBwdRefIdeal.defs _ _).mono (fun r h c => ?_) (Cert.AttnBwdRefIdeal.Value.run m' ρ')⟩
  · obtain ⟨h0, h1, h2, h3, h4, h5, h6, -, hk⟩ := h c
    exact ⟨h0, h1, h2, h3, h4, h5, h6, hk⟩
  · obtain ⟨h0, h1, h2, h3, h4, h5, h6, hk⟩ := h c
    obtain ⟨I, ha⟩ := finite hpre c
    obtain ⟨e0, e1, e2, e3, e4, e5, e6⟩ := hagree c
    have a0 : StableHlo.launchContents m' c (Proc.tc.devRef Cert.AttnBwdRefIdeal.main_arg0) = _ := e0.trans ha.hQ
    have a1 : StableHlo.launchContents m' c (Proc.tc.devRef Cert.AttnBwdRefIdeal.main_arg1) = _ := e1.trans ha.hK
    have a2 : StableHlo.launchContents m' c (Proc.tc.devRef Cert.AttnBwdRefIdeal.main_arg2) = _ := e2.trans ha.hV
    have a3 : StableHlo.launchContents m' c (Proc.tc.devRef Cert.AttnBwdRefIdeal.main_arg3) = _ := e3.trans ha.hgq
    have a4 : StableHlo.launchContents m' c (Proc.tc.devRef Cert.AttnBwdRefIdeal.main_arg4) = _ := e4.trans ha.hgk
    have a5 : StableHlo.launchContents m' c (Proc.tc.devRef Cert.AttnBwdRefIdeal.main_arg5) = _ := e5.trans ha.hS
    have a6 : StableHlo.launchContents m' c (Proc.tc.devRef Cert.AttnBwdRefIdeal.main_arg6) = _ := e6.trans ha.hD
    refine ⟨h0.trans ?_, h1.trans ?_, h2.trans ?_, h3.trans ?_, h4.trans ?_, h5.trans ?_, h6.trans ?_, hk⟩
    · refine (Cert.AttnBwdRefIdeal.Read.val_main_v192_eq _).trans ?_
      rw [a0, a1, a2, a3, a4, a5, a6]
      exact (AttnRef.w192 I).trans (AttnKernel.final9 m c ha).symm
    · refine (Cert.AttnBwdRefIdeal.Read.val_main_v195_eq _).trans ?_
      rw [a0, a1, a2, a3, a4, a5, a6]
      exact (AttnRef.w195 I).trans (AttnKernel.final10 m c ha).symm
    · refine (Cert.AttnBwdRefIdeal.Read.val_main_v198_eq _).trans ?_
      rw [a0, a1, a2, a3, a4, a5, a6]
      exact (AttnRef.w198 I).trans (AttnKernel.final11 m c ha).symm
    · refine (Cert.AttnBwdRefIdeal.Read.val_main_v201_eq _).trans ?_
      rw [a0, a1, a3, a4, a5, a6]
      exact (AttnRef.w201 I).trans (AttnKernel.final12 m c ha).symm
    · refine (Cert.AttnBwdRefIdeal.Read.val_main_v204_eq _).trans ?_
      rw [a0, a1, a3, a4, a5, a6]
      exact (AttnRef.w204 I).trans (AttnKernel.final13 m c ha).symm
    · refine (Cert.AttnBwdRefIdeal.Read.val_main_v205_eq _).trans ?_
      rw [a0, a1, a2, a3, a4, a5, a6]
      exact (AttnRef.w205 I).trans (AttnKernel.final14 m c ha).symm
    · refine (Cert.AttnBwdRefIdeal.Read.val_main_v207_eq _).trans ?_
      rw [a0, a1, a2, a3, a4, a5, a6]
      exact (AttnRef.w207 I).trans (AttnKernel.final15 m c ha).symm

end Cert.AttnClaim

end
-- ==== Proof.AttnFKernel.lean ====
/-
  The attention's forward call as the kernel computes it, for finite queries, keys, gains and sinks, and values of any kind.
-/
module

public import proofs.«01_k».proof.Proof.AttnKernel
public import proofs.«01_k».proof.Proof.Gen.AttnFwdIdeal.Frame

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.AttnFKernel

open Cert.Reals Cert.Norm Cert.Arrays Cert.Heads Cert.Rows Cert.Prods Cert.Att Cert.AttnFwdIdeal Cert.AttnFwdIdeal.Gen

/-! ## One block -/

theorem k_lg (Q : Mat 512 64) (X : Mat 256 64) :
    matmul dot_S512x64_S256x64_S512x256_1_1_0_0_n_n none (up (φ := .bf16) Q) (up (φ := .bf16) X) (constant S512x256 .f32 0x00000000#32) = up (φ := .f32) (rows Q X) :=
  dotNT_up _ Q X none

theorem k_masked (V : IVec S512x256 1) (L : Mat 512 256) :
    select V (up (φ := .f32) L) (broadcast S512x256 (Named.named (F := Ideal) κ "mask" 0xF149F2CA#32)) = masked V L :=
  select_masked V L (IdealRules.named_const.ideal_named_scalar _ _ _ _ rfl)

/-- Values weighted by their probabilities. -/
def weigh (P : Mat 512 256) (W : (⟨2, ![256, 64]⟩ : Shape).Idx → EReal) : FVec Ideal S512x64 .f32 := fun j => ∑ s : Fin 256, ((P (mk2 (j 0) s) : ℝ) : EReal) * W (mk2 s (j 1))

theorem k_pv (P : Mat 512 256) (A B : FVec Ideal S128x64 .f32) (h) :
    matmul dot_S512x256_S256x64_S512x64_1_0_0_1_n_n none (up (s := S512x256) (φ := .bf16) P) (truncf .bf16 (join2 A B h) bitsLt_bf16_f32) (constant S512x64 .f32 0x00000000#32)
      = weigh P (two A B) := by
  rw [join2_two]
  exact k_dot (M := 512) (K := 256) (N := 64) (φ₁ := .bf16) (φ₂ := .bf16) _ _

/-- The results of a block of queries, whose values and those of the block before are `W` and `W'`. -/
def att (B : Blk) (V : IVec S512x256 1) (W W' : S4x128x64.Idx → EReal) : S16x128x64.Idx → EReal := fun j =>
  let k : Fin 4 := ⟨(j 0).val / 4, by have := (j 0).isLt; have h : (j 0).val < 16 := this; omega⟩
  weigh (B.P V k) (two (headOf W' k.val k.isLt) (headOf W k.val k.isLt)) (mk2 (row4 ⟨(j 0).val % 4, Nat.mod_lt _ (by decide)⟩ (j 1)) (j 2))

theorem att_part (B : Blk) (V : IVec S512x256 1) (W W' : S4x128x64.Idx → EReal) (k : Fin 4) (o : ℕ) (ho : o = 4 * k.val) :
    Holds (att B V W W') (fun j : S4x128x64.Idx => weigh (B.P V k) (two (headOf W' k.val k.isLt) (headOf W k.val k.isLt)) (mk2 (row4 (j 0) (j 1)) (j 2))) o := by
  subst ho
  intro j i h0 h1 h2
  have hj : (j 0).val < 4 := (j 0).isLt
  have hk := k.isLt
  unfold att
  have e1 : (⟨(i 0).val / 4, by omega⟩ : Fin 4) = k := Fin.ext (by show (i 0).val / 4 = k.val; omega)
  have e2 : (⟨(i 0).val % 4, Nat.mod_lt _ (by decide)⟩ : Fin 4) = j 0 := Fin.ext (by show (i 0).val % 4 = (j 0).val; omega)
  have e3 : i 1 = j 1 := Fin.ext h1
  have e4 : i 2 = j 2 := Fin.ext h2
  dsimp only
  rw [e2, e3, e4]
  have key : ∀ k' : Fin 4, k' = k → weigh (B.P V k) (two (headOf W' k.val k.isLt) (headOf W k.val k.isLt)) (mk2 (row4 (j 0) (j 1)) (j 2))
      = weigh (B.P V k') (two (headOf W' k'.val k'.isLt) (headOf W k'.val k'.isLt)) (mk2 (row4 (j 0) (j 1)) (j 2)) := fun k' e => by rw [e]
  exact key _ e1

set_option maxHeartbeats 4000000 in
theorem out (i : grid0.Coords) (B : Blk) (W W' : FVec Ideal S4x128x64 .f32) :
    out0_8 (F := Ideal) i (up (φ := .f32) B.Q) (up (φ := .f32) B.Kc) (up (φ := .f32) B.Kp) W W' (up (φ := .f32) B.gq) (up (φ := .f32) B.gk) (up (φ := .f32) B.S)
      = att B (k0_pay4 i) W W' := by
  unfold_out out0_8
  simp only [View.ld_unit_zero (S := S1x64) hz2]
  simp -index only [k0_pay1, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39,
    cast_ld, headOf_up, cast_slab, slab_up, cast_self_up, truncf_up, k_rinv lit_64 (by norm_num), k_xhat, AttnBlock.k_scaled, AttnBlock.k_eighth, k_join2, k_join4, k_two, AttnBlock.k_sink, AttnBlock.k_sinks, k_lg, k_masked, k_top, k_we, k_se, k_inv, k_pr, k_pv, cast_unslab]
  exact canon_parts (k := 4) _ _ _ _ _ rfl rfl rfl rfl _ _ _ _ (att_part B _ W W' 0 _ rfl) (att_part B _ W W' 1 _ rfl) (att_part B _ W W' 2 _ rfl) (att_part B _ W W' 3 _ rfl)

/-! ## The arguments' blocks -/

theorem lt16 (t : Fin cfg0.N) : t.val < 16 := lt_of_lt_of_eq t.isLt (show cfg0.N = 16 from N_0)
/-- A point of the grid as a block number. -/
def no (t : Fin cfg0.N) : Fin 16 := ⟨t.val, lt16 t⟩
/-- The point whose block holds row `i`. -/
def pt (i : Fin 2048) : Fin cfg0.N := ⟨i.val / 128, by rw [show cfg0.N = 16 from N_0]; have := i.isLt; omega⟩

theorem coord : ∀ t : Fin cfg0.N, (grid0.coords t 0).val = t.val := (by decide +kernel : ∀ t : Fin grid0.N, _)
theorem mask_eq (t : Fin cfg0.N) : k0_pay4 (grid0.coords t) = seen (no t) := by
  funext j
  refine Eq.trans ?_ (seen_of (no t) j (band (rof (j 0)) (j 1)) (AttnKernel.there (no t) (j 1)))
  unfold k0_pay4
  dsimp only
  rw [coord t, ← AttnKernel.low (j 0)]
  have e0 : iota .tc S512x256 32 [0] iota_S512x256_d0_w32 j = BitVec.ofNat 32 (j 0).val := congrArg (BitVec.ofNat 32) (by show 0 * 512 + (j 0).val = _; omega)
  have e1 : iota .tc S512x256 32 [1] iota_S512x256_d1_w32 j = BitVec.ofNat 32 (j 1).val := congrArg (BitVec.ofNat 32) (by show 0 * 256 + (j 1).val = _; omega)
  rw [← e0, ← e1]
  rfl

theorem index : ∀ t : Fin cfg0.N, (win0_0.index t 0 = 0 ∧ win0_0.index t 1 = t.val ∧ win0_0.index t 2 = 0)
    ∧ (win0_1.index t 0 = 0 ∧ win0_1.index t 1 = t.val ∧ win0_1.index t 2 = 0) ∧ (win0_2.index t 0 = 0 ∧ win0_2.index t 1 = t.val - 1 ∧ win0_2.index t 2 = 0)
    ∧ (win0_3.index t 0 = 0 ∧ win0_3.index t 1 = t.val ∧ win0_3.index t 2 = 0) ∧ (win0_4.index t 0 = 0 ∧ win0_4.index t 1 = t.val - 1 ∧ win0_4.index t 2 = 0)
    ∧ (win0_5.index t 0 = 0 ∧ win0_5.index t 1 = 0) ∧ (win0_6.index t 0 = 0 ∧ win0_6.index t 1 = 0)
    ∧ (win0_7.index t 0 = 0 ∧ win0_7.index t 1 = 0 ∧ win0_7.index t 2 = 0) ∧ (win0_8.index t 0 = 0 ∧ win0_8.index t 1 = t.val ∧ win0_8.index t 2 = 0) :=
  (by decide +kernel : ∀ t : Fin grid0.N, _)

variable (m : (ℓ : Loc nD τ sig) → Buf (Elt Ideal) ℓ) (c : Dev nD)

/-- The values, as they are given. -/
abbrev argV : S2048x256.Idx → EReal := m (c.tc.loc main_arg2)

structure Args (I : Ins) : Prop where
  hQ : m (c.tc.loc main_arg0) = up (s := S2048x1024) (φ := .f32) I.Q
  hK : m (c.tc.loc main_arg1) = up (s := S2048x256) (φ := .f32) I.K
  hgq : m (c.tc.loc main_arg3) = up (s := S64) (φ := .f32) fun j => I.gq (j 0)
  hgk : m (c.tc.loc main_arg4) = up (s := S64) (φ := .f32) fun j => I.gk (j 0)
  hS : m (c.tc.loc main_arg5) = up (s := S16) (φ := .f32) fun j => I.S (j 0)

theorem heads_any {h k : ℕ} (e : k = h * 64) (X : FVec Ideal ⟨2, ![2048, k]⟩ .f32) (hs : (⟨2, ![2048, k]⟩ : Shape).ShapeCasts ⟨3, ![2048, h, 64]⟩) (ht : (⟨3, ![2048, h, 64]⟩ : Shape).Transposes [1, 0, 2] ⟨3, ![h, 2048, 64]⟩) :
    transpose ⟨3, ![h, 2048, 64]⟩ [1, 0, 2] (shapeCast ⟨3, ![2048, h, 64]⟩ X hs) ht = heads (h := h) (w := 64) e X :=
  (congrArg (fun x => transpose ⟨3, ![h, 2048, 64]⟩ [1, 0, 2] x ht) (cast_split (h := h) (w := 64) e X hs)).trans (swap_heads _ ht)

theorem vQ : V m c main_v3 = heads (h := 16) (w := 64) rfl (m (c.tc.loc main_arg0)) := by
  refine Eq.trans ?_ (heads_any rfl _ shapeCasts_S2048x1024_S2048x16x64 transposes_S2048x16x64_S16x2048x64_1_0_2)
  show StableHlo.after hostOps0 (fun b => m (c, b)) main_v3 = _
  after_results_simp <;> rfl
theorem vK : V m c main_v5 = heads (h := 4) (w := 64) rfl (m (c.tc.loc main_arg1)) := by
  refine Eq.trans ?_ (heads_any rfl _ shapeCasts_S2048x256_S2048x4x64 transposes_S2048x4x64_S4x2048x64_1_0_2)
  show StableHlo.after hostOps0 (fun b => m (c, b)) main_v5 = _
  after_results_simp <;> rfl
theorem vV : V m c main_v7 = heads (h := 4) (w := 64) rfl (m (c.tc.loc main_arg2)) := by
  refine Eq.trans ?_ (heads_any rfl _ shapeCasts_S2048x256_S2048x4x64 transposes_S2048x4x64_S4x2048x64_1_0_2)
  show StableHlo.after hostOps0 (fun b => m (c, b)) main_v7 = _
  after_results_simp <;> rfl
theorem vS : V m c main_v1 = broadcastInDim S16x1x128 ![0, 1, 2] bcast_S16x1x1_S16x1x128_0_1_2 (broadcastInDim S16x1x1 ![0] bcast_S16_S16x1x1_0 (m (c.tc.loc main_arg5))) := by
  show StableHlo.after hostOps0 (fun b => m (c, b)) main_v1 = _
  after_results_simp <;> rfl
theorem vgq : V m c main_v8 = shapeCast S1x64 (m (c.tc.loc main_arg3)) shapeCasts_S64_S1x64 := by
  show StableHlo.after hostOps0 (fun b => m (c, b)) main_v8 = _
  after_results_simp <;> rfl
theorem vgk : V m c main_v9 = shapeCast S1x64 (m (c.tc.loc main_arg4)) shapeCasts_S64_S1x64 := by
  show StableHlo.after hostOps0 (fun b => m (c, b)) main_v9 = _
  after_results_simp <;> rfl

theorem b0 (t : Fin cfg0.N) : (iblk m c 0 t : S16x128x64.Idx → EReal) = blkC (V m c main_v3) (no t) := funext fun j =>
  congrArg (V m c main_v3) (ext3 (at_zero (index t).1.1) (at_blk (index t).1.2.1) (at_zero (index t).1.2.2))
theorem b1 (t : Fin cfg0.N) : (iblk m c 1 t : S4x128x64.Idx → EReal) = blkC (V m c main_v5) (no t) := funext fun j =>
  congrArg (V m c main_v5) (ext3 (at_zero (index t).2.1.1) (at_blk (index t).2.1.2.1) (at_zero (index t).2.1.2.2))
theorem b2 (t : Fin cfg0.N) : (iblk m c 2 t : S4x128x64.Idx → EReal) = blkC (V m c main_v5) (prevT (no t)) := funext fun j =>
  congrArg (V m c main_v5) (ext3 (at_zero (index t).2.2.1.1) (at_blk (index t).2.2.1.2.1) (at_zero (index t).2.2.1.2.2))
theorem b3 (t : Fin cfg0.N) : (iblk m c 3 t : S4x128x64.Idx → EReal) = blkC (V m c main_v7) (no t) := funext fun j =>
  congrArg (V m c main_v7) (ext3 (at_zero (index t).2.2.2.1.1) (at_blk (index t).2.2.2.1.2.1) (at_zero (index t).2.2.2.1.2.2))
theorem b4 (t : Fin cfg0.N) : (iblk m c 4 t : S4x128x64.Idx → EReal) = blkC (V m c main_v7) (prevT (no t)) := funext fun j =>
  congrArg (V m c main_v7) (ext3 (at_zero (index t).2.2.2.2.1.1) (at_blk (index t).2.2.2.2.1.2.1) (at_zero (index t).2.2.2.2.1.2.2))
theorem b5 (t : Fin cfg0.N) : (iblk m c 5 t : S1x64.Idx → EReal) = V m c main_v8 := funext fun j =>
  congrArg (V m c main_v8) (ext2 (at_zero (index t).2.2.2.2.2.1.1) (at_zero (index t).2.2.2.2.2.1.2))
theorem b6 (t : Fin cfg0.N) : (iblk m c 6 t : S1x64.Idx → EReal) = V m c main_v9 := funext fun j =>
  congrArg (V m c main_v9) (ext2 (at_zero (index t).2.2.2.2.2.2.1.1) (at_zero (index t).2.2.2.2.2.2.1.2))
theorem b7 (t : Fin cfg0.N) : (iblk m c 7 t : S16x1x128.Idx → EReal) = V m c main_v1 := funext fun j =>
  congrArg (V m c main_v1) (ext3 (at_zero (index t).2.2.2.2.2.2.2.1.1) (at_zero (index t).2.2.2.2.2.2.2.1.2.1) (at_zero (index t).2.2.2.2.2.2.2.1.2.2))

section
variable {I : Ins} (h : Args m c I)

/-- The result, by heads. -/
def outv (I : Ins) : S16x2048x64.Idx → EReal := glue fun n =>
  att (I.blk n) (seen n) (blkC (heads (h := 4) (w := 64) rfl (argV m c)) n) (blkC (heads (h := 4) (w := 64) rfl (argV m c)) (prevT n))

include h in
theorem left (t : Fin cfg0.N) : (dats m 0 c).after 8 t = blkC (outv m c I) (no t) := by
  have e0 : (iblk m c 0 t : FVec Ideal S16x128x64 .f32) = up (φ := .f32) (I.blk (no t)).Q := by
    refine (b0 m c t).trans ?_
    rw [vQ, h.hQ]
    rfl
  have e1 : (iblk m c 1 t : FVec Ideal S4x128x64 .f32) = up (φ := .f32) (I.blk (no t)).Kc := by
    refine (b1 m c t).trans ?_
    rw [vK, h.hK]
    rfl
  have e2 : (iblk m c 2 t : FVec Ideal S4x128x64 .f32) = up (φ := .f32) (I.blk (no t)).Kp := by
    refine (b2 m c t).trans ?_
    rw [vK, h.hK]
    rfl
  have e5 : (iblk m c 5 t : FVec Ideal S1x64 .f32) = up (φ := .f32) (I.blk (no t)).gq := by
    refine (b5 m c t).trans ?_
    rw [vgq, h.hgq]
    exact cast_row_up _ _
  have e6 : (iblk m c 6 t : FVec Ideal S1x64 .f32) = up (φ := .f32) (I.blk (no t)).gk := by
    refine (b6 m c t).trans ?_
    rw [vgk, h.hgk]
    exact cast_row_up _ _
  have e7 : (iblk m c 7 t : FVec Ideal S16x1x128 .f32) = up (φ := .f32) (I.blk (no t)).S := by
    refine (b7 m c t).trans ?_
    rw [vS, h.hS]
    exact AttnKernel.sinks_up I.S
  rw [after0_8, e0, e1, e2, e5, e6, e7]
  refine (out (grid0.coords t) (I.blk (no t)) _ _).trans ?_
  rw [mask_eq, b3, b4, vV]
  exact (blkC_glue (fun n => att (I.blk n) (seen n) (blkC (heads (h := 4) (w := 64) rfl (argV m c)) n) (blkC (heads (h := 4) (w := 64) rfl (argV m c)) (prevT n))) (no t)).symm

include h in
theorem final8 : (dats m 0 c).arrAt 8 cfg0.N = outv m c I := by
  refine (dats m 0 c).arrAt_eq_of_cover 8 _ (fun t _ => ?_) fun i => ⟨pt (i 1), flush0_8 _, ?_⟩
  · show (cfg0.win 8).cut (grid0.coords t) ((dats m 0 c).after 8 t) = _
    rw [left m c h t]
    funext j
    rw [View.read_apply]
    exact congrArg (outv m c I) (ext3 (at_zero (index t).2.2.2.2.2.2.2.2.1) (at_blk (index t).2.2.2.2.2.2.2.2.2.1) (at_zero (index t).2.2.2.2.2.2.2.2.2.2)).symm
  · show i ∈ ((View.whole main_v10_0).slice (win0_8.rect (pt (i 1)))).set
    rw [View.set_slice_whole, Rect.mem_set_unit]
    exact all3 (in_zero (index (pt (i 1))).2.2.2.2.2.2.2.2.1 (i 0).isLt) (in_blk (index (pt (i 1))).2.2.2.2.2.2.2.2.2.1 rfl (by decide)) (in_zero (index (pt (i 1))).2.2.2.2.2.2.2.2.2.2 (i 2).isLt)

/-! ## The lines after the call -/

include h in
theorem tail8 : Pipeline.afterTail₀ cfgs (dats m) 0 (V0 m) [hostOps1] c main_v12
    = shapeCast S2048x1024 (transpose S2048x16x64 [1, 0, 2] (outv m c I) transposes_S16x2048x64_S2048x16x64_1_0_2) shapeCasts_S2048x16x64_S2048x1024 := by
  have e : Pipeline.withArrays (cfgs 0).spec c (V0 m c) (fun w => (dats m 0 c).arrAt w (cfgs 0).N) (Proc.devRef .tc main_v10_0) = outv m c I :=
    (Pipeline.withArrays_arr_shared spec0 c (V0 m c) (fun w => (dats m 0 c).arrAt w cfg0.N)
      (fun w w' hne he => ((dats m 0 c).arrAt_in w (sharedIn0 w w' hne he) _).trans (A_eq m c w)) 8).trans (final8 m c h)
  unfold Pipeline.afterTail₀
  generalize Pipeline.withArrays (cfgs 0).spec c (V0 m c) (fun w => (dats m 0 c).arrAt w (cfgs 0).N) = W at e ⊢
  show StableHlo.after hostOps1 W main_v12 = _
  after_results_simp
  rw [e]
  rfl

/-- Row `r`, head `g`, place `d` of the result. -/
theorem result (i : S2048x1024.Idx) (n : Fin 16) (p : Fin 128) (k g : Fin 4) (d : Fin 64) (h0 : (i 0).val = 128 * n.val + p.val) (h1 : (i 1).val = 64 * (4 * k.val + g.val) + d.val) :
    shapeCast S2048x1024 (transpose S2048x16x64 [1, 0, 2] (outv m c I) transposes_S16x2048x64_S2048x16x64_1_0_2) shapeCasts_S2048x16x64_S2048x1024 i
      = weigh ((I.blk n).P (seen n) k) (two (fun j => argV m c (mk2 (rowAt (prevT n) (j 0)) (fuse (h := 4) (w := 64) rfl k (j 1)))) fun j => argV m c (mk2 (rowAt n (j 0)) (fuse (h := 4) (w := 64) rfl k (j 1)))) (mk2 (row4 g p) d) := by
  have hk := k.isLt
  have hg := g.isLt
  refine (shapeCast_apply _ _ i (mk3 (l := 2048) (m := 16) (n := 64) (rowAt n p) ⟨4 * k.val + g.val, by omega⟩ d) ?_).trans ?_
  · rw [Shape.rowMajor_val_three, Shape.rowMajor_val_two]
    show ((128 * n.val + p.val) * 16 + (4 * k.val + g.val)) * 64 + d.val = (i 0).val * 1024 + (i 1).val
    omega
  · rw [show transpose S2048x16x64 [1, 0, 2] (outv m c I) transposes_S16x2048x64_S2048x16x64_1_0_2 = _ from swap_heads (n := 16) (h := 2048) (w := 64) _ _]
    have e := congrFun (blkC_glue (fun n => att (I.blk n) (seen n) (blkC (heads (h := 4) (w := 64) rfl (argV m c)) n) (blkC (heads (h := 4) (w := 64) rfl (argV m c)) (prevT n))) n)
      (mk3 (l := 16) (m := 128) (n := 64) ⟨4 * k.val + g.val, by omega⟩ p d)
    refine Eq.trans e ?_
    exact (att_part (I.blk n) (seen n) _ _ k _ rfl (mk3 g p d) _ rfl rfl rfl).symm
end

end Cert.AttnFKernel

end
-- ==== Proof.AttnFClaim.lean ====
/-
  The value claim about the attention's forward call: that kernel and reference compute the same.
-/
module

public import proofs.«01_k».proof.Defs
public import proofs.«01_k».proof.Proof.AttnFKernel
public import proofs.«01_k».proof.Proof.AttnSoft
public import proofs.«01_k».proof.Proof.Gen.AttnFwdRefIdeal.Read
public import proofs.«01_k».proof.Proof.Gen.Pre_attn_fwd_finite

@[expose] public section

set_option maxRecDepth 16384
set_option backward.isDefEq.respectTransparency.types false

noncomputable section

open Idealize.ShloMosaic Idealize.ShloMosaic.TcCoe Idealize.SL.Sem

namespace Cert.AttnFRef

open Cert.Reals Cert.Norm Cert.Arrays Cert.Heads Cert.Rows Cert.Att Cert.AttnFive Cert.AttnLogits Cert.AttnSoft Cert.AttnFKernel Cert.AttnFwdRefIdeal Cert.AttnFwdRefIdeal.Gen Cert.AttnFwdRefIdeal.Read

/-- The forward reference's probabilities are the ones the backward reference computes. -/
theorem probs (x0 : FVec Ideal S2048x1024 .f32) (x1 : FVec Ideal S2048x256 .f32) (x3 x4 : FVec Ideal S64 .f32) (x5 : FVec Ideal S16 .f32) :
    val_main_v90 (F := Ideal) x0 x1 x3 x4 x5 = Cert.AttnBwdRefIdeal.Read.val_main_v116 (F := Ideal) x0 x1 x3 x4 x5 := rfl

theorem zero (i : S1x128x4x64.Idx) : (val_main_v21 (F := Ideal) i : EReal) = 0 := by
  rw [val_main_v21_apply]
  exact lit_zero.trans EReal.coe_zero
theorem vals (x : FVec Ideal S2048x256 .f32) : val_main_v24 (F := Ideal) x = fun j => prevOwn (α := EReal) (split (h := 4) (w := 64) rfl x) (j 0) (j 2) (mk2 (j 1) (j 3)) := by
  unfold val_main_v24 val_main_v23 val_main_v22 val_main_v20
  rw [show val_main_v19 (F := Ideal) x = split (h := 4) (w := 64) rfl x from cast_split (h := 4) (w := 64) rfl x _]
  exact with_prev _ _ _ _ zero _ _

/-- What the kernel computes is what the reference computes. -/
theorem same (m : (ℓ : Loc Cert.AttnFwdIdeal.nD Cert.AttnFwdIdeal.τ Cert.AttnFwdIdeal.sig) → Buf (Elt Ideal) ℓ) (c : Dev Cert.AttnFwdIdeal.nD) (I : Ins) :
    val_main_v93 (F := Ideal) (a0 I) (a1 I) (argV m c) (a3 I) (a4 I) (a5 I)
      = shapeCast S2048x1024 (transpose S2048x16x64 [1, 0, 2] (outv m c I) Cert.AttnFwdIdeal.Gen.transposes_S16x2048x64_S2048x16x64_1_0_2) Cert.AttnFwdIdeal.Gen.shapeCasts_S2048x16x64_S2048x1024 := by
  funext i
  have h0 : (i 0).val < 2048 := (i 0).isLt
  have h1 : (i 1).val < 1024 := (i 1).isLt
  let n : Fin 16 := ⟨(i 0).val / 128, by omega⟩
  let p : Fin 128 := ⟨(i 0).val % 128, by omega⟩
  let k : Fin 4 := ⟨(i 1).val / 256, by omega⟩
  let g : Fin 4 := ⟨(i 1).val / 64 % 4, by omega⟩
  let d : Fin 64 := ⟨(i 1).val % 64, by omega⟩
  have e : idx_main_v93 i = mk5 (k := 16) (l := 128) (m := 4) (n := 4) (o := 64) n p k g d := ext5 (by show _ / 131072 = (i 0).val / 128; omega) (by show _ / 1024 % 128 = (i 0).val % 128; omega)
    (by show _ / 256 % 4 = (i 1).val / 256; omega) (by show _ / 64 % 4 = (i 1).val / 64 % 4; omega) (by show _ % 64 = (i 1).val % 64; omega)
  rw [result m c i n p k g d (by show _ = 128 * ((i 0).val / 128) + (i 0).val % 128; omega) (by show _ = 64 * (4 * ((i 1).val / 256) + (i 1).val / 64 % 4) + (i 1).val % 64; omega),
    val_main_v93_apply, val_main_v92_apply, val_main_v91_apply, e, probs, w116, vals]
  refine Finset.sum_congr rfl fun s _ => ?_
  show prevOwn (α := EReal) (split (h := 4) (w := 64) rfl (argV m c)) n k (mk2 s d) * ((prA seen (LL I) (Sk I) n k (mk2 (row4 g p) s) : ℝ) : EReal)
    = ((prA seen (LL I) (Sk I) n k (mk2 (row4 g p) s) : ℝ) : EReal) * two _ _ (mk2 s d)
  by_cases hs : seen n (mk2 (row4 g p) s) = 1#1
  · rw [mul_comm]
    exact congrArg _ (two_seen (w := 64) n _ _ _ (fun hn => funext fun j => if_neg hn) (mk2 (row4 g p) s) hs d)
  · rw [pr_off seen (LL I) (Sk I) n k _ hs, EReal.coe_zero, zero_mul, mul_zero]

end Cert.AttnFRef

namespace Cert.AttnFClaim

open Cert.Reals Cert.Norm Cert.AttnFKernel

/-- The precondition says that all arrays but the values are finite. -/
theorem finite {m : (ℓ : Loc Cert.AttnFwdIdeal.nD Cert.AttnFwdIdeal.τ Cert.AttnFwdIdeal.sig) → Buf (Elt Ideal) ℓ}
    (h : Cert.Pre_AttnFwdIdeal_attn_fwd_finite m) (c : Dev Cert.AttnFwdIdeal.nD) : ∃ I : Att.Ins, Args m c I := by
  have h1 := h c
  unfold Cert.Pre_attn_fwd_finite.fn at h1
  obtain ⟨h2, hS⟩ := and_ones h1
  obtain ⟨h3, hgk⟩ := and_ones h2
  obtain ⟨h4, hgq⟩ := and_ones h3
  obtain ⟨hQ, hK⟩ := and_ones h4
  obtain ⟨Q, hQ⟩ := finite_of_all _ _ _ _ _ _ _ (congrFun hQ fun a => a.elim0)
  obtain ⟨K, hK⟩ := finite_of_all _ _ _ _ _ _ _ (congrFun hK fun a => a.elim0)
  obtain ⟨gq, hgq⟩ := finite_of_all _ _ _ _ _ _ _ (congrFun hgq fun a => a.elim0)
  obtain ⟨gk, hgk⟩ := finite_of_all _ _ _ _ _ _ _ (congrFun hgk fun a => a.elim0)
  obtain ⟨S, hS⟩ := finite_of_all _ _ _ _ _ _ _ (congrFun hS fun a => a.elim0)
  exact ⟨⟨Q, K, fun _ => 0, fun k => gq (mk1 k), fun k => gk (mk1 k), fun k => S (mk1 k), fun _ => 0⟩, hQ, hK,
    hgq.trans (congrArg up (funext fun j => congrArg gq (eq_mk1 j))), hgk.trans (congrArg up (funext fun j => congrArg gk (eq_mk1 j))),
    hS.trans (congrArg up (funext fun j => congrArg S (eq_mk1 j)))⟩

set_option maxHeartbeats 2000000 in
/-- Kernel and reference compute the same array. -/
theorem value : Cert.algebraic_AttnFwdIdeal_AttnFwdRefIdeal_pre_attn_fwd_finite := by
  intro m ρ m' ρ' hpre hagree
  refine ⟨fun c => Cert.AttnFwdRefIdeal.Value.res_main_v93 m' c,
    (θ_run Cert.AttnFwdIdeal.defs _ _).mono (fun r h c => ?_) (θ_run_and (Cert.AttnFwdIdeal.Gen.run_main m ρ) (Cert.AttnFwdIdeal.Gen.unchanged m ρ)),
    Cert.AttnFwdRefIdeal.Value.run m' ρ'⟩
  refine ⟨?_, h.2 c⟩
  obtain ⟨I, ha⟩ := finite hpre c
  obtain ⟨e0, e1, e2, e3, e4, e5⟩ := hagree c
  have a0 : m' (c.tc.loc Cert.AttnFwdRefIdeal.main_arg0) = _ := e0.trans ha.hQ
  have a1 : m' (c.tc.loc Cert.AttnFwdRefIdeal.main_arg1) = _ := e1.trans ha.hK
  have a2 : m' (c.tc.loc Cert.AttnFwdRefIdeal.main_arg2) = argV m c := e2
  have a3 : m' (c.tc.loc Cert.AttnFwdRefIdeal.main_arg3) = _ := e3.trans ha.hgq
  have a4 : m' (c.tc.loc Cert.AttnFwdRefIdeal.main_arg4) = _ := e4.trans ha.hgk
  have a5 : m' (c.tc.loc Cert.AttnFwdRefIdeal.main_arg5) = _ := e5.trans ha.hS
  refine (((h.1 c).2 Cert.AttnFwdIdeal.main_v12 (Pipeline.mem_restRefs_of Cert.AttnFwdIdeal.main_v12 (by decide) (by decide))).trans (tail8 m c ha)).trans ?_
  refine Eq.trans ?_ (Cert.AttnFwdRefIdeal.Read.val_main_v93_eq m' c).symm
  rw [a0, a1, a2, a3, a4, a5]
  exact (AttnFRef.same m c I).symm

end Cert.AttnFClaim

end
-- ==== Proof.Conv.lean ====
/-
  Rows of a matrix by their number, with zeros past its ends, and a buffer of rows kept with its seven shifted copies:
  what the convolution's gradients read.
-/
module

public import proofs.«01_k».proof.Proof.Arrays
public import Idealize.ShloMosaic.Lib.WritesUnit
public import proofs.«01_k».proof.Proof.Norm
public import Idealize.ShloMosaic.Lib.Tactic
public import Idealize.ShloMosaic.Lib.Pipeline.ReadBack

@[expose] public section

set_option maxRecDepth 16384
set_option backward.isDefEq.respectTransparency.types false

noncomputable section

namespace Cert.Conv

open Idealize.ShloMosaic Cert.Reals Cert.Norm Cert.Arrays

variable {a b k n : ℕ} {φ : FTy}

section Rows
variable {α : Type} [Zero α]

/-- A matrix of any entries. -/
abbrev Arr (a b : ℕ) (α : Type) := (⟨2, ![a, b]⟩ : Shape).Idx → α
/-- Entry `c` of row `i`, zero where there is no such row. -/
def rowZ (f : Arr a b α) (i : ℕ) (c : Fin b) : α := if h : i < a then f (mk2 ⟨i, h⟩ c) else 0
/-- The same after `l` rows of zeros. -/
def rowP (f : Arr a b α) (l i : ℕ) (c : Fin b) : α := if l ≤ i then rowZ f (i - l) c else 0

theorem rowZ_in (f : Arr a b α) (i : Fin a) (c : Fin b) : rowZ f i.val c = f (mk2 i c) := dif_pos i.isLt
theorem rowZ_lt (f : Arr a b α) {i : ℕ} (h : i < a) (c : Fin b) : rowZ f i c = f (mk2 ⟨i, h⟩ c) := dif_pos h
theorem rowZ_out (f : Arr a b α) {i : ℕ} (h : a ≤ i) (c : Fin b) : rowZ f i c = 0 := dif_neg (not_lt.mpr h)
theorem rowP_in (f : Arr a b α) {l i : ℕ} (h : l ≤ i) (c : Fin b) : rowP f l i c = rowZ f (i - l) c := if_pos h
theorem rowP_out (f : Arr a b α) {l i : ℕ} (h : i < l) (c : Fin b) : rowP f l i c = 0 := if_neg (not_le.mpr h)

/-- The `k` rows from row `o` on. -/
def rows (f : Arr a b α) (o k : ℕ) : Arr k b α := fun j => rowZ f (o + (j 0).val) (j 1)

end Rows

theorem up_rowZ (f : Mat a b) (i : ℕ) (c : Fin b) : rowZ (up (φ := φ) f : Arr a b EReal) i c = ((rowZ f i c : ℝ) : EReal) := by
  unfold rowZ
  split_ifs <;> rfl
theorem up_rowP (f : Mat a b) (l i : ℕ) (c : Fin b) : rowP (up (φ := φ) f : Arr a b EReal) l i c = ((rowP f l i c : ℝ) : EReal) := by
  unfold rowP
  split_ifs
  · exact up_rowZ f _ c
  · rfl
theorem up_rows (f : Mat a b) (o k : ℕ) : rows (up (φ := φ) f : Arr a b EReal) o k = up (φ := φ) (rows f o k) := funext fun j => up_rowZ f _ _

theorem ld_rowsE {o : ℕ} (f : FVec Ideal ⟨2, ![a, b]⟩ .f32) (inb : ∀ x, (![o, 0] : Fin 2 → ℕ) x + (![k, b] : Fin 2 → ℕ) x ≤ (⟨2, ![a, b]⟩ : Shape).size x) :
    View.ld (Val := Elt Ideal) (e' := .f32) (S := ⟨2, ![a, b]⟩) f (Rect.unit (s := ⟨2, ![a, b]⟩) ![o, 0] ![k, b] inb) = (rows (α := EReal) f o k : FVec Ideal ⟨2, ![k, b]⟩ .f32) :=
  funext fun j => by
    have h : o + (j 0).val < a := lt_of_lt_of_le (Nat.add_lt_add_left (j 0).isLt o) (inb 0)
    refine Eq.trans ?_ (rowZ_lt (α := EReal) f h (j 1)).symm
    exact congrArg f (ext2 (by show o + 1 * (j 0).val = o + (j 0).val; omega) (by show 0 + 1 * (j 1).val = (j 1).val; omega))
theorem ld_rows {o : ℕ} (f : Mat a b) (inb : ∀ x, (![o, 0] : Fin 2 → ℕ) x + (![k, b] : Fin 2 → ℕ) x ≤ (⟨2, ![a, b]⟩ : Shape).size x) :
    View.ld (Val := Elt Ideal) (e' := .f32) (S := ⟨2, ![a, b]⟩) (up f : FVec Ideal ⟨2, ![a, b]⟩ .f32) (Rect.unit (s := ⟨2, ![a, b]⟩) ![o, 0] ![k, b] inb) = up (φ := .f32) (rows f o k) :=
  (ld_rowsE _ inb).trans (up_rows f o k)

/-- The host's slice of the same rows. -/
theorem slice_rowsE {o : ℕ} (f : FVec Ideal ⟨2, ![a, b]⟩ φ) (h : (⟨2, ![a, b]⟩ : Shape).Slices ![o, 0] ⟨2, ![k, b]⟩) :
    extractStridedSlice ⟨2, ![k, b]⟩ ![o, 0] f h = (rows (α := EReal) f o k : FVec Ideal ⟨2, ![k, b]⟩ φ) :=
  funext fun j => by
    have hj : o + (j 0).val < a := lt_of_lt_of_le (Nat.add_lt_add_left (j 0).isLt o) (h.2 0)
    refine (extractStridedSlice_apply _ _ h j (mk2 ⟨o + (j 0).val, hj⟩ (j 1)) fun x => ?_).trans (rowZ_lt (α := EReal) f hj (j 1)).symm
    match x with
    | ⟨0, _⟩ => rfl
    | ⟨1, _⟩ => exact (Nat.zero_add _).symm
theorem slice_rows {o : ℕ} (f : Mat a b) (h : (⟨2, ![a, b]⟩ : Shape).Slices ![o, 0] ⟨2, ![k, b]⟩) :
    extractStridedSlice ⟨2, ![k, b]⟩ ![o, 0] (up f : FVec Ideal ⟨2, ![a, b]⟩ φ) h = up (φ := φ) (rows f o k) := (slice_rowsE _ h).trans (up_rows f o k)

/-- Rows of zeros put before and after a matrix. -/
theorem pad_anyE {l hi : ℕ} (f : FVec Ideal ⟨2, ![a, b]⟩ .f32) (z : FVec Ideal ⟨0, ![]⟩ .f32) (hz : ∀ i, z i = (0 : EReal))
    (h : (⟨2, ![a, b]⟩ : Shape).Pads ![l, 0] ![hi, 0] ![0, 0] ⟨2, ![n, b]⟩) (hu : 0 < (⟨0, ![]⟩ : Shape).numel) :
    pad ⟨2, ![n, b]⟩ ![l, 0] ![hi, 0] ![0, 0] f z h hu = (fun j => rowP (α := EReal) f l (j 0).val (j 1) : FVec Ideal ⟨2, ![n, b]⟩ .f32) := by
  funext j
  by_cases hj : l ≤ (j 0).val ∧ (j 0).val - l < a
  · refine (pad_apply_of_inside _ _ _ _ _ _ _ j (mk2 ⟨(j 0).val - l, hj.2⟩ (j 1)) fun x => ?_).trans ((rowP_in (α := EReal) f hj.1 (j 1)).trans (rowZ_lt (α := EReal) f hj.2 (j 1))).symm
    match x with
    | ⟨0, _⟩ => show (j 0).val = l + ((j 0).val - l) * (0 + 1); omega
    | ⟨1, _⟩ => show (j 1).val = 0 + (j 1).val * (0 + 1); omega
  · refine (pad_apply_of_not_inside _ _ _ _ _ _ _ j 0 fun hin => hj ⟨hin.1, ?_⟩).trans ?_
    rotate_left
    · refine (hz _).trans ?_
      by_cases hl : l ≤ (j 0).val
      · exact ((rowP_in (α := EReal) f hl (j 1)).trans (rowZ_out (α := EReal) f (by omega) (j 1))).symm
      · exact (rowP_out (α := EReal) f (by omega) (j 1)).symm
    · have := hin.2.2
      rwa [show (![0, 0] : Fin 2 → ℕ) 0 + 1 = 1 from rfl, Nat.div_one] at this
theorem pad_any {l hi : ℕ} (f : Mat a b) (z : FVec Ideal ⟨0, ![]⟩ .f32) (hz : ∀ i, z i = ((0 : ℝ) : EReal))
    (h : (⟨2, ![a, b]⟩ : Shape).Pads ![l, 0] ![hi, 0] ![0, 0] ⟨2, ![n, b]⟩) (hu : 0 < (⟨0, ![]⟩ : Shape).numel) :
    pad ⟨2, ![n, b]⟩ ![l, 0] ![hi, 0] ![0, 0] (up f : FVec Ideal ⟨2, ![a, b]⟩ .f32) z h hu
      = up (s := ⟨2, ![n, b]⟩) (φ := .f32) fun j => rowP f l (j 0).val (j 1) :=
  (pad_anyE (up f) z hz h hu).trans (funext fun j => up_rowP f l _ _)

theorem pad_rows {l hi : ℕ} (f : Mat a b) (h : (⟨2, ![a, b]⟩ : Shape).Pads ![l, 0] ![hi, 0] ![0, 0] ⟨2, ![n, b]⟩) (hu : 0 < (⟨0, ![]⟩ : Shape).numel) :
    pad ⟨2, ![n, b]⟩ ![l, 0] ![hi, 0] ![0, 0] (up f : FVec Ideal ⟨2, ![a, b]⟩ .f32) (constant (F := Ideal) ⟨0, ![]⟩ .f32 0x00000000#32) h hu
      = up (s := ⟨2, ![n, b]⟩) (φ := .f32) fun j => rowP f l (j 0).val (j 1) := pad_any f _ (fun _ => lit_zero) h hu

/-- A plane taken out of, or put into, an array of one plane. -/
theorem cast_plane (f : FVec Ideal ⟨3, ![1, a, b]⟩ φ) (h : (⟨3, ![1, a, b]⟩ : Shape).ShapeCasts ⟨2, ![a, b]⟩) :
    shapeCast ⟨2, ![a, b]⟩ f h = (fun j => f (mk3 0 (j 0) (j 1)) : FVec Ideal ⟨2, ![a, b]⟩ φ) :=
  funext fun j => by rw [eq_mk2 j]; exact ValueIdx.shapeCast_1ab_ab_apply _ h _ _
theorem cast_plane_up (f : (⟨3, ![1, a, b]⟩ : Shape).Idx → ℝ) (h : (⟨3, ![1, a, b]⟩ : Shape).ShapeCasts ⟨2, ![a, b]⟩) :
    shapeCast ⟨2, ![a, b]⟩ (up f : FVec Ideal _ φ) h = up (φ := φ) fun j => f (mk3 0 (j 0) (j 1)) := cast_plane _ h
theorem cast_toPlane (f : FVec Ideal ⟨2, ![a, b]⟩ φ) (h : (⟨2, ![a, b]⟩ : Shape).ShapeCasts ⟨3, ![1, a, b]⟩) :
    shapeCast ⟨3, ![1, a, b]⟩ f h = (fun j => f (mk2 (j 1) (j 2)) : FVec Ideal ⟨3, ![1, a, b]⟩ φ) :=
  funext fun j => by
    rw [eq_mk3 j]; exact ValueIdx.shapeCast_ab_1ab_apply _ h _ _ _
theorem cast_toPlane_up (f : Mat a b) (h : (⟨2, ![a, b]⟩ : Shape).ShapeCasts ⟨3, ![1, a, b]⟩) :
    shapeCast ⟨3, ![1, a, b]⟩ (up f : FVec Ideal _ φ) h = up (φ := φ) fun j => f (mk2 (j 1) (j 2)) := cast_toPlane _ h

/-! ## The gate -/

/-- The logistic function. -/
def sgm (x : ℝ) : ℝ := 1 / (1 + Real.exp (-x))
theorem sgm_ne (x : ℝ) : 1 + Real.exp x ≠ 0 := (by positivity : (0 : ℝ) < 1 + Real.exp x).ne'

/-- The kernel's spelling of it. -/
theorem k_sgm {s : Shape} (f : s.Idx → ℝ) :
    divf (broadcast s (Scalar.ofBits (F := Ideal) .f32 0x3F800000#32)) (addf (broadcast s (Scalar.ofBits (F := Ideal) .f32 0x3F800000#32))
      (exp (subf (broadcast s (Scalar.ofBits (F := Ideal) .f32 0x00000000#32)) (up (φ := .f32) f)))) = up (φ := .f32) fun j => sgm (f j) := by
  rw [splat_up lit_one, splat_up lit_zero, subf_up, exp_up, addf_up, divf_up _ _ fun j => sgm_ne _]
  simp only [zero_sub]
  rfl
/-- The host's. -/
theorem r_sgm {s : Shape} (dims : Fin 0 → Fin s.rank) (h : (⟨0, ![]⟩ : Shape).BroadcastsInDim s dims) (f : s.Idx → ℝ) :
    Host.divf (broadcastInDim s dims h (constant (F := Ideal) ⟨0, ![]⟩ .f32 0x3F800000#32)) (addf (broadcastInDim s dims h (constant (F := Ideal) ⟨0, ![]⟩ .f32 0x3F800000#32))
      (Host.exp (Host.negf (up (φ := .f32) f)))) = up (φ := .f32) fun j => sgm (f j) := by
  rw [constant_up lit_one, broadcastInDim_up, hostNegf_up, hostExp_up, addf_up]
  exact hostDivf_up (fun _ => 1) (fun i => 1 + Real.exp (-f i)) fun j => sgm_ne _

/-! ## A buffer stored in parts -/

section Stores

/-- Two matrices side by side. -/
def sides {w : ℕ} (f g : Mat a w) : Mat a n := fun j =>
  if h : (j 1).val < w then f (mk2 (j 0) ⟨(j 1).val, h⟩) else if h : (j 1).val - w < w then g (mk2 (j 0) ⟨(j 1).val - w, h⟩) else 0

variable {sig : RefSig} {κ : Kind} {sp : Space}

/-- Rows read from a buffer whose contents are known. -/
theorem read_rowsE {o : ℕ} (v : View sig κ sp (⟨2, ![a, b]⟩ : Shape) .f32) (L : List (View.Piece (Elt Ideal) (⟨2, ![a, b]⟩ : Shape) .f32)) (f : FVec Ideal ⟨2, ![a, b]⟩ .f32)
    (hf : View.canon L = f) (inb : ∀ x, (![o, 0] : Fin 2 → ℕ) x + (![k, b] : Fin 2 → ℕ) x ≤ (⟨2, ![a, b]⟩ : Shape).size x) :
    v.readCov L (Rect.unit (s := ⟨2, ![a, b]⟩) ![o, 0] ![k, b] inb).toLoadRect = (rows (α := EReal) f o k : FVec Ideal ⟨2, ![k, b]⟩ .f32) := by
  rw [View.readCov_eq_canon', hf]
  exact ld_rowsE f inb
theorem read_rows {o : ℕ} (v : View sig κ sp (⟨2, ![a, b]⟩ : Shape) .f32) (L : List (View.Piece (Elt Ideal) (⟨2, ![a, b]⟩ : Shape) .f32)) (f : Mat a b)
    (hf : View.canon L = up (φ := .f32) f) (inb : ∀ x, (![o, 0] : Fin 2 → ℕ) x + (![k, b] : Fin 2 → ℕ) x ≤ (⟨2, ![a, b]⟩ : Shape).size x) :
    v.readCov L (Rect.unit (s := ⟨2, ![a, b]⟩) ![o, 0] ![k, b] inb).toLoadRect = up (φ := .f32) (rows f o k) := (read_rowsE v L _ hf inb).trans (up_rows f o k)

/-- Two blocks of rows stored one above the other. -/
def stack {α : Type} [Zero α] (f : Arr a b α) (g : Arr k b α) : Arr n b α := fun j => if (j 0).val < a then rowZ f (j 0).val (j 1) else rowZ g ((j 0).val - a) (j 1)
theorem up_stack (f : Mat a b) (g : Mat k b) : stack (n := n) (up (φ := φ) f : Arr a b EReal) (up (φ := φ) g : Arr k b EReal) = up (φ := φ) (stack f g) :=
  funext fun j => (congrArg₂ (ite _) (up_rowZ f _ _) (up_rowZ g _ _)).trans (apply_ite (fun x : ℝ => (x : EReal)) _ _ _).symm

/-- Each of the two blocks is the stack where it stands, and together they fill it. -/
theorem stack_upper {α : Type} [Zero α] (f : Arr a b α) (g : Arr k b α) (inb' : ∀ x, (![0, 0] : Fin 2 → ℕ) x + (![a, b] : Fin 2 → ℕ) x ≤ (⟨2, ![n, b]⟩ : Shape).size x)
    (x : (Rect.unit (s := ⟨2, ![n, b]⟩) ![0, 0] ![a, b] inb').shape.Idx) :
    f x = stack f g ((Rect.unit (s := ⟨2, ![n, b]⟩) ![0, 0] ![a, b] inb').emb x) := by
  have hx : (x 0).val < a := (x 0).isLt
  refine Eq.trans ?_ (if_pos (by show 0 + 1 * (x 0).val < a; omega)).symm
  refine ((congrArg f (eq_mk2 x)).trans (rowZ_in f (x 0) (x 1)).symm).trans (congrArg₂ (rowZ f) ?_ (Fin.ext ?_))
  · show (x 0).val = 0 + 1 * (x 0).val; omega
  · show (x 1).val = 0 + 1 * (x 1).val; omega

theorem stack_lower {α : Type} [Zero α] (f : Arr a b α) (g : Arr k b α) (inb : ∀ x, (![a, 0] : Fin 2 → ℕ) x + (![k, b] : Fin 2 → ℕ) x ≤ (⟨2, ![n, b]⟩ : Shape).size x)
    (x : (Rect.unit (s := ⟨2, ![n, b]⟩) ![a, 0] ![k, b] inb).shape.Idx) :
    g x = stack f g ((Rect.unit (s := ⟨2, ![n, b]⟩) ![a, 0] ![k, b] inb).emb x) := by
  have hx : (x 0).val < k := (x 0).isLt
  refine Eq.trans ?_ (if_neg (by show ¬ a + 1 * (x 0).val < a; omega)).symm
  refine ((congrArg g (eq_mk2 x)).trans (rowZ_in g (x 0) (x 1)).symm).trans (congrArg₂ (rowZ g) ?_ (Fin.ext ?_))
  · show (x 0).val = a + 1 * (x 0).val - a; omega
  · show (x 1).val = 0 + 1 * (x 1).val; omega

theorem stack_fill (hn : n = a + k) (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x) (y : (⟨2, ![n, b]⟩ : Shape).Idx) :
    y ∈ (Rect.unit (s := ⟨2, ![n, b]⟩) ![0, 0] ![a, b] inb').set ∨ y ∈ (Rect.unit (s := ⟨2, ![n, b]⟩) ![a, 0] ![k, b] inb).set := by
  have h0 : (y 0).val < n := (y 0).isLt
  have h1 : (y 1).val < b := (y 1).isLt
  by_cases h : (y 0).val < a
  · exact .inl ((Rect.mem_set_unit (inb := inb')).mpr (Fin.forall_fin_two.mpr
      ⟨⟨Nat.zero_le _, by show (y 0).val < 0 + a; omega⟩, ⟨Nat.zero_le _, by show (y 1).val < 0 + b; omega⟩⟩))
  · exact .inr ((Rect.mem_set_unit (inb := inb)).mpr (Fin.forall_fin_two.mpr
      ⟨⟨by show a ≤ (y 0).val; omega, by show (y 0).val < a + k; omega⟩, ⟨Nat.zero_le _, by show (y 1).val < 0 + b; omega⟩⟩))

theorem canon_stackE (f : FVec Ideal ⟨2, ![a, b]⟩ .f32) (g : FVec Ideal ⟨2, ![k, b]⟩ .f32) (hn : n = a + k)
    (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x) :
    View.canon (Val := Elt Ideal) (e := .f32) (s := ⟨2, ![n, b]⟩) [⟨Rect.unit (s := ⟨2, ![n, b]⟩) ![a, 0] ![k, b] inb, g⟩, ⟨Rect.unit (s := ⟨2, ![n, b]⟩) ![0, 0] ![a, b] inb', f⟩] = (stack (α := EReal) f g : FVec Ideal ⟨2, ![n, b]⟩ .f32) := by
  funext y
  refine View.canon_append_of_piecesOf (Val := Elt Ideal) (e := .f32) (stack (α := EReal) f g : FVec Ideal ⟨2, ![n, b]⟩ .f32) [] [_, _] ⟨stack_lower (α := EReal) f g inb, stack_upper (α := EReal) f g inb', trivial⟩ y ?_
  exact (stack_fill hn inb inb' y).elim (fun h => ⟨_, List.mem_cons_of_mem _ List.mem_cons_self, h⟩) fun h => ⟨_, List.mem_cons_self, h⟩
theorem read_stackE {o w : ℕ} (v : View sig κ sp (⟨2, ![n, b]⟩ : Shape) .f32) (f : FVec Ideal ⟨2, ![a, b]⟩ .f32) (g : FVec Ideal ⟨2, ![k, b]⟩ .f32) (hn : n = a + k)
    (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x)
    (inb'' : ∀ x, (![o, 0] : Fin 2 → ℕ) x + (![w, b] : Fin 2 → ℕ) x ≤ (⟨2, ![n, b]⟩ : Shape).size x) :
    View.readCov (Val := Elt Ideal) v [⟨Rect.unit (s := ⟨2, ![n, b]⟩) ![a, 0] ![k, b] inb, g⟩, ⟨Rect.unit (s := ⟨2, ![n, b]⟩) ![0, 0] ![a, b] inb', f⟩]
        (Rect.unit (s := ⟨2, ![n, b]⟩) ![o, 0] ![w, b] inb'').toLoadRect = (rows (a := n) (α := EReal) (stack f g) o w : FVec Ideal ⟨2, ![w, b]⟩ .f32) :=
  read_rowsE v _ _ (canon_stackE f g hn inb inb') inb''
theorem read_stack {o w : ℕ} (v : View sig κ sp (⟨2, ![n, b]⟩ : Shape) .f32) (f : Mat a b) (g : Mat k b) (hn : n = a + k)
    (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x)
    (inb'' : ∀ x, (![o, 0] : Fin 2 → ℕ) x + (![w, b] : Fin 2 → ℕ) x ≤ (⟨2, ![n, b]⟩ : Shape).size x) :
    View.readCov (Val := Elt Ideal) v [⟨Rect.unit (s := ⟨2, ![n, b]⟩) ![a, 0] ![k, b] inb, up (φ := .f32) g⟩, ⟨Rect.unit (s := ⟨2, ![n, b]⟩) ![0, 0] ![a, b] inb', up (φ := .f32) f⟩]
        (Rect.unit (s := ⟨2, ![n, b]⟩) ![o, 0] ![w, b] inb'').toLoadRect = up (φ := .f32) (rows (a := n) (stack f g) o w) :=
  read_rows v _ _ ((canon_stackE _ _ hn inb inb').trans (up_stack f g)) inb''

/-- The same two blocks, the lower one stored first. -/
theorem canon_stackE' (f : FVec Ideal ⟨2, ![a, b]⟩ .f32) (g : FVec Ideal ⟨2, ![k, b]⟩ .f32) (hn : n = a + k)
    (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x) :
    View.canon (Val := Elt Ideal) (e := .f32) (s := ⟨2, ![n, b]⟩) [⟨Rect.unit (s := ⟨2, ![n, b]⟩) ![0, 0] ![a, b] inb', f⟩, ⟨Rect.unit (s := ⟨2, ![n, b]⟩) ![a, 0] ![k, b] inb, g⟩] = (stack (α := EReal) f g : FVec Ideal ⟨2, ![n, b]⟩ .f32) := by
  funext y
  refine View.canon_append_of_piecesOf (Val := Elt Ideal) (e := .f32) (stack (α := EReal) f g : FVec Ideal ⟨2, ![n, b]⟩ .f32) [] [_, _] ⟨stack_upper (α := EReal) f g inb', stack_lower (α := EReal) f g inb, trivial⟩ y ?_
  exact (stack_fill hn inb inb' y).elim (fun h => ⟨_, List.mem_cons_self, h⟩) fun h => ⟨_, List.mem_cons_of_mem _ List.mem_cons_self, h⟩
theorem read_stackE' {o w : ℕ} (v : View sig κ sp (⟨2, ![n, b]⟩ : Shape) .f32) (f : FVec Ideal ⟨2, ![a, b]⟩ .f32) (g : FVec Ideal ⟨2, ![k, b]⟩ .f32) (hn : n = a + k)
    (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x)
    (inb'' : ∀ x, (![o, 0] : Fin 2 → ℕ) x + (![w, b] : Fin 2 → ℕ) x ≤ (⟨2, ![n, b]⟩ : Shape).size x) :
    View.readCov (Val := Elt Ideal) v [⟨Rect.unit (s := ⟨2, ![n, b]⟩) ![0, 0] ![a, b] inb', f⟩, ⟨Rect.unit (s := ⟨2, ![n, b]⟩) ![a, 0] ![k, b] inb, g⟩]
        (Rect.unit (s := ⟨2, ![n, b]⟩) ![o, 0] ![w, b] inb'').toLoadRect = (rows (a := n) (α := EReal) (stack f g) o w : FVec Ideal ⟨2, ![w, b]⟩ .f32) :=
  read_rowsE v _ _ (canon_stackE' f g hn inb inb') inb''
theorem read_stack' {o w : ℕ} (v : View sig κ sp (⟨2, ![n, b]⟩ : Shape) .f32) (f : Mat a b) (g : Mat k b) (hn : n = a + k)
    (inb : ∀ x, (![a, 0] : Fin 2 → ℕ) x + (![k, b] : Fin 2 → ℕ) x ≤ (⟨2, ![n, b]⟩ : Shape).size x)
    (inb' : ∀ x, (![0, 0] : Fin 2 → ℕ) x + (![a, b] : Fin 2 → ℕ) x ≤ (⟨2, ![n, b]⟩ : Shape).size x)
    (inb'' : ∀ x, (![o, 0] : Fin 2 → ℕ) x + (![w, b] : Fin 2 → ℕ) x ≤ (⟨2, ![n, b]⟩ : Shape).size x) :
    View.readCov (Val := Elt Ideal) v [⟨Rect.unit (s := ⟨2, ![n, b]⟩) ![0, 0] ![a, b] inb', up (φ := .f32) f⟩, ⟨Rect.unit (s := ⟨2, ![n, b]⟩) ![a, 0] ![k, b] inb, up (φ := .f32) g⟩]
        (Rect.unit (s := ⟨2, ![n, b]⟩) ![o, 0] ![w, b] inb'').toLoadRect = up (φ := .f32) (rows (a := n) (stack f g) o w) :=
  read_rows v _ _ ((canon_stackE' _ _ hn inb inb').trans (up_stack f g)) inb''

/-- Rows stored one at a time, the first `n` of a matrix. -/
theorem inbR {n m : ℕ} (h : n + 1 ≤ m) : ∀ x, (![n, 0] : Fin 2 → ℕ) x + (![1, b] : Fin 2 → ℕ) x ≤ (⟨2, ![m, b]⟩ : Shape).size x :=
  Fin.forall_fin_two.mpr ⟨h, (Nat.zero_add b).le⟩
def upto {m : ℕ} (T : ℕ → Mat 1 b) : (n : ℕ) → n ≤ m → List (View.Piece (Elt Ideal) (⟨2, ![m, b]⟩ : Shape) .f32)
  | 0, _ => []
  | n + 1, h => ⟨Rect.unit (s := ⟨2, ![m, b]⟩) ![n, 0] ![1, b] (inbR h), up (φ := .f32) (T n)⟩ :: upto T n (Nat.le_of_succ_le h)

theorem read_upto {m : ℕ} (v : View sig κ sp (⟨2, ![m, b]⟩ : Shape) .f32) (f : v.ty.Contents (Elt Ideal)) (B : Mat m b) (hf : v.read (Elt Ideal) f = up (φ := .f32) B)
    (T : ℕ → Mat 1 b) : ∀ (n : ℕ) (h : n ≤ m), v.read (Elt Ideal) (v.writes (Elt Ideal) f (upto T n h))
      = up (s := ⟨2, ![m, b]⟩) (φ := .f32) fun j => if (j 0).val < n then T (j 0).val (mk2 0 (j 1)) else B j
  | 0, _ => hf.trans (congrArg up (funext fun j => (if_neg (Nat.not_lt_zero _)).symm))
  | n + 1, h => funext fun y => by
    have ih := congrFun (read_upto v f B hf T n (Nat.le_of_succ_le h)) y
    have h1 : (y 1).val < b := (y 1).isLt
    by_cases hy : (y 0).val = n
    · refine (View.read_writes_cons_unit_of_mem v f (inbR h) (up (φ := .f32) (T n)) _ y (mk2 (0 : Fin 1) (y 1)) rfl
        (Fin.forall_fin_two.mpr ⟨hy, (Nat.zero_add _).symm⟩)).trans (congrArg (fun x : ℝ => (x : EReal)) ?_)
      refine Eq.trans ?_ (if_pos (show (y 0).val < n + 1 by omega)).symm
      exact congrArg (fun k => T k (mk2 0 (y 1))) hy.symm
    · refine (View.read_writes_cons_unit_of_not_mem v f (inbR h) (up (φ := .f32) (T n)) _ y rfl 0 ?_).trans (ih.trans (congrArg (fun x : ℝ => (x : EReal)) ?_))
      · show (y 0).val < n ∨ n + 1 ≤ (y 0).val
        omega
      · exact if_congr (by omega) rfl rfl

theorem inbS (q : Fin 7) : ∀ x, (![q.val, 0, 0] : Fin 3 → ℕ) x + (![1, 280, 512] : Fin 3 → ℕ) x ≤ (⟨3, ![7, 288, 512]⟩ : Shape).size x := fun x => by
  match x with
  | ⟨0, _⟩ => exact q.isLt
  | ⟨1, _⟩ => exact (by decide : 0 + 280 ≤ 288)
  | ⟨2, _⟩ => exact (by decide : 0 + 512 ≤ 512)

/-- Copy `q`: the buffer's rows from row `q + 1` on. -/
abbrev piece (f : FVec Ideal ⟨2, ![288, 512]⟩ .f32) (q : Fin 7) : View.Piece (Elt Ideal) (⟨3, ![7, 288, 512]⟩ : Shape) .f32 :=
  ⟨Rect.unit (s := ⟨3, ![7, 288, 512]⟩) ![q.val, 0, 0] ![1, 280, 512] (inbS q), fun j : (⟨3, ![1, 280, 512]⟩ : Shape).Idx => rows (α := EReal) f (q.val + 1) 280 (mk2 (j 1) (j 2))⟩
abbrev pieces (f : FVec Ideal ⟨2, ![288, 512]⟩ .f32) : List (View.Piece (Elt Ideal) (⟨3, ![7, 288, 512]⟩ : Shape) .f32) :=
  [piece f 6, piece f 5, piece f 4, piece f 3, piece f 2, piece f 1, piece f 0]

/-- What the copies hold where they are stored. -/
def copies (f : FVec Ideal ⟨2, ![288, 512]⟩ .f32) : FVec Ideal ⟨3, ![7, 288, 512]⟩ .f32 := fun j => rowZ (α := EReal) f ((j 0).val + 1 + (j 1).val) (j 2)

theorem piece_eq (f : FVec Ideal ⟨2, ![288, 512]⟩ .f32) (q : Fin 7) (x : (piece f q).1.shape.Idx) : (piece f q).2 x = copies f ((piece f q).1.emb x) :=
  congrArg₂ (rowZ (α := EReal) f) (by
    have h0 : (x 0).val < 1 := (x 0).isLt
    show q.val + 1 + (x 1).val = q.val + 1 * (x 0).val + 1 + (0 + 1 * (x 1).val)
    omega) (Fin.ext (by show (x 2).val = 0 + 1 * (x 2).val; omega))

theorem piece_mem (f : FVec Ideal ⟨2, ![288, 512]⟩ .f32) : ∀ q : Fin 7, piece f q ∈ pieces f := fun q => by
  match q with
  | ⟨0, _⟩ => simp [pieces]
  | ⟨1, _⟩ => simp [pieces]
  | ⟨2, _⟩ => simp [pieces]
  | ⟨3, _⟩ => simp [pieces]
  | ⟨4, _⟩ => simp [pieces]
  | ⟨5, _⟩ => simp [pieces]
  | ⟨6, _⟩ => simp [pieces]

/-- The 256 rows read from row `o` of copy `q` are the buffer's from row `o + q + 1` on. -/
theorem read_copy {q o : ℕ} (v : View sig κ sp (⟨3, ![7, 288, 512]⟩ : Shape) .f32) (f : FVec Ideal ⟨2, ![288, 512]⟩ .f32)
    (inb : ∀ x, (![q, o, 0] : Fin 3 → ℕ) x + (![1, 256, 512] : Fin 3 → ℕ) x ≤ (⟨3, ![7, 288, 512]⟩ : Shape).size x) (ho : o ≤ 24) (p : ℕ) (hp : q + 1 + o = p) :
    v.readCov (pieces f) (Rect.unit (s := ⟨3, ![7, 288, 512]⟩) ![q, o, 0] ![1, 256, 512] inb).toLoadRect
      = (fun j => rows (α := EReal) f p 256 (mk2 (j 1) (j 2)) : FVec Ideal ⟨3, ![1, 256, 512]⟩ .f32) := by
  subst hp
  rw [View.readCov_eq_canon']
  funext j
  have h0 : (j 0).val < 1 := (j 0).isLt
  have h1 : (j 1).val < 256 := (j 1).isLt
  have h2 : (j 2).val < 512 := (j 2).isLt
  have hq : q < 7 := inb 0
  refine (View.canon_append_of_piecesOf (Val := Elt Ideal) (e := .f32) (copies f) [] (pieces f)
    ⟨piece_eq f 6, piece_eq f 5, piece_eq f 4, piece_eq f 3, piece_eq f 2, piece_eq f 1, piece_eq f 0, trivial⟩ _
    ⟨_, piece_mem f ⟨q, hq⟩, (Rect.mem_set_unit (inb := inbS ⟨q, hq⟩)).mpr fun x => ?_⟩).trans ?_
  · match x with
    | ⟨0, _⟩ => show q ≤ q + 1 * (j 0).val ∧ q + 1 * (j 0).val < q + 1; omega
    | ⟨1, _⟩ => show 0 ≤ o + 1 * (j 1).val ∧ o + 1 * (j 1).val < 0 + 280; omega
    | ⟨2, _⟩ => show 0 ≤ 0 + 1 * (j 2).val ∧ 0 + 1 * (j 2).val < 0 + 512; omega
  · refine congrArg₂ (rowZ (α := EReal) f) ?_ (Fin.ext ?_)
    · show q + 1 * (j 0).val + 1 + (o + 1 * (j 1).val) = q + 1 + o + (j 1).val; omega
    · show 0 + 1 * (j 2).val = (j 2).val; omega

/-- The copies as they are stored, the last first. -/
theorem read_shiftE {q o : ℕ} (v : View sig κ sp (⟨3, ![7, 288, 512]⟩ : Shape) .f32) (f : FVec Ideal ⟨2, ![288, 512]⟩ .f32) (h6 h5 h4 h3 h2 h1 h0)
    (inb : ∀ x, (![q, o, 0] : Fin 3 → ℕ) x + (![1, 256, 512] : Fin 3 → ℕ) x ≤ (⟨3, ![7, 288, 512]⟩ : Shape).size x) (ho : o ≤ 24) :
    View.readCov (Val := Elt Ideal) v [⟨Rect.unit (s := ⟨3, ![7, 288, 512]⟩) ![6, 0, 0] ![1, 280, 512] h6, fun j : (⟨3, ![1, 280, 512]⟩ : Shape).Idx => rows (α := EReal) f 7 280 (mk2 (j 1) (j 2))⟩,
        ⟨Rect.unit (s := ⟨3, ![7, 288, 512]⟩) ![5, 0, 0] ![1, 280, 512] h5, fun j : (⟨3, ![1, 280, 512]⟩ : Shape).Idx => rows (α := EReal) f 6 280 (mk2 (j 1) (j 2))⟩,
        ⟨Rect.unit (s := ⟨3, ![7, 288, 512]⟩) ![4, 0, 0] ![1, 280, 512] h4, fun j : (⟨3, ![1, 280, 512]⟩ : Shape).Idx => rows (α := EReal) f 5 280 (mk2 (j 1) (j 2))⟩,
        ⟨Rect.unit (s := ⟨3, ![7, 288, 512]⟩) ![3, 0, 0] ![1, 280, 512] h3, fun j : (⟨3, ![1, 280, 512]⟩ : Shape).Idx => rows (α := EReal) f 4 280 (mk2 (j 1) (j 2))⟩,
        ⟨Rect.unit (s := ⟨3, ![7, 288, 512]⟩) ![2, 0, 0] ![1, 280, 512] h2, fun j : (⟨3, ![1, 280, 512]⟩ : Shape).Idx => rows (α := EReal) f 3 280 (mk2 (j 1) (j 2))⟩,
        ⟨Rect.unit (s := ⟨3, ![7, 288, 512]⟩) ![1, 0, 0] ![1, 280, 512] h1, fun j : (⟨3, ![1, 280, 512]⟩ : Shape).Idx => rows (α := EReal) f 2 280 (mk2 (j 1) (j 2))⟩,
        ⟨Rect.unit (s := ⟨3, ![7, 288, 512]⟩) ![0, 0, 0] ![1, 280, 512] h0, fun j : (⟨3, ![1, 280, 512]⟩ : Shape).Idx => rows (α := EReal) f 1 280 (mk2 (j 1) (j 2))⟩]
        (Rect.unit (s := ⟨3, ![7, 288, 512]⟩) ![q, o, 0] ![1, 256, 512] inb).toLoadRect
      = (fun j => rows (α := EReal) f (q + 1 + o) 256 (mk2 (j 1) (j 2)) : FVec Ideal ⟨3, ![1, 256, 512]⟩ .f32) :=
  read_copy v f inb ho _ rfl

theorem read_shift {q o : ℕ} (v : View sig κ sp (⟨3, ![7, 288, 512]⟩ : Shape) .f32) (f : Mat 288 512) (h6 h5 h4 h3 h2 h1 h0)
    (inb : ∀ x, (![q, o, 0] : Fin 3 → ℕ) x + (![1, 256, 512] : Fin 3 → ℕ) x ≤ (⟨3, ![7, 288, 512]⟩ : Shape).size x) (ho : o ≤ 24) :
    View.readCov (Val := Elt Ideal) v [⟨Rect.unit (s := ⟨3, ![7, 288, 512]⟩) ![6, 0, 0] ![1, 280, 512] h6, up (φ := .f32) fun j : (⟨3, ![1, 280, 512]⟩ : Shape).Idx => rows f 7 280 (mk2 (j 1) (j 2))⟩,
        ⟨Rect.unit (s := ⟨3, ![7, 288, 512]⟩) ![5, 0, 0] ![1, 280, 512] h5, up (φ := .f32) fun j : (⟨3, ![1, 280, 512]⟩ : Shape).Idx => rows f 6 280 (mk2 (j 1) (j 2))⟩,
        ⟨Rect.unit (s := ⟨3, ![7, 288, 512]⟩) ![4, 0, 0] ![1, 280, 512] h4, up (φ := .f32) fun j : (⟨3, ![1, 280, 512]⟩ : Shape).Idx => rows f 5 280 (mk2 (j 1) (j 2))⟩,
        ⟨Rect.unit (s := ⟨3, ![7, 288, 512]⟩) ![3, 0, 0] ![1, 280, 512] h3, up (φ := .f32) fun j : (⟨3, ![1, 280, 512]⟩ : Shape).Idx => rows f 4 280 (mk2 (j 1) (j 2))⟩,
        ⟨Rect.unit (s := ⟨3, ![7, 288, 512]⟩) ![2, 0, 0] ![1, 280, 512] h2, up (φ := .f32) fun j : (⟨3, ![1, 280, 512]⟩ : Shape).Idx => rows f 3 280 (mk2 (j 1) (j 2))⟩,
        ⟨Rect.unit (s := ⟨3, ![7, 288, 512]⟩) ![1, 0, 0] ![1, 280, 512] h1, up (φ := .f32) fun j : (⟨3, ![1, 280, 512]⟩ : Shape).Idx => rows f 2 280 (mk2 (j 1) (j 2))⟩,
        ⟨Rect.unit (s := ⟨3, ![7, 288, 512]⟩) ![0, 0, 0] ![1, 280, 512] h0, up (φ := .f32) fun j : (⟨3, ![1, 280, 512]⟩ : Shape).Idx => rows f 1 280 (mk2 (j 1) (j 2))⟩]
        (Rect.unit (s := ⟨3, ![7, 288, 512]⟩) ![q, o, 0] ![1, 256, 512] inb).toLoadRect
      = up (φ := .f32) fun j : (⟨3, ![1, 256, 512]⟩ : Shape).Idx => rows f (q + 1 + o) 256 (mk2 (j 1) (j 2)) := by
  have e := read_shiftE v (up (φ := .f32) f) h6 h5 h4 h3 h2 h1 h0 inb ho
  simp only [up_rows] at e
  exact e

/-- Two blocks of columns stored side by side. -/
theorem canon_sides {w : ℕ} (f g : Mat a w) (hn : n = w + w)
    (inb : ∀ x, (![0, w] : Fin 2 → ℕ) x + (![a, w] : Fin 2 → ℕ) x ≤ (⟨2, ![a, n]⟩ : Shape).size x)
    (inb' : ∀ x, (![0, 0] : Fin 2 → ℕ) x + (![a, w] : Fin 2 → ℕ) x ≤ (⟨2, ![a, n]⟩ : Shape).size x) :
    View.canon (Val := Elt Ideal) (e := .bf16) (s := ⟨2, ![a, n]⟩) [⟨Rect.unit (s := ⟨2, ![a, n]⟩) ![0, w] ![a, w] inb, up (φ := .bf16) g⟩, ⟨Rect.unit (s := ⟨2, ![a, n]⟩) ![0, 0] ![a, w] inb', up (φ := .bf16) f⟩]
      = up (φ := .bf16) (sides f g) := by
  funext y
  refine View.canon_append_of_piecesOf (Val := Elt Ideal) (e := .bf16) (up (φ := .bf16) (sides f g)) [] [_, _] ⟨fun x => ?_, fun x => ?_, trivial⟩ y ?_
  · refine congrArg (fun x : ℝ => (x : EReal)) ?_
    have hx : (x 1).val < w := (x 1).isLt
    refine Eq.trans ?_ (dif_neg (by show ¬ w + 1 * (x 1).val < w; omega)).symm
    refine Eq.trans ?_ (dif_pos (by show w + 1 * (x 1).val - w < w; omega)).symm
    refine congrArg g (ext2 ?_ ?_)
    · show (x 0).val = 0 + 1 * (x 0).val; omega
    · show (x 1).val = w + 1 * (x 1).val - w; omega
  · refine congrArg (fun x : ℝ => (x : EReal)) ?_
    have hx : (x 1).val < w := (x 1).isLt
    refine Eq.trans ?_ (dif_pos (by show 0 + 1 * (x 1).val < w; omega)).symm
    refine congrArg f (ext2 ?_ ?_)
    · show (x 0).val = 0 + 1 * (x 0).val; omega
    · show (x 1).val = 0 + 1 * (x 1).val; omega
  · have h0 : (y 0).val < a := (y 0).isLt
    have h1 : (y 1).val < n := (y 1).isLt
    by_cases h : (y 1).val < w
    · exact ⟨_, List.mem_cons_of_mem _ List.mem_cons_self, (Rect.mem_set_unit (inb := inb')).mpr (Fin.forall_fin_two.mpr
        ⟨⟨Nat.zero_le _, by show (y 0).val < 0 + a; omega⟩, ⟨Nat.zero_le _, by show (y 1).val < 0 + w; omega⟩⟩)⟩
    · exact ⟨_, List.mem_cons_self, (Rect.mem_set_unit (inb := inb)).mpr (Fin.forall_fin_two.mpr
        ⟨⟨Nat.zero_le _, by show (y 0).val < 0 + a; omega⟩, ⟨by show w ≤ (y 1).val; omega, by show (y 1).val < w + w; omega⟩⟩)⟩

end Stores

end Cert.Conv

end
-- ==== Proof.Layer.lean ====
/-
  Layer norm with rows of any width: the rows less their means, and the gradient of the normalised rows.
  The rows less their means are then normed as in `Norm`.
-/
module

public import proofs.«01_k».proof.Proof.Norm

@[expose] public section

set_option maxRecDepth 16384
set_option backward.isDefEq.respectTransparency.types false

noncomputable section

namespace Cert.Layer

open Idealize.ShloMosaic Cert.Reals Cert.Norm

variable {n w : ℕ}

/-- The rows less their means. -/
def cent (X : Mat n w) : Mat n w := fun j => X j - (∑ l : Fin w, X (mk2 (j 0) l)) / (w : ℝ)

theorem sum_cent (hw : (w : ℝ) ≠ 0) (X : Mat n w) (r : Fin n) : ∑ k : Fin w, cent X (mk2 r k) = 0 := by
  unfold cent
  simp only [mk2_0, Finset.sum_sub_distrib, Finset.sum_const, Finset.card_univ, Fintype.card_fin, nsmul_eq_mul]
  rw [mul_div_cancel₀ _ hw, sub_self]

/-- The gradient at `(r, k)` of the norm's argument, for the gradient `V` of the normalised rows. -/
def lnv (V X : Mat n w) (r : Fin n) (k : Fin w) : ℝ :=
  rinv (cent X) r * (V (mk2 r k) - (∑ l : Fin w, V (mk2 r l)) / (w : ℝ)
    - xhat (cent X) r k * ((∑ l : Fin w, V (mk2 r l) * xhat (cent X) r l) / (w : ℝ)))

/-- It is the gradient of the norm of the rows less their means, less its own mean. -/
theorem lnv_eq (hw : (w : ℝ) ≠ 0) (V X : Mat n w) (r : Fin n) (k : Fin w) :
    dxv V (cent X) r k + (∑ l : Fin w, -dxv V (cent X) r l) / (w : ℝ) = lnv V X r k := by
  have hx : ∑ l : Fin w, xhat (cent X) r l = 0 := by
    simp only [xhat, ← Finset.sum_mul, sum_cent hw, zero_mul]
  have hs : ∑ l : Fin w, dxv V (cent X) r l = rinv (cent X) r * ∑ l : Fin w, V (mk2 r l) := by
    simp only [dxv]
    rw [← Finset.mul_sum, Finset.sum_sub_distrib, ← Finset.sum_mul, hx, zero_mul, sub_zero]
  rw [Finset.sum_neg_distrib, hs]
  unfold dxv lnv
  ring

section Kernel
variable {W : BitVec 32} (hW : Ideal.ofBits .f32 W = ((w : ℝ) : EReal)) (hw : (w : ℝ) ≠ 0)
include hW hw

theorem k_cent (X : Mat n w) (acc : BitVec 32) (h1 : (⟨2, ![n, w]⟩ : Shape).Reduces [1] ⟨1, ![n]⟩) (hφ : FKind.Formats .f32) (hacc : acc = FKind.add.neutral .f32 hφ)
    (h2 : (⟨1, ![n]⟩ : Shape).ShapeCasts ⟨2, ![n, 1]⟩) (h3 : (⟨2, ![n, 1]⟩ : Shape).Broadcasts ⟨2, ![n, w]⟩) :
    subf (up (φ := .f32) X) (broadcastTo ⟨2, ![n, w]⟩ (divf (shapeCast ⟨2, ![n, 1]⟩ (multiReduction .add [1] ⟨1, ![n]⟩ (up (φ := .f32) X) acc h1 hφ hacc) h2)
        (broadcast ⟨2, ![n, 1]⟩ (Scalar.ofBits (F := Ideal) .f32 W))) h3)
      = up (φ := .f32) (cent X) := by
  simp -index only [rowSum_up, cast_col_up, splat_up hW, divf_const _ _ hw, spread_col_up, subf_up, mk1_0, mk2_0]
  rfl

theorem k_lnv (V X : Mat n w) (acc acc' : BitVec 32) (h1 h1' : (⟨2, ![n, w]⟩ : Shape).Reduces [1] ⟨1, ![n]⟩) (hφ hφ' : FKind.Formats .f32)
    (hacc : acc = FKind.add.neutral .f32 hφ) (hacc' : acc' = FKind.add.neutral .f32 hφ') (h2 h2' : (⟨1, ![n]⟩ : Shape).ShapeCasts ⟨2, ![n, 1]⟩)
    (h3 h4 h5 : (⟨2, ![n, 1]⟩ : Shape).Broadcasts ⟨2, ![n, w]⟩) :
    mulf (broadcastTo ⟨2, ![n, w]⟩ (up (s := ⟨2, ![n, 1]⟩) (φ := .f32) fun j => rinv (cent X) (j 0)) h3)
      (subf (subf (up (φ := .f32) V) (broadcastTo ⟨2, ![n, w]⟩ (divf (shapeCast ⟨2, ![n, 1]⟩ (multiReduction .add [1] ⟨1, ![n]⟩ (up (φ := .f32) V) acc h1 hφ hacc) h2)
          (broadcast ⟨2, ![n, 1]⟩ (Scalar.ofBits (F := Ideal) .f32 W))) h4))
        (mulf (up (s := ⟨2, ![n, w]⟩) (φ := .f32) fun j => xhat (cent X) (j 0) (j 1))
        (broadcastTo ⟨2, ![n, w]⟩ (divf (shapeCast ⟨2, ![n, 1]⟩ (multiReduction .add [1] ⟨1, ![n]⟩
            (mulf (up (φ := .f32) V) (up (s := ⟨2, ![n, w]⟩) (φ := .f32) fun j => xhat (cent X) (j 0) (j 1))) acc' h1' hφ' hacc') h2')
          (broadcast ⟨2, ![n, 1]⟩ (Scalar.ofBits (F := Ideal) .f32 W))) h5)))
      = up (s := ⟨2, ![n, w]⟩) (φ := .f32) fun j => lnv V X (j 0) (j 1) := by
  simp -index only [mulf_up, subf_up, rowSum_up, cast_col_up, splat_up hW, divf_const _ _ hw, spread_col_up, mk1_0, mk2_0, mk2_1]
  exact up_ext2 fun r k => rfl

end Kernel

section Reference
variable {W : BitVec 32} (hW : Ideal.ofBits .f32 W = ((w : ℝ) : EReal)) (hw : (w : ℝ) ≠ 0)
include hW hw

theorem r_cent (X : Mat n w) (h1 : (⟨2, ![n, w]⟩ : Shape).ReducesTo [1] ⟨1, ![n]⟩) (hu : 0 < (⟨0, ![]⟩ : Shape).numel)
    (h2 : (⟨1, ![n]⟩ : Shape).BroadcastsInDim ⟨2, ![n, 1]⟩ ![0]) (h3 : (⟨0, ![]⟩ : Shape).BroadcastsInDim ⟨2, ![n, 1]⟩ ![])
    (h4 : (⟨2, ![n, 1]⟩ : Shape).BroadcastsInDim ⟨2, ![n, w]⟩ ![0, 1]) :
    subf (up (φ := .f32) X) (broadcastInDim ⟨2, ![n, w]⟩ ![0, 1] h4 (Host.divf (broadcastInDim ⟨2, ![n, 1]⟩ ![0] h2
        (Host.reduceAdd (up (φ := .f32) X) (constant (F := Ideal) ⟨0, ![]⟩ .f32 0x00000000#32) h1 hu))
        (broadcastInDim ⟨2, ![n, 1]⟩ ![] h3 (constant (F := Ideal) ⟨0, ![]⟩ .f32 W))))
      = up (φ := .f32) (cent X) := by
  simp -index only [constant_up lit_zero, constant_up hW, host_scalar_up, hostRowSum_up, host_vec_col_up, hostDivf_const _ _ hw, host_col_up, subf_up, mk1_0, mk2_0]
  rfl

theorem r_lnv (V X : Mat n w) (h1 : (⟨2, ![n, w]⟩ : Shape).ReducesTo [1] ⟨1, ![n]⟩) (hu : 0 < (⟨0, ![]⟩ : Shape).numel)
    (h2 : (⟨1, ![n]⟩ : Shape).ShapeCasts ⟨2, ![n, 1]⟩) (h3 : (⟨0, ![]⟩ : Shape).BroadcastsInDim ⟨2, ![n, 1]⟩ ![])
    (h4 : (⟨2, ![n, 1]⟩ : Shape).ReducesTo [1] ⟨1, ![n]⟩) (h5 : (⟨1, ![n]⟩ : Shape).BroadcastsInDim ⟨2, ![n, w]⟩ ![0]) :
    addf (up (s := ⟨2, ![n, w]⟩) (φ := .f32) fun j => dxv V (cent X) (j 0) (j 1))
      (broadcastInDim ⟨2, ![n, w]⟩ ![0] h5 (Host.reduceAdd (Host.divf (shapeCast ⟨2, ![n, 1]⟩
        (Host.reduceAdd (Host.negf (up (s := ⟨2, ![n, w]⟩) (φ := .f32) fun j => dxv V (cent X) (j 0) (j 1)))
          (constant (F := Ideal) ⟨0, ![]⟩ .f32 0x00000000#32) h1 hu) h2)
        (broadcastInDim ⟨2, ![n, 1]⟩ ![] h3 (constant (F := Ideal) ⟨0, ![]⟩ .f32 W))) (constant (F := Ideal) ⟨0, ![]⟩ .f32 0x00000000#32) h4 hu))
      = up (s := ⟨2, ![n, w]⟩) (φ := .f32) fun j => lnv V X (j 0) (j 1) := by
  simp -index only [hostNegf_up, constant_up lit_zero, constant_up hW, host_scalar_up, hostRowSum_up, cast_col_up,
    hostDivf_const _ _ hw, host_vec_col_up, addf_up, mk1_0, mk2_0, mk2_1, Fin.sum_univ_one]
  exact up_ext2 fun r k => lnv_eq hw V X r k

end Reference

end Cert.Layer

end
-- ==== Proof.ConvAKernel.lean ====
/-
  The gradients of the convolved, normalised and gated rows, as the kernel computes them for finite arguments.
-/
module

public import proofs.«01_k».proof.Proof.Conv
public import proofs.«01_k».proof.Proof.Layer
public import Idealize.ShloMosaic.Lib.VecWindow
public import proofs.«01_k».proof.Proof.Gen.ConvBwdAIdeal.Value

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.ConvAKernel

open Cert.Reals Cert.Norm Cert.Layer Cert.Arrays Cert.Conv Cert.ConvBwdAIdeal Cert.ConvBwdAIdeal.Gen

theorem after_first : ∀ x : Fin 8, Scalar.cmpi .sgt (BitVec.ofNat 32 x.val) 0#32 = if 0 < x.val then 1#1 else 0#1 := by decide +kernel
theorem pay8 (A G : Mat 256 512) : k0_pay8 (F := Ideal) (up (φ := .f32) A) (up (φ := .f32) G) = up (s := S256x512) (φ := .f32) fun j => A j * sgm (G j) := by
  unfold k0_pay8
  dsimp only
  rw [k_sgm, mulf_up, cast_self_up]
theorem pay9 (i : grid0.Coords) (A G : Mat 32 512) : k0_pay9 (F := Ideal) i (up (φ := .f32) A) (up (φ := .f32) G)
    = up (s := S32x512) (φ := .f32) fun j => if 0 < (i 0).val then A j * sgm (G j) else 0 := by
  unfold k0_pay9
  dsimp only
  rw [k_sgm, mulf_up, splat_up lit_zero]
  have e := after_first (i 0)
  by_cases h : 0 < (i 0).val
  · rw [if_pos h] at e
    simp only [e, if_pos h]
    exact cast_self_up _ _
  · rw [if_neg h] at e
    simp only [e, if_neg h]
    exact cast_self_up _ _

/-! ## The gate's formulas -/

/-- The normalised, scaled and shifted rows. -/
def zM {n : ℕ} (C : Mat n 512) (g l : Fin 512 → ℝ) : Mat n 512 := fun j => xhat (cent C) (j 0) (j 1) * g (j 1) + l (j 1)
/-- The gradient there, through the gate. -/
def dzM {n : ℕ} (C : Mat n 512) (g l : Fin 512 → ℝ) (D : Mat n 512) : Mat n 512 := fun j =>
  D j * (sgm (zM C g l j) + zM C g l j * sgm (zM C g l j) * (1 - sgm (zM C g l j)))
/-- The gradient of the convolved rows. -/
def dcM {n : ℕ} (C : Mat n 512) (g l : Fin 512 → ℝ) (D : Mat n 512) : Mat n 512 := fun j =>
  lnv (fun j : (⟨2, ![n, 512]⟩ : Shape).Idx => dzM C g l D j * g (j 1)) C (j 0) (j 1)

/-- The rows the taps read: the last 32 of the block before, or none, and the block's own. -/
abbrev bufA (i : grid0.Coords) (A G A' G' : Mat 256 512) : Mat 288 512 :=
  stack (fun j : S32x512.Idx => if 0 < (i 0).val then rows A' 224 32 j * sgm (rows G' 224 32 j) else 0) (fun j : S256x512.Idx => A j * sgm (G j))

/-- The convolved rows: 31 taps, each over the rows it reads, and the bias. -/
def cvA (b : Fin 512 → ℝ) (W : Mat 32 512) (X : Mat 288 512) : Mat 256 512 := fun j => b (j 1) + ∑ k ∈ Finset.range 31, rowZ W k (j 1) * rowZ X (2 + k + (j 0).val) (j 1)

theorem cent_pay (b : Mat 1 512) (W : Mat 32 512) (X : Mat 288 512) :
    k0_pay27 (F := Ideal) (k0_pay25 (F := Ideal) (k0_pay23 (F := Ideal) (k0_pay22 (F := Ideal) (k0_pay21 (F := Ideal) (k0_pay20 (F := Ideal) (k0_pay17 (F := Ideal) (up (φ := .f32) b) (up (φ := .f32) (rows W 0 1)) (up (s := S1x256x512) (φ := .f32) fun j => rows X (1 + 1 + 0) 256 (mk2 (j 1) (j 2))) (up (φ := .f32) (rows W 1 1)) (up (s := S1x256x512) (φ := .f32) fun j => rows X (2 + 1 + 0) 256 (mk2 (j 1) (j 2))) (up (φ := .f32) (rows W 2 1)) (up (s := S1x256x512) (φ := .f32) fun j => rows X (3 + 1 + 0) 256 (mk2 (j 1) (j 2))))
          (k0_pay18 (F := Ideal) (up (s := S1x256x512) (φ := .f32) fun j => rows X (4 + 1 + 0) 256 (mk2 (j 1) (j 2)))) (k0_pay19 (F := Ideal) (up (φ := .f32) (rows W 3 1))) (up (φ := .f32) (rows W 4 1)) (up (s := S1x256x512) (φ := .f32) fun j => rows X (5 + 1 + 0) 256 (mk2 (j 1) (j 2))) (up (φ := .f32) (rows W 5 1)) (up (s := S1x256x512) (φ := .f32) fun j => rows X (6 + 1 + 0) 256 (mk2 (j 1) (j 2))) (up (φ := .f32) (rows W 6 1)) (up (φ := .f32) (rows X 8 256)) (up (φ := .f32) (rows W 7 1)) (up (s := S1x256x512) (φ := .f32) fun j => rows X (0 + 1 + 8) 256 (mk2 (j 1) (j 2))) (up (φ := .f32) (rows W 8 1)) (up (s := S1x256x512) (φ := .f32) fun j => rows X (1 + 1 + 8) 256 (mk2 (j 1) (j 2))))
          (up (φ := .f32) (rows W 9 1)) (up (s := S1x256x512) (φ := .f32) fun j => rows X (2 + 1 + 8) 256 (mk2 (j 1) (j 2))) (up (φ := .f32) (rows W 10 1)) (up (s := S1x256x512) (φ := .f32) fun j => rows X (3 + 1 + 8) 256 (mk2 (j 1) (j 2))) (up (φ := .f32) (rows W 11 1)) (up (s := S1x256x512) (φ := .f32) fun j => rows X (4 + 1 + 8) 256 (mk2 (j 1) (j 2))) (up (φ := .f32) (rows W 12 1)) (up (s := S1x256x512) (φ := .f32) fun j => rows X (5 + 1 + 8) 256 (mk2 (j 1) (j 2))) (up (φ := .f32) (rows W 13 1)) (up (s := S1x256x512) (φ := .f32) fun j => rows X (6 + 1 + 8) 256 (mk2 (j 1) (j 2))))
          (up (φ := .f32) (rows W 14 1)) (up (φ := .f32) (rows X 16 256)) (up (φ := .f32) (rows W 15 1)) (up (s := S1x256x512) (φ := .f32) fun j => rows X (0 + 1 + 16) 256 (mk2 (j 1) (j 2))) (up (φ := .f32) (rows W 16 1)) (up (s := S1x256x512) (φ := .f32) fun j => rows X (1 + 1 + 16) 256 (mk2 (j 1) (j 2))) (up (φ := .f32) (rows W 17 1)) (up (s := S1x256x512) (φ := .f32) fun j => rows X (2 + 1 + 16) 256 (mk2 (j 1) (j 2))) (up (φ := .f32) (rows W 18 1)) (up (s := S1x256x512) (φ := .f32) fun j => rows X (3 + 1 + 16) 256 (mk2 (j 1) (j 2))))
          (up (φ := .f32) (rows W 19 1)) (up (s := S1x256x512) (φ := .f32) fun j => rows X (4 + 1 + 16) 256 (mk2 (j 1) (j 2))) (up (φ := .f32) (rows W 20 1)) (up (s := S1x256x512) (φ := .f32) fun j => rows X (5 + 1 + 16) 256 (mk2 (j 1) (j 2))) (up (φ := .f32) (rows W 21 1)) (up (s := S1x256x512) (φ := .f32) fun j => rows X (6 + 1 + 16) 256 (mk2 (j 1) (j 2))) (up (φ := .f32) (rows W 22 1)) (up (φ := .f32) (rows X 24 256)) (up (φ := .f32) (rows W 23 1)) (up (s := S1x256x512) (φ := .f32) fun j => rows X (0 + 1 + 24) 256 (mk2 (j 1) (j 2))))
          (k0_pay24 (F := Ideal) (up (φ := .f32) (rows W 24 1))) (up (s := S1x256x512) (φ := .f32) fun j => rows X (1 + 1 + 24) 256 (mk2 (j 1) (j 2))) (up (φ := .f32) (rows W 25 1)) (up (s := S1x256x512) (φ := .f32) fun j => rows X (2 + 1 + 24) 256 (mk2 (j 1) (j 2))) (up (φ := .f32) (rows W 26 1)) (up (s := S1x256x512) (φ := .f32) fun j => rows X (3 + 1 + 24) 256 (mk2 (j 1) (j 2))) (up (φ := .f32) (rows W 27 1)) (up (s := S1x256x512) (φ := .f32) fun j => rows X (4 + 1 + 24) 256 (mk2 (j 1) (j 2))) (up (φ := .f32) (rows W 28 1)) (up (s := S1x256x512) (φ := .f32) fun j => rows X (5 + 1 + 24) 256 (mk2 (j 1) (j 2))))
        (k0_pay26 (F := Ideal) (up (φ := .f32) (rows W 29 1))) (up (s := S1x256x512) (φ := .f32) fun j => rows X (6 + 1 + 24) 256 (mk2 (j 1) (j 2))) (up (φ := .f32) (rows W 30 1)) (up (φ := .f32) (rows X 32 256))
      = up (s := S256x512) (φ := .f32) (cent (cvA (fun q => b (mk2 0 q)) W X)) := by
  unfold k0_pay27 k0_pay26 k0_pay25 k0_pay24 k0_pay23 k0_pay22 k0_pay21 k0_pay20 k0_pay19 k0_pay18 k0_pay17
  dsimp only
  simp -index only [cast_self_up, cast_plane_up, spread_row_up, mulf_up, addf_up]
  refine (k_cent lit_512 (by norm_num) _ _ _ _ _ _ _).trans (congrArg (fun C => up (φ := .f32) (cent C)) (funext fun j => ?_))
  unfold cvA
  simp only [Finset.sum_range_succ, Finset.sum_range_zero, zero_add, ← add_assoc]
  rfl

section Norm
variable {p : FVec Ideal S256x512 .f32} {q : FVec Ideal S1x512 .f32} {r : FVec Ideal S1x256x512 .f32} {s : FVec Ideal S1x512 .f32} {t : FVec Ideal S256x512 .f32}
  {C : Mat 256 512} (h : k0_pay27 p q r s t = up (s := S256x512) (φ := .f32) (cent C))
include h

theorem pay28_of : k0_pay28 p q r s t = up (s := S256x1) (φ := .f32) fun j => rinv (cent C) (j 0) := by
  unfold k0_pay28
  rw [h]
  exact k_rinv lit_512 (by norm_num) (cent C) _ _ _ _ _
theorem pay29_of : k0_pay29 p q r s t = up (s := S256x512) (φ := .f32) fun j => xhat (cent C) (j 0) (j 1) := by
  unfold k0_pay29
  rw [h, pay28_of h]
  dsimp only
  exact k_xhat (cent C) _
theorem pay30_of (g l : Mat 1 512) : k0_pay30 p q r s t (up (φ := .f32) g) (up (φ := .f32) l)
    = up (s := S256x512) (φ := .f32) (zM C (fun q => g (mk2 0 q)) fun q => l (mk2 0 q)) := by
  unfold k0_pay30
  dsimp only
  rw [pay29_of h]
  simp -index only [cast_self_up, spread_row_up, mulf_up, addf_up]
  rfl
theorem pay31_of (g l : Mat 1 512) : k0_pay31 p q r s t (up (φ := .f32) g) (up (φ := .f32) l)
    = up (s := S256x512) (φ := .f32) fun j => 1 + Real.exp (-zM C (fun q => g (mk2 0 q)) (fun q => l (mk2 0 q)) j) := by
  unfold k0_pay31
  dsimp only
  rw [pay30_of h, splat_up lit_zero, splat_up lit_one, subf_up, exp_up, addf_up]
  simp only [zero_sub]

end Norm

theorem pay33 (C D : Mat 256 512) (g l : Fin 512 → ℝ) :
    k0_pay33 (F := Ideal) (up (φ := .f32) (zM C g l)) (up (s := S256x512) (φ := .f32) fun j => 1 + Real.exp (-zM C g l j)) k0_pay32 (up (φ := .f32) D)
      = up (s := S256x512) (φ := .f32) (dzM C g l D) := by
  unfold k0_pay33 k0_pay32
  dsimp only
  rw [splat_up lit_one, divf_up _ _ fun j => sgm_ne _]
  simp -index only [mulf_up, subf_up, addf_up]
  rfl

theorem pay34 (C D : Mat 256 512) (g l : Fin 512 → ℝ) (A : Mat 1 512) :
    k0_pay34 (F := Ideal) (up (s := S256x512) (φ := .f32) fun j => xhat (cent C) (j 0) (j 1)) (up (φ := .f32) (zM C g l)) (up (s := S256x512) (φ := .f32) fun j => 1 + Real.exp (-zM C g l j)) k0_pay32 (up (φ := .f32) D)
        (up (φ := .f32) A)
      = up (s := S1x512) (φ := .f32) fun j => A j + ∑ r : Fin 256, dzM C g l D (mk2 r (j 1)) * xhat (cent C) r (j 1) := by
  unfold k0_pay34
  rw [pay33]
  dsimp only
  simp -index only [cast_self_up, mulf_up, colSum_up, cast_row_up, addf_up]
  rfl

theorem pay35 (C D : Mat 256 512) (g l : Fin 512 → ℝ) (A : Mat 1 512) :
    k0_pay35 (F := Ideal) (up (φ := .f32) (zM C g l)) (up (s := S256x512) (φ := .f32) fun j => 1 + Real.exp (-zM C g l j)) k0_pay32 (up (φ := .f32) D) (up (φ := .f32) A)
      = up (s := S1x512) (φ := .f32) fun j => A j + ∑ r : Fin 256, dzM C g l D (mk2 r (j 1)) := by
  unfold k0_pay35
  rw [pay33]
  dsimp only
  simp -index only [cast_self_up, mulf_up, colSum_up, cast_row_up, addf_up]
  rfl

theorem pay37 (C D : Mat 256 512) (g : Mat 1 512) (l : Fin 512 → ℝ) :
    k0_pay37 (F := Ideal) (up (s := S256x1) (φ := .f32) fun j => rinv (cent C) (j 0))
        (k0_pay36 (F := Ideal) (up (s := S256x512) (φ := .f32) fun j => xhat (cent C) (j 0) (j 1)) (up (φ := .f32) (zM C (fun q => g (mk2 0 q)) l))
          (up (s := S256x512) (φ := .f32) fun j => 1 + Real.exp (-zM C (fun q => g (mk2 0 q)) l j)) k0_pay32 (up (φ := .f32) D) (up (φ := .f32) g))
      = up (s := S256x512) (φ := .f32) (dcM C (fun q => g (mk2 0 q)) l D) := by
  unfold k0_pay37 k0_pay36
  rw [pay33]
  dsimp only
  rw [cast_self_up, spread_row_up, mulf_up]
  exact k_lnv lit_512 (by norm_num) (fun j : S256x512.Idx => dzM C (fun q => g (mk2 0 q)) l D j * g (mk2 0 (j 1))) C _ _ _ _ _ _ _ _ _ _ _ _ _

theorem pay38 (C : Mat 256 512) {p : FVec Ideal S256x1 .f32} {q : FVec Ideal S256x512 .f32} (h : k0_pay37 p q = up (s := S256x512) (φ := .f32) C) (A : Mat 1 512) :
    k0_pay38 p q (up (φ := .f32) A) = up (s := S1x512) (φ := .f32) fun j => A j + ∑ r : Fin 256, C (mk2 r (j 1)) := by
  unfold k0_pay38
  rw [h]
  dsimp only
  simp -index only [cast_self_up, mulf_up, colSum_up, cast_row_up, addf_up]
  rfl

/-- One tap's gradient: what the row held, and the sum over the block's rows. -/
def dwR (C : Mat 256 512) (X : Mat 288 512) (B : Mat 32 512) (k : ℕ) : Mat 1 512 := fun j => rows B k 1 j + ∑ r : Fin 256, C (mk2 r (j 1)) * rows X (2 + k) 256 (mk2 r (j 1))

/-! ## What one grid point leaves -/

section Point
variable (i : grid0.Coords) (A G A' G' D : Mat 256 512) (W : Mat 32 512) (b g l : Mat 1 512)

/-- The block's convolved rows, and the gradients at them and at the scaled and shifted rows. -/
abbrev cB : Mat 256 512 := cvA (fun q => b (mk2 0 q)) W (bufA i A G A' G')
abbrev dcB : Mat 256 512 := dcM (cB i A G A' G' W b) (fun q => g (mk2 0 q)) (fun q => l (mk2 0 q)) D
abbrev dzB : Mat 256 512 := dzM (cB i A G A' G' W b) (fun q => g (mk2 0 q)) (fun q => l (mk2 0 q)) D

/-- The sums a point adds to what it found. -/
def wB (B : Mat 32 512) : Mat 32 512 := fun j => if (j 0).val < 31 then dwR (dcB i A G A' G' D W b g l) (bufA i A G A' G') B (j 0).val (mk2 0 (j 1)) else B j
def bB (B : Mat 1 512) : Mat 1 512 := fun j => B j + ∑ r : Fin 256, dcB i A G A' G' D W b g l (mk2 r (j 1))
def gB (B : Mat 1 512) : Mat 1 512 := fun j => B j + ∑ r : Fin 256, dzB i A G A' G' D W b g l (mk2 r (j 1)) * xhat (cent (cB i A G A' G' W b)) r (j 1)
def lB (B : Mat 1 512) : Mat 1 512 := fun j => B j + ∑ r : Fin 256, dzB i A G A' G' D W b g l (mk2 r (j 1))

end Point

theorem fill4 : (k0_pay4 : FVec Ideal S32x512 .f32) = up (φ := .f32) fun _ => 0 := splat_up lit_zero
theorem fill5 : (k0_pay5 : FVec Ideal S1x512 .f32) = up (φ := .f32) fun _ => 0 := splat_up lit_zero
theorem fill6 : (k0_pay6 : FVec Ideal S1x512 .f32) = up (φ := .f32) fun _ => 0 := splat_up lit_zero
theorem fill7 : (k0_pay7 : FVec Ideal S1x512 .f32) = up (φ := .f32) fun _ => 0 := splat_up lit_zero

/-- At the first point the sums start from zero. -/
theorem outA (c : Dev nD) (t : Fin cfg0.N) (A G A' G' D : Mat 256 512) (W : Mat 32 512) (b g l : Mat 1 512) (hc : cond0_0 (grid0.coords t)) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
      = up (s := S256x512) (φ := .f32) (dcB (grid0.coords t) A G A' G' D W b g l) ∧
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
      = up (s := S32x512) (φ := .f32) (wB (grid0.coords t) A G A' G' D W b g l (fun _ => 0)) ∧
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
      = up (s := S1x512) (φ := .f32) (bB (grid0.coords t) A G A' G' D W b g l (fun _ => 0)) ∧
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
      = up (s := S1x512) (φ := .f32) (gB (grid0.coords t) A G A' G' D W b g l (fun _ => 0)) ∧
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
      = up (s := S1x512) (φ := .f32) (lB (grid0.coords t) A G A' G' D W b g l (fun _ => 0)) := by
  unfold out0_A_9 out0_A_10 out0_A_11 out0_A_12 out0_A_13 kernelRun0_A
  dsimp only
  sl_unfold_words
  simp (disch := decide +kernel) only [↓View.readCov_skip (s := S32x512), ↓View.readCov_fill (s := S32x512)]
  simp -index only [View.readCov_full (s := S1x512), View.read_writes_full (s := S1x512), View.read_writes_full (s := S256x512), fill4, fill5, fill6, fill7]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    (hs0_8 t).read_unread, View.ld_unit_zero (S := S256x512) hz2, View.ld_unit_zero (S := S1x512) hz2]
  simp -index only [ld_rows, pay8, pay9]
  simp -index (disch := decide) only [read_stack']
  simp -index only [k0_pay10, k0_pay11, k0_pay12, k0_pay13, k0_pay14, k0_pay15, k0_pay16, cast_toPlane_up]
  simp -index (disch := decide) only [read_shift]
  unfold wB bB gB lB
  dsimp only [bufA, dcB, dzB, cB]
  generalize (stack (fun j : S32x512.Idx => if 0 < ((grid0.coords t) 0).val then rows A' 224 32 j * sgm (rows G' 224 32 j) else 0) (fun j : S256x512.Idx => A j * sgm (G j)) : Mat 288 512) = X
  rw [pay28_of (cent_pay b W X), pay29_of (cent_pay b W X), pay30_of (cent_pay b W X), pay31_of (cent_pay b W X)]
  simp -index only [k0_pay39, k0_pay40, pay37, pay38 _ (pay37 (cvA (fun q => b (mk2 0 q)) W X) D g fun q => l (mk2 0 q)), pay34, pay35]
  generalize dcM (cvA (fun q => b (mk2 0 q)) W X) (fun q => g (mk2 0 q)) (fun q => l (mk2 0 q)) D = C
  unfold k0_pay1 k0_pay2 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59
    k0_pay60 k0_pay61 k0_pay62 k0_pay63 k0_pay64 k0_pay65 k0_pay66 k0_pay67 k0_pay68 k0_pay69 k0_pay70 k0_pay71 k0_pay72 k0_pay73 k0_pay74 k0_pay75
  dsimp only
  simp -index only [ld_rows, cast_self_up, cast_plane_up, mulf_up, colSum_up, cast_row_up, addf_up]
  exact ⟨trivial, read_upto VO0_10 (VO0_10.writes (Elt Ideal) VO0_10.junk [⟨Rect.unit ![0, 0] ![32, 512] inb_S32x512_S32x512_0_0, up (φ := .f32) fun _ => 0⟩]) (fun _ => 0) (View.read_writes_full _ _ _ _ _) (dwR C X fun _ => 0) 31 (by decide), trivial, trivial, trivial⟩

/-- At every later point they go on from what the point before left. -/
theorem outB (c : Dev nD) (t : Fin cfg0.N) (A G A' G' D : Mat 256 512) (W : Mat 32 512) (b g l : Mat 1 512) (B : Mat 32 512) (b0 g0 l0 : Mat 1 512) (hc : ¬ cond0_0 (grid0.coords t)) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
        (up (φ := .f32) B) (up (φ := .f32) b0) (up (φ := .f32) g0) (up (φ := .f32) l0)
      = up (s := S256x512) (φ := .f32) (dcB (grid0.coords t) A G A' G' D W b g l) ∧
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
        (up (φ := .f32) B) (up (φ := .f32) b0) (up (φ := .f32) g0) (up (φ := .f32) l0)
      = up (s := S32x512) (φ := .f32) (wB (grid0.coords t) A G A' G' D W b g l B) ∧
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
        (up (φ := .f32) B) (up (φ := .f32) b0) (up (φ := .f32) g0) (up (φ := .f32) l0)
      = up (s := S1x512) (φ := .f32) (bB (grid0.coords t) A G A' G' D W b g l b0) ∧
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
        (up (φ := .f32) B) (up (φ := .f32) b0) (up (φ := .f32) g0) (up (φ := .f32) l0)
      = up (s := S1x512) (φ := .f32) (gB (grid0.coords t) A G A' G' D W b g l g0) ∧
    out0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc
        (up (φ := .f32) A) (up (φ := .f32) G) (up (φ := .f32) A') (up (φ := .f32) G') (up (φ := .f32) W) (up (φ := .f32) b) (up (φ := .f32) g) (up (φ := .f32) l) (up (φ := .f32) D)
        (up (φ := .f32) B) (up (φ := .f32) b0) (up (φ := .f32) g0) (up (φ := .f32) l0)
      = up (s := S1x512) (φ := .f32) (lB (grid0.coords t) A G A' G' D W b g l l0) := by
  unfold out0_B_9 out0_B_10 out0_B_11 out0_B_12 out0_B_13 kernelRun0_B
  dsimp only
  sl_unfold_words
  simp -index only [View.read_writes_full (s := S1x512), View.read_writes_full (s := S256x512)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    (hs0_8 t).read_unread, (hs0_10 t).read_unread, (hs0_11 t).read_unread, (hs0_12 t).read_unread, (hs0_13 t).read_unread, View.ld_unit_zero (S := S256x512) hz2, View.ld_unit_zero (S := S1x512) hz2]
  simp -index only [ld_rows, pay8, pay9]
  simp -index (disch := decide) only [read_stack']
  simp -index only [k0_pay10, k0_pay11, k0_pay12, k0_pay13, k0_pay14, k0_pay15, k0_pay16, cast_toPlane_up]
  simp -index (disch := decide) only [read_shift]
  unfold wB bB gB lB
  dsimp only [bufA, dcB, dzB, cB]
  generalize (stack (fun j : S32x512.Idx => if 0 < ((grid0.coords t) 0).val then rows A' 224 32 j * sgm (rows G' 224 32 j) else 0) (fun j : S256x512.Idx => A j * sgm (G j)) : Mat 288 512) = X
  rw [pay28_of (cent_pay b W X), pay29_of (cent_pay b W X), pay30_of (cent_pay b W X), pay31_of (cent_pay b W X)]
  simp -index only [k0_pay39, k0_pay40, pay37, pay38 _ (pay37 (cvA (fun q => b (mk2 0 q)) W X) D g fun q => l (mk2 0 q)), pay34, pay35]
  generalize dcM (cvA (fun q => b (mk2 0 q)) W X) (fun q => g (mk2 0 q)) (fun q => l (mk2 0 q)) D = C
  unfold k0_pay1 k0_pay2 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59
    k0_pay60 k0_pay61 k0_pay62 k0_pay63 k0_pay64 k0_pay65 k0_pay66 k0_pay67 k0_pay68 k0_pay69 k0_pay70 k0_pay71 k0_pay72 k0_pay73 k0_pay74 k0_pay75
  dsimp only
  simp -index only [ld_rows, cast_self_up, cast_plane_up, mulf_up, colSum_up, cast_row_up, addf_up]
  exact ⟨trivial, read_upto (ms0_10 t).view _ B ((hs0_10 t).read_unread _) (dwR C X B) 31 (by decide), trivial, trivial, trivial⟩

/-! ## Where the blocks stand -/

theorem lt8 (t : Fin cfg0.N) : t.val < 8 := lt_of_lt_of_eq t.isLt (show cfg0.N = 8 from N_0)
/-- The point whose block holds row `i`. -/
def pt (i : Fin 2048) : Fin cfg0.N := ⟨i.val / 256, by rw [show cfg0.N = 8 from N_0]; have := i.isLt; omega⟩
def tLast : Fin cfg0.N := ⟨7, by rw [show cfg0.N = 8 from N_0]; decide⟩
/-- Row `p` of point `t`'s block. -/
def rowAt (t : Fin cfg0.N) (p : Fin 256) : Fin 2048 := ⟨256 * t.val + p.val, by have := lt8 t; have := p.isLt; omega⟩
/-- The block before it, or the first. -/
def prevRow (t : Fin cfg0.N) (p : Fin 256) : Fin 2048 := ⟨256 * (t.val - 1) + p.val, by have := lt8 t; have := p.isLt; omega⟩
def blk {w : ℕ} (X : Mat 2048 w) (t : Fin cfg0.N) : Mat 256 w := fun j => X (mk2 (rowAt t (j 0)) (j 1))
def prevBlk {w : ℕ} (X : Mat 2048 w) (t : Fin cfg0.N) : Mat 256 w := fun j => X (mk2 (prevRow t (j 0)) (j 1))

theorem index : ∀ t : Fin cfg0.N, (win0_0.index t 0 = t.val ∧ win0_0.index t 1 = 3) ∧ (win0_1.index t 0 = t.val ∧ win0_1.index t 1 = 4)
    ∧ (win0_2.index t 0 = t.val - 1 ∧ win0_2.index t 1 = 3) ∧ (win0_3.index t 0 = t.val - 1 ∧ win0_3.index t 1 = 4)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) ∧ (grid0.coords t 0).val = t.val :=
  (by decide +kernel : ∀ t : Fin grid0.N, _)
theorem index_out : ∀ t : Fin cfg0.N, (win0_9.index t 0 = t.val ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) ∧ (win0_13.index t 0 = 0 ∧ win0_13.index t 1 = 0) :=
  (by decide +kernel : ∀ t : Fin grid0.N, _)

variable (m : (ℓ : Loc nD τ sig) → Buf (Elt Ideal) ℓ) (c : Dev nD)

theorem V0 : V m c main_v0 = pad S32x512 ![0, 0] ![1, 0] ![0, 0] (m (c.tc.loc main_arg1) : FVec Ideal S31x512 .f32) (sitofp .f32 (constantI S_ 32 0#32) : FVec Ideal S_ .f32) pads_S31x512_S32x512_010_000 h_S_ := by
  show StableHlo.after (List.flatten [hostOps0, hostOps0_1, hostOps0_2]) (fun b => m (c, b)) main_v0 = _
  simp only [List.flatten_cons, List.flatten_nil, List.cons_append, List.nil_append, List.append_nil]
  after_results_simp <;> rfl
theorem V1 : V m c main_v1 = shapeCast S1x512 (m (c.tc.loc main_arg2)) shapeCasts_S512_S1x512 := by
  show StableHlo.after (List.flatten [hostOps0, hostOps0_1, hostOps0_2]) (fun b => m (c, b)) main_v1 = _
  simp only [List.flatten_cons, List.flatten_nil, List.cons_append, List.nil_append, List.append_nil]
  after_results_simp <;> rfl
theorem V2 : V m c main_v2 = shapeCast S1x512 (m (c.tc.loc main_arg3)) shapeCasts_S512_S1x512 := by
  show StableHlo.after (List.flatten [hostOps0, hostOps0_1, hostOps0_2]) (fun b => m (c, b)) main_v2 = _
  simp only [List.flatten_cons, List.flatten_nil, List.cons_append, List.nil_append, List.append_nil]
  after_results_simp <;> rfl
theorem V3 : V m c main_v3 = shapeCast S1x512 (m (c.tc.loc main_arg4)) shapeCasts_S512_S1x512 := by
  show StableHlo.after (List.flatten [hostOps0, hostOps0_1, hostOps0_2]) (fun b => m (c, b)) main_v3 = _
  simp only [List.flatten_cons, List.flatten_nil, List.cons_append, List.nil_append, List.append_nil]
  after_results_simp <;> rfl

/-! ## The results' formulas -/

abbrev aP (P : Mat 2048 3584) : Mat 2048 512 := cols P 1536 512 (by decide)
abbrev gP (P : Mat 2048 3584) : Mat 2048 512 := cols P 2048 512 (by decide)
/-- The gated rows, the convolved rows, and the gradients. -/
def hG (P : Mat 2048 3584) : Mat 2048 512 := fun j => aP P j * sgm (gP P j)
def cG (P : Mat 2048 3584) (W : Mat 31 512) (b : Fin 512 → ℝ) : Mat 2048 512 := fun j =>
  b (j 1) + ∑ k ∈ Finset.range 31, rowZ W k (j 1) * rowP (hG P) 30 ((j 0).val + k) (j 1)
section
variable (P : Mat 2048 3584) (W : Mat 31 512) (b g l : Fin 512 → ℝ) (D : Mat 2048 512)
def resC : Mat 2048 512 := dcM (cG P W b) g l D
def rowW (k : ℕ) (q : Fin 512) (r : Fin 2048) : ℝ := resC P W b g l D (mk2 r q) * rowP (hG P) 30 (r.val + k) q
def rowB (q : Fin 512) (r : Fin 2048) : ℝ := resC P W b g l D (mk2 r q)
def rowG (q : Fin 512) (r : Fin 2048) : ℝ := dzM (cG P W b) g l D (mk2 r q) * xhat (cent (cG P W b)) r q
def rowL (q : Fin 512) (r : Fin 2048) : ℝ := dzM (cG P W b) g l D (mk2 r q)
def resW : Mat 32 512 := fun j => if (j 0).val < 31 then ∑ r : Fin 2048, rowW P W b g l D (j 0).val (j 1) r else 0
def resB : Mat 1 512 := fun j => ∑ r : Fin 2048, rowB P W b g l D (j 1) r
def resG : Mat 1 512 := fun j => ∑ r : Fin 2048, rowG P W b g l D (j 1) r
def resL : Mat 1 512 := fun j => ∑ r : Fin 2048, rowL P W b g l D (j 1) r
end

/-- The padded weights and the rows the kernel gets of the vectors. -/
abbrev wP (W : Mat 31 512) : Mat 32 512 := fun j => rowP W 0 (j 0).val (j 1)
abbrev rowOf (b : Fin 512 → ℝ) : Mat 1 512 := fun j => b (j 1)

/-- The row a tap reads, counted in the whole array. -/
theorem buf_row (P : Mat 2048 3584) (t : Fin cfg0.N) (k : ℕ) (hk : k < 31) (p : Fin 256) (q : Fin 512) :
    rowZ (bufA (grid0.coords t) (blk (aP P) t) (blk (gP P) t) (prevBlk (aP P) t) (prevBlk (gP P) t)) (2 + k + p.val) q = rowP (hG P) 30 (256 * t.val + p.val + k) q := by
  have ht := lt8 t
  have hp := p.isLt
  refine (rowZ_lt _ (by omega : 2 + k + p.val < 288) q).trans ?_
  unfold bufA stack
  dsimp only [mk2_0, mk2_1]
  by_cases h : 2 + k + p.val < 32
  · rw [if_pos h, rowZ_lt _ h]
    rw [(index t).2.2.2.2.2.2.2.2.2]
    by_cases h0 : 0 < t.val
    · rw [if_pos h0, rowP_in _ (by omega), rowZ_lt _ (by omega : 256 * t.val + p.val + k - 30 < 2048)]
      have e : ∀ Y : Mat 2048 512, rows (prevBlk Y t) 224 32 (mk2 ⟨2 + k + p.val, h⟩ q) = Y (mk2 ⟨256 * t.val + p.val + k - 30, by omega⟩ q) := fun Y => by
        refine (rowZ_lt _ (by show 224 + (2 + k + p.val) < 256; omega) _).trans (congrArg Y (ext2 ?_ rfl))
        show 256 * (t.val - 1) + (224 + (2 + k + p.val)) = 256 * t.val + p.val + k - 30
        omega
      rw [e, e]
      rfl
    · rw [if_neg h0, rowP_out _ (by omega)]
  · rw [if_neg h, rowZ_lt _ (by omega : 2 + k + p.val - 32 < 256), rowP_in _ (by omega), rowZ_lt _ (by omega : 256 * t.val + p.val + k - 30 < 2048)]
    refine congrArg (hG P) (ext2 ?_ rfl)
    show 256 * t.val + (2 + k + p.val - 32) = 256 * t.val + p.val + k - 30
    omega

section Blocks
variable (P : Mat 2048 3584) (W : Mat 31 512) (b g l : Fin 512 → ℝ) (D : Mat 2048 512) (t : Fin cfg0.N)

theorem c_blk : cB (grid0.coords t) (blk (aP P) t) (blk (gP P) t) (prevBlk (aP P) t) (prevBlk (gP P) t) (wP W) (rowOf b) = blk (cG P W b) t := by
  refine funext fun j => congrArg (b (j 1) + ·) (Finset.sum_congr rfl fun k hk => ?_)
  have hk := Finset.mem_range.mp hk
  exact congrArg₂ (· * ·) ((rowZ_lt _ (by omega : k < 32) _).trans (rowP_in W (Nat.zero_le k) _)) (buf_row P t k hk (j 0) (j 1))

theorem dzM_blk (C D : Mat 2048 512) : dzM (blk C t) g l (blk D t) = blk (dzM C g l D) t := rfl
theorem dcM_blk (C D : Mat 2048 512) : dcM (blk C t) g l (blk D t) = blk (dcM C g l D) t := by
  unfold dcM
  rw [dzM_blk]
  rfl
theorem dc_blk : dcB (grid0.coords t) (blk (aP P) t) (blk (gP P) t) (prevBlk (aP P) t) (prevBlk (gP P) t) (blk D t) (wP W) (rowOf b) (rowOf g) (rowOf l) = blk (resC P W b g l D) t := by
  unfold dcB
  rw [c_blk]
  exact dcM_blk g l t (cG P W b) D
theorem dz_blk : dzB (grid0.coords t) (blk (aP P) t) (blk (gP P) t) (prevBlk (aP P) t) (prevBlk (gP P) t) (blk D t) (wP W) (rowOf b) (rowOf g) (rowOf l) = blk (dzM (cG P W b) g l D) t := by
  unfold dzB
  rw [c_blk]
  exact dzM_blk g l t (cG P W b) D

/-- One more block of a sum over all rows. -/
theorem more (F : Fin 2048 → ℝ) : ∑ k ∈ Finset.range (256 * (t.val + 1)), nat F k = ∑ k ∈ Finset.range (256 * t.val), nat F k + ∑ p : Fin 256, F (rowAt t p) :=
  sum_nat_step F 256 t.val _ fun p => ⟨(rowAt t p).isLt, rfl⟩

/-- The four sums over the rows up to and with block `n`. -/
def accW (n : ℕ) : Mat 32 512 := fun j => if (j 0).val < 31 then ∑ k ∈ Finset.range (256 * n), nat (rowW P W b g l D (j 0).val (j 1)) k else 0
def accB (n : ℕ) : Mat 1 512 := fun j => ∑ k ∈ Finset.range (256 * n), nat (rowB P W b g l D (j 1)) k
def accG (n : ℕ) : Mat 1 512 := fun j => ∑ k ∈ Finset.range (256 * n), nat (rowG P W b g l D (j 1)) k
def accL (n : ℕ) : Mat 1 512 := fun j => ∑ k ∈ Finset.range (256 * n), nat (rowL P W b g l D (j 1)) k

theorem stepW : wB (grid0.coords t) (blk (aP P) t) (blk (gP P) t) (prevBlk (aP P) t) (prevBlk (gP P) t) (blk D t) (wP W) (rowOf b) (rowOf g) (rowOf l) (accW P W b g l D t.val) = accW P W b g l D (t.val + 1) := by
  funext j
  unfold wB
  rw [dc_blk]
  by_cases h : (j 0).val < 31
  · refine (if_pos h).trans (Eq.trans ?_ (if_pos h).symm)
    refine Eq.trans ?_ (more t _).symm
    refine congrArg₂ (· + ·) ((rowZ_lt _ (by show (j 0).val + 0 < 32; omega) _).trans (if_pos h)) (Finset.sum_congr rfl fun p _ => ?_)
    exact congrArg (resC P W b g l D (mk2 (rowAt t p) (j 1)) * ·) (buf_row P t (j 0).val h p (j 1))
  · exact (if_neg h).trans ((if_neg h).trans (if_neg h).symm)
theorem stepB : bB (grid0.coords t) (blk (aP P) t) (blk (gP P) t) (prevBlk (aP P) t) (prevBlk (gP P) t) (blk D t) (wP W) (rowOf b) (rowOf g) (rowOf l) (accB P W b g l D t.val) = accB P W b g l D (t.val + 1) := by
  funext j
  unfold bB
  rw [dc_blk]
  exact (more t _).symm
theorem stepG : gB (grid0.coords t) (blk (aP P) t) (blk (gP P) t) (prevBlk (aP P) t) (prevBlk (gP P) t) (blk D t) (wP W) (rowOf b) (rowOf g) (rowOf l) (accG P W b g l D t.val) = accG P W b g l D (t.val + 1) := by
  funext j
  unfold gB
  rw [dz_blk, c_blk]
  exact (more t _).symm
theorem stepL : lB (grid0.coords t) (blk (aP P) t) (blk (gP P) t) (prevBlk (aP P) t) (prevBlk (gP P) t) (blk D t) (wP W) (rowOf b) (rowOf g) (rowOf l) (accL P W b g l D t.val) = accL P W b g l D (t.val + 1) := by
  funext j
  unfold lB
  rw [dz_blk]
  exact (more t _).symm

theorem noW : (fun _ => 0) = accW P W b g l D 0 := funext fun j => (ite_self (0 : ℝ)).symm
theorem noB : (fun _ => 0) = accB P W b g l D 0 := rfl
theorem noG : (fun _ => 0) = accG P W b g l D 0 := rfl
theorem noL : (fun _ => 0) = accL P W b g l D 0 := rfl

end Blocks

/-! ## The arguments' blocks -/

/-- The arguments are real. -/
structure Args (P : Mat 2048 3584) (W : Mat 31 512) (b g l : Fin 512 → ℝ) (D : Mat 2048 512) : Prop where
  hP : m (c.tc.loc main_arg0) = up (s := S2048x3584) (φ := .f32) P
  hW : m (c.tc.loc main_arg1) = up (s := S31x512) (φ := .f32) W
  hb : m (c.tc.loc main_arg2) = up (s := S512) (φ := .f32) fun j => b (j 0)
  hg : m (c.tc.loc main_arg3) = up (s := S512) (φ := .f32) fun j => g (j 0)
  hl : m (c.tc.loc main_arg4) = up (s := S512) (φ := .f32) fun j => l (j 0)
  hD : m (c.tc.loc main_arg5) = up (s := S2048x512) (φ := .f32) D

section
variable {P : Mat 2048 3584} {W : Mat 31 512} {b g l : Fin 512 → ℝ} {D : Mat 2048 512} (h : Args m c P W b g l D)

include h in
theorem b0 (t : Fin cfg0.N) : (iblk m c 0 t : FVec Ideal S256x512 .f32) = up (φ := .f32) (blk (aP P) t) := by
  funext j
  unfold iblk
  rw [View.read_apply]
  show V m c main_arg0 _ = _
  rw [V_main_arg0, h.hP]
  exact congrArg (fun x => ((P x : ℝ) : EReal)) (ext2 (at_blk (index t).1.1) (at_blk (index t).1.2))
include h in
theorem b1 (t : Fin cfg0.N) : (iblk m c 1 t : FVec Ideal S256x512 .f32) = up (φ := .f32) (blk (gP P) t) := by
  funext j
  unfold iblk
  rw [View.read_apply]
  show V m c main_arg0 _ = _
  rw [V_main_arg0, h.hP]
  exact congrArg (fun x => ((P x : ℝ) : EReal)) (ext2 (at_blk (index t).2.1.1) (at_blk (index t).2.1.2))
include h in
theorem b2 (t : Fin cfg0.N) : (iblk m c 2 t : FVec Ideal S256x512 .f32) = up (φ := .f32) (prevBlk (aP P) t) := by
  funext j
  unfold iblk
  rw [View.read_apply]
  show V m c main_arg0 _ = _
  rw [V_main_arg0, h.hP]
  exact congrArg (fun x => ((P x : ℝ) : EReal)) (ext2 (at_blk (index t).2.2.1.1) (at_blk (index t).2.2.1.2))
include h in
theorem b3 (t : Fin cfg0.N) : (iblk m c 3 t : FVec Ideal S256x512 .f32) = up (φ := .f32) (prevBlk (gP P) t) := by
  funext j
  unfold iblk
  rw [View.read_apply]
  show V m c main_arg0 _ = _
  rw [V_main_arg0, h.hP]
  exact congrArg (fun x => ((P x : ℝ) : EReal)) (ext2 (at_blk (index t).2.2.2.1.1) (at_blk (index t).2.2.2.1.2))
include h in
theorem b4 (t : Fin cfg0.N) : (iblk m c 4 t : FVec Ideal S32x512 .f32) = up (φ := .f32) (wP W) := by
  funext j
  unfold iblk
  rw [View.read_apply]
  show V m c main_v0 _ = _
  have e : ((cfg0.win 4).blk t).view.emb j = j := ext2 (at_zero (index t).2.2.2.2.1.1) (at_zero (index t).2.2.2.2.1.2)
  rw [V0, h.hW, e]
  exact congrFun (pad_any W _ (fun _ => by show ((((0#32 : BitVec 32).toInt : ℤ) : ℝ) : EReal) = _; norm_num) _ _) j
include h in
theorem b5 (t : Fin cfg0.N) : (iblk m c 5 t : FVec Ideal S1x512 .f32) = up (φ := .f32) (rowOf b) := by
  funext j
  unfold iblk
  rw [View.read_apply]
  show V m c main_v1 _ = _
  have e : ((cfg0.win 5).blk t).view.emb j = j := ext2 (at_zero (index t).2.2.2.2.2.1.1) (at_zero (index t).2.2.2.2.2.1.2)
  rw [V1, h.hb, e]
  exact congrFun (cast_row_up _ _) j
include h in
theorem b6 (t : Fin cfg0.N) : (iblk m c 6 t : FVec Ideal S1x512 .f32) = up (φ := .f32) (rowOf g) := by
  funext j
  unfold iblk
  rw [View.read_apply]
  show V m c main_v2 _ = _
  have e : ((cfg0.win 6).blk t).view.emb j = j := ext2 (at_zero (index t).2.2.2.2.2.2.1.1) (at_zero (index t).2.2.2.2.2.2.1.2)
  rw [V2, h.hg, e]
  exact congrFun (cast_row_up _ _) j
include h in
theorem b7 (t : Fin cfg0.N) : (iblk m c 7 t : FVec Ideal S1x512 .f32) = up (φ := .f32) (rowOf l) := by
  funext j
  unfold iblk
  rw [View.read_apply]
  show V m c main_v3 _ = _
  have e : ((cfg0.win 7).blk t).view.emb j = j := ext2 (at_zero (index t).2.2.2.2.2.2.2.1.1) (at_zero (index t).2.2.2.2.2.2.2.1.2)
  rw [V3, h.hl, e]
  exact congrFun (cast_row_up _ _) j
include h in
theorem b8 (t : Fin cfg0.N) : (iblk m c 8 t : FVec Ideal S256x512 .f32) = up (φ := .f32) (blk D t) := by
  funext j
  unfold iblk
  rw [View.read_apply]
  show V m c main_arg5 _ = _
  rw [V_main_arg5, h.hD]
  exact congrArg (fun x => ((D x : ℝ) : EReal)) (ext2 (at_blk (index t).2.2.2.2.2.2.2.2.1.1) (at_zero (index t).2.2.2.2.2.2.2.2.1.2))

/-! ## What each point leaves -/

include h in
theorem vals : ∀ (n : ℕ) (hn : n < cfg0.N),
    (outsAt0 (F := Ideal) m c n hn).1 = up (s := S256x512) (φ := .f32) (blk (resC P W b g l D) ⟨n, hn⟩) ∧
    (outsAt0 (F := Ideal) m c n hn).2.1 = up (s := S32x512) (φ := .f32) (accW P W b g l D (n + 1)) ∧
    (outsAt0 (F := Ideal) m c n hn).2.2.1 = up (s := S1x512) (φ := .f32) (accB P W b g l D (n + 1)) ∧
    (outsAt0 (F := Ideal) m c n hn).2.2.2.1 = up (s := S1x512) (φ := .f32) (accG P W b g l D (n + 1)) ∧
    (outsAt0 (F := Ideal) m c n hn).2.2.2.2.1 = up (s := S1x512) (φ := .f32) (accL P W b g l D (n + 1))
  | 0, hn => by
    have e := outsAt0_A m c ⟨0, hn⟩ rfl
    dsimp only at e
    rw [e, b0 m c h, b1 m c h, b2 m c h, b3 m c h, b4 m c h, b5 m c h, b6 m c h, b7 m c h, b8 m c h]
    dsimp only
    have o := outA c ⟨0, hn⟩ (blk (aP P) ⟨0, hn⟩) (blk (gP P) ⟨0, hn⟩) (prevBlk (aP P) ⟨0, hn⟩) (prevBlk (gP P) ⟨0, hn⟩) (blk D ⟨0, hn⟩) (wP W) (rowOf b) (rowOf g) (rowOf l) ((hcond0_0 ⟨0, hn⟩).mpr rfl)
    refine ⟨o.1.trans (congrArg up (dc_blk ..)), o.2.1.trans (congrArg up ?_), o.2.2.1.trans (congrArg up ?_), o.2.2.2.1.trans (congrArg up ?_), o.2.2.2.2.trans (congrArg up ?_)⟩
    · rw [noW P W b g l D]; exact stepW P W b g l D ⟨0, hn⟩
    · rw [noB P W b g l D]; exact stepB P W b g l D ⟨0, hn⟩
    · rw [noG P W b g l D]; exact stepG P W b g l D ⟨0, hn⟩
    · rw [noL P W b g l D]; exact stepL P W b g l D ⟨0, hn⟩
  | n + 1, hn => by
    have h8 : n + 1 < 8 := lt8 ⟨n + 1, hn⟩
    have hB : ¬(⟨n + 1, hn⟩ : Fin cfg0.N).val % 8 = 0 := by dsimp only; omega
    obtain ⟨-, i1, i2, i3, i4⟩ := vals n (Nat.lt_of_succ_lt hn)
    have e := outsAt0_B m c ⟨n + 1, hn⟩ hB
    dsimp only at e
    rw [e, b0 m c h, b1 m c h, b2 m c h, b3 m c h, b4 m c h, b5 m c h, b6 m c h, b7 m c h, b8 m c h]
    dsimp only
    have o := outB c ⟨n + 1, hn⟩ (blk (aP P) ⟨n + 1, hn⟩) (blk (gP P) ⟨n + 1, hn⟩) (prevBlk (aP P) ⟨n + 1, hn⟩) (prevBlk (gP P) ⟨n + 1, hn⟩) (blk D ⟨n + 1, hn⟩) (wP W) (rowOf b) (rowOf g) (rowOf l)
      (accW P W b g l D (n + 1)) (accB P W b g l D (n + 1)) (accG P W b g l D (n + 1)) (accL P W b g l D (n + 1)) (fun z => hB ((hcond0_0 ⟨n + 1, hn⟩).mp z))
    rw [← i1, ← i2, ← i3, ← i4] at o
    exact ⟨o.1.trans (congrArg up (dc_blk ..)), o.2.1.trans (congrArg up (stepW P W b g l D ⟨n + 1, hn⟩)), o.2.2.1.trans (congrArg up (stepB P W b g l D ⟨n + 1, hn⟩)),
      o.2.2.2.1.trans (congrArg up (stepG P W b g l D ⟨n + 1, hn⟩)), o.2.2.2.2.trans (congrArg up (stepL P W b g l D ⟨n + 1, hn⟩))⟩

/-! ## The results -/

include h in
theorem final9 : (dats m 0 c).arrAt 9 cfg0.N = up (s := S2048x512) (φ := .f32) (resC P W b g l D) := by
  refine (dats m 0 c).arrAt_eq_of_cover 9 _ (fun t _ => ?_) fun i => ⟨pt (i 0), flush0_9 _, ?_⟩
  · rw [Value.flushed9, (vals m c h t.val t.isLt).1]
    funext j
    rw [View.read_apply]
    have e : ((cfg0.win 9).blk t).view.emb j = mk2 (rowAt t (j 0)) (j 1) := ext2 (at_blk (index_out t).1.1) (at_zero (index_out t).1.2)
    rw [e]
    rfl
  · show i ∈ ((View.whole main_v4_0).slice (win0_9.rect (pt (i 0)))).set
    rw [View.set_slice_whole, Rect.mem_set_unit]
    exact Fin.forall_fin_two.mpr ⟨in_blk (index_out (pt (i 0))).1.1 rfl (by decide), in_zero (index_out (pt (i 0))).1.2 (i 1).isLt⟩

include h in
theorem final10 : (dats m 0 c).arrAt 10 cfg0.N = up (s := S32x512) (φ := .f32) (resW P W b g l D) := by
  refine (dats m 0 c).arrAt_eq_of_cover 10 _ (fun t hf => ?_) fun i => ⟨tLast, (flush0_10 _).mpr rfl, ?_⟩
  · have h7 : t.val = 7 := by have := lt8 t; have := (flush0_10 t).mp hf; omega
    rw [Value.flushed10, (vals m c h t.val t.isLt).2.1]
    funext j
    rw [View.read_apply]
    have e : ((cfg0.win 10).blk t).view.emb j = j := ext2 (at_zero (index_out t).2.1.1) (at_zero (index_out t).2.1.2)
    rw [e, h7]
    exact congrArg (fun x : ℝ => (x : EReal)) (if_congr Iff.rfl (sum_nat (rowW P W b g l D (j 0).val (j 1))) rfl)
  · show i ∈ ((View.whole main_v4_1).slice (win0_10.rect tLast)).set
    rw [View.set_slice_whole, Rect.mem_set_unit]
    exact Fin.forall_fin_two.mpr ⟨in_zero (index_out tLast).2.1.1 (i 0).isLt, in_zero (index_out tLast).2.1.2 (i 1).isLt⟩

include h in
theorem final11 : (dats m 0 c).arrAt 11 cfg0.N = up (s := S1x512) (φ := .f32) (resB P W b g l D) := by
  refine (dats m 0 c).arrAt_eq_of_cover 11 _ (fun t hf => ?_) fun i => ⟨tLast, (flush0_11 _).mpr rfl, ?_⟩
  · have h7 : t.val = 7 := by have := lt8 t; have := (flush0_11 t).mp hf; omega
    rw [Value.flushed11, (vals m c h t.val t.isLt).2.2.1]
    funext j
    rw [View.read_apply]
    have e : ((cfg0.win 11).blk t).view.emb j = j := ext2 (at_zero (index_out t).2.2.1.1) (at_zero (index_out t).2.2.1.2)
    rw [e, h7]
    exact congrArg (fun x : ℝ => (x : EReal)) (sum_nat (rowB P W b g l D (j 1)))
  · show i ∈ ((View.whole main_v4_2).slice (win0_11.rect tLast)).set
    rw [View.set_slice_whole, Rect.mem_set_unit]
    exact Fin.forall_fin_two.mpr ⟨in_zero (index_out tLast).2.2.1.1 (i 0).isLt, in_zero (index_out tLast).2.2.1.2 (i 1).isLt⟩

include h in
theorem final12 : (dats m 0 c).arrAt 12 cfg0.N = up (s := S1x512) (φ := .f32) (resG P W b g l D) := by
  refine (dats m 0 c).arrAt_eq_of_cover 12 _ (fun t hf => ?_) fun i => ⟨tLast, (flush0_12 _).mpr rfl, ?_⟩
  · have h7 : t.val = 7 := by have := lt8 t; have := (flush0_12 t).mp hf; omega
    rw [Value.flushed12, (vals m c h t.val t.isLt).2.2.2.1]
    funext j
    rw [View.read_apply]
    have e : ((cfg0.win 12).blk t).view.emb j = j := ext2 (at_zero (index_out t).2.2.2.1.1) (at_zero (index_out t).2.2.2.1.2)
    rw [e, h7]
    exact congrArg (fun x : ℝ => (x : EReal)) (sum_nat (rowG P W b g l D (j 1)))
  · show i ∈ ((View.whole main_v4_3).slice (win0_12.rect tLast)).set
    rw [View.set_slice_whole, Rect.mem_set_unit]
    exact Fin.forall_fin_two.mpr ⟨in_zero (index_out tLast).2.2.2.1.1 (i 0).isLt, in_zero (index_out tLast).2.2.2.1.2 (i 1).isLt⟩

include h in
theorem final13 : (dats m 0 c).arrAt 13 cfg0.N = up (s := S1x512) (φ := .f32) (resL P W b g l D) := by
  refine (dats m 0 c).arrAt_eq_of_cover 13 _ (fun t hf => ?_) fun i => ⟨tLast, (flush0_13 _).mpr rfl, ?_⟩
  · have h7 : t.val = 7 := by have := lt8 t; have := (flush0_13 t).mp hf; omega
    rw [Value.flushed13, (vals m c h t.val t.isLt).2.2.2.2]
    funext j
    rw [View.read_apply]
    have e : ((cfg0.win 13).blk t).view.emb j = j := ext2 (at_zero (index_out t).2.2.2.2.1) (at_zero (index_out t).2.2.2.2.2)
    rw [e, h7]
    exact congrArg (fun x : ℝ => (x : EReal)) (sum_nat (rowL P W b g l D (j 1)))
  · show i ∈ ((View.whole main_v4_4).slice (win0_13.rect tLast)).set
    rw [View.set_slice_whole, Rect.mem_set_unit]
    exact Fin.forall_fin_two.mpr ⟨in_zero (index_out tLast).2.2.2.2.1 (i 0).isLt, in_zero (index_out tLast).2.2.2.2.2 (i 1).isLt⟩

end

end Cert.ConvAKernel

end
-- ==== Proof.Rowwise.lean ====
/-
  Rows of a matrix over the extended reals: sums, means and the root-mean-square norm, as the kernels and as the
  references write them. Nothing here asks the entries to be finite.
-/
module

public import proofs.«01_k».proof.Proof.Prods

@[expose] public section

set_option maxRecDepth 16384
set_option backward.isDefEq.respectTransparency.types false

noncomputable section

namespace Cert.Rowwise

open Idealize.ShloMosaic Idealize.ShloMosaic.ValueIdx Cert.Reals

variable {a b : ℕ} {φ : FTy}

/-- A matrix of extended reals. -/
abbrev Mat (a b : ℕ) := (⟨2, ![a, b]⟩ : Shape).Idx → EReal

/-- The sum of row `r`. -/
def rowSum (f : Mat a b) (r : Fin a) : EReal := ∑ k : Fin b, f (mk2 r k)

/-! ## A kernel's text -/

theorem k_col (f : FVec Ideal ⟨2, ![a, 1]⟩ φ) (h : (⟨2, ![a, 1]⟩ : Shape).Broadcasts ⟨2, ![a, b]⟩) :
    broadcastTo ⟨2, ![a, b]⟩ f h = fun j => f (mk2 (j 0) 0) :=
  funext fun j => broadcastTo_apply _ h j (mk2 (j 0) 0) fun ax => by
    match ax with
    | ⟨0, _⟩ => exact val_of_one (n := a) (j 0)
    | ⟨1, _⟩ => rfl
theorem k_row (f : FVec Ideal ⟨2, ![1, b]⟩ φ) (h : (⟨2, ![1, b]⟩ : Shape).Broadcasts ⟨2, ![a, b]⟩) :
    broadcastTo ⟨2, ![a, b]⟩ f h = fun j => f (mk2 0 (j 1)) :=
  funext fun j => by rw [eq_ix2 j]; exact broadcastTo_1b_ab_apply _ h _ _
theorem k_sum (f : FVec Ideal ⟨2, ![a, b]⟩ .f32) (h : (⟨2, ![a, b]⟩ : Shape).Reduces [1] ⟨1, ![a]⟩) (hφ : FKind.Formats .f32) (acc : BitVec 32)
    (hacc : acc = FKind.add.neutral .f32 hφ) (h2 : (⟨1, ![a]⟩ : Shape).ShapeCasts ⟨2, ![a, 1]⟩) :
    shapeCast ⟨2, ![a, 1]⟩ (multiReduction .add [1] ⟨1, ![a]⟩ f acc h hφ hacc) h2 = fun j => rowSum f (j 0) :=
  funext fun j => by
    rw [eq_ix2 j]
    refine (shapeCast_a_a1_apply _ h2 _ _).trans ((Ideal.multiReduction_add_single f _ h hφ hacc _).trans ?_)
    exact Finset.sum_congr rfl fun k _ => congrArg f (ext2 rfl rfl)

/-! ## A reference's text -/

theorem h_bcast {s t : Shape} {φ : FTy} (f : FVec Ideal s φ) (dims : Fin s.rank → Fin t.rank) (h : s.BroadcastsInDim t dims)
    (k : t.Idx → s.Idx) (hk : ∀ (j : t.Idx) (c : Fin s.rank), (k j c).val = if s.size c = 1 then 0 else (j (dims c)).val) :
    broadcastInDim t dims h f = fun j => f (k j) :=
  funext fun j => broadcastInDim_apply dims h f j (k j) (hk j)
theorem h_vec_col (f : FVec Ideal ⟨1, ![a]⟩ φ) (h : (⟨1, ![a]⟩ : Shape).BroadcastsInDim ⟨2, ![a, b]⟩ ![0]) :
    broadcastInDim ⟨2, ![a, b]⟩ ![0] h f = fun j => f (mk1 (j 0)) :=
  h_bcast f _ h (fun j => mk1 (j 0)) fun j c => by
    match c with
    | ⟨0, _⟩ => exact val_of_one (n := a) (j 0)
theorem cast_unrow (f : FVec Ideal ⟨2, ![1, a]⟩ φ) (h : (⟨2, ![1, a]⟩ : Shape).ShapeCasts ⟨1, ![a]⟩) :
    shapeCast ⟨1, ![a]⟩ f h = fun j => f (mk2 0 (j 0)) :=
  funext fun j => by rw [eq_ix1 j]; exact shapeCast_1a_a_apply _ h _
theorem h_vec_row (f : FVec Ideal ⟨1, ![b]⟩ φ) (h : (⟨1, ![b]⟩ : Shape).BroadcastsInDim ⟨2, ![a, b]⟩ ![1]) :
    broadcastInDim ⟨2, ![a, b]⟩ ![1] h f = fun j => f (mk1 (j 1)) :=
  h_bcast f _ h (fun j => mk1 (j 1)) fun j c => by
    match c with
    | ⟨0, _⟩ => exact val_of_one (n := b) (j 1)
theorem h_col (f : FVec Ideal ⟨2, ![a, 1]⟩ φ) (h : (⟨2, ![a, 1]⟩ : Shape).BroadcastsInDim ⟨2, ![a, b]⟩ ![0, 1]) :
    broadcastInDim ⟨2, ![a, b]⟩ ![0, 1] h f = fun j => f (mk2 (j 0) 0) :=
  h_bcast f _ h (fun j => mk2 (j 0) 0) fun j c => by
    match c with
    | ⟨0, _⟩ => exact val_of_one (n := a) (j 0)
    | ⟨1, _⟩ => rfl
theorem h_row (f : FVec Ideal ⟨2, ![1, b]⟩ φ) (h : (⟨2, ![1, b]⟩ : Shape).BroadcastsInDim ⟨2, ![a, b]⟩ ![0, 1]) :
    broadcastInDim ⟨2, ![a, b]⟩ ![0, 1] h f = fun j => f (mk2 0 (j 1)) :=
  h_bcast f _ h (fun j => mk2 0 (j 1)) fun j c => by
    match c with
    | ⟨0, _⟩ => rfl
    | ⟨1, _⟩ => exact val_of_one (n := b) (j 1)
/-- A row's sum from zero. -/
theorem h_sum {u : Shape} (f : FVec Ideal ⟨2, ![a, b]⟩ .f32) (h : (⟨2, ![a, b]⟩ : Shape).ReducesTo [1] ⟨1, ![a]⟩) (hu : 0 < u.numel) :
    Host.reduceAdd f (constant (F := Ideal) u .f32 0x00000000#32) h hu = fun j => rowSum f (j 0) :=
  funext fun j => by
    have h1 : (⟨2, ![a, b]⟩ : Shape).Reduces [1] ⟨1, ![a]⟩ := ⟨h.1, Nat.one_pos, h.2⟩
    simp only [Host.reduceAdd, Ideal.hostReduceAdd_def]
    rw [Ideal.hostReduceAdd_single h h1]
    refine (congrArg (· + _) (lit_zero.trans EReal.coe_zero)).trans ((zero_add _).trans ?_)
    exact Finset.sum_congr rfl fun k _ => congrArg f (ext2 rfl rfl)

/-! ## The norm -/

/-- The mean of row `r`, with `W` the word of the count. -/
def mean (W : BitVec 32) (f : Mat a b) (r : Fin a) : EReal := Ideal.div (rowSum f r) (Ideal.ofBits .f32 W)
/-- The reciprocal root of row `r`'s mean square. -/
def rn (W : BitVec 32) (x : Mat a b) (r : Fin a) : EReal := Ideal.rsqrt (mean W (fun j => x j * x j) r + Ideal.ofBits .f32 0x358637BD#32)
/-- Entry `j` of the norm with the gain `g`. -/
def rms (W : BitVec 32) (x : Mat a b) (g : Fin b → EReal) (j : (⟨2, ![a, b]⟩ : Shape).Idx) : EReal := x j * rn W x (j 0) * g (j 1)

variable (W : BitVec 32)

theorem k_mean (f : FVec Ideal ⟨2, ![a, b]⟩ .f32) (h : (⟨2, ![a, b]⟩ : Shape).Reduces [1] ⟨1, ![a]⟩) (hφ : FKind.Formats .f32) (acc : BitVec 32)
    (hacc : acc = FKind.add.neutral .f32 hφ) (h2 : (⟨1, ![a]⟩ : Shape).ShapeCasts ⟨2, ![a, 1]⟩) :
    divf (shapeCast ⟨2, ![a, 1]⟩ (multiReduction .add [1] ⟨1, ![a]⟩ f acc h hφ hacc) h2) (broadcast ⟨2, ![a, 1]⟩ (Scalar.ofBits (F := Ideal) .f32 W))
      = fun j => mean W f (j 0) := by
  rw [k_sum]
  rfl
theorem k_rn (x : FVec Ideal ⟨2, ![a, b]⟩ .f32) (h : (⟨2, ![a, b]⟩ : Shape).Reduces [1] ⟨1, ![a]⟩) (hφ : FKind.Formats .f32) (acc : BitVec 32)
    (hacc : acc = FKind.add.neutral .f32 hφ) (h2 : (⟨1, ![a]⟩ : Shape).ShapeCasts ⟨2, ![a, 1]⟩) :
    rsqrt (addf (divf (shapeCast ⟨2, ![a, 1]⟩ (multiReduction .add [1] ⟨1, ![a]⟩ (mulf x x) acc h hφ hacc) h2)
      (broadcast ⟨2, ![a, 1]⟩ (Scalar.ofBits (F := Ideal) .f32 W))) (broadcast ⟨2, ![a, 1]⟩ (Scalar.ofBits (F := Ideal) .f32 0x358637BD#32)))
      = fun j => rn W x (j 0) := by
  rw [k_mean]
  rfl
theorem k_rms (x : FVec Ideal ⟨2, ![a, b]⟩ .f32) (g : FVec Ideal ⟨2, ![1, b]⟩ .f32) (h : (⟨2, ![a, b]⟩ : Shape).Reduces [1] ⟨1, ![a]⟩)
    (hφ : FKind.Formats .f32) (acc : BitVec 32) (hacc : acc = FKind.add.neutral .f32 hφ) (h2 : (⟨1, ![a]⟩ : Shape).ShapeCasts ⟨2, ![a, 1]⟩)
    (h3 : (⟨2, ![a, 1]⟩ : Shape).Broadcasts ⟨2, ![a, b]⟩) (h4 : (⟨2, ![1, b]⟩ : Shape).Broadcasts ⟨2, ![a, b]⟩) :
    mulf (mulf x (broadcastTo ⟨2, ![a, b]⟩ (rsqrt (addf (divf (shapeCast ⟨2, ![a, 1]⟩ (multiReduction .add [1] ⟨1, ![a]⟩ (mulf x x) acc h hφ hacc) h2)
      (broadcast ⟨2, ![a, 1]⟩ (Scalar.ofBits (F := Ideal) .f32 W))) (broadcast ⟨2, ![a, 1]⟩ (Scalar.ofBits (F := Ideal) .f32 0x358637BD#32)))) h3))
      (broadcastTo ⟨2, ![a, b]⟩ g h4) = rms W x fun k => g (mk2 0 k) := by
  rw [k_rn, k_col, k_row]
  rfl

theorem h_mean (f : FVec Ideal ⟨2, ![a, b]⟩ .f32) (h1 : (⟨2, ![a, b]⟩ : Shape).ReducesTo [1] ⟨1, ![a]⟩) (hu : 0 < (⟨0, ![]⟩ : Shape).numel)
    (h2 : (⟨1, ![a]⟩ : Shape).BroadcastsInDim ⟨2, ![a, 1]⟩ ![0]) (h3 : (⟨0, ![]⟩ : Shape).BroadcastsInDim ⟨2, ![a, 1]⟩ ![]) :
    Host.divf (broadcastInDim ⟨2, ![a, 1]⟩ ![0] h2 (Host.reduceAdd f (constant (F := Ideal) ⟨0, ![]⟩ .f32 0x00000000#32) h1 hu))
      (broadcastInDim ⟨2, ![a, 1]⟩ ![] h3 (constant (F := Ideal) ⟨0, ![]⟩ .f32 W)) = fun j => mean W f (j 0) := by
  rw [h_sum, h_vec_col]
  rfl
theorem h_rn (x : FVec Ideal ⟨2, ![a, b]⟩ .f32) (h1 : (⟨2, ![a, b]⟩ : Shape).ReducesTo [1] ⟨1, ![a]⟩) (hu : 0 < (⟨0, ![]⟩ : Shape).numel)
    (h2 : (⟨1, ![a]⟩ : Shape).BroadcastsInDim ⟨2, ![a, 1]⟩ ![0]) (h3 h4 : (⟨0, ![]⟩ : Shape).BroadcastsInDim ⟨2, ![a, 1]⟩ ![]) :
    Host.rsqrt (addf (Host.divf (broadcastInDim ⟨2, ![a, 1]⟩ ![0] h2 (Host.reduceAdd (mulf x x) (constant (F := Ideal) ⟨0, ![]⟩ .f32 0x00000000#32) h1 hu))
      (broadcastInDim ⟨2, ![a, 1]⟩ ![] h3 (constant (F := Ideal) ⟨0, ![]⟩ .f32 W)))
      (broadcastInDim ⟨2, ![a, 1]⟩ ![] h4 (constant (F := Ideal) ⟨0, ![]⟩ .f32 0x358637BD#32))) = fun j => rn W x (j 0) := by
  rw [h_mean]
  rfl
theorem h_rms (x : FVec Ideal ⟨2, ![a, b]⟩ .f32) (g : FVec Ideal ⟨1, ![b]⟩ .f32) (h1 : (⟨2, ![a, b]⟩ : Shape).ReducesTo [1] ⟨1, ![a]⟩)
    (hu : 0 < (⟨0, ![]⟩ : Shape).numel) (h2 : (⟨1, ![a]⟩ : Shape).BroadcastsInDim ⟨2, ![a, 1]⟩ ![0])
    (h3 h4 : (⟨0, ![]⟩ : Shape).BroadcastsInDim ⟨2, ![a, 1]⟩ ![]) (h5 : (⟨2, ![a, 1]⟩ : Shape).BroadcastsInDim ⟨2, ![a, b]⟩ ![0, 1])
    (h6 : (⟨1, ![b]⟩ : Shape).BroadcastsInDim ⟨2, ![1, b]⟩ ![1]) (h7 : (⟨2, ![1, b]⟩ : Shape).BroadcastsInDim ⟨2, ![a, b]⟩ ![0, 1]) :
    mulf (mulf x (broadcastInDim ⟨2, ![a, b]⟩ ![0, 1] h5 (Host.rsqrt (addf (Host.divf (broadcastInDim ⟨2, ![a, 1]⟩ ![0] h2
        (Host.reduceAdd (mulf x x) (constant (F := Ideal) ⟨0, ![]⟩ .f32 0x00000000#32) h1 hu))
      (broadcastInDim ⟨2, ![a, 1]⟩ ![] h3 (constant (F := Ideal) ⟨0, ![]⟩ .f32 W)))
      (broadcastInDim ⟨2, ![a, 1]⟩ ![] h4 (constant (F := Ideal) ⟨0, ![]⟩ .f32 0x358637BD#32))))))
      (broadcastInDim ⟨2, ![a, b]⟩ ![0, 1] h7 (broadcastInDim ⟨2, ![1, b]⟩ ![1] h6 g)) = rms W x fun k => g (mk1 k) := by
  rw [h_rn, h_col, h_row, h_vec_row]
  rfl

end Cert.Rowwise

end
-- ==== Proof.ConvARef.lean ====
/-
  The gradients of the convolved, normalised and gated rows, as the reference computes them, are the same formulas of the arguments.
-/
module

public import proofs.«01_k».proof.Proof.ConvAKernel
public import proofs.«01_k».proof.Proof.Arrays
public import proofs.«01_k».proof.Proof.Rowwise
public import proofs.«01_k».proof.Proof.Gen.ConvBwdARefIdeal.Read

@[expose] public section

set_option maxRecDepth 16384
set_option backward.isDefEq.respectTransparency.types false

noncomputable section

open Idealize.ShloMosaic Idealize.ShloMosaic.TcCoe Idealize.SL.Sem

namespace Cert.ConvARef

open Cert.Reals Cert.Norm Cert.Layer Cert.Arrays Cert.Conv
open Cert.ConvAKernel (aP gP hG cG zM dzM dcM resC resW resB resG resL rowW rowB rowG rowL)
open Cert.ConvBwdARefIdeal Cert.ConvBwdARefIdeal.Gen Cert.ConvBwdARefIdeal.Read

variable (P : Mat 2048 3584) (W : Mat 31 512) (b g l : Fin 512 → ℝ) (D : Mat 2048 512)

theorem ne512 : ((512 : ℕ) : ℝ) ≠ 0 := by norm_num
/-- The arguments' values. -/
abbrev xP : FVec Ideal S2048x3584 .f32 := up P
abbrev xW : FVec Ideal S31x512 .f32 := up W
abbrev xV (v : Fin 512 → ℝ) : FVec Ideal S512 .f32 := up fun j => v (j 0)
abbrev xD : FVec Ideal S2048x512 .f32 := up D

/-! ## The convolved rows -/

theorem v9 : val_main_v9 (F := Ideal) (xP P) = up (s := S2048x512) (φ := .f32) (hG P) := by
  have e8 : val_main_v8 (F := Ideal) (xP P) = up (s := S2048x512) (φ := .f32) fun j => sgm (gP P j) := by
    unfold val_main_v8 val_main_v7 val_main_v6 val_main_v5 val_main_v4 val_main_v3 val_main_v2 val_main_v0 val_main_cst val_main_cst_0
    rw [slice_cols, slice_cols]
    refine (r_sgm _ _ _).trans (up_ext2 fun r q => congrArg (fun x => sgm (P x)) (ext2 rfl ?_))
    show 1536 + (512 + q.val) = 2048 + q.val
    omega
  have e1 : val_main_v1 (F := Ideal) (xP P) = up (s := S2048x512) (φ := .f32) (aP P) := by
    unfold val_main_v1 val_main_v0
    rw [slice_cols, slice_cols]
    refine up_ext2 fun r q => congrArg P (ext2 rfl ?_)
    show 1536 + (0 + q.val) = 1536 + q.val
    omega
  unfold val_main_v9
  rw [e8, e1, mulf_up]
  rfl

/-- The gated rows after thirty rows of zeros. -/
def hP : Mat 2078 512 := fun j => rowP (hG P) 30 (j 0).val (j 1)

theorem v11E (x0 : FVec Ideal S2048x3584 .f32) : val_main_v11 (F := Ideal) x0 = fun j => rowP (α := EReal) (val_main_v9 (F := Ideal) x0) 30 (j 0).val (j 1) := by
  funext j
  have h1 : (j 0).val < 2078 := (j 0).isLt
  unfold val_main_v11
  by_cases h : (j 0).val < 30
  · refine (concatenate_pair_apply_left (s₁ := S30x512) (s₂ := S2048x512) 0 _ _ _ j rfl (mk2 ⟨(j 0).val, h⟩ (j 1)) fun b => by match b with | ⟨0, _⟩ => rfl | ⟨1, _⟩ => rfl).trans ?_
    unfold val_main_v10 val_main_cst_1
    rw [constant_up lit_zero, host_scalar_up]
    exact (rowP_out (α := EReal) _ h _).symm
  · refine (concatenate_pair_apply_right (s₁ := S30x512) (s₂ := S2048x512) 0 _ _ _ j rfl rfl (mk2 ⟨(j 0).val - 30, by omega⟩ (j 1))
      (fun b hb => by match b with | ⟨1, _⟩ => rfl | ⟨0, _⟩ => exact absurd rfl hb) (Nat.sub_add_cancel (Nat.le_of_not_lt h))).trans ?_
    exact ((rowP_in (α := EReal) _ (Nat.le_of_not_lt h) _).trans (rowZ_lt (α := EReal) _ (by omega) _)).symm
theorem v11 : val_main_v11 (F := Ideal) (xP P) = up (s := S2078x512) (φ := .f32) (hP P) := by
  rw [v11E, v9]
  exact funext fun j => up_rowP (hG P) 30 _ _

/-- The 31 taps and the bias, of any arguments. -/
theorem v230E (x0 : FVec Ideal S2048x3584 .f32) (x1 : FVec Ideal S31x512 .f32) (x2 : FVec Ideal S512 .f32) (r : Fin 2048) (q : Fin 512) :
    val_main_v230 (F := Ideal) x0 x1 x2 (mk2 r q)
      = ∑ k ∈ Finset.range 31, rows (α := EReal) (val_main_v11 (F := Ideal) x0) k 2048 (mk2 r q) * rows (α := EReal) x1 k 1 (mk2 0 q) + x2 (mk1 q) := by
  simp -index only [
    val_main_v12, val_main_v13, val_main_v14, val_main_v15, val_main_v16, val_main_v17, val_main_v18, val_main_v19, val_main_v20,
    val_main_v21, val_main_v22, val_main_v23, val_main_v24, val_main_v25, val_main_v26, val_main_v27, val_main_v28, val_main_v29,
    val_main_v30, val_main_v31, val_main_v32, val_main_v33, val_main_v34, val_main_v35, val_main_v36, val_main_v37, val_main_v38,
    val_main_v39, val_main_v40, val_main_v41, val_main_v42, val_main_v43, val_main_v44, val_main_v45, val_main_v46, val_main_v47,
    val_main_v48, val_main_v49, val_main_v50, val_main_v51, val_main_v52, val_main_v53, val_main_v54, val_main_v55, val_main_v56,
    val_main_v57, val_main_v58, val_main_v59, val_main_v60, val_main_v61, val_main_v62, val_main_v63, val_main_v64, val_main_v65,
    val_main_v66, val_main_v67, val_main_v68, val_main_v69, val_main_v70, val_main_v71, val_main_v72, val_main_v73, val_main_v74,
    val_main_v75, val_main_v76, val_main_v77, val_main_v78, val_main_v79, val_main_v80, val_main_v81, val_main_v82, val_main_v83,
    val_main_v84, val_main_v85, val_main_v86, val_main_v87, val_main_v88, val_main_v89, val_main_v90, val_main_v91, val_main_v92,
    val_main_v93, val_main_v94, val_main_v95, val_main_v96, val_main_v97, val_main_v98, val_main_v99, val_main_v100, val_main_v101,
    val_main_v102, val_main_v103, val_main_v104, val_main_v105, val_main_v106, val_main_v107, val_main_v108, val_main_v109, val_main_v110,
    val_main_v111, val_main_v112, val_main_v113, val_main_v114, val_main_v115, val_main_v116, val_main_v117, val_main_v118, val_main_v119,
    val_main_v120, val_main_v121, val_main_v122, val_main_v123, val_main_v124, val_main_v125, val_main_v126, val_main_v127, val_main_v128,
    val_main_v129, val_main_v130, val_main_v131, val_main_v132, val_main_v133, val_main_v134, val_main_v135, val_main_v136, val_main_v137,
    val_main_v138, val_main_v139, val_main_v140, val_main_v141, val_main_v142, val_main_v143, val_main_v144, val_main_v145, val_main_v146,
    val_main_v147, val_main_v148, val_main_v149, val_main_v150, val_main_v151, val_main_v152, val_main_v153, val_main_v154, val_main_v155,
    val_main_v156, val_main_v157, val_main_v158, val_main_v159, val_main_v160, val_main_v161, val_main_v162, val_main_v163, val_main_v164,
    val_main_v165, val_main_v166, val_main_v167, val_main_v168, val_main_v169, val_main_v170, val_main_v171, val_main_v172, val_main_v173,
    val_main_v174, val_main_v175, val_main_v176, val_main_v177, val_main_v178, val_main_v179, val_main_v180, val_main_v181, val_main_v182,
    val_main_v183, val_main_v184, val_main_v185, val_main_v186, val_main_v187, val_main_v188, val_main_v189, val_main_v190, val_main_v191,
    val_main_v192, val_main_v193, val_main_v194, val_main_v195, val_main_v196, val_main_v197, val_main_v198, val_main_v199, val_main_v200,
    val_main_v201, val_main_v202, val_main_v203, val_main_v204, val_main_v205, val_main_v206, val_main_v207, val_main_v208, val_main_v209,
    val_main_v210, val_main_v211, val_main_v212, val_main_v213, val_main_v214, val_main_v215, val_main_v216, val_main_v217, val_main_v218,
    val_main_v219, val_main_v220, val_main_v221, val_main_v222, val_main_v223, val_main_v224, val_main_v225, val_main_v226, val_main_v227,
    val_main_v228, val_main_v229, val_main_v230,
    Finset.sum_range_succ, Finset.sum_range_zero, zero_add]
  generalize (val_main_v11 (F := Ideal) x0 : FVec Ideal S2078x512 .f32) = Y
  simp -index only [slice_rowsE (φ := .f32), Rowwise.cast_unrow (φ := .f32), Rowwise.h_vec_row (φ := .f32), Rowwise.h_row (φ := .f32)]
  rfl
theorem v230 : val_main_v230 (F := Ideal) (xP P) (xW W) (xV b) = up (s := S2048x512) (φ := .f32) (cG P W b) := by
  suffices key : ∀ (r : Fin 2048) (q : Fin 512), val_main_v230 (F := Ideal) (xP P) (xW W) (xV b) (mk2 r q) = ((cG P W b (mk2 r q) : ℝ) : EReal) from
    funext fun j => (congrArg _ (eq_mk2 j)).trans ((key (j 0) (j 1)).trans (congrArg (fun i => ((cG P W b i : ℝ) : EReal)) (eq_mk2 j).symm))
  intro r q
  rw [v230E, v11]
  have e : cG P W b (mk2 r q) = ∑ k ∈ Finset.range 31, rows (hP P) k 2048 (mk2 r q) * rows W k 1 (mk2 0 q) + b q := by
    refine (add_comm _ _).trans (congrArg (· + b q) (Finset.sum_congr rfl fun k hk => ?_))
    have hk := Finset.mem_range.mp hk
    have hr := r.isLt
    refine (mul_comm _ _).trans (congrArg₂ (· * ·) ?_ rfl)
    refine (congrArg (fun n => rowP (hG P) 30 n q) (Nat.add_comm _ _)).trans (rowZ_lt (hP P) (by show k + r.val < 2078; omega) q).symm
  rw [e, EReal.coe_add, coe_sum]
  simp only [up_rows, EReal.coe_mul]
  rfl

/-! ## The norm and the gate -/

theorem v236 : val_main_v236 (F := Ideal) (xP P) (xW W) (xV b) = up (φ := .f32) (cent (cG P W b)) := by
  unfold val_main_v236 val_main_v235 val_main_v234 val_main_v233 val_main_v232 val_main_v231 val_main_cst_2 val_main_cst_3
  rw [v230]
  exact r_cent lit_512 ne512 (cG P W b) ..
theorem v243 : val_main_v243 (F := Ideal) (xP P) (xW W) (xV b) = up (s := S2048x1) (φ := .f32) fun j => ms (cent (cG P W b)) (j 0) := by
  unfold val_main_v243 val_main_v241 val_main_v239 val_main_v238 val_main_v237 val_main_v240 val_main_v242 val_main_cst_4 val_main_cst_5 val_main_cst_6
  rw [v236]
  exact r_ms lit_512 ne512 _ ..
theorem v244 : val_main_v244 (F := Ideal) (xP P) (xW W) (xV b) = up (s := S2048x1) (φ := .f32) fun j => rinv (cent (cG P W b)) (j 0) := by
  unfold val_main_v244
  rw [v243]
  exact r_rinv _
theorem v247 : val_main_v247 (F := Ideal) (xP P) (xW W) (xV b) = up (s := S2048x1) (φ := .f32) fun j =>
    -(1 / 2) * (rinv (cent (cG P W b)) (j 0) * (rinv (cent (cG P W b)) (j 0) * rinv (cent (cG P W b)) (j 0))) := by
  unfold val_main_v247 val_main_v246 val_main_v245 val_main_cst_7
  rw [v244, v243]
  exact r_half _ _
theorem v249 : val_main_v249 (F := Ideal) (xP P) (xW W) (xV b) = up (s := S2048x512) (φ := .f32) fun j => xhat (cent (cG P W b)) (j 0) (j 1) := by
  unfold val_main_v249 val_main_v248
  rw [v236, v244]
  exact r_xhat _ _
theorem v255 : val_main_v255 (F := Ideal) (xP P) (xW W) (xV b) (xV g) (xV l) = up (s := S2048x512) (φ := .f32) (zM (cG P W b) g l) := by
  unfold val_main_v255 val_main_v254 val_main_v253 val_main_v252 val_main_v251 val_main_v250
  rw [v249]
  simp -index only [host_vec_row_up, host_row_up, mulf_up, addf_up, mk1_0, mk2_1]
  rfl
theorem v256 : val_main_v256_2 (F := Ideal) (xP P) (xW W) (xV b) (xV g) (xV l) = up (s := S2048x512) (φ := .f32) fun j => sgm (zM (cG P W b) g l j) := by
  unfold val_main_v256_2 val_main_call0_v4 val_main_call0_v3 val_main_call0_v2 val_main_call0_v1 val_main_call0_v0 val_main_call0_cst val_main_call0_cst_0
  rw [v255]
  exact r_sgm _ _ _
theorem v257 : val_main_v257 (F := Ideal) (xP P) (xW W) (xV b) (xV g) (xV l) (xD D) = up (s := S2048x512) (φ := .f32) (dzM (cG P W b) g l D) := by
  unfold val_main_v257 val_main_call1_v2 val_main_call1_v1 val_main_call1_v0 val_main_v256_1 val_main_call0_v7 val_main_call0_v6 val_main_call0_cst_1
  rw [v256, v255]
  simp -index only [constant_up lit_one, host_scalar_up, subf_up, mulf_up, addf_up]
  exact congrArg (up (s := S2048x512) (φ := .f32)) (funext fun j => by unfold dzM; ring)

/-- The gradient at the normalised rows. -/
abbrev vG : Mat 2048 512 := fun j => dzM (cG P W b) g l D j * g (j 1)

theorem v265 : val_main_v265 (F := Ideal) (xP P) (xW W) (xV b) (xV g) (xV l) (xD D) = up (φ := .f32) (vG P W b g l D) := by
  unfold val_main_v265 val_main_v264 val_main_v250
  rw [v257]
  exact r_scale _ _ _ _
theorem v274 : val_main_v276 (F := Ideal) (xP P) (xW W) (xV b) (xV g) (xV l) (xD D) = up (s := S2048x512) (φ := .f32) fun j =>
    (∑ k : Fin 512, cent (cG P W b) (mk2 (j 0) k) * vG P W b g l D (mk2 (j 0) k))
      * (-(1 / 2) * (rinv (cent (cG P W b)) (j 0) * (rinv (cent (cG P W b)) (j 0) * rinv (cent (cG P W b)) (j 0)))) / ((512 : ℕ) : ℝ) := by
  unfold val_main_v276 val_main_v275 val_main_v274 val_main_v272 val_main_v273 val_main_v269 val_main_v268 val_main_v267 val_main_cst_12 val_main_cst_13 val_main_cst_14
  rw [v265, v247, v236]
  exact r_mean lit_512 ne512 (cent (cG P W b)) _ ..
theorem v280 : val_main_v280 (F := Ideal) (xP P) (xW W) (xV b) (xV g) (xV l) (xD D)
    = up (s := S2048x512) (φ := .f32) fun j => dxv (vG P W b g l D) (cent (cG P W b)) (j 0) (j 1) := by
  unfold val_main_v280 val_main_v279 val_main_v278 val_main_v277 val_main_v271 val_main_v270
  rw [v265, v244, v236]
  exact r_dxv (cent (cG P W b)) _ _ (v274 P W b g l D)
theorem v288 : val_main_v288 (F := Ideal) (xP P) (xW W) (xV b) (xV g) (xV l) (xD D) = up (s := S2048x512) (φ := .f32) (resC P W b g l D) := by
  unfold val_main_v288 val_main_v287 val_main_v286 val_main_v285 val_main_v284 val_main_v283 val_main_v282 val_main_v281 val_main_cst_15 val_main_cst_16 val_main_cst_17
  rw [v280]
  exact r_lnv lit_512 ne512 _ _ ..

/-! ## The sums over the rows -/

theorem v511 : val_main_v511 (F := Ideal) (xP P) (xW W) (xV b) (xV g) (xV l) (xD D) = up (s := S1x512) (φ := .f32) (resL P W b g l D) := by
  unfold val_main_v511 val_main_v260 val_main_v259 val_main_v258 val_main_cst_8 val_main_cst_9
  rw [v257]
  simp -index only [constant_up lit_zero, hostColSum_up, cast_row_up, mk1_0, mk2_0, mk2_1, Fin.sum_univ_one]
  rfl
theorem v510 : val_main_v510 (F := Ideal) (xP P) (xW W) (xV b) (xV g) (xV l) (xD D) = up (s := S1x512) (φ := .f32) (resG P W b g l D) := by
  unfold val_main_v510 val_main_v266 val_main_v263 val_main_v262 val_main_v261 val_main_cst_10 val_main_cst_11
  rw [v257, v249]
  exact (congrArg (fun y => shapeCast S1x512 y _) (r_dg (cent (cG P W b)) (dzM (cG P W b) g l D) ..)).trans (cast_row_up _ _)
theorem v509 : val_main_v509 (F := Ideal) (xP P) (xW W) (xV b) (xV g) (xV l) (xD D) = up (s := S1x512) (φ := .f32) (resB P W b g l D) := by
  unfold val_main_v509 val_main_v291 val_main_v290 val_main_v289 val_main_cst_18 val_main_cst_19
  rw [v288]
  simp -index only [constant_up lit_zero, hostColSum_up, cast_row_up, mk1_0, mk2_0, mk2_1, Fin.sum_univ_one]
  rfl

theorem pad_rows' {a b n p hi : ℕ} (f : Mat a b) (h : (⟨2, ![a, b]⟩ : Shape).Pads ![p, 0] ![hi, 0] ![0, 0] ⟨2, ![n, b]⟩) (hu : 0 < (⟨0, ![]⟩ : Shape).numel) :
    pad ⟨2, ![n, b]⟩ ![p, 0] ![hi, 0] ![0, 0] (up f : FVec Ideal ⟨2, ![a, b]⟩ .f32) (up fun _ => 0 : FVec Ideal ⟨0, ![]⟩ .f32) h hu
      = up (s := ⟨2, ![n, b]⟩) (φ := .f32) fun j => rowP f p (j 0).val (j 1) :=
  pad_any f _ (fun _ => rfl) h hu

/-- The row tap `k` gets: the sum over the rows it read. -/
def tapRow (k : ℕ) : Mat 1 512 := fun j => ∑ r : Fin 2048, rows (hP P) k 2048 (mk2 r (j 1)) * resC P W b g l D (mk2 r (j 1))

/-- The taps' rows are set in place one by one, from the last tap to the first, and added. -/
theorem v507 : val_main_v507 (F := Ideal) (xP P) (xW W) (xV b) (xV g) (xV l) (xD D)
    = up (s := S31x512) (φ := .f32) fun j => ∑ k ∈ Finset.range 31, rowP (tapRow P W b g l D (30 - k)) (30 - k) (j 0).val (j 1) := by
  simp -index only [
    val_main_v292, val_main_cst_20, val_main_v293, val_main_v294, val_main_cst_21, val_main_v295, val_main_v296, val_main_cst_22,
    val_main_v297, val_main_v298, val_main_cst_23, val_main_v299, val_main_v300, val_main_cst_24, val_main_v301, val_main_v302,
    val_main_cst_25, val_main_v303, val_main_v304, val_main_v305, val_main_cst_26, val_main_v306, val_main_v307, val_main_cst_27,
    val_main_v308, val_main_v309, val_main_cst_28, val_main_v310, val_main_v311, val_main_v312, val_main_cst_29, val_main_v313, val_main_v314,
    val_main_cst_30, val_main_v315, val_main_v316, val_main_cst_31, val_main_v317, val_main_v318, val_main_v319, val_main_cst_32,
    val_main_v320, val_main_v321, val_main_cst_33, val_main_v322, val_main_v323, val_main_cst_34, val_main_v324, val_main_v325, val_main_v326,
    val_main_cst_35, val_main_v327, val_main_v328, val_main_cst_36, val_main_v329, val_main_v330, val_main_cst_37, val_main_v331,
    val_main_v332, val_main_v333, val_main_cst_38, val_main_v334, val_main_v335, val_main_cst_39, val_main_v336, val_main_v337,
    val_main_cst_40, val_main_v338, val_main_v339, val_main_v340, val_main_cst_41, val_main_v341, val_main_v342, val_main_cst_42,
    val_main_v343, val_main_v344, val_main_cst_43, val_main_v345, val_main_v346, val_main_v347, val_main_cst_44, val_main_v348, val_main_v349,
    val_main_cst_45, val_main_v350, val_main_v351, val_main_cst_46, val_main_v352, val_main_v353, val_main_v354, val_main_cst_47,
    val_main_v355, val_main_v356, val_main_cst_48, val_main_v357, val_main_v358, val_main_cst_49, val_main_v359, val_main_v360, val_main_v361,
    val_main_cst_50, val_main_v362, val_main_v363, val_main_cst_51, val_main_v364, val_main_v365, val_main_cst_52, val_main_v366,
    val_main_v367, val_main_v368, val_main_cst_53, val_main_v369, val_main_v370, val_main_cst_54, val_main_v371, val_main_v372,
    val_main_cst_55, val_main_v373, val_main_v374, val_main_v375, val_main_cst_56, val_main_v376, val_main_v377, val_main_cst_57,
    val_main_v378, val_main_v379, val_main_cst_58, val_main_v380, val_main_v381, val_main_v382, val_main_cst_59, val_main_v383, val_main_v384,
    val_main_cst_60, val_main_v385, val_main_v386, val_main_cst_61, val_main_v387, val_main_v388, val_main_v389, val_main_cst_62,
    val_main_v390, val_main_v391, val_main_cst_63, val_main_v392, val_main_v393, val_main_cst_64, val_main_v394, val_main_v395, val_main_v396,
    val_main_cst_65, val_main_v397, val_main_v398, val_main_cst_66, val_main_v399, val_main_v400, val_main_cst_67, val_main_v401,
    val_main_v402, val_main_v403, val_main_cst_68, val_main_v404, val_main_v405, val_main_cst_69, val_main_v406, val_main_v407,
    val_main_cst_70, val_main_v408, val_main_v409, val_main_v410, val_main_cst_71, val_main_v411, val_main_v412, val_main_cst_72,
    val_main_v413, val_main_v414, val_main_cst_73, val_main_v415, val_main_v416, val_main_v417, val_main_cst_74, val_main_v418, val_main_v419,
    val_main_cst_75, val_main_v420, val_main_v421, val_main_cst_76, val_main_v422, val_main_v423, val_main_v424, val_main_cst_77,
    val_main_v425, val_main_v426, val_main_cst_78, val_main_v427, val_main_v428, val_main_cst_79, val_main_v429, val_main_v430, val_main_v431,
    val_main_cst_80, val_main_v432, val_main_v433, val_main_cst_81, val_main_v434, val_main_v435, val_main_cst_82, val_main_v436,
    val_main_v437, val_main_v438, val_main_cst_83, val_main_v439, val_main_v440, val_main_cst_84, val_main_v441, val_main_v442,
    val_main_cst_85, val_main_v443, val_main_v444, val_main_v445, val_main_cst_86, val_main_v446, val_main_v447, val_main_cst_87,
    val_main_v448, val_main_v449, val_main_cst_88, val_main_v450, val_main_v451, val_main_v452, val_main_cst_89, val_main_v453, val_main_v454,
    val_main_cst_90, val_main_v455, val_main_v456, val_main_cst_91, val_main_v457, val_main_v458, val_main_v459, val_main_cst_92,
    val_main_v460, val_main_v461, val_main_cst_93, val_main_v462, val_main_v463, val_main_cst_94, val_main_v464, val_main_v465, val_main_v466,
    val_main_cst_95, val_main_v467, val_main_v468, val_main_cst_96, val_main_v469, val_main_v470, val_main_cst_97, val_main_v471,
    val_main_v472, val_main_v473, val_main_cst_98, val_main_v474, val_main_v475, val_main_cst_99, val_main_v476, val_main_v477,
    val_main_cst_100, val_main_v478, val_main_v479, val_main_v480, val_main_cst_101, val_main_v481, val_main_v482, val_main_cst_102,
    val_main_v483, val_main_v484, val_main_cst_103, val_main_v485, val_main_v486, val_main_v487, val_main_cst_104, val_main_v488,
    val_main_v489, val_main_cst_105, val_main_v490, val_main_v491, val_main_cst_106, val_main_v492, val_main_v493, val_main_v494,
    val_main_cst_107, val_main_v495, val_main_v496, val_main_cst_108, val_main_v497, val_main_v498, val_main_cst_109, val_main_v499,
    val_main_v500, val_main_v501, val_main_cst_110, val_main_v502, val_main_v503, val_main_cst_111, val_main_v504, val_main_v505,
    val_main_cst_112, val_main_v506, val_main_v507,
    val_main_v12, val_main_v18, val_main_v25, val_main_v32, val_main_v39, val_main_v46, val_main_v53, val_main_v60, val_main_v67, val_main_v74, val_main_v81, val_main_v88, val_main_v95, val_main_v102, val_main_v109, val_main_v116, val_main_v123, val_main_v130, val_main_v137, val_main_v144, val_main_v151, val_main_v158, val_main_v165, val_main_v172, val_main_v179, val_main_v186, val_main_v193, val_main_v200, val_main_v207, val_main_v214, val_main_v221,
    v11, v288, slice_rows, mulf_up, constant_up lit_zero, hostColSum_up, cast_row_up, mk1_0, mk2_0, mk2_1, Fin.sum_univ_one, host_vec_row_up, pad_rows', addf_up]
  simp only [Finset.sum_range_succ, Finset.sum_range_zero, zero_add]
  rfl

theorem tap_sum (i : ℕ) (hi : i < 31) (q : Fin 512) :
    ∑ k ∈ Finset.range 31, rowP (tapRow P W b g l D (30 - k)) (30 - k) i q = ∑ r : Fin 2048, rowW P W b g l D i q r := by
  refine (Finset.sum_range_reflect (fun k => rowP (tapRow P W b g l D k) k i q) 31).trans ?_
  refine (Finset.sum_eq_single_of_mem i (Finset.mem_range.mpr hi) fun k _ hk => ?_).trans ?_
  · by_cases h : k ≤ i
    · exact (rowP_in _ h q).trans (rowZ_out _ (by omega) q)
    · exact rowP_out _ (by omega) q
  · refine (rowP_in _ (le_refl i) q).trans ((rowZ_lt _ (by omega) q).trans (Finset.sum_congr rfl fun r _ => (mul_comm _ _).trans ?_))
    have hr := r.isLt
    refine congrArg (resC P W b g l D (mk2 r q) * ·) ((rowZ_lt (hP P) (by show i + r.val < 2078; omega) q).trans ?_)
    exact congrArg (fun n => rowP (hG P) 30 n q) (Nat.add_comm _ _)

theorem v508 : val_main_v508 (F := Ideal) (xP P) (xW W) (xV b) (xV g) (xV l) (xD D) = up (s := S32x512) (φ := .f32) (resW P W b g l D) := by
  unfold val_main_v508
  rw [v507]
  refine (pad_any _ _ (fun _ => by show ((((0#32 : BitVec 32).toInt : ℤ) : ℝ) : EReal) = _; norm_num) _ _).trans (up_ext2 fun i q => ?_)
  refine (rowP_in _ (Nat.zero_le _) _).trans ?_
  by_cases h : i.val < 31
  · exact (rowZ_lt _ (by show i.val - 0 < 31; omega) _).trans ((tap_sum P W b g l D i.val h q).trans (if_pos h).symm)
  · exact (rowZ_out _ (by show 31 ≤ i.val - 0; omega) _).trans (if_neg h).symm

end Cert.ConvARef

end
-- ==== Proof.ConvAClaim.lean ====
/-
  The value claim about the gradients of the convolved, normalised and gated rows: that kernel and reference compute the same.
-/
module

public import proofs.«01_k».proof.Defs
public import proofs.«01_k».proof.Proof.ConvARef
public import proofs.«01_k».proof.Proof.Gen.Pre_conv_bwd1_finite

@[expose] public section

set_option maxRecDepth 16384

noncomputable section

namespace Cert.ConvAClaim

open Idealize.ShloMosaic Idealize.ShloMosaic.TcCoe Idealize.SL.Sem Cert.Reals Cert.Norm Cert.ConvAKernel

/-- The precondition says that the six arguments are finite. -/
theorem finite {m : (ℓ : Loc Cert.ConvBwdAIdeal.nD Cert.ConvBwdAIdeal.τ Cert.ConvBwdAIdeal.sig) → Buf (Elt Ideal) ℓ}
    (h : Cert.Pre_ConvBwdAIdeal_conv_bwd1_finite m) (c : Dev Cert.ConvBwdAIdeal.nD) :
    ∃ (P : Mat 2048 3584) (W : Mat 31 512) (b g l : Fin 512 → ℝ) (D : Mat 2048 512), ConvAKernel.Args m c P W b g l D := by
  have h1 := h c
  unfold Cert.Pre_conv_bwd1_finite.fn Cert.Pre_conv_bwd1_finite.fn_part1 at h1
  obtain ⟨h2, hD⟩ := and_ones h1
  obtain ⟨h3, hl⟩ := and_ones h2
  obtain ⟨h4, hg⟩ := and_ones h3
  obtain ⟨h5, hb⟩ := and_ones h4
  obtain ⟨hP, hW⟩ := and_ones h5
  obtain ⟨P, hP⟩ := finite_of_all _ _ _ _ _ _ _ (congrFun hP fun a => a.elim0)
  obtain ⟨W, hW⟩ := finite_of_all _ _ _ _ _ _ _ (congrFun hW fun a => a.elim0)
  obtain ⟨b, hb⟩ := finite_of_all _ _ _ _ _ _ _ (congrFun hb fun a => a.elim0)
  obtain ⟨g, hg⟩ := finite_of_all _ _ _ _ _ _ _ (congrFun hg fun a => a.elim0)
  obtain ⟨l, hl⟩ := finite_of_all _ _ _ _ _ _ _ (congrFun hl fun a => a.elim0)
  obtain ⟨D, hD⟩ := finite_of_all _ _ _ _ _ _ _ (congrFun hD fun a => a.elim0)
  exact ⟨P, W, fun k => b (mk1 k), fun k => g (mk1 k), fun k => l (mk1 k), D, hP, hW, hb.trans (congrArg up (funext fun j => congrArg b (eq_mk1 j))),
    hg.trans (congrArg up (funext fun j => congrArg g (eq_mk1 j))), hl.trans (congrArg up (funext fun j => congrArg l (eq_mk1 j))), hD⟩

/-- Kernel and reference compute the same five arrays. -/
theorem value : Cert.algebraic_ConvBwdAIdeal_ConvBwdARefIdeal_pre_conv_bwd1_finite := by
  intro m ρ m' ρ' hpre hagree
  refine ⟨fun c => (Cert.ConvBwdAIdeal.Gen.dats m 0 c).arrAt 9 Cert.ConvBwdAIdeal.cfg0.N,
    fun c => (Cert.ConvBwdAIdeal.Gen.dats m 0 c).arrAt 10 Cert.ConvBwdAIdeal.cfg0.N,
    fun c => (Cert.ConvBwdAIdeal.Gen.dats m 0 c).arrAt 11 Cert.ConvBwdAIdeal.cfg0.N,
    fun c => (Cert.ConvBwdAIdeal.Gen.dats m 0 c).arrAt 12 Cert.ConvBwdAIdeal.cfg0.N,
    fun c => (Cert.ConvBwdAIdeal.Gen.dats m 0 c).arrAt 13 Cert.ConvBwdAIdeal.cfg0.N,
    (θ_run Cert.ConvBwdAIdeal.defs _ _).mono (fun r h c => ?_) (Cert.ConvBwdAIdeal.Value.run_blocks m ρ),
    (θ_run Cert.ConvBwdARefIdeal.defs _ _).mono (fun r h c => ?_) (Cert.ConvBwdARefIdeal.Value.run m' ρ')⟩
  · obtain ⟨h0, h1, h2, h3, h4, -, hk⟩ := h c
    exact ⟨h0, h1, h2, h3, h4, hk⟩
  · obtain ⟨h0, h1, h2, h3, h4, hk⟩ := h c
    obtain ⟨P, W, b, g, l, D, ha⟩ := finite hpre c
    obtain ⟨e0, e1, e2, e3, e4, e5⟩ := hagree c
    have a0 : StableHlo.launchContents m' c (Proc.tc.devRef Cert.ConvBwdARefIdeal.main_arg0) = _ := e0.trans ha.hP
    have a1 : StableHlo.launchContents m' c (Proc.tc.devRef Cert.ConvBwdARefIdeal.main_arg1) = _ := e1.trans ha.hW
    have a2 : StableHlo.launchContents m' c (Proc.tc.devRef Cert.ConvBwdARefIdeal.main_arg2) = _ := e2.trans ha.hb
    have a3 : StableHlo.launchContents m' c (Proc.tc.devRef Cert.ConvBwdARefIdeal.main_arg3) = _ := e3.trans ha.hg
    have a4 : StableHlo.launchContents m' c (Proc.tc.devRef Cert.ConvBwdARefIdeal.main_arg4) = _ := e4.trans ha.hl
    have a5 : StableHlo.launchContents m' c (Proc.tc.devRef Cert.ConvBwdARefIdeal.main_arg5) = _ := e5.trans ha.hD
    refine ⟨h0.trans ?_, h1.trans ?_, h2.trans ?_, h3.trans ?_, h4.trans ?_, hk⟩
    · refine (Cert.ConvBwdARefIdeal.Read.val_main_v288_eq _).trans ?_
      rw [a0, a1, a2, a3, a4, a5]
      exact (ConvARef.v288 P W b g l D).trans (ConvAKernel.final9 m c ha).symm
    · refine (Cert.ConvBwdARefIdeal.Read.val_main_v508_eq _).trans ?_
      rw [a0, a1, a2, a3, a4, a5]
      exact (ConvARef.v508 P W b g l D).trans (ConvAKernel.final10 m c ha).symm
    · refine (Cert.ConvBwdARefIdeal.Read.val_main_v509_eq _).trans ?_
      rw [a0, a1, a2, a3, a4, a5]
      exact (ConvARef.v509 P W b g l D).trans (ConvAKernel.final11 m c ha).symm
    · refine (Cert.ConvBwdARefIdeal.Read.val_main_v510_eq _).trans ?_
      rw [a0, a1, a2, a3, a4, a5]
      exact (ConvARef.v510 P W b g l D).trans (ConvAKernel.final12 m c ha).symm
    · refine (Cert.ConvBwdARefIdeal.Read.val_main_v511_eq _).trans ?_
      rw [a0, a1, a2, a3, a4, a5]
      exact (ConvARef.v511 P W b g l D).trans (ConvAKernel.final13 m c ha).symm

end Cert.ConvAClaim

end
-- ==== Proof.ConvBKernel.lean ====
/-
  The gradient of the convolution along the rows and of its gate, as the kernel computes it for finite arguments.
-/
module

public import proofs.«01_k».proof.Proof.Conv
public import proofs.«01_k».proof.Proof.Gen.ConvBwdBIdeal.Value

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.ConvBKernel

open Cert.Reals Cert.Norm Cert.Arrays Cert.Conv Cert.ConvBwdBIdeal Cert.ConvBwdBIdeal.Gen
theorem before_last : ∀ x : Fin 8, Scalar.cmpi .slt (BitVec.ofNat 32 x.val) 7#32 = if x.val < 7 then 1#1 else 0#1 := by decide +kernel
theorem pay3 (D : Mat 256 512) : k0_pay3 (F := Ideal) (up (φ := .f32) D) = up (s := S256x512) (φ := .f32) D := cast_self_up _ _
theorem pay4 (i : grid0.Coords) (N : Mat 32 512) : k0_pay4 (F := Ideal) i (up (φ := .f32) N) = up (s := S32x512) (φ := .f32) fun j => if (i 0).val < 7 then N j else 0 := by
  unfold k0_pay4
  dsimp only
  rw [splat_up lit_zero]
  have e := before_last (i 0)
  by_cases h : (i 0).val < 7
  · rw [if_pos h] at e
    simp only [e, if_pos h]
    exact cast_self_up _ _
  · rw [if_neg h] at e
    simp only [e, if_neg h]
    exact cast_self_up _ _
theorem pay22 (G : Mat 256 512) : k0_pay22 (F := Ideal) (up (φ := .f32) G) = up (s := S256x512) (φ := .f32) fun j => sgm (G j) := k_sgm G
/-- The rows of the block and the first of the next one. -/
abbrev both (i : grid0.Coords) (D N : Mat 256 512) : Mat 288 512 := stack D fun j : S32x512.Idx => if (i 0).val < 7 then rows N 0 32 j else 0

/-- The gradient of the convolved rows: 31 taps, each over the rows it was read for. -/
def tapsB (W : Mat 32 512) (X : Mat 288 512) (r : ℕ) (q : Fin 512) : ℝ := ∑ k ∈ Finset.range 31, rowZ W k q * rowZ X (30 - k + r) q

theorem out5 (c : Dev nD) (t : Fin cfg0.N) (A G D N : Mat 256 512) (W : Mat 32 512) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
      (up (φ := .f32) A) (up (φ := .f32) G) (up (φ := .f32) W) (up (φ := .f32) D) (up (φ := .f32) N)
      = up (s := S256x1024) (φ := .bf16) (sides (fun j : S256x512.Idx => tapsB W (both (grid0.coords t) D N) (j 0).val (j 1) * sgm (G j))
          fun j : S256x512.Idx => tapsB W (both (grid0.coords t) D N) (j 0).val (j 1) * A j * sgm (G j) * (1 - sgm (G j))) := by
  unfold out0_A_5
  rw [View.read_writes_eq_canon]
  on_goal 2 => exact fun y => cover0_A_5 ..
  unfold kernelRun0_A
  dsimp only
  sl_unfold_words
  simp only [View.readAt_eq_ld, (hs0_0 t).read_unread, (hs0_1 t).read_unread, (hs0_2 t).read_unread, (hs0_3 t).read_unread, (hs0_4 t).read_unread, View.ld_unit_zero (S := S256x512) hz2]
  simp -index only [ld_rows, pay3, pay4]
  simp -index (disch := decide) only [read_stack]
  simp -index only [k0_pay5, k0_pay6, k0_pay7, k0_pay8, k0_pay9, k0_pay10, k0_pay11, cast_toPlane_up]
  simp -index (disch := decide) only [read_shift]
  dsimp only [both]
  generalize (stack D (fun j : S32x512.Idx => if ((grid0.coords t) 0).val < 7 then rows N 0 32 j else 0) : Mat 288 512) = X
  rw [pay22]
  unfold k0_pay1 k0_pay23 k0_pay21 k0_pay20 k0_pay19 k0_pay18 k0_pay17 k0_pay16 k0_pay15 k0_pay14 k0_pay13 k0_pay12
  dsimp only
  simp -index only [pay22, splat_up lit_zero, splat_up lit_one, cast_self_up, cast_plane_up, spread_row_up, mulf_up, addf_up, subf_up, truncf_up]
  refine (canon_sides (a := 256) (w := 512) (n := 1024) _ _ rfl _ _).trans (congrArg up ?_)
  refine congrArg₂ sides (funext fun j => ?_) (funext fun j => ?_)
  · refine congrArg (· * sgm (G j)) ?_
    unfold tapsB
    simp only [Finset.sum_range_succ, Finset.sum_range_zero]
    rfl
  · refine congrArg (· * A j * sgm (G j) * (1 - sgm (G j))) ?_
    unfold tapsB
    simp only [Finset.sum_range_succ, Finset.sum_range_zero]
    rfl

/-! ## Where the blocks stand -/

variable (m : (ℓ : Loc nD τ sig) → Buf (Elt Ideal) ℓ) (c : Dev nD)

/-- The wide projection's two middle parts: the gated rows and their gate. -/
abbrev aP (P : Mat 2048 3584) : Mat 2048 512 := cols P 1536 512 (by decide)
abbrev gP (P : Mat 2048 3584) : Mat 2048 512 := cols P 2048 512 (by decide)
/-- The gradient of row `i` of what was convolved. -/
def dh (W : Mat 31 512) (D : Mat 2048 512) (i : ℕ) (q : Fin 512) : ℝ := ∑ k ∈ Finset.range 31, rowZ W k q * rowZ D (i + (30 - k)) q
/-- The gradient of both parts, side by side. -/
def resX (P : Mat 2048 3584) (W : Mat 31 512) (D : Mat 2048 512) : Mat 2048 1024 :=
  sides (fun j : S2048x512.Idx => dh W D (j 0).val (j 1) * sgm (gP P j)) fun j : S2048x512.Idx => dh W D (j 0).val (j 1) * aP P j * sgm (gP P j) * (1 - sgm (gP P j))

theorem lt8 (t : Fin cfg0.N) : t.val < 8 := lt_of_lt_of_eq t.isLt (show cfg0.N = 8 from N_0)
/-- The point whose block holds row `i`. -/
def pt (i : Fin 2048) : Fin cfg0.N := ⟨i.val / 256, by rw [show cfg0.N = 8 from N_0]; have := i.isLt; omega⟩
/-- Row `p` of point `t`'s block. -/
def rowAt (t : Fin cfg0.N) (p : Fin 256) : Fin 2048 := ⟨256 * t.val + p.val, by have := lt8 t; have := p.isLt; omega⟩
/-- The block after it, or the last. -/
def nextRow (t : Fin cfg0.N) (p : Fin 256) : Fin 2048 := ⟨256 * min (t.val + 1) 7 + p.val, by have := p.isLt; omega⟩
def blk {w : ℕ} (X : Mat 2048 w) (t : Fin cfg0.N) : Mat 256 w := fun j => X (mk2 (rowAt t (j 0)) (j 1))
def nextBlk {w : ℕ} (X : Mat 2048 w) (t : Fin cfg0.N) : Mat 256 w := fun j => X (mk2 (nextRow t (j 0)) (j 1))

theorem index : ∀ t : Fin cfg0.N, (win0_0.index t 0 = t.val ∧ win0_0.index t 1 = 3) ∧ (win0_1.index t 0 = t.val ∧ win0_1.index t 1 = 4)
    ∧ (win0_2.index t 0 = 0 ∧ win0_2.index t 1 = 0) ∧ (win0_3.index t 0 = t.val ∧ win0_3.index t 1 = 0)
    ∧ (win0_4.index t 0 = min (t.val + 1) 7 ∧ win0_4.index t 1 = 0) ∧ (win0_5.index t 0 = t.val ∧ win0_5.index t 1 = 0)
    ∧ (grid0.coords t 0).val = t.val :=
  (by decide +kernel : ∀ t : Fin grid0.N, _)

theorem V0 : V m c main_v0 = pad S32x512 ![0, 0] ![1, 0] ![0, 0] (m (c.tc.loc main_arg1) : FVec Ideal S31x512 .f32) (sitofp .f32 (constantI S_ 32 0#32) : FVec Ideal S_ .f32) pads_S31x512_S32x512_010_000 h_S_ := by
  show StableHlo.after (List.flatten [hostOps0, hostOps0_1]) (fun b => m (c, b)) main_v0 = _
  simp only [List.flatten_cons, List.flatten_nil, List.cons_append, List.nil_append, List.append_nil]
  after_results_simp <;> rfl

/-- The arguments are real. -/
structure Args (P : Mat 2048 3584) (W : Mat 31 512) (D : Mat 2048 512) : Prop where
  hP : m (c.tc.loc main_arg0) = up (s := S2048x3584) (φ := .f32) P
  hW : m (c.tc.loc main_arg1) = up (s := S31x512) (φ := .f32) W
  hD : m (c.tc.loc main_arg2) = up (s := S2048x512) (φ := .f32) D

section
variable {P : Mat 2048 3584} {W : Mat 31 512} {D : Mat 2048 512} (h : Args m c P W D)

include h in
theorem b0 (t : Fin cfg0.N) : (iblk m c 0 t : FVec Ideal S256x512 .f32) = up (φ := .f32) (blk (aP P) t) := by
  funext j
  unfold iblk
  rw [View.read_apply]
  show V m c main_arg0 _ = _
  rw [V_main_arg0, h.hP]
  exact congrArg (fun x => ((P x : ℝ) : EReal)) (ext2 (at_blk (index t).1.1) (at_blk (index t).1.2))
include h in
theorem b1 (t : Fin cfg0.N) : (iblk m c 1 t : FVec Ideal S256x512 .f32) = up (φ := .f32) (blk (gP P) t) := by
  funext j
  unfold iblk
  rw [View.read_apply]
  show V m c main_arg0 _ = _
  rw [V_main_arg0, h.hP]
  exact congrArg (fun x => ((P x : ℝ) : EReal)) (ext2 (at_blk (index t).2.1.1) (at_blk (index t).2.1.2))
include h in
theorem b2 (t : Fin cfg0.N) : (iblk m c 2 t : FVec Ideal S32x512 .f32) = up (s := S32x512) (φ := .f32) fun j => rowP W 0 (j 0).val (j 1) := by
  funext j
  unfold iblk
  rw [View.read_apply]
  show V m c main_v0 _ = _
  have e : ((cfg0.win 2).blk t).view.emb j = j := ext2 (at_zero (index t).2.2.1.1) (at_zero (index t).2.2.1.2)
  rw [V0, h.hW, e]
  exact congrFun (pad_any W _ (fun _ => by show ((((0#32 : BitVec 32).toInt : ℤ) : ℝ) : EReal) = _; norm_num) _ _) j
include h in
theorem b3 (t : Fin cfg0.N) : (iblk m c 3 t : FVec Ideal S256x512 .f32) = up (φ := .f32) (blk D t) := by
  funext j
  unfold iblk
  rw [View.read_apply]
  show V m c main_arg2 _ = _
  rw [V_main_arg2, h.hD]
  exact congrArg (fun x => ((D x : ℝ) : EReal)) (ext2 (at_blk (index t).2.2.2.1.1) (at_zero (index t).2.2.2.1.2))
include h in
theorem b4 (t : Fin cfg0.N) : (iblk m c 4 t : FVec Ideal S256x512 .f32) = up (φ := .f32) (nextBlk D t) := by
  funext j
  unfold iblk
  rw [View.read_apply]
  show V m c main_arg2 _ = _
  rw [V_main_arg2, h.hD]
  exact congrArg (fun x => ((D x : ℝ) : EReal)) (ext2 (at_blk (index t).2.2.2.2.1.1) (at_zero (index t).2.2.2.2.1.2))

end

/-- The block and the start of the next are consecutive rows. -/
theorem both_row (D : Mat 2048 512) (t : Fin cfg0.N) (n : ℕ) (hn : n < 288) (q : Fin 512) :
    rowZ (both (grid0.coords t) (blk D t) (nextBlk D t)) n q = rowZ D (256 * t.val + n) q := by
  have ht := lt8 t
  refine (rowZ_lt _ hn q).trans ?_
  unfold both stack
  dsimp only [mk2_0, mk2_1]
  by_cases h : n < 256
  · rw [if_pos h, rowZ_lt _ h, rowZ_lt _ (by omega : 256 * t.val + n < 2048)]
    rfl
  · rw [if_neg h, rowZ_lt _ (by omega : n - 256 < 32)]
    rw [(index t).2.2.2.2.2.2]
    by_cases h7 : t.val < 7
    · rw [if_pos h7, rowZ_lt _ (by omega : 256 * t.val + n < 2048)]
      refine (rowZ_lt _ (by show 0 + (n - 256) < 256; omega) _).trans (congrArg D (ext2 ?_ rfl))
      show 256 * min (t.val + 1) 7 + (0 + (n - 256)) = 256 * t.val + n
      omega
    · rw [if_neg h7, rowZ_out _ (by omega)]

theorem taps_row (W : Mat 31 512) (D : Mat 2048 512) (t : Fin cfg0.N) (p : Fin 256) (q : Fin 512) :
    tapsB (fun j : S32x512.Idx => rowP W 0 (j 0).val (j 1)) (both (grid0.coords t) (blk D t) (nextBlk D t)) p.val q = dh W D (rowAt t p).val q := by
  refine Finset.sum_congr rfl fun k hk => ?_
  have hk := Finset.mem_range.mp hk
  have hp := p.isLt
  rw [rowZ_lt _ (by omega : k < 32), both_row _ _ _ (by omega)]
  refine congrArg₂ (· * ·) (rowP_in W (Nat.zero_le k) q) (congrArg (rowZ D · q) ?_)
  show 256 * t.val + (30 - k + p.val) = 256 * t.val + p.val + (30 - k)
  omega

section
variable {P : Mat 2048 3584} {W : Mat 31 512} {D : Mat 2048 512} (h : Args m c P W D)

include h in
theorem final5 : (dats m 0 c).arrAt 5 cfg0.N = up (s := S2048x1024) (φ := .bf16) (resX P W D) := by
  refine (dats m 0 c).arrAt_eq_of_cover 5 _ (fun t _ => ?_) fun i => ⟨pt (i 0), flush0_5 _, ?_⟩
  · rw [Value.flushed5_A, b0 m c h, b1 m c h, b2 m c h, b3 m c h, b4 m c h, out5]
    funext j
    rw [View.read_apply]
    have e : ((cfg0.win 5).blk t).view.emb j = mk2 (rowAt t (j 0)) (j 1) := ext2 (at_blk (index t).2.2.2.2.2.1.1) (at_zero (index t).2.2.2.2.2.1.2)
    rw [e]
    refine congrArg (fun x : ℝ => (x : EReal)) ?_
    show sides _ _ j = sides _ _ (mk2 (rowAt t (j 0)) (j 1))
    unfold sides
    dsimp only [mk2_0, mk2_1]
    by_cases h1 : (j 1).val < 512
    · rw [dif_pos h1, dif_pos h1, taps_row]
      rfl
    · have h2 : (j 1).val - 512 < 512 := by have : (j 1).val < 1024 := (j 1).isLt; omega
      rw [dif_neg h1, dif_neg h1, dif_pos h2, dif_pos h2, taps_row]
      rfl
  · show i ∈ ((View.whole main_v1_0).slice (win0_5.rect (pt (i 0)))).set
    rw [View.set_slice_whole, Rect.mem_set_unit]
    exact Fin.forall_fin_two.mpr ⟨in_blk (index (pt (i 0))).2.2.2.2.2.1.1 rfl (by decide), in_zero (index (pt (i 0))).2.2.2.2.2.1.2 (i 1).isLt⟩

end

end Cert.ConvBKernel

end
-- ==== Proof.ConvBRef.lean ====
/-
  The derivative of the gated convolution along its two inputs, as the reference computes it, is the same formula of the arguments.
-/
module

public import proofs.«01_k».proof.Proof.ConvBKernel
public import proofs.«01_k».proof.Proof.Arrays
public import proofs.«01_k».proof.Proof.Gen.ConvBwdBRefIdeal.Read

@[expose] public section

set_option maxRecDepth 16384
set_option backward.isDefEq.respectTransparency.types false

noncomputable section

open Idealize.ShloMosaic Idealize.ShloMosaic.TcCoe Idealize.SL.Sem

namespace Cert.ConvBRef

open Cert.Reals Cert.Norm Cert.Arrays Cert.Conv
open Cert.ConvBKernel (aP gP dh resX)
open Cert.ConvBwdBRefIdeal Cert.ConvBwdBRefIdeal.Gen Cert.ConvBwdBRefIdeal.Read

variable (P : Mat 2048 3584) (W : Mat 31 512) (D : Mat 2048 512)

/-- What tap `k` sends back to row `i` of the padded input. -/
def part (k i : ℕ) (q : Fin 512) : ℝ := rowP (fun j : S2048x512.Idx => D j * rows W k 1 (mk2 0 (j 1))) k i q

theorem part_at (i k : ℕ) (hk : k ≤ 30) (q : Fin 512) : part W D k (30 + i) q = rowZ W k q * rowZ D (i + (30 - k)) q := by
  have e : 30 + i - k = i + (30 - k) := by omega
  unfold part
  rw [rowP_in _ (by omega), e]
  by_cases h : i + (30 - k) < 2048
  · rw [rowZ_lt _ h, rowZ_lt _ h]
    exact mul_comm _ _
  · rw [rowZ_out _ (not_lt.mp h), rowZ_out _ (not_lt.mp h), mul_zero]

/-- The taps' gradients, added from the last tap to the first. -/
theorem v356 : val_main_v356 (F := Ideal) (up (φ := .f32) W) (up (φ := .f32) D)
    = up (s := S2078x512) (φ := .f32) fun j => ∑ k ∈ Finset.range 31, part W D (30 - k) (j 0).val (j 1) := by
  simp -index only [
    val_main_v17, val_main_v18, val_main_v19, val_main_v23, val_main_v24, val_main_v25, val_main_v30, val_main_v31, val_main_v32, val_main_v37,
    val_main_v38, val_main_v39, val_main_v44, val_main_v45, val_main_v46, val_main_v51, val_main_v52, val_main_v53, val_main_v58, val_main_v59,
    val_main_v60, val_main_v65, val_main_v66, val_main_v67, val_main_v72, val_main_v73, val_main_v74, val_main_v79, val_main_v80, val_main_v81,
    val_main_v86, val_main_v87, val_main_v88, val_main_v93, val_main_v94, val_main_v95, val_main_v100, val_main_v101, val_main_v102, val_main_v107,
    val_main_v108, val_main_v109, val_main_v114, val_main_v115, val_main_v116, val_main_v121, val_main_v122, val_main_v123, val_main_v128,
    val_main_v129, val_main_v130, val_main_v135, val_main_v136, val_main_v137, val_main_v142, val_main_v143, val_main_v144, val_main_v149,
    val_main_v150, val_main_v151, val_main_v156, val_main_v157, val_main_v158, val_main_v163, val_main_v164, val_main_v165, val_main_v170,
    val_main_v171, val_main_v172, val_main_v177, val_main_v178, val_main_v179, val_main_v184, val_main_v185, val_main_v186, val_main_v191,
    val_main_v192, val_main_v193, val_main_v198, val_main_v199, val_main_v200, val_main_v205, val_main_v206, val_main_v207, val_main_v212,
    val_main_v213, val_main_v214, val_main_v219, val_main_v220, val_main_v221, val_main_v226, val_main_v227, val_main_v228, val_main_v232,
    val_main_v233, val_main_v234, val_main_v235, val_main_cst_4, val_main_v236, val_main_v237, val_main_v238, val_main_cst_5, val_main_v239,
    val_main_v240, val_main_v241, val_main_v242, val_main_cst_6, val_main_v243, val_main_v244, val_main_v245, val_main_v246, val_main_cst_7,
    val_main_v247, val_main_v248, val_main_v249, val_main_v250, val_main_cst_8, val_main_v251, val_main_v252, val_main_v253, val_main_v254,
    val_main_cst_9, val_main_v255, val_main_v256, val_main_v257, val_main_v258, val_main_cst_10, val_main_v259, val_main_v260, val_main_v261,
    val_main_v262, val_main_cst_11, val_main_v263, val_main_v264, val_main_v265, val_main_v266, val_main_cst_12, val_main_v267, val_main_v268,
    val_main_v269, val_main_v270, val_main_cst_13, val_main_v271, val_main_v272, val_main_v273, val_main_v274, val_main_cst_14, val_main_v275,
    val_main_v276, val_main_v277, val_main_v278, val_main_cst_15, val_main_v279, val_main_v280, val_main_v281, val_main_v282, val_main_cst_16,
    val_main_v283, val_main_v284, val_main_v285, val_main_v286, val_main_cst_17, val_main_v287, val_main_v288, val_main_v289, val_main_v290,
    val_main_cst_18, val_main_v291, val_main_v292, val_main_v293, val_main_v294, val_main_cst_19, val_main_v295, val_main_v296, val_main_v297,
    val_main_v298, val_main_cst_20, val_main_v299, val_main_v300, val_main_v301, val_main_v302, val_main_cst_21, val_main_v303, val_main_v304,
    val_main_v305, val_main_v306, val_main_cst_22, val_main_v307, val_main_v308, val_main_v309, val_main_v310, val_main_cst_23, val_main_v311,
    val_main_v312, val_main_v313, val_main_v314, val_main_cst_24, val_main_v315, val_main_v316, val_main_v317, val_main_v318, val_main_cst_25,
    val_main_v319, val_main_v320, val_main_v321, val_main_v322, val_main_cst_26, val_main_v323, val_main_v324, val_main_v325, val_main_v326,
    val_main_cst_27, val_main_v327, val_main_v328, val_main_v329, val_main_v330, val_main_cst_28, val_main_v331, val_main_v332, val_main_v333,
    val_main_v334, val_main_cst_29, val_main_v335, val_main_v336, val_main_v337, val_main_v338, val_main_cst_30, val_main_v339, val_main_v340,
    val_main_v341, val_main_v342, val_main_cst_31, val_main_v343, val_main_v344, val_main_v345, val_main_v346, val_main_cst_32, val_main_v347,
    val_main_v348, val_main_v349, val_main_v350, val_main_cst_33, val_main_v351, val_main_v352, val_main_v353, val_main_v354, val_main_cst_34,
    val_main_v355, val_main_v356,
    slice_rows, cast_unrow_up, host_vec_row_up, host_row_up, cast_self_up, mulf_up, pad_rows, addf_up]
  simp only [Finset.sum_range_succ, Finset.sum_range_zero, zero_add]
  rfl

theorem v358 : val_main_v358 (F := Ideal) (up (φ := .f32) W) (up (φ := .f32) D) = up (s := S2048x512) (φ := .f32) fun j => dh W D (j 0).val (j 1) := by
  unfold val_main_v358
  rw [v356, slice_rows]
  refine up_ext2 fun r q => ?_
  unfold rows dh
  rw [rowZ_lt _ (by have := r.isLt; show 30 + r.val < 2078; omega)]
  refine Eq.trans ?_ (Finset.sum_range_reflect _ 31)
  refine Finset.sum_congr rfl fun k hk => ?_
  have h := Finset.mem_range.mp hk
  exact part_at W D r.val (31 - 1 - k) (by omega) q

theorem v8 : val_main_v8 (F := Ideal) (up (φ := .f32) P) = up (s := S2048x512) (φ := .f32) fun j => sgm (gP P j) := by
  unfold val_main_v8 val_main_v7 val_main_v6 val_main_v5 val_main_v4 val_main_v3 val_main_v2 val_main_v0 val_main_cst val_main_cst_0
  rw [slice_cols, slice_cols]
  refine (r_sgm _ _ _).trans (up_ext2 fun r q => congrArg (fun x => sgm (P x)) (ext2 rfl ?_))
  show 1536 + (512 + q.val) = 2048 + q.val
  omega

theorem v1 : val_main_v1 (F := Ideal) (up (φ := .f32) P) = up (s := S2048x512) (φ := .f32) (aP P) := by
  unfold val_main_v1 val_main_v0
  rw [slice_cols, slice_cols]
  refine up_ext2 fun r q => congrArg P (ext2 rfl ?_)
  show 1536 + (0 + q.val) = 1536 + q.val
  omega

theorem v360 : val_main_v360 (F := Ideal) (up (φ := .f32) P) (up (φ := .f32) W) (up (φ := .f32) D)
    = up (s := S2048x512) (φ := .f32) fun j => dh W D (j 0).val (j 1) * sgm (gP P j) := by
  unfold val_main_v360
  rw [v358, v8, mulf_up]

theorem v361 : val_main_v361 (F := Ideal) (up (φ := .f32) P) (up (φ := .f32) W) (up (φ := .f32) D)
    = up (s := S2048x512) (φ := .f32) fun j => dh W D (j 0).val (j 1) * aP P j * sgm (gP P j) * (1 - sgm (gP P j)) := by
  unfold val_main_v361 val_main_v359 val_main_v11 val_main_v10 val_main_v9 val_main_cst_1
  rw [v358, v8, v1]
  simp -index only [constant_up lit_one, host_scalar_up, subf_up, mulf_up]
  exact congrArg (up (s := S2048x512) (φ := .f32)) (funext fun j => by ring)

theorem v363 : val_main_v363 (F := Ideal) (up (φ := .f32) P) (up (φ := .f32) W) (up (φ := .f32) D) = up (s := S2048x1024) (φ := .bf16) (resX P W D) := by
  funext j
  have h1 : (j 1).val < 1024 := (j 1).isLt
  refine Eq.trans (b := val_main_v362 (F := Ideal) (up (φ := .f32) P) (up (φ := .f32) W) (up (φ := .f32) D) j) rfl ?_
  unfold val_main_v362
  by_cases h : (j 1).val < 512
  · refine (concatenate_pair_apply_left (s₁ := S2048x512) (s₂ := S2048x512) 1 _ _ _ j rfl (mk2 (j 0) ⟨(j 1).val, h⟩) fun b => by match b with | ⟨0, _⟩ => rfl | ⟨1, _⟩ => rfl).trans ?_
    rw [v360]
    refine congrArg (fun x : ℝ => (x : EReal)) (Eq.symm ?_)
    exact dif_pos h
  · refine (concatenate_pair_apply_right (s₁ := S2048x512) (s₂ := S2048x512) 1 _ _ _ j rfl rfl (mk2 (j 0) ⟨(j 1).val - 512, by omega⟩)
      (fun b hb => by match b with | ⟨0, _⟩ => rfl | ⟨1, _⟩ => exact absurd rfl hb) (Nat.sub_add_cancel (Nat.le_of_not_lt h))).trans ?_
    rw [v361]
    refine congrArg (fun x : ℝ => (x : EReal)) (Eq.symm ?_)
    exact (dif_neg h).trans (dif_pos (show (j 1).val - 512 < 512 by omega))

end Cert.ConvBRef

end
-- ==== Proof.ConvBClaim.lean ====
/-
  The value claim about the gradient of the gated convolution along its inputs: that kernel and reference compute the same.
-/
module

public import proofs.«01_k».proof.Defs
public import proofs.«01_k».proof.Proof.ConvBRef
public import proofs.«01_k».proof.Proof.Gen.Pre_conv_bwd2_finite

@[expose] public section

set_option maxRecDepth 16384

noncomputable section

namespace Cert.ConvBClaim

open Idealize.ShloMosaic Idealize.ShloMosaic.TcCoe Idealize.SL.Sem Cert.Reals Cert.Norm Cert.ConvBKernel

/-- The precondition says that the three arguments are finite. -/
theorem finite {m : (ℓ : Loc Cert.ConvBwdBIdeal.nD Cert.ConvBwdBIdeal.τ Cert.ConvBwdBIdeal.sig) → Buf (Elt Ideal) ℓ}
    (h : Cert.Pre_ConvBwdBIdeal_conv_bwd2_finite m) (c : Dev Cert.ConvBwdBIdeal.nD) :
    ∃ (P : Mat 2048 3584) (W : Mat 31 512) (D : Mat 2048 512), ConvBKernel.Args m c P W D := by
  have h1 := h c
  unfold Cert.Pre_conv_bwd2_finite.fn at h1
  obtain ⟨h2, hD⟩ := and_ones h1
  obtain ⟨hP, hW⟩ := and_ones h2
  obtain ⟨P, hP⟩ := finite_of_all _ _ _ _ _ _ _ (congrFun hP fun a => a.elim0)
  obtain ⟨W, hW⟩ := finite_of_all _ _ _ _ _ _ _ (congrFun hW fun a => a.elim0)
  obtain ⟨D, hD⟩ := finite_of_all _ _ _ _ _ _ _ (congrFun hD fun a => a.elim0)
  exact ⟨P, W, D, hP, hW, hD⟩

/-- Kernel and reference compute the same array. -/
theorem value : Cert.algebraic_ConvBwdBIdeal_ConvBwdBRefIdeal_pre_conv_bwd2_finite := by
  intro m ρ m' ρ' hpre hagree
  refine ⟨fun c => (Cert.ConvBwdBIdeal.Gen.dats m 0 c).arrAt 5 Cert.ConvBwdBIdeal.cfg0.N,
    (θ_run Cert.ConvBwdBIdeal.defs _ _).mono (fun r h c => ?_) (Cert.ConvBwdBIdeal.Value.run_blocks m ρ),
    (θ_run Cert.ConvBwdBRefIdeal.defs _ _).mono (fun r h c => ?_) (Cert.ConvBwdBRefIdeal.Value.run m' ρ')⟩
  · obtain ⟨h0, -, hk⟩ := h c
    exact ⟨h0, hk⟩
  · obtain ⟨h0, hk⟩ := h c
    obtain ⟨P, W, D, ha⟩ := finite hpre c
    obtain ⟨e0, e1, e2⟩ := hagree c
    refine ⟨h0.trans ?_, hk⟩
    refine (Cert.ConvBwdBRefIdeal.Read.val_main_v363_eq _).trans ?_
    rw [show StableHlo.launchContents m' c (Proc.tc.devRef Cert.ConvBwdBRefIdeal.main_arg0) = _ from e0.trans ha.hP,
      show StableHlo.launchContents m' c (Proc.tc.devRef Cert.ConvBwdBRefIdeal.main_arg1) = _ from e1.trans ha.hW,
      show StableHlo.launchContents m' c (Proc.tc.devRef Cert.ConvBwdBRefIdeal.main_arg2) = _ from e2.trans ha.hD]
    exact (ConvBRef.v363 P W D).trans (ConvBKernel.final5 m c ha).symm

end Cert.ConvBClaim

end
-- ==== Proof.SguKernel.lean ====
/-
  The gradient of the spatial gating, as the kernel computes it: for finite arguments (the gating's bias may be
  anything) each of its five results is one formula of them.
-/
module

public import proofs.«01_k».proof.Proof.Layer
public import proofs.«01_k».proof.Proof.Dots
public import proofs.«01_k».proof.Proof.Gen.SguBwdIdeal.Value
public import Idealize.ShloMosaic.Lib.Tactic
public import Idealize.ShloMosaic.Lib.Pipeline.ReadBack

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.SguKernel

open Cert.Reals Cert.Norm Cert.Layer Cert.Prods Cert.SguBwdIdeal Cert.SguBwdIdeal.Gen

/-- An array of real matrices, one for each head. -/
abbrev Cube (h r k : ℕ) := (⟨3, ![h, r, k]⟩ : Shape).Idx → ℝ

theorem ne512 : ((512 : ℕ) : ℝ) ≠ 0 := by norm_num

/-! ## Heads and the lower triangle -/

/-- A number's part over 64, as the kernel works it out. -/
def headWord (x : BitVec 32) : BitVec 32 :=
  Scalar.select (IntOp.andi
      (IntOp.cmpi .ne (IntOp.subi (Scalar.extui (IntOp.cmpi .sgt x 0#32)) (Scalar.extui (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem headWord_eq : ∀ c : Fin 512, headWord (BitVec.ofNat 32 (0 * 512 + c.val)) = BitVec.ofNat 32 (c.val / 64) := by decide +kernel

/-- The head of each column. -/
abbrev heads : IVec S128x512 32 := k0_pay14 (iota .tc S128x512 32 [1] iota_S128x512_d1_w32) 64#32 k0_pay12 k0_pay13

theorem heads_apply (j : S128x512.Idx) : heads j = BitVec.ofNat 32 ((j 1).val / 64) := headWord_eq (j 1)

theorem word_eq (a b : ℕ) (ha : a < 512) (hb : b < 512) : IntOp.cmpi .eq (BitVec.ofNat 32 a) (BitVec.ofNat 32 b) = 1#1 ↔ a = b := by
  unfold IntOp.cmpi
  constructor
  · intro h
    by_contra hn
    have : (BitVec.ofNat 32 a == BitVec.ofNat 32 b) = false := beq_eq_false_iff_ne.mpr fun e => hn (by
      have := congrArg BitVec.toNat e
      rw [BitVec.toNat_ofNat, BitVec.toNat_ofNat] at this
      omega)
    simp [this] at h
  · rintro rfl
    simp

/-- The columns of head `h` kept, the others zero. -/
theorem select_head (f : Mat 128 512) (h : ℕ) (hh : h < 8) (z : BitVec 32) (hz : Ideal.ofBits .f32 z = ((0 : ℝ) : EReal)) :
    select (cmpi .eq heads (broadcast S128x512 (BitVec.ofNat 32 h))) (up (φ := .f32) f) (broadcast S128x512 (Scalar.ofBits (F := Ideal) .f32 z))
      = up (s := S128x512) (φ := .f32) fun j => if (j 1).val / 64 = h then f j else 0 := by
  rw [splat_up hz, select_up]
  refine congrArg up (funext fun j => if_congr ?_ rfl rfl)
  show IntOp.cmpi .eq (heads j) (BitVec.ofNat 32 h) = 1#1 ↔ _
  rw [heads_apply]
  have h1 : (j 1).val < 512 := (j 1).isLt
  exact word_eq _ _ (by omega) (by omega)

/-- The entries on and below the diagonal kept, the others zero. -/
theorem select_tri (f : Mat 128 128) (z : BitVec 32) (hz : Ideal.ofBits .f32 z = ((0 : ℝ) : EReal)) :
    select k0_pay11 (up (φ := .f32) f) (broadcast S128x128 (Scalar.ofBits (F := Ideal) .f32 z))
      = up (s := S128x128) (φ := .f32) fun j => if (j 1).val ≤ (j 0).val then f j else 0 := by
  rw [splat_up hz, select_up]
  refine congrArg up (funext fun j => if_congr ?_ rfl rfl)
  show IntOp.cmpi .sle (BitVec.ofNat 32 (0 * 128 + (j 1).val)) (BitVec.ofNat 32 (0 * 128 + (j 0).val)) = 1#1 ↔ _
  exact (by decide +kernel : ∀ a b : Fin 128, IntOp.cmpi .sle (BitVec.ofNat 32 (0 * 128 + a.val)) (BitVec.ofNat 32 (0 * 128 + b.val)) = 1#1 ↔ a.val ≤ b.val) (j 1) (j 0)

/-- Ones where the column is of the row's head, zeros elsewhere. -/
abbrev ones : FVec Ideal S8x512 .f32 :=
  sitofp .f32 (extui 32 (cmpi .eq
    (fun j : S8x512.Idx => headWord (BitVec.ofNat 32 (0 * 512 + (j 1).val))) (iota .tc S8x512 32 [0] iota_S8x512_d0_w32)) natLt_1_32)

theorem ones_eq : ones = up (s := S8x512) (φ := .f32) fun j => if (j 1).val / 64 = (j 0).val then 1 else 0 := by
  funext j
  have e : IntOp.cmpi .eq (headWord (BitVec.ofNat 32 (0 * 512 + (j 1).val))) (BitVec.ofNat 32 (0 * 8 + (j 0).val))
      = if (j 1).val / 64 = (j 0).val then 1#1 else 0#1 :=
    (by decide +kernel : ∀ (c : Fin 512) (a : Fin 8), IntOp.cmpi .eq (headWord (BitVec.ofNat 32 (0 * 512 + c.val))) (BitVec.ofNat 32 (0 * 8 + a.val))
      = if c.val / 64 = a.val then 1#1 else 0#1) (j 1) (j 0)
  show Scalar.sitofp (F := Ideal) .f32 ((IntOp.cmpi .eq (headWord (BitVec.ofNat 32 (0 * 512 + (j 1).val))) (BitVec.ofNat 32 (0 * 8 + (j 0).val))).setWidth 32) = _
  rw [e]
  split
  · next h => rw [up_apply, if_pos h]; simp
  · next h => rw [up_apply, if_neg h]; simp

/-! ## The formulas -/

/-- Column `c`'s head. -/
def hd (c : Fin 512) : Fin 8 := ⟨c.val / 64, by have := c.isLt; omega⟩

/-- The weights on and below the diagonal. -/
def low (W : Cube 8 128 128) (h : Fin 8) (r k : Fin 128) : ℝ := if k.val ≤ r.val then W (mk3 h r k) else 0

/-- The normalised, scaled and shifted gate. -/
def gate {n : ℕ} (X : Mat n 512) (g b : Fin 512 → ℝ) : Mat n 512 := fun j => xhat (cent X) (j 0) (j 1) * g (j 1) + b (j 1)

/-- The gate mixed along the rows of one block. -/
def mixed (W : Cube 8 128 128) (V : Mat 128 512) : Mat 128 512 := fun j => ∑ k : Fin 128, low W (hd (j 1)) (j 0) k * V (mk2 k (j 1))
/-- The gradient of the gate, for the gradient `D` of the mixed gate. -/
def dgate (W : Cube 8 128 128) (D : Mat 128 512) : Mat 128 512 := fun j => ∑ k : Fin 128, low W (hd (j 1)) k (j 0) * D (mk2 k (j 1))
/-- The gradient of the weights. -/
def dweight (D V : Mat 128 512) (h : Fin 8) (r k : Fin 128) : ℝ :=
  if k.val ≤ r.val then ∑ c : Fin 512, (if hd c = h then D (mk2 r c) else 0) * V (mk2 k c) else 0
/-- The gradient of the bias. -/
def dbias (D : Mat 128 512) (h : Fin 8) (r : Fin 128) : ℝ := ∑ c : Fin 512, (if hd c = h then 1 else 0) * D (mk2 r c)

/-- Of eight numbers, each kept for one head, the column's own is what is left. -/
theorem pick_head (n : Fin 8) (a : Fin 8 → ℝ) :
    (if n.val = 0 then a 0 else 0) + (if n.val = 1 then a 1 else 0) + (if n.val = 2 then a 2 else 0) + (if n.val = 3 then a 3 else 0)
      + (if n.val = 4 then a 4 else 0) + (if n.val = 5 then a 5 else 0) + (if n.val = 6 then a 6 else 0) + (if n.val = 7 then a 7 else 0) = a n := by
  fin_cases n <;> simp

theorem sum_keep {n : ℕ} (p : Prop) [Decidable p] (a d : Fin n → ℝ) :
    ∑ k, a k * (if p then d k else 0) = if p then ∑ k, a k * d k else 0 := by
  split <;> simp

/-! ## One block -/

section Block
variable (X D V S : Mat 128 512) (g b : Mat 1 512) (W : Cube 8 128 128)

theorem pay7 : k0_pay7 (F := Ideal) (up (φ := .f32) X) = up (φ := .f32) (cent X) := k_cent lit_512 ne512 X ..
theorem pay8 : k0_pay8 (F := Ideal) (up (φ := .f32) X) = up (s := S128x1) (φ := .f32) fun j => rinv (cent X) (j 0) := by
  unfold k0_pay8
  rw [pay7]
  exact k_rinv lit_512 ne512 (cent X) ..
theorem pay9 : k0_pay9 (F := Ideal) (up (φ := .f32) X) = up (s := S128x512) (φ := .f32) fun j => xhat (cent X) (j 0) (j 1) := by
  unfold k0_pay9
  rw [pay7, pay8]
  exact k_xhat (cent X) _
theorem pay10 : k0_pay10 (F := Ideal) (up (φ := .f32) X) (up (φ := .f32) g) (up (φ := .f32) b)
    = up (φ := .bf16) (gate X (fun k => g (mk2 0 k)) fun k => b (mk2 0 k)) := by
  unfold k0_pay10
  simp -index only [pay9, cast_self_up, spread_row_up, mulf_up, addf_up, truncf_up]
  rfl

/-- One head's weights as the kernel loads them. -/
def wcut (h : Fin 8) : Cube 1 128 128 := fun j => W (mk3 h (j 1) (j 2))

theorem cast3 {a b : ℕ} (f : Cube 1 a b) (h : (⟨3, ![1, a, b]⟩ : Shape).ShapeCasts ⟨2, ![a, b]⟩) :
    shapeCast ⟨2, ![a, b]⟩ (up (φ := .f32) f) h = up (s := ⟨2, ![a, b]⟩) (φ := .f32) fun j => f (mk3 0 (j 0) (j 1)) :=
  funext fun j => by rw [ValueIdx.eq_ix2 j]; exact ValueIdx.shapeCast_1ab_ab_apply _ h _ _
theorem uncast3 {a b : ℕ} (f : Mat a b) (h : (⟨2, ![a, b]⟩ : Shape).ShapeCasts ⟨3, ![1, a, b]⟩) :
    shapeCast ⟨3, ![1, a, b]⟩ (up (φ := .f32) f) h = up (s := ⟨3, ![1, a, b]⟩) (φ := .f32) fun j => f (mk2 (j 1) (j 2)) :=
  funext fun j => by rw [ValueIdx.eq_ix3 j]; exact ValueIdx.shapeCast_ab_1ab_apply _ h _ _ _

theorem pay15 (h : Fin 8) : k0_pay15 (F := Ideal) k0_pay11 (up (φ := .f32) (wcut W h)) = up (s := S128x128) (φ := .bf16) fun j => low W h (j 0) (j 1) := by
  unfold k0_pay15
  dsimp only
  rw [cast3, select_tri _ _ lit_zero, truncf_up]
  rfl

/-- The gradient of the mixed gate, kept for head `h`. -/
theorem pay36 (h : ℕ) (hh : h < 8) : k0_pay36 (F := Ideal) heads (up (φ := .f32) S) (broadcast S128x512 (BitVec.ofNat 32 h))
    = up (s := S128x512) (φ := .bf16) fun j => if (j 1).val / 64 = h then S j else 0 := by
  unfold k0_pay36
  dsimp only
  rw [select_head _ _ hh _ lit_zero, truncf_up]

theorem pay48 (h : Fin 8) (Z : Cube 1 128 128) :
    k0_pay48 (F := Ideal) (up (φ := .bf16) V) k0_pay11 (up (s := S128x512) (φ := .bf16) fun j => if (j 1).val / 64 = h.val then D j else 0) (up (φ := .f32) Z)
      = up (s := S1x128x128) (φ := .f32) fun j => Z (mk3 0 (j 1) (j 2)) + dweight D V h (j 1) (j 2) := by
  unfold k0_pay48 dot_S128x512_S128x512_S128x128_1_1_0_0_n_n
  dsimp only
  rw [cast3, dotNT_up, select_tri _ _ lit_zero, addf_up, uncast3]
  refine congrArg up (funext fun j => congrArg (Z (mk3 0 (j 1) (j 2)) + ·) ?_)
  unfold dweight
  refine if_congr Iff.rfl (Finset.sum_congr rfl fun c _ => congrArg (· * V (mk2 (j 2) c)) (if_congr ?_ rfl rfl)) rfl
  exact (Fin.ext_iff (a := hd c) (b := h)).symm

/-- Head `h`'s weights as the kernel prepares them. -/
abbrev wl (h : Fin 8) : FVec Ideal S128x128 .bf16 := up (s := S128x128) fun j => low W h (j 0) (j 1)

/-- The mixed gate with the bias `B`, times the gradient of the gated rows. -/
theorem pay28 (B : FVec Ideal S128x512 .f32) :
    k0_pay28 (F := Ideal) (up (φ := .bf16) V) heads (wl W 3) (wl W 4) (wl W 5) (wl W 6) (wl W 7)
        (k0_pay24 (F := Ideal) (up (φ := .bf16) V) heads (wl W 0) (wl W 1) B) (k0_pay25 heads) (k0_pay26 (F := Ideal) (up (φ := .bf16) V) (wl W 2)) (k0_pay27 (F := Ideal))
        (up (φ := .f32) D)
      = truncf .bf16 (mulf (up (φ := .f32) D) (addf B (up (φ := .f32) (mixed W V)))) bitsLt_bf16_f32 := by
  unfold k0_pay28 k0_pay24 k0_pay25 k0_pay26 k0_pay27 dot_S128x128_S128x512_S128x512_1_0_0_1_n_n
  dsimp only
  simp -index only [dotNN_up]
  rw [select_head _ 0 (by decide) _ lit_zero, select_head _ 1 (by decide) _ lit_zero, select_head _ 2 (by decide) _ lit_zero, select_head _ 3 (by decide) _ lit_zero,
    select_head _ 4 (by decide) _ lit_zero, select_head _ 5 (by decide) _ lit_zero, select_head _ 6 (by decide) _ lit_zero, select_head _ 7 (by decide) _ lit_zero]
  rw [shapeCast_self]
  iterate 7 rw [addf_addf_up]
  refine congrArg (fun f => truncf .bf16 (mulf (up (φ := .f32) D) (addf B (up (φ := .f32) f))) bitsLt_bf16_f32) (funext fun j => ?_)
  refine Eq.trans ?_ (pick_head (hd (j 1)) fun h => ∑ k : Fin 128, low W h (j 0) k * V (mk2 k (j 1)))
  simp only [add_assoc]
  rfl

/-- The gradient of the gate. -/
theorem pay50 :
    k0_pay50 (F := Ideal) heads (wl W 7) (up (φ := .f32) D) (k0_pay47 (F := Ideal) heads (wl W 4) (wl W 5) (wl W 6) (up (φ := .f32) D)
        (k0_pay39 (F := Ideal) heads (wl W 2) (wl W 3) (up (φ := .f32) D) (k0_pay33 (F := Ideal) heads (wl W 0) (wl W 1) (up (φ := .f32) D)) k0_pay35)
        (k0_pay41 (F := Ideal) heads (up (φ := .f32) D)))
      = up (φ := .f32) (dgate W D) := by
  unfold k0_pay50 k0_pay47 k0_pay39 k0_pay33 k0_pay49 k0_pay46 k0_pay44 k0_pay42 k0_pay41 k0_pay38 k0_pay36 k0_pay35 k0_pay32 k0_pay30 dot_S128x128_S128x512_S128x512_0_0_1_1_n_n
  dsimp only
  rw [select_head _ 0 (by decide) _ lit_zero, select_head _ 1 (by decide) _ lit_zero, select_head _ 2 (by decide) _ lit_zero, select_head _ 3 (by decide) _ lit_zero,
    select_head _ 4 (by decide) _ lit_zero, select_head _ 5 (by decide) _ lit_zero, select_head _ 6 (by decide) _ lit_zero, select_head _ 7 (by decide) _ lit_zero]
  simp -index only [truncf_up, dotTN_up, splat_up lit_zero, addf_up, mk2_0, mk2_1]
  refine up_ext2 fun r c => ?_
  simp only [sum_keep, mk2_0, mk2_1, zero_add]
  exact pick_head (hd c) fun h => ∑ k : Fin 128, low W h k r * D (mk2 k c)

theorem pay54 (Z : Mat 8 128) :
    k0_pay54 (F := Ideal) (up (φ := .f32) D) (iota .tc S8x512 32 [1] iota_S8x512_d1_w32) 64#32 k0_pay52 k0_pay53 0#32 (up (φ := .f32) Z)
      = up (s := S8x128) (φ := .f32) fun j => Z j + dbias D (j 0) (j 1) := by
  show addf (shapeCast S8x128 (up (φ := .f32) Z) _) (matmul dot_S8x512_S128x512_S8x128_1_1_0_0_n_n (some .fp32) ones (up (φ := .f32) D) _) = _
  rw [ones_eq]
  unfold dot_S8x512_S128x512_S8x128_1_1_0_0_n_n
  rw [dotNT_up, cast_self_up, addf_up]
  refine congrArg up (funext fun j => congrArg (Z j + ·) (Finset.sum_congr rfl fun c _ => congrArg (· * D (mk2 (j 1) c)) (if_congr ?_ rfl rfl)))
  exact (Fin.ext_iff (a := hd c) (b := j 0)).symm

theorem pay55 (Z : Mat 1 512) : k0_pay55 (F := Ideal) (up (s := S128x512) (φ := .f32) fun j => xhat (cent X) (j 0) (j 1)) (up (φ := .f32) D) (up (φ := .f32) Z)
    = up (s := S1x512) (φ := .f32) fun j => Z j + ∑ p : Fin 128, D (mk2 p (j 1)) * xhat (cent X) p (j 1) := by
  unfold k0_pay55
  simp -index only [cast_self_up, mulf_up, colSum_up, cast_row_up, addf_up, mk1_0, mk2_0, mk2_1]
theorem pay56 (Z : Mat 1 512) : k0_pay56 (F := Ideal) (up (φ := .f32) D) (up (φ := .f32) Z)
    = up (s := S1x512) (φ := .f32) fun j => Z j + ∑ p : Fin 128, D (mk2 p (j 1)) := by
  unfold k0_pay56
  simp -index only [cast_self_up, colSum_up, cast_row_up, addf_up, mk1_0]

theorem pay1 : k0_pay1 (F := Ideal) (up (s := S128x1) (φ := .f32) fun j => rinv (cent X) (j 0)) (up (s := S128x512) (φ := .f32) fun j => xhat (cent X) (j 0) (j 1))
      (up (φ := .f32) D) (up (φ := .f32) g)
    = up (s := S128x512) (φ := .bf16) fun j => lnv (fun i => D i * g (mk2 0 (i 1))) X (j 0) (j 1) := by
  unfold k0_pay1
  simp -index only [cast_self_up, spread_row_up, mulf_up]
  refine (congrArg (fun v => truncf .bf16 v bitsLt_bf16_f32) (?_ : _ = up (s := S128x512) (φ := .f32) fun j => lnv (fun i => D i * g (mk2 0 (i 1))) X (j 0) (j 1))).trans rfl
  exact k_lnv lit_512 ne512 (fun j => D j * g (mk2 0 (j 1))) X ..

end Block

/-! ## One grid point -/

/-- Head `h`'s part of the weights. -/
abbrev rW (h : ℕ) (hh : h < 8) : Rect S8x128x128 := Rect.unit ![h, 0, 0] S1x128x128.size fun a => by
  match a with
  | ⟨0, _⟩ => exact hh
  | ⟨1, _⟩ => exact Nat.le_refl _
  | ⟨2, _⟩ => exact Nat.le_refl _
/-- The two halves of the gradient's columns. -/
abbrev rL : Rect S128x1024 := Rect.unit ![0, 0] S128x512.size inb_S128x1024_S128x512_0_0
abbrev rR : Rect S128x1024 := Rect.unit ![0, 512] S128x512.size inb_S128x1024_S128x512_0_512

section Raw
variable (u v B dy : FVec Ideal S128x512 .f32) (g b : FVec Ideal S1x512 .f32) (w : FVec Ideal S8x128x128 .f32)

/-- Head `h`'s weights, prepared. -/
abbrev wk (h : ℕ) (hh : h < 8) : FVec Ideal S128x128 .bf16 := k0_pay15 (F := Ideal) k0_pay11 (View.ld (Val := Elt Ideal) (e' := .f32) w (rW h hh))
/-- The gradient of the gate. -/
abbrev dgk : FVec Ideal S128x512 .f32 :=
  k0_pay50 (F := Ideal) heads (wk w 7 (by decide)) (k0_pay29 (F := Ideal) dy u)
    (k0_pay47 (F := Ideal) heads (wk w 4 (by decide)) (wk w 5 (by decide)) (wk w 6 (by decide)) (k0_pay29 (F := Ideal) dy u)
      (k0_pay39 (F := Ideal) heads (wk w 2 (by decide)) (wk w 3 (by decide)) (k0_pay29 (F := Ideal) dy u)
        (k0_pay33 (F := Ideal) heads (wk w 0 (by decide)) (wk w 1 (by decide)) (k0_pay29 (F := Ideal) dy u)) k0_pay35)
      (k0_pay41 (F := Ideal) heads (k0_pay29 (F := Ideal) dy u)))
/-- The left half of the gradient: the gradient of the gated rows times the mixed gate. -/
abbrev leftk : FVec Ideal S128x512 .bf16 :=
  k0_pay28 (F := Ideal) (k0_pay10 (F := Ideal) v g b) heads (wk w 3 (by decide)) (wk w 4 (by decide)) (wk w 5 (by decide)) (wk w 6 (by decide)) (wk w 7 (by decide))
    (k0_pay24 (F := Ideal) (k0_pay10 (F := Ideal) v g b) heads (wk w 0 (by decide)) (wk w 1 (by decide)) B) (k0_pay25 heads)
    (k0_pay26 (F := Ideal) (k0_pay10 (F := Ideal) v g b) (wk w 2 (by decide))) (k0_pay27 (F := Ideal)) dy
/-- What one point adds to head `h`'s part `z` of the weights' gradient. -/
abbrev addW (z : FVec Ideal S8x128x128 .f32) (h : ℕ) (hh : h < 8) : FVec Ideal S1x128x128 .f32 :=
  k0_pay48 (F := Ideal) (k0_pay10 (F := Ideal) v g b) k0_pay11
    (k0_pay36 (F := Ideal) heads (k0_pay29 (F := Ideal) dy u) (broadcast S128x512 (BitVec.ofNat 32 h))) (View.ld (Val := Elt Ideal) (e' := .f32) z (rW h hh))
/-- What one point stores of the weights' gradient, over what stood there. -/
abbrev partsW (z : FVec Ideal S8x128x128 .f32) : List (View.Piece (Elt Ideal) S8x128x128 .f32) :=
  [⟨rW 7 (by decide), addW u v dy g b z 7 (by decide)⟩, ⟨rW 6 (by decide), addW u v dy g b z 6 (by decide)⟩,
   ⟨rW 5 (by decide), addW u v dy g b z 5 (by decide)⟩, ⟨rW 4 (by decide), addW u v dy g b z 4 (by decide)⟩,
   ⟨rW 3 (by decide), addW u v dy g b z 3 (by decide)⟩, ⟨rW 2 (by decide), addW u v dy g b z 2 (by decide)⟩,
   ⟨rW 1 (by decide), addW u v dy g b z 1 (by decide)⟩, ⟨rW 0 (by decide), addW u v dy g b z 0 (by decide)⟩]

end Raw

variable (m : (ℓ : Loc nD τ sig) → Buf (Elt Ideal) ℓ) (c : Dev nD)

/-- The point before. -/
abbrev before (t : Fin cfg0.N) := outsAt0 m c (t.val - 1) (Nat.lt_of_le_of_lt (Nat.sub_le _ _) t.isLt)

theorem point7_A (t : Fin cfg0.N) (h0 : t.val % 16 = 0) : (outsAt0 m c t.val t.isLt).1
    = View.canon [⟨rR, k0_pay1 (F := Ideal) (k0_pay8 (F := Ideal) (iblk m c 1 t)) (k0_pay9 (F := Ideal) (iblk m c 1 t)) (dgk (iblk m c 0 t) (iblk m c 6 t) (iblk m c 4 t)) (iblk m c 2 t)⟩, ⟨rL, leftk (iblk m c 1 t) (iblk m c 5 t) (iblk m c 6 t) (iblk m c 2 t) (iblk m c 3 t) (iblk m c 4 t)⟩] := by
  rw [outsAt0_A m c t h0]
  dsimp only
  unfold out0_A_7
  rw [View.read_writes_eq_canon]; on_goal 2 => exact fun y => cover0_A_7 ..
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S128x512) hz2, View.ld_unit_zero (S := S1x512) hz2, View.ld_unit_zero (S := S8x128) hz2]
  rfl
theorem point7_B (t : Fin cfg0.N) (h0 : ¬t.val % 16 = 0) : (outsAt0 m c t.val t.isLt).1
    = View.canon [⟨rR, k0_pay1 (F := Ideal) (k0_pay8 (F := Ideal) (iblk m c 1 t)) (k0_pay9 (F := Ideal) (iblk m c 1 t)) (dgk (iblk m c 0 t) (iblk m c 6 t) (iblk m c 4 t)) (iblk m c 2 t)⟩, ⟨rL, leftk (iblk m c 1 t) (iblk m c 5 t) (iblk m c 6 t) (iblk m c 2 t) (iblk m c 3 t) (iblk m c 4 t)⟩] := by
  rw [outsAt0_B m c t h0]
  dsimp only
  unfold out0_B_7
  rw [View.read_writes_eq_canon]; on_goal 2 => exact fun y => cover0_B_7 ..
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S128x512) hz2, View.ld_unit_zero (S := S1x512) hz2, View.ld_unit_zero (S := S8x128) hz2]
  rfl
theorem point8_first (t : Fin cfg0.N) (h0 : t.val % 16 = 0) : (outsAt0 m c t.val t.isLt).2.1
    = View.canon (partsW (iblk m c 0 t) (iblk m c 1 t) (iblk m c 6 t) (iblk m c 2 t) (iblk m c 3 t) (k0_pay3 (F := Ideal))
        ++ [⟨Rect.unit ![0, 0, 0] S8x128x128.size inb_S8x128x128_S8x128x128_0_0_0, k0_pay3 (F := Ideal)⟩]) := by
  rw [outsAt0_A m c t h0]
  dsimp only
  unfold out0_A_8
  rw [View.read_writes_eq_canon]; on_goal 2 => exact fun y => cover0_A_8 ..
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S128x512) hz2, View.ld_unit_zero (S := S1x512) hz2, View.ld_unit_zero (S := S8x128) hz2]
  simp (disch := decide +kernel) only [View.readCov_skip, View.readCov_fill]
  rfl
theorem point8_next (t : Fin cfg0.N) (h0 : ¬t.val % 16 = 0) : (outsAt0 m c t.val t.isLt).2.1
    = View.canon (partsW (iblk m c 0 t) (iblk m c 1 t) (iblk m c 6 t) (iblk m c 2 t) (iblk m c 3 t) (before m c t).2.1 ++ []) := by
  rw [outsAt0_B m c t h0]
  dsimp only
  unfold out0_B_8
  rw [View.read_writes_eq_canon]; on_goal 2 => exact fun y => cover0_B_8 ..
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, View.ld_unit_zero (S := S128x512) hz2, View.ld_unit_zero (S := S1x512) hz2, View.ld_unit_zero (S := S8x128) hz2]
  rfl
theorem point9_first (t : Fin cfg0.N) (h0 : t.val % 16 = 0) : (outsAt0 m c t.val t.isLt).2.2.1
    = k0_pay54 (F := Ideal) (k0_pay29 (F := Ideal) (iblk m c 6 t) (iblk m c 0 t)) (iota .tc S8x512 32 [1] iota_S8x512_d1_w32) 64#32 k0_pay52 k0_pay53 0#32 (k0_pay4 (F := Ideal)) := by
  rw [outsAt0_A m c t h0]
  dsimp only
  unfold out0_A_9
  rw [View.read_writes_eq_canon]; on_goal 2 => exact fun y => cover0_A_9 ..
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S128x512) hz2, View.ld_unit_zero (S := S1x512) hz2, View.ld_unit_zero (S := S8x128) hz2]
  rw [View.readCov_unit_zero _ hz2]
theorem point9_next (t : Fin cfg0.N) (h0 : ¬t.val % 16 = 0) : (outsAt0 m c t.val t.isLt).2.2.1
    = k0_pay54 (F := Ideal) (k0_pay29 (F := Ideal) (iblk m c 6 t) (iblk m c 0 t)) (iota .tc S8x512 32 [1] iota_S8x512_d1_w32) 64#32 k0_pay52 k0_pay53 0#32 (before m c t).2.2.1 := by
  rw [outsAt0_B m c t h0]
  dsimp only
  unfold out0_B_9
  rw [View.read_writes_eq_canon]; on_goal 2 => exact fun y => cover0_B_9 ..
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, View.ld_unit_zero (S := S128x512) hz2, View.ld_unit_zero (S := S1x512) hz2, View.ld_unit_zero (S := S8x128) hz2]
theorem point10_first (t : Fin cfg0.N) (h0 : t.val % 16 = 0) : (outsAt0 m c t.val t.isLt).2.2.2.1
    = k0_pay55 (F := Ideal) (k0_pay9 (F := Ideal) (iblk m c 1 t)) (dgk (iblk m c 0 t) (iblk m c 6 t) (iblk m c 4 t)) (k0_pay5 (F := Ideal)) := by
  rw [outsAt0_A m c t h0]
  dsimp only
  unfold out0_A_10
  rw [View.read_writes_eq_canon]; on_goal 2 => exact fun y => cover0_A_10 ..
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S128x512) hz2, View.ld_unit_zero (S := S1x512) hz2, View.ld_unit_zero (S := S8x128) hz2]
  rw [View.readCov_unit_zero _ hz2]
  rfl
theorem point10_next (t : Fin cfg0.N) (h0 : ¬t.val % 16 = 0) : (outsAt0 m c t.val t.isLt).2.2.2.1
    = k0_pay55 (F := Ideal) (k0_pay9 (F := Ideal) (iblk m c 1 t)) (dgk (iblk m c 0 t) (iblk m c 6 t) (iblk m c 4 t)) (before m c t).2.2.2.1 := by
  rw [outsAt0_B m c t h0]
  dsimp only
  unfold out0_B_10
  rw [View.read_writes_eq_canon]; on_goal 2 => exact fun y => cover0_B_10 ..
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread, View.ld_unit_zero (S := S128x512) hz2, View.ld_unit_zero (S := S1x512) hz2, View.ld_unit_zero (S := S8x128) hz2]
  rfl
theorem point11_first (t : Fin cfg0.N) (h0 : t.val % 16 = 0) : (outsAt0 m c t.val t.isLt).2.2.2.2.1
    = k0_pay56 (F := Ideal) (dgk (iblk m c 0 t) (iblk m c 6 t) (iblk m c 4 t)) (k0_pay6 (F := Ideal)) := by
  rw [outsAt0_A m c t h0]
  dsimp only
  unfold out0_A_11
  rw [View.read_writes_eq_canon]; on_goal 2 => exact fun y => cover0_A_11 ..
  unfold kernelRun0_A
  dsimp only
  sl_unfold_words
  rw [View.canon_cons_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S128x512) hz2, View.ld_unit_zero (S := S1x512) hz2, View.ld_unit_zero (S := S8x128) hz2]
  rw [View.readCov_unit_zero _ hz2]
  rfl
theorem point11_next (t : Fin cfg0.N) (h0 : ¬t.val % 16 = 0) : (outsAt0 m c t.val t.isLt).2.2.2.2.1
    = k0_pay56 (F := Ideal) (dgk (iblk m c 0 t) (iblk m c 6 t) (iblk m c 4 t)) (before m c t).2.2.2.2.1 := by
  rw [outsAt0_B m c t h0]
  dsimp only
  unfold out0_B_11
  rw [View.read_writes_eq_canon]; on_goal 2 => exact fun y => cover0_B_11 ..
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, View.ld_unit_zero (S := S128x512) hz2, View.ld_unit_zero (S := S1x512) hz2, View.ld_unit_zero (S := S8x128) hz2]
  rfl

/-! ## What one point stores, in numbers -/

section Stores
variable (U X D : Mat 128 512) (g b : Mat 1 512) (W : Cube 8 128 128)

theorem ld_head (h : ℕ) (hh : h < 8) (f : Cube 8 128 128) :
    View.ld (Val := Elt Ideal) (e' := .f32) (up f : FVec Ideal S8x128x128 .f32) (rW h hh) = up (φ := .f32) (wcut f ⟨h, hh⟩) :=
  funext fun j => congrArg (fun i => ((f i : ℝ) : EReal)) (ext3
    (by show h + 1 * (j 0).val = h; have : (j 0).val < 1 := (j 0).isLt; omega)
    (by show 0 + 1 * (j 1).val = (j 1).val; omega) (by show 0 + 1 * (j 2).val = (j 2).val; omega))

theorem wk_up (h : ℕ) (hh : h < 8) : wk (up (φ := .f32) W) h hh = wl W ⟨h, hh⟩ := by
  unfold wk
  rw [ld_head]
  exact pay15 W ⟨h, hh⟩

theorem w0 : wk (up (φ := .f32) W) 0 (by decide) = wl W 0 := wk_up W 0 _
theorem w1 : wk (up (φ := .f32) W) 1 (by decide) = wl W 1 := wk_up W 1 _
theorem w2 : wk (up (φ := .f32) W) 2 (by decide) = wl W 2 := wk_up W 2 _
theorem w3 : wk (up (φ := .f32) W) 3 (by decide) = wl W 3 := wk_up W 3 _
theorem w4 : wk (up (φ := .f32) W) 4 (by decide) = wl W 4 := wk_up W 4 _
theorem w5 : wk (up (φ := .f32) W) 5 (by decide) = wl W 5 := wk_up W 5 _
theorem w6 : wk (up (φ := .f32) W) 6 (by decide) = wl W 6 := wk_up W 6 _
theorem w7 : wk (up (φ := .f32) W) 7 (by decide) = wl W 7 := wk_up W 7 _

theorem pay29 : k0_pay29 (F := Ideal) (up (φ := .f32) D) (up (φ := .f32) U) = up (s := S128x512) (φ := .f32) fun j => D j * U j := mulf_up D U

theorem dgk_up : dgk (up (φ := .f32) U) (up (φ := .f32) D) (up (φ := .f32) W) = up (φ := .f32) (dgate W fun j => D j * U j) := by
  unfold dgk
  rw [w0, w1, w2, w3, w4, w5, w6, w7, pay29]
  exact pay50 _ W
theorem leftk_up (B : FVec Ideal S128x512 .f32) :
    leftk (up (φ := .f32) X) B (up (φ := .f32) D) (up (φ := .f32) g) (up (φ := .f32) b) (up (φ := .f32) W)
      = truncf .bf16 (mulf (up (φ := .f32) D) (addf B (up (φ := .f32) (mixed W (gate X (fun k => g (mk2 0 k)) fun k => b (mk2 0 k)))))) bitsLt_bf16_f32 := by
  unfold leftk
  rw [w0, w1, w2, w3, w4, w5, w6, w7, pay10]
  exact pay28 D _ W B
theorem addW_up (Z : Cube 8 128 128) (h : ℕ) (hh : h < 8) :
    addW (up (φ := .f32) U) (up (φ := .f32) X) (up (φ := .f32) D) (up (φ := .f32) g) (up (φ := .f32) b) (up (φ := .f32) Z) h hh
      = up (s := S1x128x128) (φ := .f32) fun j => Z (mk3 ⟨h, hh⟩ (j 1) (j 2))
        + dweight (fun j => D j * U j) (gate X (fun k => g (mk2 0 k)) fun k => b (mk2 0 k)) ⟨h, hh⟩ (j 1) (j 2) := by
  unfold addW
  rw [ld_head, pay29, pay10, pay36 _ h hh]
  exact pay48 _ _ ⟨h, hh⟩ _

/-- The eight stores together add the block's part to every head. -/
theorem canon_partsW (Z : Cube 8 128 128) (L' : List (View.Piece (Elt Ideal) S8x128x128 .f32)) :
    View.canon (partsW (up U) (up X) (up D) (up g) (up b) (up Z) ++ L')
      = up (s := S8x128x128) (φ := .f32) fun j => Z j + dweight (fun j => D j * U j) (gate X (fun k => g (mk2 0 k)) fun k => b (mk2 0 k)) (j 0) (j 1) (j 2) := by
  have part : ∀ (h : ℕ) (hh : h < 8) (x : S1x128x128.Idx),
      addW (up (φ := .f32) U) (up (φ := .f32) X) (up (φ := .f32) D) (up (φ := .f32) g) (up (φ := .f32) b) (up (φ := .f32) Z) h hh x
        = (up (s := S8x128x128) (φ := .f32) fun j => Z j + dweight (fun j => D j * U j) (gate X (fun k => g (mk2 0 k)) fun k => b (mk2 0 k)) (j 0) (j 1) (j 2))
          ((rW h hh).emb x) := fun h hh x => by
    rw [addW_up]
    have e : (rW h hh).emb x = mk3 ⟨h, hh⟩ (x 1) (x 2) := ext3
      (by show h + 1 * (x 0).val = h; have : (x 0).val < 1 := (x 0).isLt; omega)
      (by show 0 + 1 * (x 1).val = (x 1).val; omega) (by show 0 + 1 * (x 2).val = (x 2).val; omega)
    rw [e]
    rfl
  funext y
  refine View.canon_append_of_piecesOf (Val := Elt Ideal) (e := .f32) _ L' (partsW (up U) (up X) (up D) (up g) (up b) (up Z))
    ⟨part 7 _, part 6 _, part 5 _, part 4 _, part 3 _, part 2 _, part 1 _, part 0 _, trivial⟩ y ?_
  have mem : ∀ (h : ℕ) (hh : h < 8), (y 0).val = h → y ∈ (rW h hh).set := fun h hh e => Rect.mem_set_unit.mpr fun a => by
    match a with
    | ⟨0, _⟩ => show h ≤ (y 0).val ∧ (y 0).val < h + 1; omega
    | ⟨1, _⟩ => exact ⟨Nat.zero_le _, by have : (y 1).val < 128 := (y 1).isLt; show (y 1).val < 0 + 128; omega⟩
    | ⟨2, _⟩ => exact ⟨Nat.zero_le _, by have : (y 2).val < 128 := (y 2).isLt; show (y 2).val < 0 + 128; omega⟩
  have h8 : (y 0).val < 8 := (y 0).isLt
  obtain e | e | e | e | e | e | e | e : (y 0).val = 7 ∨ (y 0).val = 6 ∨ (y 0).val = 5 ∨ (y 0).val = 4 ∨ (y 0).val = 3 ∨ (y 0).val = 2 ∨ (y 0).val = 1 ∨ (y 0).val = 0 := by omega
  · exact ⟨_, List.mem_cons_self, mem 7 (by decide) e⟩
  · exact ⟨_, List.mem_cons_of_mem _ List.mem_cons_self, mem 6 (by decide) e⟩
  · exact ⟨_, List.mem_cons_of_mem _ (List.mem_cons_of_mem _ List.mem_cons_self), mem 5 (by decide) e⟩
  · exact ⟨_, List.mem_cons_of_mem _ (List.mem_cons_of_mem _ (List.mem_cons_of_mem _ List.mem_cons_self)), mem 4 (by decide) e⟩
  · exact ⟨_, List.mem_cons_of_mem _ (List.mem_cons_of_mem _ (List.mem_cons_of_mem _ (List.mem_cons_of_mem _ List.mem_cons_self))), mem 3 (by decide) e⟩
  · exact ⟨_, List.mem_cons_of_mem _ (List.mem_cons_of_mem _ (List.mem_cons_of_mem _ (List.mem_cons_of_mem _ (List.mem_cons_of_mem _ List.mem_cons_self)))), mem 2 (by decide) e⟩
  · exact ⟨_, List.mem_cons_of_mem _ (List.mem_cons_of_mem _ (List.mem_cons_of_mem _ (List.mem_cons_of_mem _ (List.mem_cons_of_mem _ (List.mem_cons_of_mem _ List.mem_cons_self))))), mem 1 (by decide) e⟩
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem 0 (by decide) e⟩

/-- The two halves stored side by side. -/
theorem canon_halves (A C : FVec Ideal S128x512 .bf16) (y : S128x1024.Idx) :
    View.canon (Val := Elt Ideal) (e := .bf16) (s := S128x1024) [⟨rR, A⟩, ⟨rL, C⟩] y
      = if h : (y 1).val < 512 then C (mk2 (y 0) ⟨(y 1).val, h⟩) else A (mk2 (y 0) ⟨(y 1).val - 512, by have : (y 1).val < 1024 := (y 1).isLt; omega⟩) := by
  have h0 : (y 0).val < 128 := (y 0).isLt
  have h1 : (y 1).val < 1024 := (y 1).isLt
  refine View.canon_append_of_piecesOf (Val := Elt Ideal) (e := .bf16) (s := S128x1024) (fun y => if h : (y 1).val < 512 then C (mk2 (y 0) ⟨(y 1).val, h⟩)
      else A (mk2 (y 0) ⟨(y 1).val - 512, by have : (y 1).val < 1024 := (y 1).isLt; omega⟩)) [] [⟨rR, A⟩, ⟨rL, C⟩] ⟨fun x => ?_, fun x => ?_, trivial⟩ y ?_
  · have hx : (x 1).val < 512 := (x 1).isLt
    have e : ((rR.emb x) 1).val = 512 + (x 1).val := by show 512 + 1 * (x 1).val = _; omega
    refine Eq.trans ?_ (dif_neg (by rw [e]; omega)).symm
    exact congrArg A (ext2 (by show (x 0).val = 0 + 1 * (x 0).val; omega) (by show (x 1).val = 512 + 1 * (x 1).val - 512; omega))
  · have hx : (x 1).val < 512 := (x 1).isLt
    have e : ((rL.emb x) 1).val = (x 1).val := by show 0 + 1 * (x 1).val = _; omega
    refine Eq.trans ?_ (dif_pos (by rw [e]; exact hx)).symm
    exact congrArg C (ext2 (by show (x 0).val = 0 + 1 * (x 0).val; omega) (by show (x 1).val = 0 + 1 * (x 1).val; omega))
  · by_cases h : (y 1).val < 512
    · exact ⟨⟨rL, C⟩, List.mem_cons_of_mem _ List.mem_cons_self, (Rect.mem_set_unit (inb := inb_S128x1024_S128x512_0_0)).mpr (Fin.forall_fin_two.mpr
        ⟨⟨Nat.zero_le _, by show (y 0).val < 0 + 128; omega⟩, ⟨Nat.zero_le _, by show (y 1).val < 0 + 512; omega⟩⟩)⟩
    · exact ⟨⟨rR, A⟩, List.mem_cons_self, (Rect.mem_set_unit (inb := inb_S128x1024_S128x512_0_512)).mpr (Fin.forall_fin_two.mpr
        ⟨⟨Nat.zero_le _, by show (y 0).val < 0 + 128; omega⟩, ⟨by show 512 ≤ (y 1).val; omega, by show (y 1).val < 512 + 512; omega⟩⟩)⟩

end Stores

/-! ## The results -/

/-- Row `p` of block `n`. -/
def rowAt (n : Fin 16) (p : Fin 128) : Fin 2048 := ⟨128 * n.val + p.val, by have := n.isLt; have := p.isLt; omega⟩
/-- The block of a row, and its place there. -/
def blkOf (i : Fin 2048) : Fin 16 := ⟨i.val / 128, by have := i.isLt; omega⟩
def inBlk (i : Fin 2048) : Fin 128 := ⟨i.val % 128, Nat.mod_lt _ (by decide)⟩
/-- Block `n` of a matrix's rows. -/
def rows {w : ℕ} (X : Mat 2048 w) (n : Fin 16) : Mat 128 w := fun j => X (mk2 (rowAt n (j 0)) (j 1))
/-- Columns of the wide projection, from `o` on. -/
def cols (o : ℕ) (ho : o + 512 ≤ 3584) (P : Mat 2048 3584) : Mat 2048 512 := fun j => P (mk2 (j 0) ⟨o + (j 1).val, by have : (j 1).val < 512 := (j 1).isLt; omega⟩)

section Results
variable (P : Mat 2048 3584) (D : Mat 2048 512) (g b : Fin 512 → ℝ) (W : Cube 8 128 128)

abbrev uP : Mat 2048 512 := cols 2560 (by decide) P
abbrev vP : Mat 2048 512 := cols 3072 (by decide) P
/-- One block's gate, and the gradient of its mixed gate. -/
def gateB (n : Fin 16) : Mat 128 512 := gate (rows (vP P) n) g b
def dsB (n : Fin 16) : Mat 128 512 := fun j => rows D n j * rows (uP P) n j
/-- The gradient of the wide projection's last two parts; the bias may be any extended reals. -/
def resX (b4 : FVec Ideal S8x128 .f32) : FVec Ideal S2048x1024 .bf16 := fun j =>
  if h : (j 1).val < 512 then
    ((D (mk2 (j 0) ⟨(j 1).val, h⟩) : ℝ) : EReal) * (b4 (mk2 (hd ⟨(j 1).val, h⟩) (inBlk (j 0))) + ((mixed W (gateB P g b (blkOf (j 0))) (mk2 (inBlk (j 0)) ⟨(j 1).val, h⟩) : ℝ) : EReal))
  else ((lnv (fun i => dgate W (dsB P D (blkOf (j 0))) i * g (i 1)) (rows (vP P) (blkOf (j 0))) (inBlk (j 0))
    ⟨(j 1).val - 512, by have : (j 1).val < 1024 := (j 1).isLt; omega⟩ : ℝ) : EReal)
def resW : FVec Ideal S8x128x128 .f32 := up fun j => ∑ n : Fin 16, dweight (dsB P D n) (gateB P g b n) (j 0) (j 1) (j 2)
def resB : FVec Ideal S8x128 .f32 := up fun j => ∑ n : Fin 16, dbias (dsB P D n) (j 0) (j 1)
def resG : FVec Ideal S1x512 .f32 := up fun j => ∑ n : Fin 16, ∑ p : Fin 128, dgate W (dsB P D n) (mk2 p (j 1)) * xhat (cent (rows (vP P) n)) p (j 1)
def resL : FVec Ideal S1x512 .f32 := up fun j => ∑ n : Fin 16, ∑ p : Fin 128, dgate W (dsB P D n) (mk2 p (j 1))

end Results

/-! ## Where the blocks stand -/

theorem lt16 (t : Fin cfg0.N) : t.val < 16 := lt_of_lt_of_eq t.isLt (show cfg0.N = 16 from N_0)
/-- The block number of a point. -/
def bl (t : Fin cfg0.N) : Fin 16 := ⟨t.val, lt16 t⟩

theorem index_in : ∀ t : Fin cfg0.N, (win0_0.index t 0 = t.val ∧ win0_0.index t 1 = 5) ∧ (win0_1.index t 0 = t.val ∧ win0_1.index t 1 = 6)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) :=
  (by decide +kernel : ∀ t : Fin grid0.N, _)
theorem index_out : ∀ t : Fin cfg0.N, (win0_7.index t 0 = t.val ∧ win0_7.index t 1 = 0) ∧ (win0_8.index t 0 = 0 ∧ win0_8.index t 1 = 0 ∧ win0_8.index t 2 = 0)
    ∧ (win0_9.index t 0 = 0 ∧ win0_9.index t 1 = 0) ∧ (win0_10.index t 0 = 0 ∧ win0_10.index t 1 = 0) ∧ (win0_11.index t 0 = 0 ∧ win0_11.index t 1 = 0) :=
  (by decide +kernel : ∀ t : Fin grid0.N, _)

theorem V0 : V m c main_v0 = shapeCast S1x512 (m (c.tc.loc main_arg1)) shapeCasts_S512_S1x512 := by
  show StableHlo.after hostOps0 (fun b => m (c, b)) main_v0 = _
  after_results_simp <;> rfl
theorem V1 : V m c main_v1 = shapeCast S1x512 (m (c.tc.loc main_arg2)) shapeCasts_S512_S1x512 := by
  show StableHlo.after hostOps0 (fun b => m (c, b)) main_v1 = _
  after_results_simp <;> rfl
theorem V4 : V m c main_v4 = shapeCast S128x512 (broadcastInDim S128x8x64 ![0, 1] bcast_S128x8_S128x8x64_0_1 (transpose S128x8 [1, 0] (m (c.tc.loc main_arg4) : FVec Ideal S8x128 .f32) transposes_S8x128_S128x8_1_0))
    shapeCasts_S128x8x64_S128x512 := by
  show StableHlo.after hostOps0 (fun b => m (c, b)) main_v4 = _
  after_results_simp <;> rfl

/-- The host's bias, spread over the columns of every head. -/
theorem spread_bias (x : FVec Ideal S8x128 .f32) (h1 : S8x128.Transposes [1, 0] S128x8) (h2 : S128x8.BroadcastsInDim S128x8x64 ![0, 1])
    (h3 : S128x8x64.ShapeCasts S128x512) (j : S128x512.Idx) :
    shapeCast S128x512 (broadcastInDim S128x8x64 ![0, 1] h2 (transpose S128x8 [1, 0] x h1)) h3 j = x (mk2 (hd (j 1)) (j 0)) := by
  have hj : (j 1).val < 512 := (j 1).isLt
  refine (shapeCast_apply _ _ _ (mk3 (j 0) (hd (j 1)) (⟨(j 1).val % 64, Nat.mod_lt _ (by decide)⟩ : Fin 64)) ?_).trans ?_
  · rw [Shape.rowMajor_val_three, Shape.rowMajor_val_two]
    show ((j 0).val * 8 + (j 1).val / 64) * 64 + (j 1).val % 64 = (j 0).val * 512 + (j 1).val
    omega
  · refine (broadcastInDim_apply _ _ _ _ (mk2 (j 0) (hd (j 1))) fun a => ?_).trans (ValueIdx.transpose_ix2_apply _ _ _ _)
    match a with
    | ⟨0, _⟩ => rfl
    | ⟨1, _⟩ => rfl

/-- What the arguments are: all real but the mixing bias. -/
structure Args (P : Mat 2048 3584) (D : Mat 2048 512) (g b : Fin 512 → ℝ) (W : Cube 8 128 128) : Prop where
  hP : m (c.tc.loc main_arg0) = up (s := S2048x3584) (φ := .f32) P
  hg : m (c.tc.loc main_arg1) = up (s := S512) (φ := .f32) fun j => g (j 0)
  hb : m (c.tc.loc main_arg2) = up (s := S512) (φ := .f32) fun j => b (j 0)
  hW : m (c.tc.loc main_arg3) = up (s := S8x128x128) (φ := .f32) W
  hD : m (c.tc.loc main_arg5) = up (s := S2048x512) (φ := .f32) D

section
variable {P : Mat 2048 3584} {D : Mat 2048 512} {g b : Fin 512 → ℝ} {W : Cube 8 128 128} (h : Args m c P D g b W)

theorem read_cols (o : ℕ) (ho) (k : ℕ) (hk : 512 * k = o) (t : Fin cfg0.N) (i : Fin 2 → ℕ) (hi : i 0 = t.val ∧ i 1 = k) (j : S128x512.Idx) (e : S2048x3584.Idx)
    (e0 : (e 0).val = i 0 * 128 + 1 * (j 0).val) (e1 : (e 1).val = i 1 * 512 + 1 * (j 1).val) : P e = rows (cols o ho P) (bl t) j :=
  congrArg P (ext2 (e0.trans (at_blk hi.1)) (e1.trans ((at_blk hi.2).trans (congrArg (· + (j 1).val) hk))))

include h in
theorem b0 (t : Fin cfg0.N) : (iblk m c 0 t : FVec Ideal S128x512 .f32) = up (φ := .f32) (rows (uP P) (bl t)) := by
  funext j
  unfold iblk
  rw [View.read_apply]
  show V m c main_arg0 _ = _
  rw [V_main_arg0, h.hP]
  exact congrArg (fun x : ℝ => (x : EReal)) (read_cols 2560 _ 5 rfl t _ (index_in t).1 j _ rfl rfl)
include h in
theorem b1 (t : Fin cfg0.N) : (iblk m c 1 t : FVec Ideal S128x512 .f32) = up (φ := .f32) (rows (vP P) (bl t)) := by
  funext j
  unfold iblk
  rw [View.read_apply]
  show V m c main_arg0 _ = _
  rw [V_main_arg0, h.hP]
  exact congrArg (fun x : ℝ => (x : EReal)) (read_cols 3072 _ 6 rfl t _ (index_in t).2.1 j _ rfl rfl)
include h in
theorem b2 (t : Fin cfg0.N) : (iblk m c 2 t : FVec Ideal S1x512 .f32) = up (s := S1x512) (φ := .f32) fun j => g (j 1) := by
  funext j
  unfold iblk
  rw [View.read_apply]
  show V m c main_v0 _ = _
  rw [V0, h.hg, cast_row_up]
  exact congrArg (fun x => ((g x : ℝ) : EReal)) (Fin.ext (at_zero (index_in t).2.2.1.2))
include h in
theorem b3 (t : Fin cfg0.N) : (iblk m c 3 t : FVec Ideal S1x512 .f32) = up (s := S1x512) (φ := .f32) fun j => b (j 1) := by
  funext j
  unfold iblk
  rw [View.read_apply]
  show V m c main_v1 _ = _
  rw [V1, h.hb, cast_row_up]
  exact congrArg (fun x => ((b x : ℝ) : EReal)) (Fin.ext (at_zero (index_in t).2.2.2.1.2))
include h in
theorem b4 (t : Fin cfg0.N) : (iblk m c 4 t : FVec Ideal S8x128x128 .f32) = up (φ := .f32) W := by
  funext j
  unfold iblk
  rw [View.read_apply]
  show V m c main_arg3 _ = _
  rw [V_main_arg3, h.hW]
  exact congrArg (fun x => ((W x : ℝ) : EReal)) (ext3 (at_zero (index_in t).2.2.2.2.1.1) (at_zero (index_in t).2.2.2.2.1.2.1) (at_zero (index_in t).2.2.2.2.1.2.2))
theorem b5 (t : Fin cfg0.N) : (iblk m c 5 t : FVec Ideal S128x512 .f32) = fun j => m (c.tc.loc main_arg4) (mk2 (hd (j 1)) (j 0)) := by
  funext j
  unfold iblk
  rw [View.read_apply]
  show V m c main_v4 _ = _
  have e : ((cfg0.win 5).blk t).view.emb j = j := ext2 (at_zero (index_in t).2.2.2.2.2.1.1) (at_zero (index_in t).2.2.2.2.2.1.2)
  rw [V4, e]
  exact spread_bias _ _ _ _ _

include h in
theorem b6 (t : Fin cfg0.N) : (iblk m c 6 t : FVec Ideal S128x512 .f32) = up (φ := .f32) (rows D (bl t)) := by
  funext j
  unfold iblk
  rw [View.read_apply]
  show V m c main_arg5 _ = _
  rw [V_main_arg5, h.hD]
  exact congrArg (fun x => ((D x : ℝ) : EReal)) (ext2 (at_blk (index_in t).2.2.2.2.2.2.1) (at_zero (index_in t).2.2.2.2.2.2.2))

include h in
theorem dg (t : Fin cfg0.N) : dgk (iblk m c 0 t) (iblk m c 6 t) (iblk m c 4 t) = up (φ := .f32) (dgate W (dsB P D (bl t))) := by
  rw [b0 m c h, b6 m c h, b4 m c h]
  exact dgk_up _ _ W

include h in
theorem val7 (t : Fin cfg0.N) : (outsAt0 m c t.val t.isLt).1 = fun j => resX P D g b W (m (c.tc.loc main_arg4)) (mk2 (rowAt (bl t) (j 0)) (j 1)) := by
  have e : (outsAt0 m c t.val t.isLt).1 = View.canon [⟨rR, k0_pay1 (F := Ideal) (k0_pay8 (F := Ideal) (iblk m c 1 t)) (k0_pay9 (F := Ideal) (iblk m c 1 t)) (dgk (iblk m c 0 t) (iblk m c 6 t) (iblk m c 4 t)) (iblk m c 2 t)⟩, ⟨rL, leftk (iblk m c 1 t) (iblk m c 5 t) (iblk m c 6 t) (iblk m c 2 t) (iblk m c 3 t) (iblk m c 4 t)⟩] := by
    by_cases h0 : t.val % 16 = 0
    · exact point7_A m c t h0
    · exact point7_B m c t h0
  rw [e, dg m c h, b1 m c h, b2 m c h, b3 m c h, b4 m c h, b6 m c h, pay8, pay9, pay1, leftk_up]
  funext y
  rw [canon_halves]
  have hb : blkOf (rowAt (bl t) (y 0)) = bl t := Fin.ext (by
    have : (y 0).val < 128 := (y 0).isLt
    show (128 * t.val + (y 0).val) / 128 = t.val; omega)
  have hi : inBlk (rowAt (bl t) (y 0)) = y 0 := Fin.ext (by
    have : (y 0).val < 128 := (y 0).isLt
    show (128 * t.val + (y 0).val) % 128 = (y 0).val; omega)
  unfold resX
  dsimp only [mk2_0, mk2_1]
  rw [hb, hi, b5]
  rfl

theorem zero3 : k0_pay3 (F := Ideal) = up (s := S8x128x128) (φ := .f32) fun _ => 0 := constant_up lit_zero
theorem zero4 : k0_pay4 (F := Ideal) = up (s := S8x128) (φ := .f32) fun _ => 0 := constant_up lit_zero
theorem zero5 : k0_pay5 (F := Ideal) = up (s := S1x512) (φ := .f32) fun _ => 0 := constant_up lit_zero
theorem zero6 : k0_pay6 (F := Ideal) = up (s := S1x512) (φ := .f32) fun _ => 0 := constant_up lit_zero
theorem next {n : ℕ} (hn : n + 1 < cfg0.N) : ¬(⟨n + 1, hn⟩ : Fin cfg0.N).val % 16 = 0 := by
  have h8 := lt16 ⟨n + 1, hn⟩
  dsimp only at h8 ⊢
  omega

include h in
theorem val8 : ∀ (n : ℕ) (hn : n < cfg0.N), (outsAt0 m c n hn).2.1
    = up (s := S8x128x128) (φ := .f32) fun j => ∑ k ∈ Finset.range (n + 1), nat (fun n => dweight (dsB P D n) (gateB P g b n) (j 0) (j 1) (j 2)) k
  | 0, hn => by
    refine (point8_first m c ⟨0, hn⟩ rfl).trans ?_
    rw [b0 m c h, b1 m c h, b2 m c h, b3 m c h, b6 m c h, zero3, canon_partsW]
    exact congrArg up (funext fun j => by rw [zero_add, sum_first _ (by decide)]; rfl)
  | n + 1, hn => by
    have ih := val8 n (Nat.lt_of_succ_lt hn)
    refine (point8_next m c ⟨n + 1, hn⟩ (next hn)).trans ?_
    rw [b0 m c h, b1 m c h, b2 m c h, b3 m c h, b6 m c h]
    refine (congrArg (fun z => View.canon (partsW _ _ _ _ _ z ++ [])) ih).trans ?_
    exact (canon_partsW _ _ _ _ _ _ []).trans (congrArg up (funext fun j => (sum_next _ n (lt16 ⟨n + 1, hn⟩)).symm))

include h in
theorem val9 : ∀ (n : ℕ) (hn : n < cfg0.N), (outsAt0 m c n hn).2.2.1
    = up (s := S8x128) (φ := .f32) fun j => ∑ k ∈ Finset.range (n + 1), nat (fun n => dbias (dsB P D n) (j 0) (j 1)) k
  | 0, hn => by
    refine (point9_first m c ⟨0, hn⟩ rfl).trans ?_
    rw [b0 m c h, b6 m c h, zero4, pay29, pay54]
    exact congrArg up (funext fun j => by rw [zero_add, sum_first _ (by decide)]; rfl)
  | n + 1, hn => by
    have ih := val9 n (Nat.lt_of_succ_lt hn)
    refine (point9_next m c ⟨n + 1, hn⟩ (next hn)).trans ?_
    rw [b0 m c h, b6 m c h, pay29]
    refine (congrArg (k0_pay54 (F := Ideal) _ _ _ _ _ _) ih).trans ?_
    exact (pay54 _ _).trans (congrArg up (funext fun j => (sum_next _ n (lt16 ⟨n + 1, hn⟩)).symm))

include h in
theorem val10 : ∀ (n : ℕ) (hn : n < cfg0.N), (outsAt0 m c n hn).2.2.2.1
    = up (s := S1x512) (φ := .f32) fun j => ∑ k ∈ Finset.range (n + 1), nat (fun n => ∑ p : Fin 128, dgate W (dsB P D n) (mk2 p (j 1)) * xhat (cent (rows (vP P) n)) p (j 1)) k
  | 0, hn => by
    refine (point10_first m c ⟨0, hn⟩ rfl).trans ?_
    rw [dg m c h, b1 m c h, zero5, pay9, pay55]
    exact congrArg up (funext fun j => by rw [zero_add, sum_first _ (by decide)]; rfl)
  | n + 1, hn => by
    have ih := val10 n (Nat.lt_of_succ_lt hn)
    refine (point10_next m c ⟨n + 1, hn⟩ (next hn)).trans ?_
    rw [dg m c h, b1 m c h, pay9]
    refine (congrArg (k0_pay55 (F := Ideal) _ _) ih).trans ?_
    exact (pay55 _ _ _).trans (congrArg up (funext fun j => (sum_next _ n (lt16 ⟨n + 1, hn⟩)).symm))

include h in
theorem val11 : ∀ (n : ℕ) (hn : n < cfg0.N), (outsAt0 m c n hn).2.2.2.2.1
    = up (s := S1x512) (φ := .f32) fun j => ∑ k ∈ Finset.range (n + 1), nat (fun n => ∑ p : Fin 128, dgate W (dsB P D n) (mk2 p (j 1))) k
  | 0, hn => by
    refine (point11_first m c ⟨0, hn⟩ rfl).trans ?_
    rw [dg m c h, zero6, pay56]
    exact congrArg up (funext fun j => by rw [zero_add, sum_first _ (by decide)]; rfl)
  | n + 1, hn => by
    have ih := val11 n (Nat.lt_of_succ_lt hn)
    refine (point11_next m c ⟨n + 1, hn⟩ (next hn)).trans ?_
    rw [dg m c h]
    refine (congrArg (k0_pay56 (F := Ideal) _) ih).trans ?_
    exact (pay56 _ _).trans (congrArg up (funext fun j => (sum_next _ n (lt16 ⟨n + 1, hn⟩)).symm))

/-! ## The arrays after the run -/

omit h in
/-- The point whose block holds row `i`. -/
def pt (i : Fin 2048) : Fin cfg0.N := ⟨i.val / 128, by rw [show cfg0.N = 16 from N_0]; have := i.isLt; omega⟩

include h in
theorem final7 : (dats m 0 c).arrAt 7 cfg0.N = resX P D g b W (m (c.tc.loc main_arg4)) := by
  refine (dats m 0 c).arrAt_eq_of_cover 7 _ (fun t _ => ?_) fun i => ⟨pt (i 0), flush0_7 _, ?_⟩
  · rw [Value.flushed7, val7 m c h]
    funext j
    rw [View.read_apply]
    have e : ((cfg0.win 7).blk t).view.emb j = mk2 (rowAt (bl t) (j 0)) (j 1) := ext2 (at_blk (index_out t).1.1) (at_zero (index_out t).1.2)
    rw [e]
    rfl
  · show i ∈ ((View.whole main_v5_0).slice (win0_7.rect (pt (i 0)))).set
    rw [View.set_slice_whole, Rect.mem_set_unit]
    exact Fin.forall_fin_two.mpr ⟨in_blk (index_out (pt (i 0))).1.1 rfl (by decide), in_zero (index_out (pt (i 0))).1.2 (i 1).isLt⟩

include h in
theorem final8 : (dats m 0 c).arrAt 8 cfg0.N = resW P D g b := by
  refine (dats m 0 c).arrAt_eq_of_cover 8 _ (fun t hf => ?_) fun i => ⟨t0_15, (flush0_8 _).mpr rfl, ?_⟩
  · have h7 : t.val = 15 := by have := lt16 t; have := (flush0_8 t).mp hf; omega
    rw [Value.flushed8, val8 m c h]
    funext j
    rw [View.read_apply]
    have e : ((cfg0.win 8).blk t).view.emb j = j := ext3 (at_zero (index_out t).2.1.1) (at_zero (index_out t).2.1.2.1) (at_zero (index_out t).2.1.2.2)
    rw [e, h7]
    exact congrArg (fun x : ℝ => (x : EReal)) (sum_nat fun n => dweight (dsB P D n) (gateB P g b n) (j 0) (j 1) (j 2))
  · show i ∈ ((View.whole main_v5_1).slice (win0_8.rect t0_15)).set
    rw [View.set_slice_whole, Rect.mem_set_unit]
    exact fun a => by
      match a with
      | ⟨0, _⟩ => exact in_zero (index_out t0_15).2.1.1 (i 0).isLt
      | ⟨1, _⟩ => exact in_zero (index_out t0_15).2.1.2.1 (i 1).isLt
      | ⟨2, _⟩ => exact in_zero (index_out t0_15).2.1.2.2 (i 2).isLt

include h in
theorem final9 : (dats m 0 c).arrAt 9 cfg0.N = resB P D := by
  refine (dats m 0 c).arrAt_eq_of_cover 9 _ (fun t hf => ?_) fun i => ⟨t0_15, (flush0_9 _).mpr rfl, ?_⟩
  · have h7 : t.val = 15 := by have := lt16 t; have := (flush0_9 t).mp hf; omega
    rw [Value.flushed9, val9 m c h]
    funext j
    rw [View.read_apply]
    have e : ((cfg0.win 9).blk t).view.emb j = j := ext2 (at_zero (index_out t).2.2.1.1) (at_zero (index_out t).2.2.1.2)
    rw [e, h7]
    exact congrArg (fun x : ℝ => (x : EReal)) (sum_nat fun n => dbias (dsB P D n) (j 0) (j 1))
  · show i ∈ ((View.whole main_v5_2).slice (win0_9.rect t0_15)).set
    rw [View.set_slice_whole, Rect.mem_set_unit]
    exact Fin.forall_fin_two.mpr ⟨in_zero (index_out t0_15).2.2.1.1 (i 0).isLt, in_zero (index_out t0_15).2.2.1.2 (i 1).isLt⟩

include h in
theorem final10 : (dats m 0 c).arrAt 10 cfg0.N = resG P D W := by
  refine (dats m 0 c).arrAt_eq_of_cover 10 _ (fun t hf => ?_) fun i => ⟨t0_15, (flush0_10 _).mpr rfl, ?_⟩
  · have h7 : t.val = 15 := by have := lt16 t; have := (flush0_10 t).mp hf; omega
    rw [Value.flushed10, val10 m c h]
    funext j
    rw [View.read_apply]
    have e : ((cfg0.win 10).blk t).view.emb j = j := ext2 (at_zero (index_out t).2.2.2.1.1) (at_zero (index_out t).2.2.2.1.2)
    rw [e, h7]
    exact congrArg (fun x : ℝ => (x : EReal)) (sum_nat fun n => ∑ p : Fin 128, dgate W (dsB P D n) (mk2 p (j 1)) * xhat (cent (rows (vP P) n)) p (j 1))
  · show i ∈ ((View.whole main_v5_3).slice (win0_10.rect t0_15)).set
    rw [View.set_slice_whole, Rect.mem_set_unit]
    exact Fin.forall_fin_two.mpr ⟨in_zero (index_out t0_15).2.2.2.1.1 (i 0).isLt, in_zero (index_out t0_15).2.2.2.1.2 (i 1).isLt⟩

include h in
theorem final11 : (dats m 0 c).arrAt 11 cfg0.N = resL P D W := by
  refine (dats m 0 c).arrAt_eq_of_cover 11 _ (fun t hf => ?_) fun i => ⟨t0_15, (flush0_11 _).mpr rfl, ?_⟩
  · have h7 : t.val = 15 := by have := lt16 t; have := (flush0_11 t).mp hf; omega
    rw [Value.flushed11, val11 m c h]
    funext j
    rw [View.read_apply]
    have e : ((cfg0.win 11).blk t).view.emb j = j := ext2 (at_zero (index_out t).2.2.2.2.1) (at_zero (index_out t).2.2.2.2.2)
    rw [e, h7]
    exact congrArg (fun x : ℝ => (x : EReal)) (sum_nat fun n => ∑ p : Fin 128, dgate W (dsB P D n) (mk2 p (j 1)))
  · show i ∈ ((View.whole main_v5_4).slice (win0_11.rect t0_15)).set
    rw [View.set_slice_whole, Rect.mem_set_unit]
    exact Fin.forall_fin_two.mpr ⟨in_zero (index_out t0_15).2.2.2.2.1 (i 0).isLt, in_zero (index_out t0_15).2.2.2.2.2 (i 1).isLt⟩

end

end Cert.SguKernel

end
-- ==== Proof.SguRef.lean ====
/-
  The derivative of the gated mixer, as the reference computes it, is the same formula of the arguments.
-/
module

public import proofs.«01_k».proof.Proof.SguKernel
public import proofs.«01_k».proof.Proof.Arrays
public import proofs.«01_k».proof.Proof.Gen.SguBwdRefIdeal.Read

@[expose] public section

set_option maxRecDepth 16384
set_option backward.isDefEq.respectTransparency.types false

noncomputable section

open Idealize.ShloMosaic Idealize.ShloMosaic.TcCoe Idealize.SL.Sem

namespace Cert.SguRef

open Cert.Reals Cert.Norm Cert.Layer Cert.Prods Cert.Arrays
open Cert.SguKernel (Cube rowAt blkOf inBlk rows uP vP hd low gate gateB mixed dgate dweight dbias dsB resX resW resB resG resL ne512)
open Cert.SguBwdRefIdeal Cert.SguBwdRefIdeal.Gen Cert.SguBwdRefIdeal.Read

/-! ## Rows by block, columns by head -/

/-- Column `d` of head `h`, and a column's place in its head. -/
def colAt (h : Fin 8) (d : Fin 64) : Fin 512 := ⟨h.val * 64 + d.val, by have := h.isLt; have := d.isLt; omega⟩
def inHd (c : Fin 512) : Fin 64 := ⟨c.val % 64, Nat.mod_lt _ (by decide)⟩

theorem colAt_hd (c : Fin 512) : colAt (hd c) (inHd c) = c := Fin.ext (by show c.val / 64 * 64 + c.val % 64 = c.val; omega)
theorem hd_colAt (h : Fin 8) (d : Fin 64) : hd (colAt h d) = h := Fin.ext (by have := d.isLt; show (h.val * 64 + d.val) / 64 = h.val; omega)
theorem inHd_colAt (h : Fin 8) (d : Fin 64) : inHd (colAt h d) = d := Fin.ext (by have := d.isLt; show (h.val * 64 + d.val) % 64 = d.val; omega)
theorem rowAt_blk (i : Fin 2048) : rowAt (blkOf i) (inBlk i) = i := Fin.ext (by show 128 * (i.val / 128) + i.val % 128 = i.val; omega)
theorem blk_rowAt (n : Fin 16) (p : Fin 128) : blkOf (rowAt n p) = n := Fin.ext (by have := p.isLt; show (128 * n.val + p.val) / 128 = n.val; omega)
theorem inBlk_rowAt (n : Fin 16) (p : Fin 128) : inBlk (rowAt n p) = p := Fin.ext (by have := p.isLt; show (128 * n.val + p.val) % 128 = p.val; omega)

theorem sum_head (F : Fin 512 → ℝ) (h : Fin 8) : ∑ c : Fin 512, (if hd c = h then F c else 0) = ∑ d : Fin 64, F (colAt h d) := by
  rw [← Finset.sum_filter]
  refine Finset.sum_bij' (fun c _ => inHd c) (fun d _ => colAt h d) (fun _ _ => Finset.mem_univ _) (fun d _ => Finset.mem_filter.mpr ⟨Finset.mem_univ _, hd_colAt h d⟩)
    (fun c hc => ?_) (fun d _ => inHd_colAt h d) (fun c hc => ?_)
  all_goals
    have e := (Finset.mem_filter.mp hc).2
    rw [← e, colAt_hd]

theorem sum_rows (F : Fin 2048 → ℝ) : ∑ r : Fin 2048, F r = ∑ n : Fin 16, ∑ p : Fin 128, F (rowAt n p) := by
  rw [← Fintype.sum_prod_type']
  refine Finset.sum_bij' (fun r _ => (blkOf r, inBlk r)) (fun x _ => rowAt x.1 x.2) (fun _ _ => Finset.mem_univ _) (fun _ _ => Finset.mem_univ _)
    (fun r _ => rowAt_blk r) (fun x _ => Prod.ext (blk_rowAt x.1 x.2) (inBlk_rowAt x.1 x.2)) (fun r _ => by dsimp only; rw [rowAt_blk])

/-- An array with the rows split in blocks and the columns in heads, and back. -/
theorem cast4 (f : Mat 2048 512) (h : S2048x512.ShapeCasts S16x128x8x64) :
    shapeCast S16x128x8x64 (up (φ := .f32) f) h = up (s := S16x128x8x64) (φ := .f32) fun j => f (mk2 (rowAt (j 0) (j 1)) (colAt (j 2) (j 3))) :=
  funext fun j => shapeCast_apply _ _ _ (mk2 (rowAt (j 0) (j 1)) (colAt (j 2) (j 3))) (by
    rw [Shape.rowMajor_val_two, Shape.rowMajor_val_four]
    show (128 * (j 0).val + (j 1).val) * 512 + ((j 2).val * 64 + (j 3).val) = (((j 0).val * 128 + (j 1).val) * 8 + (j 2).val) * 64 + (j 3).val
    omega)
theorem uncast4 (F : FVec Ideal S16x128x8x64 .f32) (h : S16x128x8x64.ShapeCasts S2048x512) :
    shapeCast S2048x512 F h = fun j => F (mk4 (blkOf (j 0)) (inBlk (j 0)) (hd (j 1)) (inHd (j 1))) :=
  funext fun j => shapeCast_apply _ _ _ (mk4 (blkOf (j 0)) (inBlk (j 0)) (hd (j 1)) (inHd (j 1))) (by
    rw [Shape.rowMajor_val_two, Shape.rowMajor_val_four]
    show ((((j 0).val / 128) * 128 + (j 0).val % 128) * 8 + (j 1).val / 64) * 64 + (j 1).val % 64 = (j 0).val * 512 + (j 1).val
    omega)

/-- The order of axes a product by head leaves, turned back. -/
theorem back4 (f : S8x16x64x128.Idx → ℝ) (h : S8x16x64x128.Transposes [1, 3, 0, 2] S16x128x8x64) :
    transpose S16x128x8x64 [1, 3, 0, 2] (up (φ := .f32) f) h = up (s := S16x128x8x64) (φ := .f32) fun j => f (mk4 (j 2) (j 0) (j 3) (j 1)) :=
  transpose_up _ f h (fun j => mk4 (k := 8) (l := 16) (m := 64) (n := 128) (j 2) (j 0) (j 3) (j 1))
    fun j b => by match b with | ⟨0, _⟩ => rfl | ⟨1, _⟩ => rfl | ⟨2, _⟩ => rfl | ⟨3, _⟩ => rfl
/-- The sum over the blocks and over a head's columns. -/
theorem sum03 (f : S16x128x8x64.Idx → ℝ) (h : S16x128x8x64.ReducesTo [0, 3] S128x8) (hu : 0 < S_.numel) :
    Host.reduceAdd (up (φ := .f32) f) (up (s := S_) (φ := .f32) fun _ => 0) h hu
      = up (s := S128x8) (φ := .f32) fun j => ∑ x : Fin 16 × Fin 64, f (mk4 x.1 (j 0) (j 1) x.2) := by
  refine hsum_up (κ := Fin 16 × Fin 64) f h hu (fun j x => mk4 (k := 16) (l := 128) (m := 8) (n := 64) x.1 (j 0) (j 1) x.2) (fun i => (i 0, i 3)) ?_ ?_ ?_
  · exact fun j x => ext2 rfl rfl
  · exact fun j x => rfl
  · exact fun i => ext4 rfl rfl rfl rfl

/-! ## The stages -/

variable (P : Mat 2048 3584) (D : Mat 2048 512) (g b : Fin 512 → ℝ) (W : Cube 8 128 128) (b4 : FVec Ideal S8x128 .f32)

abbrev xP : FVec Ideal S2048x3584 .f32 := up P
abbrev xg (g : Fin 512 → ℝ) : FVec Ideal S512 .f32 := up fun j => g (j 0)
/-- The gate of every row, the gradient of its mixed form and of itself. -/
abbrev G : Mat 2048 512 := gate (vP P) g b
abbrev dS : Mat 2048 512 := fun j => D j * uP P j
abbrev dG : Mat 2048 512 := fun j => dgate W (dsB P D (blkOf (j 0))) (mk2 (inBlk (j 0)) (j 1))
abbrev V : Mat 2048 512 := fun j => dG P D W j * g (j 1)

theorem v1 : val_main_v1 (F := Ideal) (xP P) = up (φ := .f32) (uP P) := by
  unfold val_main_v1 val_main_v0
  rw [slice_cols, slice_cols]
  exact up_ext2 fun r k => congrArg P (ext2 rfl (by show 2560 + (0 + k.val) = 2560 + k.val; omega))
theorem v2 : val_main_v2 (F := Ideal) (xP P) = up (φ := .f32) (vP P) := by
  unfold val_main_v2 val_main_v0
  rw [slice_cols, slice_cols]
  exact up_ext2 fun r k => congrArg P (ext2 rfl (by show 2560 + (512 + k.val) = 3072 + k.val; omega))
theorem v8 : val_main_v8 (F := Ideal) (xP P) = up (φ := .f32) (cent (vP P)) := by
  unfold val_main_v8 val_main_v7 val_main_v6 val_main_v4 val_main_v3
  rw [v2]
  exact r_cent lit_512 ne512 (vP P) ..
theorem v15 : val_main_v15 (F := Ideal) (xP P) = up (s := S2048x1) (φ := .f32) fun j => ms (cent (vP P)) (j 0) := by
  unfold val_main_v15 val_main_v13 val_main_v11 val_main_v10 val_main_v9
  rw [v8]
  exact r_ms lit_512 ne512 _ ..
theorem v16 : val_main_v16 (F := Ideal) (xP P) = up (s := S2048x1) (φ := .f32) fun j => rinv (cent (vP P)) (j 0) := by
  unfold val_main_v16
  rw [v15]
  exact r_rinv _
theorem v19 : val_main_v19 (F := Ideal) (xP P) = up (s := S2048x1) (φ := .f32) fun j =>
    -(1 / 2) * (rinv (cent (vP P)) (j 0) * (rinv (cent (vP P)) (j 0) * rinv (cent (vP P)) (j 0))) := by
  unfold val_main_v19 val_main_v17
  rw [v16, v15]
  exact r_half _ _
theorem v21 : val_main_v21 (F := Ideal) (xP P) = up (s := S2048x512) (φ := .f32) fun j => xhat (cent (vP P)) (j 0) (j 1) := by
  unfold val_main_v21 val_main_v20
  rw [v8, v16]
  exact r_xhat _ _
theorem v27 : val_main_v27 (F := Ideal) (xP P) (xg g) (xg b) = up (φ := .f32) (G P g b) := by
  unfold val_main_v27 val_main_v26 val_main_v25 val_main_v24 val_main_v23 val_main_v22
  rw [v21]
  simp -index only [host_vec_row_up, host_row_up, mulf_up, addf_up, mk1_0, mk2_1]
  rfl
theorem v28 : val_main_v28 (F := Ideal) (xP P) (xg g) (xg b)
    = up (s := S16x128x8x64) (φ := .f32) fun j => G P g b (mk2 (rowAt (j 0) (j 1)) (colAt (j 2) (j 3))) := by
  unfold val_main_v28
  rw [v27]
  exact cast4 _ _

theorem tri (j : S8x128x128.Idx) : val_main_v33_1 (F := Ideal) j = 1#1 ↔ (j 2).val ≤ (j 1).val :=
  (by decide +kernel : ∀ r k : Fin 128, Scalar.select (IntOp.cmpi .sge (IntOp.addi (BitVec.ofNat 32 r.val) 0#32) (BitVec.ofNat 32 k.val)) 1#1 0#1 = 1#1 ↔ k.val ≤ r.val) (j 1) (j 2)
theorem v33 : val_main_v33_0 (F := Ideal) (up (φ := .f32) W) = up (s := S8x128x128) (φ := .f32) fun j => low W (j 0) (j 1) (j 2) := by
  unfold val_main_v33_0 val_main_v32 val_main_cst_5
  simp -index only [constant_up lit_zero, host_scalar_up, select_up]
  exact up_ext3 fun h r k => if_congr (tri _) rfl rfl

theorem v34 : val_main_v34 (F := Ideal) (xP P) (xg g) (xg b) (up (φ := .f32) W) = up (s := S8x16x64x128) (φ := .f32) fun j =>
    ∑ q : Fin 128, G P g b (mk2 (rowAt (j 1) q) (colAt (j 0) (j 2))) * low W (j 0) (j 3) q := by
  unfold val_main_v34
  rw [v28, v33]
  refine hdot_up dot_S16x128x8x64_S8x128x128_S8x16x64x128_1_2_03_1_2_0 rfl (K := 128) rfl _ _
    (fun j k => mk4 (k := 16) (l := 128) (m := 8) (n := 64) (j 1) k (j 0) (j 2)) (fun j k => mk3 (l := 8) (m := 128) (n := 128) (j 0) (j 3) k) ?_ ?_
  · exact fun j k => ext4 rfl rfl rfl rfl
  · exact fun j k => ext3 rfl rfl rfl
theorem v35 : val_main_v35 (F := Ideal) (xP P) (xg g) (xg b) (up (φ := .f32) W) = up (s := S16x128x8x64) (φ := .f32) fun j =>
    ∑ q : Fin 128, G P g b (mk2 (rowAt (j 0) q) (colAt (j 2) (j 3))) * low W (j 2) (j 1) q := by
  unfold val_main_v35
  rw [v34]
  exact back4 _ _

theorem v38 (j : S16x128x8x64.Idx) : val_main_v38 (F := Ideal) b4 j = b4 (mk2 (j 2) (j 1)) := by
  unfold val_main_v38 val_main_v37 val_main_v36
  refine (broadcastInDim_apply _ _ _ _ (mk4 (k := 1) (l := 128) (m := 8) (n := 1) 0 (j 1) (j 2) 0) fun a => ?_).trans
    ((broadcastInDim_apply _ _ _ _ (mk2 (m := 128) (n := 8) (j 1) (j 2)) fun a => ?_).trans (ValueIdx.transpose_ix2_apply _ _ _ _))
  · match a with
    | ⟨0, _⟩ => rfl
    | ⟨1, _⟩ => rfl
    | ⟨2, _⟩ => rfl
    | ⟨3, _⟩ => rfl
  · match a with
    | ⟨0, _⟩ => rfl
    | ⟨1, _⟩ => rfl

theorem v43 (r : Fin 2048) (k : Fin 512) : val_main_v43 (F := Ideal) (xP P) (xg g) (xg b) (up (φ := .f32) W) b4 (up (φ := .f32) D) (mk2 r k)
    = ((D (mk2 r k) : ℝ) : EReal) * (b4 (mk2 (hd k) (inBlk r)) + ((mixed W (gateB P g b (blkOf r)) (mk2 (inBlk r) k) : ℝ) : EReal)) := by
  unfold val_main_v43 val_main_v40 val_main_v39
  rw [v35, uncast4]
  refine congrArg (((D (mk2 r k) : ℝ) : EReal) * ·) ((add_comm _ _).trans (congrArg₂ (· + ·) (v38 b4 _) (congrArg (fun x : ℝ => (x : EReal)) ?_)))
  refine Finset.sum_congr rfl fun q _ => (mul_comm _ _).trans (congrArg (low W (hd k) (inBlk r) q * ·) ?_)
  exact congrArg (fun k => G P g b (mk2 (rowAt (blkOf r) q) k)) (colAt_hd k)

theorem v44 : val_main_v44 (F := Ideal) (xP P) (up (φ := .f32) D)
    = up (s := S16x128x8x64) (φ := .f32) fun j => dS P D (mk2 (rowAt (j 0) (j 1)) (colAt (j 2) (j 3))) := by
  unfold val_main_v44 val_main_v42
  rw [v1, mulf_up]
  refine (cast4 _ _).trans (congrArg up (funext fun j => mul_comm _ _))

theorem v45 : val_main_v45 (F := Ideal) (xP P) (up (φ := .f32) D)
    = up (s := S128x8) (φ := .f32) fun j => ∑ x : Fin 16 × Fin 64, dS P D (mk2 (rowAt x.1 (j 0)) (colAt (j 1) x.2)) := by
  unfold val_main_v45 val_main_cst_6
  rw [v44, constant_up lit_zero]
  exact sum03 _ _ _
theorem v47 : val_main_v47 (F := Ideal) (xP P) (up (φ := .f32) D)
    = up (s := S128x8) (φ := .f32) fun j => ∑ x : Fin 16 × Fin 64, dS P D (mk2 (rowAt x.1 (j 0)) (colAt (j 1) x.2)) := by
  have e : val_main_v46 (F := Ideal) (xP P) (up (φ := .f32) D)
      = up (s := S1x128x8x1) (φ := .f32) fun j => ∑ x : Fin 16 × Fin 64, dS P D (mk2 (rowAt x.1 (j 1)) (colAt (j 2) x.2)) := by
    unfold val_main_v46
    rw [v45]
    exact funext fun j => shapeCast_apply _ _ _ (mk2 (m := 128) (n := 8) (j 1) (j 2)) (by
      rw [Shape.rowMajor_val_two, Shape.rowMajor_val_four]
      have h0 : (j 0).val < 1 := (j 0).isLt
      have h3 : (j 3).val < 1 := (j 3).isLt
      show (j 1).val * 8 + (j 2).val = (((j 0).val * 128 + (j 1).val) * 8 + (j 2).val) * 1 + (j 3).val
      omega)
  unfold val_main_v47 val_main_cst_7
  rw [e, constant_up lit_zero]
  refine (hsum_up (κ := Unit) _ _ _ (fun j x => mk4 (k := 1) (l := 128) (m := 8) (n := 1) 0 (j 0) (j 1) 0) (fun i => ()) ?_ ?_ ?_).trans ?_
  · exact fun j x => ext2 rfl rfl
  · exact fun j x => rfl
  · exact fun i => ext4 (by have : (i 0).val < 1 := (i 0).isLt; show 0 = (i 0).val; omega) rfl rfl (by have : (i 3).val < 1 := (i 3).isLt; show 0 = (i 3).val; omega)
  · exact congrArg up (funext fun j => Finset.sum_const _ |>.trans (one_smul _ _))
theorem v48 : val_main_v48 (F := Ideal) (xP P) (up (φ := .f32) D) = resB P D := by
  unfold val_main_v48
  rw [v47]
  refine (transpose_up (t := S8x128) _ _ _ (fun j => mk2 (m := 128) (n := 8) (j 1) (j 0)) (fun j b => ?_)).trans ?_
  · match b with
    | ⟨0, _⟩ => rfl
    | ⟨1, _⟩ => rfl
  refine congrArg up (funext fun j => ?_)
  rw [Fintype.sum_prod_type]
  refine Finset.sum_congr rfl fun n _ => ?_
  unfold dbias
  simp only [ite_mul, one_mul, zero_mul]
  exact (sum_head (fun c => dsB P D n (mk2 (j 1) c)) (j 0)).symm

theorem v49 : val_main_v49 (F := Ideal) (xP P) (up (φ := .f32) D)
    = up (s := S8x16x64x128) (φ := .f32) fun j => dS P D (mk2 (rowAt (j 1) (j 3)) (colAt (j 0) (j 2))) := by
  unfold val_main_v49
  rw [v44]
  refine (transpose_up (t := S8x16x64x128) _ _ _ (fun j => mk4 (k := 16) (l := 128) (m := 8) (n := 64) (j 1) (j 3) (j 0) (j 2)) (fun j b => ?_)).trans rfl
  match b with
  | ⟨0, _⟩ => rfl
  | ⟨1, _⟩ => rfl
  | ⟨2, _⟩ => rfl
  | ⟨3, _⟩ => rfl
theorem v53 : val_main_v53 (F := Ideal) (xP P) (xg g) (xg b) (up (φ := .f32) D) = resW P D g b := by
  have e : val_main_v50 (F := Ideal) (xP P) (xg g) (xg b) (up (φ := .f32) D) = up (s := S8x128x128) (φ := .f32) fun j =>
      ∑ n : Fin 16, ∑ d : Fin 64, dS P D (mk2 (rowAt n (j 1)) (colAt (j 0) d)) * G P g b (mk2 (rowAt n (j 2)) (colAt (j 0) d)) := by
    unfold val_main_v50
    rw [v49, v28]
    refine hdot2_up dot_S8x16x64x128_S16x128x8x64_S8x128x128_12_03_3_1_0_2 rfl (K₁ := 16) (K₂ := 64) rfl rfl _ _
      (fun j n d => mk4 (k := 8) (l := 16) (m := 64) (n := 128) (j 0) n d (j 1)) (fun j n d => mk4 (k := 16) (l := 128) (m := 8) (n := 64) n (j 2) (j 0) d) ?_ ?_
    · exact fun j k l => ext4 rfl rfl rfl rfl
    · exact fun j k l => ext4 rfl rfl rfl rfl
  unfold val_main_v53 val_main_call2_v0 val_main_call2_cst
  rw [e]
  simp -index only [constant_up lit_zero, host_scalar_up, select_up]
  refine up_ext3 fun h r k => ?_
  refine (if_congr (tri _) rfl rfl).trans ?_
  unfold dweight
  dsimp only [mk3_0, mk3_1, mk3_2]
  split
  · refine Finset.sum_congr rfl fun n _ => ?_
    simp only [ite_mul, zero_mul]
    exact (sum_head (fun c => dsB P D n (mk2 r c) * gateB P g b n (mk2 k c)) h).symm
  · exact (Finset.sum_const_zero).symm

theorem v54 : val_main_v54 (F := Ideal) (xP P) (up (φ := .f32) W) (up (φ := .f32) D) = up (φ := .f32) (dG P D W) := by
  have e : val_main_v51 (F := Ideal) (xP P) (up (φ := .f32) W) (up (φ := .f32) D) = up (s := S8x16x64x128) (φ := .f32) fun j =>
      ∑ i : Fin 128, dS P D (mk2 (rowAt (j 1) i) (colAt (j 0) (j 2))) * low W (j 0) i (j 3) := by
    unfold val_main_v51
    rw [v49, v33]
    refine hdot_up dot_S8x16x64x128_S8x128x128_S8x16x64x128_3_1_12_2_0_0 rfl (K := 128) rfl _ _
      (fun j k => mk4 (k := 8) (l := 16) (m := 64) (n := 128) (j 0) (j 1) (j 2) k) (fun j k => mk3 (l := 8) (m := 128) (n := 128) (j 0) k (j 3)) ?_ ?_
    · exact fun j k => ext4 rfl rfl rfl rfl
    · exact fun j k => ext3 rfl rfl rfl
  unfold val_main_v54 val_main_v52
  rw [e]
  refine (congrArg (fun y => shapeCast S2048x512 y _) (back4 _ _)).trans ((uncast4 _ _).trans ?_)
  funext j
  refine congrArg (fun x : ℝ => (x : EReal)) (Finset.sum_congr rfl fun i _ => (mul_comm _ _).trans (congrArg (low W (hd (j 1)) i (inBlk (j 0)) * ·) ?_))
  exact congrArg (fun k => dS P D (mk2 (rowAt (blkOf (j 0)) i) k)) (colAt_hd (j 1))

theorem v89 : val_main_v89 (F := Ideal) (xP P) (up (φ := .f32) W) (up (φ := .f32) D) = resL P D W := by
  unfold val_main_v89 val_main_v57 val_main_v56 val_main_v55 val_main_cst_8 val_main_cst_9
  rw [v54]
  simp -index only [constant_up lit_zero, hostColSum_up, cast_row_up, mk1_0, mk2_0, mk2_1, Fin.sum_univ_one]
  refine congrArg up (funext fun j => ?_)
  refine (sum_rows _).trans (Finset.sum_congr rfl fun n _ => Finset.sum_congr rfl fun p _ => ?_)
  unfold dG
  rw [mk2_0, mk2_1]
  rw [blk_rowAt, inBlk_rowAt]
theorem v88 : val_main_v88 (F := Ideal) (xP P) (up (φ := .f32) W) (up (φ := .f32) D) = resG P D W := by
  unfold val_main_v88 val_main_v63 val_main_v60 val_main_v59 val_main_v58
  rw [v54, v21]
  refine (congrArg (fun y => shapeCast S1x512 y _) (r_dg (cent (vP P)) (dG P D W) ..)).trans ((cast_row_up _ _).trans (congrArg up (funext fun j => ?_)))
  refine (sum_rows _).trans (Finset.sum_congr rfl fun n _ => Finset.sum_congr rfl fun p _ => ?_)
  unfold dgRow dG
  dsimp only [mk2_0, mk2_1, mk1_0]
  rw [blk_rowAt, inBlk_rowAt]
  rfl

theorem v62 : val_main_v62 (F := Ideal) (xP P) (xg g) (up (φ := .f32) W) (up (φ := .f32) D) = up (φ := .f32) (V P D g W) := by
  unfold val_main_v62 val_main_v61 val_main_v22
  rw [v54]
  exact r_scale _ _ _ _
theorem v73 : val_main_v73 (F := Ideal) (xP P) (xg g) (up (φ := .f32) W) (up (φ := .f32) D) = up (s := S2048x512) (φ := .f32) fun j =>
    (∑ l : Fin 512, cent (vP P) (mk2 (j 0) l) * V P D g W (mk2 (j 0) l))
      * (-(1 / 2) * (rinv (cent (vP P)) (j 0) * (rinv (cent (vP P)) (j 0) * rinv (cent (vP P)) (j 0)))) / ((512 : ℕ) : ℝ) := by
  unfold val_main_v73 val_main_v72 val_main_v71 val_main_v69 val_main_v66 val_main_v65 val_main_v64
  rw [v62, v19, v8]
  exact r_mean lit_512 ne512 (cent (vP P)) _ ..
theorem v77 : val_main_v77 (F := Ideal) (xP P) (xg g) (up (φ := .f32) W) (up (φ := .f32) D)
    = up (s := S2048x512) (φ := .f32) fun j => dxv (V P D g W) (cent (vP P)) (j 0) (j 1) := by
  unfold val_main_v77 val_main_v76 val_main_v75 val_main_v74 val_main_v68 val_main_v67
  rw [v62, v16, v8]
  exact r_dxv (cent (vP P)) _ _ (v73 P D g W)
theorem v85 : val_main_v85 (F := Ideal) (xP P) (xg g) (up (φ := .f32) W) (up (φ := .f32) D)
    = up (s := S2048x512) (φ := .f32) fun j => lnv (V P D g W) (vP P) (j 0) (j 1) := by
  unfold val_main_v85 val_main_v84 val_main_v83 val_main_v82 val_main_v80 val_main_v79 val_main_v78
  rw [v77]
  exact r_lnv lit_512 ne512 _ _ ..

/-- The norm's gradient stays in its row. -/
theorem lnv_rows (V X : Mat 2048 512) (n : Fin 16) (p : Fin 128) (k : Fin 512) : lnv V X (rowAt n p) k = lnv (rows V n) (rows X n) p k := rfl

theorem v87 : val_main_v87 (F := Ideal) (xP P) (xg g) (xg b) (up (φ := .f32) W) b4 (up (φ := .f32) D) = resX P D g b W b4 := by
  unfold val_main_v87 val_main_v86
  funext j
  rw [show ∀ x : FVec Ideal S2048x1024 .f32, truncf .bf16 x bitsLt_bf16_f32 j = x j from fun _ => rfl]
  have hj : (j 1).val < 1024 := (j 1).isLt
  unfold resX
  by_cases h : (j 1).val < 512
  · rw [dif_pos h]
    exact (concatenate_pair_apply_left (s₁ := S2048x512) (s₂ := S2048x512) 1 _ _ _ j rfl (mk2 (j 0) ⟨(j 1).val, h⟩) fun b => by match b with | ⟨0, _⟩ => rfl | ⟨1, _⟩ => rfl).trans
      (v43 P D g b W b4 (j 0) ⟨(j 1).val, h⟩)
  · rw [dif_neg h]
    refine (concatenate_pair_apply_right (s₁ := S2048x512) (s₂ := S2048x512) 1 _ _ _ j rfl rfl (mk2 (j 0) ⟨(j 1).val - 512, by omega⟩)
      (fun b hb => by match b with | ⟨0, _⟩ => rfl | ⟨1, _⟩ => exact absurd rfl hb) (Nat.sub_add_cancel (Nat.le_of_not_lt h))).trans ?_
    rw [v85]
    refine congrArg (fun x : ℝ => (x : EReal)) ?_
    dsimp only [mk2_0, mk2_1]
    have e := lnv_rows (V P D g W) (vP P) (blkOf (j 0)) (inBlk (j 0)) ⟨(j 1).val - 512, by omega⟩
    rw [rowAt_blk] at e
    refine e.trans (congrArg (fun v => lnv v _ _ _) (funext fun i => ?_))
    show dgate W (dsB P D (blkOf (rowAt (blkOf (j 0)) (i 0)))) (mk2 (inBlk (rowAt (blkOf (j 0)) (i 0))) (i 1)) * g (i 1) = _
    rw [blk_rowAt, inBlk_rowAt]
    exact congrArg (dgate W _ · * _) (eq_mk2 i).symm

end Cert.SguRef

end
-- ==== Proof.SguFClaim.lean ====
/-
  The value claim about the gated mixer's forward call, of any arguments: extended reals throughout, no entry need be finite.
-/
module

public import proofs.«01_k».proof.Defs
public import proofs.«01_k».proof.Proof.Rowwise
public import proofs.«01_k».proof.Proof.SguRef
public import proofs.«01_k».proof.Proof.Gen.SguFwdIdeal.Value
public import proofs.«01_k».proof.Proof.Gen.SguFwdRefIdeal.Read

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.SguFKernel

open Cert.Reals Cert.Norm Cert.Prods Cert.Rowwise Cert.SguFwdIdeal Cert.SguFwdIdeal.Gen
open Cert.SguKernel (hd rowAt blkOf inBlk heads rW)

abbrev Rows (n : ℕ) := (⟨2, ![n, 512]⟩ : Shape).Idx → EReal

/-- The rows less their means. -/
def cen {n : ℕ} (x : Rows n) : Rows n := fun j => x j - mean 0x44000000#32 x (j 0)
/-- The normalised, scaled and shifted gate. -/
def gateE {n : ℕ} (x : Rows n) (g b : Fin 512 → EReal) : Rows n := fun j => rms 0x44000000#32 (cen x) g j + b (j 1)
/-- A row's gate is made of that row alone. -/
theorem gate_row {n k : ℕ} (x : Rows n) (y : Rows k) (g b : Fin 512 → EReal) (r : Fin n) (s : Fin k) (hv : ∀ q : Fin 512, x (mk2 r q) = y (mk2 s q)) (q : Fin 512) :
    gateE x g b (mk2 r q) = gateE y g b (mk2 s q) := by
  have hm : mean 0x44000000#32 x r = mean 0x44000000#32 y s := congrArg (Ideal.div · _) (Finset.sum_congr rfl fun q _ => hv q)
  have hc : ∀ q : Fin 512, cen x (mk2 r q) = cen y (mk2 s q) := fun q => congrArg₂ (· - ·) (hv q) hm
  have hr : rn 0x44000000#32 (cen x) r = rn 0x44000000#32 (cen y) s := congrArg (fun y => Ideal.rsqrt (Ideal.div y _ + _)) (Finset.sum_congr rfl fun q _ => congrArg₂ (· * ·) (hc q) (hc q))
  exact congrArg (· + b q) (congrArg (· * g q) (congrArg₂ (· * ·) (hc q) hr))
/-- Head `h`'s weights on and below the diagonal. -/
def lowE (W : S8x128x128.Idx → EReal) (h : Fin 8) (r k : Fin 128) : EReal := if k.val ≤ r.val then W (mk3 h r k) else 0
/-- A block's gate mixed along its rows. -/
def mixE (W : S8x128x128.Idx → EReal) (V : Rows 128) : Rows 128 := fun j => ∑ k : Fin 128, lowE W (hd (j 1)) (j 0) k * V (mk2 k (j 1))

/-! ## One block -/

theorem gate_eq (x : FVec Ideal S128x512 .f32) (g b : FVec Ideal S1x512 .f32) :
    k0_pay3 (F := Ideal) x g b = (gateE x (fun k => g (mk2 0 k)) fun k => b (mk2 0 k) : FVec Ideal S128x512 .bf16) := by
  unfold k0_pay3
  dsimp only
  simp only [shapeCast_self]
  rw [k_mean 0x44000000#32, k_col, k_row b]
  refine (congrArg (fun y => truncf .bf16 (addf y _) _) (k_rms 0x44000000#32 _ g _ _ _ _ _ _ _)).trans ?_
  rfl

theorem low_eq (W : FVec Ideal S8x128x128 .f32) (h : ℕ) (hh : h < 8) :
    k0_pay8 (F := Ideal) k0_pay4 (View.ld (Val := Elt Ideal) (e' := .f32) W (rW h hh)) = (fun j => lowE W ⟨h, hh⟩ (j 0) (j 1) : FVec Ideal S128x128 .bf16) := by
  funext j
  have e : shapeCast S128x128 (View.ld (Val := Elt Ideal) (e' := .f32) W (rW h hh)) shapeCasts_S1x128x128_S128x128 j = W (mk3 (l := 8) (m := 128) (n := 128) ⟨h, hh⟩ (j 0) (j 1)) := by
    refine (shapeCast_apply _ _ j (mk3 (l := 1) (m := 128) (n := 128) 0 (j 0) (j 1)) ?_).trans ?_
    · rw [Shape.rowMajor_val_three, Shape.rowMajor_val_two]
      show (0 * 128 + (j 0).val) * 128 + (j 1).val = (j 0).val * 128 + (j 1).val
      omega
    · exact congrArg W (ext3 (by show h + 1 * 0 = h; omega) (by show 0 + 1 * (j 0).val = (j 0).val; omega) (by show 0 + 1 * (j 1).val = (j 1).val; omega))
  show (if IntOp.cmpi .sle _ _ = 1#1 then shapeCast S128x128 _ shapeCasts_S1x128x128_S128x128 j else Ideal.ofBits .f32 0x00000000#32) = _
  rw [e]
  refine if_congr ?_ rfl Ideal.ofBits_zero_f32
  exact (by decide +kernel : ∀ a b : Fin 128, IntOp.cmpi .sle (BitVec.ofNat 32 (0 * 128 + a.val)) (BitVec.ofNat 32 (0 * 128 + b.val)) = 1#1 ↔ a.val ≤ b.val) (j 1) (j 0)

/-- Head `h`'s part of the mixed gate, as the kernel adds it. -/
abbrev part (A : FVec Ideal S128x128 .bf16) (V : FVec Ideal S128x512 .bf16) (h : ℕ) : FVec Ideal S128x512 .f32 :=
  select (cmpi .eq heads (broadcast S128x512 (BitVec.ofNat 32 h))) (matmul dot_S128x128_S128x512_S128x512_1_0_0_1_n_n none A V (constant S128x512 .f32 0x00000000#32))
    (broadcast S128x512 (Scalar.ofBits (F := Ideal) .f32 0x00000000#32))

theorem part_eq (W : FVec Ideal S8x128x128 .f32) (V : FVec Ideal S128x512 .bf16) (h : ℕ) (hh : h < 8) (j : S128x512.Idx) :
    part (k0_pay8 (F := Ideal) k0_pay4 (View.ld (Val := Elt Ideal) (e' := .f32) W (rW h hh))) V h j
      = if (hd (j 1)).val = h then ∑ k : Fin 128, lowE W ⟨h, hh⟩ (j 0) k * V (mk2 k (j 1)) else 0 := by
  have h1 : (j 1).val < 512 := (j 1).isLt
  rw [low_eq]
  unfold part
  refine if_congr ?_ (congrFun (k_dot (M := 128) (K := 128) (N := 512) (φ₁ := .bf16) (φ₂ := .bf16) _ V) j) Ideal.ofBits_zero_f32
  show IntOp.cmpi .eq (heads j) (BitVec.ofNat 32 h) = 1#1 ↔ (j 1).val / 64 = h
  rw [SguKernel.heads_apply]
  exact SguKernel.word_eq _ _ (by omega) (by omega)

/-- Of eight numbers, each kept for one head, the column's own is what is left. -/
theorem pick (B : EReal) (n : Fin 8) (a : Fin 8 → EReal) :
    B + (if n.val = 0 then a 0 else 0) + (if n.val = 1 then a 1 else 0) + (if n.val = 2 then a 2 else 0) + (if n.val = 3 then a 3 else 0)
      + (if n.val = 4 then a 4 else 0) + (if n.val = 5 then a 5 else 0) + (if n.val = 6 then a 6 else 0) + (if n.val = 7 then a 7 else 0) = B + a n := by
  fin_cases n <;> simp

set_option maxHeartbeats 1600000 in
theorem out6 (u v B : FVec Ideal S128x512 .f32) (g b : FVec Ideal S1x512 .f32) (W : FVec Ideal S8x128x128 .f32) :
    out0_6 (F := Ideal) u v g b W B = fun j => u j * (B j + mixE W (gateE v (fun k => g (mk2 0 k)) fun k => b (mk2 0 k)) j) := by
  unfold_out out0_6
  rw [View.canon_unit_zero (S := S128x512) hz2, View.ld_unit_zero (S := S128x512) hz2, View.ld_unit_zero (S := S128x512) hz2, View.ld_unit_zero (S := S128x512) hz2,
    View.ld_unit_zero (S := S1x512) hz2, View.ld_unit_zero (S := S1x512) hz2, gate_eq]
  unfold k0_pay1 k0_pay16 k0_pay17
  dsimp only
  rw [shapeCast_self]
  funext j
  refine congrArg (u j * ·) ?_
  let V : FVec Ideal S128x512 .bf16 := gateE v (fun k => g (mk2 0 k)) fun k => b (mk2 0 k)
  let p (h : ℕ) (hh : h < 8) : EReal := part (k0_pay8 (F := Ideal) k0_pay4 (View.ld (Val := Elt Ideal) (e' := .f32) W (rW h hh))) V h j
  show B j + p 0 (by decide) + p 1 (by decide) + p 2 (by decide) + p 3 (by decide) + p 4 (by decide) + p 5 (by decide) + p 6 (by decide) + p 7 (by decide) = _
  dsimp only [p]
  rw [part_eq, part_eq, part_eq, part_eq, part_eq, part_eq, part_eq, part_eq]
  exact pick (B j) (hd (j 1)) fun h => ∑ k : Fin 128, lowE W h (j 0) k * V (mk2 k (j 1))

/-! ## The blocks and the result -/

variable (m : (ℓ : Loc nD τ sig) → Buf (Elt Ideal) ℓ) (c : Dev nD)

theorem index : ∀ t : Fin cfg0.N, (win0_0.index t 0 = t.val ∧ win0_0.index t 1 = 5) ∧ (win0_1.index t 0 = t.val ∧ win0_1.index t 1 = 6)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) :=
  (by decide +kernel : ∀ t : Fin grid0.N, _)
/-- A point's number. -/
def bl (t : Fin cfg0.N) : Fin 16 := ⟨t.val, lt_of_lt_of_eq t.isLt (show cfg0.N = 16 from N_0)⟩
/-- The point whose block holds row `i`. -/
def pt (i : Fin 2048) : Fin cfg0.N := ⟨i.val / 128, by rw [show cfg0.N = 16 from N_0]; have := i.isLt; omega⟩

/-- Block `n`'s rows, 512 columns from `o` on. -/
def cut (x : S2048x3584.Idx → EReal) (o : ℕ) (ho : o + 512 ≤ 3584) (n : Fin 16) : Rows 128 := fun j =>
  x (mk2 (rowAt n (j 0)) ⟨o + (j 1).val, by have h : (j 1).val < 512 := (j 1).isLt; omega⟩)

abbrev x0 : FVec Ideal S2048x3584 .f32 := m (c.tc.loc main_arg0)
abbrev gain (k : Fin 512) : EReal := m (c.tc.loc main_arg1) (mk1 k)
abbrev shift (k : Fin 512) : EReal := m (c.tc.loc main_arg2) (mk1 k)
abbrev wts : FVec Ideal S8x128x128 .f32 := m (c.tc.loc main_arg3)
abbrev bias : FVec Ideal S8x128 .f32 := m (c.tc.loc main_arg4)

theorem V0 : V m c main_v0 = shapeCast S1x512 (m (c.tc.loc main_arg1)) shapeCasts_S512_S1x512 := by
  show StableHlo.after hostOps0 (fun b => m (c, b)) main_v0 = _
  after_results_simp
  rfl
theorem V1 : V m c main_v1 = shapeCast S1x512 (m (c.tc.loc main_arg2)) shapeCasts_S512_S1x512 := by
  show StableHlo.after hostOps0 (fun b => m (c, b)) main_v1 = _
  after_results_simp
  rfl
theorem V4 : V m c main_v4 = shapeCast S128x512 (broadcastInDim S128x8x64 ![0, 1] bcast_S128x8_S128x8x64_0_1 (transpose S128x8 [1, 0] (bias m c) transposes_S8x128_S128x8_1_0))
    shapeCasts_S128x8x64_S128x512 := by
  show StableHlo.after hostOps0 (fun b => m (c, b)) main_v4 = _
  after_results_simp
  rfl

theorem read_cut (o : ℕ) (ho) (k : ℕ) (hk : 512 * k = o) (t : Fin cfg0.N) (i : Fin 2 → ℕ) (hi : i 0 = t.val ∧ i 1 = k) (j : S128x512.Idx) (e : S2048x3584.Idx)
    (e0 : (e 0).val = i 0 * 128 + 1 * (j 0).val) (e1 : (e 1).val = i 1 * 512 + 1 * (j 1).val) : x0 m c e = cut (x0 m c) o ho (bl t) j :=
  congrArg (x0 m c) (ext2 (e0.trans (at_blk hi.1)) (e1.trans ((at_blk hi.2).trans (congrArg (· + (j 1).val) hk))))
theorem b0 (t : Fin cfg0.N) : (iblk m c 0 t : FVec Ideal S128x512 .f32) = cut (x0 m c) 2560 (by decide) (bl t) := by
  funext j
  unfold iblk
  rw [View.read_apply]
  show V m c main_arg0 _ = _
  rw [V_main_arg0]
  exact read_cut m c 2560 _ 5 rfl t _ (index t).1 j _ rfl rfl
theorem b1 (t : Fin cfg0.N) : (iblk m c 1 t : FVec Ideal S128x512 .f32) = cut (x0 m c) 3072 (by decide) (bl t) := by
  funext j
  unfold iblk
  rw [View.read_apply]
  show V m c main_arg0 _ = _
  rw [V_main_arg0]
  exact read_cut m c 3072 _ 6 rfl t _ (index t).2.1 j _ rfl rfl
theorem b2 (t : Fin cfg0.N) : (iblk m c 2 t : FVec Ideal S1x512 .f32) = fun j => gain m c (j 1) := by
  funext j
  unfold iblk
  rw [View.read_apply]
  show V m c main_v0 _ = _
  rw [V0]
  exact (congrArg (shapeCast S1x512 _ shapeCasts_S512_S1x512) (ext2 (at_zero (index t).2.2.1.1) (at_zero (index t).2.2.1.2))).trans (ValueIdx.shapeCast_a_1a_apply _ _ (j 0) (j 1))
theorem b3 (t : Fin cfg0.N) : (iblk m c 3 t : FVec Ideal S1x512 .f32) = fun j => shift m c (j 1) := by
  funext j
  unfold iblk
  rw [View.read_apply]
  show V m c main_v1 _ = _
  rw [V1]
  exact (congrArg (shapeCast S1x512 _ shapeCasts_S512_S1x512) (ext2 (at_zero (index t).2.2.2.1.1) (at_zero (index t).2.2.2.1.2))).trans (ValueIdx.shapeCast_a_1a_apply _ _ (j 0) (j 1))
theorem b4 (t : Fin cfg0.N) : (iblk m c 4 t : FVec Ideal S8x128x128 .f32) = wts m c := by
  funext j
  unfold iblk
  rw [View.read_apply]
  show V m c main_arg3 _ = _
  rw [V_main_arg3]
  exact congrArg (wts m c) (ext3 (at_zero (index t).2.2.2.2.1.1) (at_zero (index t).2.2.2.2.1.2.1) (at_zero (index t).2.2.2.2.1.2.2))
theorem b5 (t : Fin cfg0.N) : (iblk m c 5 t : FVec Ideal S128x512 .f32) = fun j => bias m c (mk2 (hd (j 1)) (j 0)) := by
  funext j
  unfold iblk
  rw [View.read_apply]
  show V m c main_v4 _ = _
  have e : ((cfg0.win 5).blk t).view.emb j = j := ext2 (at_zero (index t).2.2.2.2.2.1.1) (at_zero (index t).2.2.2.2.2.1.2)
  rw [V4, e]
  exact SguKernel.spread_bias _ _ _ _ _

/-- Row `p` of block `n`, column `k` of the result. -/
def at2 (n : Fin 16) (p : Fin 128) (k : Fin 512) : EReal := cut (x0 m c) 2560 (by decide) n (mk2 p k)
    * (bias m c (mk2 (hd k) p) + mixE (wts m c) (gateE (cut (x0 m c) 3072 (by decide) n) (gain m c) (shift m c)) (mk2 p k))
/-- The result. -/
def res : FVec Ideal S2048x512 .f32 := fun i => at2 m c (blkOf (i 0)) (inBlk (i 0)) (i 1)

theorem final6 : (dats m 0 c).arrAt 6 cfg0.N = res m c := by
  refine (dats m 0 c).arrAt_eq_of_cover 6 _ (fun t _ => ?_) fun i => ⟨pt (i 0), flush0_6 _, ?_⟩
  · rw [Value.flushed6, b0, b1, b2, b3, b4, b5, out6]
    funext j
    rw [View.read_apply]
    have e : ((cfg0.win 6).blk t).view.emb j = mk2 (rowAt (bl t) (j 0)) (j 1) := ext2 (at_blk (index t).2.2.2.2.2.2.1) (at_zero (index t).2.2.2.2.2.2.2)
    rw [e]
    show _ = at2 m c (blkOf (rowAt (bl t) (j 0))) (inBlk (rowAt (bl t) (j 0))) (j 1)
    rw [SguRef.blk_rowAt, SguRef.inBlk_rowAt]
    rw [eq_mk2 j]
    rfl
  · show i ∈ ((View.whole main_v5_0).slice (win0_6.rect (pt (i 0)))).set
    rw [View.set_slice_whole, Rect.mem_set_unit]
    exact Fin.forall_fin_two.mpr ⟨in_blk (index (pt (i 0))).2.2.2.2.2.2.1 rfl (by decide), in_zero (index (pt (i 0))).2.2.2.2.2.2.2 (i 1).isLt⟩

end Cert.SguFKernel

/-! ## The reference -/

namespace Cert.SguFRef

open Cert.Reals Cert.Norm Cert.Arrays Cert.Rowwise Cert.SguFKernel Cert.SguFwdRefIdeal Cert.SguFwdRefIdeal.Gen Cert.SguFwdRefIdeal.Read
open Cert.SguKernel (hd rowAt blkOf inBlk)

variable (x0 : FVec Ideal S2048x3584 .f32) (x1 x2 : FVec Ideal S512 .f32) (x3 : FVec Ideal S8x128x128 .f32) (x4 : FVec Ideal S8x128 .f32)

theorem v24 : val_main_v24 (F := Ideal) x0 x1 x2 = gateE (val_main_v2 (F := Ideal) x0) (fun k => x1 (mk1 k)) fun k => x2 (mk1 k) := by
  unfold val_main_v24 val_main_v23 val_main_v22 val_main_v21 val_main_v20 val_main_v19 val_main_v18 val_main_v17 val_main_v16 val_main_v15 val_main_v14 val_main_v13 val_main_v12
    val_main_v11 val_main_v10 val_main_v9
  have e : val_main_v8 (F := Ideal) x0 = cen (val_main_v2 (F := Ideal) x0) := by
    unfold val_main_v8 val_main_v7 val_main_v6 val_main_v5 val_main_v4 val_main_v3
    generalize val_main_v2 (F := Ideal) x0 = y
    exact (congrArg (subf y) ((congrArg _ (h_mean 0x44000000#32 y _ _ _ _)).trans (h_col _ _))).trans rfl
  rw [e]
  refine (congrArg (fun y => addf y _) (h_rms 0x44000000#32 _ x1 _ _ _ _ _ _ _ _)).trans ?_
  rw [h_vec_row x2, h_row]
  rfl

theorem v30 (j : S8x128x128.Idx) : val_main_v30 (F := Ideal) x3 j = lowE x3 (j 0) (j 1) (j 2) := by
  unfold lowE
  refine (val_main_v30_apply (F := Ideal) x3 j).trans ?_
  refine if_congr ?_ (congrArg x3 (eq_mk3 j)) Ideal.ofBits_zero_f32
  exact (by decide +kernel : ∀ a b : Fin 128, Scalar.select (IntOp.cmpi .sge (IntOp.addi (BitVec.ofNat 32 a.val) 0#32) (BitVec.ofNat 32 b.val)) 1#1 0#1 = 1#1 ↔ b.val ≤ a.val) (j 1) (j 2)

/-- Row `p` of block `n`, column `k` of the reference's result. -/
theorem at3 (n : Fin 16) (p : Fin 128) (k : Fin 512) : val_main_v38 (F := Ideal) x0 x1 x2 x3 x4 (mk2 (rowAt n p) k)
    = cut x0 2560 (by decide) n (mk2 p k)
      * (x4 (mk2 (hd k) p) + mixE x3 (gateE (cut x0 3072 (by decide) n) (fun k => x1 (mk1 k)) fun k => x2 (mk1 k)) (mk2 p k)) := by
  have hp := p.isLt
  have hk := k.isLt
  have hn := n.isLt
  have e : idx_main_v37 (mk2 (rowAt n p) k) = mk4 (k := 16) (l := 128) (m := 8) (n := 64) n p (hd k) ⟨k.val % 64, Nat.mod_lt _ (by decide)⟩ := by
    funext a
    refine Fin.ext ?_
    match a with
    | ⟨0, _⟩ => show _ / 65536 = n.val; show ((128 * n.val + p.val) * 512 + k.val) / 65536 = n.val; omega
    | ⟨1, _⟩ => show ((128 * n.val + p.val) * 512 + k.val) / 512 % 128 = p.val; omega
    | ⟨2, _⟩ => show ((128 * n.val + p.val) * 512 + k.val) / 64 % 8 = k.val / 64; omega
    | ⟨3, _⟩ => show ((128 * n.val + p.val) * 512 + k.val) % 64 = k.val % 64; omega
  rw [val_main_v38_apply, val_main_v37_apply, e, val_main_v36_apply, val_main_v32_apply, val_main_v31_apply, val_main_v35_apply, val_main_v34_apply, val_main_v33_apply]
  refine congrArg₂ (· * ·) ?_ ?_
  · rw [val_main_v1_apply, val_main_v0_apply]
    exact congrArg x0 (ext2 rfl rfl)
  · refine (add_comm _ _).trans (congrArg₂ (· + ·) (congrArg x4 (ext2 rfl rfl)) ?_)
    refine Finset.sum_congr rfl fun s _ => ?_
    have hs := s.isLt
    rw [val_main_v25_apply, v24, v30]
    refine (mul_comm _ _).trans (congrArg (lowE x3 (hd k) p s * ·) ?_)
    have e2 : idx_main_v25 (mk4 (k := 16) (l := 128) (m := 8) (n := 64) n s (hd k) ⟨k.val % 64, Nat.mod_lt _ (by decide)⟩) = mk2 (rowAt n s) k :=
      ext2 (by show _ / 512 = 128 * n.val + s.val; show (((n.val * 128 + s.val) * 8 + k.val / 64) * 64 + k.val % 64) / 512 = _; omega)
        (by show (((n.val * 128 + s.val) * 8 + k.val / 64) * 64 + k.val % 64) % 512 = k.val; omega)
    refine (congrArg (gateE _ _ _) e2).trans ?_
    have hv : ∀ q : Fin 512, val_main_v2 (F := Ideal) x0 (mk2 (rowAt n s) q) = cut x0 3072 (by decide) n (mk2 s q) := fun q => by
      rw [val_main_v2_apply, val_main_v0_apply]
      exact congrArg x0 (ext2 rfl (by show 2560 + (512 + q.val) = 3072 + q.val; omega))
    exact SguFKernel.gate_row _ _ _ _ _ _ hv k

end Cert.SguFRef

namespace Cert.SguFClaim

open Cert.Reals Cert.Norm Cert.SguFKernel

/-- Kernel and reference compute the same array, of any arguments. -/
theorem value : Cert.algebraic_SguFwdIdeal_SguFwdRefIdeal := by
  intro m ρ m' ρ' hpre hagree
  refine ⟨fun c => SguFKernel.res m c,
    (θ_run Cert.SguFwdIdeal.defs _ _).mono (fun r h c => ?_) (Cert.SguFwdIdeal.Value.run_blocks m ρ),
    (θ_run Cert.SguFwdRefIdeal.defs _ _).mono (fun r h c => ?_) (Cert.SguFwdRefIdeal.Value.run m' ρ')⟩
  · obtain ⟨h0, -, hk⟩ := h c
    exact ⟨h0.trans (SguFKernel.final6 m c), hk⟩
  · obtain ⟨h0, hk⟩ := h c
    obtain ⟨e0, e1, e2, e3, e4⟩ := hagree c
    refine ⟨h0.trans ?_, hk⟩
    rw [Cert.SguFwdRefIdeal.Read.val_main_v38_eq, e0, e1, e2, e3, e4]
    funext i
    have hi : i = mk2 (SguKernel.rowAt (SguKernel.blkOf (i 0)) (SguKernel.inBlk (i 0))) (i 1) := by rw [SguRef.rowAt_blk]; exact eq_mk2 i
    refine (congrArg _ hi).trans ?_
    exact SguFRef.at3 _ _ _ _ _ _ _ _

end Cert.SguFClaim

end
-- ==== Proof.ConvFClaim.lean ====
/-
  The value claim about the convolution module's forward call, of any arguments: extended reals throughout, no entry need be finite.
-/
module

public import proofs.«01_k».proof.Defs
public import proofs.«01_k».proof.Proof.ConvARef
public import proofs.«01_k».proof.Proof.SguFClaim
public import proofs.«01_k».proof.Proof.Gen.ConvFwdIdeal.Value
public import proofs.«01_k».proof.Proof.Gen.ConvFwdRefIdeal.Read

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.ConvFKernel

open Cert.Reals Cert.Norm Cert.Rowwise Cert.Arrays Cert.Conv Cert.ConvFwdIdeal Cert.ConvFwdIdeal.Gen
open Cert.SguFKernel (Rows cen gateE)

/-- The logistic function, and a number times its logistic. -/
def sgE (x : EReal) : EReal := Ideal.div (Ideal.ofBits .f32 0x3F800000#32) (Ideal.ofBits .f32 0x3F800000#32 + Ideal.exp (Ideal.ofBits .f32 0x00000000#32 - x))
def silE (x : EReal) : EReal := x * sgE x

/-! ## One block -/

theorem pay2 (A G : FVec Ideal S256x512 .f32) : k0_pay2 (F := Ideal) A G = fun j => A j * sgE (G j) := by
  unfold k0_pay2
  dsimp only
  rw [shapeCast_self]
  rfl
theorem pay3 (i : grid0.Coords) (A G : FVec Ideal S32x512 .f32) : k0_pay3 (F := Ideal) i A G = fun j => if 0 < (i 0).val then A j * sgE (G j) else 0 := by
  unfold k0_pay3
  dsimp only
  rw [shapeCast_self]
  have e := ConvAKernel.after_first (i 0)
  by_cases h : 0 < (i 0).val
  · rw [if_pos h] at e
    simp only [e, if_pos h]
    rfl
  · rw [if_neg h] at e
    simp only [e, if_neg h]
    exact funext fun _ => Ideal.ofBits_zero_f32

theorem pay25 (p q r : FVec Ideal S256x512 .f32) (s : FVec Ideal S1x512 .f32) (t : FVec Ideal S256x512 .f32) (g l : FVec Ideal S1x512 .f32) :
    k0_pay25 (F := Ideal) p q r s t g l = fun j => silE (gateE (fun j => p j + r j * q j + s (mk2 0 (j 1)) * t j : Rows 256) (fun k => g (mk2 0 k)) (fun k => l (mk2 0 k)) j) := by
  unfold k0_pay25
  dsimp only
  simp only [shapeCast_self]
  rw [k_row s, k_row l]
  generalize hX : addf (addf p (mulf r q)) (mulf _ t) = X
  rw [k_mean 0x44000000#32, k_col]
  refine (congrArg (fun z : FVec Ideal S256x512 .f32 => mulf (addf z fun j => l (mk2 0 (j 1))) (divf (broadcast S256x512 (Scalar.ofBits (F := Ideal) .f32 0x3F800000#32))
    (addf (broadcast S256x512 (Scalar.ofBits (F := Ideal) .f32 0x3F800000#32)) (exp (subf (broadcast S256x512 (Scalar.ofBits (F := Ideal) .f32 0x00000000#32)) (addf z fun j => l (mk2 0 (j 1))))))))
    (k_rms 0x44000000#32 _ g _ _ _ _ _ _ _)).trans ?_
  subst hX
  rfl

/-- The rows the taps read: the last 32 of the block before, or none, and the block's own. -/
abbrev bufE (i : grid0.Coords) (A G A' G' : FVec Ideal S256x512 .f32) : FVec Ideal S288x512 .f32 :=
  stack (α := EReal) (a := 32) (k := 256) (fun j => if 0 < (i 0).val then rows (α := EReal) A' 224 32 j * sgE (rows (α := EReal) G' 224 32 j) else 0) fun j => A j * sgE (G j)
/-- The convolved rows: the bias and 31 taps, each over the rows it reads. -/
def cvE (b : Fin 512 → EReal) (W : FVec Ideal S32x512 .f32) (X : FVec Ideal S288x512 .f32) : Rows 256 := fun j =>
  b (j 1) + ∑ k ∈ Finset.range 31, rowZ (α := EReal) W k (j 1) * rowZ (α := EReal) X (2 + k + (j 0).val) (j 1)

set_option maxHeartbeats 4000000 in
theorem out8 (c : Dev nD) (t : Fin cfg0.N) (A G A' G' : FVec Ideal S256x512 .f32) (W : FVec Ideal S32x512 .f32) (b g l : FVec Ideal S1x512 .f32) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
        (ms0_8 t) (hs0_8 t) (ms0_9 t) (hs0_9 t) scM0_0 (Memref.isWhole_whole _) scM0_1 (Memref.isWhole_whole _) A G A' G' W b g l
      = fun j => silE (gateE (cvE (fun k => b (mk2 0 k)) W (bufE (grid0.coords t) A G A' G')) (fun k => g (mk2 0 k)) (fun k => l (mk2 0 k)) j) := by
  unfold out0_A_8 kernelRun0_A
  dsimp only
  sl_unfold_words
  simp -index only [View.read_writes_full (s := S256x512), View.canon_unit_zero (S := S256x512) hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
    View.ld_unit_zero (S := S256x512) hz2, View.ld_unit_zero (S := S1x512) hz2]
  simp -index only [ld_rowsE, pay2, pay3]
  simp -index (disch := decide) only [read_stackE']
  simp -index only [k0_pay4, k0_pay5, k0_pay6, k0_pay7, k0_pay8, k0_pay9, k0_pay10, cast_toPlane]
  simp -index (disch := decide) only [read_shiftE]
  rw [pay25]
  dsimp only [bufE]
  generalize (stack (α := EReal) (fun j : S32x512.Idx => if 0 < ((grid0.coords t) 0).val then rows (α := EReal) A' 224 32 j * sgE (rows (α := EReal) G' 224 32 j) else 0) (fun j : S256x512.Idx => A j * sgE (G j)) : FVec Ideal S288x512 .f32) = X
  refine congrArg (fun (C : Rows 256) j => silE (gateE C (fun k => g (mk2 0 k)) (fun k => l (mk2 0 k)) j)) (funext fun j => ?_)
  unfold k0_pay22 k0_pay24 k0_pay23 k0_pay21 k0_pay20 k0_pay19 k0_pay18 k0_pay17 k0_pay16 k0_pay15 k0_pay14 k0_pay13 k0_pay12 k0_pay11
  dsimp only
  simp -index only [shapeCast_self, cast_plane (φ := .f32), k_row (φ := .f32), fun f h j => congrFun (k_row (a := 256) (b := 512) (φ := .f32) f h) j, fun f h j => congrFun (cast_plane (a := 256) (b := 512) (φ := .f32) f h) j]
  unfold cvE
  simp only [Finset.sum_range_succ, Finset.sum_range_zero, zero_add, ← add_assoc]
  rfl

/-! ## The blocks and the result -/

/-- The gated rows, the convolved rows and the result, of the whole array. -/
def hE (x : S2048x3584.Idx → EReal) : Rows 2048 := fun j => x (mk2 (j 0) ⟨1536 + (j 1).val, by have h : (j 1).val < 512 := (j 1).isLt; omega⟩)
  * sgE (x (mk2 (j 0) ⟨2048 + (j 1).val, by have h : (j 1).val < 512 := (j 1).isLt; omega⟩))
def cE (x : S2048x3584.Idx → EReal) (W : S31x512.Idx → EReal) (b : Fin 512 → EReal) : Rows 2048 := fun j =>
  b (j 1) + ∑ k ∈ Finset.range 31, rowZ (α := EReal) W k (j 1) * rowP (α := EReal) (hE x) 30 ((j 0).val + k) (j 1)
def resE (x : S2048x3584.Idx → EReal) (W : S31x512.Idx → EReal) (b g l : Fin 512 → EReal) : Rows 2048 := fun j => silE (gateE (cE x W b) g l j)

theorem index : ∀ t : Fin cfg0.N, (win0_0.index t 0 = t.val ∧ win0_0.index t 1 = 3) ∧ (win0_1.index t 0 = t.val ∧ win0_1.index t 1 = 4)
    ∧ (win0_2.index t 0 = t.val - 1 ∧ win0_2.index t 1 = 3) ∧ (win0_3.index t 0 = t.val - 1 ∧ win0_3.index t 1 = 4)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) ∧ (grid0.coords t 0).val = t.val :=
  (by decide +kernel : ∀ t : Fin grid0.N, _)
theorem lt8 (t : Fin cfg0.N) : t.val < 8 := lt_of_lt_of_eq t.isLt (show cfg0.N = 8 from N_0)
/-- The point whose block holds row `i`. -/
def pt (i : Fin 2048) : Fin cfg0.N := ⟨i.val / 256, by rw [show cfg0.N = 8 from N_0]; have := i.isLt; omega⟩

/-- Block `n`'s rows, 512 columns from `512 * k` on. -/
def cut (x : S2048x3584.Idx → EReal) (n : ℕ) (hn : n < 8) (k : ℕ) (hk : k < 7) : Rows 256 := fun j =>
  x (mk2 ⟨256 * n + (j 0).val, by have h : (j 0).val < 256 := (j 0).isLt; omega⟩ ⟨512 * k + (j 1).val, by have h : (j 1).val < 512 := (j 1).isLt; omega⟩)

variable (m : (ℓ : Loc nD τ sig) → Buf (Elt Ideal) ℓ) (c : Dev nD)

abbrev x0 : FVec Ideal S2048x3584 .f32 := m (c.tc.loc main_arg0)
abbrev taps : FVec Ideal S31x512 .f32 := m (c.tc.loc main_arg1)
abbrev bias (k : Fin 512) : EReal := m (c.tc.loc main_arg2) (mk1 k)
abbrev gain (k : Fin 512) : EReal := m (c.tc.loc main_arg3) (mk1 k)
abbrev shift (k : Fin 512) : EReal := m (c.tc.loc main_arg4) (mk1 k)

theorem V0 : V m c main_v0 = pad S32x512 ![0, 0] ![1, 0] ![0, 0] (taps m c) (sitofp .f32 (constantI S_ 32 0#32) : FVec Ideal S_ .f32) pads_S31x512_S32x512_010_000 h_S_ := by
  show StableHlo.after (List.flatten [hostOps0, hostOps0_1, hostOps0_2]) (fun b => m (c, b)) main_v0 = _
  simp only [List.flatten_cons, List.flatten_nil, List.cons_append, List.nil_append, List.append_nil]
  after_results_simp <;> rfl
theorem V1 : V m c main_v1 = shapeCast S1x512 (m (c.tc.loc main_arg2)) shapeCasts_S512_S1x512 := by
  show StableHlo.after (List.flatten [hostOps0, hostOps0_1, hostOps0_2]) (fun b => m (c, b)) main_v1 = _
  simp only [List.flatten_cons, List.flatten_nil, List.cons_append, List.nil_append, List.append_nil]
  after_results_simp <;> rfl
theorem V2 : V m c main_v2 = shapeCast S1x512 (m (c.tc.loc main_arg3)) shapeCasts_S512_S1x512 := by
  show StableHlo.after (List.flatten [hostOps0, hostOps0_1, hostOps0_2]) (fun b => m (c, b)) main_v2 = _
  simp only [List.flatten_cons, List.flatten_nil, List.cons_append, List.nil_append, List.append_nil]
  after_results_simp <;> rfl
theorem V3 : V m c main_v3 = shapeCast S1x512 (m (c.tc.loc main_arg4)) shapeCasts_S512_S1x512 := by
  show StableHlo.after (List.flatten [hostOps0, hostOps0_1, hostOps0_2]) (fun b => m (c, b)) main_v3 = _
  simp only [List.flatten_cons, List.flatten_nil, List.cons_append, List.nil_append, List.append_nil]
  after_results_simp <;> rfl

theorem read_cut (n : ℕ) (hn) (k : ℕ) (hk) (i : Fin 2 → ℕ) (hi : i 0 = n ∧ i 1 = k) (j : S256x512.Idx) (e : S2048x3584.Idx)
    (e0 : (e 0).val = i 0 * 256 + 1 * (j 0).val) (e1 : (e 1).val = i 1 * 512 + 1 * (j 1).val) : V m c main_arg0 e = cut (x0 m c) n hn k hk j := by
  rw [V_main_arg0]
  exact congrArg (x0 m c) (ext2 (e0.trans (at_blk hi.1)) (e1.trans (at_blk hi.2)))
theorem b0 (t : Fin cfg0.N) : (iblk m c 0 t : FVec Ideal S256x512 .f32) = cut (x0 m c) t.val (lt8 t) 3 (by decide) := by
  funext j
  unfold iblk
  rw [View.read_apply]
  exact read_cut m c _ _ _ _ _ (index t).1 j _ rfl rfl
theorem b1 (t : Fin cfg0.N) : (iblk m c 1 t : FVec Ideal S256x512 .f32) = cut (x0 m c) t.val (lt8 t) 4 (by decide) := by
  funext j
  unfold iblk
  rw [View.read_apply]
  exact read_cut m c _ _ _ _ _ (index t).2.1 j _ rfl rfl
theorem b2 (t : Fin cfg0.N) : (iblk m c 2 t : FVec Ideal S256x512 .f32) = cut (x0 m c) (t.val - 1) (by have := lt8 t; omega) 3 (by decide) := by
  funext j
  unfold iblk
  rw [View.read_apply]
  exact read_cut m c _ _ _ _ _ (index t).2.2.1 j _ rfl rfl
theorem b3 (t : Fin cfg0.N) : (iblk m c 3 t : FVec Ideal S256x512 .f32) = cut (x0 m c) (t.val - 1) (by have := lt8 t; omega) 4 (by decide) := by
  funext j
  unfold iblk
  rw [View.read_apply]
  exact read_cut m c _ _ _ _ _ (index t).2.2.2.1 j _ rfl rfl
theorem b4 (t : Fin cfg0.N) : (iblk m c 4 t : FVec Ideal S32x512 .f32) = fun j => rowP (α := EReal) (taps m c) 0 (j 0).val (j 1) := by
  funext j
  unfold iblk
  rw [View.read_apply]
  show V m c main_v0 _ = _
  rw [V0, pad_anyE (a := 31) (b := 512) (n := 32) (taps m c) (sitofp .f32 (constantI S_ 32 0#32)) (fun _ => by show ((((0#32 : BitVec 32).toInt : ℝ)) : EReal) = 0; simp)]
  exact congrArg₂ (rowP (α := EReal) (taps m c) 0) (at_zero (index t).2.2.2.2.1.1) (Fin.ext (at_zero (index t).2.2.2.2.1.2))
theorem row_of (f : FVec Ideal S512 .f32) (e : S1x512.Idx) (j : S1x512.Idx) (h : (e 1).val = (j 1).val) : shapeCast S1x512 f shapeCasts_S512_S1x512 e = f (mk1 (j 1)) := by
  rw [eq_mk2 e]
  exact (ValueIdx.shapeCast_a_1a_apply _ _ (e 0) (e 1)).trans (congrArg (fun k => f (mk1 k)) (Fin.ext h))
theorem b5 (t : Fin cfg0.N) : (iblk m c 5 t : FVec Ideal S1x512 .f32) = fun j => bias m c (j 1) := by
  funext j
  unfold iblk
  rw [View.read_apply]
  show V m c main_v1 _ = _
  rw [V1]
  exact row_of _ _ j (at_zero (index t).2.2.2.2.2.1.2)
theorem b6 (t : Fin cfg0.N) : (iblk m c 6 t : FVec Ideal S1x512 .f32) = fun j => gain m c (j 1) := by
  funext j
  unfold iblk
  rw [View.read_apply]
  show V m c main_v2 _ = _
  rw [V2]
  exact row_of _ _ j (at_zero (index t).2.2.2.2.2.2.1.2)
theorem b7 (t : Fin cfg0.N) : (iblk m c 7 t : FVec Ideal S1x512 .f32) = fun j => shift m c (j 1) := by
  funext j
  unfold iblk
  rw [View.read_apply]
  show V m c main_v3 _ = _
  rw [V3]
  exact row_of _ _ j (at_zero (index t).2.2.2.2.2.2.2.1.2)

/-- The row a tap reads, counted in the whole array. -/
theorem buf_row (x : S2048x3584.Idx → EReal) (t : Fin cfg0.N) (h1) (h2) (k : ℕ) (hk : k < 31) (p : Fin 256) (q : Fin 512) :
    rowZ (α := EReal) (bufE (grid0.coords t) (cut x t.val (lt8 t) 3 h1) (cut x t.val (lt8 t) 4 h2) (cut x (t.val - 1) (by have := lt8 t; omega) 3 h1) (cut x (t.val - 1) (by have := lt8 t; omega) 4 h2)) (2 + k + p.val) q
      = rowP (α := EReal) (hE x) 30 (256 * t.val + p.val + k) q := by
  have ht := lt8 t
  have hp := p.isLt
  refine (rowZ_lt _ (by omega : 2 + k + p.val < 288) q).trans ?_
  unfold bufE stack
  dsimp only [mk2_0, mk2_1]
  by_cases h : 2 + k + p.val < 32
  · rw [if_pos h, rowZ_lt _ h]
    rw [(index t).2.2.2.2.2.2.2.2.2]
    by_cases h0 : 0 < t.val
    · rw [if_pos h0, rowP_in _ (by omega), rowZ_lt _ (by omega : 256 * t.val + p.val + k - 30 < 2048)]
      have e : ∀ o (ho : o < 7), rows (α := EReal) (cut x (t.val - 1) (by omega) o ho) 224 32 (mk2 ⟨2 + k + p.val, h⟩ q)
          = x (mk2 ⟨256 * t.val + p.val + k - 30, by omega⟩ ⟨512 * o + q.val, by have := q.isLt; omega⟩) := fun o ho => by
        refine (rowZ_lt _ (by show 224 + (2 + k + p.val) < 256; omega) _).trans (congrArg x (ext2 ?_ rfl))
        show 256 * (t.val - 1) + (224 + (2 + k + p.val)) = 256 * t.val + p.val + k - 30
        omega
      rw [e, e]
      rfl
    · rw [if_neg h0, rowP_out _ (by omega)]
  · rw [if_neg h, rowZ_lt _ (by omega : 2 + k + p.val - 32 < 256), rowP_in _ (by omega), rowZ_lt _ (by omega : 256 * t.val + p.val + k - 30 < 2048)]
    show hE x (mk2 (m := 2048) (n := 512) ⟨256 * t.val + (2 + k + p.val - 32), by omega⟩ q) = _
    refine congrArg (hE x) (ext2 ?_ rfl)
    show 256 * t.val + (2 + k + p.val - 32) = 256 * t.val + p.val + k - 30
    omega

theorem final8 : (dats m 0 c).arrAt 8 cfg0.N = resE (x0 m c) (taps m c) (bias m c) (gain m c) (shift m c) := by
  refine (dats m 0 c).arrAt_eq_of_cover 8 _ (fun t _ => ?_) fun i => ⟨pt (i 0), flush0_8 _, ?_⟩
  · rw [Value.flushed8_A, b0, b1, b2, b3, b4, b5, b6, b7, out8]
    funext j
    rw [View.read_apply]
    have ht := lt8 t
    have hj : (j 0).val < 256 := (j 0).isLt
    have e : ((cfg0.win 8).blk t).view.emb j = mk2 (m := 2048) (n := 512) ⟨256 * t.val + (j 0).val, by omega⟩ (j 1) :=
      ext2 (at_blk (index t).2.2.2.2.2.2.2.2.1.1) (at_zero (index t).2.2.2.2.2.2.2.2.1.2)
    rw [e]
    refine congrArg silE (((congrArg _ (eq_mk2 j))).trans (SguFKernel.gate_row _ (cE (x0 m c) (taps m c) (bias m c)) _ _ (j 0) ⟨256 * t.val + (j 0).val, by omega⟩ (fun q => ?_) (j 1)))
    refine congrArg (bias m c q + ·) (Finset.sum_congr rfl fun k hk => ?_)
    have hk := Finset.mem_range.mp hk
    exact congrArg₂ (· * ·) ((rowZ_lt _ (by omega : k < 32) _).trans (rowP_in _ (Nat.zero_le k) _)) (buf_row (x0 m c) t (by decide) (by decide) k hk (j 0) q)
  · show i ∈ ((View.whole main_v4_0).slice (win0_8.rect (pt (i 0)))).set
    rw [View.set_slice_whole, Rect.mem_set_unit]
    exact Fin.forall_fin_two.mpr ⟨in_blk (index (pt (i 0))).2.2.2.2.2.2.2.2.1.1 rfl (by decide), in_zero (index (pt (i 0))).2.2.2.2.2.2.2.2.1.2 (i 1).isLt⟩

end Cert.ConvFKernel

/-! ## The reference -/

namespace Cert.ConvFRef

open Cert.Reals Cert.Norm Cert.Arrays Cert.Rowwise Cert.Conv Cert.ConvFKernel Cert.ConvFwdRefIdeal Cert.ConvFwdRefIdeal.Gen Cert.ConvFwdRefIdeal.Read
open Cert.SguFKernel (cen gateE)

variable (x0 : FVec Ideal S2048x3584 .f32) (x1 : FVec Ideal S31x512 .f32) (x2 x3 x4 : FVec Ideal S512 .f32)

theorem v9 : val_main_v9 (F := Ideal) x0 = hE x0 := by
  funext j
  rw [val_main_v9_apply, val_main_v1_apply, val_main_v8_apply, val_main_v6_apply, val_main_v4_apply, val_main_v3_apply, val_main_v2_apply, val_main_v0_apply, val_main_v7_apply, val_main_v5_apply, val_main_v0_apply]
  unfold hE sgE
  rw [Ideal.ofBits_zero_f32, zero_sub]
  have e : idx_main_v0 (idx_main_v2 j) = mk2 (j 0) ⟨2048 + (j 1).val, by have h : (j 1).val < 512 := (j 1).isLt; omega⟩ := ext2 rfl (by show 1536 + (512 + (j 1).val) = 2048 + (j 1).val; omega)
  rw [e]
  exact congrArg (· * _) (congrArg x0 (ext2 rfl rfl))
theorem v230 : val_main_v230 (F := Ideal) x0 x1 x2 = cE x0 x1 fun k => x2 (mk1 k) := by
  have key : ∀ (r : Fin 2048) (q : Fin 512), val_main_v230 (F := Ideal) x0 x1 x2 (mk2 r q) = cE x0 x1 (fun k => x2 (mk1 k)) (mk2 r q) := fun r q => by
    refine (ConvARef.v230E x0 x1 x2 r q).trans ((add_comm _ _).trans (congrArg (x2 (mk1 q) + ·) (Finset.sum_congr rfl fun k hk => ?_)))
    have hk := Finset.mem_range.mp hk
    have hr := r.isLt
    refine (mul_comm _ _).trans (congrArg₂ (· * ·) rfl ?_)
    refine (rowZ_lt _ (by show k + r.val < 2078; omega) q).trans ?_
    rw [ConvARef.v11E]
    exact (congrArg (fun h => rowP (α := EReal) h 30 (k + r.val) q) (v9 x0)).trans (congrArg (fun n => rowP (α := EReal) (hE x0) 30 n q) (Nat.add_comm _ _))
  exact funext fun j => (congrArg _ (eq_mk2 j)).trans ((key (j 0) (j 1)).trans (congrArg (cE x0 x1 fun k => x2 (mk1 k)) (eq_mk2 j).symm))
theorem v252 : val_main_v252 (F := Ideal) x0 x1 x2 x3 x4 = gateE (cE x0 x1 fun k => x2 (mk1 k)) (fun k => x3 (mk1 k)) fun k => x4 (mk1 k) := by
  unfold val_main_v252 val_main_v251 val_main_v250 val_main_v249 val_main_v248 val_main_v247 val_main_v246 val_main_v245 val_main_v244 val_main_v243 val_main_v242 val_main_v241 val_main_v240
    val_main_v239 val_main_v238 val_main_v237
  have e : val_main_v236 (F := Ideal) x0 x1 x2 = cen (cE x0 x1 fun k => x2 (mk1 k)) := by
    unfold val_main_v236 val_main_v235 val_main_v234 val_main_v233 val_main_v232 val_main_v231
    rw [v230]
    generalize (cE x0 x1 fun k => x2 (mk1 k)) = y
    exact (congrArg (subf (F := Ideal) (φ := .f32) y) ((congrArg _ (h_mean 0x44000000#32 y _ _ _ _)).trans (h_col _ _))).trans rfl
  rw [e]
  refine (congrArg (fun y => addf y _) (h_rms 0x44000000#32 _ x3 _ _ _ _ _ _ _ _)).trans ?_
  rw [h_vec_row x4, h_row]
  rfl
theorem v253 : val_main_v253 (F := Ideal) x0 x1 x2 x3 x4 = resE x0 x1 (fun k => x2 (mk1 k)) (fun k => x3 (mk1 k)) fun k => x4 (mk1 k) := by
  funext j
  rw [val_main_v253_apply, val_main_call0_v5_apply, val_main_call0_v4_apply, val_main_call0_v3_apply, val_main_call0_v2_apply, val_main_call0_v1_apply, val_main_call0_v0_apply, v252]
  refine congrArg (gateE _ _ _ j * ·) ?_
  unfold sgE
  rw [Ideal.ofBits_zero_f32, zero_sub]
  rfl

end Cert.ConvFRef

namespace Cert.ConvFClaim

open Cert.Reals Cert.Norm Cert.ConvFKernel

/-- Kernel and reference compute the same array, of any arguments. -/
theorem value : Cert.algebraic_ConvFwdIdeal_ConvFwdRefIdeal := by
  intro m ρ m' ρ' hpre hagree
  refine ⟨fun c => resE (x0 m c) (taps m c) (bias m c) (gain m c) (shift m c),
    (θ_run Cert.ConvFwdIdeal.defs _ _).mono (fun r h c => ?_) (Cert.ConvFwdIdeal.Value.run_blocks m ρ),
    (θ_run Cert.ConvFwdRefIdeal.defs _ _).mono (fun r h c => ?_) (Cert.ConvFwdRefIdeal.Value.run m' ρ')⟩
  · obtain ⟨h0, -, hk⟩ := h c
    exact ⟨h0.trans (final8 m c), hk⟩
  · obtain ⟨h0, hk⟩ := h c
    obtain ⟨e0, e1, e2, e3, e4⟩ := hagree c
    refine ⟨h0.trans ?_, hk⟩
    rw [Cert.ConvFwdRefIdeal.Read.val_main_v253_eq]
    show Cert.ConvFwdRefIdeal.Read.val_main_v253 (F := Ideal) (m' (c.tc.loc Cert.ConvFwdRefIdeal.main_arg0)) (m' (c.tc.loc Cert.ConvFwdRefIdeal.main_arg1)) (m' (c.tc.loc Cert.ConvFwdRefIdeal.main_arg2))
      (m' (c.tc.loc Cert.ConvFwdRefIdeal.main_arg3)) (m' (c.tc.loc Cert.ConvFwdRefIdeal.main_arg4)) = _
    rw [e0, e1, e2, e3, e4]
    exact ConvFRef.v253 _ _ _ _ _

end Cert.ConvFClaim

end
-- ==== Proof.LossKernel.lean ====
/-
  The loss and its gradient, as the kernel computes them: a product taken a quarter at a time, the difference to the target, and the sums of its squares by blocks.
-/
module

public import proofs.«01_k».proof.Proof.Prods
public import proofs.«01_k».proof.Proof.Gen.LossIdeal.Frame
public import Idealize.ShloMosaic.Lib.Tactic

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.LossKernel

open Cert.Reals Cert.Prods Cert.LossIdeal Cert.LossIdeal.Gen

/-- The difference between the layer's output and the target. -/
def err (A : FVec Ideal S2048x8192 .f32) (W : FVec Ideal S8192x2048 .f32) (X T : FVec Ideal S2048x2048 .f32) (r q : Fin 2048) : EReal :=
  X (mk2 r q) + (∑ k : Fin 8192, A (mk2 r k) * W (mk2 k q)) - T (mk2 r q)

/-- One quarter of a product's terms. -/
def quarter (s : Fin 4) (k : Fin 2048) : Fin 8192 := ⟨2048 * s.val + k.val, by have := s.isLt; have := k.isLt; omega⟩
theorem sum_quarters (f : Fin 8192 → EReal) :
    ∑ k : Fin 8192, f k = (((∑ k, f (quarter 0 k)) + ∑ k, f (quarter 1 k)) + ∑ k, f (quarter 2 k)) + ∑ k, f (quarter 3 k) := by
  rw [← Fin.sum_univ_four fun s => ∑ k, f (quarter s k), ← Fintype.sum_prod_type fun x : Fin 4 × Fin 2048 => f (quarter x.1 x.2)]
  refine Finset.sum_bij' (fun k _ => (⟨k.val / 2048, by have := k.isLt; omega⟩, ⟨k.val % 2048, Nat.mod_lt _ (by decide)⟩)) (fun x _ => quarter x.1 x.2)
    (fun _ _ => Finset.mem_univ _) (fun _ _ => Finset.mem_univ _) ?_ ?_ ?_
  · exact fun k _ => Fin.ext (Nat.div_add_mod k.val 2048)
  · intro x _
    have h := x.2.isLt
    refine Prod.ext (Fin.ext ?_) (Fin.ext ?_)
    · show (2048 * x.1.val + x.2.val) / 2048 = x.1.val; omega
    · show (2048 * x.1.val + x.2.val) % 2048 = x.2.val; omega
  · exact fun k _ => congrArg f (Fin.ext (Nat.div_add_mod k.val 2048)).symm

/-- One point's product. -/
def part (x0 : FVec Ideal S1024x2048 .bf16) (x1 : FVec Ideal S1x2048x1024 .bf16) : FVec Ideal S1024x1024 .f32 := fun j => ∑ k : Fin 2048, x0 (mk2 (j 0) k) * x1 (mk3 0 k (j 1))

theorem pay1 (x0 : FVec Ideal S1024x2048 .bf16) (x1 : FVec Ideal S1x2048x1024 .bf16) : k0_pay1 (F := Ideal) x1 x0 = part x0 x1 := by
  unfold k0_pay1
  simp only [shapeCast_self]
  funext j
  refine (congrFun (k_dot x0 (shapeCast S2048x1024 x1 shapeCasts_S1x2048x1024_S2048x1024)) j).trans ?_
  exact Finset.sum_congr rfl fun k _ => congrArg (_ * ·) (ValueIdx.shapeCast_1ab_ab_apply x1 _ k (j 1))
theorem pay2 (a : FVec Ideal S1024x1024 .f32) (x0 : FVec Ideal S1024x2048 .bf16) (x1 : FVec Ideal S1x2048x1024 .bf16) : k0_pay2 (F := Ideal) a x1 x0 = addf a (part x0 x1) := by
  rw [← pay1]
  unfold k0_pay2 k0_pay1
  simp only [shapeCast_self]
theorem pay3 (a x t : FVec Ideal S1024x1024 .f32) (x0 : FVec Ideal S1024x2048 .bf16) (x1 : FVec Ideal S1x2048x1024 .bf16) :
    k0_pay3 (F := Ideal) a x1 x0 x t = subf (addf x (addf a (part x0 x1))) t := by
  rw [← pay2]
  unfold k0_pay3 k0_pay2
  simp only [shapeCast_self]
/-- The sum of a block's squares. -/
theorem pay6 (a x t : FVec Ideal S1024x1024 .f32) (x0 : FVec Ideal S1024x2048 .bf16) (x1 : FVec Ideal S1x2048x1024 .bf16) (e : FVec Ideal S1024x1024 .f32)
    (he : k0_pay3 (F := Ideal) a x1 x0 x t = e) : k0_pay6 (F := Ideal) a x1 x0 x t = fun j => ∑ q : Fin 1024, ∑ p : Fin 1024, e (mk2 p q) * e (mk2 p q) := by
  unfold k0_pay6
  rw [he]
  simp only [shapeCast_self]
  funext j
  refine (broadcastTo_apply _ _ j (mk2 0 0) fun a => by
    match a with
    | ⟨0, _⟩ => rfl
    | ⟨1, _⟩ => rfl).trans ?_
  refine (shapeCast_apply _ _ (mk2 (m := 1) (n := 1) 0 0) (mk1 0) (by rw [Shape.rowMajor_val_one, Shape.rowMajor_val_two]; rfl)).trans ?_
  refine (Ideal.multiReduction_add_single _ _ _ _ _ _).trans (Finset.sum_congr rfl fun q _ => ?_)
  refine (shapeCast_apply _ _ _ (mk1 q) (by rw [Shape.rowMajor_val_one, Shape.rowMajor_val_two]; show q.val = 0 * 1024 + q.val; omega)).trans ?_
  refine (Ideal.multiReduction_add_single _ _ _ _ _ _).trans (Finset.sum_congr rfl fun p _ => ?_)
  exact congrArg (fun i => e i * e i) (ext2 rfl rfl)

/-! ## What a point leaves -/

section
variable (c : Dev nD) (t : Fin cfg0.N) (x0 : FVec Ideal S1024x2048 .bf16) (x1 : FVec Ideal S1x2048x1024 .bf16) (x2 x3 a : FVec Ideal S1024x1024 .f32)

theorem outA (h0 h1 h2) : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3
    = part x0 x1 := by
  unfold sout0_A_0
  rw [View.read_writes_eq_canon]
  on_goal 2 => exact fun y => scover0_A_0 ..
  unfold kernelRun0_A
  dsimp only
  sl_unfold_words
  simp only [View.readAt_eq_ld, (hs0_0 t).read_unread, (hs0_1 t).read_unread, View.ld_unit_zero (S := S1024x2048) hz2, View.ld_unit_zero (S := S1x2048x1024) hz3, View.canon_unit_zero (S := S1024x1024) hz2, View.canon_unit_zero (S := S8x128) hz2]
  exact pay1 x0 x1
theorem outB (h0 h1 h2) : sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 a
    = addf a (part x0 x1) := by
  unfold sout0_B_0
  rw [View.read_writes_eq_canon]
  on_goal 2 => exact fun y => scover0_B_0 ..
  unfold kernelRun0_B
  dsimp only
  sl_unfold_words
  simp only [View.readAt_eq_ld, (hs0_0 t).read_unread, (hs0_1 t).read_unread, (Memref.isWhole_whole _).read_unread, View.ld_unit_zero (S := S1024x2048) hz2, View.ld_unit_zero (S := S1024x1024) hz2, View.ld_unit_zero (S := S1x2048x1024) hz3, View.canon_unit_zero (S := S1024x1024) hz2, View.canon_unit_zero (S := S8x128) hz2]
  exact pay2 a x0 x1
theorem outC (h0 h1 h2) (e : FVec Ideal S1024x1024 .f32) (he : subf (addf x2 (addf a (part x0 x1))) x3 = e) :
    out0_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 a
      = (fun j => e j * Ideal.ofBits .f32 0x3A000000#32) ∧
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 a
      = (fun j => e j * Ideal.ofBits .f32 0x3A000000#32) ∧
    out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 h1 h2 x0 x1 x2 x3 a
      = fun j => ∑ q : Fin 1024, ∑ p : Fin 1024, e (mk2 p q) * e (mk2 p q) := by
  unfold out0_C_4 out0_C_5 out0_C_6
  rw [View.read_writes_eq_canon]
  on_goal 2 => exact fun y => cover0_C_4 ..
  rw [View.read_writes_eq_canon]
  on_goal 2 => exact fun y => cover0_C_5 ..
  rw [View.read_writes_eq_canon]
  on_goal 2 => exact fun y => cover0_C_6 ..
  unfold kernelRun0_C
  dsimp only
  sl_unfold_words
  simp only [View.readAt_eq_ld, (hs0_0 t).read_unread, (hs0_1 t).read_unread, (hs0_2 t).read_unread, (hs0_3 t).read_unread, (Memref.isWhole_whole _).read_unread, View.ld_unit_zero (S := S1024x2048) hz2, View.ld_unit_zero (S := S1024x1024) hz2, View.ld_unit_zero (S := S1x2048x1024) hz3, View.canon_unit_zero (S := S1024x1024) hz2, View.canon_unit_zero (S := S8x128) hz2]
  have h3 := (pay3 a x2 x3 x0 x1).trans he
  refine ⟨?_, ?_, pay6 a x2 x3 x0 x1 e h3⟩
  · unfold k0_pay4
    rw [h3]
    rfl
  · unfold k0_pay5 k0_pay4
    rw [h3]
    rfl
end

/-! ## The blocks as parts of the arguments -/

variable (m : (ℓ : Loc nD τ sig) → Buf (Elt Ideal) ℓ) (c : Dev nD)

theorem index : ∀ t : Fin cfg0.N, (win0_0.index t 0 = t.val / 8 ∧ win0_0.index t 1 = t.val % 4)
    ∧ (win0_1.index t 0 = t.val % 4 ∧ win0_1.index t 1 = 0 ∧ win0_1.index t 2 = t.val / 4 % 2)
    ∧ (win0_2.index t 0 = t.val / 8 ∧ win0_2.index t 1 = t.val / 4 % 2) ∧ (win0_3.index t 0 = t.val / 8 ∧ win0_3.index t 1 = t.val / 4 % 2)
    ∧ (win0_4.index t 0 = t.val / 8 ∧ win0_4.index t 1 = t.val / 4 % 2) ∧ (win0_5.index t 0 = t.val / 8 ∧ win0_5.index t 1 = t.val / 4 % 2)
    ∧ (win0_6.index t 0 = t.val / 8 ∧ win0_6.index t 1 = t.val / 4 % 2) :=
  (by decide +kernel : ∀ t : Fin grid0.N, _)

theorem lt16 (t : Fin cfg0.N) : t.val < 16 := lt_of_lt_of_eq t.isLt (show cfg0.N = 16 from N_0)

/-- Row `p` and column `q` of point `t`'s block, and the quarter it takes. -/
def row (t : Fin cfg0.N) (p : Fin 1024) : Fin 2048 := ⟨1024 * (t.val / 8) + p.val, by have := lt16 t; have := p.isLt; omega⟩
def col (t : Fin cfg0.N) (q : Fin 1024) : Fin 2048 := ⟨1024 * (t.val / 4 % 2) + q.val, by have := q.isLt; omega⟩
def qtr (t : Fin cfg0.N) : Fin 4 := ⟨t.val % 4, Nat.mod_lt _ (by decide)⟩

theorem V0' : V m c main_v0 = fun i => m (c.tc.loc main_arg0) i := by
  show StableHlo.after hostOps0 (fun b => m (c, b)) main_v0 = _
  after_results_simp
  rfl
theorem V2' : V m c main_v2 = shapeCast S4x2048x2048 (m (c.tc.loc main_arg1)) shapeCasts_S8192x2048_S4x2048x2048 := by
  show StableHlo.after hostOps0 (fun b => m (c, b)) main_v2 = _
  after_results_simp
  rfl

abbrev argA : FVec Ideal S2048x8192 .f32 := m (c.tc.loc main_arg0)
abbrev argW : FVec Ideal S8192x2048 .f32 := m (c.tc.loc main_arg1)
abbrev argX : FVec Ideal S2048x2048 .f32 := m (c.tc.loc main_arg2)
abbrev argT : FVec Ideal S2048x2048 .f32 := m (c.tc.loc main_arg3)

theorem iblk0 (t : Fin cfg0.N) : (iblk m c 0 t : FVec Ideal S1024x2048 .bf16) = fun j => argA m c (mk2 (row t (j 0)) (quarter (qtr t) (j 1))) := by
  funext j
  unfold iblk
  rw [View.read_apply]
  show V m c main_v0 _ = _
  rw [V0']
  exact congrArg (m (c.tc.loc main_arg0)) (ext2 (at_blk (index t).1.1) (at_blk (index t).1.2))
theorem iblk1 (t : Fin cfg0.N) : (iblk m c 1 t : FVec Ideal S1x2048x1024 .bf16) = fun j => argW m c (mk2 (quarter (qtr t) (j 1)) (col t (j 2))) := by
  funext j
  unfold iblk
  rw [View.read_apply]
  show V m c main_v2 _ = _
  rw [V2']
  refine shapeCast_apply _ _ _ (mk2 (quarter (qtr t) (j 1)) (col t (j 2))) ?_
  rw [Shape.rowMajor_val_three, Shape.rowMajor_val_two]
  show (2048 * (t.val % 4) + (j 1).val) * 2048 + (1024 * (t.val / 4 % 2) + (j 2).val)
    = ((win0_1.index t 0 * 1 + 1 * (j 0).val) * 2048 + (win0_1.index t 1 * 2048 + 1 * (j 1).val)) * 2048 + (win0_1.index t 2 * 1024 + 1 * (j 2).val)
  rw [(index t).2.1.1, (index t).2.1.2.1, (index t).2.1.2.2]
  have h0 : (j 0).val = 0 := Nat.lt_one_iff.mp (j 0).isLt
  omega
theorem iblk2 (t : Fin cfg0.N) : (iblk m c 2 t : FVec Ideal S1024x1024 .f32) = fun j => argX m c (mk2 (row t (j 0)) (col t (j 1))) := by
  funext j
  unfold iblk
  rw [View.read_apply]
  show V m c main_arg2 _ = _
  rw [V_main_arg2]
  exact congrArg (m (c.tc.loc main_arg2)) (ext2 (at_blk (index t).2.2.1.1) (at_blk (index t).2.2.1.2))
theorem iblk3 (t : Fin cfg0.N) : (iblk m c 3 t : FVec Ideal S1024x1024 .f32) = fun j => argT m c (mk2 (row t (j 0)) (col t (j 1))) := by
  funext j
  unfold iblk
  rw [View.read_apply]
  show V m c main_arg3 _ = _
  rw [V_main_arg3]
  exact congrArg (m (c.tc.loc main_arg3)) (ext2 (at_blk (index t).2.2.2.1.1) (at_blk (index t).2.2.2.1.2))

/-- One quarter of a block's product, of the arguments. -/
def prodQ (t : Fin cfg0.N) (s : Fin 4) : FVec Ideal S1024x1024 .f32 := fun j => ∑ k : Fin 2048, argA m c (mk2 (row t (j 0)) (quarter s k)) * argW m c (mk2 (quarter s k) (col t (j 1)))
theorem part_eq (t : Fin cfg0.N) : part (iblk m c 0 t) (iblk m c 1 t) = prodQ m c t (qtr t) := by
  rw [iblk0, iblk1]
  rfl
theorem prodQ_congr {t t' : Fin cfg0.N} (h : t.val / 4 = t'.val / 4) (s : Fin 4) : prodQ m c t s = prodQ m c t' s := by
  have e0 : row t = row t' := funext fun p => Fin.ext (by show 1024 * (t.val / 8) + p.val = 1024 * (t'.val / 8) + p.val; omega)
  have e1 : col t = col t' := funext fun p => Fin.ext (by show 1024 * (t.val / 4 % 2) + p.val = 1024 * (t'.val / 4 % 2) + p.val; omega)
  unfold prodQ
  rw [e0, e1]

theorem scrA (t : Fin cfg0.N) (h : t.val % 4 = 0) : (outsAt0 m c t.val t.isLt).2.2.2.2 = prodQ m c t (qtr t) := by
  have e := outA c t (iblk m c 0 t) (iblk m c 1 t) (iblk m c 2 t) (iblk m c 3 t) ((hcond0_0 t).mpr h)
    (fun k => absurd ((hcond0_1 t).mp k) (by omega)) (fun k => absurd ((hcond0_2 t).mp k) (by omega))
  rw [outsAt0_A m c t h (by omega) (by omega)]
  dsimp only
  rw [e, part_eq]
theorem scrB (t : Fin cfg0.N) (h : 1 ≤ t.val % 4 ∧ t.val % 4 ≤ 2) : (outsAt0 m c t.val t.isLt).2.2.2.2
    = addf (outsAt0 m c (t.val - 1) (Nat.lt_of_le_of_lt (Nat.sub_le _ _) t.isLt)).2.2.2.2 (prodQ m c t (qtr t)) := by
  have e := outB c t (iblk m c 0 t) (iblk m c 1 t) (iblk m c 2 t) (iblk m c 3 t)
    (outsAt0 m c (t.val - 1) (Nat.lt_of_le_of_lt (Nat.sub_le _ _) t.isLt)).2.2.2.2
    (fun k => absurd ((hcond0_0 t).mp k) (by omega)) ((hcond0_1 t).mpr h) (fun k => absurd ((hcond0_2 t).mp k) (by omega))
  rw [outsAt0_B m c t (by omega) h (by omega)]
  dsimp only
  rw [e, part_eq]

/-- A block's differences. -/
def errB (t : Fin cfg0.N) : FVec Ideal S1024x1024 .f32 := fun j => err (argA m c) (argW m c) (argX m c) (argT m c) (row t (j 0)) (col t (j 1))

theorem last (t : Fin cfg0.N) (h : t.val % 4 = 3) :
    subf (addf (iblk m c 2 t) (addf (outsAt0 m c (t.val - 1) (Nat.lt_of_le_of_lt (Nat.sub_le _ _) t.isLt)).2.2.2.2 (part (iblk m c 0 t) (iblk m c 1 t)))) (iblk m c 3 t) = errB m c t := by
  have hN := lt16 t
  let t2 : Fin cfg0.N := ⟨t.val - 1, Nat.lt_of_le_of_lt (Nat.sub_le _ _) t.isLt⟩
  let t1 : Fin cfg0.N := ⟨t.val - 1 - 1, Nat.lt_of_le_of_lt (Nat.sub_le _ _) t2.isLt⟩
  let t0 : Fin cfg0.N := ⟨t.val - 1 - 1 - 1, Nat.lt_of_le_of_lt (Nat.sub_le _ _) t1.isLt⟩
  have v2 : t2.val = t.val - 1 := rfl
  have v1 : t1.val = t.val - 1 - 1 := rfl
  have v0 : t0.val = t.val - 1 - 1 - 1 := rfl
  have e2 := scrB m c t2 (by omega)
  have e1 := scrB m c t1 (by omega)
  have e0 := scrA m c t0 (by omega)
  have q2 : qtr t2 = 2 := Fin.ext (by show t2.val % 4 = 2; omega)
  have q1 : qtr t1 = 1 := Fin.ext (by show t1.val % 4 = 1; omega)
  have q0 : qtr t0 = 0 := Fin.ext (by show t0.val % 4 = 0; omega)
  have q3 : qtr t = 3 := Fin.ext h
  rw [q2, prodQ_congr m c (show t2.val / 4 = t.val / 4 by omega)] at e2
  rw [q1, prodQ_congr m c (show t1.val / 4 = t.val / 4 by omega)] at e1
  rw [q0, prodQ_congr m c (show t0.val / 4 = t.val / 4 by omega)] at e0
  rw [part_eq, q3, iblk2, iblk3]
  refine (congrArg (fun x => subf (addf _ (addf x _)) _) (e2.trans (congrArg (fun x => addf x _) (e1.trans (congrArg (fun x => addf x _) e0))))).trans ?_
  funext j
  exact congrArg (fun x => argX m c (mk2 (row t (j 0)) (col t (j 1))) + x - argT m c (mk2 (row t (j 0)) (col t (j 1))))
    (sum_quarters fun k => argA m c (mk2 (row t (j 0)) k) * argW m c (mk2 k (col t (j 1)))).symm

theorem vals (t : Fin cfg0.N) (h : t.val % 4 = 3) :
    (outsAt0 m c t.val t.isLt).1 = (fun j => errB m c t j * Ideal.ofBits .f32 0x3A000000#32) ∧
    (outsAt0 m c t.val t.isLt).2.1 = (fun j => errB m c t j * Ideal.ofBits .f32 0x3A000000#32) ∧
    (outsAt0 m c t.val t.isLt).2.2.1 = fun j => ∑ q : Fin 1024, ∑ p : Fin 1024, errB m c t (mk2 p q) * errB m c t (mk2 p q) := by
  have e := outC c t (iblk m c 0 t) (iblk m c 1 t) (iblk m c 2 t) (iblk m c 3 t)
    (outsAt0 m c (t.val - 1) (Nat.lt_of_le_of_lt (Nat.sub_le _ _) t.isLt)).2.2.2.2
    (fun k => absurd ((hcond0_0 t).mp k) (by omega)) (fun k => absurd ((hcond0_1 t).mp k) (by omega)) ((hcond0_2 t).mpr h) (errB m c t) (last m c t h)
  rw [outsAt0_C m c t (by omega) (by omega) h]
  dsimp only
  exact e

/-! ## The arrays after the run -/

/-- The last point of the block that holds entry `(i, j)`. -/
def pt (i j : Fin 2048) : Fin cfg0.N :=
  ⟨8 * (i.val / 1024) + 4 * (j.val / 1024) + 3, by rw [show cfg0.N = 16 from N_0]; have := i.isLt; have := j.isLt; omega⟩
theorem pt_row (i j : Fin 2048) : (pt i j).val / 8 = i.val / 1024 := by
  show (8 * (i.val / 1024) + 4 * (j.val / 1024) + 3) / 8 = _; have := j.isLt; omega
theorem pt_col (i j : Fin 2048) : (pt i j).val / 4 % 2 = j.val / 1024 := by
  show (8 * (i.val / 1024) + 4 * (j.val / 1024) + 3) / 4 % 2 = _; have := j.isLt; omega
theorem pt_last (i j : Fin 2048) : (pt i j).val % 4 = 3 := by
  show (8 * (i.val / 1024) + 4 * (j.val / 1024) + 3) % 4 = 3; omega

/-- The gradient of the output. -/
def dyv : S2048x2048.Idx → EReal := fun i => err (argA m c) (argW m c) (argX m c) (argT m c) (i 0) (i 1) * Ideal.ofBits .f32 0x3A000000#32

theorem final4 : (dats m 0 c).arrAt 4 cfg0.N = (dyv m c : FVec Ideal S2048x2048 .f32) := by
  refine (dats m 0 c).arrAt_eq_of_cover 4 _ (fun t hf => ?_) fun i => ⟨pt (i 0) (i 1), (flush0_4 _).mpr (pt_last _ _), ?_⟩
  · show (cfg0.win 4).cut (grid0.coords t) ((dats m 0 c).after 4 t) = _
    rw [after0_4, (vals m c t ((flush0_4 t).mp hf)).1]
    funext j
    rw [View.read_apply]
    have e : ((cfg0.win 4).blk t).view.emb j = mk2 (row t (j 0)) (col t (j 1)) := ext2 (at_blk (index t).2.2.2.2.1.1) (at_blk (index t).2.2.2.2.1.2)
    rw [e]
    rfl
  · show i ∈ ((View.whole main_v3_0).slice (win0_4.rect (pt (i 0) (i 1)))).set
    rw [View.set_slice_whole, Rect.mem_set_unit]
    exact Fin.forall_fin_two.mpr ⟨in_blk (index (pt (i 0) (i 1))).2.2.2.2.1.1 (pt_row _ _) (by decide), in_blk (index (pt (i 0) (i 1))).2.2.2.2.1.2 (pt_col _ _) (by decide)⟩
theorem final5 : (dats m 0 c).arrAt 5 cfg0.N = (dyv m c : FVec Ideal S2048x2048 .bf16) := by
  refine (dats m 0 c).arrAt_eq_of_cover 5 _ (fun t hf => ?_) fun i => ⟨pt (i 0) (i 1), (flush0_5 _).mpr (pt_last _ _), ?_⟩
  · show (cfg0.win 5).cut (grid0.coords t) ((dats m 0 c).after 5 t) = _
    rw [after0_5, (vals m c t ((flush0_5 t).mp hf)).2.1]
    funext j
    rw [View.read_apply]
    have e : ((cfg0.win 5).blk t).view.emb j = mk2 (row t (j 0)) (col t (j 1)) := ext2 (at_blk (index t).2.2.2.2.2.1.1) (at_blk (index t).2.2.2.2.2.1.2)
    rw [e]
    rfl
  · show i ∈ ((View.whole main_v3_1).slice (win0_5.rect (pt (i 0) (i 1)))).set
    rw [View.set_slice_whole, Rect.mem_set_unit]
    exact Fin.forall_fin_two.mpr ⟨in_blk (index (pt (i 0) (i 1))).2.2.2.2.2.1.1 (pt_row _ _) (by decide), in_blk (index (pt (i 0) (i 1))).2.2.2.2.2.1.2 (pt_col _ _) (by decide)⟩

/-- Entry `p` of half `a`. -/
def half (a : Fin 2) (p : Fin 1024) : Fin 2048 := ⟨1024 * a.val + p.val, by have := a.isLt; have := p.isLt; omega⟩
/-- The sum of the squares of one of the four blocks. -/
def tile (a b : Fin 2) : EReal := ∑ q : Fin 1024, ∑ p : Fin 1024,
  err (argA m c) (argW m c) (argX m c) (argT m c) (half a p) (half b q) * err (argA m c) (argW m c) (argX m c) (argT m c) (half a p) (half b q)

theorem final6 : (dats m 0 c).arrAt 6 cfg0.N = fun i : S16x256.Idx => tile m c ⟨(i 0).val / 8, by have : (i 0).val < 16 := (i 0).isLt; omega⟩ ⟨(i 1).val / 128, by have : (i 1).val < 256 := (i 1).isLt; omega⟩ := by
  refine (dats m 0 c).arrAt_eq_of_cover 6 _ (fun t hf => ?_) fun i => ?_
  · show (cfg0.win 6).cut (grid0.coords t) ((dats m 0 c).after 6 t) = _
    rw [after0_6, (vals m c t ((flush0_6 t).mp hf)).2.2]
    funext j
    rw [View.read_apply]
    have h0 : (j 0).val < 8 := (j 0).isLt
    have h1 : (j 1).val < 128 := (j 1).isLt
    have hN := lt16 t
    have e0 : (((cfg0.win 6).blk t).view.emb j 0).val = 8 * (t.val / 8) + (j 0).val := at_blk (index t).2.2.2.2.2.2.1
    have e1 : (((cfg0.win 6).blk t).view.emb j 1).val = 128 * (t.val / 4 % 2) + (j 1).val := at_blk (index t).2.2.2.2.2.2.2
    have f0 : ∀ h, (⟨(((cfg0.win 6).blk t).view.emb j 0).val / 8, h⟩ : Fin 2) = ⟨t.val / 8, by omega⟩ := fun h => Fin.ext (by show _ / 8 = t.val / 8; rw [e0]; omega)
    have f1 : ∀ h, (⟨(((cfg0.win 6).blk t).view.emb j 1).val / 128, h⟩ : Fin 2) = ⟨t.val / 4 % 2, by omega⟩ := fun h => Fin.ext (by show _ / 128 = t.val / 4 % 2; rw [e1]; omega)
    show _ = tile m c ⟨(((cfg0.win 6).blk t).view.emb j 0).val / 8, _⟩ ⟨(((cfg0.win 6).blk t).view.emb j 1).val / 128, _⟩
    rw [f0, f1]
    rfl
  · have h0 : (i 0).val < 16 := (i 0).isLt
    have h1 : (i 1).val < 256 := (i 1).isLt
    let t : Fin cfg0.N := ⟨8 * ((i 0).val / 8) + 4 * ((i 1).val / 128) + 3, by rw [show cfg0.N = 16 from N_0]; omega⟩
    have ht : t.val = 8 * ((i 0).val / 8) + 4 * ((i 1).val / 128) + 3 := rfl
    refine ⟨t, (flush0_6 _).mpr (by omega), ?_⟩
    show i ∈ ((View.whole main_v3_2).slice (win0_6.rect t)).set
    rw [View.set_slice_whole, Rect.mem_set_unit]
    have r0 : t.val / 8 = (i 0).val / 8 := by omega
    have r1 : t.val / 4 % 2 = (i 1).val / 128 := by omega
    exact Fin.forall_fin_two.mpr ⟨in_blk (index t).2.2.2.2.2.2.1 r0 (by decide), in_blk (index t).2.2.2.2.2.2.2 r1 (by decide)⟩

/-! ## The lines after the call -/

/-- The loss. -/
def lossv : FVec Ideal S_ .f32 := fun _ => (∑ j : S2x2.Idx, tile m c (j 0) (j 1)) * Ideal.ofBits .f32 0x39800000#32

theorem tail6 : Pipeline.afterTail₀ cfgs (dats m) 0 (V0 m) [hostOps1] c main_v6 = lossv m c := by
  have e : Pipeline.withArrays (cfgs 0).spec c (V0 m c) (fun w => (dats m 0 c).arrAt w (cfgs 0).N) (Proc.devRef .tc main_v3_2)
      = fun i : S16x256.Idx => tile m c ⟨(i 0).val / 8, by have : (i 0).val < 16 := (i 0).isLt; omega⟩ ⟨(i 1).val / 128, by have : (i 1).val < 256 := (i 1).isLt; omega⟩ :=
    (Pipeline.withArrays_arr spec0 launch0.win.arr_inj c (V0 m c) (fun w => (dats m 0 c).arrAt w cfg0.N) 6).trans (final6 m c)
  unfold Pipeline.afterTail₀
  generalize Pipeline.withArrays (cfgs 0).spec c (V0 m c) (fun w => (dats m 0 c).arrAt w (cfgs 0).N) = W at e ⊢
  show StableHlo.after hostOps1 W main_v6 = _
  after_results_simp
  have r : (Host.slice S2x2 ![0, 0] ![8, 128] (W (Proc.tc.devRef main_v3_2)) slicesBy_S16x256_S2x2_0s8_0s128 : FVec Ideal S2x2 .f32)
      = fun j => tile m c (j 0) (j 1) := by
    rw [e]
    funext j
    exact congrArg₂ (tile m c) (Fin.ext (by show (0 + 8 * (j 0).val) / 8 = (j 0).val; omega)) (Fin.ext (by show (0 + 128 * (j 1).val) / 128 = (j 1).val; omega))
  rw [r]
  funext i
  show Host.reduceAdd (F := Ideal) (φ := .f32) (fun j : S2x2.Idx => tile m c (j 0) (j 1)) (constant S_ .f32 0x00000000#32) reducesTo_S2x2_S_d0_1 h_S_ i * _ = _
  simp only [Host.reduceAdd, Ideal.hostReduceAdd_def]
  rw [Ideal.hostReduceAdd_total _ (fun b => b.elim0)]
  show (Ideal.ofBits .f32 0x00000000#32 + _) * Ideal.ofBits .f32 0x39800000#32 = _
  rw [lit_zero, EReal.coe_zero, zero_add]
  rfl

/-- The run leaves the loss and the two forms of the gradient. -/
theorem run (ρ : Dev nD → PrngReg) : θ_run (defs (F := Ideal)) (onTc (τ := τ) (main (F := Ideal))) ⟨m, fun _ => 0, ρ⟩ (fun r => ∀ c : Dev nD,
      r.2.mem (c.tc.loc main_v6) = lossv m c
      ∧ r.2.mem (c.tc.loc main_v3_0) = (dyv m c : FVec Ideal S2048x2048 .f32)
      ∧ r.2.mem (c.tc.loc main_v3_1) = (dyv m c : FVec Ideal S2048x2048 .bf16)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c =>
      ⟨((h.1 c).2 main_v6 (Pipeline.mem_restRefs_of main_v6 (by decide) (by decide))).trans (tail6 m c),
        ((h.1 c).1 4).trans (final4 m c), ((h.1 c).1 5).trans (final5 m c), h.2 c⟩)
    (θ_run_and (run_main m ρ) (unchanged m ρ))

end Cert.LossKernel

end
-- ==== Proof.DhClaim.lean ====
/-
  The value claim about the gradient below a product: that kernel and reference compute the same product with the weights'
  transpose, which the kernel takes a quarter at a time.
-/
module

public import proofs.«01_k».proof.Defs
public import proofs.«01_k».proof.Proof.LossKernel
public import proofs.«01_k».proof.Proof.Gen.DhBwdIdeal.Value
public import proofs.«01_k».proof.Proof.Gen.DhBwdRefIdeal.Read

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.DhKernel

open Cert.Reals Cert.Prods Cert.DhBwdIdeal Cert.DhBwdIdeal.Gen
open Cert.LossKernel (quarter sum_quarters)

/-- The gradient: `x` times the transpose of the weights. -/
def grad (x w : FVec Ideal S2048x8192 .f32) : FVec Ideal S2048x2048 .f32 := fun i => ∑ k : Fin 8192, x (mk2 (i 0) k) * w (mk2 (i 1) k)

/-- One point's product. -/
def part (x0 : FVec Ideal S1024x2048 .bf16) (x1 : FVec Ideal S1x1024x2048 .bf16) : FVec Ideal S1024x1024 .f32 := fun j => ∑ k : Fin 2048, x0 (mk2 (j 0) k) * x1 (mk3 0 (j 1) k)

theorem pay1 (x0 : FVec Ideal S1024x2048 .bf16) (x1 : FVec Ideal S1x1024x2048 .bf16) : k0_pay1 (F := Ideal) x1 x0 = part x0 x1 := by
  unfold k0_pay1
  simp only [shapeCast_self]
  funext j
  refine (congrFun (k_dotT x0 (shapeCast S1024x2048 x1 shapeCasts_S1x1024x2048_S1024x2048)) j).trans ?_
  exact Finset.sum_congr rfl fun k _ => congrArg (_ * ·) (ValueIdx.shapeCast_1ab_ab_apply x1 _ (j 1) k)
theorem pay2 (a : FVec Ideal S1024x1024 .f32) (x0 : FVec Ideal S1024x2048 .bf16) (x1 : FVec Ideal S1x1024x2048 .bf16) : k0_pay2 (F := Ideal) a x1 x0 = addf a (part x0 x1) := by
  rw [← pay1]
  unfold k0_pay2 k0_pay1
  simp only [shapeCast_self]
theorem pay3 (a : FVec Ideal S1024x1024 .f32) (x0 : FVec Ideal S1024x2048 .bf16) (x1 : FVec Ideal S1x1024x2048 .bf16) : k0_pay3 (F := Ideal) a x1 x0 = addf a (part x0 x1) := by
  rw [← pay1]
  unfold k0_pay3 k0_pay1
  simp only [shapeCast_self]

/-! ## What a point leaves -/

section
variable (c : Dev nD) (t : Fin cfg0.N) (x0 : FVec Ideal S1024x2048 .bf16) (x1 : FVec Ideal S1x1024x2048 .bf16) (a : FVec Ideal S1024x1024 .f32)

theorem outA (h0 h1 h2) : sout0_A_0 (F := Ideal) c (grid0.coords t) (ms0_0 t) (hs0_0 t) (ms0_1 t) (hs0_1 t) (ms0_2 t) (hs0_2 t) (ms0_3 t) (hs0_3 t) scM0_0 (Memref.isWhole_whole _) h0 h1 h2 x0 x1
    = part x0 x1 := by
  unfold sout0_A_0
  rw [View.read_writes_eq_canon]
  on_goal 2 => exact fun y => scover0_A_0 ..
  unfold kernelRun0_A
  dsimp only
  sl_unfold_words
  simp only [View.readAt_eq_ld, (hs0_0 t).read_unread, (hs0_1 t).read_unread, View.ld_unit_zero (S := S1024x2048) hz2, View.ld_unit_zero (S := S1x1024x2048) hz3, View.canon_unit_zero (S := S1024x1024) hz2]
  exact pay1 x0 x1
theorem outB (h0 h1 h2) : sout0_B_0 (F := Ideal) c (grid0.coords t) (ms0_0 t) (hs0_0 t) (ms0_1 t) (hs0_1 t) (ms0_2 t) (hs0_2 t) (ms0_3 t) (hs0_3 t) scM0_0 (Memref.isWhole_whole _) h0 h1 h2 x0 x1 a
    = addf a (part x0 x1) := by
  unfold sout0_B_0
  rw [View.read_writes_eq_canon]
  on_goal 2 => exact fun y => scover0_B_0 ..
  unfold kernelRun0_B
  dsimp only
  sl_unfold_words
  simp only [View.readAt_eq_ld, (hs0_0 t).read_unread, (hs0_1 t).read_unread, (Memref.isWhole_whole _).read_unread, View.ld_unit_zero (S := S1024x2048) hz2, View.ld_unit_zero (S := S1024x1024) hz2, View.ld_unit_zero (S := S1x1024x2048) hz3, View.canon_unit_zero (S := S1024x1024) hz2]
  exact pay2 a x0 x1
theorem outC (h0 h1 h2) : out0_C_2 (F := Ideal) c (grid0.coords t) (ms0_0 t) (hs0_0 t) (ms0_1 t) (hs0_1 t) (ms0_2 t) (hs0_2 t) (ms0_3 t) (hs0_3 t) scM0_0 (Memref.isWhole_whole _) h0 h1 h2 x0 x1 a
    = addf a (part x0 x1) := by
  unfold out0_C_2
  rw [View.read_writes_eq_canon]
  on_goal 2 => exact fun y => cover0_C_2 ..
  unfold kernelRun0_C
  dsimp only
  sl_unfold_words
  simp only [View.readAt_eq_ld, (hs0_0 t).read_unread, (hs0_1 t).read_unread, (Memref.isWhole_whole _).read_unread, View.ld_unit_zero (S := S1024x2048) hz2, View.ld_unit_zero (S := S1024x1024) hz2, View.ld_unit_zero (S := S1x1024x2048) hz3, View.canon_unit_zero (S := S1024x1024) hz2]
  exact pay3 a x0 x1
end

/-! ## The blocks as parts of the arguments -/

variable (m : (ℓ : Loc nD τ sig) → Buf (Elt Ideal) ℓ) (c : Dev nD)

theorem index : ∀ t : Fin cfg0.N, (win0_0.index t 0 = t.val / 8 ∧ win0_0.index t 1 = t.val % 4)
    ∧ (win0_1.index t 0 = t.val % 4 ∧ win0_1.index t 1 = t.val / 4 % 2 ∧ win0_1.index t 2 = 0)
    ∧ (win0_2.index t 0 = t.val / 8 ∧ win0_2.index t 1 = t.val / 4 % 2) :=
  (by decide +kernel : ∀ t : Fin grid0.N, _)

theorem lt16 (t : Fin cfg0.N) : t.val < 16 := lt_of_lt_of_eq t.isLt (show cfg0.N = 16 from N_0)

/-- Row `p` and column `q` of point `t`'s block, and the quarter it takes. -/
def row (t : Fin cfg0.N) (p : Fin 1024) : Fin 2048 := ⟨1024 * (t.val / 8) + p.val, by have := lt16 t; have := p.isLt; omega⟩
def col (t : Fin cfg0.N) (q : Fin 1024) : Fin 2048 := ⟨1024 * (t.val / 4 % 2) + q.val, by have := q.isLt; omega⟩
def qtr (t : Fin cfg0.N) : Fin 4 := ⟨t.val % 4, Nat.mod_lt _ (by decide)⟩

abbrev argX : FVec Ideal S2048x8192 .f32 := m (c.tc.loc main_arg0)
abbrev argW : FVec Ideal S2048x8192 .f32 := m (c.tc.loc main_arg1)

theorem V0' : V m c main_v0 = fun i => m (c.tc.loc main_arg0) i := by
  show StableHlo.after hostOps0 (fun b => m (c, b)) main_v0 = _
  after_results_simp
  rfl
theorem V3' : V m c main_v3 = transpose S4x2048x2048 [1, 0, 2] (shapeCast S2048x4x2048 (argW m c) shapeCasts_S2048x8192_S2048x4x2048) transposes_S2048x4x2048_S4x2048x2048_1_0_2 := by
  show StableHlo.after hostOps0 (fun b => m (c, b)) main_v3 = _
  after_results_simp
  rfl

theorem iblk0 (t : Fin cfg0.N) : (iblk m c 0 t : FVec Ideal S1024x2048 .bf16) = fun j => argX m c (mk2 (row t (j 0)) (quarter (qtr t) (j 1))) := by
  funext j
  unfold iblk
  rw [View.read_apply]
  show V m c main_v0 _ = _
  rw [V0']
  exact congrArg (m (c.tc.loc main_arg0)) (ext2 (at_blk (index t).1.1) (at_blk (index t).1.2))
theorem iblk1 (t : Fin cfg0.N) : (iblk m c 1 t : FVec Ideal S1x1024x2048 .bf16) = fun j => argW m c (mk2 (col t (j 1)) (quarter (qtr t) (j 2))) := by
  funext j
  unfold iblk
  rw [View.read_apply]
  show V m c main_v3 _ = _
  rw [V3']
  have h0 : (j 0).val = 0 := Nat.lt_one_iff.mp (j 0).isLt
  refine (transpose_apply _ _ _ _ (mk3 (col t (j 1)) (qtr t) (j 2)) fun a => ?_).trans (shapeCast_apply _ _ _ (mk2 (col t (j 1)) (quarter (qtr t) (j 2))) ?_)
  · match a with
    | ⟨0, _⟩ => show t.val % 4 = win0_1.index t 0 * 1 + 1 * (j 0).val; rw [(index t).2.1.1, h0]; omega
    | ⟨1, _⟩ => show 1024 * (t.val / 4 % 2) + (j 1).val = win0_1.index t 1 * 1024 + 1 * (j 1).val; rw [(index t).2.1.2.1]; omega
    | ⟨2, _⟩ => show (j 2).val = win0_1.index t 2 * 2048 + 1 * (j 2).val; rw [(index t).2.1.2.2]; omega
  · rw [Shape.rowMajor_val_three, Shape.rowMajor_val_two]
    show (col t (j 1)).val * 8192 + (2048 * (t.val % 4) + (j 2).val) = ((col t (j 1)).val * 4 + t.val % 4) * 2048 + (j 2).val
    omega

/-- One quarter of a block's product, of the arguments. -/
def prodQ (t : Fin cfg0.N) (s : Fin 4) : FVec Ideal S1024x1024 .f32 := fun j => ∑ k : Fin 2048, argX m c (mk2 (row t (j 0)) (quarter s k)) * argW m c (mk2 (col t (j 1)) (quarter s k))
theorem part_eq (t : Fin cfg0.N) : part (iblk m c 0 t) (iblk m c 1 t) = prodQ m c t (qtr t) := by
  rw [iblk0, iblk1]
  rfl
theorem prodQ_congr {t t' : Fin cfg0.N} (h : t.val / 4 = t'.val / 4) (s : Fin 4) : prodQ m c t s = prodQ m c t' s := by
  have e0 : row t = row t' := funext fun p => Fin.ext (by show 1024 * (t.val / 8) + p.val = 1024 * (t'.val / 8) + p.val; omega)
  have e1 : col t = col t' := funext fun p => Fin.ext (by show 1024 * (t.val / 4 % 2) + p.val = 1024 * (t'.val / 4 % 2) + p.val; omega)
  unfold prodQ
  rw [e0, e1]

/-- What the sum holds after a point, from what it held before. -/
theorem scrA (t : Fin cfg0.N) (h : t.val % 4 = 0) : (outsAt0 m c t.val t.isLt).2.2 = prodQ m c t (qtr t) := by
  have e := outA c t (iblk m c 0 t) (iblk m c 1 t) ((hcond0_0 t).mpr h)
    (fun k => absurd ((hcond0_1 t).mp k) (by omega)) (fun k => absurd ((hcond0_2 t).mp k) (by omega))
  rw [outsAt0_A m c t h (by omega) (by omega)]
  dsimp only
  rw [e, part_eq]
theorem scrB (t : Fin cfg0.N) (h : 1 ≤ t.val % 4 ∧ t.val % 4 ≤ 2) : (outsAt0 m c t.val t.isLt).2.2
    = addf (outsAt0 m c (t.val - 1) (Nat.lt_of_le_of_lt (Nat.sub_le _ _) t.isLt)).2.2 (prodQ m c t (qtr t)) := by
  have e := outB c t (iblk m c 0 t) (iblk m c 1 t)
    (outsAt0 m c (t.val - 1) (Nat.lt_of_le_of_lt (Nat.sub_le _ _) t.isLt)).2.2
    (fun k => absurd ((hcond0_0 t).mp k) (by omega)) ((hcond0_1 t).mpr h) (fun k => absurd ((hcond0_2 t).mp k) (by omega))
  rw [outsAt0_B m c t (by omega) h (by omega)]
  dsimp only
  rw [e, part_eq]
theorem outLast (t : Fin cfg0.N) (h : t.val % 4 = 3) : (outsAt0 m c t.val t.isLt).1
    = addf (outsAt0 m c (t.val - 1) (Nat.lt_of_le_of_lt (Nat.sub_le _ _) t.isLt)).2.2 (prodQ m c t (qtr t)) := by
  have e := outC c t (iblk m c 0 t) (iblk m c 1 t)
    (outsAt0 m c (t.val - 1) (Nat.lt_of_le_of_lt (Nat.sub_le _ _) t.isLt)).2.2
    (fun k => absurd ((hcond0_0 t).mp k) (by omega)) (fun k => absurd ((hcond0_1 t).mp k) (by omega)) ((hcond0_2 t).mpr h)
  rw [outsAt0_C m c t (by omega) (by omega) h]
  dsimp only
  rw [e, part_eq]

/-- The four quarters together. -/
theorem last (t : Fin cfg0.N) (h : t.val % 4 = 3) :
    (outsAt0 m c t.val t.isLt).1 = fun j => grad (argX m c) (argW m c) (mk2 (row t (j 0)) (col t (j 1))) := by
  have hN := lt16 t
  let t2 : Fin cfg0.N := ⟨t.val - 1, Nat.lt_of_le_of_lt (Nat.sub_le _ _) t.isLt⟩
  let t1 : Fin cfg0.N := ⟨t.val - 1 - 1, Nat.lt_of_le_of_lt (Nat.sub_le _ _) t2.isLt⟩
  let t0 : Fin cfg0.N := ⟨t.val - 1 - 1 - 1, Nat.lt_of_le_of_lt (Nat.sub_le _ _) t1.isLt⟩
  have v2 : t2.val = t.val - 1 := rfl
  have v1 : t1.val = t.val - 1 - 1 := rfl
  have v0 : t0.val = t.val - 1 - 1 - 1 := rfl
  have e2 := scrB m c t2 (by omega)
  have e1 := scrB m c t1 (by omega)
  have e0 := scrA m c t0 (by omega)
  rw [show qtr t2 = 2 from Fin.ext (by show t2.val % 4 = 2; omega), prodQ_congr m c (show t2.val / 4 = t.val / 4 by omega)] at e2
  rw [show qtr t1 = 1 from Fin.ext (by show t1.val % 4 = 1; omega), prodQ_congr m c (show t1.val / 4 = t.val / 4 by omega)] at e1
  rw [show qtr t0 = 0 from Fin.ext (by show t0.val % 4 = 0; omega), prodQ_congr m c (show t0.val / 4 = t.val / 4 by omega)] at e0
  rw [outLast m c t h, show qtr t = 3 from Fin.ext h]
  refine (congrArg (fun x => addf x _) (e2.trans (congrArg (fun x => addf x _) (e1.trans (congrArg (fun x => addf x _) e0))))).trans ?_
  funext j
  exact (sum_quarters fun k => argX m c (mk2 (row t (j 0)) k) * argW m c (mk2 (col t (j 1)) k)).symm

/-! ## The array after the run -/

/-- The last point of the block that holds entry `(i, j)`. -/
def pt (i j : Fin 2048) : Fin cfg0.N :=
  ⟨8 * (i.val / 1024) + 4 * (j.val / 1024) + 3, by rw [show cfg0.N = 16 from N_0]; have := i.isLt; have := j.isLt; omega⟩
theorem pt_row (i j : Fin 2048) : (pt i j).val / 8 = i.val / 1024 := by
  show (8 * (i.val / 1024) + 4 * (j.val / 1024) + 3) / 8 = _; have := j.isLt; omega
theorem pt_col (i j : Fin 2048) : (pt i j).val / 4 % 2 = j.val / 1024 := by
  show (8 * (i.val / 1024) + 4 * (j.val / 1024) + 3) / 4 % 2 = _; have := j.isLt; omega
theorem pt_last (i j : Fin 2048) : (pt i j).val % 4 = 3 := by
  show (8 * (i.val / 1024) + 4 * (j.val / 1024) + 3) % 4 = 3; omega

theorem final2 : (dats m 0 c).arrAt 2 cfg0.N = grad (argX m c) (argW m c) := by
  refine (dats m 0 c).arrAt_eq_of_cover 2 _ (fun t hf => ?_) fun i => ⟨pt (i 0) (i 1), (flush0_2 _).mpr (pt_last _ _), ?_⟩
  · show (cfg0.win 2).cut (grid0.coords t) ((dats m 0 c).after 2 t) = _
    rw [after0_2, last m c t ((flush0_2 t).mp hf)]
    funext j
    rw [View.read_apply]
    have e : ((cfg0.win 2).blk t).view.emb j = mk2 (row t (j 0)) (col t (j 1)) := ext2 (at_blk (index t).2.2.1) (at_blk (index t).2.2.2)
    rw [e]
    rfl
  · show i ∈ ((View.whole main_v4_0).slice (win0_2.rect (pt (i 0) (i 1)))).set
    rw [View.set_slice_whole, Rect.mem_set_unit]
    exact Fin.forall_fin_two.mpr ⟨in_blk (index (pt (i 0) (i 1))).2.2.1 (pt_row _ _) (by decide), in_blk (index (pt (i 0) (i 1))).2.2.2 (pt_col _ _) (by decide)⟩

end Cert.DhKernel

namespace Cert.DhClaim

open Cert.Reals Cert.Prods Cert.DhBwdRefIdeal Cert.DhBwdRefIdeal.Gen Cert.DhBwdRefIdeal.Read

theorem ref (x w : FVec Ideal S2048x8192 .f32) : val_main_v2 (F := Ideal) x w = DhKernel.grad x w := by
  funext i
  refine (val_main_v2_apply x w i).trans (Finset.sum_congr rfl fun k _ => congrArg₂ (fun a b : EReal => a * b) (congrArg x (ext2 rfl rfl)) (congrArg w (ext2 rfl rfl)))

/-- Kernel and reference compute the same array, of any arguments. -/
theorem value : Cert.algebraic_DhBwdIdeal_DhBwdRefIdeal := by
  intro m ρ m' ρ' hpre hagree
  refine ⟨fun c => DhKernel.grad (m (c.tc.loc Cert.DhBwdIdeal.main_arg0)) (m (c.tc.loc Cert.DhBwdIdeal.main_arg1)),
    (θ_run Cert.DhBwdIdeal.defs _ _).mono (fun r h c => ?_) (Cert.DhBwdIdeal.Value.run_blocks m ρ),
    (θ_run Cert.DhBwdRefIdeal.defs _ _).mono (fun r h c => ?_) (Cert.DhBwdRefIdeal.Value.run m' ρ')⟩
  · obtain ⟨h0, -, hk⟩ := h c
    exact ⟨h0.trans (DhKernel.final2 m c), hk⟩
  · obtain ⟨h0, hk⟩ := h c
    obtain ⟨e0, e1⟩ := hagree c
    refine ⟨h0.trans ((Cert.DhBwdRefIdeal.Read.val_main_v2_eq _ _).trans ?_), hk⟩
    rw [e0, e1]
    exact ref _ _

end Cert.DhClaim

end
-- ==== Proof.DupKernel.lean ====
/-
  The gradient of the squared rectified layer with its product, as the kernel computes it.
-/
module

public import proofs.«01_k».proof.Proof.Prods
public import proofs.«01_k».proof.Proof.Gen.DupBwdIdeal.Value
public import Idealize.ShloMosaic.Lib.Tactic

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.DupKernel

open Cert.Reals Cert.Prods Cert.DupBwdIdeal Cert.DupBwdIdeal.Gen

/-- Twice the positive part of `u`. -/
def slope (u : EReal) : EReal := Ideal.ofBits .f32 0x40000000#32 * max u (Ideal.ofBits .f32 0x00000000#32)

/-- The gradient: `dy` times the transpose of `w`, times the slope. -/
def grad (dy : FVec Ideal S2048x2048 .f32) (w : FVec Ideal S8192x2048 .f32) (u : FVec Ideal S2048x8192 .f32) : FVec Ideal S2048x8192 .bf16 :=
  fun i => (∑ k : Fin 2048, dy (mk2 (i 0) k) * w (mk2 (i 1) k)) * slope (u i)

variable (m : (ℓ : Loc nD τ sig) → Buf (Elt Ideal) ℓ) (c : Dev nD)

/-- What one point computes of its blocks. -/
theorem pay (x0 : FVec Ideal S1024x2048 .bf16) (x1 : FVec Ideal S1x1024x2048 .bf16) (x2 : FVec Ideal S1024x1024 .bf16) :
    k0_pay1 (F := Ideal) x1 x0 x2 = fun j => (∑ k : Fin 2048, x0 (mk2 (j 0) k) * x1 (mk3 0 (j 1) k)) * slope (x2 j) := by
  unfold k0_pay1
  simp only [shapeCast_self]
  funext j
  refine congrArg (· * slope (x2 j)) ((congrFun (k_dotT x0 (shapeCast S1024x2048 x1 shapeCasts_S1x1024x2048_S1024x2048)) j).trans ?_)
  exact Finset.sum_congr rfl fun k _ => congrArg (_ * ·) (ValueIdx.shapeCast_1ab_ab_apply x1 _ (j 1) k)

theorem out3 (x0 : FVec Ideal S1024x2048 .bf16) (x1 : FVec Ideal S1x1024x2048 .bf16) (x2 : FVec Ideal S1024x1024 .bf16) :
    out0_3 (F := Ideal) x0 x1 x2 = fun j => (∑ k : Fin 2048, x0 (mk2 (j 0) k) * x1 (mk3 0 (j 1) k)) * slope (x2 j) := by
  unfold out0_3
  rw [View.canon_unit_zero hz2, View.ld_unit_zero (S := S1024x2048) hz2, View.ld_unit_zero (S := S1x1024x2048) hz3, View.ld_unit_zero (S := S1024x1024) hz2]
  exact pay x0 x1 x2

/-! ## The blocks as parts of the arguments -/

theorem index : ∀ t : Fin cfg0.N, (win0_0.index t 0 = t.val / 8 ∧ win0_0.index t 1 = 0)
    ∧ (win0_1.index t 0 = t.val % 8 / 2 ∧ win0_1.index t 1 = t.val % 2 ∧ win0_1.index t 2 = 0)
    ∧ (win0_2.index t 0 = t.val / 8 ∧ win0_2.index t 1 = t.val % 8) ∧ (win0_3.index t 0 = t.val / 8 ∧ win0_3.index t 1 = t.val % 8) :=
  (by decide +kernel : ∀ t : Fin grid0.N, _)

theorem lt16 (t : Fin cfg0.N) : t.val < 16 := lt_of_lt_of_eq t.isLt (show cfg0.N = 16 from N_0)

/-- Row `p` and column `q` of point `t`'s block. -/
def row (t : Fin cfg0.N) (p : Fin 1024) : Fin 2048 := ⟨1024 * (t.val / 8) + p.val, by have := lt16 t; have := p.isLt; omega⟩
def col (t : Fin cfg0.N) (q : Fin 1024) : Fin 8192 := ⟨1024 * (t.val % 8) + q.val, by have := lt16 t; have := q.isLt; omega⟩

theorem V0 : V m c main_v0 = fun i => m (c.tc.loc main_arg0) i := by
  show StableHlo.after hostOps0 (fun b => m (c, b)) main_v0 = _
  after_results_simp <;> rfl
theorem V2 : V m c main_v2 = shapeCast S4x2048x2048 (m (c.tc.loc main_arg1)) shapeCasts_S8192x2048_S4x2048x2048 := by
  show StableHlo.after hostOps0 (fun b => m (c, b)) main_v2 = _
  after_results_simp <;> rfl
theorem V3 : V m c main_v3 = fun i => m (c.tc.loc main_arg2) i := by
  show StableHlo.after hostOps0 (fun b => m (c, b)) main_v3 = _
  after_results_simp <;> rfl

theorem iblk0 (t : Fin cfg0.N) : (iblk m c 0 t : FVec Ideal S1024x2048 .bf16) = fun j => m (c.tc.loc main_arg0) (mk2 (row t (j 0)) (j 1)) := by
  funext j
  unfold iblk
  rw [View.read_apply]
  show V m c main_v0 _ = _
  rw [V0]
  exact congrArg (m (c.tc.loc main_arg0)) (ext2 (at_blk (index t).1.1) (at_zero (index t).1.2))
theorem iblk1 (t : Fin cfg0.N) : (iblk m c 1 t : FVec Ideal S1x1024x2048 .bf16) = fun j => m (c.tc.loc main_arg1) (mk2 (col t (j 1)) (j 2)) := by
  funext j
  unfold iblk
  rw [View.read_apply]
  show V m c main_v2 _ = _
  rw [V2]
  refine shapeCast_apply _ _ _ (mk2 (col t (j 1)) (j 2)) ?_
  rw [Shape.rowMajor_val_three, Shape.rowMajor_val_two]
  show (1024 * (t.val % 8) + (j 1).val) * 2048 + (j 2).val
    = ((win0_1.index t 0 * 1 + 1 * (j 0).val) * 2048 + (win0_1.index t 1 * 1024 + 1 * (j 1).val)) * 2048 + (win0_1.index t 2 * 2048 + 1 * (j 2).val)
  rw [(index t).2.1.1, (index t).2.1.2.1, (index t).2.1.2.2]
  have h0 : (j 0).val = 0 := Nat.lt_one_iff.mp (j 0).isLt
  have := lt16 t
  omega
theorem iblk2 (t : Fin cfg0.N) : (iblk m c 2 t : FVec Ideal S1024x1024 .bf16) = fun j => m (c.tc.loc main_arg2) (mk2 (row t (j 0)) (col t (j 1))) := by
  funext j
  unfold iblk
  rw [View.read_apply]
  show V m c main_v3 _ = _
  rw [V3]
  exact congrArg (m (c.tc.loc main_arg2)) (ext2 (at_blk (index t).2.2.1.1) (at_blk (index t).2.2.1.2))

/-! ## The array after the run -/

/-- The point whose block holds entry `(i, j)`. -/
def pt (i : Fin 2048) (j : Fin 8192) : Fin cfg0.N :=
  ⟨8 * (i.val / 1024) + j.val / 1024, by rw [show cfg0.N = 16 from N_0]; have := i.isLt; have := j.isLt; omega⟩
theorem pt_row (i : Fin 2048) (j : Fin 8192) : (pt i j).val / 8 = i.val / 1024 := by
  show (8 * (i.val / 1024) + j.val / 1024) / 8 = _; have := j.isLt; omega
theorem pt_col (i : Fin 2048) (j : Fin 8192) : (pt i j).val % 8 = j.val / 1024 := by
  show (8 * (i.val / 1024) + j.val / 1024) % 8 = _; have := j.isLt; omega

theorem final3 : (dats m 0 c).arrAt 3 cfg0.N = grad (m (c.tc.loc main_arg0)) (m (c.tc.loc main_arg1)) (m (c.tc.loc main_arg2)) := by
  refine (dats m 0 c).arrAt_eq_of_cover 3 _ (fun t _ => ?_) fun i => ⟨pt (i 0) (i 1), flush0_3 _, ?_⟩
  · rw [Value.flushed3, iblk0, iblk1, iblk2, out3]
    funext j
    rw [View.read_apply]
    have e : ((cfg0.win 3).blk t).view.emb j = mk2 (row t (j 0)) (col t (j 1)) := ext2 (at_blk (index t).2.2.2.1) (at_blk (index t).2.2.2.2)
    rw [e]
    rfl
  · show i ∈ ((View.whole main_v4_0).slice (win0_3.rect (pt (i 0) (i 1)))).set
    rw [View.set_slice_whole, Rect.mem_set_unit]
    exact Fin.forall_fin_two.mpr ⟨in_blk (index (pt (i 0) (i 1))).2.2.2.1 (pt_row _ _) (by decide), in_blk (index (pt (i 0) (i 1))).2.2.2.2 (pt_col _ _) (by decide)⟩

end Cert.DupKernel

end
-- ==== Proof.DupClaim.lean ====
/-
  The value claim about the gradient of the squared rectified layer: that kernel and reference compute the same.
-/
module

public import proofs.«01_k».proof.Defs
public import proofs.«01_k».proof.Proof.DupKernel
public import proofs.«01_k».proof.Proof.Gen.DupBwdRefIdeal.Read

@[expose] public section

set_option maxRecDepth 16384
set_option backward.isDefEq.respectTransparency.types false

noncomputable section

open Idealize.ShloMosaic Idealize.ShloMosaic.TcCoe Idealize.SL.Sem

namespace Cert.DupRef

open Cert.Reals Cert.Prods Cert.DupBwdRefIdeal Cert.DupBwdRefIdeal.Gen Cert.DupBwdRefIdeal.Read

/-- Where `u` is not positive the slope is zero, and so is every product with it. -/
theorem choose (s u : EReal) : Scalar.select (Ideal.cmp .ogt u (Ideal.ofBits .f32 0x00000000#32)) (s * DupKernel.slope u) (Ideal.ofBits .f32 0x00000000#32)
    = s * DupKernel.slope u := by
  unfold Scalar.select Ideal.cmp DupKernel.slope
  rw [Ideal.ofBits_zero_f32]
  by_cases h : (0 : EReal) < u
  · simp [h]
  · simp [h, max_eq_right (not_lt.mp h)]

theorem v12 (dy : FVec Ideal S2048x2048 .f32) (w : FVec Ideal S8192x2048 .f32) (u : FVec Ideal S2048x8192 .f32) :
    val_main_v12 (F := Ideal) dy w u = DupKernel.grad dy w u := by
  unfold val_main_v12 val_main_v11 val_main_v9 val_main_v8
  funext i
  refine Eq.trans ?_ (choose (∑ k : Fin 2048, dy (mk2 (i 0) k) * w (mk2 (i 1) k)) (u i))
  exact congrArg (fun s => Scalar.select (Ideal.cmp .ogt (u i) (Ideal.ofBits .f32 0x00000000#32)) (s * DupKernel.slope (u i)) (Ideal.ofBits .f32 0x00000000#32))
    (congrFun (h_dotT dy w) i)

end Cert.DupRef

namespace Cert.DupClaim

/-- Kernel and reference compute the same array, of any arguments. -/
theorem value : Cert.algebraic_DupBwdIdeal_DupBwdRefIdeal := by
  intro m ρ m' ρ' hpre hagree
  refine ⟨fun c => (Cert.DupBwdIdeal.Gen.dats m 0 c).arrAt 3 Cert.DupBwdIdeal.cfg0.N,
    (θ_run Cert.DupBwdIdeal.defs _ _).mono (fun r h c => ?_) (Cert.DupBwdIdeal.Value.run_blocks m ρ),
    (θ_run Cert.DupBwdRefIdeal.defs _ _).mono (fun r h c => ?_) (Cert.DupBwdRefIdeal.Value.run m' ρ')⟩
  · obtain ⟨h0, -, hk⟩ := h c
    exact ⟨h0, hk⟩
  · obtain ⟨h0, hk⟩ := h c
    obtain ⟨e0, e1, e2⟩ := hagree c
    refine ⟨h0.trans ?_, hk⟩
    refine (Cert.DupBwdRefIdeal.Read.val_main_v12_eq _ _ _).trans ?_
    rw [e0, e1, e2]
    exact (DupRef.v12 _ _ _).trans (DupKernel.final3 m c).symm

end Cert.DupClaim

end
-- ==== Proof.KvKernel.lean ====
/-
  The gradients of the attention's keys and values, as the kernel computes them for finite keys and key gradients.
-/
module

public import proofs.«01_k».proof.Proof.Heads
public import proofs.«01_k».proof.Proof.Gen.KvBwdIdeal.Value

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.KvKernel

open Cert.Reals Cert.Norm Cert.Arrays Cert.Heads Cert.KvBwdIdeal Cert.KvBwdIdeal.Gen

/-! ## One block -/

/-- Whether a block has a next one. -/
def nxt (i : grid0.Coords) : BitVec 1 := Scalar.cmpi .slt (BitVec.ofNat 32 (i 0).val) 15#32

/-- The gradient of a head's scaled keys: the block's own part and the next block's. -/
def dB (b : BitVec 1) (C P : Cube 4 128 64) (h : Fin 4) : Mat 128 64 := fun j => headOf C h.val h.isLt j + if b = 1#1 then headOf P h.val h.isLt j else 0

/-- The gradient of the keys. -/
def dkA (b : BitVec 1) (K C P : Cube 4 128 64) (g : Mat 1 64) : Cube 4 128 64 := fun j =>
  dx (dB b C P (j 0)) (headOf K (j 0).val (j 0).isLt) (fun q => g (mk2 0 q)) (j 1) (j 2)

/-- The gradient of the values, whatever its parts hold. -/
def dvA (b : BitVec 1) (c p : FVec Ideal S4x128x64 .f32) : FVec Ideal S4x128x64 .bf16 := fun j => c j + if b = 1#1 then p j else 0

/-- The gradient of the keys' gain, added to what stood there. -/
def dgA (b : BitVec 1) (K C P : Cube 4 128 64) (A : Mat 1 64) : Mat 1 64 := fun j =>
  A j + ∑ h : Fin 4, ∑ p : Fin 128, dgRow (dB b C P h) (headOf K h.val h.isLt) p (j 1)

theorem both (b : BitVec 1) (C P : Cube 4 128 64) (h : ℕ) (hh : h < 4) :
    addf (up (φ := .f32) (headOf C h hh)) (Scalar.select b (up (φ := .f32) (headOf P h hh)) (broadcast S128x64 (Scalar.ofBits (F := Ideal) .f32 0x00000000#32)))
      = up (s := S128x64) (φ := .f32) (dB b C P ⟨h, hh⟩) := by
  rw [splat_up lit_zero]
  by_cases e : b = 1#1
  · subst e
    exact addf_up _ _
  · have e0 : b = 0#1 := by revert b; decide
    subst e0
    exact addf_up _ _

theorem both' (b : BitVec 1) (c p : FVec Ideal S4x128x64 .f32) (h : ℕ) (hh : h < 4) :
    truncf .bf16 (addf (headOf c h hh : FVec Ideal S128x64 .f32) (Scalar.select b (headOf p h hh : FVec Ideal S128x64 .f32) (broadcast S128x64 (Scalar.ofBits (F := Ideal) .f32 0x00000000#32)))) bitsLt_bf16_f32
      = headOf (dvA b c p) h hh := by
  by_cases e : b = 1#1
  · subst e
    rfl
  · have e0 : b = 0#1 := by revert b; decide
    subst e0
    refine funext fun j => congrArg (c _ + ·) ?_
    show Ideal.ofBits .f32 0x00000000#32 = (0 : EReal)
    rw [lit_zero]; rfl

theorem scaled (D : Mat 128 64) (g : Mat 1 64) :
    mulf (up (s := S128x64) (φ := .f32) D) (broadcastTo S128x64 (up (s := S1x64) (φ := .f32) g) broadcasts_S1x64_S128x64) = up (s := S128x64) (φ := .f32) fun j => D j * g (mk2 0 (j 1)) := by
  rw [spread_row_up, mulf_up]

theorem outA (c : Dev nD) (t : Fin cfg0.N) (K C P : Cube 4 128 64) (g : Mat 1 64) (c' p' : FVec Ideal S4x128x64 .f32) (hc : cond0_0 (grid0.coords t)) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc
        (up (φ := .f32) K) (up (φ := .f32) g) (up (φ := .f32) C) (up (φ := .f32) P) c' p'
      = up (s := S4x128x64) (φ := .bf16) (dkA (nxt (grid0.coords t)) K C P g) ∧
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc
        (up (φ := .f32) K) (up (φ := .f32) g) (up (φ := .f32) C) (up (φ := .f32) P) c' p'
      = dvA (nxt (grid0.coords t)) c' p' ∧
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc
        (up (φ := .f32) K) (up (φ := .f32) g) (up (φ := .f32) C) (up (φ := .f32) P) c' p'
      = up (s := S1x64) (φ := .f32) (dgA (nxt (grid0.coords t)) K C P (fun _ => 0)) := by
  unfold out0_A_6 out0_A_7 out0_A_8
  rw [View.read_writes_eq_canon]
  on_goal 2 => exact fun y => cover0_A_6 ..
  rw [View.read_writes_eq_canon]
  on_goal 2 => exact fun y => cover0_A_7 ..
  unfold kernelRun0_A
  dsimp only
  sl_unfold_words
  simp -index only [View.readCov_full (s := S1x64), View.read_writes_full (s := S1x64)]
  simp only [View.readAt_eq_ld, (hs0_0 t).read_unread, (hs0_1 t).read_unread, (hs0_2 t).read_unread, (hs0_3 t).read_unread, (hs0_4 t).read_unread, (hs0_5 t).read_unread, View.ld_unit_zero (S := S1x64) hz2]
  simp -index only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp -index only [cast_ld, headOf_up]
  simp -index only [both, both']
  simp -index only [k_rinv lit_64 (by norm_num)]
  simp -index only [k_xhat, cast_self_up, scaled]
  simp -index only [k_dxv lit_64 (by norm_num), k_dg, truncf_up, splat_up lit_zero, cast_head]
  refine ⟨canon_heads _ _ _ _ _ _ _ _ _ rfl rfl rfl rfl, canon_heads _ _ _ _ _ _ _ _ _ rfl rfl rfl rfl, ?_⟩
  simp -index only [cast_self_up, addf_up]
  refine up_ext2 fun r q => ?_
  simp only [dgA, Fin.sum_univ_four, zero_add, ← add_assoc]
  rfl

theorem outB (c : Dev nD) (t : Fin cfg0.N) (K C P : Cube 4 128 64) (g : Mat 1 64) (c' p' : FVec Ideal S4x128x64 .f32) (A : Mat 1 64) (hc : ¬ cond0_0 (grid0.coords t)) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc
        (up (φ := .f32) K) (up (φ := .f32) g) (up (φ := .f32) C) (up (φ := .f32) P) c' p' (up (φ := .f32) A)
      = up (s := S4x128x64) (φ := .bf16) (dkA (nxt (grid0.coords t)) K C P g) ∧
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc
        (up (φ := .f32) K) (up (φ := .f32) g) (up (φ := .f32) C) (up (φ := .f32) P) c' p' (up (φ := .f32) A)
      = dvA (nxt (grid0.coords t)) c' p' ∧
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc
        (up (φ := .f32) K) (up (φ := .f32) g) (up (φ := .f32) C) (up (φ := .f32) P) c' p' (up (φ := .f32) A)
      = up (s := S1x64) (φ := .f32) (dgA (nxt (grid0.coords t)) K C P A) := by
  unfold out0_B_6 out0_B_7 out0_B_8
  rw [View.read_writes_eq_canon]
  on_goal 2 => exact fun y => cover0_B_6 ..
  rw [View.read_writes_eq_canon]
  on_goal 2 => exact fun y => cover0_B_7 ..
  unfold kernelRun0_B
  dsimp only
  sl_unfold_words
  simp -index only [View.readCov_full (s := S1x64), View.read_writes_full (s := S1x64)]
  simp only [View.readAt_eq_ld, (hs0_0 t).read_unread, (hs0_1 t).read_unread, (hs0_2 t).read_unread, (hs0_3 t).read_unread, (hs0_4 t).read_unread, (hs0_5 t).read_unread, (hs0_8 t).read_unread, View.ld_unit_zero (S := S1x64) hz2]
  simp -index only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp -index only [cast_ld, headOf_up]
  simp -index only [both, both']
  simp -index only [k_rinv lit_64 (by norm_num)]
  simp -index only [k_xhat, cast_self_up, scaled]
  simp -index only [k_dxv lit_64 (by norm_num), k_dg, truncf_up, splat_up lit_zero, cast_head]
  refine ⟨canon_heads _ _ _ _ _ _ _ _ _ rfl rfl rfl rfl, canon_heads _ _ _ _ _ _ _ _ _ rfl rfl rfl rfl, ?_⟩
  simp -index only [cast_self_up, addf_up]
  refine up_ext2 fun r q => ?_
  simp only [dgA, Fin.sum_univ_four, zero_add, ← add_assoc]
  rfl

/-! ## All rows -/

theorem lt16 (t : Fin cfg0.N) : t.val < 16 := lt_of_lt_of_eq t.isLt (show cfg0.N = 16 from N_0)
/-- A point of the grid as a block number. -/
def no (t : Fin cfg0.N) : Fin 16 := ⟨t.val, lt16 t⟩
/-- The point whose block holds row `i`. -/
def pt (i : Fin 2048) : Fin cfg0.N := ⟨i.val / 128, by rw [show cfg0.N = 16 from N_0]; have := i.isLt; omega⟩
def tLast : Fin cfg0.N := ⟨15, by rw [show cfg0.N = 16 from N_0]; decide⟩

/-- The gradients that a block's queries sent to the block itself and, from the block after, to the block before. -/
def withNext {α : Type} [Add α] [Zero α] (C P : (⟨3, ![4, 2048, 64]⟩ : Shape).Idx → α) : (⟨3, ![4, 2048, 64]⟩ : Shape).Idx → α := fun j =>
  C j + if hr : (j 1).val + 128 < 2048 then P (mk3 (j 0) ⟨(j 1).val + 128, hr⟩ (j 2)) else 0

theorem nxt_eq : ∀ t : Fin cfg0.N, nxt (grid0.coords t) = if t.val < 15 then 1#1 else 0#1 := (by decide +kernel : ∀ t : Fin grid0.N, _)

theorem next_blk {α : Type} [Add α] [Zero α] (C P : (⟨3, ![4, 2048, 64]⟩ : Shape).Idx → α) (t : Fin cfg0.N) (h : Fin 4) (p : Fin 128) (q : Fin 64) :
    (blkC C (no t) (mk3 h p q) + if nxt (grid0.coords t) = 1#1 then blkC P (nextT (no t)) (mk3 h p q) else 0) = withNext C P (mk3 h (rowAt (no t) p) q) := by
  refine congrArg (C (mk3 h (rowAt (no t) p) q) + ·) ?_
  rw [nxt_eq]
  have hp := p.isLt
  by_cases e : t.val < 15
  · have hr : (rowAt (no t) p).val + 128 < 2048 := by show 128 * t.val + p.val + 128 < 2048; omega
    refine Eq.trans ?_ (dif_pos hr).symm
    rw [if_pos e]
    refine (if_pos rfl).trans (congrArg P (ext3 rfl ?_ rfl))
    show 128 * min (t.val + 1) 15 + p.val = 128 * t.val + p.val + 128
    omega
  · have hr : ¬(rowAt (no t) p).val + 128 < 2048 := by show ¬128 * t.val + p.val + 128 < 2048; omega
    refine Eq.trans ?_ (dif_neg hr).symm
    rw [if_neg e]
    exact if_neg (by decide)

/-- Gradient of the keys, of the values, and of the keys' gain. -/
def resK (K : Mat 2048 256) (C P : Cube 4 2048 64) (g : Fin 64 → ℝ) : Cube 4 2048 64 := fun j =>
  dx (headOf (withNext C P) (j 0).val (j 0).isLt) (headOf (heads (h := 4) (w := 64) rfl K) (j 0).val (j 0).isLt) g (j 1) (j 2)
def resV (c p : FVec Ideal S4x2048x64 .f32) : FVec Ideal S4x2048x64 .bf16 := fun j => withNext (α := EReal) c p j
def rowG (K : Mat 2048 256) (C P : Cube 4 2048 64) (q : Fin 64) (r : Fin 2048) : ℝ :=
  ∑ h : Fin 4, dgRow (headOf (withNext C P) h.val h.isLt) (headOf (heads (h := 4) (w := 64) rfl K) h.val h.isLt) r q
def resG (K : Mat 2048 256) (C P : Cube 4 2048 64) : Mat 1 64 := fun j => ∑ r : Fin 2048, rowG K C P (j 1) r
def accG (K : Mat 2048 256) (C P : Cube 4 2048 64) (n : ℕ) : Mat 1 64 := fun j => ∑ k ∈ Finset.range (128 * n), nat (rowG K C P (j 1)) k

section
variable (K : Mat 2048 256) (C P : Cube 4 2048 64) (g : Fin 64 → ℝ) (t : Fin cfg0.N)

theorem dB_blk (h : Fin 4) : dB (nxt (grid0.coords t)) (blkC C (no t)) (blkC P (nextT (no t))) h
    = fun j => headOf (withNext C P) h.val h.isLt (mk2 (rowAt (no t) (j 0)) (j 1)) := funext fun j => next_blk C P t h (j 0) (j 1)

theorem dk_blk : dkA (nxt (grid0.coords t)) (blkC (heads (h := 4) (w := 64) rfl K) (no t)) (blkC C (no t)) (blkC P (nextT (no t))) (fun j => g (j 1)) = blkC (resK K C P g) (no t) := by
  funext j
  unfold dkA
  rw [dB_blk]
  rfl
theorem dv_blk (c p : FVec Ideal S4x2048x64 .f32) : dvA (nxt (grid0.coords t)) (blkC c (no t)) (blkC p (nextT (no t))) = blkC (resV c p) (no t) :=
  funext fun j => (congrArg (fun i => dvA (nxt (grid0.coords t)) (blkC c (no t)) (blkC p (nextT (no t))) i) (eq_mk3 j)).trans (next_blk (α := EReal) c p t (j 0) (j 1) (j 2))
theorem step : dgA (nxt (grid0.coords t)) (blkC (heads (h := 4) (w := 64) rfl K) (no t)) (blkC C (no t)) (blkC P (nextT (no t))) (accG K C P t.val) = accG K C P (t.val + 1) := by
  funext j
  refine Eq.trans (congrArg (accG K C P t.val j + ·) ?_) (more (no t) (rowG K C P (j 1))).symm
  rw [Finset.sum_comm]
  refine Finset.sum_congr rfl fun p _ => Finset.sum_congr rfl fun h _ => ?_
  rw [dB_blk]
  rfl
theorem none : (fun _ => 0 : Mat 1 64) = accG K C P 0 := by
  funext j
  simp only [accG, Nat.mul_zero, Finset.range_zero, Finset.sum_empty]
end

theorem index : ∀ t : Fin cfg0.N, (win0_0.index t 0 = 0 ∧ win0_0.index t 1 = t.val ∧ win0_0.index t 2 = 0) ∧ (win0_1.index t 0 = 0 ∧ win0_1.index t 1 = 0)
    ∧ (win0_2.index t 0 = 0 ∧ win0_2.index t 1 = t.val ∧ win0_2.index t 2 = 0) ∧ (win0_3.index t 0 = 0 ∧ win0_3.index t 1 = min (t.val + 1) 15 ∧ win0_3.index t 2 = 0)
    ∧ (win0_4.index t 0 = 0 ∧ win0_4.index t 1 = t.val ∧ win0_4.index t 2 = 0) ∧ (win0_5.index t 0 = 0 ∧ win0_5.index t 1 = min (t.val + 1) 15 ∧ win0_5.index t 2 = 0) :=
  (by decide +kernel : ∀ t : Fin grid0.N, _)
theorem index_out : ∀ t : Fin cfg0.N, (win0_6.index t 0 = 0 ∧ win0_6.index t 1 = t.val ∧ win0_6.index t 2 = 0)
    ∧ (win0_7.index t 0 = 0 ∧ win0_7.index t 1 = t.val ∧ win0_7.index t 2 = 0) ∧ (win0_8.index t 0 = 0 ∧ win0_8.index t 1 = 0) :=
  (by decide +kernel : ∀ t : Fin grid0.N, _)

variable (m : (ℓ : Loc nD τ sig) → Buf (Elt Ideal) ℓ) (c : Dev nD)

theorem V1 : V m c main_v1 = transpose S4x2048x64 [1, 0, 2] (shapeCast S2048x4x64 (m (c.tc.loc main_arg0)) shapeCasts_S2048x256_S2048x4x64) transposes_S2048x4x64_S4x2048x64_1_0_2 := by
  show StableHlo.after hostOps0 (fun b => m (c, b)) main_v1 = _
  after_results_simp <;> rfl
theorem V2 : V m c main_v2 = shapeCast S1x64 (m (c.tc.loc main_arg1)) shapeCasts_S64_S1x64 := by
  show StableHlo.after hostOps0 (fun b => m (c, b)) main_v2 = _
  after_results_simp <;> rfl

structure Args (K : Mat 2048 256) (g : Fin 64 → ℝ) (C P : Cube 4 2048 64) (c' p' : FVec Ideal S4x2048x64 .f32) : Prop where
  hK : m (c.tc.loc main_arg0) = up (s := S2048x256) (φ := .f32) K
  hg : m (c.tc.loc main_arg1) = up (s := S64) (φ := .f32) fun j => g (j 0)
  hC : m (c.tc.loc main_arg2) = up (s := S4x2048x64) (φ := .f32) C
  hP : m (c.tc.loc main_arg3) = up (s := S4x2048x64) (φ := .f32) P
  hc : m (c.tc.loc main_arg4) = c'
  hp : m (c.tc.loc main_arg5) = p'

theorem heads_up (K : Mat 2048 256) (hs : S2048x256.ShapeCasts S2048x4x64) (ht : S2048x4x64.Transposes [1, 0, 2] S4x2048x64) :
    transpose S4x2048x64 [1, 0, 2] (shapeCast S2048x4x64 (up (s := S2048x256) (φ := .f32) K) hs) ht = up (φ := .f32) (heads (h := 4) (w := 64) rfl K) :=
  (congrArg (fun x => transpose S4x2048x64 [1, 0, 2] x ht) (cast_split (h := 4) (w := 64) rfl (up (s := S2048x256) (φ := .f32) K) hs)).trans (swap_heads _ ht)

section
variable {K : Mat 2048 256} {g : Fin 64 → ℝ} {C P : Cube 4 2048 64} {c' p' : FVec Ideal S4x2048x64 .f32} (h : Args m c K g C P c' p')

include h in
theorem b0 (t : Fin cfg0.N) : (iblk m c 0 t : FVec Ideal S4x128x64 .f32) = up (φ := .f32) (blkC (heads (h := 4) (w := 64) rfl K) (no t)) := by
  funext j
  unfold iblk
  rw [View.read_apply]
  show V m c main_v1 _ = _
  have e : ((cfg0.win 0).blk t).view.emb j = mk3 (j 0) (rowAt (no t) (j 1)) (j 2) := ext3 (at_zero (index t).1.1) (at_blk (index t).1.2.1) (at_zero (index t).1.2.2)
  rw [V1, h.hK, e]
  exact congrFun (heads_up K _ _) (mk3 (j 0) (rowAt (no t) (j 1)) (j 2))
include h in
theorem b1 (t : Fin cfg0.N) : (iblk m c 1 t : FVec Ideal S1x64 .f32) = up (φ := .f32) (fun j => g (j 1)) := by
  funext j
  unfold iblk
  rw [View.read_apply]
  show V m c main_v2 _ = _
  have e : ((cfg0.win 1).blk t).view.emb j = j := ext2 (at_zero (index t).2.1.1) (at_zero (index t).2.1.2)
  rw [V2, h.hg, e]
  exact congrFun (cast_row_up _ _) j
include h in
theorem b2 (t : Fin cfg0.N) : (iblk m c 2 t : FVec Ideal S4x128x64 .f32) = up (φ := .f32) (blkC C (no t)) := by
  funext j
  unfold iblk
  rw [View.read_apply]
  show V m c main_arg2 _ = _
  rw [V_main_arg2, h.hC]
  exact congrArg (fun x => ((C x : ℝ) : EReal)) (ext3 (at_zero (index t).2.2.1.1) (at_blk (index t).2.2.1.2.1) (at_zero (index t).2.2.1.2.2))
include h in
theorem b3 (t : Fin cfg0.N) : (iblk m c 3 t : FVec Ideal S4x128x64 .f32) = up (φ := .f32) (blkC P (nextT (no t))) := by
  funext j
  unfold iblk
  rw [View.read_apply]
  show V m c main_arg3 _ = _
  rw [V_main_arg3, h.hP]
  exact congrArg (fun x => ((P x : ℝ) : EReal)) (ext3 (at_zero (index t).2.2.2.1.1) (at_blk (index t).2.2.2.1.2.1) (at_zero (index t).2.2.2.1.2.2))
include h in
theorem b4 (t : Fin cfg0.N) : (iblk m c 4 t : FVec Ideal S4x128x64 .f32) = blkC c' (no t) := by
  funext j
  unfold iblk
  rw [View.read_apply]
  show V m c main_arg4 _ = _
  rw [V_main_arg4, h.hc]
  exact congrArg (fun x => c' x) (ext3 (at_zero (index t).2.2.2.2.1.1) (at_blk (index t).2.2.2.2.1.2.1) (at_zero (index t).2.2.2.2.1.2.2))
include h in
theorem b5 (t : Fin cfg0.N) : (iblk m c 5 t : FVec Ideal S4x128x64 .f32) = blkC p' (nextT (no t)) := by
  funext j
  unfold iblk
  rw [View.read_apply]
  show V m c main_arg5 _ = _
  rw [V_main_arg5, h.hp]
  exact congrArg (fun x => p' x) (ext3 (at_zero (index t).2.2.2.2.2.1) (at_blk (index t).2.2.2.2.2.2.1) (at_zero (index t).2.2.2.2.2.2.2))

/-! ## What each point leaves -/

include h in
theorem vals : ∀ (n : ℕ) (hn : n < cfg0.N),
    (outsAt0 (F := Ideal) m c n hn).1 = up (s := S4x128x64) (φ := .bf16) (blkC (resK K C P g) (no ⟨n, hn⟩)) ∧
    (outsAt0 (F := Ideal) m c n hn).2.1 = blkC (resV c' p') (no ⟨n, hn⟩) ∧
    (outsAt0 (F := Ideal) m c n hn).2.2.1 = up (s := S1x64) (φ := .f32) (accG K C P (n + 1))
  | 0, hn => by
    have e := outsAt0_A m c ⟨0, hn⟩ rfl
    dsimp only at e
    rw [e, b0 m c h, b1 m c h, b2 m c h, b3 m c h, b4 m c h, b5 m c h]
    dsimp only
    have o := outA c ⟨0, hn⟩ (blkC (heads (h := 4) (w := 64) rfl K) (no ⟨0, hn⟩)) (blkC C (no ⟨0, hn⟩)) (blkC P (nextT (no ⟨0, hn⟩))) (fun j => g (j 1)) (blkC c' (no ⟨0, hn⟩)) (blkC p' (nextT (no ⟨0, hn⟩)))
      ((hcond0_0 ⟨0, hn⟩).mpr rfl)
    refine ⟨o.1.trans (congrArg up (dk_blk ..)), o.2.1.trans (dv_blk ..), o.2.2.trans (congrArg up ?_)⟩
    rw [none K C P]
    exact step K C P ⟨0, hn⟩
  | n + 1, hn => by
    have h16 : n + 1 < 16 := lt16 ⟨n + 1, hn⟩
    have hB : ¬(⟨n + 1, hn⟩ : Fin cfg0.N).val % 16 = 0 := by dsimp only; omega
    obtain ⟨-, -, i1⟩ := vals n (Nat.lt_of_succ_lt hn)
    have e := outsAt0_B m c ⟨n + 1, hn⟩ hB
    dsimp only at e
    rw [e, b0 m c h, b1 m c h, b2 m c h, b3 m c h, b4 m c h, b5 m c h]
    dsimp only
    have o := outB c ⟨n + 1, hn⟩ (blkC (heads (h := 4) (w := 64) rfl K) (no ⟨n + 1, hn⟩)) (blkC C (no ⟨n + 1, hn⟩)) (blkC P (nextT (no ⟨n + 1, hn⟩))) (fun j => g (j 1)) (blkC c' (no ⟨n + 1, hn⟩)) (blkC p' (nextT (no ⟨n + 1, hn⟩)))
      (accG K C P (n + 1)) (fun z => hB ((hcond0_0 ⟨n + 1, hn⟩).mp z))
    rw [← i1] at o
    exact ⟨o.1.trans (congrArg up (dk_blk ..)), o.2.1.trans (dv_blk ..), o.2.2.trans (congrArg up (step K C P ⟨n + 1, hn⟩))⟩

/-! ## The results -/

include h in
theorem final6 : (dats m 0 c).arrAt 6 cfg0.N = up (s := S4x2048x64) (φ := .bf16) (resK K C P g) := by
  refine (dats m 0 c).arrAt_eq_of_cover 6 _ (fun t _ => ?_) fun i => ⟨pt (i 1), flush0_6 _, ?_⟩
  · rw [Value.flushed6, (vals m c h t.val t.isLt).1]
    funext j
    rw [View.read_apply]
    have e : ((cfg0.win 6).blk t).view.emb j = mk3 (j 0) (rowAt (no t) (j 1)) (j 2) := ext3 (at_zero (index_out t).1.1) (at_blk (index_out t).1.2.1) (at_zero (index_out t).1.2.2)
    rw [e]
    rfl
  · show i ∈ ((View.whole main_v3_0).slice (win0_6.rect (pt (i 1)))).set
    rw [View.set_slice_whole, Rect.mem_set_unit]
    exact all3 (in_zero (index_out (pt (i 1))).1.1 (i 0).isLt) (in_blk (index_out (pt (i 1))).1.2.1 rfl (by decide)) (in_zero (index_out (pt (i 1))).1.2.2 (i 2).isLt)

include h in
theorem final7 : (dats m 0 c).arrAt 7 cfg0.N = resV c' p' := by
  refine (dats m 0 c).arrAt_eq_of_cover 7 _ (fun t _ => ?_) fun i => ⟨pt (i 1), flush0_7 _, ?_⟩
  · rw [Value.flushed7, (vals m c h t.val t.isLt).2.1]
    funext j
    rw [View.read_apply]
    have e : ((cfg0.win 7).blk t).view.emb j = mk3 (j 0) (rowAt (no t) (j 1)) (j 2) := ext3 (at_zero (index_out t).2.1.1) (at_blk (index_out t).2.1.2.1) (at_zero (index_out t).2.1.2.2)
    rw [e]
    rfl
  · show i ∈ ((View.whole main_v3_1).slice (win0_7.rect (pt (i 1)))).set
    rw [View.set_slice_whole, Rect.mem_set_unit]
    exact all3 (in_zero (index_out (pt (i 1))).2.1.1 (i 0).isLt) (in_blk (index_out (pt (i 1))).2.1.2.1 rfl (by decide)) (in_zero (index_out (pt (i 1))).2.1.2.2 (i 2).isLt)

include h in
theorem final8 : (dats m 0 c).arrAt 8 cfg0.N = up (s := S1x64) (φ := .f32) (resG K C P) := by
  refine (dats m 0 c).arrAt_eq_of_cover 8 _ (fun t hf => ?_) fun i => ⟨tLast, (flush0_8 _).mpr rfl, ?_⟩
  · have h15 : t.val = 15 := by have := lt16 t; have := (flush0_8 t).mp hf; omega
    rw [Value.flushed8, (vals m c h t.val t.isLt).2.2]
    funext j
    rw [View.read_apply]
    have e : ((cfg0.win 8).blk t).view.emb j = j := ext2 (at_zero (index_out t).2.2.1) (at_zero (index_out t).2.2.2)
    rw [e, h15]
    exact congrArg (fun x : ℝ => (x : EReal)) (sum_nat (rowG K C P (j 1)))
  · show i ∈ ((View.whole main_v3_2).slice (win0_8.rect tLast)).set
    rw [View.set_slice_whole, Rect.mem_set_unit]
    exact Fin.forall_fin_two.mpr ⟨in_zero (index_out tLast).2.2.1 (i 0).isLt, in_zero (index_out tLast).2.2.2 (i 1).isLt⟩

end

end Cert.KvKernel

end
-- ==== Proof.KvRef.lean ====
/-
  The gradients of the attention's keys and values, as the derivative's text gives them for finite keys and key gradients.
-/
module

public import proofs.«01_k».proof.Proof.Rows
public import proofs.«01_k».proof.Proof.KvKernel
public import proofs.«01_k».proof.Proof.Gen.KvBwdRefIdeal.Read

@[expose] public section

set_option maxRecDepth 16384
set_option backward.isDefEq.respectTransparency.types false

noncomputable section

open Idealize.ShloMosaic Idealize.ShloMosaic.TcCoe Idealize.SL.Sem

namespace Cert.KvRef

open Cert.Reals Cert.Norm Cert.Arrays Cert.Heads Cert.Rows Cert.KvKernel Cert.KvBwdRefIdeal Cert.KvBwdRefIdeal.Gen Cert.KvBwdRefIdeal.Read

/-! ## Blocks of rows -/

theorem v1 (x : FVec Ideal S4x2048x64 .f32) (n : Fin 16) (p : Fin 128) (h : Fin 4) (q : Fin 64) : val_main_v1 (F := Ideal) x (mk4 n p h q) = x (mk3 h (rowAt n p) q) := by
  unfold val_main_v1 val_main_v0
  refine (transpose_apply _ _ _ (mk4 n p h q) (mk4 h n p q) fun b => by
    match b with
    | ⟨0, _⟩ => rfl
    | ⟨1, _⟩ => rfl
    | ⟨2, _⟩ => rfl
    | ⟨3, _⟩ => rfl).trans (shapeCast_apply _ _ (mk4 h n p q) (mk3 h (rowAt n p) q) ?_)
  rw [Shape.rowMajor_val_three, Shape.rowMajor_val_four]
  show (h.val * 2048 + (128 * n.val + p.val)) * 64 + q.val = ((h.val * 16 + n.val) * 128 + p.val) * 64 + q.val
  omega

theorem v4_lo (x y : FVec Ideal S4x2048x64 .f32) (n : Fin 16) (p : Fin 128) (h : Fin 4) (q : Fin 64) :
    val_main_v4 (F := Ideal) x y (mk4 n (lo p) h q) = y (mk3 h (rowAt n p) q) := by
  unfold val_main_v4
  refine (concatenate_pair_apply_left (s₁ := S16x128x4x64) (s₂ := S16x128x4x64) 1 _ _ _ (mk4 n (lo p) h q) rfl (mk4 n p h q) fun b => by
    match b with
    | ⟨0, _⟩ => rfl
    | ⟨1, _⟩ => rfl
    | ⟨2, _⟩ => rfl
    | ⟨3, _⟩ => rfl).trans ?_
  exact v1 y n p h q

theorem v4_hi (x y : FVec Ideal S4x2048x64 .f32) (n : Fin 16) (p : Fin 128) (h : Fin 4) (q : Fin 64) :
    val_main_v4 (F := Ideal) x y (mk4 n (hi p) h q) = x (mk3 h (rowAt n p) q) := by
  unfold val_main_v4
  refine (concatenate_pair_apply_right (s₁ := S16x128x4x64) (s₂ := S16x128x4x64) 1 _ _ _ (mk4 n (hi p) h q) rfl rfl (mk4 n p h q) (fun b hb => by
    match b with
    | ⟨0, _⟩ => rfl
    | ⟨1, _⟩ => exact absurd rfl hb
    | ⟨2, _⟩ => rfl
    | ⟨3, _⟩ => rfl) (Nat.add_comm p.val 128)).trans ?_
  exact v1 x n p h q

theorem v34 (x y : FVec Ideal S4x2048x64 .f32) (n : Fin 16) (p : Fin 128) (h : Fin 4) (q : Fin 64) : val_main_v34 (F := Ideal) x y (mk4 n p h q) = x (mk3 h (rowAt n p) q) := by
  unfold val_main_v34
  exact (extractStridedSlice_apply _ _ _ (mk4 n p h q) (mk4 n (hi p) h q) fun a => by
    match a with
    | ⟨0, _⟩ => exact (Nat.zero_add _).symm
    | ⟨1, _⟩ => rfl
    | ⟨2, _⟩ => exact (Nat.zero_add _).symm
    | ⟨3, _⟩ => exact (Nat.zero_add _).symm).trans (v4_hi x y n p h q)

theorem v36 (x y : FVec Ideal S4x2048x64 .f32) (n : Fin 15) (p : Fin 128) (h : Fin 4) (q : Fin 64) :
    val_main_v36 (F := Ideal) x y (mk4 n p h q) = y (mk3 h (rowAt ⟨1 + n.val, by have := n.isLt; omega⟩ p) q) := by
  unfold val_main_v36 val_main_v33
  refine (extractStridedSlice_apply _ _ _ (mk4 n p h q) (mk4 ⟨1 + n.val, by have := n.isLt; omega⟩ p h q) fun a => by
    match a with
    | ⟨0, _⟩ => rfl
    | ⟨1, _⟩ => exact (Nat.zero_add _).symm
    | ⟨2, _⟩ => exact (Nat.zero_add _).symm
    | ⟨3, _⟩ => exact (Nat.zero_add _).symm).trans ?_
  exact (extractStridedSlice_apply _ _ _ _ (mk4 ⟨1 + n.val, by have := n.isLt; omega⟩ (lo p) h q) fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm).trans (v4_lo x y _ p h q)

theorem v37 (x y : FVec Ideal S4x2048x64 .f32) (n : Fin 16) (p : Fin 128) (h : Fin 4) (q : Fin 64) :
    val_main_v37 (F := Ideal) x y (mk4 n p h q) = if hn : (rowAt n p).val + 128 < 2048 then y (mk3 h ⟨(rowAt n p).val + 128, hn⟩ q) else 0 := by
  have hp := p.isLt
  have hr : (rowAt n p).val = 128 * n.val + p.val := rfl
  unfold val_main_v37
  by_cases hn : (rowAt n p).val + 128 < 2048
  · refine (pad_apply_of_inside _ _ _ _ _ _ _ (mk4 n p h q) (mk4 (k := 15) (l := 128) (m := 4) (n := 64) ⟨n.val, by omega⟩ p h q) fun x => ?_).trans ?_
    · match x with
      | ⟨0, _⟩ => show n.val = 0 + n.val * (0 + 1); omega
      | ⟨1, _⟩ => show p.val = 0 + p.val * (0 + 1); omega
      | ⟨2, _⟩ => show h.val = 0 + h.val * (0 + 1); omega
      | ⟨3, _⟩ => show q.val = 0 + q.val * (0 + 1); omega
    · refine Eq.trans ?_ (dif_pos hn).symm
      refine (v36 x y _ p h q).trans (congrArg y (ext3 rfl ?_ rfl))
      show 128 * (1 + n.val) + p.val = 128 * n.val + p.val + 128
      omega
  · refine Eq.trans ?_ (dif_neg hn).symm
    refine (pad_apply_of_not_inside _ _ _ _ _ _ _ (mk4 n p h q) 0 fun hin => ?_).trans (lit_zero.trans EReal.coe_zero)
    have := hin.2.2
    rw [show (![0, 0, 0, 0] : Fin 4 → ℕ) 0 + 1 = 1 from rfl, Nat.div_one] at this
    have h15 : n.val < 15 := this
    omega

theorem v39 (x y : FVec Ideal S4x2048x64 .f32) : val_main_v39 (F := Ideal) x y = fun j => withNext (α := EReal) x y (mk3 (j 1) (j 0) (j 2)) := by
  funext j
  have hj : (j 0).val < 2048 := (j 0).isLt
  unfold val_main_v39
  refine (shapeCast_apply _ _ j (mk4 (k := 16) (l := 128) (m := 4) (n := 64) ⟨(j 0).val / 128, by omega⟩ ⟨(j 0).val % 128, Nat.mod_lt _ (by decide)⟩ (j 1) (j 2)) ?_).trans ?_
  · rw [Shape.rowMajor_val_three, Shape.rowMajor_val_four]
    show (((j 0).val / 128 * 128 + (j 0).val % 128) * 4 + (j 1).val) * 64 + (j 2).val = ((j 0).val * 4 + (j 1).val) * 64 + (j 2).val
    omega
  · have e : rowAt ⟨(j 0).val / 128, by omega⟩ ⟨(j 0).val % 128, Nat.mod_lt _ (by decide)⟩ = j 0 := Fin.ext (Nat.div_add_mod _ _)
    unfold val_main_v38
    refine (congrArg₂ (fun a b : EReal => a + b) (v34 x y _ _ _ _) (v37 x y _ _ _ _)).trans ?_
    rw [e]
    rfl

theorem withNext_up (C P : Cube 4 2048 64) : withNext (α := EReal) (up (s := S4x2048x64) (φ := .f32) C) (up (s := S4x2048x64) (φ := .f32) P) = up (s := S4x2048x64) (φ := .f32) (withNext C P) := by
  funext j
  refine Eq.trans ?_ (EReal.coe_add _ _).symm
  refine congrArg (((C j : ℝ) : EReal) + ·) ?_
  by_cases hr : (j 1).val + 128 < 2048
  · refine (dif_pos hr).trans (congrArg (fun x : ℝ => (x : EReal)) (Eq.symm ?_))
    exact dif_pos hr
  · refine (dif_neg hr).trans (congrArg (fun x : ℝ => (x : EReal)) (Eq.symm ?_))
    exact dif_neg hr

/-! ## The stages -/

variable (K : Mat 2048 256) (g : Fin 64 → ℝ) (C P : Cube 4 2048 64)

/-- Keys and their gradients by rows, heads and columns. -/
abbrev kS : Cube 2048 4 64 := split (h := 4) (w := 64) rfl K
abbrev dS : Cube 2048 4 64 := fun j => withNext C P (mk3 (j 1) (j 0) (j 2))
abbrev uK : FVec Ideal S2048x256 .f32 := up (s := S2048x256) (φ := .f32) K
abbrev ug : FVec Ideal S64 .f32 := up (s := S64) (φ := .f32) fun j => g (j 0)
abbrev uC : FVec Ideal S4x2048x64 .f32 := up (s := S4x2048x64) (φ := .f32) C

theorem ne64 : ((64 : ℕ) : ℝ) ≠ 0 := by norm_num

theorem w10 : val_main_v10 (F := Ideal) (uK K) = up (s := S2048x4x64) (φ := .f32) (kS K) := cast_split (h := 4) (w := 64) rfl (uK K) _
theorem w39 : val_main_v39 (F := Ideal) (uC C) (uC P) = up (s := S2048x4x64) (φ := .f32) (dS C P) := by
  rw [v39, withNext_up]
  rfl
theorem w17 : val_main_v17 (F := Ideal) (uK K) = up (s := S2048x4x1) (φ := .f32) fun j => ms (hd (kS K) (j 1)) (j 0) := by
  unfold val_main_v17 val_main_v15 val_main_v13 val_main_v12 val_main_v11
  rw [w10]
  exact ms3 lit_64 ne64 (kS K) ..
theorem w18 : val_main_v18 (F := Ideal) (uK K) = up (s := S2048x4x1) (φ := .f32) fun j => rinv (hd (kS K) (j 1)) (j 0) := by
  unfold val_main_v18
  rw [w17]
  exact rinv3 (kS K)
theorem w21 : val_main_v21 (F := Ideal) (uK K) = up (s := S2048x4x1) (φ := .f32) fun j => -(1 / 2) * (rinv (hd (kS K) (j 1)) (j 0) * (rinv (hd (kS K) (j 1)) (j 0) * rinv (hd (kS K) (j 1)) (j 0))) := by
  unfold val_main_v21 val_main_v19
  rw [w18, w17]
  exact half3 (kS K) _
theorem w23 : val_main_v23 (F := Ideal) (uK K) = up (s := S2048x4x64) (φ := .f32) fun j => xhat (hd (kS K) (j 1)) (j 0) (j 2) := by
  unfold val_main_v23 val_main_v22
  rw [w10, w18]
  exact xhat3 (kS K) _
/-- The gradient of the normalised keys. -/
abbrev vS : Cube 2048 4 64 := fun j => dS C P j * g (j 2)
theorem w44 : val_main_v44 (F := Ideal) (ug g) (uC C) (uC P) = up (s := S2048x4x64) (φ := .f32) (vS g C P) := by
  unfold val_main_v44 val_main_v43 val_main_v24
  rw [w39]
  exact scale3 (dS C P) (fun j => g (j 0)) _ _
theorem w55 : val_main_v55 (F := Ideal) (uK K) (ug g) (uC C) (uC P) = up (s := S2048x4x64) (φ := .f32) (through (vS g C P) (kS K)) := by
  unfold val_main_v55 val_main_v54 val_main_v53 val_main_v51 val_main_v48 val_main_v47 val_main_v46
  rw [w10, w44, w21]
  exact mean3 lit_64 ne64 (kS K) (vS g C P) ..
theorem w59 : val_main_v59 (F := Ideal) (uK K) (ug g) (uC C) (uC P) = up (s := S2048x4x64) (φ := .f32) fun j => dxv (hd (vS g C P) (j 1)) (hd (kS K) (j 1)) (j 0) (j 2) := by
  unfold val_main_v59 val_main_v58 val_main_v57 val_main_v56 val_main_v50 val_main_v49
  rw [w10, w44, w18]
  exact dxv3 (kS K) (vS g C P) _ (w55 K g C P)

theorem w79 : val_main_v79 (F := Ideal) (uK K) (ug g) (uC C) (uC P) = up (s := S4x2048x64) (φ := .bf16) (resK K C P g) := by
  have e : val_main_v77 (F := Ideal) (uK K) (ug g) (uC C) (uC P) = val_main_v59 (F := Ideal) (uK K) (ug g) (uC C) (uC P) := join_split _ _ _
  unfold val_main_v79 val_main_v78
  rw [e, w59]
  exact (congrArg (fun x => truncf .bf16 x bitsLt_bf16_f32) (swap_heads _ _)).trans rfl

theorem w82 (c p : FVec Ideal S4x2048x64 .f32) : val_main_v82 (F := Ideal) c p = resV c p := by
  have e : val_main_v80 (F := Ideal) c p = val_main_v39 (F := Ideal) c p := join_split (val_main_v39 (F := Ideal) c p) _ _
  unfold val_main_v82 val_main_v81
  rw [e, v39]
  refine (congrArg (fun x => truncf .bf16 x bitsLt_bf16_f32) (swap_heads _ _)).trans ?_
  exact funext fun j => congrArg (fun i => withNext (α := EReal) c p i) (eq_mk3 j).symm

theorem w83 : val_main_v83 (F := Ideal) (uK K) (uC C) (uC P) = up (s := S1x64) (φ := .f32) (resG K C P) := by
  unfold val_main_v83 val_main_v45 val_main_v42 val_main_v41 val_main_v40
  rw [w23, w39]
  exact (congrArg (fun y => shapeCast S1x64 y _) (dg3 (kS K) (dS C P) ..)).trans (cast_row_up _ _)

end Cert.KvRef

end
-- ==== Proof.KvClaim.lean ====
/-
  The value claim about the gradients of the attention's keys and values: that kernel and reference compute the same.
-/
module

public import proofs.«01_k».proof.Defs
public import proofs.«01_k».proof.Proof.KvRef
public import proofs.«01_k».proof.Proof.Gen.Pre_attn_kv_finite

@[expose] public section

set_option maxRecDepth 16384

noncomputable section

namespace Cert.KvClaim

open Idealize.ShloMosaic Idealize.ShloMosaic.TcCoe Idealize.SL.Sem Cert.Reals Cert.Norm Cert.KvKernel

/-- The precondition says that the keys, their gain and the keys' two gradients are finite. -/
theorem finite {m : (ℓ : Loc Cert.KvBwdIdeal.nD Cert.KvBwdIdeal.τ Cert.KvBwdIdeal.sig) → Buf (Elt Ideal) ℓ}
    (h : Cert.Pre_KvBwdIdeal_attn_kv_finite m) (c : Dev Cert.KvBwdIdeal.nD) :
    ∃ (K : Mat 2048 256) (g : Fin 64 → ℝ) (C P : Cert.Heads.Cube 4 2048 64),
      KvKernel.Args m c K g C P (m (c.tc.loc Cert.KvBwdIdeal.main_arg4)) (m (c.tc.loc Cert.KvBwdIdeal.main_arg5)) := by
  have h1 := h c
  unfold Cert.Pre_attn_kv_finite.fn at h1
  obtain ⟨h2, hP⟩ := and_ones h1
  obtain ⟨h3, hC⟩ := and_ones h2
  obtain ⟨hK, hg⟩ := and_ones h3
  obtain ⟨K, hK⟩ := finite_of_all _ _ _ _ _ _ _ (congrFun hK fun a => a.elim0)
  obtain ⟨g, hg⟩ := finite_of_all _ _ _ _ _ _ _ (congrFun hg fun a => a.elim0)
  obtain ⟨C, hC⟩ := finite_of_all _ _ _ _ _ _ _ (congrFun hC fun a => a.elim0)
  obtain ⟨P, hP⟩ := finite_of_all _ _ _ _ _ _ _ (congrFun hP fun a => a.elim0)
  exact ⟨K, fun k => g (mk1 k), C, P, hK, hg.trans (congrArg up (funext fun j => congrArg g (eq_mk1 j))), hC, hP, rfl, rfl⟩

/-- Kernel and reference compute the same three arrays. -/
theorem value : Cert.algebraic_KvBwdIdeal_KvBwdRefIdeal_pre_attn_kv_finite := by
  intro m ρ m' ρ' hpre hagree
  refine ⟨fun c => (Cert.KvBwdIdeal.Gen.dats m 0 c).arrAt 6 Cert.KvBwdIdeal.cfg0.N,
    fun c => (Cert.KvBwdIdeal.Gen.dats m 0 c).arrAt 7 Cert.KvBwdIdeal.cfg0.N,
    fun c => (Cert.KvBwdIdeal.Gen.dats m 0 c).arrAt 8 Cert.KvBwdIdeal.cfg0.N,
    (θ_run Cert.KvBwdIdeal.defs _ _).mono (fun r h c => ?_) (Cert.KvBwdIdeal.Value.run_blocks m ρ),
    (θ_run Cert.KvBwdRefIdeal.defs _ _).mono (fun r h c => ?_) (Cert.KvBwdRefIdeal.Value.run m' ρ')⟩
  · obtain ⟨h0, h1, h2, -, hk⟩ := h c
    exact ⟨h0, h1, h2, hk⟩
  · obtain ⟨h0, h1, h2, hk⟩ := h c
    obtain ⟨K, g, C, P, ha⟩ := finite hpre c
    obtain ⟨e0, e1, e2, e3, e4, e5⟩ := hagree c
    refine ⟨h0.trans ?_, h1.trans ?_, h2.trans ?_, hk⟩
    · refine (Cert.KvBwdRefIdeal.Read.val_main_v79_eq m' c).trans ?_
      rw [e0.trans ha.hK, e1.trans ha.hg, e2.trans ha.hC, e3.trans ha.hP]
      exact (KvRef.w79 K g C P).trans (KvKernel.final6 m c ha).symm
    · refine (Cert.KvBwdRefIdeal.Read.val_main_v82_eq _ _).trans ?_
      have a4 : m' (c.tc.loc Cert.KvBwdRefIdeal.main_arg4) = _ := e4
      have a5 : m' (c.tc.loc Cert.KvBwdRefIdeal.main_arg5) = _ := e5
      rw [a4, a5]
      exact (KvRef.w82 _ _).trans (KvKernel.final7 m c ha).symm
    · refine (Cert.KvBwdRefIdeal.Read.val_main_v83_eq _ _ _).trans ?_
      have a0 : m' (c.tc.loc Cert.KvBwdRefIdeal.main_arg0) = _ := e0.trans ha.hK
      have a2 : m' (c.tc.loc Cert.KvBwdRefIdeal.main_arg2) = _ := e2.trans ha.hC
      have a3 : m' (c.tc.loc Cert.KvBwdRefIdeal.main_arg3) = _ := e3.trans ha.hP
      rw [a0, a2, a3]
      exact (KvRef.w83 K C P).trans (KvKernel.final8 m c ha).symm

end Cert.KvClaim

end
-- ==== Proof.LossClaim.lean ====
/-
  The value claim about the loss and its gradient: that kernel and reference compute the same.
-/
module

public import proofs.«01_k».proof.Defs
public import proofs.«01_k».proof.Proof.LossKernel
public import proofs.«01_k».proof.Proof.Gen.LossRefIdeal.Read
public import Idealize.ShloMosaic.Lib.ValueIdxRank1

@[expose] public section

set_option maxRecDepth 16384
set_option backward.isDefEq.respectTransparency.types false

noncomputable section

open Idealize.ShloMosaic Idealize.ShloMosaic.TcCoe Idealize.SL.Sem

namespace Cert.LossRef

open Cert.Reals Cert.Prods Cert.LossKernel Cert.LossRefIdeal Cert.LossRefIdeal.Gen Cert.LossRefIdeal.Read

theorem lit_a : Ideal.ofBits .f32 0x3A000000#32 = ((1 / 2048 : ℝ) : EReal) := by
  simp [Ideal.ofBits, Ideal.ieee, -EReal.coe_mul]; norm_num
theorem lit_b : Ideal.ofBits .f32 0x39800000#32 = ((1 / 4096 : ℝ) : EReal) := by
  simp [Ideal.ofBits, Ideal.ieee, -EReal.coe_mul]; norm_num

/-- A positive factor taken out of a sum. -/
theorem sum_mul {ι : Type*} (A : Finset ι) (f : ι → EReal) (a : ℝ) (ha : 0 ≤ a) : ∑ i ∈ A, f i * (a : EReal) = (∑ i ∈ A, f i) * (a : EReal) := by
  classical
  induction A using Finset.induction_on with
  | empty => simp
  | insert i A h ih =>
    rw [Finset.sum_insert h, Finset.sum_insert h, ih, EReal.right_distrib_of_nonneg_of_ne_top (EReal.coe_nonneg.mpr ha) (EReal.coe_ne_top a)]

/-- A sum over the rows or columns, half by half. -/
theorem sum_halves (f : Fin 2048 → EReal) : ∑ k : Fin 2048, f k = ∑ a : Fin 2, ∑ p : Fin 1024, f (half a p) := by
  rw [← Fintype.sum_prod_type fun x : Fin 2 × Fin 1024 => f (half x.1 x.2)]
  refine Finset.sum_bij' (fun k _ => (⟨k.val / 1024, by have := k.isLt; omega⟩, ⟨k.val % 1024, Nat.mod_lt _ (by decide)⟩)) (fun x _ => half x.1 x.2)
    (fun _ _ => Finset.mem_univ _) (fun _ _ => Finset.mem_univ _) ?_ ?_ ?_
  · exact fun k _ => Fin.ext (Nat.div_add_mod k.val 1024)
  · intro x _
    have h := x.2.isLt
    refine Prod.ext (Fin.ext ?_) (Fin.ext ?_)
    · show (1024 * x.1.val + x.2.val) / 1024 = x.1.val; omega
    · show (1024 * x.1.val + x.2.val) % 1024 = x.2.val; omega
  · exact fun k _ => congrArg f (Fin.ext (Nat.div_add_mod k.val 1024)).symm

/-- A sum over all entries, block by block. -/
theorem sum_blocks (g : Fin 2048 → Fin 2048 → EReal) :
    ∑ a : Fin 2, ∑ b : Fin 2, ∑ q : Fin 1024, ∑ p : Fin 1024, g (half a p) (half b q) = ∑ r : Fin 2048, ∑ k : Fin 2048, g r k := by
  rw [sum_halves]
  refine Finset.sum_congr rfl fun a _ => ?_
  refine (Finset.sum_congr rfl fun b _ => Finset.sum_comm).trans ?_
  exact Finset.sum_comm.trans (Finset.sum_congr rfl fun p _ => (sum_halves _).symm)

section
variable (A : FVec Ideal S2048x8192 .f32) (W : FVec Ideal S8192x2048 .f32) (X T : FVec Ideal S2048x2048 .f32)

theorem v2 : val_main_v2 (F := Ideal) A W X T = fun i => err A W X T (i 0) (i 1) := by
  funext i
  obtain ⟨p, q, rfl⟩ : ∃ p q, i = mk2 p q := ⟨i 0, i 1, ext2 rfl rfl⟩
  exact congrArg (fun x => X (mk2 p q) + x - T (mk2 p q)) (congrFun (h_dot A W) (mk2 p q))

theorem v16 (i : S2048x2048.Idx) : val_main_v16 (F := Ideal) A W X T i = err A W X T (i 0) (i 1) * Ideal.ofBits .f32 0x3A000000#32 := by
  rw [val_main_v16_apply, val_main_v15_apply, val_main_v14_apply, val_main_v12_apply, val_main_v13_apply, val_main_v5_apply, v2]
  show Ideal.div (Ideal.ofBits .f32 0x3F000000#32 * Ideal.ofBits .f32 0x3F800000#32) (Ideal.ofBits .f32 0x45000000#32)
    * (Ideal.ofBits .f32 0x40000000#32 * err A W X T (i 0) (i 1)) = _
  rw [lit_half, lit_one, lit_2048, lit_two, lit_a, Ideal.div_coe (by norm_num), ← mul_assoc, ← EReal.coe_mul, ← EReal.coe_mul, ← EReal.coe_mul,
    mul_comm (err A W X T (i 0) (i 1))]
  norm_num

theorem v8 (r : Fin 2048) : val_main_v8 (F := Ideal) A W X T (mk1 r) = (∑ k : Fin 2048, err A W X T r k * err A W X T r k) * ((1 / 2048 : ℝ) : EReal) := by
  rw [val_main_v8_apply, val_main_v7_apply, val_main_v6_apply]
  show Ideal.div (Ideal.ofBits .f32 0x00000000#32 + _) (Ideal.ofBits .f32 0x45000000#32) = _
  rw [lit_2048, lit_zero, EReal.coe_zero, zero_add, Ideal.div_coe (by norm_num)]
  refine congrArg₂ (· * ·) (Finset.sum_congr rfl fun k _ => ?_) (by norm_num)
  rw [val_main_v3_apply, v2]
  rfl

theorem v10 (i : S_.Idx) : val_main_v10 (F := Ideal) A W X T i
    = (∑ r : Fin 2048, ∑ k : Fin 2048, err A W X T r k * err A W X T r k) * Ideal.ofBits .f32 0x39800000#32 := by
  rw [val_main_v10_apply, val_main_v9_apply]
  show Ideal.ofBits .f32 0x3F000000#32 * (Ideal.ofBits .f32 0x00000000#32 + _) = _
  have h : ∑ j : S2048.Idx, val_main_v8 (F := Ideal) A W X T j = ∑ r : Fin 2048, (∑ k : Fin 2048, err A W X T r k * err A W X T r k) * ((1 / 2048 : ℝ) : EReal) :=
    (Equiv.sum_comp (ValueIdx.idxEquiv1 (n := 2048)).symm _).symm.trans (Finset.sum_congr rfl fun r _ => v8 A W X T r)
  rw [lit_zero, EReal.coe_zero, zero_add, lit_half, lit_b, h, sum_mul _ _ _ (by norm_num), mul_comm, mul_assoc, ← EReal.coe_mul]
  norm_num

end

end Cert.LossRef

namespace Cert.LossClaim

open Cert.Reals Cert.LossKernel Cert.LossIdeal

/-- Kernel and reference compute the same loss and the same gradient, of any arguments. -/
theorem value : Cert.algebraic_LossIdeal_LossRefIdeal := by
  intro m ρ m' ρ' hpre hagree
  refine ⟨fun c => lossv m c, fun c => (dyv m c : FVec Ideal S2048x2048 .f32), fun c => (dyv m c : FVec Ideal S2048x2048 .bf16), LossKernel.run m ρ,
    (θ_run Cert.LossRefIdeal.defs _ _).mono (fun r h c => ?_) (Cert.LossRefIdeal.Value.run m' ρ')⟩
  obtain ⟨h0, h1, h2, hk⟩ := h c
  obtain ⟨e0, e1, e2, e3⟩ := hagree c
  refine ⟨h0.trans ?_, h1.trans ?_, h2.trans ?_, hk⟩
  · rw [e0, e1, e2, e3]
    funext i
    refine (LossRef.v10 _ _ _ _ i).trans (congrArg (· * _) ?_)
    rw [ValueIdx.sum_idx2]
    exact (LossRef.sum_blocks fun r k => err (argA m c) (argW m c) (argX m c) (argT m c) r k * err (argA m c) (argW m c) (argX m c) (argT m c) r k).symm
  · rw [e0, e1, e2, e3]
    exact funext fun i => LossRef.v16 _ _ _ _ i
  · rw [e0, e1, e2, e3]
    exact funext fun i => LossRef.v16 _ _ _ _ i

end Cert.LossClaim

end
-- ==== Proof.MixKernel.lean ====
/-
  The gradient of the three group norms (of the attention's, the convolution's and the gating's outputs), as the
  kernel computes it: for finite arguments each of its four results is one formula of them.
-/
module

public import proofs.«01_k».proof.Proof.Norm
public import proofs.«01_k».proof.Proof.Gen.MixBwdIdeal.Value
public import Idealize.ShloMosaic.Lib.Tactic
public import Idealize.ShloMosaic.Lib.Pipeline.ReadBack

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.MixKernel

open Cert.Reals Cert.Norm Cert.MixBwdIdeal Cert.MixBwdIdeal.Gen

/-- One row's part of the gains' gradient, the three groups' columns side by side. -/
def mixRow {n : ℕ} (D : Mat n 2048) (A : Mat n 1024) (C S : Mat n 512) (r : Fin n) (k : Fin 2048) : ℝ :=
  if h : k.val < 1024 then dgRow (cols D 0 1024 (by decide)) A r ⟨k.val, h⟩
  else if h' : k.val < 1536 then dgRow (cols D 1024 512 (by decide)) C r ⟨k.val - 1024, by omega⟩
  else dgRow (cols D 1536 512 (by decide)) S r ⟨k.val - 1536, by have := k.isLt; omega⟩

theorem mixRow_a {n : ℕ} (D : Mat n 2048) (A : Mat n 1024) (C S : Mat n 512) (r : Fin n) (k : Fin 2048) (l : Fin 1024) (h : k.val = 0 + l.val) :
    mixRow D A C S r k = dgRow (cols D 0 1024 (by decide)) A r l := by
  have := l.isLt
  unfold mixRow
  rw [dif_pos (by omega)]
  exact congrArg _ (Fin.ext (by dsimp only; omega))
theorem mixRow_c {n : ℕ} (D : Mat n 2048) (A : Mat n 1024) (C S : Mat n 512) (r : Fin n) (k : Fin 2048) (l : Fin 512) (h : k.val = 1024 + l.val) :
    mixRow D A C S r k = dgRow (cols D 1024 512 (by decide)) C r l := by
  have := l.isLt
  unfold mixRow
  rw [dif_neg (by omega), dif_pos (by omega)]
  exact congrArg _ (Fin.ext (by dsimp only; omega))
theorem mixRow_s {n : ℕ} (D : Mat n 2048) (A : Mat n 1024) (C S : Mat n 512) (r : Fin n) (k : Fin 2048) (l : Fin 512) (h : k.val = 1536 + l.val) :
    mixRow D A C S r k = dgRow (cols D 1536 512 (by decide)) S r l := by
  have := l.isLt
  unfold mixRow
  rw [dif_neg (by omega), dif_neg (by omega)]
  exact congrArg _ (Fin.ext (by dsimp only; omega))

/-! ## One block -/

theorem ne1024 : ((1024 : ℕ) : ℝ) ≠ 0 := by norm_num
theorem ne512 : ((512 : ℕ) : ℝ) ≠ 0 := by norm_num

section Group
variable (D X : Mat 256 1024) (d x : Mat 256 512) (G : Mat 1 1024) (g : Mat 1 512)

theorem pay7 : k0_pay7 (F := Ideal) (up (φ := .f32) X) = up fun j => rinv X (j 0) := k_rinv lit_1024 ne1024 X ..
theorem pay8 : k0_pay8 (F := Ideal) (up (φ := .f32) X) = up fun j => xhat X (j 0) (j 1) := by
  unfold k0_pay8
  rw [pay7]
  exact k_xhat X _
theorem pay9 : k0_pay9 (F := Ideal) (up (φ := .f32) X) (up (φ := .f32) D) (up (φ := .f32) G)
    = up fun j => dx D X (fun k => G (mk2 0 k)) (j 0) (j 1) := by
  unfold k0_pay9
  simp -index only [pay7, pay8, cast_self_up, spread_row_up, mulf_up]
  exact k_dxv lit_1024 ne1024 X (fun j => D j * G (mk2 0 (j 1))) ..
theorem pay10 : k0_pay10 (F := Ideal) (up (φ := .f32) X) (up (φ := .f32) D) (up (φ := .f32) G)
    = up fun j => G j + ∑ p : Fin 256, dgRow D X p (j 1) := by
  unfold k0_pay10
  simp -index only [pay8, cast_self_up]
  exact k_dg X D G ..

theorem pay11 : k0_pay11 (F := Ideal) (up (φ := .f32) x) = up fun j => rinv x (j 0) := k_rinv lit_512 ne512 x ..
theorem pay12 : k0_pay12 (F := Ideal) (up (φ := .f32) x) = up fun j => xhat x (j 0) (j 1) := by
  unfold k0_pay12
  rw [pay11]
  exact k_xhat x _
theorem pay13 : k0_pay13 (F := Ideal) (up (φ := .f32) x) (up (φ := .f32) d) (up (φ := .f32) g)
    = up fun j => dx d x (fun k => g (mk2 0 k)) (j 0) (j 1) := by
  unfold k0_pay13
  simp -index only [pay11, pay12, cast_self_up, spread_row_up, mulf_up]
  exact k_dxv lit_512 ne512 x (fun j => d j * g (mk2 0 (j 1))) ..
theorem pay14 : k0_pay14 (F := Ideal) (up (φ := .f32) x) (up (φ := .f32) d) (up (φ := .f32) g)
    = up fun j => g j + ∑ p : Fin 256, dgRow d x p (j 1) := by
  unfold k0_pay14
  simp -index only [pay12, cast_self_up]
  exact k_dg x d g ..

/-- The third group's payloads are the second's. -/
theorem pay3 (a b : Vec Ideal S256x512 .f32) (v : Vec Ideal S1x512 .f32) :
    k0_pay3 (F := Ideal) a (k0_pay15 a) b v = k0_pay13 (F := Ideal) a b v := rfl
theorem pay4 (a b : Vec Ideal S256x512 .f32) (v : Vec Ideal S1x512 .f32) :
    k0_pay4 (F := Ideal) a (k0_pay15 a) b v = k0_pay14 (F := Ideal) a b v := rfl

theorem pay6 : k0_pay6 (F := Ideal) = up fun _ => 0 := splat_up lit_zero

end Group

/-! ## One grid point -/

variable (m : (ℓ : Loc nD τ sig) → Buf (Elt Ideal) ℓ) (c : Dev nD)

theorem hz : (![0, 0] : Fin 2 → Nat) = fun _ => 0 := funext fun a => by fin_cases a <;> rfl

/-- The columns of the three groups, of a block of rows and of one row. -/
abbrev rA : Rect S256x2048 := Rect.unit ![0, 0] ![256, 1024] inb_S256x2048_S256x1024_0_0
abbrev rC : Rect S256x2048 := Rect.unit ![0, 1024] ![256, 512] inb_S256x2048_S256x512_0_1024
abbrev rS : Rect S256x2048 := Rect.unit ![0, 1536] ![256, 512] inb_S256x2048_S256x512_0_1536
abbrev qA : Rect S1x2048 := Rect.unit ![0, 0] ![1, 1024] inb_S1x2048_S1x1024_0_0
abbrev qC : Rect S1x2048 := Rect.unit ![0, 1024] ![1, 512] inb_S1x2048_S1x512_0_1024
abbrev qS : Rect S1x2048 := Rect.unit ![0, 1536] ![1, 512] inb_S1x2048_S1x512_0_1536

/-- What one point stores of the gains' gradient, over what stood there. -/
abbrev parts (d : FVec Ideal S256x2048 .f32) (a : FVec Ideal S256x1024 .f32) (b s : FVec Ideal S256x512 .f32) (z : FVec Ideal S1x2048 .f32) :
    List (View.Piece (Elt Ideal) S1x2048 .f32) :=
  [⟨qS, k0_pay4 (F := Ideal) s (k0_pay15 s) (View.ld (Val := Elt Ideal) (e' := .f32) d rS) (View.ld (Val := Elt Ideal) (e' := .f32) z qS)⟩,
   ⟨qC, k0_pay14 (F := Ideal) b (View.ld (Val := Elt Ideal) (e' := .f32) d rC) (View.ld (Val := Elt Ideal) (e' := .f32) z qC)⟩,
   ⟨qA, k0_pay10 (F := Ideal) a (View.ld (Val := Elt Ideal) (e' := .f32) d rA) (View.ld (Val := Elt Ideal) (e' := .f32) z qA)⟩]

theorem point5 (t : Fin cfg0.N) : (outsAt0 m c t.val t.isLt).1
    = k0_pay9 (F := Ideal) (iblk m c 1 t) (View.ld (Val := Elt Ideal) (e' := .f32) (iblk m c 0 t) rA) (View.ld (Val := Elt Ideal) (e' := .f32) (iblk m c 4 t) qA) := by
  by_cases h0 : t.val % 8 = 0
  · rw [outsAt0_A m c t h0]
    dsimp only
    unfold out0_A_5
    rw [View.read_writes_eq_canon]; on_goal 2 => exact fun y => cover0_A_5 ..
    unfold kernelRun0_A
    dsimp only
    rw [View.canon_unit_zero hz]
    simp only [View.readAt_eq_ld, (hs0_0 t).read_unread, (hs0_1 t).read_unread, (hs0_4 t).read_unread,
      View.ld_unit_zero (S := S256x1024) hz]
    rfl
  · rw [outsAt0_B m c t h0]
    dsimp only
    unfold out0_B_5
    rw [View.read_writes_eq_canon]; on_goal 2 => exact fun y => cover0_B_5 ..
    unfold kernelRun0_B
    dsimp only
    rw [View.canon_unit_zero hz]
    simp only [View.readAt_eq_ld, (hs0_0 t).read_unread, (hs0_1 t).read_unread, (hs0_4 t).read_unread,
      View.ld_unit_zero (S := S256x1024) hz]
    rfl

theorem point6 (t : Fin cfg0.N) : (outsAt0 m c t.val t.isLt).2.1
    = k0_pay13 (F := Ideal) (iblk m c 2 t) (View.ld (Val := Elt Ideal) (e' := .f32) (iblk m c 0 t) rC) (View.ld (Val := Elt Ideal) (e' := .f32) (iblk m c 4 t) qC) := by
  by_cases h0 : t.val % 8 = 0
  · rw [outsAt0_A m c t h0]
    dsimp only
    unfold out0_A_6
    rw [View.read_writes_eq_canon]; on_goal 2 => exact fun y => cover0_A_6 ..
    unfold kernelRun0_A
    dsimp only
    rw [View.canon_unit_zero hz]
    simp only [View.readAt_eq_ld, (hs0_0 t).read_unread, (hs0_2 t).read_unread, (hs0_4 t).read_unread,
      View.ld_unit_zero (S := S256x512) hz]
    rfl
  · rw [outsAt0_B m c t h0]
    dsimp only
    unfold out0_B_6
    rw [View.read_writes_eq_canon]; on_goal 2 => exact fun y => cover0_B_6 ..
    unfold kernelRun0_B
    dsimp only
    rw [View.canon_unit_zero hz]
    simp only [View.readAt_eq_ld, (hs0_0 t).read_unread, (hs0_2 t).read_unread, (hs0_4 t).read_unread,
      View.ld_unit_zero (S := S256x512) hz]
    rfl

theorem point7 (t : Fin cfg0.N) : (outsAt0 m c t.val t.isLt).2.2.1
    = k0_pay3 (F := Ideal) (iblk m c 3 t) (k0_pay15 (F := Ideal) (iblk m c 3 t)) (View.ld (Val := Elt Ideal) (e' := .f32) (iblk m c 0 t) rS) (View.ld (Val := Elt Ideal) (e' := .f32) (iblk m c 4 t) qS) := by
  by_cases h0 : t.val % 8 = 0
  · rw [outsAt0_A m c t h0]
    dsimp only
    unfold out0_A_7
    rw [View.read_writes_eq_canon]; on_goal 2 => exact fun y => cover0_A_7 ..
    unfold kernelRun0_A
    dsimp only
    sl_unfold_words
    rw [View.canon_unit_zero hz]
    simp only [View.readAt_eq_ld, (hs0_0 t).read_unread, (hs0_3 t).read_unread, (hs0_4 t).read_unread,
      View.ld_unit_zero (S := S256x512) hz]
    rfl
  · rw [outsAt0_B m c t h0]
    dsimp only
    unfold out0_B_7
    rw [View.read_writes_eq_canon]; on_goal 2 => exact fun y => cover0_B_7 ..
    unfold kernelRun0_B
    dsimp only
    sl_unfold_words
    rw [View.canon_unit_zero hz]
    simp only [View.readAt_eq_ld, (hs0_0 t).read_unread, (hs0_3 t).read_unread, (hs0_4 t).read_unread,
      View.ld_unit_zero (S := S256x512) hz]
    rfl

/-- What the first point leaves of the gains' gradient: its own rows' part, over zero. -/
theorem point8_first (t : Fin cfg0.N) (h0 : t.val % 8 = 0) : (outsAt0 m c t.val t.isLt).2.2.2.1
    = View.canon (parts (iblk m c 0 t) (iblk m c 1 t) (iblk m c 2 t) (iblk m c 3 t) (k0_pay6 (F := Ideal))
        ++ [⟨Rect.unit ![0, 0] ![1, 2048] inb_S1x2048_S1x2048_0_0, k0_pay6 (F := Ideal)⟩]) := by
  rw [outsAt0_A m c t h0]
  dsimp only
  unfold out0_A_8
  rw [View.read_writes_eq_canon]; on_goal 2 => exact fun y => cover0_A_8 ..
  unfold kernelRun0_A
  dsimp only
  sl_unfold_words
  simp only [View.readAt_eq_ld, (hs0_0 t).read_unread, (hs0_1 t).read_unread, (hs0_2 t).read_unread, (hs0_3 t).read_unread,
    View.ld_unit_zero (S := S256x1024) hz, View.ld_unit_zero (S := S256x512) hz]
  rw [View.readCov_skip _ qC _ _ qS.toLoadRect (by decide +kernel), View.readCov_skip _ qA _ _ qS.toLoadRect (by decide +kernel),
    View.readCov_skip _ qA _ _ qC.toLoadRect (by decide +kernel)]
  rw [View.readCov_fill _ _ _ _ qS (by decide), View.readCov_fill _ _ _ _ qC (by decide), View.readCov_fill _ _ _ _ qA (by decide)]
  rfl

/-- What a later point leaves there: its own rows' part, over what the point before left. -/
theorem point8_next (t : Fin cfg0.N) (h0 : ¬t.val % 8 = 0) : (outsAt0 m c t.val t.isLt).2.2.2.1
    = View.canon (parts (iblk m c 0 t) (iblk m c 1 t) (iblk m c 2 t) (iblk m c 3 t)
        (outsAt0 m c (t.val - 1) (Nat.lt_of_le_of_lt (Nat.sub_le _ _) t.isLt)).2.2.2.1 ++ []) := by
  rw [outsAt0_B m c t h0]
  dsimp only
  unfold out0_B_8
  rw [View.read_writes_eq_canon]; on_goal 2 => exact fun y => cover0_B_8 ..
  unfold kernelRun0_B
  dsimp only
  sl_unfold_words
  simp only [View.readAt_eq_ld, (hs0_0 t).read_unread, (hs0_1 t).read_unread, (hs0_2 t).read_unread, (hs0_3 t).read_unread,
    (hs0_8 t).read_unread, View.ld_unit_zero (S := S256x1024) hz, View.ld_unit_zero (S := S256x512) hz]
  rfl

/-- The three stores together add the block's rows to every column. -/
theorem canon_parts (D : Mat 256 2048) (A : Mat 256 1024) (C S : Mat 256 512) (Z : Mat 1 2048) (L' : List (View.Piece (Elt Ideal) S1x2048 .f32)) :
    View.canon (parts (up D) (up A) (up C) (up S) (up Z) ++ L') = up (φ := .f32) fun j => Z j + ∑ p : Fin 256, mixRow D A C S p (j 1) := by
  funext y
  refine View.canon_append_of_piecesOf (Val := Elt Ideal) (e := .f32) (up (φ := .f32) fun j => Z j + ∑ p : Fin 256, mixRow D A C S p (j 1)) L' (parts (up D) (up A) (up C) (up S) (up Z)) ⟨fun x => ?_, fun x => ?_, fun x => ?_, trivial⟩ y ?_
  · dsimp only
    rw [pay4, ld_cols, ld_cols, pay14]
    refine congrArg _ (congrArg₂ (· + ·) (congrArg Z (funext fun a => Fin.ext ?_)) (Finset.sum_congr rfl fun p _ => (mixRow_s D A C S p _ _ ?_).symm))
    · match a with
      | ⟨0, _⟩ => show (x 0).val = 0 + 1 * (x 0).val; omega
      | ⟨1, _⟩ => show 1536 + (x 1).val = 1536 + 1 * (x 1).val; omega
    · show 1536 + 1 * (x 1).val = 1536 + (x 1).val; omega
  · dsimp only
    rw [ld_cols, ld_cols, pay14]
    refine congrArg _ (congrArg₂ (· + ·) (congrArg Z (funext fun a => Fin.ext ?_)) (Finset.sum_congr rfl fun p _ => (mixRow_c D A C S p _ _ ?_).symm))
    · match a with
      | ⟨0, _⟩ => show (x 0).val = 0 + 1 * (x 0).val; omega
      | ⟨1, _⟩ => show 1024 + (x 1).val = 1024 + 1 * (x 1).val; omega
    · show 1024 + 1 * (x 1).val = 1024 + (x 1).val; omega
  · dsimp only
    rw [ld_cols, ld_cols, pay10]
    refine congrArg _ (congrArg₂ (· + ·) (congrArg Z (funext fun a => Fin.ext ?_)) (Finset.sum_congr rfl fun p _ => (mixRow_a D A C S p _ _ ?_).symm))
    · match a with
      | ⟨0, _⟩ => show (x 0).val = 0 + 1 * (x 0).val; omega
      | ⟨1, _⟩ => show 0 + (x 1).val = 0 + 1 * (x 1).val; omega
    · show 0 + 1 * (x 1).val = 0 + (x 1).val; omega
  · have h0 : (y 0).val < 1 := (y 0).isLt
    have h1 : (y 1).val < 2048 := (y 1).isLt
    by_cases hA : (y 1).val < 1024
    · refine ⟨_, List.mem_cons_of_mem _ (List.mem_cons_of_mem _ List.mem_cons_self), (Rect.mem_set_unit (inb := inb_S1x2048_S1x1024_0_0)).mpr fun a => ?_⟩
      match a with
      | ⟨0, _⟩ => show 0 ≤ (y 0).val ∧ (y 0).val < 0 + 1; omega
      | ⟨1, _⟩ => show 0 ≤ (y 1).val ∧ (y 1).val < 0 + 1024; omega
    · by_cases hC : (y 1).val < 1536
      · refine ⟨_, List.mem_cons_of_mem _ List.mem_cons_self, (Rect.mem_set_unit (inb := inb_S1x2048_S1x512_0_1024)).mpr fun a => ?_⟩
        match a with
        | ⟨0, _⟩ => show 0 ≤ (y 0).val ∧ (y 0).val < 0 + 1; omega
        | ⟨1, _⟩ => show 1024 ≤ (y 1).val ∧ (y 1).val < 1024 + 512; omega
      · refine ⟨_, List.mem_cons_self, (Rect.mem_set_unit (inb := inb_S1x2048_S1x512_0_1536)).mpr fun a => ?_⟩
        match a with
        | ⟨0, _⟩ => show 0 ≤ (y 0).val ∧ (y 0).val < 0 + 1; omega
        | ⟨1, _⟩ => show 1536 ≤ (y 1).val ∧ (y 1).val < 1536 + 512; omega

/-! ## The blocks as parts of the arguments -/

theorem index_row : ∀ t : Fin cfg0.N,
    ((win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0)
      ∧ (win0_4.index t 0 = 0 ∧ win0_4.index t 1 = 0))
    ∧ (win0_5.index t 0 = t.val ∧ win0_5.index t 1 = 0) ∧ (win0_6.index t 0 = t.val ∧ win0_6.index t 1 = 0)
      ∧ (win0_7.index t 0 = t.val ∧ win0_7.index t 1 = 0) ∧ (win0_8.index t 0 = 0 ∧ win0_8.index t 1 = 0) :=
  (by decide +kernel : ∀ t : Fin grid0.N, _)

theorem lt8 (t : Fin cfg0.N) : t.val < 8 := lt_of_lt_of_eq t.isLt (show cfg0.N = 8 from N_0)

/-- Row `p` of block `t`. -/
def row (t : Fin cfg0.N) (p : Fin 256) : Fin 2048 := ⟨256 * t.val + p.val, by have := lt8 t; have := p.isLt; omega⟩

/-- Block `t` of a matrix of reals. -/
def blk {w : ℕ} (X : Mat 2048 w) (t : Fin cfg0.N) : Mat 256 w := fun j => X (mk2 (row t (j 0)) (j 1))

theorem iblk0 (t : Fin cfg0.N) : (iblk m c 0 t : FVec Ideal S256x2048 .f32) = fun j => m (c.tc.loc main_arg0) (mk2 (row t (j 0)) (j 1)) := by
  funext j
  unfold iblk
  rw [View.read_apply]
  show V m c main_arg0 _ = _
  rw [V_main_arg0]
  exact congrArg (m (c.tc.loc main_arg0)) (ext2 (at_blk (index_row t).1.1.1) (at_zero (index_row t).1.1.2))
theorem iblk1 (t : Fin cfg0.N) : (iblk m c 1 t : FVec Ideal S256x1024 .f32) = fun j => m (c.tc.loc main_arg1) (mk2 (row t (j 0)) (j 1)) := by
  funext j
  unfold iblk
  rw [View.read_apply]
  show V m c main_arg1 _ = _
  rw [V_main_arg1]
  exact congrArg (m (c.tc.loc main_arg1)) (ext2 (at_blk (index_row t).1.2.1.1) (at_zero (index_row t).1.2.1.2))
theorem iblk2 (t : Fin cfg0.N) : (iblk m c 2 t : FVec Ideal S256x512 .f32) = fun j => m (c.tc.loc main_arg2) (mk2 (row t (j 0)) (j 1)) := by
  funext j
  unfold iblk
  rw [View.read_apply]
  show V m c main_arg2 _ = _
  rw [V_main_arg2]
  exact congrArg (m (c.tc.loc main_arg2)) (ext2 (at_blk (index_row t).1.2.2.1.1) (at_zero (index_row t).1.2.2.1.2))
theorem iblk3 (t : Fin cfg0.N) : (iblk m c 3 t : FVec Ideal S256x512 .f32) = fun j => m (c.tc.loc main_arg3) (mk2 (row t (j 0)) (j 1)) := by
  funext j
  unfold iblk
  rw [View.read_apply]
  show V m c main_arg3 _ = _
  rw [V_main_arg3]
  exact congrArg (m (c.tc.loc main_arg3)) (ext2 (at_blk (index_row t).1.2.2.2.1.1) (at_zero (index_row t).1.2.2.2.1.2))

/-- The gains, as the host hands them to the kernel: one row. -/
theorem gain : V m c main_v0 = shapeCast S1x2048 (m (c.tc.loc main_arg4)) shapeCasts_S2048_S1x2048 := by
  show StableHlo.after hostOps0 (fun b => m (c, b)) main_v0 = _
  after_results_simp <;> rfl
theorem iblk4 (t : Fin cfg0.N) : (iblk m c 4 t : FVec Ideal S1x2048 .f32) = shapeCast S1x2048 (m (c.tc.loc main_arg4)) shapeCasts_S2048_S1x2048 := by
  rw [← gain]
  funext j
  unfold iblk
  rw [View.read_apply]
  exact congrArg (V m c main_v0) (ext2 (at_zero (index_row t).1.2.2.2.2.1) (at_zero (index_row t).1.2.2.2.2.2))

/-! ## The results -/

variable {D : Mat 2048 2048} {A : Mat 2048 1024} {C S : Mat 2048 512} {g : (⟨1, ![2048]⟩ : Shape).Idx → ℝ}

/-- The gains of one group. -/
def gcol (g : (⟨1, ![2048]⟩ : Shape).Idx → ℝ) (o w : ℕ) (h : o + w ≤ 2048) (k : Fin w) : ℝ := g (mk1 ⟨o + k.val, by have := k.isLt; omega⟩)

def resA (D : Mat 2048 2048) (A : Mat 2048 1024) (g : (⟨1, ![2048]⟩ : Shape).Idx → ℝ) : FVec Ideal S2048x1024 .f32 :=
  up fun i => dx (cols D 0 1024 (by decide)) A (gcol g 0 1024 (by decide)) (i 0) (i 1)
def resC (D : Mat 2048 2048) (C : Mat 2048 512) (g : (⟨1, ![2048]⟩ : Shape).Idx → ℝ) : FVec Ideal S2048x512 .f32 :=
  up fun i => dx (cols D 1024 512 (by decide)) C (gcol g 1024 512 (by decide)) (i 0) (i 1)
def resS (D : Mat 2048 2048) (S : Mat 2048 512) (g : (⟨1, ![2048]⟩ : Shape).Idx → ℝ) : FVec Ideal S2048x512 .f32 :=
  up fun i => dx (cols D 1536 512 (by decide)) S (gcol g 1536 512 (by decide)) (i 0) (i 1)
def resG (D : Mat 2048 2048) (A : Mat 2048 1024) (C S : Mat 2048 512) : FVec Ideal S1x2048 .f32 := up fun i => ∑ r : Fin 2048, mixRow D A C S r (i 1)

/-- The arguments are arrays of reals. -/
structure Args (D : Mat 2048 2048) (A : Mat 2048 1024) (C S : Mat 2048 512) (g : (⟨1, ![2048]⟩ : Shape).Idx → ℝ) : Prop where
  hD : m (c.tc.loc main_arg0) = up (φ := .f32) D
  hA : m (c.tc.loc main_arg1) = up (φ := .f32) A
  hC : m (c.tc.loc main_arg2) = up (φ := .f32) C
  hS : m (c.tc.loc main_arg3) = up (φ := .f32) S
  hg : m (c.tc.loc main_arg4) = up (φ := .f32) g

section
variable (h : Args m c D A C S g)
include h

theorem b0 (t : Fin cfg0.N) : (iblk m c 0 t : FVec Ideal S256x2048 .f32) = up (φ := .f32) (blk D t) := by rw [iblk0, h.hD]; rfl
theorem b1 (t : Fin cfg0.N) : (iblk m c 1 t : FVec Ideal S256x1024 .f32) = up (φ := .f32) (blk A t) := by rw [iblk1, h.hA]; rfl
theorem b2 (t : Fin cfg0.N) : (iblk m c 2 t : FVec Ideal S256x512 .f32) = up (φ := .f32) (blk C t) := by rw [iblk2, h.hC]; rfl
theorem b3 (t : Fin cfg0.N) : (iblk m c 3 t : FVec Ideal S256x512 .f32) = up (φ := .f32) (blk S t) := by rw [iblk3, h.hS]; rfl
theorem b4 (t : Fin cfg0.N) : (iblk m c 4 t : FVec Ideal S1x2048 .f32) = up (φ := .f32) fun j => g (mk1 (j 1)) := by
  rw [iblk4, h.hg]; exact cast_row_up g _

theorem val5 (t : Fin cfg0.N) : (outsAt0 m c t.val t.isLt).1 = fun j => resA D A g (mk2 (row t (j 0)) (j 1)) := by
  refine (point5 m c t).trans ?_
  rw [b0 m c h, b1 m c h, b4 m c h, ld_cols, ld_cols]
  exact pay9 _ _ _
theorem val6 (t : Fin cfg0.N) : (outsAt0 m c t.val t.isLt).2.1 = fun j => resC D C g (mk2 (row t (j 0)) (j 1)) := by
  refine (point6 m c t).trans ?_
  rw [b0 m c h, b2 m c h, b4 m c h, ld_cols, ld_cols]
  exact pay13 _ _ _
theorem val7 (t : Fin cfg0.N) : (outsAt0 m c t.val t.isLt).2.2.1 = fun j => resS D S g (mk2 (row t (j 0)) (j 1)) := by
  refine (point7 m c t).trans ?_
  rw [b0 m c h, b3 m c h, b4 m c h, ld_cols, ld_cols, pay3]
  exact pay13 _ _ _

theorem val8 : ∀ (n : ℕ) (hn : n < cfg0.N), (outsAt0 m c n hn).2.2.2.1
    = up (φ := .f32) fun j => ∑ k ∈ Finset.range (256 * (n + 1)), nat (fun r => mixRow D A C S r (j 1)) k
  | 0, hn => by
    refine (point8_first m c ⟨0, hn⟩ rfl).trans ?_
    rw [b0 m c h, b1 m c h, b2 m c h, b3 m c h, pay6, canon_parts]
    refine congrArg up (funext fun j => ?_)
    rw [sum_nat_step _ 256 0 (fun p => mixRow (blk D ⟨0, hn⟩) (blk A ⟨0, hn⟩) (blk C ⟨0, hn⟩) (blk S ⟨0, hn⟩) p (j 1))
      fun p => ⟨by have := p.isLt; omega, rfl⟩]
    simp
  | n + 1, hn => by
    have h8 := lt8 ⟨n + 1, hn⟩
    have hB : ¬(⟨n + 1, hn⟩ : Fin cfg0.N).val % 8 = 0 := by dsimp only at h8 ⊢; omega
    have ih := val8 n (Nat.lt_of_succ_lt hn)
    refine (point8_next m c ⟨n + 1, hn⟩ hB).trans ?_
    rw [b0 m c h, b1 m c h, b2 m c h, b3 m c h]
    refine (congrArg (fun z => View.canon (parts _ _ _ _ z ++ [])) ih).trans ?_
    refine (canon_parts _ _ _ _ _ []).trans (congrArg up (funext fun j => ?_))
    exact (sum_nat_step _ 256 (n + 1) (fun p => mixRow (blk D ⟨n + 1, hn⟩) (blk A ⟨n + 1, hn⟩) (blk C ⟨n + 1, hn⟩) (blk S ⟨n + 1, hn⟩) p (j 1))
      fun p => ⟨by have := p.isLt; dsimp only at h8; omega, rfl⟩).symm

/-! ## The arrays after the run -/

omit h in
/-- The point whose block holds row `i`. -/
def pt (i : Fin 2048) : Fin cfg0.N := ⟨i.val / 256, by rw [show cfg0.N = 8 from N_0]; have := i.isLt; omega⟩

theorem final5 : (dats m 0 c).arrAt 5 cfg0.N = resA D A g := by
  refine (dats m 0 c).arrAt_eq_of_cover 5 _ (fun t _ => ?_) fun i => ⟨pt (i 0), flush0_5 _, ?_⟩
  · rw [Value.flushed5, val5 m c h]
    funext j
    rw [View.read_apply]
    exact congrArg (resA D A g) (ext2 (at_blk (index_row t).2.1.1).symm (at_zero (index_row t).2.1.2).symm)
  · show i ∈ ((View.whole main_v1_0).slice (win0_5.rect (pt (i 0)))).set
    rw [View.set_slice_whole, Rect.mem_set_unit]
    exact Fin.forall_fin_two.mpr ⟨in_blk (index_row (pt (i 0))).2.1.1 rfl (by decide), in_zero (index_row (pt (i 0))).2.1.2 (i 1).isLt⟩
theorem final6 : (dats m 0 c).arrAt 6 cfg0.N = resC D C g := by
  refine (dats m 0 c).arrAt_eq_of_cover 6 _ (fun t _ => ?_) fun i => ⟨pt (i 0), flush0_6 _, ?_⟩
  · rw [Value.flushed6, val6 m c h]
    funext j
    rw [View.read_apply]
    exact congrArg (resC D C g) (ext2 (at_blk (index_row t).2.2.1.1).symm (at_zero (index_row t).2.2.1.2).symm)
  · show i ∈ ((View.whole main_v1_1).slice (win0_6.rect (pt (i 0)))).set
    rw [View.set_slice_whole, Rect.mem_set_unit]
    exact Fin.forall_fin_two.mpr ⟨in_blk (index_row (pt (i 0))).2.2.1.1 rfl (by decide), in_zero (index_row (pt (i 0))).2.2.1.2 (i 1).isLt⟩
theorem final7 : (dats m 0 c).arrAt 7 cfg0.N = resS D S g := by
  refine (dats m 0 c).arrAt_eq_of_cover 7 _ (fun t _ => ?_) fun i => ⟨pt (i 0), flush0_7 _, ?_⟩
  · rw [Value.flushed7, val7 m c h]
    funext j
    rw [View.read_apply]
    exact congrArg (resS D S g) (ext2 (at_blk (index_row t).2.2.2.1.1).symm (at_zero (index_row t).2.2.2.1.2).symm)
  · show i ∈ ((View.whole main_v1_2).slice (win0_7.rect (pt (i 0)))).set
    rw [View.set_slice_whole, Rect.mem_set_unit]
    exact Fin.forall_fin_two.mpr ⟨in_blk (index_row (pt (i 0))).2.2.2.1.1 rfl (by decide), in_zero (index_row (pt (i 0))).2.2.2.1.2 (i 1).isLt⟩

theorem final8 : (dats m 0 c).arrAt 8 cfg0.N = resG D A C S := by
  refine (dats m 0 c).arrAt_eq_of_cover 8 _ (fun t hf => ?_) fun i => ⟨t0_7, (flush0_8 _).mpr rfl, ?_⟩
  · have h7 : t.val = 7 := by have := lt8 t; have := (flush0_8 t).mp hf; omega
    rw [Value.flushed8, val8 m c h]
    funext j
    rw [View.read_apply]
    have e : ((cfg0.win 8).blk t).view.emb j = j := ext2 (at_zero (index_row t).2.2.2.2.1) (at_zero (index_row t).2.2.2.2.2)
    rw [e, h7]
    exact congrArg (fun x : ℝ => (x : EReal)) (sum_nat fun r => mixRow D A C S r (j 1))
  · show i ∈ ((View.whole main_v1_3).slice (win0_8.rect t0_7)).set
    rw [View.set_slice_whole, Rect.mem_set_unit]
    exact Fin.forall_fin_two.mpr ⟨in_zero (index_row t0_7).2.2.2.2.1 (i 0).isLt, in_zero (index_row t0_7).2.2.2.2.2 (i 1).isLt⟩

end

end Cert.MixKernel

end
-- ==== Proof.MixRef.lean ====
/-
  The derivative of the mixers' norm, as the reference computes it, is the same formula of the arguments.
-/
module

public import proofs.«01_k».proof.Proof.MixKernel
public import proofs.«01_k».proof.Proof.Gen.MixBwdRefIdeal.Read

@[expose] public section

set_option maxRecDepth 16384
set_option backward.isDefEq.respectTransparency.types false

noncomputable section

open Idealize.ShloMosaic Idealize.ShloMosaic.TcCoe Idealize.SL.Sem

namespace Cert.MixRef

open Cert.Reals Cert.Norm Cert.MixKernel Cert.MixBwdRefIdeal Cert.MixBwdRefIdeal.Gen Cert.MixBwdRefIdeal.Read

variable (D : Mat 2048 2048) (A : Mat 2048 1024) (C S : Mat 2048 512) (g : (⟨1, ![2048]⟩ : Shape).Idx → ℝ)

/-- Minus half the cube of the reciprocal root. -/
abbrev half {w : ℕ} (X : Mat 2048 w) (r : Fin 2048) : ℝ := -(1 / 2) * (rinv X r * (rinv X r * rinv X r))
/-- The gradient of the normalised rows of one group. -/
abbrev V (o w : ℕ) (h : o + w ≤ 2048) : Mat 2048 w := fun j => cols D o w h j * gcol g o w h (j 1)
/-- The part of the gradient that comes through the mean square. -/
abbrev mean {w : ℕ} (X V : Mat 2048 w) (r : Fin 2048) : ℝ := (∑ l : Fin w, X (mk2 r l) * V (mk2 r l)) * half X r / (w : ℝ)

/-! ## The group `A` -/

theorem v7 : val_main_v7 (F := Ideal) (up (φ := .f32) A) = up (s := S2048x1) (φ := .f32) fun j => ms A (j 0) := r_ms lit_1024 ne1024 A ..
theorem v8 : val_main_v8 (F := Ideal) (up (φ := .f32) A) = up (s := S2048x1) (φ := .f32) fun j => rinv A (j 0) := by
  unfold val_main_v8
  rw [v7]
  exact r_rinv A
theorem v11 : val_main_v11 (F := Ideal) (up (φ := .f32) A) = up (s := S2048x1) (φ := .f32) fun j => half A (j 0) := by
  unfold val_main_v11 val_main_v9
  rw [v8, v7]
  exact r_half A _
theorem v102 : val_main_v102 (F := Ideal) (up (φ := .f32) D) (up (φ := .f32) g) = up (φ := .f32) (V D g 0 1024 (by decide)) := by
  unfold val_main_v102 val_main_v52 val_main_v101 val_main_v14 val_main_v0
  rw [slice_cols, slice_vec]
  exact r_scale _ _ _ _
theorem v113 : val_main_v113 (F := Ideal) (up (φ := .f32) D) (up (φ := .f32) A) (up (φ := .f32) g)
    = up (s := S2048x1024) (φ := .f32) fun j => mean A (V D g 0 1024 (by decide)) (j 0) := by
  unfold val_main_v113 val_main_v112 val_main_v111 val_main_v109 val_main_v106 val_main_v105 val_main_v104
  rw [v102, v11]
  exact r_mean lit_1024 ne1024 A _ ..
theorem v117 : val_main_v117 (F := Ideal) (up (φ := .f32) D) (up (φ := .f32) A) (up (φ := .f32) g) = resA D A g := by
  unfold val_main_v117 val_main_v116 val_main_v115 val_main_v114 val_main_v108 val_main_v107
  rw [v102, v8]
  exact r_dxv A _ _ (v113 D A g)
theorem v103 : val_main_v103 (F := Ideal) (up (φ := .f32) D) (up (φ := .f32) A)
    = up (s := S1024) (φ := .f32) fun j => ∑ r : Fin 2048, dgRow (cols D 0 1024 (by decide)) A r (j 0) := by
  unfold val_main_v103 val_main_v100 val_main_v99 val_main_v98 val_main_v52 val_main_v13 val_main_v12
  rw [v8, r_xhat, slice_cols]
  exact r_dg A _ ..

/-! ## The group `C` -/

theorem v24 : val_main_v24 (F := Ideal) (up (φ := .f32) C) = up (s := S2048x1) (φ := .f32) fun j => ms C (j 0) := r_ms lit_512 ne512 C ..
theorem v25 : val_main_v25 (F := Ideal) (up (φ := .f32) C) = up (s := S2048x1) (φ := .f32) fun j => rinv C (j 0) := by
  unfold val_main_v25
  rw [v24]
  exact r_rinv C
theorem v28 : val_main_v28 (F := Ideal) (up (φ := .f32) C) = up (s := S2048x1) (φ := .f32) fun j => half C (j 0) := by
  unfold val_main_v28 val_main_v26
  rw [v25, v24]
  exact r_half C _
theorem v80 : val_main_v80 (F := Ideal) (up (φ := .f32) D) (up (φ := .f32) g) = up (φ := .f32) (V D g 1024 512 (by decide)) := by
  unfold val_main_v80 val_main_v53 val_main_v79 val_main_v31 val_main_v17
  rw [slice_cols, slice_vec]
  exact r_scale _ _ _ _
theorem v91 : val_main_v91 (F := Ideal) (up (φ := .f32) D) (up (φ := .f32) C) (up (φ := .f32) g)
    = up (s := S2048x512) (φ := .f32) fun j => mean C (V D g 1024 512 (by decide)) (j 0) := by
  unfold val_main_v91 val_main_v90 val_main_v89 val_main_v87 val_main_v84 val_main_v83 val_main_v82
  rw [v80, v28]
  exact r_mean lit_512 ne512 C _ ..
theorem v95 : val_main_v95 (F := Ideal) (up (φ := .f32) D) (up (φ := .f32) C) (up (φ := .f32) g) = resC D C g := by
  unfold val_main_v95 val_main_v94 val_main_v93 val_main_v92 val_main_v86 val_main_v85
  rw [v80, v25]
  exact r_dxv C _ _ (v91 D C g)
theorem v81 : val_main_v81 (F := Ideal) (up (φ := .f32) D) (up (φ := .f32) C)
    = up (s := S512) (φ := .f32) fun j => ∑ r : Fin 2048, dgRow (cols D 1024 512 (by decide)) C r (j 0) := by
  unfold val_main_v81 val_main_v78 val_main_v77 val_main_v76 val_main_v53 val_main_v30 val_main_v29
  rw [v25, r_xhat, slice_cols]
  exact r_dg C _ ..

/-! ## The group `S` -/

theorem v41 : val_main_v41 (F := Ideal) (up (φ := .f32) S) = up (s := S2048x1) (φ := .f32) fun j => ms S (j 0) := r_ms lit_512 ne512 S ..
theorem v42 : val_main_v42 (F := Ideal) (up (φ := .f32) S) = up (s := S2048x1) (φ := .f32) fun j => rinv S (j 0) := by
  unfold val_main_v42
  rw [v41]
  exact r_rinv S
theorem v45 : val_main_v45 (F := Ideal) (up (φ := .f32) S) = up (s := S2048x1) (φ := .f32) fun j => half S (j 0) := by
  unfold val_main_v45 val_main_v43
  rw [v42, v41]
  exact r_half S _
theorem v59 : val_main_v59 (F := Ideal) (up (φ := .f32) D) (up (φ := .f32) g) = up (φ := .f32) (V D g 1536 512 (by decide)) := by
  unfold val_main_v59 val_main_v54 val_main_v58 val_main_v48 val_main_v34
  rw [slice_cols, slice_vec]
  exact r_scale _ _ _ _
theorem v70 : val_main_v70 (F := Ideal) (up (φ := .f32) D) (up (φ := .f32) S) (up (φ := .f32) g)
    = up (s := S2048x512) (φ := .f32) fun j => mean S (V D g 1536 512 (by decide)) (j 0) := by
  unfold val_main_v70 val_main_v69 val_main_v68 val_main_v66 val_main_v63 val_main_v62 val_main_v61
  rw [v59, v45]
  exact r_mean lit_512 ne512 S _ ..
theorem v74 : val_main_v74 (F := Ideal) (up (φ := .f32) D) (up (φ := .f32) S) (up (φ := .f32) g) = resS D S g := by
  unfold val_main_v74 val_main_v73 val_main_v72 val_main_v71 val_main_v65 val_main_v64
  rw [v59, v42]
  exact r_dxv S _ _ (v70 D S g)
theorem v60 : val_main_v60 (F := Ideal) (up (φ := .f32) D) (up (φ := .f32) S)
    = up (s := S512) (φ := .f32) fun j => ∑ r : Fin 2048, dgRow (cols D 1536 512 (by decide)) S r (j 0) := by
  unfold val_main_v60 val_main_v57 val_main_v56 val_main_v55 val_main_v54 val_main_v47 val_main_v46
  rw [v42, r_xhat, slice_cols]
  exact r_dg S _ ..

/-! ## The gains' gradient -/

theorem v120 : val_main_v120 (F := Ideal) (up (φ := .f32) D) (up (φ := .f32) A) (up (φ := .f32) C) (up (φ := .f32) S) = resG D A C S := by
  unfold val_main_v120 val_main_v119 val_main_v118 val_main_v97 val_main_v96 val_main_v75
  rw [v103, v81, v60]
  refine (congrArg (fun y => shapeCast S1x2048 y _) ((congrArg₂ addf (congrArg₂ addf (pad_vec _ _ _) (pad_vec _ _ _)) (pad_vec _ _ _)).trans
    ((congrArg (addf · _) (addf_up _ _)).trans (addf_up _ _)))).trans ((cast_row_up _ _).trans ?_)
  refine congrArg up (funext fun j => ?_)
  show moved _ 1536 (j 1).val + moved _ 1024 (j 1).val + moved _ 0 (j 1).val = ∑ r : Fin 2048, mixRow D A C S r (j 1)
  have hj : (j 1).val < 2048 := (j 1).isLt
  by_cases h1 : (j 1).val < 1024
  · rw [moved_out _ 1536 _ (by omega), moved_out _ 1024 _ (by omega), moved_in _ 0 _ ⟨(j 1).val, h1⟩ (Nat.zero_add _).symm, zero_add, zero_add]
    exact Finset.sum_congr rfl fun r _ => (mixRow_a D A C S r _ _ (Nat.zero_add _).symm).symm
  · by_cases h2 : (j 1).val < 1536
    · rw [moved_out _ 1536 _ (by omega), moved_in _ 1024 _ ⟨(j 1).val - 1024, by omega⟩ (by dsimp only; omega), moved_out _ 0 _ (by omega), zero_add, add_zero]
      exact Finset.sum_congr rfl fun r _ => (mixRow_c D A C S r _ _ (Nat.add_sub_cancel' (Nat.le_of_not_lt h1)).symm).symm
    · rw [moved_in _ 1536 _ ⟨(j 1).val - 1536, by omega⟩ (by dsimp only; omega), moved_out _ 1024 _ (by omega), moved_out _ 0 _ (by omega), add_zero, add_zero]
      exact Finset.sum_congr rfl fun r _ => (mixRow_s D A C S r _ _ (Nat.add_sub_cancel' (Nat.le_of_not_lt h2)).symm).symm

end Cert.MixRef

end
-- ==== Proof.MixClaim.lean ====
/-
  The value claim about the gradient of the mixers' norm: that kernel and reference compute the same.
-/
module

public import proofs.«01_k».proof.Defs
public import proofs.«01_k».proof.Proof.MixRef
public import proofs.«01_k».proof.Proof.Gen.Pre_mixnorm_bwd_finite

@[expose] public section

set_option maxRecDepth 16384

noncomputable section

namespace Cert.MixClaim

open Idealize.ShloMosaic Idealize.ShloMosaic.TcCoe Idealize.SL.Sem Cert.Reals Cert.Norm

/-- The precondition says that the arguments are finite. -/
theorem finite {m : (ℓ : Loc Cert.MixBwdIdeal.nD Cert.MixBwdIdeal.τ Cert.MixBwdIdeal.sig) → Buf (Elt Ideal) ℓ}
    (h : Cert.Pre_MixBwdIdeal_mixnorm_bwd_finite m) (c : Dev Cert.MixBwdIdeal.nD) :
    ∃ (D : Mat 2048 2048) (A : Mat 2048 1024) (C S : Mat 2048 512) (g : (⟨1, ![2048]⟩ : Shape).Idx → ℝ), MixKernel.Args m c D A C S g := by
  have h1 := h c
  unfold Cert.Pre_mixnorm_bwd_finite.fn at h1
  obtain ⟨h2, hg⟩ := and_ones h1
  obtain ⟨h3, hS⟩ := and_ones h2
  obtain ⟨h4, hC⟩ := and_ones h3
  obtain ⟨hD, hA⟩ := and_ones h4
  obtain ⟨D, hD⟩ := finite_of_all _ _ _ _ _ _ _ (congrFun hD fun a => a.elim0)
  obtain ⟨A, hA⟩ := finite_of_all _ _ _ _ _ _ _ (congrFun hA fun a => a.elim0)
  obtain ⟨C, hC⟩ := finite_of_all _ _ _ _ _ _ _ (congrFun hC fun a => a.elim0)
  obtain ⟨S, hS⟩ := finite_of_all _ _ _ _ _ _ _ (congrFun hS fun a => a.elim0)
  obtain ⟨g, hg⟩ := finite_of_all _ _ _ _ _ _ _ (congrFun hg fun a => a.elim0)
  exact ⟨D, A, C, S, g, hD, hA, hC, hS, hg⟩

/-- Kernel and reference compute the same four arrays. -/
theorem value : Cert.algebraic_MixBwdIdeal_MixBwdRefIdeal_pre_mixnorm_bwd_finite := by
  intro m ρ m' ρ' hpre hagree
  refine ⟨fun c => (Cert.MixBwdIdeal.Gen.dats m 0 c).arrAt 5 Cert.MixBwdIdeal.cfg0.N,
    fun c => (Cert.MixBwdIdeal.Gen.dats m 0 c).arrAt 6 Cert.MixBwdIdeal.cfg0.N,
    fun c => (Cert.MixBwdIdeal.Gen.dats m 0 c).arrAt 7 Cert.MixBwdIdeal.cfg0.N,
    fun c => (Cert.MixBwdIdeal.Gen.dats m 0 c).arrAt 8 Cert.MixBwdIdeal.cfg0.N,
    (θ_run Cert.MixBwdIdeal.defs _ _).mono (fun r h c => ?_) (Cert.MixBwdIdeal.Value.run_blocks m ρ),
    (θ_run Cert.MixBwdRefIdeal.defs _ _).mono (fun r h c => ?_) (Cert.MixBwdRefIdeal.Value.run m' ρ')⟩
  · obtain ⟨h0, h1, h2, h3, -, hk⟩ := h c
    exact ⟨h0, h1, h2, h3, hk⟩
  · obtain ⟨h0, h1, h2, h3, hk⟩ := h c
    obtain ⟨D, A, C, S, g, ha⟩ := finite hpre c
    obtain ⟨e0, e1, e2, e3, e4⟩ := hagree c
    refine ⟨h0.trans ?_, h1.trans ?_, h2.trans ?_, h3.trans ?_, hk⟩
    · refine (Cert.MixBwdRefIdeal.Read.val_main_v117_eq _ _).trans ?_
      rw [e0, e1, e4, ha.hD, ha.hA, ha.hg]
      exact (MixRef.v117 D A g).trans (MixKernel.final5 m c ha).symm
    · refine (Cert.MixBwdRefIdeal.Read.val_main_v95_eq _ _).trans ?_
      rw [e0, e2, e4, ha.hD, ha.hC, ha.hg]
      exact (MixRef.v95 D C g).trans (MixKernel.final6 m c ha).symm
    · refine (Cert.MixBwdRefIdeal.Read.val_main_v74_eq _ _).trans ?_
      rw [e0, e3, e4, ha.hD, ha.hS, ha.hg]
      exact (MixRef.v74 D S g).trans (MixKernel.final7 m c ha).symm
    · refine (Cert.MixBwdRefIdeal.Read.val_main_v120_eq _ _ _ _).trans ?_
      rw [e0, e1, e2, e3, ha.hD, ha.hA, ha.hC, ha.hS]
      exact (MixRef.v120 D A C S).trans (MixKernel.final8 m c ha).symm

end Cert.MixClaim

end
-- ==== Proof.MixFClaim.lean ====
/-
  The value claim about the three groups' norms of the forward pass: that kernel and reference compute the same.
-/
module

public import proofs.«01_k».proof.Defs
public import proofs.«01_k».proof.Proof.Rowwise
public import proofs.«01_k».proof.Proof.Gen.MixFwdIdeal.Value
public import proofs.«01_k».proof.Proof.Gen.MixFwdRefIdeal.Read
public import Idealize.ShloMosaic.Lib.Tactic
public import Idealize.ShloMosaic.Lib.Pipeline.ReadBack

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.MixFKernel

open Cert.Reals Cert.Prods Cert.Rowwise Cert.MixFwdIdeal Cert.MixFwdIdeal.Gen

/-- The gains of a group whose columns start at `o`. -/
def gain (g : Fin 2048 → EReal) (o w : ℕ) (h : o + w ≤ 2048) (k : Fin w) : EReal := g ⟨o + k.val, by have := k.isLt; omega⟩

/-- The three groups' norms side by side. -/
def mixed {n : ℕ} (A : Mat n 1024) (C S : Mat n 512) (g : Fin 2048 → EReal) : Mat n 2048 := fun j =>
  if h : (j 1).val < 1024 then rms 0x44800000#32 A (gain g 0 1024 (by decide)) (mk2 (j 0) ⟨(j 1).val, h⟩)
  else if h' : (j 1).val < 1536 then rms 0x44000000#32 C (gain g 1024 512 (by decide)) (mk2 (j 0) ⟨(j 1).val - 1024, by omega⟩)
  else rms 0x44000000#32 S (gain g 1536 512 (by decide)) (mk2 (j 0) ⟨(j 1).val - 1536, by have : (j 1).val < 2048 := (j 1).isLt; omega⟩)

variable {n : ℕ} (A : Mat n 1024) (C S : Mat n 512) (g : Fin 2048 → EReal) (j : (⟨2, ![n, 2048]⟩ : Shape).Idx)

theorem mixed_a (p : Fin n) (l : Fin 1024) (h0 : j 0 = p) (h : (j 1).val = 0 + l.val) : mixed A C S g j = rms 0x44800000#32 A (gain g 0 1024 (by decide)) (mk2 p l) := by
  have := l.isLt
  unfold mixed
  rw [dif_pos (by omega), h0]
  exact congrArg _ (ext2 rfl (by show (j 1).val = l.val; omega))
theorem mixed_c (p : Fin n) (l : Fin 512) (h0 : j 0 = p) (h : (j 1).val = 1024 + l.val) : mixed A C S g j = rms 0x44000000#32 C (gain g 1024 512 (by decide)) (mk2 p l) := by
  have := l.isLt
  unfold mixed
  rw [dif_neg (by omega), dif_pos (by omega), h0]
  exact congrArg _ (ext2 rfl (by show (j 1).val - 1024 = l.val; omega))
theorem mixed_s (p : Fin n) (l : Fin 512) (h0 : j 0 = p) (h : (j 1).val = 1536 + l.val) : mixed A C S g j = rms 0x44000000#32 S (gain g 1536 512 (by decide)) (mk2 p l) := by
  have := l.isLt
  unfold mixed
  rw [dif_neg (by omega), dif_neg (by omega), h0]
  exact congrArg _ (ext2 rfl (by show (j 1).val - 1536 = l.val; omega))

/-! ## One block -/

abbrev rA : Rect S256x2048 := Rect.unit ![0, 0] ![256, 1024] inb_S256x2048_S256x1024_0_0
abbrev rC : Rect S256x2048 := Rect.unit ![0, 1024] ![256, 512] inb_S256x2048_S256x512_0_1024
abbrev rS : Rect S256x2048 := Rect.unit ![0, 1536] ![256, 512] inb_S256x2048_S256x512_0_1536
abbrev qA : Rect S1x2048 := Rect.unit ![0, 0] ![1, 1024] inb_S1x2048_S1x1024_0_0
abbrev qC : Rect S1x2048 := Rect.unit ![0, 1024] ![1, 512] inb_S1x2048_S1x512_0_1024
abbrev qS : Rect S1x2048 := Rect.unit ![0, 1536] ![1, 512] inb_S1x2048_S1x512_0_1536

theorem payA (x : FVec Ideal S256x1024 .f32) (v : FVec Ideal S1x1024 .f32) :
    k0_pay3 (F := Ideal) x v = (rms 0x44800000#32 x fun k => v (mk2 0 k) : FVec Ideal S256x1024 .bf16) := by
  unfold k0_pay3
  simp only [shapeCast_self]
  exact k_rms 0x44800000#32 x v _ _ _ _ _ _ _
theorem payC (x : FVec Ideal S256x512 .f32) (v : FVec Ideal S1x512 .f32) :
    k0_pay4 (F := Ideal) x v = (rms 0x44000000#32 x fun k => v (mk2 0 k) : FVec Ideal S256x512 .bf16) := by
  unfold k0_pay4
  simp only [shapeCast_self]
  exact k_rms 0x44000000#32 x v _ _ _ _ _ _ _
theorem payS (x : FVec Ideal S256x512 .f32) (v : FVec Ideal S1x512 .f32) :
    k0_pay1 (F := Ideal) x (k0_pay5 x) v = (rms 0x44000000#32 x fun k => v (mk2 0 k) : FVec Ideal S256x512 .bf16) := by
  unfold k0_pay1 k0_pay5
  simp only [shapeCast_self]
  exact k_rms 0x44000000#32 x v _ _ _ _ _ _ _

/-- What one point stores. -/
abbrev parts (a : FVec Ideal S256x1024 .f32) (b s : FVec Ideal S256x512 .f32) (z : FVec Ideal S1x2048 .f32) : List (View.Piece (Elt Ideal) S256x2048 .bf16) :=
  [⟨rS, k0_pay1 (F := Ideal) s (k0_pay5 s) (View.ld (Val := Elt Ideal) (e' := .f32) z qS)⟩,
   ⟨rC, k0_pay4 (F := Ideal) b (View.ld (Val := Elt Ideal) (e' := .f32) z qC)⟩,
   ⟨rA, k0_pay3 (F := Ideal) a (View.ld (Val := Elt Ideal) (e' := .f32) z qA)⟩]

theorem ld_gain {o w : ℕ} (h : o + w ≤ 2048) (inb : ∀ a : Fin 2, (![0, o] : Fin 2 → ℕ) a + (![1, w] : Fin 2 → ℕ) a ≤ (![1, 2048] : Fin 2 → ℕ) a) (z : Fin 2048 → EReal) :
    (fun k : Fin w => View.ld (Val := Elt Ideal) (e' := .f32) (S := S1x2048) (fun j => z (j 1)) (Rect.unit ![0, o] ![1, w] inb) (mk2 0 k)) = gain z o w h :=
  funext fun k => congrArg z (Fin.ext (show o + 1 * k.val = o + k.val by omega))

theorem canon_parts (a : FVec Ideal S256x1024 .f32) (b s : FVec Ideal S256x512 .f32) (z : Fin 2048 → EReal) :
    View.canon (parts a b s fun j => z (j 1)) = (mixed a b s z : FVec Ideal S256x2048 .bf16) := by
  funext y
  refine (congrArg (fun l => View.canon l y) (List.append_nil _).symm).trans ?_
  refine View.canon_append_of_piecesOf (Val := Elt Ideal) (e := .bf16) (mixed a b s z : FVec Ideal S256x2048 .bf16) [] (parts a b s fun j => z (j 1)) ⟨fun x => ?_, fun x => ?_, fun x => ?_, trivial⟩ y ?_
  · dsimp only
    rw [payS, ld_gain (by decide)]
    refine (congrArg _ (eq_mk2 x)).trans (mixed_s a b s z _ _ _ (Fin.ext ?_) ?_).symm
    · show 0 + 1 * (x 0).val = (x 0).val; omega
    · show 1536 + 1 * (x 1).val = 1536 + (x 1).val; omega
  · dsimp only
    rw [payC, ld_gain (by decide)]
    refine (congrArg _ (eq_mk2 x)).trans (mixed_c a b s z _ _ _ (Fin.ext ?_) ?_).symm
    · show 0 + 1 * (x 0).val = (x 0).val; omega
    · show 1024 + 1 * (x 1).val = 1024 + (x 1).val; omega
  · dsimp only
    rw [payA, ld_gain (by decide)]
    refine (congrArg _ (eq_mk2 x)).trans (mixed_a a b s z _ _ _ (Fin.ext ?_) ?_).symm
    · show 0 + 1 * (x 0).val = (x 0).val; omega
    · show 0 + 1 * (x 1).val = 0 + (x 1).val; omega
  · have h0 : (y 0).val < 256 := (y 0).isLt
    have h1 : (y 1).val < 2048 := (y 1).isLt
    by_cases hA : (y 1).val < 1024
    · refine ⟨_, List.mem_cons_of_mem _ (List.mem_cons_of_mem _ List.mem_cons_self), (Rect.mem_set_unit (inb := inb_S256x2048_S256x1024_0_0)).mpr fun a => ?_⟩
      match a with
      | ⟨0, _⟩ => show 0 ≤ (y 0).val ∧ (y 0).val < 0 + 256; omega
      | ⟨1, _⟩ => show 0 ≤ (y 1).val ∧ (y 1).val < 0 + 1024; omega
    · by_cases hC : (y 1).val < 1536
      · refine ⟨_, List.mem_cons_of_mem _ List.mem_cons_self, (Rect.mem_set_unit (inb := inb_S256x2048_S256x512_0_1024)).mpr fun a => ?_⟩
        match a with
        | ⟨0, _⟩ => show 0 ≤ (y 0).val ∧ (y 0).val < 0 + 256; omega
        | ⟨1, _⟩ => show 1024 ≤ (y 1).val ∧ (y 1).val < 1024 + 512; omega
      · refine ⟨_, List.mem_cons_self, (Rect.mem_set_unit (inb := inb_S256x2048_S256x512_0_1536)).mpr fun a => ?_⟩
        match a with
        | ⟨0, _⟩ => show 0 ≤ (y 0).val ∧ (y 0).val < 0 + 256; omega
        | ⟨1, _⟩ => show 1536 ≤ (y 1).val ∧ (y 1).val < 1536 + 512; omega

variable (m : (ℓ : Loc nD τ sig) → Buf (Elt Ideal) ℓ) (c : Dev nD)

set_option maxHeartbeats 1600000 in
theorem point4 (t : Fin cfg0.N) : (outsAt0 m c t).1 = View.canon (parts (iblk m c 0 t) (iblk m c 1 t) (iblk m c 2 t) (iblk m c 3 t)) := by
  unfold outsAt0
  dsimp only
  unfold out0_A_4
  rw [View.read_writes_eq_canon]; on_goal 2 => exact fun y => cover0_A_4 ..
  unfold kernelRun0_A
  dsimp only
  simp only [kernelRun0_A.sl.r, kernelRun0_A.sl.r_1, View.readAt_eq_ld, (hs0_0 t).read_unread, (hs0_1 t).read_unread, (hs0_2 t).read_unread, (hs0_3 t).read_unread,
    View.ld_unit_zero (S := S256x1024) hz2, View.ld_unit_zero (S := S256x512) hz2]

/-! ## The blocks as parts of the arguments -/

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0) :=
  (by decide +kernel : ∀ t : Fin grid0.N, _)

theorem lt8 (t : Fin cfg0.N) : t.val < 8 := lt_of_lt_of_eq t.isLt (show cfg0.N = 8 from N_0)
/-- Row `p` of point `t`'s block. -/
def row (t : Fin cfg0.N) (p : Fin 256) : Fin 2048 := ⟨256 * t.val + p.val, by have := lt8 t; have := p.isLt; omega⟩

theorem V0 : V m c main_v0 = shapeCast S1x2048 (m (c.tc.loc main_arg3)) shapeCasts_S2048_S1x2048 := by
  show StableHlo.after hostOps0 (fun b => m (c, b)) main_v0 = _
  after_results_simp
  rfl
theorem iblk0 (t : Fin cfg0.N) : (iblk m c 0 t : FVec Ideal S256x1024 .f32) = fun j => m (c.tc.loc main_arg0) (mk2 (row t (j 0)) (j 1)) := by
  funext j
  unfold iblk
  rw [View.read_apply]
  show V m c main_arg0 _ = _
  rw [V_main_arg0]
  exact congrArg (m (c.tc.loc main_arg0)) (ext2 (at_blk (index t).1.1) (at_zero (index t).1.2))
theorem iblk1 (t : Fin cfg0.N) : (iblk m c 1 t : FVec Ideal S256x512 .f32) = fun j => m (c.tc.loc main_arg1) (mk2 (row t (j 0)) (j 1)) := by
  funext j
  unfold iblk
  rw [View.read_apply]
  show V m c main_arg1 _ = _
  rw [V_main_arg1]
  exact congrArg (m (c.tc.loc main_arg1)) (ext2 (at_blk (index t).2.1.1) (at_zero (index t).2.1.2))
theorem iblk2 (t : Fin cfg0.N) : (iblk m c 2 t : FVec Ideal S256x512 .f32) = fun j => m (c.tc.loc main_arg2) (mk2 (row t (j 0)) (j 1)) := by
  funext j
  unfold iblk
  rw [View.read_apply]
  show V m c main_arg2 _ = _
  rw [V_main_arg2]
  exact congrArg (m (c.tc.loc main_arg2)) (ext2 (at_blk (index t).2.2.1.1) (at_zero (index t).2.2.1.2))
theorem iblk3 (t : Fin cfg0.N) : (iblk m c 3 t : FVec Ideal S1x2048 .f32) = fun j => m (c.tc.loc main_arg3) (mk1 (j 1)) := by
  funext j
  unfold iblk
  rw [View.read_apply]
  show V m c main_v0 _ = _
  rw [V0]
  refine (congrArg (shapeCast S1x2048 (m (c.tc.loc main_arg3)) shapeCasts_S2048_S1x2048) (ext2 (at_zero (index t).2.2.2.1.1) (at_zero (index t).2.2.2.1.2))).trans ?_
  exact ValueIdx.shapeCast_a_1a_apply _ _ (j 0) (j 1)

def normed : FVec Ideal S2048x2048 .bf16 :=
  mixed (m (c.tc.loc main_arg0) : FVec Ideal S2048x1024 .f32) (m (c.tc.loc main_arg1) : FVec Ideal S2048x512 .f32) (m (c.tc.loc main_arg2) : FVec Ideal S2048x512 .f32)
    fun k => m (c.tc.loc main_arg3) (mk1 k)

theorem final4 : (dats m 0 c).arrAt 4 cfg0.N = normed m c := by
  refine (dats m 0 c).arrAt_eq_of_cover 4 _ (fun t _ => ?_) fun i => ?_
  · rw [Value.flushed4, point4, iblk0, iblk1, iblk2, iblk3, canon_parts _ _ _ fun k => m (c.tc.loc main_arg3) (mk1 k)]
    funext j
    rw [View.read_apply]
    have e : ((cfg0.win 4).blk t).view.emb j = mk2 (row t (j 0)) (j 1) := ext2 (at_blk (index t).2.2.2.2.1) (at_zero (index t).2.2.2.2.2)
    rw [e]
    rfl
  · have h0 : (i 0).val < 2048 := (i 0).isLt
    let t : Fin cfg0.N := ⟨(i 0).val / 256, by rw [show cfg0.N = 8 from N_0]; omega⟩
    refine ⟨t, flush0_4 _, ?_⟩
    show i ∈ ((View.whole main_v1_0).slice (win0_4.rect t)).set
    rw [View.set_slice_whole, Rect.mem_set_unit]
    exact Fin.forall_fin_two.mpr ⟨in_blk (index t).2.2.2.2.1 rfl (by decide), in_blk (index t).2.2.2.2.2 (Nat.div_eq_of_lt (i 1).isLt).symm (by decide)⟩

end Cert.MixFKernel

namespace Cert.MixFClaim

open Cert.Reals Cert.Rowwise MixFKernel Cert.MixFwdRefIdeal Cert.MixFwdRefIdeal.Gen

theorem cut {w o : ℕ} (h : o + w ≤ 2048) (x : FVec Ideal S2048 .f32) (hs : S2048.Slices ![o] ⟨1, ![w]⟩) :
    (fun k : Fin w => extractStridedSlice (s := S2048) ⟨1, ![w]⟩ ![o] x hs (mk1 k)) = gain (fun k => x (mk1 k)) o w h :=
  funext fun k => congrArg x (funext fun a => Fin.ext (by match a with | ⟨0, _⟩ => rfl))

theorem v42 (x0 : FVec Ideal S2048x1024 .f32) (x1 x2 : FVec Ideal S2048x512 .f32) (x3 : FVec Ideal S2048 .f32) :
    Read.val_main_v42 (F := Ideal) x0 x1 x2 x3 = mixed x0 x1 x2 fun k => x3 (mk1 k) := by
  have e13 : Read.val_main_v13 (F := Ideal) x0 x3 = rms 0x44800000#32 x0 (gain (fun k => x3 (mk1 k)) 0 1024 (by decide)) :=
    Eq.trans (h_rms 0x44800000#32 x0 (extractStridedSlice (s := S2048) (α := EReal) S1024 ![0] x3 slices_S2048_S1024_0) reducesTo_S2048x1024_S2048_d1 h_S_ bcast_S2048_S2048x1_0 bcast_S_S2048x1 bcast_S_S2048x1
      bcast_S2048x1_S2048x1024_0_1 bcast_S1024_S1x1024_1 bcast_S1x1024_S2048x1024_0_1) (congrArg (rms _ x0) (cut (by decide) x3 slices_S2048_S1024_0))
  have e27 : Read.val_main_v27 (F := Ideal) x1 x3 = rms 0x44000000#32 x1 (gain (fun k => x3 (mk1 k)) 1024 512 (by decide)) :=
    Eq.trans (h_rms 0x44000000#32 x1 (extractStridedSlice (s := S2048) (α := EReal) S512 ![1024] x3 slices_S2048_S512_1024) reducesTo_S2048x512_S2048_d1 h_S_ bcast_S2048_S2048x1_0 bcast_S_S2048x1 bcast_S_S2048x1
      bcast_S2048x1_S2048x512_0_1 bcast_S512_S1x512_1 bcast_S1x512_S2048x512_0_1) (congrArg (rms _ x1) (cut (by decide) x3 slices_S2048_S512_1024))
  have e41 : Read.val_main_v41 (F := Ideal) x2 x3 = rms 0x44000000#32 x2 (gain (fun k => x3 (mk1 k)) 1536 512 (by decide)) :=
    Eq.trans (h_rms 0x44000000#32 x2 (extractStridedSlice (s := S2048) (α := EReal) S512 ![1536] x3 slices_S2048_S512_1536) reducesTo_S2048x512_S2048_d1 h_S_ bcast_S2048_S2048x1_0 bcast_S_S2048x1 bcast_S_S2048x1
      bcast_S2048x1_S2048x512_0_1 bcast_S512_S1x512_1 bcast_S1x512_S2048x512_0_1) (congrArg (rms _ x2) (cut (by decide) x3 slices_S2048_S512_1536))
  unfold Read.val_main_v42
  rw [e13, e27, e41]
  funext j
  have h1 : (j 1).val < 2048 := (j 1).isLt
  have piece := concatenate_apply_piece (t := S2048x2048) 1 ([⟨S2048x1024, (rms 0x44800000#32 x0 (gain (fun k => x3 (mk1 k)) 0 1024 (by decide)) : S2048x1024.Idx → EReal)⟩,
    ⟨S2048x512, rms 0x44000000#32 x1 (gain (fun k => x3 (mk1 k)) 1024 512 (by decide))⟩,
    ⟨S2048x512, rms 0x44000000#32 x2 (gain (fun k => x3 (mk1 k)) 1536 512 (by decide))⟩] : List ((s : Shape) × (s.Idx → EReal))) concatenates_S2048x1024_S2048x512_S2048x512_S2048x2048_d1 j
  have off {w : ℕ} (l : Fin w) : ∀ b : Fin 2, (b.cast rfl : Fin 2) ≠ 1 → ((mk2 (j 0) l : (⟨2, ![2048, w]⟩ : Shape).Idx) b).val = (j (b.cast rfl)).val := fun b hb => by
    match b with
    | ⟨0, _⟩ => rfl
    | ⟨1, _⟩ => exact absurd rfl hb
  by_cases c0 : (j 1).val < 1024
  · exact (piece 0 (by show 0 < 3; omega) _ _ rfl rfl 0 rfl (mk2 (j 0) ⟨(j 1).val, c0⟩) (off _) (by show 0 + (j 1).val = (j 1).val; omega)).trans
      (mixed_a x0 x1 x2 _ j (j 0) ⟨(j 1).val, c0⟩ rfl (by show (j 1).val = 0 + (j 1).val; omega)).symm
  by_cases c1 : (j 1).val < 1536
  · exact (piece 1 (by show 1 < 3; omega) _ _ rfl rfl 1024 rfl (mk2 (j 0) ⟨(j 1).val - 1024, by omega⟩) (off _) (by show 1024 + ((j 1).val - 1024) = (j 1).val; omega)).trans
      (mixed_c x0 x1 x2 _ j (j 0) ⟨(j 1).val - 1024, by omega⟩ rfl (by show (j 1).val = 1024 + ((j 1).val - 1024); omega)).symm
  · exact (piece 2 (by show 2 < 3; omega) _ _ rfl rfl 1536 rfl (mk2 (j 0) ⟨(j 1).val - 1536, by omega⟩) (off _) (by show 1536 + ((j 1).val - 1536) = (j 1).val; omega)).trans
      (mixed_s x0 x1 x2 _ j (j 0) ⟨(j 1).val - 1536, by omega⟩ rfl (by show (j 1).val = 1536 + ((j 1).val - 1536); omega)).symm

/-- Kernel and reference compute the same norms, of any arguments. -/
theorem value : Cert.algebraic_MixFwdIdeal_MixFwdRefIdeal := by
  intro m ρ m' ρ' hpre hagree
  refine ⟨fun c => MixFKernel.normed m c,
    (θ_run Cert.MixFwdIdeal.defs _ _).mono (fun r h c => ?_) (Cert.MixFwdIdeal.Value.run_blocks m ρ),
    (θ_run Cert.MixFwdRefIdeal.defs _ _).mono (fun r h c => ?_) (Cert.MixFwdRefIdeal.Value.run m' ρ')⟩
  · obtain ⟨h0, -, hk⟩ := h c
    exact ⟨h0.trans (MixFKernel.final4 m c), hk⟩
  · obtain ⟨h0, hk⟩ := h c
    obtain ⟨e0, e1, e2, e3⟩ := hagree c
    refine ⟨h0.trans ((Cert.MixFwdRefIdeal.Read.val_main_v43_eq _ _ _ _).trans ?_), hk⟩
    rw [e0, e1, e2, e3]
    exact v42 _ _ _ _

end Cert.MixFClaim

end
-- ==== Proof.OutFClaim.lean ====
/-
  The value claim about the forward pass's second half of a mixing layer: the product with its weight, added to the
  stream, and that sum's norm.
-/
module

public import proofs.«01_k».proof.Defs
public import proofs.«01_k».proof.Proof.Rowwise
public import proofs.«01_k».proof.Proof.Gen.OutFwdIdeal.Value
public import proofs.«01_k».proof.Proof.Gen.OutFwdRefIdeal.Read

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.OutFKernel

open Cert.Reals Cert.Prods Cert.Rowwise Cert.OutFwdIdeal Cert.OutFwdIdeal.Gen

/-- The stream after the layer. -/
def sum {n : ℕ} (x : Mat n 2048) (a : Mat n 2048) (w : Mat 2048 2048) : Mat n 2048 := fun j => x j + ∑ k : Fin 2048, a (mk2 (j 0) k) * w (mk2 k (j 1))

theorem pay1 (x0 : FVec Ideal S512x2048 .bf16) (w : Mat 2048 2048) (x2 : FVec Ideal S512x2048 .f32) :
    k0_pay1 (F := Ideal) (shapeCast S4x512x2048 w shapeCasts_S2048x2048_S4x512x2048) x0 x2 = sum x2 x0 w := by
  unfold k0_pay1
  simp only [shapeCast_self]
  rw [shapeCast_shapeCast]
  funext j
  exact congrArg (x2 j + ·) (congrFun (k_dot (φ₁ := .bf16) (φ₂ := .bf16) x0 w) j)
theorem out4 (x0 : FVec Ideal S512x2048 .bf16) (w : Mat 2048 2048) (x2 : FVec Ideal S512x2048 .f32) (x3 : FVec Ideal S1x2048 .f32) :
    out0_4 (F := Ideal) x0 (shapeCast S4x512x2048 w shapeCasts_S2048x2048_S4x512x2048) x2 x3 = sum x2 x0 w := by
  unfold out0_4
  rw [View.canon_unit_zero hz2, View.ld_unit_zero (S := S4x512x2048) hz3]
  simp only [View.ld_unit_zero (S := S512x2048) hz2]
  exact pay1 x0 w x2
theorem out5 (x0 : FVec Ideal S512x2048 .bf16) (w : Mat 2048 2048) (x2 : FVec Ideal S512x2048 .f32) (x3 : FVec Ideal S1x2048 .f32) :
    out0_5 (F := Ideal) x0 (shapeCast S4x512x2048 w shapeCasts_S2048x2048_S4x512x2048) x2 x3
      = (rms 0x45000000#32 (sum x2 x0 w) fun k => x3 (mk2 0 k) : FVec Ideal S512x2048 .bf16) := by
  unfold out0_5
  rw [View.canon_unit_zero hz2, View.ld_unit_zero (S := S4x512x2048) hz3, View.ld_unit_zero (S := S1x2048) hz2]
  simp only [View.ld_unit_zero (S := S512x2048) hz2]
  unfold k0_pay2
  rw [pay1]
  simp only [shapeCast_self]
  exact k_rms 0x45000000#32 (sum x2 x0 w) x3 _ _ _ _ _ _ _

variable (m : (ℓ : Loc nD τ sig) → Buf (Elt Ideal) ℓ) (c : Dev nD)

theorem index : ∀ t : Fin cfg0.N, (win0_0.index t 0 = t.val ∧ win0_0.index t 1 = 0)
    ∧ (win0_1.index t 0 = 0 ∧ win0_1.index t 1 = 0 ∧ win0_1.index t 2 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0) :=
  (by decide +kernel : ∀ t : Fin grid0.N, _)

theorem lt4 (t : Fin cfg0.N) : t.val < 4 := lt_of_lt_of_eq t.isLt (show cfg0.N = 4 from N_0)
/-- Row `p` of point `t`'s block. -/
def row (t : Fin cfg0.N) (p : Fin 512) : Fin 2048 := ⟨512 * t.val + p.val, by have := lt4 t; have := p.isLt; omega⟩

theorem V0 : V m c main_v0 = fun i => m (c.tc.loc main_arg0) i := by
  show StableHlo.after hostOps0 (fun b => m (c, b)) main_v0 = _
  after_results_simp <;> rfl
theorem V2 : V m c main_v2 = shapeCast S4x512x2048 (m (c.tc.loc main_arg1)) shapeCasts_S2048x2048_S4x512x2048 := by
  show StableHlo.after hostOps0 (fun b => m (c, b)) main_v2 = _
  after_results_simp <;> rfl
theorem V3 : V m c main_v3 = shapeCast S1x2048 (m (c.tc.loc main_arg3)) shapeCasts_S2048_S1x2048 := by
  show StableHlo.after hostOps0 (fun b => m (c, b)) main_v3 = _
  after_results_simp <;> rfl

theorem iblk0 (t : Fin cfg0.N) : (iblk m c 0 t : FVec Ideal S512x2048 .bf16) = fun j => m (c.tc.loc main_arg0) (mk2 (row t (j 0)) (j 1)) := by
  funext j
  unfold iblk
  rw [View.read_apply]
  show V m c main_v0 _ = _
  rw [V0]
  exact congrArg (m (c.tc.loc main_arg0)) (ext2 (at_blk (index t).1.1) (at_zero (index t).1.2))
theorem iblk1 (t : Fin cfg0.N) : (iblk m c 1 t : FVec Ideal S4x512x2048 .bf16) = shapeCast S4x512x2048 (m (c.tc.loc main_arg1)) shapeCasts_S2048x2048_S4x512x2048 := by
  rw [← V2]
  funext j
  unfold iblk
  rw [View.read_apply]
  exact congrArg (V m c main_v2) (funext fun a => Fin.ext (by
    match a with
    | ⟨0, _⟩ => exact at_zero (index t).2.1.1
    | ⟨1, _⟩ => exact at_zero (index t).2.1.2.1
    | ⟨2, _⟩ => exact at_zero (index t).2.1.2.2))
theorem iblk2 (t : Fin cfg0.N) : (iblk m c 2 t : FVec Ideal S512x2048 .f32) = fun j => m (c.tc.loc main_arg2) (mk2 (row t (j 0)) (j 1)) := by
  funext j
  unfold iblk
  rw [View.read_apply]
  show V m c main_arg2 _ = _
  rw [V_main_arg2]
  exact congrArg (m (c.tc.loc main_arg2)) (ext2 (at_blk (index t).2.2.1.1) (at_zero (index t).2.2.1.2))
theorem iblk3 (t : Fin cfg0.N) : (iblk m c 3 t : FVec Ideal S1x2048 .f32) = fun j => m (c.tc.loc main_arg3) (mk1 (j 1)) := by
  funext j
  unfold iblk
  rw [View.read_apply]
  show V m c main_v3 _ = _
  rw [V3]
  refine (congrArg (shapeCast S1x2048 (m (c.tc.loc main_arg3)) shapeCasts_S2048_S1x2048) (ext2 (at_zero (index t).2.2.2.1.1) (at_zero (index t).2.2.2.1.2))).trans ?_
  exact ValueIdx.shapeCast_a_1a_apply _ _ (j 0) (j 1)

/-! ## The arrays after the run -/

def stream : FVec Ideal S2048x2048 .f32 := sum (m (c.tc.loc main_arg2)) (m (c.tc.loc main_arg0)) (m (c.tc.loc main_arg1))
def normed : FVec Ideal S2048x2048 .bf16 := rms 0x45000000#32 (stream m c) fun k => m (c.tc.loc main_arg3) (mk1 k)

/-- The point whose block holds row `i`. -/
def pt (i : Fin 2048) : Fin cfg0.N := ⟨i.val / 512, by rw [show cfg0.N = 4 from N_0]; have := i.isLt; omega⟩

theorem final4 : (dats m 0 c).arrAt 4 cfg0.N = stream m c := by
  refine (dats m 0 c).arrAt_eq_of_cover 4 _ (fun t _ => ?_) fun i => ⟨pt (i 0), flush0_4 _, ?_⟩
  · rw [Value.flushed4, iblk0, iblk1, iblk2, out4]
    funext j
    rw [View.read_apply]
    have e : ((cfg0.win 4).blk t).view.emb j = mk2 (row t (j 0)) (j 1) := ext2 (at_blk (index t).2.2.2.2.1.1) (at_zero (index t).2.2.2.2.1.2)
    rw [e]
    rfl
  · show i ∈ ((View.whole main_v4_0).slice (win0_4.rect (pt (i 0)))).set
    rw [View.set_slice_whole, Rect.mem_set_unit]
    exact Fin.forall_fin_two.mpr ⟨in_blk (index _).2.2.2.2.1.1 rfl (by decide), in_blk (index _).2.2.2.2.1.2 (Nat.div_eq_of_lt (i 1).isLt).symm (by decide)⟩
theorem final5 : (dats m 0 c).arrAt 5 cfg0.N = normed m c := by
  refine (dats m 0 c).arrAt_eq_of_cover 5 _ (fun t _ => ?_) fun i => ⟨pt (i 0), flush0_5 _, ?_⟩
  · rw [Value.flushed5, iblk0, iblk1, iblk2, iblk3, out5]
    funext j
    rw [View.read_apply]
    have e : ((cfg0.win 5).blk t).view.emb j = mk2 (row t (j 0)) (j 1) := ext2 (at_blk (index t).2.2.2.2.2.1) (at_zero (index t).2.2.2.2.2.2)
    rw [e]
    rfl
  · show i ∈ ((View.whole main_v4_1).slice (win0_5.rect (pt (i 0)))).set
    rw [View.set_slice_whole, Rect.mem_set_unit]
    exact Fin.forall_fin_two.mpr ⟨in_blk (index _).2.2.2.2.2.1 rfl (by decide), in_blk (index _).2.2.2.2.2.2 (Nat.div_eq_of_lt (i 1).isLt).symm (by decide)⟩

end Cert.OutFKernel

namespace Cert.OutFClaim

open Cert.Reals Cert.Prods Cert.Rowwise

open Cert.OutFwdRefIdeal Cert.OutFwdRefIdeal.Gen in
theorem v1 (x0 x1 x2 : FVec Ideal S2048x2048 .f32) : Read.val_main_v1 (F := Ideal) x0 x1 x2 = OutFKernel.sum x2 x0 x1 :=
  funext fun j => congrArg (x2 j + ·) (congrFun (h_dot (φ₁ := .f32) (φ₂ := .f32) x0 x1) j)

open Cert.OutFwdRefIdeal Cert.OutFwdRefIdeal.Gen in
theorem v15 (x0 x1 x2 : FVec Ideal S2048x2048 .f32) (x3 : FVec Ideal S2048 .f32) :
    Read.val_main_v15 (F := Ideal) x0 x1 x2 x3 = (rms 0x45000000#32 (OutFKernel.sum x2 x0 x1) fun k => x3 (mk1 k) : FVec Ideal S2048x2048 .bf16) := by
  rw [← v1]
  exact h_rms 0x45000000#32 _ x3 _ _ _ _ _ _ _ _

/-- Kernel and reference compute the same stream and the same norm, of any arguments. -/
theorem value : Cert.algebraic_OutFwdIdeal_OutFwdRefIdeal := by
  intro m ρ m' ρ' hpre hagree
  refine ⟨fun c => OutFKernel.stream m c, fun c => OutFKernel.normed m c,
    (θ_run Cert.OutFwdIdeal.defs _ _).mono (fun r h c => ?_) (Cert.OutFwdIdeal.Value.run_blocks m ρ),
    (θ_run Cert.OutFwdRefIdeal.defs _ _).mono (fun r h c => ?_) (Cert.OutFwdRefIdeal.Value.run m' ρ')⟩
  · obtain ⟨h0, h1, -, hk⟩ := h c
    exact ⟨h0.trans (OutFKernel.final4 m c), h1.trans (OutFKernel.final5 m c), hk⟩
  · obtain ⟨h0, h1, hk⟩ := h c
    obtain ⟨e0, e1, e2, e3⟩ := hagree c
    refine ⟨h0.trans ((Cert.OutFwdRefIdeal.Read.val_main_v1_eq _ _ _).trans ?_), h1.trans ((Cert.OutFwdRefIdeal.Read.val_main_v15_eq _ _ _ _).trans ?_), hk⟩
    · rw [e0, e1, e2]
      exact v1 _ _ _
    · rw [e0, e1, e2, e3]
      exact v15 _ _ _ _

end Cert.OutFClaim

end
-- ==== Proof.RmsKernel.lean ====
/-
  The gradient of the residual's norm, as the kernel computes it: for finite `dh`, `x`, `g` each of its three
  results is one formula of the arguments: the norm's gradient added to the residual's own, and the gain's gradient.
-/
module

public import proofs.«01_k».proof.Proof.Norm
public import proofs.«01_k».proof.Proof.Gen.RmsBwdIdeal.Value
public import Idealize.ShloMosaic.Lib.Tactic

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.RmsKernel

open Cert.Reals Cert.Norm Cert.RmsBwdIdeal Cert.RmsBwdIdeal.Gen

/-! ## One block -/

theorem ne : ((2048 : ℕ) : ℝ) ≠ 0 := by norm_num

theorem pay3 (X : Mat 256 2048) : k0_pay3 (F := Ideal) (up (φ := .f32) X) = up fun j => rinv X (j 0) := k_rinv lit_2048 ne X ..

theorem pay4 (X : Mat 256 2048) : k0_pay4 (F := Ideal) (up (φ := .f32) X) = up fun j => xhat X (j 0) (j 1) := by
  unfold k0_pay4
  rw [pay3]
  exact k_xhat X _

theorem pay5 (D X : Mat 256 2048) (G : Mat 1 2048) (R : FVec Ideal S256x2048 .f32) :
    k0_pay5 (F := Ideal) (up (φ := .f32) X) (up (φ := .f32) D) (up (φ := .f32) G) R = addf R (up fun j => dx D X (fun k => G (mk2 0 k)) (j 0) (j 1)) := by
  unfold k0_pay5
  simp -index only [pay3, pay4, cast_self_up, spread_row_up, mulf_up]
  exact congrArg (addf R) (k_dxv lit_2048 ne X (fun j => D j * G (mk2 0 (j 1))) ..)

theorem pay1 (D X : Mat 256 2048) (A : Mat 1 2048) : k0_pay1 (F := Ideal) (k0_pay4 (up (φ := .f32) X)) (up (φ := .f32) D) (up (φ := .f32) A)
    = up fun j => A j + ∑ p : Fin 256, dgRow D X p (j 1) := by
  unfold k0_pay1
  simp -index only [pay4, cast_self_up]
  exact k_dg X D A ..

theorem pay7 : k0_pay7 (F := Ideal) = up fun _ => 0 := splat_up lit_zero

/-- Half precision keeps the value. -/
theorem pay6 (a b : Vec Ideal S256x2048 .f32) (g : Vec Ideal S1x2048 .f32) (r : Vec Ideal S256x2048 .f32) :
    k0_pay6 (F := Ideal) a b g r = fun i => k0_pay5 (F := Ideal) a b g r i := rfl

/-! ## One grid point -/

variable (m : (ℓ : Loc nD τ sig) → Buf (Elt Ideal) ℓ) (c : Dev nD)

theorem hz : (![0, 0] : Fin 2 → Nat) = fun _ => 0 := funext fun a => by fin_cases a <;> rfl

/-- What point `t` leaves in the window of `dx`. -/
theorem point4 (t : Fin cfg0.N) : (outsAt0 m c t.val t.isLt).1
    = k0_pay5 (iblk m c 1 t) (iblk m c 0 t) (iblk m c 2 t) (iblk m c 3 t) := by
  by_cases h0 : t.val % 8 = 0
  · rw [outsAt0_A m c t h0]
    dsimp only
    unfold out0_A_4
    rw [View.read_writes_eq_canon]; on_goal 2 => exact fun y => cover0_A_4 ..
    unfold kernelRun0_A
    dsimp only
    rw [View.canon_unit_zero hz]
    simp only [View.readAt_eq_ld, (hs0_0 t).read_unread, (hs0_1 t).read_unread, (hs0_2 t).read_unread, (hs0_3 t).read_unread,
      View.ld_unit_zero (S := S256x2048) hz, View.ld_unit_zero (S := S1x2048) hz]
  · rw [outsAt0_B m c t h0]
    dsimp only
    unfold out0_B_4
    rw [View.read_writes_eq_canon]; on_goal 2 => exact fun y => cover0_B_4 ..
    unfold kernelRun0_B
    dsimp only
    rw [View.canon_unit_zero hz]
    simp only [View.readAt_eq_ld, (hs0_0 t).read_unread, (hs0_1 t).read_unread, (hs0_2 t).read_unread, (hs0_3 t).read_unread,
      View.ld_unit_zero (S := S256x2048) hz, View.ld_unit_zero (S := S1x2048) hz]

theorem point4_of (t : Fin cfg0.N) {x d r : FVec Ideal S256x2048 .f32} {w : FVec Ideal S1x2048 .f32}
    (e1 : (iblk m c 1 t : FVec Ideal S256x2048 .f32) = x) (e0 : (iblk m c 0 t : FVec Ideal S256x2048 .f32) = d)
    (e2 : (iblk m c 2 t : FVec Ideal S1x2048 .f32) = w) (e3 : (iblk m c 3 t : FVec Ideal S256x2048 .f32) = r) :
    (outsAt0 m c t.val t.isLt).1 = k0_pay5 (F := Ideal) x d w r := by
  subst e1 e0 e2 e3
  exact point4 m c t

/-- What point `t` leaves in the window of `dx` in half precision. -/
theorem point5 (t : Fin cfg0.N) : (outsAt0 m c t.val t.isLt).2.1
    = k0_pay6 (iblk m c 1 t) (iblk m c 0 t) (iblk m c 2 t) (iblk m c 3 t) := by
  by_cases h0 : t.val % 8 = 0
  · rw [outsAt0_A m c t h0]
    dsimp only
    unfold out0_A_5
    rw [View.read_writes_eq_canon]; on_goal 2 => exact fun y => cover0_A_5 ..
    unfold kernelRun0_A
    dsimp only
    rw [View.canon_unit_zero hz]
    simp only [View.readAt_eq_ld, (hs0_0 t).read_unread, (hs0_1 t).read_unread, (hs0_2 t).read_unread, (hs0_3 t).read_unread,
      View.ld_unit_zero (S := S256x2048) hz, View.ld_unit_zero (S := S1x2048) hz]
  · rw [outsAt0_B m c t h0]
    dsimp only
    unfold out0_B_5
    rw [View.read_writes_eq_canon]; on_goal 2 => exact fun y => cover0_B_5 ..
    unfold kernelRun0_B
    dsimp only
    rw [View.canon_unit_zero hz]
    simp only [View.readAt_eq_ld, (hs0_0 t).read_unread, (hs0_1 t).read_unread, (hs0_2 t).read_unread, (hs0_3 t).read_unread,
      View.ld_unit_zero (S := S256x2048) hz, View.ld_unit_zero (S := S1x2048) hz]

/-- What the first point leaves in the gain's window: its own rows' part, over zero. -/
theorem point6_first (t : Fin cfg0.N) (h0 : t.val % 8 = 0) : (outsAt0 m c t.val t.isLt).2.2.1
    = k0_pay1 (k0_pay4 (iblk m c 1 t)) (iblk m c 0 t) (k0_pay7 (F := Ideal)) := by
  rw [outsAt0_A m c t h0]
  dsimp only
  unfold out0_A_6
  rw [View.read_writes_eq_canon]; on_goal 2 => exact fun y => cover0_A_6 ..
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, View.ld_unit_zero (S := S256x2048) hz]

/-- What a later point leaves there: its own rows' part, over what the point before left. -/
theorem point6_next (t : Fin cfg0.N) (h0 : ¬t.val % 8 = 0) : (outsAt0 m c t.val t.isLt).2.2.1
    = k0_pay1 (k0_pay4 (iblk m c 1 t)) (iblk m c 0 t)
        (outsAt0 m c (t.val - 1) (Nat.lt_of_le_of_lt (Nat.sub_le _ _) t.isLt)).2.2.1 := by
  rw [outsAt0_B m c t h0]
  dsimp only
  unfold out0_B_6
  rw [View.read_writes_eq_canon]; on_goal 2 => exact fun y => cover0_B_6 ..
  unfold kernelRun0_B
  dsimp only
  sl_unfold_words
  rw [View.canon_unit_zero (S := S1x2048) hz]
  simp only [View.readAt_eq_ld, (hs0_0 t).read_unread, (hs0_1 t).read_unread, (hs0_6 t).read_unread,
    View.ld_unit_zero (S := S256x2048) hz, View.ld_unit_zero (S := S1x2048) hz]

/-! ## The blocks as parts of the arguments -/

theorem index_row : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

theorem lt8 (t : Fin cfg0.N) : t.val < 8 := lt_of_lt_of_eq t.isLt (show cfg0.N = 8 from N_0)

/-- Row `p` of block `t`. -/
def row (t : Fin cfg0.N) (p : Fin 256) : Fin 2048 := ⟨256 * t.val + p.val, by have := lt8 t; have := p.isLt; omega⟩

/-- Block `t` of a matrix of reals. -/
def blk (X : Mat 2048 2048) (t : Fin cfg0.N) : Mat 256 2048 := fun j => X (mk2 (row t (j 0)) (j 1))

theorem iblk0 (t : Fin cfg0.N) : (iblk m c 0 t : FVec Ideal S256x2048 .f32)
    = fun j => m (c.tc.loc main_arg0) (mk2 (row t (j 0)) (j 1)) := by
  funext j
  unfold iblk
  rw [View.read_apply]
  show V m c main_arg0 _ = _
  rw [V_main_arg0]
  congr 1
  funext a
  apply Fin.ext
  match a with
  | ⟨0, _⟩ => show win0_0.index t 0 * 256 + 1 * (j 0).val = 256 * t.val + (j 0).val; rw [(index_row t).1.1]; omega
  | ⟨1, _⟩ => show win0_0.index t 1 * 2048 + 1 * (j 1).val = (j 1).val; rw [(index_row t).1.2]; omega

theorem iblk1 (t : Fin cfg0.N) : (iblk m c 1 t : FVec Ideal S256x2048 .f32)
    = fun j => m (c.tc.loc main_arg1) (mk2 (row t (j 0)) (j 1)) := by
  funext j
  unfold iblk
  rw [View.read_apply]
  show V m c main_arg1 _ = _
  rw [V_main_arg1]
  congr 1
  funext a
  apply Fin.ext
  match a with
  | ⟨0, _⟩ => show win0_1.index t 0 * 256 + 1 * (j 0).val = 256 * t.val + (j 0).val; rw [(index_row t).2.1.1]; omega
  | ⟨1, _⟩ => show win0_1.index t 1 * 2048 + 1 * (j 1).val = (j 1).val; rw [(index_row t).2.1.2]; omega

theorem iblk3 (t : Fin cfg0.N) : (iblk m c 3 t : FVec Ideal S256x2048 .f32)
    = fun j => m (c.tc.loc main_arg3) (mk2 (row t (j 0)) (j 1)) := by
  funext j
  unfold iblk
  rw [View.read_apply]
  show V m c main_arg3 _ = _
  rw [V_main_arg3]
  congr 1
  funext a
  apply Fin.ext
  match a with
  | ⟨0, _⟩ => show win0_3.index t 0 * 256 + 1 * (j 0).val = 256 * t.val + (j 0).val; rw [(index_row t).2.2.2.1.1]; omega
  | ⟨1, _⟩ => show win0_3.index t 1 * 2048 + 1 * (j 1).val = (j 1).val; rw [(index_row t).2.2.2.1.2]; omega

/-- The gain, as the host hands it to the kernel: one row. -/
theorem gain : V m c main_v0 = shapeCast S1x2048 (m (c.tc.loc main_arg2)) shapeCasts_S2048_S1x2048 := by
  show StableHlo.after hostOps0 (fun b => m (c, b)) main_v0 = _
  after_results_simp <;> rfl

theorem iblk2 (t : Fin cfg0.N) : (iblk m c 2 t : FVec Ideal S1x2048 .f32)
    = shapeCast S1x2048 (m (c.tc.loc main_arg2)) shapeCasts_S2048_S1x2048 := by
  rw [← gain]
  funext j
  unfold iblk
  rw [View.read_apply]
  show V m c main_v0 _ = V m c main_v0 _
  congr 1
  funext a
  apply Fin.ext
  match a with
  | ⟨0, _⟩ => show win0_2.index t 0 * 1 + 1 * (j 0).val = (j 0).val; rw [(index_row t).2.2.1.1]; omega
  | ⟨1, _⟩ => show win0_2.index t 1 * 2048 + 1 * (j 1).val = (j 1).val; rw [(index_row t).2.2.1.2]; omega

/-! ## The results -/

variable {D X : Mat 2048 2048} {g : (⟨1, ![2048]⟩ : Shape).Idx → ℝ}

/-- `dx`'s array after the run. -/
def resDx (D X : Mat 2048 2048) (g : (⟨1, ![2048]⟩ : Shape).Idx → ℝ) (R : FVec Ideal S2048x2048 .f32) : FVec Ideal S2048x2048 .f32 :=
  addf R (up fun i => dx D X (fun k => g (mk1 k)) (i 0) (i 1))

/-- The gain's gradient. -/
def resDg (D X : Mat 2048 2048) : FVec Ideal S1x2048 .f32 := up fun i => ∑ r : Fin 2048, dgRow D X r (i 1)

section
variable (hD : m (c.tc.loc main_arg0) = up (φ := .f32) D) (hX : m (c.tc.loc main_arg1) = up (φ := .f32) X)
  (hg : m (c.tc.loc main_arg2) = up (φ := .f32) g)
include hD hX

/-- A block's formulas are the whole's, at the block's rows. -/
theorem dx_blk (G : Fin 2048 → ℝ) (t : Fin cfg0.N) (p : Fin 256) (k : Fin 2048) :
    dx (blk D t) (blk X t) G p k = dx D X G (row t p) k := rfl

include hg in
theorem val4 (t : Fin cfg0.N) : (outsAt0 m c t.val t.isLt).1
    = fun j => resDx D X g (m (c.tc.loc main_arg3)) (mk2 (row t (j 0)) (j 1)) := by
  have e1 : (iblk m c 1 t : FVec Ideal S256x2048 .f32) = up (φ := .f32) (blk X t) := by rw [iblk1, hX]; rfl
  have e0 : (iblk m c 0 t : FVec Ideal S256x2048 .f32) = up (φ := .f32) (blk D t) := by rw [iblk0, hD]; rfl
  have e2 : (iblk m c 2 t : FVec Ideal S1x2048 .f32) = up (φ := .f32) fun j => g (mk1 (j 1)) := by
    rw [iblk2, hg]; exact cast_row_up g _
  rw [point4_of m c t e1 e0 e2 (iblk3 m c t), pay5]
  rfl

include hg in
theorem val5 (t : Fin cfg0.N) : (outsAt0 m c t.val t.isLt).2.1
    = fun j => resDx D X g (m (c.tc.loc main_arg3)) (mk2 (row t (j 0)) (j 1)) := by
  have h := (point4 m c t).symm.trans (val4 m c hD hX hg t)
  rw [point5]
  refine (pay6 _ _ _ _).trans ?_
  generalize k0_pay5 (iblk m c 1 t) (iblk m c 0 t) (iblk m c 2 t) (iblk m c 3 t) = y at h ⊢
  rw [h]

theorem val6 : ∀ (n : ℕ) (h : n < cfg0.N), (outsAt0 m c n h).2.2.1
    = up (φ := .f32) fun j => ∑ k ∈ Finset.range (256 * (n + 1)), nat (fun r => dgRow D X r (j 1)) k
  | 0, h => by
    refine (point6_first m c ⟨0, h⟩ rfl).trans ?_
    rw [iblk0, iblk1, hD, hX, pay7]
    refine (pay1 (blk D ⟨0, h⟩) (blk X ⟨0, h⟩) _).trans (congrArg up (funext fun j => ?_))
    rw [sum_nat_step _ 256 0 (fun p => dgRow (blk D ⟨0, h⟩) (blk X ⟨0, h⟩) p (j 1)) fun p => ⟨by have := p.isLt; omega, rfl⟩]
    simp
  | n + 1, h => by
    have h8 := lt8 ⟨n + 1, h⟩
    have hB : ¬(⟨n + 1, h⟩ : Fin cfg0.N).val % 8 = 0 := by dsimp only at h8 ⊢; omega
    refine (point6_next m c ⟨n + 1, h⟩ hB).trans ?_
    rw [iblk0, iblk1, hD, hX]
    refine (congrArg (k0_pay1 _ _) (val6 n (Nat.lt_of_succ_lt h))).trans ?_
    refine (pay1 (blk D ⟨n + 1, h⟩) (blk X ⟨n + 1, h⟩) _).trans (congrArg up (funext fun j => ?_))
    exact (sum_nat_step _ 256 (n + 1) (fun p => dgRow (blk D ⟨n + 1, h⟩) (blk X ⟨n + 1, h⟩) p (j 1))
      fun p => ⟨by have := p.isLt; dsimp only at h8; omega, rfl⟩).symm

include hg in
theorem flushed4_eq (t : Fin cfg0.N) (hf : (cfg0.win 4).flush t = true) : (dats m 0 c).flushed 4 t
    = ((cfg0.win 4).blk t).view.read (Elt Ideal) (resDx D X g (m (c.tc.loc main_arg3))) := by
  rw [Value.flushed4, val4 m c hD hX hg]
  funext j
  rw [View.read_apply]
  show resDx D X g _ _ = resDx D X g _ _
  congr 1
  funext a
  apply Fin.ext
  match a with
  | ⟨0, _⟩ => show 256 * t.val + (j 0).val = win0_4.index t 0 * 256 + 1 * (j 0).val; rw [(index_row t).2.2.2.2.1.1]; omega
  | ⟨1, _⟩ => show (j 1).val = win0_4.index t 1 * 2048 + 1 * (j 1).val; rw [(index_row t).2.2.2.2.1.2]; omega

include hg in
theorem flushed5_eq (t : Fin cfg0.N) (hf : (cfg0.win 5).flush t = true) : (dats m 0 c).flushed 5 t
    = ((cfg0.win 5).blk t).view.read (Elt Ideal) (fun i => resDx D X g (m (c.tc.loc main_arg3)) i) := by
  rw [Value.flushed5, val5 m c hD hX hg]
  funext j
  rw [View.read_apply]
  show resDx D X g _ _ = resDx D X g _ _
  congr 1
  funext a
  apply Fin.ext
  match a with
  | ⟨0, _⟩ => show 256 * t.val + (j 0).val = win0_5.index t 0 * 256 + 1 * (j 0).val; rw [(index_row t).2.2.2.2.2.1.1]; omega
  | ⟨1, _⟩ => show (j 1).val = win0_5.index t 1 * 2048 + 1 * (j 1).val; rw [(index_row t).2.2.2.2.2.1.2]; omega

theorem flushed6_eq (t : Fin cfg0.N) (hf : (cfg0.win 6).flush t = true) : (dats m 0 c).flushed 6 t
    = ((cfg0.win 6).blk t).view.read (Elt Ideal) (resDg D X) := by
  have h8 := lt8 t
  have h7 : t.val = 7 := by have := (flush0_6 t).mp hf; omega
  rw [Value.flushed6, val6 m c hD hX]
  funext j
  rw [View.read_apply]
  have e : (((cfg0.win 6).blk t).view.emb j) 1 = j 1 :=
    Fin.ext (by show win0_6.index t 1 * 2048 + 1 * (j 1).val = (j 1).val; rw [(index_row t).2.2.2.2.2.2.2]; omega)
  show ((∑ k ∈ Finset.range (256 * (t.val + 1)), nat (fun r => dgRow D X r (j 1)) k : ℝ) : EReal)
    = ((∑ r : Fin 2048, dgRow D X r ((((cfg0.win 6).blk t).view.emb j) 1) : ℝ) : EReal)
  rw [e, h7]
  exact congrArg _ (sum_nat fun r => dgRow D X r (j 1))

/-! ## The arrays after the run -/

/-- The point whose block holds row `i`. -/
def pt (i : Fin 2048) : Fin cfg0.N := ⟨i.val / 256, by rw [show cfg0.N = 8 from N_0]; have := i.isLt; omega⟩

include hg in
theorem final4 : (dats m 0 c).arrAt 4 cfg0.N = resDx D X g (m (c.tc.loc main_arg3)) :=
  (dats m 0 c).arrAt_eq_of_cover 4 _ (flushed4_eq m c hD hX hg) fun i => ⟨pt (i 0), flush0_4 _, by
    have h0 : (i 0).val < 2048 := (i 0).isLt
    have h1 : (i 1).val < 2048 := (i 1).isLt
    have e := (index_row (pt (i 0))).2.2.2.2.1
    show i ∈ ((View.whole main_v1_0).slice (win0_4.rect (pt (i 0)))).set
    rw [View.set_slice_whole, Rect.mem_set_unit]
    intro a
    match a with
    | ⟨0, _⟩ =>
      show win0_4.index (pt (i 0)) 0 * 256 ≤ (i 0).val ∧ (i 0).val < win0_4.index (pt (i 0)) 0 * 256 + 256
      rw [e.1]; show (i 0).val / 256 * 256 ≤ (i 0).val ∧ (i 0).val < (i 0).val / 256 * 256 + 256; omega
    | ⟨1, _⟩ =>
      show win0_4.index (pt (i 0)) 1 * 2048 ≤ (i 1).val ∧ (i 1).val < win0_4.index (pt (i 0)) 1 * 2048 + 2048
      rw [e.2]; omega⟩

include hg in
theorem final5 : (dats m 0 c).arrAt 5 cfg0.N = fun i => resDx D X g (m (c.tc.loc main_arg3)) i :=
  (dats m 0 c).arrAt_eq_of_cover 5 _ (flushed5_eq m c hD hX hg) fun i => ⟨pt (i 0), flush0_5 _, by
    have h0 : (i 0).val < 2048 := (i 0).isLt
    have h1 : (i 1).val < 2048 := (i 1).isLt
    have e := (index_row (pt (i 0))).2.2.2.2.2.1
    show i ∈ ((View.whole main_v1_1).slice (win0_5.rect (pt (i 0)))).set
    rw [View.set_slice_whole, Rect.mem_set_unit]
    intro a
    match a with
    | ⟨0, _⟩ =>
      show win0_5.index (pt (i 0)) 0 * 256 ≤ (i 0).val ∧ (i 0).val < win0_5.index (pt (i 0)) 0 * 256 + 256
      rw [e.1]; show (i 0).val / 256 * 256 ≤ (i 0).val ∧ (i 0).val < (i 0).val / 256 * 256 + 256; omega
    | ⟨1, _⟩ =>
      show win0_5.index (pt (i 0)) 1 * 2048 ≤ (i 1).val ∧ (i 1).val < win0_5.index (pt (i 0)) 1 * 2048 + 2048
      rw [e.2]; omega⟩

theorem final6 : (dats m 0 c).arrAt 6 cfg0.N = resDg D X :=
  (dats m 0 c).arrAt_eq_of_cover 6 _ (flushed6_eq m c hD hX) fun i => ⟨t0_7, (flush0_6 _).mpr rfl, by
    have h0 : (i 0).val < 1 := (i 0).isLt
    have h1 : (i 1).val < 2048 := (i 1).isLt
    have e := (index_row t0_7).2.2.2.2.2.2
    show i ∈ ((View.whole main_v1_2).slice (win0_6.rect t0_7)).set
    rw [View.set_slice_whole, Rect.mem_set_unit]
    intro a
    match a with
    | ⟨0, _⟩ =>
      show win0_6.index t0_7 0 * 1 ≤ (i 0).val ∧ (i 0).val < win0_6.index t0_7 0 * 1 + 1
      rw [e.1]; omega
    | ⟨1, _⟩ =>
      show win0_6.index t0_7 1 * 2048 ≤ (i 1).val ∧ (i 1).val < win0_6.index t0_7 1 * 2048 + 2048
      rw [e.2]; omega⟩

end

end Cert.RmsKernel

end
-- ==== Proof.RmsRef.lean ====
/-
  The derivative of the residual's norm, as the reference computes it, is the same formula of the arguments.
-/
module

public import proofs.«01_k».proof.Proof.RmsKernel
public import proofs.«01_k».proof.Proof.Gen.RmsBwdRefIdeal.Read

@[expose] public section

set_option maxRecDepth 16384
set_option backward.isDefEq.respectTransparency.types false

noncomputable section

open Idealize.ShloMosaic Idealize.ShloMosaic.TcCoe Idealize.SL.Sem

namespace Cert.RmsRef

open Cert.Reals Cert.Norm Cert.RmsBwdRefIdeal Cert.RmsBwdRefIdeal.Gen Cert.RmsBwdRefIdeal.Read

theorem v6 (X : Mat 2048 2048) : val_main_v6 (F := Ideal) (up (φ := .f32) X) = up (s := S2048x1) (φ := .f32) fun j => ms X (j 0) :=
  r_ms lit_2048 RmsKernel.ne X ..

theorem v7 (X : Mat 2048 2048) : val_main_v7 (F := Ideal) (up (φ := .f32) X) = up (s := S2048x1) (φ := .f32) fun j => rinv X (j 0) := by
  unfold val_main_v7
  rw [v6]
  exact r_rinv X

theorem v10 (X : Mat 2048 2048) : val_main_v10 (F := Ideal) (up (φ := .f32) X)
    = up (s := S2048x1) (φ := .f32) fun j => -(1 / 2) * (rinv X (j 0) * (rinv X (j 0) * rinv X (j 0))) := by
  unfold val_main_v10 val_main_v8
  rw [v7, v6]
  exact r_half X _

theorem v20 (D : Mat 2048 2048) (g : (⟨1, ![2048]⟩ : Shape).Idx → ℝ) : val_main_v20 (F := Ideal) (up (φ := .f32) D) (up (φ := .f32) g)
    = up (s := S2048x2048) (φ := .f32) fun j => D j * g (mk1 (j 1)) := r_scale D g _ _

/-- The gradient of the normalised rows. -/
abbrev V (D : Mat 2048 2048) (g : (⟨1, ![2048]⟩ : Shape).Idx → ℝ) : Mat 2048 2048 := fun j => D j * g (mk1 (j 1))

theorem v32 (D X : Mat 2048 2048) (g : (⟨1, ![2048]⟩ : Shape).Idx → ℝ) :
    val_main_v32 (F := Ideal) (up (φ := .f32) D) (up (φ := .f32) X) (up (φ := .f32) g)
    = up (s := S2048x2048) (φ := .f32) fun j => (∑ l : Fin 2048, X (mk2 (j 0) l) * V D g (mk2 (j 0) l))
        * (-(1 / 2) * (rinv X (j 0) * (rinv X (j 0) * rinv X (j 0)))) / ((2048 : ℕ) : ℝ) := by
  unfold val_main_v32 val_main_v31 val_main_v30 val_main_v28 val_main_v24 val_main_v23 val_main_v22
  rw [v20, v10]
  exact r_mean lit_2048 RmsKernel.ne X (V D g) ..

theorem v36 (D X : Mat 2048 2048) (g : (⟨1, ![2048]⟩ : Shape).Idx → ℝ) (R : FVec Ideal S2048x2048 .f32) :
    val_main_v36 (F := Ideal) (up (φ := .f32) D) (up (φ := .f32) X) (up (φ := .f32) g) R = RmsKernel.resDx D X g R := by
  unfold val_main_v36 val_main_v35 val_main_v34 val_main_v33 val_main_v27 val_main_v26 val_main_v25
  simp -index only [v32, v20, v7, host_col_up, mulf_up, addf_addf_up, mk2_0]
  exact congrArg (addf R) (up_ext2 fun r k => dxv_parts X (V D g) r k)

theorem v38 (D X : Mat 2048 2048) :
    val_main_v38 (F := Ideal) (up (φ := .f32) D) (up (φ := .f32) X) = RmsKernel.resDg D X := by
  unfold val_main_v38 val_main_v21 val_main_v18 val_main_v17 val_main_v16 val_main_v12 val_main_v11
  rw [v7, r_xhat]
  exact (congrArg (fun y => shapeCast S1x2048 y _) (r_dg X D ..)).trans (cast_row_up _ _)

end Cert.RmsRef

end
-- ==== Proof.RmsClaim.lean ====
/-
  The value claim about the residual norm's gradient: that kernel and reference compute the same.
-/
module

public import proofs.«01_k».proof.Defs
public import proofs.«01_k».proof.Proof.RmsRef
public import proofs.«01_k».proof.Proof.Gen.Pre_rms_bwd_finite

@[expose] public section

set_option maxRecDepth 16384

noncomputable section

namespace Cert.RmsClaim

open Idealize.ShloMosaic Idealize.ShloMosaic.TcCoe Idealize.SL.Sem Cert.Reals

/-- The precondition says that `dh`, `x` and `g` are finite. -/
theorem finite {m : (ℓ : Loc Cert.RmsBwdIdeal.nD Cert.RmsBwdIdeal.τ Cert.RmsBwdIdeal.sig) → Buf (Elt Ideal) ℓ}
    (h : Cert.Pre_RmsBwdIdeal_rms_bwd_finite m) (c : Dev Cert.RmsBwdIdeal.nD) :
    ∃ (D X : Norm.Mat 2048 2048) (g : (⟨1, ![2048]⟩ : Shape).Idx → ℝ),
      m ((c.tc : Thread Cert.RmsBwdIdeal.nD Cert.RmsBwdIdeal.τ).loc Cert.RmsBwdIdeal.main_arg0) = up (φ := .f32) D
      ∧ m ((c.tc : Thread Cert.RmsBwdIdeal.nD Cert.RmsBwdIdeal.τ).loc Cert.RmsBwdIdeal.main_arg1) = up (φ := .f32) X
      ∧ m ((c.tc : Thread Cert.RmsBwdIdeal.nD Cert.RmsBwdIdeal.τ).loc Cert.RmsBwdIdeal.main_arg2) = up (φ := .f32) g := by
  have h1 := h c
  unfold Cert.Pre_rms_bwd_finite.fn at h1
  obtain ⟨h2, h5⟩ := and_ones h1
  obtain ⟨h3, h4⟩ := and_ones h2
  obtain ⟨D, hD⟩ := finite_of_all _ _ _ _ _ _ _ (congrFun h3 fun a => a.elim0)
  obtain ⟨X, hX⟩ := finite_of_all _ _ _ _ _ _ _ (congrFun h4 fun a => a.elim0)
  obtain ⟨g, hg⟩ := finite_of_all _ _ _ _ _ _ _ (congrFun h5 fun a => a.elim0)
  exact ⟨D, X, g, hD, hX, hg⟩

/-- Kernel and reference compute the same three arrays. -/
theorem value : Cert.algebraic_RmsBwdIdeal_RmsBwdRefIdeal_pre_rms_bwd_finite := by
  intro m ρ m' ρ' hpre hagree
  refine ⟨fun c => (Cert.RmsBwdIdeal.Gen.dats m 0 c).arrAt 4 Cert.RmsBwdIdeal.cfg0.N,
    fun c => (Cert.RmsBwdIdeal.Gen.dats m 0 c).arrAt 5 Cert.RmsBwdIdeal.cfg0.N,
    fun c => (Cert.RmsBwdIdeal.Gen.dats m 0 c).arrAt 6 Cert.RmsBwdIdeal.cfg0.N,
    (θ_run Cert.RmsBwdIdeal.defs _ _).mono (fun r h c => ?_) (Cert.RmsBwdIdeal.Value.run_blocks m ρ),
    (θ_run Cert.RmsBwdRefIdeal.defs _ _).mono (fun r h c => ?_) (Cert.RmsBwdRefIdeal.Value.run m' ρ')⟩
  · obtain ⟨h0, h1, h2, -, hk⟩ := h c
    exact ⟨h0, h1, h2, hk⟩
  · obtain ⟨h0, h1, h2, hk⟩ := h c
    obtain ⟨D, X, g, hD, hX, hg⟩ := finite hpre c
    obtain ⟨e0, e1, e2, e3⟩ := hagree c
    refine ⟨h0.trans ?_, h1.trans ?_, h2.trans ?_, hk⟩
    · refine (Cert.RmsBwdRefIdeal.Read.val_main_v36_eq _ _ _ _).trans ?_
      rw [e0, e1, e2, e3, hD, hX, hg]
      exact (RmsRef.v36 D X g _).trans (RmsKernel.final4 m c hD hX hg).symm
    · refine (Cert.RmsBwdRefIdeal.Read.val_main_v37_eq _ _ _ _).trans ?_
      rw [e0, e1, e2, e3, hD, hX, hg]
      exact (congrArg (fun x : FVec Ideal Cert.RmsBwdIdeal.S2048x2048 .f32 => fun i => x i) (RmsRef.v36 D X g _)).trans
        (RmsKernel.final5 m c hD hX hg).symm
    · refine (Cert.RmsBwdRefIdeal.Read.val_main_v38_eq _ _).trans ?_
      rw [e0, e1, hD, hX]
      exact (RmsRef.v38 D X).trans (RmsKernel.final6 m c hD hX).symm

end Cert.RmsClaim

end
-- ==== Proof.RmsFClaim.lean ====
/-
  The value claim about the root-mean-square norm: that kernel and reference compute the same.
-/
module

public import proofs.«01_k».proof.Defs
public import proofs.«01_k».proof.Proof.Rowwise
public import proofs.«01_k».proof.Proof.Gen.RmsFwdIdeal.Value
public import proofs.«01_k».proof.Proof.Gen.RmsFwdRefIdeal.Read

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.RmsFKernel

open Cert.Reals Cert.Prods Cert.Rowwise Cert.RmsFwdIdeal Cert.RmsFwdIdeal.Gen

theorem out2 (x0 : FVec Ideal S256x2048 .f32) (x1 : FVec Ideal S1x2048 .f32) :
    out0_2 (F := Ideal) x0 x1 = (rms 0x45000000#32 x0 fun k => x1 (mk2 0 k) : FVec Ideal S256x2048 .bf16) := by
  unfold out0_2
  rw [View.canon_unit_zero hz2, View.ld_unit_zero (S := S256x2048) hz2, View.ld_unit_zero (S := S1x2048) hz2]
  unfold k0_pay1
  simp only [shapeCast_self]
  exact k_rms 0x45000000#32 x0 x1 _ _ _ _ _ _ _

variable (m : (ℓ : Loc nD τ sig) → Buf (Elt Ideal) ℓ) (c : Dev nD)

theorem index : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, _)

theorem lt8 (t : Fin cfg0.N) : t.val < 8 := lt_of_lt_of_eq t.isLt (show cfg0.N = 8 from N_0)
/-- Row `p` of point `t`'s block. -/
def row (t : Fin cfg0.N) (p : Fin 256) : Fin 2048 := ⟨256 * t.val + p.val, by have := lt8 t; have := p.isLt; omega⟩

theorem V0 : V m c main_v0 = shapeCast S1x2048 (m (c.tc.loc main_arg1)) shapeCasts_S2048_S1x2048 := by
  show StableHlo.after hostOps0 (fun b => m (c, b)) main_v0 = _
  after_results_simp
  rfl
theorem iblk0 (t : Fin cfg0.N) : (iblk m c 0 t : FVec Ideal S256x2048 .f32) = fun j => m (c.tc.loc main_arg0) (mk2 (row t (j 0)) (j 1)) := by
  funext j
  unfold iblk
  rw [View.read_apply]
  show V m c main_arg0 _ = _
  rw [V_main_arg0]
  exact congrArg (m (c.tc.loc main_arg0)) (ext2 (at_blk (index t).1.1) (at_zero (index t).1.2))
theorem iblk1 (t : Fin cfg0.N) : (iblk m c 1 t : FVec Ideal S1x2048 .f32) = fun j => m (c.tc.loc main_arg1) (mk1 (j 1)) := by
  funext j
  unfold iblk
  rw [View.read_apply]
  show V m c main_v0 _ = _
  rw [V0]
  refine (congrArg (shapeCast S1x2048 (m (c.tc.loc main_arg1)) shapeCasts_S2048_S1x2048) (ext2 (at_zero (index t).2.1.1) (at_zero (index t).2.1.2))).trans ?_
  exact ValueIdx.shapeCast_a_1a_apply _ _ (j 0) (j 1)

/-- The norm of the array. -/
def normed : FVec Ideal S2048x2048 .bf16 := rms 0x45000000#32 (m (c.tc.loc main_arg0) : FVec Ideal S2048x2048 .f32) fun k => m (c.tc.loc main_arg1) (mk1 k)

theorem final2 : (dats m 0 c).arrAt 2 cfg0.N = normed m c := by
  refine (dats m 0 c).arrAt_eq_of_cover 2 _ (fun t _ => ?_) fun i => ?_
  · rw [Value.flushed2, iblk0, iblk1, out2]
    funext j
    rw [View.read_apply]
    have e : ((cfg0.win 2).blk t).view.emb j = mk2 (row t (j 0)) (j 1) := ext2 (at_blk (index t).2.2.1) (at_zero (index t).2.2.2)
    rw [e]
    rfl
  · have h0 : (i 0).val < 2048 := (i 0).isLt
    let t : Fin cfg0.N := ⟨(i 0).val / 256, by rw [show cfg0.N = 8 from N_0]; omega⟩
    refine ⟨t, flush0_2 _, ?_⟩
    show i ∈ ((View.whole main_v1_0).slice (win0_2.rect t)).set
    rw [View.set_slice_whole, Rect.mem_set_unit]
    exact Fin.forall_fin_two.mpr ⟨in_blk (index t).2.2.1 rfl (by decide), in_blk (index t).2.2.2 (Nat.div_eq_of_lt (i 1).isLt).symm (by decide)⟩

end Cert.RmsFKernel

namespace Cert.RmsFClaim

open Cert.Reals Cert.Rowwise

/-- Kernel and reference compute the same norm, of any arguments. -/
theorem value : Cert.algebraic_RmsFwdIdeal_RmsFwdRefIdeal := by
  intro m ρ m' ρ' hpre hagree
  refine ⟨fun c => RmsFKernel.normed m c,
    (θ_run Cert.RmsFwdIdeal.defs _ _).mono (fun r h c => ?_) (Cert.RmsFwdIdeal.Value.run_blocks m ρ),
    (θ_run Cert.RmsFwdRefIdeal.defs _ _).mono (fun r h c => ?_) (Cert.RmsFwdRefIdeal.Value.run m' ρ')⟩
  · obtain ⟨h0, -, hk⟩ := h c
    exact ⟨h0.trans (RmsFKernel.final2 m c), hk⟩
  · obtain ⟨h0, hk⟩ := h c
    obtain ⟨e0, e1⟩ := hagree c
    refine ⟨h0.trans ?_, hk⟩
    rw [e0, e1]
    exact h_rms 0x45000000#32 _ _ _ _ _ _ _ _ _ _

end Cert.RmsFClaim

end
-- ==== Proof.SguClaim.lean ====
/-
  The value claim about the gradient of the gated mixer: that kernel and reference compute the same.
-/
module

public import proofs.«01_k».proof.Defs
public import proofs.«01_k».proof.Proof.SguRef
public import proofs.«01_k».proof.Proof.Gen.Pre_sgu_bwd_finite

@[expose] public section

set_option maxRecDepth 16384

noncomputable section

namespace Cert.SguClaim

open Idealize.ShloMosaic Idealize.ShloMosaic.TcCoe Idealize.SL.Sem Cert.Reals Cert.Norm Cert.SguKernel

/-- The precondition says that the arguments but the mixing bias are finite. -/
theorem finite {m : (ℓ : Loc Cert.SguBwdIdeal.nD Cert.SguBwdIdeal.τ Cert.SguBwdIdeal.sig) → Buf (Elt Ideal) ℓ}
    (h : Cert.Pre_SguBwdIdeal_sgu_bwd_finite m) (c : Dev Cert.SguBwdIdeal.nD) :
    ∃ (P : Mat 2048 3584) (D : Mat 2048 512) (g b : Fin 512 → ℝ) (W : Cube 8 128 128), SguKernel.Args m c P D g b W := by
  have h1 := h c
  unfold Cert.Pre_sgu_bwd_finite.fn Cert.Pre_sgu_bwd_finite.fn_part1 at h1
  obtain ⟨h2, hD⟩ := and_ones h1
  obtain ⟨h3, hW⟩ := and_ones h2
  obtain ⟨h4, hb⟩ := and_ones h3
  obtain ⟨hP, hg⟩ := and_ones h4
  obtain ⟨P, hP⟩ := finite_of_all _ _ _ _ _ _ _ (congrFun hP fun a => a.elim0)
  obtain ⟨g, hg⟩ := finite_of_all _ _ _ _ _ _ _ (congrFun hg fun a => a.elim0)
  obtain ⟨b, hb⟩ := finite_of_all _ _ _ _ _ _ _ (congrFun hb fun a => a.elim0)
  obtain ⟨W, hW⟩ := finite_of_all _ _ _ _ _ _ _ (congrFun hW fun a => a.elim0)
  obtain ⟨D, hD⟩ := finite_of_all _ _ _ _ _ _ _ (congrFun hD fun a => a.elim0)
  exact ⟨P, D, fun k => g (mk1 k), fun k => b (mk1 k), W, hP, hg.trans (congrArg up (funext fun j => congrArg g (eq_mk1 j))),
    hb.trans (congrArg up (funext fun j => congrArg b (eq_mk1 j))), hW, hD⟩

/-- Kernel and reference compute the same five arrays. -/
theorem value : Cert.algebraic_SguBwdIdeal_SguBwdRefIdeal_pre_sgu_bwd_finite := by
  intro m ρ m' ρ' hpre hagree
  refine ⟨fun c => (Cert.SguBwdIdeal.Gen.dats m 0 c).arrAt 7 Cert.SguBwdIdeal.cfg0.N,
    fun c => (Cert.SguBwdIdeal.Gen.dats m 0 c).arrAt 8 Cert.SguBwdIdeal.cfg0.N,
    fun c => (Cert.SguBwdIdeal.Gen.dats m 0 c).arrAt 9 Cert.SguBwdIdeal.cfg0.N,
    fun c => (Cert.SguBwdIdeal.Gen.dats m 0 c).arrAt 10 Cert.SguBwdIdeal.cfg0.N,
    fun c => (Cert.SguBwdIdeal.Gen.dats m 0 c).arrAt 11 Cert.SguBwdIdeal.cfg0.N,
    (θ_run Cert.SguBwdIdeal.defs _ _).mono (fun r h c => ?_) (Cert.SguBwdIdeal.Value.run_blocks m ρ),
    (θ_run Cert.SguBwdRefIdeal.defs _ _).mono (fun r h c => ?_) (Cert.SguBwdRefIdeal.Value.run m' ρ')⟩
  · obtain ⟨h0, h1, h2, h3, h4, -, hk⟩ := h c
    exact ⟨h0, h1, h2, h3, h4, hk⟩
  · obtain ⟨h0, h1, h2, h3, h4, hk⟩ := h c
    obtain ⟨P, D, g, b, W, ha⟩ := finite hpre c
    obtain ⟨e0, e1, e2, e3, e4, e5⟩ := hagree c
    refine ⟨h0.trans ?_, h1.trans ?_, h2.trans ?_, h3.trans ?_, h4.trans ?_, hk⟩
    · refine (Cert.SguBwdRefIdeal.Read.val_main_v87_eq _ _).trans ?_
      rw [e0, e1, e2, e3, e4, e5, ha.hP, ha.hg, ha.hb, ha.hW, ha.hD]
      exact (SguRef.v87 P D g b W _).trans (SguKernel.final7 m c ha).symm
    · refine (Cert.SguBwdRefIdeal.Read.val_main_v53_eq _ _ _ _).trans ?_
      rw [e0, e1, e2, e5, ha.hP, ha.hg, ha.hb, ha.hD]
      exact (SguRef.v53 P D g b).trans (SguKernel.final8 m c ha).symm
    · refine (Cert.SguBwdRefIdeal.Read.val_main_v48_eq _ _).trans ?_
      rw [e0, e5, ha.hP, ha.hD]
      exact (SguRef.v48 P D).trans (SguKernel.final9 m c ha).symm
    · refine (Cert.SguBwdRefIdeal.Read.val_main_v88_eq _ _ _).trans ?_
      rw [e0, e3, e5, ha.hP, ha.hW, ha.hD]
      exact (SguRef.v88 P D W).trans (SguKernel.final10 m c ha).symm
    · refine (Cert.SguBwdRefIdeal.Read.val_main_v89_eq _ _ _).trans ?_
      rw [e0, e3, e5, ha.hP, ha.hW, ha.hD]
      exact (SguRef.v89 P D W).trans (SguKernel.final11 m c ha).symm

end Cert.SguClaim

end
-- ==== Proof.SumClaim.lean ====
/-
  The value claim about the last sum of a gradient's exchange: that the kernel adds the two arrays.
-/
module

public import proofs.«01_k».proof.Defs
public import proofs.«01_k».proof.Proof.Prods
public import proofs.«01_k».proof.Proof.Gen.SumTwoIdeal.Value
public import proofs.«01_k».proof.Proof.Gen.SumTwoRefIdeal.Run

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.SumKernel

open Cert.Reals Cert.SumTwoIdeal Cert.SumTwoIdeal.Gen

/-- The sum. -/
def total (x y : FVec Ideal S1024x2048 .f32) : FVec Ideal S1024x2048 .f32 := addf x y

theorem out2 (x0 : FVec Ideal S512x2048 .f32) (x1 : FVec Ideal S512x2048 .bf16) : out0_2 (F := Ideal) x0 x1 = fun j => HAdd.hAdd (α := EReal) (β := EReal) (γ := EReal) (x0 j) (x1 j) := by
  unfold out0_2
  rw [View.canon_unit_zero hz2, View.ld_unit_zero (S := S512x2048) hz2, View.ld_unit_zero (S := S512x2048) hz2]
  unfold k0_pay1
  simp only [shapeCast_self]
  rfl

variable (m : (ℓ : Loc nD τ sig) → Buf (Elt Ideal) ℓ) (c : Dev nD)

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, _)

/-- Row `p` of point `t`'s block. -/
def row (t : Fin cfg0.N) (p : Fin 512) : Fin 1024 := ⟨512 * t.val + p.val, by have := lt_of_lt_of_eq t.isLt (show cfg0.N = 2 from N_0); have := p.isLt; omega⟩

theorem V0 : V m c main_v0 = fun i => m (c.tc.loc main_arg1) i := by
  show StableHlo.after hostOps0 (fun b => m (c, b)) main_v0 = _
  after_results_simp <;> rfl

theorem iblk0 (t : Fin cfg0.N) : (iblk m c 0 t : FVec Ideal S512x2048 .f32) = fun j => m (c.tc.loc main_arg0) (mk2 (row t (j 0)) (j 1)) := by
  funext j
  unfold iblk
  rw [View.read_apply]
  show V m c main_arg0 _ = _
  rw [V_main_arg0]
  exact congrArg (m (c.tc.loc main_arg0)) (ext2 (at_blk (index t).1.1) (at_zero (index t).1.2))
theorem iblk1 (t : Fin cfg0.N) : (iblk m c 1 t : FVec Ideal S512x2048 .bf16) = fun j => m (c.tc.loc main_arg1) (mk2 (row t (j 0)) (j 1)) := by
  funext j
  unfold iblk
  rw [View.read_apply]
  show V m c main_v0 _ = _
  rw [V0]
  exact congrArg (m (c.tc.loc main_arg1)) (ext2 (at_blk (index t).2.1.1) (at_zero (index t).2.1.2))

/-- The point whose block holds row `p`. -/
def pt (p : Fin 1024) : Fin cfg0.N := ⟨p.val / 512, by rw [show cfg0.N = 2 from N_0]; have := p.isLt; omega⟩

theorem final2 : (dats m 0 c).arrAt 2 cfg0.N = total (m (c.tc.loc main_arg0)) (m (c.tc.loc main_arg1)) := by
  refine (dats m 0 c).arrAt_eq_of_cover 2 _ (fun t _ => ?_) fun i => ⟨pt (i 0), flush0_2 _, ?_⟩
  · rw [Value.flushed2, iblk0, iblk1, out2]
    funext j
    rw [View.read_apply]
    have e : ((cfg0.win 2).blk t).view.emb j = mk2 (row t (j 0)) (j 1) := ext2 (at_blk (index t).2.2.1) (at_zero (index t).2.2.2)
    rw [e]
    rfl
  · show i ∈ ((View.whole main_v1_0).slice (win0_2.rect (pt (i 0)))).set
    rw [View.set_slice_whole, Rect.mem_set_unit]
    exact Fin.forall_fin_two.mpr ⟨in_blk (index (pt (i 0))).2.2.1 rfl (by decide), in_zero (index (pt (i 0))).2.2.2 (i 1).isLt⟩

end Cert.SumKernel

namespace Cert.SumClaim

/-- Kernel and reference compute the same sum, of any arguments. -/
theorem value : Cert.algebraic_SumTwoIdeal_SumTwoRefIdeal := by
  intro m ρ m' ρ' hpre hagree
  refine ⟨fun c => SumKernel.total (m (c.tc.loc Cert.SumTwoIdeal.main_arg0)) (m (c.tc.loc Cert.SumTwoIdeal.main_arg1)),
    (θ_run Cert.SumTwoIdeal.defs _ _).mono (fun r h c => ?_) (Cert.SumTwoIdeal.Value.run_blocks m ρ),
    (θ_run Cert.SumTwoRefIdeal.defs _ _).mono (fun r h c => ?_) (Cert.SumTwoRefIdeal.Value.run m' ρ')⟩
  · obtain ⟨h0, -, hk⟩ := h c
    exact ⟨h0.trans (SumKernel.final2 m c), hk⟩
  · obtain ⟨h0, hk⟩ := h c
    obtain ⟨e0, e1⟩ := hagree c
    refine ⟨h0.trans ?_, hk⟩
    rw [e0, e1]
    rfl

end Cert.SumClaim

end
-- ==== Proof.UpFClaim.lean ====
/-
  The value claim about the rectified product of the forward pass: that kernel and reference compute the same two arrays.
-/
module

public import proofs.«01_k».proof.Defs
public import proofs.«01_k».proof.Proof.Prods
public import proofs.«01_k».proof.Proof.Gen.UpFwdIdeal.Value
public import proofs.«01_k».proof.Proof.Gen.UpFwdRefIdeal.Read

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.UpFKernel

open Cert.Reals Cert.Prods Cert.UpFwdIdeal Cert.UpFwdIdeal.Gen

/-- The product, and the square of its positive part. -/
def prod (h : FVec Ideal S2048x2048 .f32) (w : FVec Ideal S2048x8192 .f32) : FVec Ideal S2048x8192 .bf16 :=
  fun i => ∑ k : Fin 2048, h (mk2 (i 0) k) * w (mk2 k (i 1))
def sq (x : EReal) : EReal := max x (Ideal.ofBits .f32 0x00000000#32) * max x (Ideal.ofBits .f32 0x00000000#32)
def act (h : FVec Ideal S2048x2048 .f32) (w : FVec Ideal S2048x8192 .f32) : FVec Ideal S2048x8192 .bf16 := fun i => sq (prod h w i)

theorem pay1 (x0 : FVec Ideal S1024x2048 .bf16) (x1 : FVec Ideal S1x2048x1024 .bf16) :
    k0_pay1 (F := Ideal) x1 x0 = fun j => ∑ k : Fin 2048, x0 (mk2 (j 0) k) * x1 (mk3 0 k (j 1)) := by
  unfold k0_pay1
  simp only [shapeCast_self]
  refine (k_dot x0 (shapeCast S2048x1024 x1 shapeCasts_S1x2048x1024_S2048x1024)).trans (funext fun j => ?_)
  exact Finset.sum_congr rfl fun k _ => congrArg (_ * ·) (ValueIdx.shapeCast_1ab_ab_apply x1 _ k (j 1))
theorem out2 (x0 : FVec Ideal S1024x2048 .bf16) (x1 : FVec Ideal S1x2048x1024 .bf16) :
    out0_2 (F := Ideal) x0 x1 = fun j => ∑ k : Fin 2048, x0 (mk2 (j 0) k) * x1 (mk3 0 k (j 1)) := by
  unfold out0_2
  rw [View.canon_unit_zero hz2, View.ld_unit_zero (S := S1024x2048) hz2, View.ld_unit_zero (S := S1x2048x1024) hz3]
  unfold k0_pay2
  rw [pay1]
  rfl
theorem out3 (x0 : FVec Ideal S1024x2048 .bf16) (x1 : FVec Ideal S1x2048x1024 .bf16) :
    out0_3 (F := Ideal) x0 x1 = fun j => sq (∑ k : Fin 2048, x0 (mk2 (j 0) k) * x1 (mk3 0 k (j 1))) := by
  unfold out0_3
  rw [View.canon_unit_zero hz2, View.ld_unit_zero (S := S1024x2048) hz2, View.ld_unit_zero (S := S1x2048x1024) hz3]
  unfold k0_pay3
  rw [pay1]
  rfl

variable (m : (ℓ : Loc nD τ sig) → Buf (Elt Ideal) ℓ) (c : Dev nD)

theorem index : ∀ t : Fin cfg0.N, (win0_0.index t 0 = t.val / 8 ∧ win0_0.index t 1 = 0)
    ∧ (win0_1.index t 0 = t.val % 8 / 2 ∧ win0_1.index t 1 = 0 ∧ win0_1.index t 2 = t.val % 2)
    ∧ (win0_2.index t 0 = t.val / 8 ∧ win0_2.index t 1 = t.val % 8) ∧ (win0_3.index t 0 = t.val / 8 ∧ win0_3.index t 1 = t.val % 8) :=
  (by decide +kernel : ∀ t : Fin grid0.N, _)

theorem lt16 (t : Fin cfg0.N) : t.val < 16 := lt_of_lt_of_eq t.isLt (show cfg0.N = 16 from N_0)

/-- Row `p` and column `q` of point `t`'s block. -/
def row (t : Fin cfg0.N) (p : Fin 1024) : Fin 2048 := ⟨1024 * (t.val / 8) + p.val, by have := lt16 t; have := p.isLt; omega⟩
def col (t : Fin cfg0.N) (q : Fin 1024) : Fin 8192 := ⟨1024 * (t.val % 8) + q.val, by have := lt16 t; have := q.isLt; omega⟩

theorem V0 : V m c main_v0 = fun i => m (c.tc.loc main_arg0) i := by
  show StableHlo.after hostOps0 (fun b => m (c, b)) main_v0 = _
  after_results_simp <;> rfl
theorem V3 : V m c main_v3 = transpose S4x2048x2048 [1, 0, 2] (shapeCast S2048x4x2048 (m (c.tc.loc main_arg1)) shapeCasts_S2048x8192_S2048x4x2048)
    transposes_S2048x4x2048_S4x2048x2048_1_0_2 := by
  show StableHlo.after hostOps0 (fun b => m (c, b)) main_v3 = _
  after_results_simp <;> rfl

theorem iblk0 (t : Fin cfg0.N) : (iblk m c 0 t : FVec Ideal S1024x2048 .bf16) = fun j => m (c.tc.loc main_arg0) (mk2 (row t (j 0)) (j 1)) := by
  funext j
  unfold iblk
  rw [View.read_apply]
  show V m c main_v0 _ = _
  rw [V0]
  exact congrArg (m (c.tc.loc main_arg0)) (ext2 (at_blk (index t).1.1) (at_zero (index t).1.2))
theorem iblk1 (t : Fin cfg0.N) : (iblk m c 1 t : FVec Ideal S1x2048x1024 .bf16) = fun j => m (c.tc.loc main_arg1) (mk2 (j 1) (col t (j 2))) := by
  funext j
  unfold iblk
  rw [View.read_apply]
  show V m c main_v3 _ = _
  rw [V3]
  have h0 : (j 0).val = 0 := Nat.lt_one_iff.mp (j 0).isLt
  have h1 : (j 1).val < 2048 := (j 1).isLt
  have h2 : (j 2).val < 1024 := (j 2).isLt
  have := lt16 t
  refine (transpose_apply _ _ _ _ (mk3 (l := 2048) (m := 4) (n := 2048) (j 1) ⟨t.val % 8 / 2, by omega⟩ ⟨1024 * (t.val % 2) + (j 2).val, by omega⟩) fun a => ?_).trans ?_
  · match a with
    | ⟨0, _⟩ =>
      show t.val % 8 / 2 = win0_1.index t 0 * 1 + 1 * (j 0).val
      rw [(index t).2.1.1]; omega
    | ⟨1, _⟩ =>
      show (j 1).val = win0_1.index t 1 * 2048 + 1 * (j 1).val
      rw [(index t).2.1.2.1]; omega
    | ⟨2, _⟩ =>
      show 1024 * (t.val % 2) + (j 2).val = win0_1.index t 2 * 1024 + 1 * (j 2).val
      rw [(index t).2.1.2.2]; omega
  refine shapeCast_apply _ _ _ (mk2 (j 1) (col t (j 2))) ?_
  rw [Shape.rowMajor_val_three, Shape.rowMajor_val_two]
  show (j 1).val * 8192 + (1024 * (t.val % 8) + (j 2).val) = ((j 1).val * 4 + t.val % 8 / 2) * 2048 + (1024 * (t.val % 2) + (j 2).val)
  omega

/-! ## The arrays after the run -/

/-- The point whose block holds entry `(i, j)`. -/
def pt (i : Fin 2048) (j : Fin 8192) : Fin cfg0.N :=
  ⟨8 * (i.val / 1024) + j.val / 1024, by rw [show cfg0.N = 16 from N_0]; have := i.isLt; have := j.isLt; omega⟩
theorem pt_row (i : Fin 2048) (j : Fin 8192) : (pt i j).val / 8 = i.val / 1024 := by
  show (8 * (i.val / 1024) + j.val / 1024) / 8 = _; have := j.isLt; omega
theorem pt_col (i : Fin 2048) (j : Fin 8192) : (pt i j).val % 8 = j.val / 1024 := by
  show (8 * (i.val / 1024) + j.val / 1024) % 8 = _; have := j.isLt; omega

theorem final2 : (dats m 0 c).arrAt 2 cfg0.N = prod (m (c.tc.loc main_arg0)) (m (c.tc.loc main_arg1)) := by
  refine (dats m 0 c).arrAt_eq_of_cover 2 _ (fun t _ => ?_) fun i => ⟨pt (i 0) (i 1), flush0_2 _, ?_⟩
  · rw [Value.flushed2, iblk0, iblk1, out2]
    funext j
    rw [View.read_apply]
    have e : ((cfg0.win 2).blk t).view.emb j = mk2 (row t (j 0)) (col t (j 1)) := ext2 (at_blk (index t).2.2.1.1) (at_blk (index t).2.2.1.2)
    rw [e]
    rfl
  · show i ∈ ((View.whole main_v4_0).slice (win0_2.rect (pt (i 0) (i 1)))).set
    rw [View.set_slice_whole, Rect.mem_set_unit]
    exact Fin.forall_fin_two.mpr ⟨in_blk (index (pt (i 0) (i 1))).2.2.1.1 (pt_row _ _) (by decide), in_blk (index (pt (i 0) (i 1))).2.2.1.2 (pt_col _ _) (by decide)⟩
theorem final3 : (dats m 0 c).arrAt 3 cfg0.N = act (m (c.tc.loc main_arg0)) (m (c.tc.loc main_arg1)) := by
  refine (dats m 0 c).arrAt_eq_of_cover 3 _ (fun t _ => ?_) fun i => ⟨pt (i 0) (i 1), flush0_3 _, ?_⟩
  · rw [Value.flushed3, iblk0, iblk1, out3]
    funext j
    rw [View.read_apply]
    have e : ((cfg0.win 3).blk t).view.emb j = mk2 (row t (j 0)) (col t (j 1)) := ext2 (at_blk (index t).2.2.2.1) (at_blk (index t).2.2.2.2)
    rw [e]
    rfl
  · show i ∈ ((View.whole main_v4_1).slice (win0_3.rect (pt (i 0) (i 1)))).set
    rw [View.set_slice_whole, Rect.mem_set_unit]
    exact Fin.forall_fin_two.mpr ⟨in_blk (index (pt (i 0) (i 1))).2.2.2.1 (pt_row _ _) (by decide), in_blk (index (pt (i 0) (i 1))).2.2.2.2 (pt_col _ _) (by decide)⟩

end Cert.UpFKernel

namespace Cert.UpFClaim

open Cert.Reals Cert.Prods

/-- Kernel and reference compute the same product and the same activation, of any arguments. -/
theorem value : Cert.algebraic_UpFwdIdeal_UpFwdRefIdeal := by
  intro m ρ m' ρ' hpre hagree
  refine ⟨fun c => UpFKernel.prod (m (c.tc.loc Cert.UpFwdIdeal.main_arg0)) (m (c.tc.loc Cert.UpFwdIdeal.main_arg1)),
    fun c => UpFKernel.act (m (c.tc.loc Cert.UpFwdIdeal.main_arg0)) (m (c.tc.loc Cert.UpFwdIdeal.main_arg1)),
    (θ_run Cert.UpFwdIdeal.defs _ _).mono (fun r h c => ?_) (Cert.UpFwdIdeal.Value.run_blocks m ρ),
    (θ_run Cert.UpFwdRefIdeal.defs _ _).mono (fun r h c => ?_) (Cert.UpFwdRefIdeal.Value.run m' ρ')⟩
  · obtain ⟨h0, h1, -, hk⟩ := h c
    exact ⟨h0.trans (UpFKernel.final2 m c), h1.trans (UpFKernel.final3 m c), hk⟩
  · obtain ⟨h0, h1, hk⟩ := h c
    obtain ⟨e0, e1⟩ := hagree c
    refine ⟨h0.trans ?_, h1.trans ?_, hk⟩
    · rw [e0, e1]
      exact h_dot (M := 2048) (K := 2048) (N := 8192) _ _
    · rw [e0, e1]
      exact congrArg (fun (v : FVec Ideal Cert.UpFwdIdeal.S2048x8192 .bf16) => fun i => UpFKernel.sq (v i)) (h_dot (M := 2048) (K := 2048) (N := 8192) (φ₁ := .f32) (φ₂ := .f32) _ _)

end Cert.UpFClaim

end
-- ==== Proof.WGradClaim.lean ====
/-
  The value claim about a weight's gradient: that kernel and reference compute the same product.
-/
module

public import proofs.«01_k».proof.Defs
public import proofs.«01_k».proof.Proof.Prods
public import proofs.«01_k».proof.Proof.Gen.WGradIdeal.Value
public import proofs.«01_k».proof.Proof.Gen.WGradRefIdeal.Read
public import Idealize.ShloMosaic.Lib.Pointwise.Contract

@[expose] public section

set_option maxRecDepth 16384
set_option backward.isDefEq.respectTransparency.types false

noncomputable section

open Idealize.ShloMosaic Idealize.ShloMosaic.TcCoe Idealize.SL.Sem
open Idealize.ShloMosaic.Pipeline (Dat)

namespace Cert.WGradKernel

open Cert.Reals Cert.Prods Cert.WGradIdeal Cert.WGradIdeal.Gen

/-- The transpose of `x` times `y`. -/
theorem k_dotL {M K N : ℕ} {φ₁ φ₂ : FTy} (wf) (x : FVec Ideal ⟨2, ![K, M]⟩ φ₁) (y : FVec Ideal ⟨2, ![K, N]⟩ φ₂) :
    matmul (⟨[0], [0], [1], [1], [], [], wf⟩ : DotDims ⟨2, ![K, M]⟩ ⟨2, ![K, N]⟩ ⟨2, ![M, N]⟩) none x y (constant ⟨2, ![M, N]⟩ .f32 0x00000000#32)
      = fun j => ∑ k : Fin K, x (mk2 k (j 0)) * y (mk2 k (j 1)) := by
  funext j
  refine (Ideal.matmul_constant_zero_apply _ none _ _ j).trans ?_
  rw [(⟨[0], [0], [1], [1], [], [], wf⟩ : DotDims ⟨2, ![K, M]⟩ ⟨2, ![K, N]⟩ ⟨2, ![M, N]⟩).sum_contr₁ rfl (K := K) rfl]
  exact Finset.sum_congr rfl fun k _ => congrArg₂ (· * ·) (congrArg x (ext2 rfl rfl)) (congrArg y (ext2 rfl rfl))

/-- Row `p` of quarter `a`. -/
def rowOf (a : Fin 4) (p : Fin 2048) : Fin 8192 := ⟨2048 * a.val + p.val, by have := a.isLt; have := p.isLt; omega⟩
/-- The gradient: the transpose of the activations times the gradient of the output, in four blocks of rows. -/
def grad (x : FVec Ideal S2048x8192 .f32) (y : FVec Ideal S2048x2048 .f32) : FVec Ideal S4x2048x2048 .bf16 :=
  fun i => ∑ k : Fin 2048, x (mk2 k (rowOf (i 0) (i 1))) * y (mk2 k (i 2))

theorem out2 (x0 : FVec Ideal S2048x512 .bf16) (x1 : FVec Ideal S2048x2048 .bf16) :
    out0_2 (F := Ideal) x0 x1 = fun j => ∑ k : Fin 2048, x0 (mk2 k (j 1)) * x1 (mk2 k (j 2)) := by
  unfold out0_2
  rw [View.canon_unit_zero hz3, View.ld_unit_zero (S := S2048x512) hz2, View.ld_unit_zero (S := S2048x2048) hz2]
  unfold k0_pay1
  simp only [shapeCast_self]
  funext j
  have h0 : (j 0).val = 0 := Nat.lt_one_iff.mp (j 0).isLt
  refine (shapeCast_apply _ _ _ (mk2 (j 1) (j 2)) ?_).trans (congrFun (k_dotL _ x0 x1) (mk2 (j 1) (j 2)))
  rw [Shape.rowMajor_val_three, Shape.rowMajor_val_two]
  show (j 1).val * 2048 + (j 2).val = ((j 0).val * 512 + (j 1).val) * 2048 + (j 2).val
  rw [h0]; omega

variable (m : (ℓ : Loc nD τ sig) → Buf (Elt Ideal) ℓ) (c : Dev nD)

theorem index : ∀ t : Fin cfg0.N, (win0_0.index t 0 = 0 ∧ win0_0.index t 1 = t.val) ∧ (win0_1.index t 0 = 0 ∧ win0_1.index t 1 = 0)
    ∧ (win0_2.index t 0 = t.val / 4 ∧ win0_2.index t 1 = t.val % 4 ∧ win0_2.index t 2 = 0) :=
  (by decide +kernel : ∀ t : Fin grid0.N, _)

theorem lt16 (t : Fin cfg0.N) : t.val < 16 := lt_of_lt_of_eq t.isLt (show cfg0.N = 16 from N_0)

/-- Row `p` of point `t`'s block. -/
def row (t : Fin cfg0.N) (p : Fin 512) : Fin 8192 := ⟨512 * t.val + p.val, by have := lt16 t; have := p.isLt; omega⟩

theorem V0 : V m c main_v0 = fun i => m (c.tc.loc main_arg0) i := by
  show StableHlo.after hostOps0 (fun b => m (c, b)) main_v0 = _
  after_results_simp <;> rfl
theorem V1 : V m c main_v1 = fun i => m (c.tc.loc main_arg1) i := by
  show StableHlo.after hostOps0 (fun b => m (c, b)) main_v1 = _
  after_results_simp <;> rfl

theorem iblk0 (t : Fin cfg0.N) : (iblk m c 0 t : FVec Ideal S2048x512 .bf16) = fun j => m (c.tc.loc main_arg0) (mk2 (j 0) (row t (j 1))) := by
  funext j
  unfold iblk
  rw [View.read_apply]
  show V m c main_v0 _ = _
  rw [V0]
  exact congrArg (m (c.tc.loc main_arg0)) (ext2 (at_zero (index t).1.1) (at_blk (index t).1.2))
theorem iblk1 (t : Fin cfg0.N) : (iblk m c 1 t : FVec Ideal S2048x2048 .bf16) = fun j => m (c.tc.loc main_arg1) (mk2 (j 0) (j 1)) := by
  funext j
  unfold iblk
  rw [View.read_apply]
  show V m c main_v1 _ = _
  rw [V1]
  exact congrArg (m (c.tc.loc main_arg1)) (ext2 (at_zero (index t).2.1.1) (at_zero (index t).2.1.2))

/-- The point whose block holds row `p` of quarter `a`. -/
def pt (a : Fin 4) (p : Fin 2048) : Fin cfg0.N :=
  ⟨4 * a.val + p.val / 512, by rw [show cfg0.N = 16 from N_0]; have := a.isLt; have := p.isLt; omega⟩

theorem final2 : (dats m 0 c).arrAt 2 cfg0.N = grad (m (c.tc.loc main_arg0)) (m (c.tc.loc main_arg1)) := by
  refine (dats m 0 c).arrAt_eq_of_cover 2 _ (fun t _ => ?_) fun i => ⟨pt (i 0) (i 1), flush0_2 _, ?_⟩
  · rw [Value.flushed2, iblk0, iblk1, out2]
    funext j
    rw [View.read_apply]
    have ht := lt16 t
    have h0 : (j 0).val = 0 := Nat.lt_one_iff.mp (j 0).isLt
    have h1 : (j 1).val < 512 := (j 1).isLt
    have e : ((cfg0.win 2).blk t).view.emb j = mk3 (l := 4) (m := 2048) (n := 2048) ⟨t.val / 4, by omega⟩ ⟨512 * (t.val % 4) + (j 1).val, by omega⟩ (j 2) := by
      refine ext3 ?_ (at_blk (index t).2.2.2.1) (at_zero (index t).2.2.2.2)
      show win0_2.index t 0 * 1 + 1 * (j 0).val = t.val / 4
      rw [(index t).2.2.1, h0]; omega
    rw [e]
    refine Finset.sum_congr rfl fun k _ => congrArg (fun r : Fin 8192 => HMul.hMul (α := EReal) (β := EReal) (γ := EReal) (m (c.tc.loc main_arg0) (mk2 k r)) (m (c.tc.loc main_arg1) (mk2 k (j 2)))) (Fin.ext ?_)
    show 512 * t.val + (j 1).val = 2048 * (t.val / 4) + (512 * (t.val % 4) + (j 1).val)
    omega
  · show i ∈ ((View.whole main_v2_0).slice (win0_2.rect (pt (i 0) (i 1)))).set
    rw [View.set_slice_whole, Rect.mem_set_unit]
    have h1 : (i 1).val < 2048 := (i 1).isLt
    have h2 : (i 2).val < 2048 := (i 2).isLt
    have hp : (pt (i 0) (i 1)).val = 4 * (i 0).val + (i 1).val / 512 := rfl
    have f0 : win0_2.index (pt (i 0) (i 1)) 0 * 1 ≤ (i 0).val ∧ (i 0).val < win0_2.index (pt (i 0) (i 1)) 0 * 1 + 1 := by
      rw [(index (pt (i 0) (i 1))).2.2.1, hp]; omega
    have f1 : win0_2.index (pt (i 0) (i 1)) 1 * 512 ≤ (i 1).val ∧ (i 1).val < win0_2.index (pt (i 0) (i 1)) 1 * 512 + 512 := by
      rw [(index (pt (i 0) (i 1))).2.2.2.1, hp]; omega
    intro a
    match a with
    | ⟨0, _⟩ => exact f0
    | ⟨1, _⟩ => exact f1
    | ⟨2, _⟩ => exact in_zero (index (pt (i 0) (i 1))).2.2.2.2 h2

end Cert.WGradKernel

namespace Cert.WGradClaim

open Cert.Reals Cert.Prods Cert.WGradRefIdeal Cert.WGradRefIdeal.Gen Cert.WGradRefIdeal.Read

theorem ref (x : FVec Ideal S2048x8192 .f32) (y : FVec Ideal S2048x2048 .f32) : val_main_v5 (F := Ideal) x y = WGradKernel.grad x y := by
  funext i
  have h2 : (i 2).val < 2048 := (i 2).isLt
  unfold val_main_v5 val_main_v4
  show shapeCast S4x2048x2048 (val_main_v3 (F := Ideal) x y) shapeCasts_S8192x2048_S4x2048x2048 i = _
  refine (shapeCast_apply _ _ i (mk2 (WGradKernel.rowOf (i 0) (i 1)) (i 2)) ?_).trans ?_
  · rw [Shape.rowMajor_val_three, Shape.rowMajor_val_two]
    show (2048 * (i 0).val + (i 1).val) * 2048 + (i 2).val = ((i 0).val * 2048 + (i 1).val) * 2048 + (i 2).val
    omega
  unfold val_main_v3
  refine (transpose_apply _ _ _ _ (mk2 (i 2) (WGradKernel.rowOf (i 0) (i 1))) fun a => by match a with | ⟨0, _⟩ => rfl | ⟨1, _⟩ => rfl).trans ?_
  unfold val_main_v2
  refine (congrFun ((host_eq _ y x).trans (WGradKernel.k_dotL _ y x)) _).trans (Finset.sum_congr rfl fun k _ => mul_comm _ _)

/-- Kernel and reference compute the same array, of any arguments. -/
theorem value : Cert.algebraic_WGradIdeal_WGradRefIdeal := by
  intro m ρ m' ρ' hpre hagree
  refine ⟨fun c => WGradKernel.grad (m (c.tc.loc Cert.WGradIdeal.main_arg0)) (m (c.tc.loc Cert.WGradIdeal.main_arg1)),
    (θ_run Cert.WGradIdeal.defs _ _).mono (fun r h c => ?_) (Cert.WGradIdeal.Value.run_blocks m ρ),
    (θ_run Cert.WGradRefIdeal.defs _ _).mono (fun r h c => ?_) (Cert.WGradRefIdeal.Value.run m' ρ')⟩
  · obtain ⟨h0, -, hk⟩ := h c
    exact ⟨h0.trans (WGradKernel.final2 m c), hk⟩
  · obtain ⟨h0, hk⟩ := h c
    obtain ⟨e0, e1⟩ := hagree c
    refine ⟨h0.trans ((Cert.WGradRefIdeal.Read.val_main_v5_eq _ _).trans ?_), hk⟩
    rw [e0, e1]
    exact ref _ _

end Cert.WGradClaim

end
-- ==== Proof.lean ====
/-
  The certificate: the frames of every program, that each idealized program is its kernel over the extended reals,
  and the value claims.
-/
module

public import proofs.«01_k».proof.Defs
public import proofs.«01_k».proof.Proof.Gen.RmsBwd
public import proofs.«01_k».proof.Proof.Gen.RmsBwdIdeal
public import proofs.«01_k».proof.Proof.Gen.RmsBwdRefIdeal
public import proofs.«01_k».proof.Proof.Gen.MixBwd
public import proofs.«01_k».proof.Proof.Gen.MixBwdIdeal
public import proofs.«01_k».proof.Proof.Gen.MixBwdRefIdeal
public import proofs.«01_k».proof.Proof.Gen.DupBwd
public import proofs.«01_k».proof.Proof.Gen.DupBwdIdeal
public import proofs.«01_k».proof.Proof.Gen.DupBwdRefIdeal
public import proofs.«01_k».proof.Proof.Gen.SguBwd
public import proofs.«01_k».proof.Proof.Gen.SguBwdIdeal
public import proofs.«01_k».proof.Proof.Gen.SguBwdRefIdeal
public import proofs.«01_k».proof.Proof.Gen.ConvBwdB
public import proofs.«01_k».proof.Proof.Gen.ConvBwdBIdeal
public import proofs.«01_k».proof.Proof.Gen.ConvBwdBRefIdeal
public import proofs.«01_k».proof.Proof.Gen.ConvBwdA
public import proofs.«01_k».proof.Proof.Gen.ConvBwdAIdeal
public import proofs.«01_k».proof.Proof.Gen.ConvBwdARefIdeal
public import proofs.«01_k».proof.Proof.Gen.KvBwd
public import proofs.«01_k».proof.Proof.Gen.KvBwdIdeal
public import proofs.«01_k».proof.Proof.Gen.KvBwdRefIdeal
public import proofs.«01_k».proof.Proof.Gen.Loss
public import proofs.«01_k».proof.Proof.Gen.LossIdeal
public import proofs.«01_k».proof.Proof.Gen.LossRefIdeal
public import proofs.«01_k».proof.Proof.Gen.AttnBwd
public import proofs.«01_k».proof.Proof.Gen.AttnBwdIdeal
public import proofs.«01_k».proof.Proof.Gen.AttnBwdRefIdeal
public import proofs.«01_k».proof.Proof.Gen.RmsFwd
public import proofs.«01_k».proof.Proof.Gen.RmsFwdIdeal
public import proofs.«01_k».proof.Proof.Gen.RmsFwdRefIdeal
public import proofs.«01_k».proof.Proof.Gen.MixFwd
public import proofs.«01_k».proof.Proof.Gen.MixFwdIdeal
public import proofs.«01_k».proof.Proof.Gen.MixFwdRefIdeal
public import proofs.«01_k».proof.Proof.Gen.UpFwd
public import proofs.«01_k».proof.Proof.Gen.UpFwdIdeal
public import proofs.«01_k».proof.Proof.Gen.UpFwdRefIdeal
public import proofs.«01_k».proof.Proof.Gen.OutFwd
public import proofs.«01_k».proof.Proof.Gen.OutFwdIdeal
public import proofs.«01_k».proof.Proof.Gen.OutFwdRefIdeal
public import proofs.«01_k».proof.Proof.Gen.AttnFwd
public import proofs.«01_k».proof.Proof.Gen.AttnFwdIdeal
public import proofs.«01_k».proof.Proof.Gen.AttnFwdRefIdeal
public import proofs.«01_k».proof.Proof.Gen.SguFwd
public import proofs.«01_k».proof.Proof.Gen.SguFwdIdeal
public import proofs.«01_k».proof.Proof.Gen.SguFwdRefIdeal
public import proofs.«01_k».proof.Proof.Gen.ConvFwd
public import proofs.«01_k».proof.Proof.Gen.ConvFwdIdeal
public import proofs.«01_k».proof.Proof.Gen.ConvFwdRefIdeal
public import proofs.«01_k».proof.Proof.Gen.WGrad
public import proofs.«01_k».proof.Proof.Gen.WGradIdeal
public import proofs.«01_k».proof.Proof.Gen.WGradRefIdeal
public import proofs.«01_k».proof.Proof.Gen.Adam
public import proofs.«01_k».proof.Proof.Gen.AdamIdeal
public import proofs.«01_k».proof.Proof.Gen.AdamRefIdeal
public import proofs.«01_k».proof.Proof.Gen.SumTwo
public import proofs.«01_k».proof.Proof.Gen.SumTwoIdeal
public import proofs.«01_k».proof.Proof.Gen.SumTwoRefIdeal
public import proofs.«01_k».proof.Proof.Gen.DhBwd
public import proofs.«01_k».proof.Proof.Gen.DhBwdIdeal
public import proofs.«01_k».proof.Proof.Gen.DhBwdRefIdeal
public import proofs.«01_k».proof.Proof.Gen.Pre_rms_bwd_finite
public import proofs.«01_k».proof.Proof.Gen.Pre_mixnorm_bwd_finite
public import proofs.«01_k».proof.Proof.Gen.Pre_sgu_bwd_finite
public import proofs.«01_k».proof.Proof.Gen.Pre_conv_bwd2_finite
public import proofs.«01_k».proof.Proof.Gen.Pre_conv_bwd1_finite
public import proofs.«01_k».proof.Proof.Gen.Pre_attn_kv_finite
public import proofs.«01_k».proof.Proof.Gen.Pre_attn_bwd_finite
public import proofs.«01_k».proof.Proof.Gen.Pre_attn_fwd_finite
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.MixBwdIdeal.Value
public import proofs.«01_k».proof.Proof.Gen.MixBwdRefIdeal.Run
public import proofs.«01_k».proof.Proof.Gen.MixBwdRefIdeal.Read
public import proofs.«01_k».proof.Proof.Gen.DupBwdIdeal.Value
public import proofs.«01_k».proof.Proof.Gen.DupBwdRefIdeal.Run
public import proofs.«01_k».proof.Proof.Gen.DupBwdRefIdeal.Read
public import proofs.«01_k».proof.Proof.Gen.SguBwdIdeal.Value
public import proofs.«01_k».proof.Proof.Gen.SguBwdRefIdeal.Run
public import proofs.«01_k».proof.Proof.Gen.SguBwdRefIdeal.Read
public import proofs.«01_k».proof.Proof.Gen.ConvBwdBIdeal.Value
public import proofs.«01_k».proof.Proof.Gen.ConvBwdBRefIdeal.Run
public import proofs.«01_k».proof.Proof.Gen.ConvBwdBRefIdeal.Read
public import proofs.«01_k».proof.Proof.Gen.ConvBwdAIdeal.Value
public import proofs.«01_k».proof.Proof.Gen.ConvBwdARefIdeal.Run
public import proofs.«01_k».proof.Proof.Gen.ConvBwdARefIdeal.Read
public import proofs.«01_k».proof.Proof.Gen.KvBwdIdeal.Value
public import proofs.«01_k».proof.Proof.Gen.KvBwdRefIdeal.Run
public import proofs.«01_k».proof.Proof.Gen.KvBwdRefIdeal.Read
public import proofs.«01_k».proof.Proof.Gen.LossRefIdeal.Run
public import proofs.«01_k».proof.Proof.Gen.LossRefIdeal.Read
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.Gen.UpFwdIdeal.Value
public import proofs.«01_k».proof.Proof.Gen.UpFwdRefIdeal.Run
public import proofs.«01_k».proof.Proof.Gen.UpFwdRefIdeal.Read
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.AttnFwdRefIdeal.Run
public import proofs.«01_k».proof.Proof.Gen.AttnFwdRefIdeal.Read
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.WGradIdeal.Value
public import proofs.«01_k».proof.Proof.Gen.WGradRefIdeal.Run
public import proofs.«01_k».proof.Proof.Gen.WGradRefIdeal.Read
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.SumTwoIdeal.Value
public import proofs.«01_k».proof.Proof.Gen.SumTwoRefIdeal.Run
public import proofs.«01_k».proof.Proof.Gen.SumTwoRefIdeal.Read
public import proofs.«01_k».proof.Proof.Gen.DhBwdIdeal.Value
public import proofs.«01_k».proof.Proof.Gen.DhBwdRefIdeal.Run
public import proofs.«01_k».proof.Proof.Gen.DhBwdRefIdeal.Read
public import proofs.«01_k».proof.Proof.Frames
public import proofs.«01_k».proof.Proof.AdamClaim
public import proofs.«01_k».proof.Proof.AttnClaim
public import proofs.«01_k».proof.Proof.AttnFClaim
public import proofs.«01_k».proof.Proof.ConvAClaim
public import proofs.«01_k».proof.Proof.ConvBClaim
public import proofs.«01_k».proof.Proof.ConvFClaim
public import proofs.«01_k».proof.Proof.DhClaim
public import proofs.«01_k».proof.Proof.DupClaim
public import proofs.«01_k».proof.Proof.KvClaim
public import proofs.«01_k».proof.Proof.LossClaim
public import proofs.«01_k».proof.Proof.MixClaim
public import proofs.«01_k».proof.Proof.MixFClaim
public import proofs.«01_k».proof.Proof.OutFClaim
public import proofs.«01_k».proof.Proof.RmsClaim
public import proofs.«01_k».proof.Proof.RmsFClaim
public import proofs.«01_k».proof.Proof.SguClaim
public import proofs.«01_k».proof.Proof.SguFClaim
public import proofs.«01_k».proof.Proof.SumClaim
public import proofs.«01_k».proof.Proof.UpFClaim
public import proofs.«01_k».proof.Proof.WGradClaim
public import Idealize.ShloMosaic.Adequacy
public import Idealize.ShloMosaic.Init

@[expose] public section

noncomputable section

namespace Cert.Proof

open Idealize.ShloMosaic Idealize.SL.Sem

/-- Every claim, with the facts that the programs state. -/
theorem claim : Cert.Claim := ⟨Cert.RmsBwd.Gen.facts, Cert.RmsBwdIdeal.Gen.facts, Cert.RmsBwdRefIdeal.Gen.facts, Cert.MixBwd.Gen.facts, Cert.MixBwdIdeal.Gen.facts, Cert.MixBwdRefIdeal.Gen.facts, Cert.DupBwd.Gen.facts, Cert.DupBwdIdeal.Gen.facts, Cert.DupBwdRefIdeal.Gen.facts, Cert.SguBwd.Gen.facts, Cert.SguBwdIdeal.Gen.facts, Cert.SguBwdRefIdeal.Gen.facts, Cert.ConvBwdB.Gen.facts, Cert.ConvBwdBIdeal.Gen.facts, Cert.ConvBwdBRefIdeal.Gen.facts, Cert.ConvBwdA.Gen.facts, Cert.ConvBwdAIdeal.Gen.facts, Cert.ConvBwdARefIdeal.Gen.facts, Cert.KvBwd.Gen.facts, Cert.KvBwdIdeal.Gen.facts, Cert.KvBwdRefIdeal.Gen.facts, Cert.Loss.Gen.facts, Cert.LossIdeal.Gen.facts, Cert.LossRefIdeal.Gen.facts, Cert.AttnBwd.Gen.facts, Cert.AttnBwdIdeal.Gen.facts, Cert.AttnBwdRefIdeal.Gen.facts, Cert.RmsFwd.Gen.facts, Cert.RmsFwdIdeal.Gen.facts, Cert.RmsFwdRefIdeal.Gen.facts, Cert.MixFwd.Gen.facts, Cert.MixFwdIdeal.Gen.facts, Cert.MixFwdRefIdeal.Gen.facts, Cert.UpFwd.Gen.facts, Cert.UpFwdIdeal.Gen.facts, Cert.UpFwdRefIdeal.Gen.facts, Cert.OutFwd.Gen.facts, Cert.OutFwdIdeal.Gen.facts, Cert.OutFwdRefIdeal.Gen.facts, Cert.AttnFwd.Gen.facts, Cert.AttnFwdIdeal.Gen.facts, Cert.AttnFwdRefIdeal.Gen.facts, Cert.SguFwd.Gen.facts, Cert.SguFwdIdeal.Gen.facts, Cert.SguFwdRefIdeal.Gen.facts, Cert.ConvFwd.Gen.facts, Cert.ConvFwdIdeal.Gen.facts, Cert.ConvFwdRefIdeal.Gen.facts, Cert.WGrad.Gen.facts, Cert.WGradIdeal.Gen.facts, Cert.WGradRefIdeal.Gen.facts, Cert.Adam.Gen.facts, Cert.AdamIdeal.Gen.facts, Cert.AdamRefIdeal.Gen.facts, Cert.SumTwo.Gen.facts, Cert.SumTwoIdeal.Gen.facts, Cert.SumTwoRefIdeal.Gen.facts, Cert.DhBwd.Gen.facts, Cert.DhBwdIdeal.Gen.facts, Cert.DhBwdRefIdeal.Gen.facts, Cert.Pre_rms_bwd_finite.Gen.facts, Cert.Pre_mixnorm_bwd_finite.Gen.facts, Cert.Pre_sgu_bwd_finite.Gen.facts, Cert.Pre_conv_bwd2_finite.Gen.facts, Cert.Pre_conv_bwd1_finite.Gen.facts, Cert.Pre_attn_kv_finite.Gen.facts, Cert.Pre_attn_bwd_finite.Gen.facts, Cert.Pre_attn_fwd_finite.Gen.facts,
  Frames.rms_kernel,
  Frames.rms_ideal,
  fun m ρ _ => Frames.rms_ideal m ρ trivial,
  Frames.rms_ref,
  fun m ρ _ => Frames.rms_ref m ρ trivial,
  Frames.mix_kernel,
  Frames.mix_ideal,
  fun m ρ _ => Frames.mix_ideal m ρ trivial,
  Frames.mix_ref,
  fun m ρ _ => Frames.mix_ref m ρ trivial,
  Frames.dup_kernel,
  Frames.dup_ideal,
  Frames.dup_ref,
  Frames.sgu_kernel,
  Frames.sgu_ideal,
  fun m ρ _ => Frames.sgu_ideal m ρ trivial,
  Frames.sgu_ref,
  fun m ρ _ => Frames.sgu_ref m ρ trivial,
  Frames.convB_kernel,
  Frames.convB_ideal,
  fun m ρ _ => Frames.convB_ideal m ρ trivial,
  Frames.convB_ref,
  fun m ρ _ => Frames.convB_ref m ρ trivial,
  Frames.convA_kernel,
  Frames.convA_ideal,
  fun m ρ _ => Frames.convA_ideal m ρ trivial,
  Frames.convA_ref,
  fun m ρ _ => Frames.convA_ref m ρ trivial,
  Frames.kv_kernel,
  Frames.kv_ideal,
  fun m ρ _ => Frames.kv_ideal m ρ trivial,
  Frames.kv_ref,
  fun m ρ _ => Frames.kv_ref m ρ trivial,
  Frames.loss_kernel,
  Frames.loss_ideal,
  Frames.loss_ref,
  Frames.attn_kernel,
  Frames.attn_ideal,
  fun m ρ _ => Frames.attn_ideal m ρ trivial,
  Frames.attn_ref,
  fun m ρ _ => Frames.attn_ref m ρ trivial,
  Frames.rmsF_kernel,
  Frames.rmsF_ideal,
  Frames.rmsF_ref,
  Frames.mixF_kernel,
  Frames.mixF_ideal,
  Frames.mixF_ref,
  Frames.upF_kernel,
  Frames.upF_ideal,
  Frames.upF_ref,
  Frames.outF_kernel,
  Frames.outF_ideal,
  Frames.outF_ref,
  Frames.attnF_kernel,
  Frames.attnF_ideal,
  fun m ρ _ => Frames.attnF_ideal m ρ trivial,
  Frames.attnF_ref,
  fun m ρ _ => Frames.attnF_ref m ρ trivial,
  Frames.sguF_kernel,
  Frames.sguF_ideal,
  Frames.sguF_ref,
  Frames.convF_kernel,
  Frames.convF_ideal,
  Frames.convF_ref,
  Frames.wGrad_kernel,
  Frames.wGrad_ideal,
  Frames.wGrad_ref,
  Frames.adam_kernel,
  Frames.adam_ideal,
  Frames.adam_ref,
  Frames.sum_kernel,
  Frames.sum_ideal,
  Frames.sum_ref,
  Frames.dh_kernel,
  Frames.dh_ideal,
  Frames.dh_ref,
  trivial,
  RmsClaim.value,
  trivial,
  MixClaim.value,
  trivial,
  DupClaim.value,
  trivial,
  SguClaim.value,
  trivial,
  ConvBClaim.value,
  trivial,
  ConvAClaim.value,
  trivial,
  KvClaim.value,
  trivial,
  LossClaim.value,
  IdealRules.named_const.statement Cert.AttnBwdIdeal.κ "mask" .f32 0xF149F2CA#32 ⊥ rfl,
  AttnClaim.value,
  trivial,
  RmsFClaim.value,
  trivial,
  MixFClaim.value,
  trivial,
  UpFClaim.value,
  trivial,
  OutFClaim.value,
  IdealRules.named_const.statement Cert.AttnFwdIdeal.κ "mask" .f32 0xF149F2CA#32 ⊥ rfl,
  AttnFClaim.value,
  trivial,
  SguFClaim.value,
  trivial,
  ConvFClaim.value,
  trivial,
  WGradClaim.value,
  trivial,
  AdamClaim.value,
  trivial,
  SumClaim.value,
  trivial,
  DhClaim.value⟩

end Cert.Proof

end
